-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdIdeal_merge_finite [hPre_merge_finite : Cert.Pre_merge_finite.Facts] (m : (ℓ : Loc Cert.MergeBwdIdeal.nD Cert.MergeBwdIdeal.τ Cert.MergeBwdIdeal.sig) → Buf (Elt Ideal) ℓ) : Prop :=
  ∀ c : Dev Cert.MergeBwdIdeal.nD,
    (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))).1 = (fun _ => 1#1)
    ∧ (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))).2.1 = (fun _ => 1#1)
    ∧ (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))).2.2.1 = (fun _ => 1#1)
    ∧ (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))).2.2.2.1 = (fun _ => 1#1)
    ∧ (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))).2.2.2.2.1 = (fun _ => 1#1)
    ∧ (Cert.Pre_merge_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))).2.2.2.2.2 = (fun _ => 1#1)

def Pre_MergeBwdRefIdeal (m : (ℓ : Loc Cert.MergeBwdRefIdeal.nD Cert.MergeBwdRefIdeal.τ Cert.MergeBwdRefIdeal.sig) → Buf (Elt Ideal) ℓ) : Prop :=
  True

def Pre_MergeBwdRefIdeal_merge_finite [hPre_merge_finite : Cert.Pre_merge_finite.Facts] (m : (ℓ : Loc Cert.MergeBwdRefIdeal.nD Cert.MergeBwdRefIdeal.τ Cert.MergeBwdRefIdeal.sig) → Buf (Elt Ideal) ℓ) : Prop :=
  ∀ c : Dev Cert.MergeBwdRefIdeal.nD,
    (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))).1 = (fun _ => 1#1)
    ∧ (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))).2.1 = (fun _ => 1#1)
    ∧ (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))).2.2.1 = (fun _ => 1#1)
    ∧ (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))).2.2.2.1 = (fun _ => 1#1)
    ∧ (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))).2.2.2.2.1 = (fun _ => 1#1)
    ∧ (Cert.Pre_merge_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))).2.2.2.2.2 = (fun _ => 1#1)

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MlaProjBwd (m : (ℓ : Loc Cert.MlaProjBwd.nD Cert.MlaProjBwd.τ Cert.MlaProjBwd.sig) → Buf (Elt Bits) ℓ) : Prop :=
  True

def Pre_MlaProjBwdIdeal (m : (ℓ : Loc Cert.MlaProjBwdIdeal.nD Cert.MlaProjBwdIdeal.τ Cert.MlaProjBwdIdeal.sig) → Buf (Elt Ideal) ℓ) : Prop :=
  True

def Pre_MlaProjBwdRefIdeal (m : (ℓ : Loc Cert.MlaProjBwdRefIdeal.nD Cert.MlaProjBwdRefIdeal.τ Cert.MlaProjBwdRefIdeal.sig) → Buf (Elt Ideal) ℓ) : Prop :=
  True

def Pre_GradWQB (m : (ℓ : Loc Cert.GradWQB.nD Cert.GradWQB.τ Cert.GradWQB.sig) → Buf (Elt Bits) ℓ) : Prop :=
  True

def Pre_GradWQBIdeal (m : (ℓ : Loc Cert.GradWQBIdeal.nD Cert.GradWQBIdeal.τ Cert.GradWQBIdeal.sig) → Buf (Elt Ideal) ℓ) : Prop :=
  True

def Pre_GradWQBRefIdeal (m : (ℓ : Loc Cert.GradWQBRefIdeal.nD Cert.GradWQBRefIdeal.τ Cert.GradWQBRefIdeal.sig) → Buf (Elt Ideal) ℓ) : Prop :=
  True

def Pre_GradWKvB (m : (ℓ : Loc Cert.GradWKvB.nD Cert.GradWKvB.τ Cert.GradWKvB.sig) → Buf (Elt Bits) ℓ) : Prop :=
  True

def Pre_GradWKvBIdeal (m : (ℓ : Loc Cert.GradWKvBIdeal.nD Cert.GradWKvBIdeal.τ Cert.GradWKvBIdeal.sig) → Buf (Elt Ideal) ℓ) : Prop :=
  True

def Pre_GradWKvBRefIdeal (m : (ℓ : Loc Cert.GradWKvBRefIdeal.nD Cert.GradWKvBRefIdeal.τ Cert.GradWKvBRefIdeal.sig) → Buf (Elt Ideal) ℓ) : Prop :=
  True

def Pre_MemKvProj (m : (ℓ : Loc Cert.MemKvProj.nD Cert.MemKvProj.τ Cert.MemKvProj.sig) → Buf (Elt Bits) ℓ) : Prop :=
  True

def Pre_MemKvProjIdeal (m : (ℓ : Loc Cert.MemKvProjIdeal.nD Cert.MemKvProjIdeal.τ Cert.MemKvProjIdeal.sig) → Buf (Elt Ideal) ℓ) : Prop :=
  True

def Pre_MemKvProjRefIdeal (m : (ℓ : Loc Cert.MemKvProjRefIdeal.nD Cert.MemKvProjRefIdeal.τ Cert.MemKvProjRefIdeal.sig) → Buf (Elt Ideal) ℓ) : Prop :=
  True

def Pre_GradWMemKv (m : (ℓ : Loc Cert.GradWMemKv.nD Cert.GradWMemKv.τ Cert.GradWMemKv.sig) → Buf (Elt Bits) ℓ) : Prop :=
  True

def Pre_GradWMemKvIdeal (m : (ℓ : Loc Cert.GradWMemKvIdeal.nD Cert.GradWMemKvIdeal.τ Cert.GradWMemKvIdeal.sig) → Buf (Elt Ideal) ℓ) : Prop :=
  True

def Pre_GradWMemKvRefIdeal (m : (ℓ : Loc Cert.GradWMemKvRefIdeal.nD Cert.GradWMemKvRefIdeal.τ Cert.GradWMemKvRefIdeal.sig) → Buf (Elt Ideal) ℓ) : Prop :=
  True

def Pre_DMemn (m : (ℓ : Loc Cert.DMemn.nD Cert.DMemn.τ Cert.DMemn.sig) → Buf (Elt Bits) ℓ) : Prop :=
  True

def Pre_DMemnIdeal (m : (ℓ : Loc Cert.DMemnIdeal.nD Cert.DMemnIdeal.τ Cert.DMemnIdeal.sig) → Buf (Elt Ideal) ℓ) : Prop :=
  True

def Pre_DMemnRefIdeal (m : (ℓ : Loc Cert.DMemnRefIdeal.nD Cert.DMemnRefIdeal.τ Cert.DMemnRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def Pre_MemAttnFwd (m : (ℓ : Loc Cert.MemAttnFwd.nD Cert.MemAttnFwd.τ Cert.MemAttnFwd.sig) → Buf (Elt Bits) ℓ) : Prop :=
  True

def Pre_MemAttnFwdIdeal (m : (ℓ : Loc Cert.MemAttnFwdIdeal.nD Cert.MemAttnFwdIdeal.τ Cert.MemAttnFwdIdeal.sig) → Buf (Elt Ideal) ℓ) : Prop :=
  True

def Pre_MemAttnFwdRefIdeal (m : (ℓ : Loc Cert.MemAttnFwdRefIdeal.nD Cert.MemAttnFwdRefIdeal.τ Cert.MemAttnFwdRefIdeal.sig) → Buf (Elt Ideal) ℓ) : Prop :=
  True

def Pre_InProjEarly (m : (ℓ : Loc Cert.InProjEarly.nD Cert.InProjEarly.τ Cert.InProjEarly.sig) → Buf (Elt Bits) ℓ) : Prop :=
  True

def Pre_InProjEarlyIdeal (m : (ℓ : Loc Cert.InProjEarlyIdeal.nD Cert.InProjEarlyIdeal.τ Cert.InProjEarlyIdeal.sig) → Buf (Elt Ideal) ℓ) : Prop :=
  True

def Pre_InProjEarlyRefIdeal (m : (ℓ : Loc Cert.InProjEarlyRefIdeal.nD Cert.InProjEarlyRefIdeal.τ Cert.InProjEarlyRefIdeal.sig) → Buf (Elt Ideal) ℓ) : Prop :=
  True

def Pre_GradMemNorm (m : (ℓ : Loc Cert.GradMemNorm.nD Cert.GradMemNorm.τ Cert.GradMemNorm.sig) → Buf (Elt Bits) ℓ) : Prop :=
  True

def Pre_GradMemNormIdeal (m : (ℓ : Loc Cert.GradMemNormIdeal.nD Cert.GradMemNormIdeal.τ Cert.GradMemNormIdeal.sig) → Buf (Elt Ideal) ℓ) : Prop :=
  True

def Pre_GradMemNormRefIdeal (m : (ℓ : Loc Cert.GradMemNormRefIdeal.nD Cert.GradMemNormRefIdeal.τ Cert.GradMemNormRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_GdnPrepFwd (m : (ℓ : Loc Cert.GdnPrepFwd.nD Cert.GdnPrepFwd.τ Cert.GdnPrepFwd.sig) → Buf (Elt Bits) ℓ) : Prop :=
  True

def Pre_GdnPrepFwdIdeal (m : (ℓ : Loc Cert.GdnPrepFwdIdeal.nD Cert.GdnPrepFwdIdeal.τ Cert.GdnPrepFwdIdeal.sig) → Buf (Elt Ideal) ℓ) : Prop :=
  True

def Pre_GdnPrepFwdRefIdeal (m : (ℓ : Loc Cert.GdnPrepFwdRefIdeal.nD Cert.GdnPrepFwdRefIdeal.τ Cert.GdnPrepFwdRefIdeal.sig) → Buf (Elt Ideal) ℓ) : Prop :=
  True

def Pre_RopeTables (m : (ℓ : Loc Cert.RopeTables.nD Cert.RopeTables.τ Cert.RopeTables.sig) → Buf (Elt Bits) ℓ) : Prop :=
  True

def Pre_RopeTablesIdeal (m : (ℓ : Loc Cert.RopeTablesIdeal.nD Cert.RopeTablesIdeal.τ Cert.RopeTablesIdeal.sig) → Buf (Elt Ideal) ℓ) : Prop :=
  True

def Pre_RopeTablesRefIdeal (m : (ℓ : Loc Cert.RopeTablesRefIdeal.nD Cert.RopeTablesRefIdeal.τ Cert.RopeTablesRefIdeal.sig) → Buf (Elt Ideal) ℓ) : Prop :=
  True

def Pre_AdamwGdnConv (m : (ℓ : Loc Cert.AdamwGdnConv.nD Cert.AdamwGdnConv.τ Cert.AdamwGdnConv.sig) → Buf (Elt Bits) ℓ) : Prop :=
  True

def Pre_AdamwGdnConvIdeal (m : (ℓ : Loc Cert.AdamwGdnConvIdeal.nD Cert.AdamwGdnConvIdeal.τ Cert.AdamwGdnConvIdeal.sig) → Buf (Elt Ideal) ℓ) : Prop :=
  True

def Pre_AdamwGdnConvRefIdeal (m : (ℓ : Loc Cert.AdamwGdnConvRefIdeal.nD Cert.AdamwGdnConvRefIdeal.τ Cert.AdamwGdnConvRefIdeal.sig) → Buf (Elt Ideal) ℓ) : Prop :=
  True

def Pre_AdamwWMemKv (m : (ℓ : Loc Cert.AdamwWMemKv.nD Cert.AdamwWMemKv.τ Cert.AdamwWMemKv.sig) → Buf (Elt Bits) ℓ) : Prop :=
  True

def Pre_AdamwWMemKvIdeal (m : (ℓ : Loc Cert.AdamwWMemKvIdeal.nD Cert.AdamwWMemKvIdeal.τ Cert.AdamwWMemKvIdeal.sig) → Buf (Elt Ideal) ℓ) : Prop :=
  True

def Pre_AdamwWMemKvRefIdeal (m : (ℓ : Loc Cert.AdamwWMemKvRefIdeal.nD Cert.AdamwWMemKvRefIdeal.τ Cert.AdamwWMemKvRefIdeal.sig) → Buf (Elt Ideal) ℓ) : Prop :=
  True

def Pre_AdamwWOut (m : (ℓ : Loc Cert.AdamwWOut.nD Cert.AdamwWOut.τ Cert.AdamwWOut.sig) → Buf (Elt Bits) ℓ) : Prop :=
  True

def Pre_AdamwWOutIdeal (m : (ℓ : Loc Cert.AdamwWOutIdeal.nD Cert.AdamwWOutIdeal.τ Cert.AdamwWOutIdeal.sig) → Buf (Elt Ideal) ℓ) : Prop :=
  True

def Pre_AdamwWOutRefIdeal (m : (ℓ : Loc Cert.AdamwWOutRefIdeal.nD Cert.AdamwWOutRefIdeal.τ Cert.AdamwWOutRefIdeal.sig) → Buf (Elt Ideal) ℓ) : Prop :=
  True

def Pre_GdnGateFwd (m : (ℓ : Loc Cert.GdnGateFwd.nD Cert.GdnGateFwd.τ Cert.GdnGateFwd.sig) → Buf (Elt Bits) ℓ) : Prop :=
  True

def Pre_GdnGateFwdIdeal (m : (ℓ : Loc Cert.GdnGateFwdIdeal.nD Cert.GdnGateFwdIdeal.τ Cert.GdnGateFwdIdeal.sig) → Buf (Elt Ideal) ℓ) : Prop :=
  True

def Pre_GdnGateFwdRefIdeal (m : (ℓ : Loc Cert.GdnGateFwdRefIdeal.nD Cert.GdnGateFwdRefIdeal.τ Cert.GdnGateFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2)
      ∧ r.2.mem ((c.tc : Thread Cert.GradWIn.nD Cert.GradWIn.τ).loc Cert.GradWIn.main_arg3) = m ((c.tc : Thread Cert.GradWIn.nD Cert.GradWIn.τ).loc Cert.GradWIn.main_arg3)
      ∧ r.2.mem ((c.tc : Thread Cert.GradWIn.nD Cert.GradWIn.τ).loc Cert.GradWIn.main_arg4) = m ((c.tc : Thread Cert.GradWIn.nD Cert.GradWIn.τ).loc Cert.GradWIn.main_arg4))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
      ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3)
      ∧ r.2.mem ((c.tc : Thread Cert.GradWInIdeal.nD Cert.GradWInIdeal.τ).loc Cert.GradWInIdeal.main_arg4) = m ((c.tc : Thread Cert.GradWInIdeal.nD Cert.GradWInIdeal.τ).loc Cert.GradWInIdeal.main_arg4))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1)
      ∧ r.2.mem ((c.tc : Thread Cert.GradWInRefIdeal.nD Cert.GradWInRefIdeal.τ).loc Cert.GradWInRefIdeal.main_arg2) = m ((c.tc : Thread Cert.GradWInRefIdeal.nD Cert.GradWInRefIdeal.τ).loc Cert.GradWInRefIdeal.main_arg2)
      ∧ r.2.mem ((c.tc : Thread Cert.GradWInRefIdeal.nD Cert.GradWInRefIdeal.τ).loc Cert.GradWInRefIdeal.main_arg3) = m ((c.tc : Thread Cert.GradWInRefIdeal.nD Cert.GradWInRefIdeal.τ).loc Cert.GradWInRefIdeal.main_arg3)
      ∧ r.2.mem ((c.tc : Thread Cert.GradWInRefIdeal.nD Cert.GradWInRefIdeal.τ).loc Cert.GradWInRefIdeal.main_arg4) = m ((c.tc : Thread Cert.GradWInRefIdeal.nD Cert.GradWInRefIdeal.τ).loc Cert.GradWInRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdIdeal_pre_merge_finite [hMergeBwdIdeal : Cert.MergeBwdIdeal.Facts] [hPre_merge_finite : Cert.Pre_merge_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal_merge_finite m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_MergeBwdRefIdeal_pre_merge_finite [hMergeBwdRefIdeal : Cert.MergeBwdRefIdeal.Facts] [hPre_merge_finite : Cert.Pre_merge_finite.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal_merge_finite m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_MlaProjBwd [hMlaProjBwd : Cert.MlaProjBwd.Facts] : Prop :=
  ∀ (m : (ℓ : Loc Cert.MlaProjBwd.nD Cert.MlaProjBwd.τ Cert.MlaProjBwd.sig) → Buf (Elt Bits) ℓ) (g : Dev Cert.MlaProjBwd.nD → PrngReg), Pre_MlaProjBwd m →
    θ_run (Cert.MlaProjBwd.defs (F := Bits)) (onTc (τ := Cert.MlaProjBwd.τ) (Cert.MlaProjBwd.main (F := Bits))) ⟨m, fun _ => 0, g⟩ (fun r => (∀ c : Dev Cert.MlaProjBwd.nD,
      r.2.mem ((c.tc : Thread Cert.MlaProjBwd.nD Cert.MlaProjBwd.τ).loc Cert.MlaProjBwd.main_arg0) = m ((c.tc : Thread Cert.MlaProjBwd.nD Cert.MlaProjBwd.τ).loc Cert.MlaProjBwd.main_arg0)
      ∧ r.2.mem ((c.tc : Thread Cert.MlaProjBwd.nD Cert.MlaProjBwd.τ).loc Cert.MlaProjBwd.main_arg1) = m ((c.tc : Thread Cert.MlaProjBwd.nD Cert.MlaProjBwd.τ).loc Cert.MlaProjBwd.main_arg1)
      ∧ r.2.mem ((c.tc : Thread Cert.MlaProjBwd.nD Cert.MlaProjBwd.τ).loc Cert.MlaProjBwd.main_arg2) = m ((c.tc : Thread Cert.MlaProjBwd.nD Cert.MlaProjBwd.τ).loc Cert.MlaProjBwd.main_arg2)
      ∧ r.2.mem ((c.tc : Thread Cert.MlaProjBwd.nD Cert.MlaProjBwd.τ).loc Cert.MlaProjBwd.main_arg3) = m ((c.tc : Thread Cert.MlaProjBwd.nD Cert.MlaProjBwd.τ).loc Cert.MlaProjBwd.main_arg3)
      ∧ r.2.mem ((c.tc : Thread Cert.MlaProjBwd.nD Cert.MlaProjBwd.τ).loc Cert.MlaProjBwd.main_arg4) = m ((c.tc : Thread Cert.MlaProjBwd.nD Cert.MlaProjBwd.τ).loc Cert.MlaProjBwd.main_arg4)
      ∧ r.2.mem ((c.tc : Thread Cert.MlaProjBwd.nD Cert.MlaProjBwd.τ).loc Cert.MlaProjBwd.main_arg5) = m ((c.tc : Thread Cert.MlaProjBwd.nD Cert.MlaProjBwd.τ).loc Cert.MlaProjBwd.main_arg5)
      ∧ r.2.mem ((c.tc : Thread Cert.MlaProjBwd.nD Cert.MlaProjBwd.τ).loc Cert.MlaProjBwd.main_arg6) = m ((c.tc : Thread Cert.MlaProjBwd.nD Cert.MlaProjBwd.τ).loc Cert.MlaProjBwd.main_arg6)
      ∧ r.2.mem ((c.tc : Thread Cert.MlaProjBwd.nD Cert.MlaProjBwd.τ).loc Cert.MlaProjBwd.main_arg7) = m ((c.tc : Thread Cert.MlaProjBwd.nD Cert.MlaProjBwd.τ).loc Cert.MlaProjBwd.main_arg7)
      ∧ r.2.mem ((c.tc : Thread Cert.MlaProjBwd.nD Cert.MlaProjBwd.τ).loc Cert.MlaProjBwd.main_arg8) = m ((c.tc : Thread Cert.MlaProjBwd.nD Cert.MlaProjBwd.τ).loc Cert.MlaProjBwd.main_arg8)
      ∧ r.2.mem ((c.tc : Thread Cert.MlaProjBwd.nD Cert.MlaProjBwd.τ).loc Cert.MlaProjBwd.main_arg9) = m ((c.tc : Thread Cert.MlaProjBwd.nD Cert.MlaProjBwd.τ).loc Cert.MlaProjBwd.main_arg9)
      ∧ r.2.mem ((c.tc : Thread Cert.MlaProjBwd.nD Cert.MlaProjBwd.τ).loc Cert.MlaProjBwd.main_arg10) = m ((c.tc : Thread Cert.MlaProjBwd.nD Cert.MlaProjBwd.τ).loc Cert.MlaProjBwd.main_arg10))
      ∧ r.2.sem = fun _ => 0)

def quiescent_MlaProjBwdIdeal [hMlaProjBwdIdeal : Cert.MlaProjBwdIdeal.Facts] : Prop :=
  ∀ (m : (ℓ : Loc Cert.MlaProjBwdIdeal.nD Cert.MlaProjBwdIdeal.τ Cert.MlaProjBwdIdeal.sig) → Buf (Elt Ideal) ℓ) (g : Dev Cert.MlaProjBwdIdeal.nD → PrngReg), Pre_MlaProjBwdIdeal m →
    θ_run (Cert.MlaProjBwdIdeal.defs (F := Ideal)) (onTc (τ := Cert.MlaProjBwdIdeal.τ) (Cert.MlaProjBwdIdeal.main (F := Ideal))) ⟨m, fun _ => 0, g⟩ (fun r => (∀ c : Dev Cert.MlaProjBwdIdeal.nD,
      r.2.mem ((c.tc : Thread Cert.MlaProjBwdIdeal.nD Cert.MlaProjBwdIdeal.τ).loc Cert.MlaProjBwdIdeal.main_arg0) = m ((c.tc : Thread Cert.MlaProjBwdIdeal.nD Cert.MlaProjBwdIdeal.τ).loc Cert.MlaProjBwdIdeal.main_arg0)
      ∧ r.2.mem ((c.tc : Thread Cert.MlaProjBwdIdeal.nD Cert.MlaProjBwdIdeal.τ).loc Cert.MlaProjBwdIdeal.main_arg1) = m ((c.tc : Thread Cert.MlaProjBwdIdeal.nD Cert.MlaProjBwdIdeal.τ).loc Cert.MlaProjBwdIdeal.main_arg1)
      ∧ r.2.mem ((c.tc : Thread Cert.MlaProjBwdIdeal.nD Cert.MlaProjBwdIdeal.τ).loc Cert.MlaProjBwdIdeal.main_arg2) = m ((c.tc : Thread Cert.MlaProjBwdIdeal.nD Cert.MlaProjBwdIdeal.τ).loc Cert.MlaProjBwdIdeal.main_arg2)
      ∧ r.2.mem ((c.tc : Thread Cert.MlaProjBwdIdeal.nD Cert.MlaProjBwdIdeal.τ).loc Cert.MlaProjBwdIdeal.main_arg3) = m ((c.tc : Thread Cert.MlaProjBwdIdeal.nD Cert.MlaProjBwdIdeal.τ).loc Cert.MlaProjBwdIdeal.main_arg3)
      ∧ r.2.mem ((c.tc : Thread Cert.MlaProjBwdIdeal.nD Cert.MlaProjBwdIdeal.τ).loc Cert.MlaProjBwdIdeal.main_arg4) = m ((c.tc : Thread Cert.MlaProjBwdIdeal.nD Cert.MlaProjBwdIdeal.τ).loc Cert.MlaProjBwdIdeal.main_arg4)
      ∧ r.2.mem ((c.tc : Thread Cert.MlaProjBwdIdeal.nD Cert.MlaProjBwdIdeal.τ).loc Cert.MlaProjBwdIdeal.main_arg5) = m ((c.tc : Thread Cert.MlaProjBwdIdeal.nD Cert.MlaProjBwdIdeal.τ).loc Cert.MlaProjBwdIdeal.main_arg5)
      ∧ r.2.mem ((c.tc : Thread Cert.MlaProjBwdIdeal.nD Cert.MlaProjBwdIdeal.τ).loc Cert.MlaProjBwdIdeal.main_arg6) = m ((c.tc : Thread Cert.MlaProjBwdIdeal.nD Cert.MlaProjBwdIdeal.τ).loc Cert.MlaProjBwdIdeal.main_arg6)
      ∧ r.2.mem ((c.tc : Thread Cert.MlaProjBwdIdeal.nD Cert.MlaProjBwdIdeal.τ).loc Cert.MlaProjBwdIdeal.main_arg7) = m ((c.tc : Thread Cert.MlaProjBwdIdeal.nD Cert.MlaProjBwdIdeal.τ).loc Cert.MlaProjBwdIdeal.main_arg7)
      ∧ r.2.mem ((c.tc : Thread Cert.MlaProjBwdIdeal.nD Cert.MlaProjBwdIdeal.τ).loc Cert.MlaProjBwdIdeal.main_arg8) = m ((c.tc : Thread Cert.MlaProjBwdIdeal.nD Cert.MlaProjBwdIdeal.τ).loc Cert.MlaProjBwdIdeal.main_arg8)
      ∧ r.2.mem ((c.tc : Thread Cert.MlaProjBwdIdeal.nD Cert.MlaProjBwdIdeal.τ).loc Cert.MlaProjBwdIdeal.main_arg9) = m ((c.tc : Thread Cert.MlaProjBwdIdeal.nD Cert.MlaProjBwdIdeal.τ).loc Cert.MlaProjBwdIdeal.main_arg9)
      ∧ r.2.mem ((c.tc : Thread Cert.MlaProjBwdIdeal.nD Cert.MlaProjBwdIdeal.τ).loc Cert.MlaProjBwdIdeal.main_arg10) = m ((c.tc : Thread Cert.MlaProjBwdIdeal.nD Cert.MlaProjBwdIdeal.τ).loc Cert.MlaProjBwdIdeal.main_arg10))
      ∧ r.2.sem = fun _ => 0)

def quiescent_MlaProjBwdRefIdeal [hMlaProjBwdRefIdeal : Cert.MlaProjBwdRefIdeal.Facts] : Prop :=
  ∀ (m : (ℓ : Loc Cert.MlaProjBwdRefIdeal.nD Cert.MlaProjBwdRefIdeal.τ Cert.MlaProjBwdRefIdeal.sig) → Buf (Elt Ideal) ℓ) (g : Dev Cert.MlaProjBwdRefIdeal.nD → PrngReg), Pre_MlaProjBwdRefIdeal m →
    θ_run (Cert.MlaProjBwdRefIdeal.defs (F := Ideal)) (onTc (τ := Cert.MlaProjBwdRefIdeal.τ) (Cert.MlaProjBwdRefIdeal.main (F := Ideal))) ⟨m, fun _ => 0, g⟩ (fun r => (∀ c : Dev Cert.MlaProjBwdRefIdeal.nD,
      r.2.mem ((c.tc : Thread Cert.MlaProjBwdRefIdeal.nD Cert.MlaProjBwdRefIdeal.τ).loc Cert.MlaProjBwdRefIdeal.main_arg0) = m ((c.tc : Thread Cert.MlaProjBwdRefIdeal.nD Cert.MlaProjBwdRefIdeal.τ).loc Cert.MlaProjBwdRefIdeal.main_arg0)
      ∧ r.2.mem ((c.tc : Thread Cert.MlaProjBwdRefIdeal.nD Cert.MlaProjBwdRefIdeal.τ).loc Cert.MlaProjBwdRefIdeal.main_arg1) = m ((c.tc : Thread Cert.MlaProjBwdRefIdeal.nD Cert.MlaProjBwdRefIdeal.τ).loc Cert.MlaProjBwdRefIdeal.main_arg1)
      ∧ r.2.mem ((c.tc : Thread Cert.MlaProjBwdRefIdeal.nD Cert.MlaProjBwdRefIdeal.τ).loc Cert.MlaProjBwdRefIdeal.main_arg2) = m ((c.tc : Thread Cert.MlaProjBwdRefIdeal.nD Cert.MlaProjBwdRefIdeal.τ).loc Cert.MlaProjBwdRefIdeal.main_arg2)
      ∧ r.2.mem ((c.tc : Thread Cert.MlaProjBwdRefIdeal.nD Cert.MlaProjBwdRefIdeal.τ).loc Cert.MlaProjBwdRefIdeal.main_arg3) = m ((c.tc : Thread Cert.MlaProjBwdRefIdeal.nD Cert.MlaProjBwdRefIdeal.τ).loc Cert.MlaProjBwdRefIdeal.main_arg3)
      ∧ r.2.mem ((c.tc : Thread Cert.MlaProjBwdRefIdeal.nD Cert.MlaProjBwdRefIdeal.τ).loc Cert.MlaProjBwdRefIdeal.main_arg4) = m ((c.tc : Thread Cert.MlaProjBwdRefIdeal.nD Cert.MlaProjBwdRefIdeal.τ).loc Cert.MlaProjBwdRefIdeal.main_arg4)
      ∧ r.2.mem ((c.tc : Thread Cert.MlaProjBwdRefIdeal.nD Cert.MlaProjBwdRefIdeal.τ).loc Cert.MlaProjBwdRefIdeal.main_arg5) = m ((c.tc : Thread Cert.MlaProjBwdRefIdeal.nD Cert.MlaProjBwdRefIdeal.τ).loc Cert.MlaProjBwdRefIdeal.main_arg5)
      ∧ r.2.mem ((c.tc : Thread Cert.MlaProjBwdRefIdeal.nD Cert.MlaProjBwdRefIdeal.τ).loc Cert.MlaProjBwdRefIdeal.main_arg6) = m ((c.tc : Thread Cert.MlaProjBwdRefIdeal.nD Cert.MlaProjBwdRefIdeal.τ).loc Cert.MlaProjBwdRefIdeal.main_arg6)
      ∧ r.2.mem ((c.tc : Thread Cert.MlaProjBwdRefIdeal.nD Cert.MlaProjBwdRefIdeal.τ).loc Cert.MlaProjBwdRefIdeal.main_arg7) = m ((c.tc : Thread Cert.MlaProjBwdRefIdeal.nD Cert.MlaProjBwdRefIdeal.τ).loc Cert.MlaProjBwdRefIdeal.main_arg7)
      ∧ r.2.mem ((c.tc : Thread Cert.MlaProjBwdRefIdeal.nD Cert.MlaProjBwdRefIdeal.τ).loc Cert.MlaProjBwdRefIdeal.main_arg8) = m ((c.tc : Thread Cert.MlaProjBwdRefIdeal.nD Cert.MlaProjBwdRefIdeal.τ).loc Cert.MlaProjBwdRefIdeal.main_arg8)
      ∧ r.2.mem ((c.tc : Thread Cert.MlaProjBwdRefIdeal.nD Cert.MlaProjBwdRefIdeal.τ).loc Cert.MlaProjBwdRefIdeal.main_arg9) = m ((c.tc : Thread Cert.MlaProjBwdRefIdeal.nD Cert.MlaProjBwdRefIdeal.τ).loc Cert.MlaProjBwdRefIdeal.main_arg9)
      ∧ r.2.mem ((c.tc : Thread Cert.MlaProjBwdRefIdeal.nD Cert.MlaProjBwdRefIdeal.τ).loc Cert.MlaProjBwdRefIdeal.main_arg10) = m ((c.tc : Thread Cert.MlaProjBwdRefIdeal.nD Cert.MlaProjBwdRefIdeal.τ).loc Cert.MlaProjBwdRefIdeal.main_arg10))
      ∧ r.2.sem = fun _ => 0)

def quiescent_GradWQB [hGradWQB : Cert.GradWQB.Facts] : Prop :=
  ∀ (m : (ℓ : Loc Cert.GradWQB.nD Cert.GradWQB.τ Cert.GradWQB.sig) → Buf (Elt Bits) ℓ) (g : Dev Cert.GradWQB.nD → PrngReg), Pre_GradWQB m →
    θ_run (Cert.GradWQB.defs (F := Bits)) (onTc (τ := Cert.GradWQB.τ) (Cert.GradWQB.main (F := Bits))) ⟨m, fun _ => 0, g⟩ (fun r => (∀ c : Dev Cert.GradWQB.nD,
      r.2.mem ((c.tc : Thread Cert.GradWQB.nD Cert.GradWQB.τ).loc Cert.GradWQB.main_arg0) = m ((c.tc : Thread Cert.GradWQB.nD Cert.GradWQB.τ).loc Cert.GradWQB.main_arg0)
      ∧ r.2.mem ((c.tc : Thread Cert.GradWQB.nD Cert.GradWQB.τ).loc Cert.GradWQB.main_arg1) = m ((c.tc : Thread Cert.GradWQB.nD Cert.GradWQB.τ).loc Cert.GradWQB.main_arg1))
      ∧ r.2.sem = fun _ => 0)

def quiescent_GradWQBIdeal [hGradWQBIdeal : Cert.GradWQBIdeal.Facts] : Prop :=
  ∀ (m : (ℓ : Loc Cert.GradWQBIdeal.nD Cert.GradWQBIdeal.τ Cert.GradWQBIdeal.sig) → Buf (Elt Ideal) ℓ) (g : Dev Cert.GradWQBIdeal.nD → PrngReg), Pre_GradWQBIdeal m →
    θ_run (Cert.GradWQBIdeal.defs (F := Ideal)) (onTc (τ := Cert.GradWQBIdeal.τ) (Cert.GradWQBIdeal.main (F := Ideal))) ⟨m, fun _ => 0, g⟩ (fun r => (∀ c : Dev Cert.GradWQBIdeal.nD,
      r.2.mem ((c.tc : Thread Cert.GradWQBIdeal.nD Cert.GradWQBIdeal.τ).loc Cert.GradWQBIdeal.main_arg0) = m ((c.tc : Thread Cert.GradWQBIdeal.nD Cert.GradWQBIdeal.τ).loc Cert.GradWQBIdeal.main_arg0)
      ∧ r.2.mem ((c.tc : Thread Cert.GradWQBIdeal.nD Cert.GradWQBIdeal.τ).loc Cert.GradWQBIdeal.main_arg1) = m ((c.tc : Thread Cert.GradWQBIdeal.nD Cert.GradWQBIdeal.τ).loc Cert.GradWQBIdeal.main_arg1))
      ∧ r.2.sem = fun _ => 0)

def quiescent_GradWQBRefIdeal [hGradWQBRefIdeal : Cert.GradWQBRefIdeal.Facts] : Prop :=
  ∀ (m : (ℓ : Loc Cert.GradWQBRefIdeal.nD Cert.GradWQBRefIdeal.τ Cert.GradWQBRefIdeal.sig) → Buf (Elt Ideal) ℓ) (g : Dev Cert.GradWQBRefIdeal.nD → PrngReg), Pre_GradWQBRefIdeal m →
    θ_run (Cert.GradWQBRefIdeal.defs (F := Ideal)) (onTc (τ := Cert.GradWQBRefIdeal.τ) (Cert.GradWQBRefIdeal.main (F := Ideal))) ⟨m, fun _ => 0, g⟩ (fun r => (∀ c : Dev Cert.GradWQBRefIdeal.nD,
      r.2.mem ((c.tc : Thread Cert.GradWQBRefIdeal.nD Cert.GradWQBRefIdeal.τ).loc Cert.GradWQBRefIdeal.main_arg0) = m ((c.tc : Thread Cert.GradWQBRefIdeal.nD Cert.GradWQBRefIdeal.τ).loc Cert.GradWQBRefIdeal.main_arg0)
      ∧ r.2.mem ((c.tc : Thread Cert.GradWQBRefIdeal.nD Cert.GradWQBRefIdeal.τ).loc Cert.GradWQBRefIdeal.main_arg1) = m ((c.tc : Thread Cert.GradWQBRefIdeal.nD Cert.GradWQBRefIdeal.τ).loc Cert.GradWQBRefIdeal.main_arg1))
      ∧ r.2.sem = fun _ => 0)

def quiescent_GradWKvB [hGradWKvB : Cert.GradWKvB.Facts] : Prop :=
  ∀ (m : (ℓ : Loc Cert.GradWKvB.nD Cert.GradWKvB.τ Cert.GradWKvB.sig) → Buf (Elt Bits) ℓ) (g : Dev Cert.GradWKvB.nD → PrngReg), Pre_GradWKvB m →
    θ_run (Cert.GradWKvB.defs (F := Bits)) (onTc (τ := Cert.GradWKvB.τ) (Cert.GradWKvB.main (F := Bits))) ⟨m, fun _ => 0, g⟩ (fun r => (∀ c : Dev Cert.GradWKvB.nD,
      r.2.mem ((c.tc : Thread Cert.GradWKvB.nD Cert.GradWKvB.τ).loc Cert.GradWKvB.main_arg0) = m ((c.tc : Thread Cert.GradWKvB.nD Cert.GradWKvB.τ).loc Cert.GradWKvB.main_arg0)
      ∧ r.2.mem ((c.tc : Thread Cert.GradWKvB.nD Cert.GradWKvB.τ).loc Cert.GradWKvB.main_arg1) = m ((c.tc : Thread Cert.GradWKvB.nD Cert.GradWKvB.τ).loc Cert.GradWKvB.main_arg1))
      ∧ r.2.sem = fun _ => 0)

def quiescent_GradWKvBIdeal [hGradWKvBIdeal : Cert.GradWKvBIdeal.Facts] : Prop :=
  ∀ (m : (ℓ : Loc Cert.GradWKvBIdeal.nD Cert.GradWKvBIdeal.τ Cert.GradWKvBIdeal.sig) → Buf (Elt Ideal) ℓ) (g : Dev Cert.GradWKvBIdeal.nD → PrngReg), Pre_GradWKvBIdeal m →
    θ_run (Cert.GradWKvBIdeal.defs (F := Ideal)) (onTc (τ := Cert.GradWKvBIdeal.τ) (Cert.GradWKvBIdeal.main (F := Ideal))) ⟨m, fun _ => 0, g⟩ (fun r => (∀ c : Dev Cert.GradWKvBIdeal.nD,
      r.2.mem ((c.tc : Thread Cert.GradWKvBIdeal.nD Cert.GradWKvBIdeal.τ).loc Cert.GradWKvBIdeal.main_arg0) = m ((c.tc : Thread Cert.GradWKvBIdeal.nD Cert.GradWKvBIdeal.τ).loc Cert.GradWKvBIdeal.main_arg0)
      ∧ r.2.mem ((c.tc : Thread Cert.GradWKvBIdeal.nD Cert.GradWKvBIdeal.τ).loc Cert.GradWKvBIdeal.main_arg1) = m ((c.tc : Thread Cert.GradWKvBIdeal.nD Cert.GradWKvBIdeal.τ).loc Cert.GradWKvBIdeal.main_arg1))
      ∧ r.2.sem = fun _ => 0)

def quiescent_GradWKvBRefIdeal [hGradWKvBRefIdeal : Cert.GradWKvBRefIdeal.Facts] : Prop :=
  ∀ (m : (ℓ : Loc Cert.GradWKvBRefIdeal.nD Cert.GradWKvBRefIdeal.τ Cert.GradWKvBRefIdeal.sig) → Buf (Elt Ideal) ℓ) (g : Dev Cert.GradWKvBRefIdeal.nD → PrngReg), Pre_GradWKvBRefIdeal m →
    θ_run (Cert.GradWKvBRefIdeal.defs (F := Ideal)) (onTc (τ := Cert.GradWKvBRefIdeal.τ) (Cert.GradWKvBRefIdeal.main (F := Ideal))) ⟨m, fun _ => 0, g⟩ (fun r => (∀ c : Dev Cert.GradWKvBRefIdeal.nD,
      r.2.mem ((c.tc : Thread Cert.GradWKvBRefIdeal.nD Cert.GradWKvBRefIdeal.τ).loc Cert.GradWKvBRefIdeal.main_arg0) = m ((c.tc : Thread Cert.GradWKvBRefIdeal.nD Cert.GradWKvBRefIdeal.τ).loc Cert.GradWKvBRefIdeal.main_arg0)
      ∧ r.2.mem ((c.tc : Thread Cert.GradWKvBRefIdeal.nD Cert.GradWKvBRefIdeal.τ).loc Cert.GradWKvBRefIdeal.main_arg1) = m ((c.tc : Thread Cert.GradWKvBRefIdeal.nD Cert.GradWKvBRefIdeal.τ).loc Cert.GradWKvBRefIdeal.main_arg1))
      ∧ r.2.sem = fun _ => 0)

def quiescent_MemKvProj [hMemKvProj : Cert.MemKvProj.Facts] : Prop :=
  ∀ (m : (ℓ : Loc Cert.MemKvProj.nD Cert.MemKvProj.τ Cert.MemKvProj.sig) → Buf (Elt Bits) ℓ) (g : Dev Cert.MemKvProj.nD → PrngReg), Pre_MemKvProj m →
    θ_run (Cert.MemKvProj.defs (F := Bits)) (onTc (τ := Cert.MemKvProj.τ) (Cert.MemKvProj.main (F := Bits))) ⟨m, fun _ => 0, g⟩ (fun r => (∀ c : Dev Cert.MemKvProj.nD,
      r.2.mem ((c.tc : Thread Cert.MemKvProj.nD Cert.MemKvProj.τ).loc Cert.MemKvProj.main_arg0) = m ((c.tc : Thread Cert.MemKvProj.nD Cert.MemKvProj.τ).loc Cert.MemKvProj.main_arg0)
      ∧ r.2.mem ((c.tc : Thread Cert.MemKvProj.nD Cert.MemKvProj.τ).loc Cert.MemKvProj.main_arg1) = m ((c.tc : Thread Cert.MemKvProj.nD Cert.MemKvProj.τ).loc Cert.MemKvProj.main_arg1))
      ∧ r.2.sem = fun _ => 0)

def quiescent_MemKvProjIdeal [hMemKvProjIdeal : Cert.MemKvProjIdeal.Facts] : Prop :=
  ∀ (m : (ℓ : Loc Cert.MemKvProjIdeal.nD Cert.MemKvProjIdeal.τ Cert.MemKvProjIdeal.sig) → Buf (Elt Ideal) ℓ) (g : Dev Cert.MemKvProjIdeal.nD → PrngReg), Pre_MemKvProjIdeal m →
    θ_run (Cert.MemKvProjIdeal.defs (F := Ideal)) (onTc (τ := Cert.MemKvProjIdeal.τ) (Cert.MemKvProjIdeal.main (F := Ideal))) ⟨m, fun _ => 0, g⟩ (fun r => (∀ c : Dev Cert.MemKvProjIdeal.nD,
      r.2.mem ((c.tc : Thread Cert.MemKvProjIdeal.nD Cert.MemKvProjIdeal.τ).loc Cert.MemKvProjIdeal.main_arg0) = m ((c.tc : Thread Cert.MemKvProjIdeal.nD Cert.MemKvProjIdeal.τ).loc Cert.MemKvProjIdeal.main_arg0)
      ∧ r.2.mem ((c.tc : Thread Cert.MemKvProjIdeal.nD Cert.MemKvProjIdeal.τ).loc Cert.MemKvProjIdeal.main_arg1) = m ((c.tc : Thread Cert.MemKvProjIdeal.nD Cert.MemKvProjIdeal.τ).loc Cert.MemKvProjIdeal.main_arg1))
      ∧ r.2.sem = fun _ => 0)

def quiescent_MemKvProjRefIdeal [hMemKvProjRefIdeal : Cert.MemKvProjRefIdeal.Facts] : Prop :=
  ∀ (m : (ℓ : Loc Cert.MemKvProjRefIdeal.nD Cert.MemKvProjRefIdeal.τ Cert.MemKvProjRefIdeal.sig) → Buf (Elt Ideal) ℓ) (g : Dev Cert.MemKvProjRefIdeal.nD → PrngReg), Pre_MemKvProjRefIdeal m →
    θ_run (Cert.MemKvProjRefIdeal.defs (F := Ideal)) (onTc (τ := Cert.MemKvProjRefIdeal.τ) (Cert.MemKvProjRefIdeal.main (F := Ideal))) ⟨m, fun _ => 0, g⟩ (fun r => (∀ c : Dev Cert.MemKvProjRefIdeal.nD,
      r.2.mem ((c.tc : Thread Cert.MemKvProjRefIdeal.nD Cert.MemKvProjRefIdeal.τ).loc Cert.MemKvProjRefIdeal.main_arg0) = m ((c.tc : Thread Cert.MemKvProjRefIdeal.nD Cert.MemKvProjRefIdeal.τ).loc Cert.MemKvProjRefIdeal.main_arg0)
      ∧ r.2.mem ((c.tc : Thread Cert.MemKvProjRefIdeal.nD Cert.MemKvProjRefIdeal.τ).loc Cert.MemKvProjRefIdeal.main_arg1) = m ((c.tc : Thread Cert.MemKvProjRefIdeal.nD Cert.MemKvProjRefIdeal.τ).loc Cert.MemKvProjRefIdeal.main_arg1))
      ∧ r.2.sem = fun _ => 0)

def quiescent_GradWMemKv [hGradWMemKv : Cert.GradWMemKv.Facts] : Prop :=
  ∀ (m : (ℓ : Loc Cert.GradWMemKv.nD Cert.GradWMemKv.τ Cert.GradWMemKv.sig) → Buf (Elt Bits) ℓ) (g : Dev Cert.GradWMemKv.nD → PrngReg), Pre_GradWMemKv m →
    θ_run (Cert.GradWMemKv.defs (F := Bits)) (onTc (τ := Cert.GradWMemKv.τ) (Cert.GradWMemKv.main (F := Bits))) ⟨m, fun _ => 0, g⟩ (fun r => (∀ c : Dev Cert.GradWMemKv.nD,
      r.2.mem ((c.tc : Thread Cert.GradWMemKv.nD Cert.GradWMemKv.τ).loc Cert.GradWMemKv.main_arg0) = m ((c.tc : Thread Cert.GradWMemKv.nD Cert.GradWMemKv.τ).loc Cert.GradWMemKv.main_arg0)
      ∧ r.2.mem ((c.tc : Thread Cert.GradWMemKv.nD Cert.GradWMemKv.τ).loc Cert.GradWMemKv.main_arg1) = m ((c.tc : Thread Cert.GradWMemKv.nD Cert.GradWMemKv.τ).loc Cert.GradWMemKv.main_arg1))
      ∧ r.2.sem = fun _ => 0)

def quiescent_GradWMemKvIdeal [hGradWMemKvIdeal : Cert.GradWMemKvIdeal.Facts] : Prop :=
  ∀ (m : (ℓ : Loc Cert.GradWMemKvIdeal.nD Cert.GradWMemKvIdeal.τ Cert.GradWMemKvIdeal.sig) → Buf (Elt Ideal) ℓ) (g : Dev Cert.GradWMemKvIdeal.nD → PrngReg), Pre_GradWMemKvIdeal m →
    θ_run (Cert.GradWMemKvIdeal.defs (F := Ideal)) (onTc (τ := Cert.GradWMemKvIdeal.τ) (Cert.GradWMemKvIdeal.main (F := Ideal))) ⟨m, fun _ => 0, g⟩ (fun r => (∀ c : Dev Cert.GradWMemKvIdeal.nD,
      r.2.mem ((c.tc : Thread Cert.GradWMemKvIdeal.nD Cert.GradWMemKvIdeal.τ).loc Cert.GradWMemKvIdeal.main_arg0) = m ((c.tc : Thread Cert.GradWMemKvIdeal.nD Cert.GradWMemKvIdeal.τ).loc Cert.GradWMemKvIdeal.main_arg0)
      ∧ r.2.mem ((c.tc : Thread Cert.GradWMemKvIdeal.nD Cert.GradWMemKvIdeal.τ).loc Cert.GradWMemKvIdeal.main_arg1) = m ((c.tc : Thread Cert.GradWMemKvIdeal.nD Cert.GradWMemKvIdeal.τ).loc Cert.GradWMemKvIdeal.main_arg1))
      ∧ r.2.sem = fun _ => 0)

def quiescent_GradWMemKvRefIdeal [hGradWMemKvRefIdeal : Cert.GradWMemKvRefIdeal.Facts] : Prop :=
  ∀ (m : (ℓ : Loc Cert.GradWMemKvRefIdeal.nD Cert.GradWMemKvRefIdeal.τ Cert.GradWMemKvRefIdeal.sig) → Buf (Elt Ideal) ℓ) (g : Dev Cert.GradWMemKvRefIdeal.nD → PrngReg), Pre_GradWMemKvRefIdeal m →
    θ_run (Cert.GradWMemKvRefIdeal.defs (F := Ideal)) (onTc (τ := Cert.GradWMemKvRefIdeal.τ) (Cert.GradWMemKvRefIdeal.main (F := Ideal))) ⟨m, fun _ => 0, g⟩ (fun r => (∀ c : Dev Cert.GradWMemKvRefIdeal.nD,
      r.2.mem ((c.tc : Thread Cert.GradWMemKvRefIdeal.nD Cert.GradWMemKvRefIdeal.τ).loc Cert.GradWMemKvRefIdeal.main_arg0) = m ((c.tc : Thread Cert.GradWMemKvRefIdeal.nD Cert.GradWMemKvRefIdeal.τ).loc Cert.GradWMemKvRefIdeal.main_arg0)
      ∧ r.2.mem ((c.tc : Thread Cert.GradWMemKvRefIdeal.nD Cert.GradWMemKvRefIdeal.τ).loc Cert.GradWMemKvRefIdeal.main_arg1) = m ((c.tc : Thread Cert.GradWMemKvRefIdeal.nD Cert.GradWMemKvRefIdeal.τ).loc Cert.GradWMemKvRefIdeal.main_arg1))
      ∧ r.2.sem = fun _ => 0)

def quiescent_DMemn [hDMemn : Cert.DMemn.Facts] : Prop :=
  ∀ (m : (ℓ : Loc Cert.DMemn.nD Cert.DMemn.τ Cert.DMemn.sig) → Buf (Elt Bits) ℓ) (g : Dev Cert.DMemn.nD → PrngReg), Pre_DMemn m →
    θ_run (Cert.DMemn.defs (F := Bits)) (onTc (τ := Cert.DMemn.τ) (Cert.DMemn.main (F := Bits))) ⟨m, fun _ => 0, g⟩ (fun r => (∀ c : Dev Cert.DMemn.nD,
      r.2.mem ((c.tc : Thread Cert.DMemn.nD Cert.DMemn.τ).loc Cert.DMemn.main_arg0) = m ((c.tc : Thread Cert.DMemn.nD Cert.DMemn.τ).loc Cert.DMemn.main_arg0)
      ∧ r.2.mem ((c.tc : Thread Cert.DMemn.nD Cert.DMemn.τ).loc Cert.DMemn.main_arg1) = m ((c.tc : Thread Cert.DMemn.nD Cert.DMemn.τ).loc Cert.DMemn.main_arg1)
      ∧ r.2.mem ((c.tc : Thread Cert.DMemn.nD Cert.DMemn.τ).loc Cert.DMemn.main_arg2) = m ((c.tc : Thread Cert.DMemn.nD Cert.DMemn.τ).loc Cert.DMemn.main_arg2))
      ∧ r.2.sem = fun _ => 0)

def quiescent_DMemnIdeal [hDMemnIdeal : Cert.DMemnIdeal.Facts] : Prop :=
  ∀ (m : (ℓ : Loc Cert.DMemnIdeal.nD Cert.DMemnIdeal.τ Cert.DMemnIdeal.sig) → Buf (Elt Ideal) ℓ) (g : Dev Cert.DMemnIdeal.nD → PrngReg), Pre_DMemnIdeal m →
    θ_run (Cert.DMemnIdeal.defs (F := Ideal)) (onTc (τ := Cert.DMemnIdeal.τ) (Cert.DMemnIdeal.main (F := Ideal))) ⟨m, fun _ => 0, g⟩ (fun r => (∀ c : Dev Cert.DMemnIdeal.nD,
      r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
      ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1)
      ∧ r.2.mem ((c.tc : Thread Cert.DMemnIdeal.nD Cert.DMemnIdeal.τ).loc Cert.DMemnIdeal.main_arg2) = m ((c.tc : Thread Cert.DMemnIdeal.nD Cert.DMemnIdeal.τ).loc Cert.DMemnIdeal.main_arg2))
      ∧ r.2.sem = fun _ => 0)

def quiescent_DMemnRefIdeal [hDMemnRefIdeal : Cert.DMemnRefIdeal.Facts] : Prop :=
  ∀ (m : (ℓ : Loc Cert.DMemnRefIdeal.nD Cert.DMemnRefIdeal.τ Cert.DMemnRefIdeal.sig) → Buf (Elt Ideal) ℓ) (g : Dev Cert.DMemnRefIdeal.nD → PrngReg), Pre_DMemnRefIdeal m →
    θ_run (Cert.DMemnRefIdeal.defs (F := Ideal)) (onTc (τ := Cert.DMemnRefIdeal.τ) (Cert.DMemnRefIdeal.main (F := Ideal))) ⟨m, fun _ => 0, g⟩ (fun r => (∀ c : Dev Cert.DMemnRefIdeal.nD,
      r.2.mem ((c.tc : Thread Cert.DMemnRefIdeal.nD Cert.DMemnRefIdeal.τ).loc Cert.DMemnRefIdeal.main_arg0) = m ((c.tc : Thread Cert.DMemnRefIdeal.nD Cert.DMemnRefIdeal.τ).loc Cert.DMemnRefIdeal.main_arg0)
      ∧ r.2.mem ((c.tc : Thread Cert.DMemnRefIdeal.nD Cert.DMemnRefIdeal.τ).loc Cert.DMemnRefIdeal.main_arg1) = m ((c.tc : Thread Cert.DMemnRefIdeal.nD Cert.DMemnRefIdeal.τ).loc Cert.DMemnRefIdeal.main_arg1)
      ∧ r.2.mem ((c.tc : Thread Cert.DMemnRefIdeal.nD Cert.DMemnRefIdeal.τ).loc Cert.DMemnRefIdeal.main_arg2) = m ((c.tc : Thread Cert.DMemnRefIdeal.nD Cert.DMemnRefIdeal.τ).loc Cert.DMemnRefIdeal.main_arg2))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6))
      ∧ r.2.sem = fun _ => 0)

def quiescent_MemAttnFwd [hMemAttnFwd : Cert.MemAttnFwd.Facts] : Prop :=
  ∀ (m : (ℓ : Loc Cert.MemAttnFwd.nD Cert.MemAttnFwd.τ Cert.MemAttnFwd.sig) → Buf (Elt Bits) ℓ) (g : Dev Cert.MemAttnFwd.nD → PrngReg), Pre_MemAttnFwd m →
    θ_run (Cert.MemAttnFwd.defs (F := Bits)) (onTc (τ := Cert.MemAttnFwd.τ) (Cert.MemAttnFwd.main (F := Bits))) ⟨m, fun _ => 0, g⟩ (fun r => (∀ c : Dev Cert.MemAttnFwd.nD,
      r.2.mem ((c.tc : Thread Cert.MemAttnFwd.nD Cert.MemAttnFwd.τ).loc Cert.MemAttnFwd.main_arg0) = m ((c.tc : Thread Cert.MemAttnFwd.nD Cert.MemAttnFwd.τ).loc Cert.MemAttnFwd.main_arg0)
      ∧ r.2.mem ((c.tc : Thread Cert.MemAttnFwd.nD Cert.MemAttnFwd.τ).loc Cert.MemAttnFwd.main_arg1) = m ((c.tc : Thread Cert.MemAttnFwd.nD Cert.MemAttnFwd.τ).loc Cert.MemAttnFwd.main_arg1))
      ∧ r.2.sem = fun _ => 0)

def quiescent_MemAttnFwdIdeal [hMemAttnFwdIdeal : Cert.MemAttnFwdIdeal.Facts] : Prop :=
  ∀ (m : (ℓ : Loc Cert.MemAttnFwdIdeal.nD Cert.MemAttnFwdIdeal.τ Cert.MemAttnFwdIdeal.sig) → Buf (Elt Ideal) ℓ) (g : Dev Cert.MemAttnFwdIdeal.nD → PrngReg), Pre_MemAttnFwdIdeal m →
    θ_run (Cert.MemAttnFwdIdeal.defs (F := Ideal)) (onTc (τ := Cert.MemAttnFwdIdeal.τ) (Cert.MemAttnFwdIdeal.main (F := Ideal))) ⟨m, fun _ => 0, g⟩ (fun r => (∀ c : Dev Cert.MemAttnFwdIdeal.nD,
      r.2.mem ((c.tc : Thread Cert.MemAttnFwdIdeal.nD Cert.MemAttnFwdIdeal.τ).loc Cert.MemAttnFwdIdeal.main_arg0) = m ((c.tc : Thread Cert.MemAttnFwdIdeal.nD Cert.MemAttnFwdIdeal.τ).loc Cert.MemAttnFwdIdeal.main_arg0)
      ∧ r.2.mem ((c.tc : Thread Cert.MemAttnFwdIdeal.nD Cert.MemAttnFwdIdeal.τ).loc Cert.MemAttnFwdIdeal.main_arg1) = m ((c.tc : Thread Cert.MemAttnFwdIdeal.nD Cert.MemAttnFwdIdeal.τ).loc Cert.MemAttnFwdIdeal.main_arg1))
      ∧ r.2.sem = fun _ => 0)

def quiescent_MemAttnFwdRefIdeal [hMemAttnFwdRefIdeal : Cert.MemAttnFwdRefIdeal.Facts] : Prop :=
  ∀ (m : (ℓ : Loc Cert.MemAttnFwdRefIdeal.nD Cert.MemAttnFwdRefIdeal.τ Cert.MemAttnFwdRefIdeal.sig) → Buf (Elt Ideal) ℓ) (g : Dev Cert.MemAttnFwdRefIdeal.nD → PrngReg), Pre_MemAttnFwdRefIdeal m →
    θ_run (Cert.MemAttnFwdRefIdeal.defs (F := Ideal)) (onTc (τ := Cert.MemAttnFwdRefIdeal.τ) (Cert.MemAttnFwdRefIdeal.main (F := Ideal))) ⟨m, fun _ => 0, g⟩ (fun r => (∀ c : Dev Cert.MemAttnFwdRefIdeal.nD,
      r.2.mem ((c.tc : Thread Cert.MemAttnFwdRefIdeal.nD Cert.MemAttnFwdRefIdeal.τ).loc Cert.MemAttnFwdRefIdeal.main_arg0) = m ((c.tc : Thread Cert.MemAttnFwdRefIdeal.nD Cert.MemAttnFwdRefIdeal.τ).loc Cert.MemAttnFwdRefIdeal.main_arg0)
      ∧ r.2.mem ((c.tc : Thread Cert.MemAttnFwdRefIdeal.nD Cert.MemAttnFwdRefIdeal.τ).loc Cert.MemAttnFwdRefIdeal.main_arg1) = m ((c.tc : Thread Cert.MemAttnFwdRefIdeal.nD Cert.MemAttnFwdRefIdeal.τ).loc Cert.MemAttnFwdRefIdeal.main_arg1))
      ∧ r.2.sem = fun _ => 0)

def quiescent_InProjEarly [hInProjEarly : Cert.InProjEarly.Facts] : Prop :=
  ∀ (m : (ℓ : Loc Cert.InProjEarly.nD Cert.InProjEarly.τ Cert.InProjEarly.sig) → Buf (Elt Bits) ℓ) (g : Dev Cert.InProjEarly.nD → PrngReg), Pre_InProjEarly m →
    θ_run (Cert.InProjEarly.defs (F := Bits)) (onTc (τ := Cert.InProjEarly.τ) (Cert.InProjEarly.main (F := Bits))) ⟨m, fun _ => 0, g⟩ (fun r => (∀ c : Dev Cert.InProjEarly.nD,
      r.2.mem ((c.tc : Thread Cert.InProjEarly.nD Cert.InProjEarly.τ).loc Cert.InProjEarly.main_arg0) = m ((c.tc : Thread Cert.InProjEarly.nD Cert.InProjEarly.τ).loc Cert.InProjEarly.main_arg0)
      ∧ r.2.mem ((c.tc : Thread Cert.InProjEarly.nD Cert.InProjEarly.τ).loc Cert.InProjEarly.main_arg1) = m ((c.tc : Thread Cert.InProjEarly.nD Cert.InProjEarly.τ).loc Cert.InProjEarly.main_arg1))
      ∧ r.2.sem = fun _ => 0)

def quiescent_InProjEarlyIdeal [hInProjEarlyIdeal : Cert.InProjEarlyIdeal.Facts] : Prop :=
  ∀ (m : (ℓ : Loc Cert.InProjEarlyIdeal.nD Cert.InProjEarlyIdeal.τ Cert.InProjEarlyIdeal.sig) → Buf (Elt Ideal) ℓ) (g : Dev Cert.InProjEarlyIdeal.nD → PrngReg), Pre_InProjEarlyIdeal m →
    θ_run (Cert.InProjEarlyIdeal.defs (F := Ideal)) (onTc (τ := Cert.InProjEarlyIdeal.τ) (Cert.InProjEarlyIdeal.main (F := Ideal))) ⟨m, fun _ => 0, g⟩ (fun r => (∀ c : Dev Cert.InProjEarlyIdeal.nD,
      r.2.mem ((c.tc : Thread Cert.InProjEarlyIdeal.nD Cert.InProjEarlyIdeal.τ).loc Cert.InProjEarlyIdeal.main_arg0) = m ((c.tc : Thread Cert.InProjEarlyIdeal.nD Cert.InProjEarlyIdeal.τ).loc Cert.InProjEarlyIdeal.main_arg0)
      ∧ r.2.mem ((c.tc : Thread Cert.InProjEarlyIdeal.nD Cert.InProjEarlyIdeal.τ).loc Cert.InProjEarlyIdeal.main_arg1) = m ((c.tc : Thread Cert.InProjEarlyIdeal.nD Cert.InProjEarlyIdeal.τ).loc Cert.InProjEarlyIdeal.main_arg1))
      ∧ r.2.sem = fun _ => 0)

def quiescent_InProjEarlyRefIdeal [hInProjEarlyRefIdeal : Cert.InProjEarlyRefIdeal.Facts] : Prop :=
  ∀ (m : (ℓ : Loc Cert.InProjEarlyRefIdeal.nD Cert.InProjEarlyRefIdeal.τ Cert.InProjEarlyRefIdeal.sig) → Buf (Elt Ideal) ℓ) (g : Dev Cert.InProjEarlyRefIdeal.nD → PrngReg), Pre_InProjEarlyRefIdeal m →
    θ_run (Cert.InProjEarlyRefIdeal.defs (F := Ideal)) (onTc (τ := Cert.InProjEarlyRefIdeal.τ) (Cert.InProjEarlyRefIdeal.main (F := Ideal))) ⟨m, fun _ => 0, g⟩ (fun r => (∀ c : Dev Cert.InProjEarlyRefIdeal.nD,
      r.2.mem ((c.tc : Thread Cert.InProjEarlyRefIdeal.nD Cert.InProjEarlyRefIdeal.τ).loc Cert.InProjEarlyRefIdeal.main_arg0) = m ((c.tc : Thread Cert.InProjEarlyRefIdeal.nD Cert.InProjEarlyRefIdeal.τ).loc Cert.InProjEarlyRefIdeal.main_arg0)
      ∧ r.2.mem ((c.tc : Thread Cert.InProjEarlyRefIdeal.nD Cert.InProjEarlyRefIdeal.τ).loc Cert.InProjEarlyRefIdeal.main_arg1) = m ((c.tc : Thread Cert.InProjEarlyRefIdeal.nD Cert.InProjEarlyRefIdeal.τ).loc Cert.InProjEarlyRefIdeal.main_arg1))
      ∧ r.2.sem = fun _ => 0)

def quiescent_GradMemNorm [hGradMemNorm : Cert.GradMemNorm.Facts] : Prop :=
  ∀ (m : (ℓ : Loc Cert.GradMemNorm.nD Cert.GradMemNorm.τ Cert.GradMemNorm.sig) → Buf (Elt Bits) ℓ) (g : Dev Cert.GradMemNorm.nD → PrngReg), Pre_GradMemNorm m →
    θ_run (Cert.GradMemNorm.defs (F := Bits)) (onTc (τ := Cert.GradMemNorm.τ) (Cert.GradMemNorm.main (F := Bits))) ⟨m, fun _ => 0, g⟩ (fun r => (∀ c : Dev Cert.GradMemNorm.nD,
      r.2.mem ((c.tc : Thread Cert.GradMemNorm.nD Cert.GradMemNorm.τ).loc Cert.GradMemNorm.main_arg0) = m ((c.tc : Thread Cert.GradMemNorm.nD Cert.GradMemNorm.τ).loc Cert.GradMemNorm.main_arg0)
      ∧ r.2.mem ((c.tc : Thread Cert.GradMemNorm.nD Cert.GradMemNorm.τ).loc Cert.GradMemNorm.main_arg1) = m ((c.tc : Thread Cert.GradMemNorm.nD Cert.GradMemNorm.τ).loc Cert.GradMemNorm.main_arg1))
      ∧ r.2.sem = fun _ => 0)

def quiescent_GradMemNormIdeal [hGradMemNormIdeal : Cert.GradMemNormIdeal.Facts] : Prop :=
  ∀ (m : (ℓ : Loc Cert.GradMemNormIdeal.nD Cert.GradMemNormIdeal.τ Cert.GradMemNormIdeal.sig) → Buf (Elt Ideal) ℓ) (g : Dev Cert.GradMemNormIdeal.nD → PrngReg), Pre_GradMemNormIdeal m →
    θ_run (Cert.GradMemNormIdeal.defs (F := Ideal)) (onTc (τ := Cert.GradMemNormIdeal.τ) (Cert.GradMemNormIdeal.main (F := Ideal))) ⟨m, fun _ => 0, g⟩ (fun r => (∀ c : Dev Cert.GradMemNormIdeal.nD,
      r.2.mem ((c.tc : Thread Cert.GradMemNormIdeal.nD Cert.GradMemNormIdeal.τ).loc Cert.GradMemNormIdeal.main_arg0) = m ((c.tc : Thread Cert.GradMemNormIdeal.nD Cert.GradMemNormIdeal.τ).loc Cert.GradMemNormIdeal.main_arg0)
      ∧ r.2.mem ((c.tc : Thread Cert.GradMemNormIdeal.nD Cert.GradMemNormIdeal.τ).loc Cert.GradMemNormIdeal.main_arg1) = m ((c.tc : Thread Cert.GradMemNormIdeal.nD Cert.GradMemNormIdeal.τ).loc Cert.GradMemNormIdeal.main_arg1))
      ∧ r.2.sem = fun _ => 0)

def quiescent_GradMemNormRefIdeal [hGradMemNormRefIdeal : Cert.GradMemNormRefIdeal.Facts] : Prop :=
  ∀ (m : (ℓ : Loc Cert.GradMemNormRefIdeal.nD Cert.GradMemNormRefIdeal.τ Cert.GradMemNormRefIdeal.sig) → Buf (Elt Ideal) ℓ) (g : Dev Cert.GradMemNormRefIdeal.nD → PrngReg), Pre_GradMemNormRefIdeal m →
    θ_run (Cert.GradMemNormRefIdeal.defs (F := Ideal)) (onTc (τ := Cert.GradMemNormRefIdeal.τ) (Cert.GradMemNormRefIdeal.main (F := Ideal))) ⟨m, fun _ => 0, g⟩ (fun r => (∀ c : Dev Cert.GradMemNormRefIdeal.nD,
      r.2.mem ((c.tc : Thread Cert.GradMemNormRefIdeal.nD Cert.GradMemNormRefIdeal.τ).loc Cert.GradMemNormRefIdeal.main_arg0) = m ((c.tc : Thread Cert.GradMemNormRefIdeal.nD Cert.GradMemNormRefIdeal.τ).loc Cert.GradMemNormRefIdeal.main_arg0)
      ∧ r.2.mem ((c.tc : Thread Cert.GradMemNormRefIdeal.nD Cert.GradMemNormRefIdeal.τ).loc Cert.GradMemNormRefIdeal.main_arg1) = m ((c.tc : Thread Cert.GradMemNormRefIdeal.nD Cert.GradMemNormRefIdeal.τ).loc Cert.GradMemNormRefIdeal.main_arg1))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1)
      ∧ r.2.mem ((c.tc : Thread Cert.RmsIn.nD Cert.RmsIn.τ).loc Cert.RmsIn.main_arg2) = m ((c.tc : Thread Cert.RmsIn.nD Cert.RmsIn.τ).loc Cert.RmsIn.main_arg2))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
      ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1)
      ∧ r.2.mem ((c.tc : Thread Cert.RmsInRefIdeal.nD Cert.RmsInRefIdeal.τ).loc Cert.RmsInRefIdeal.main_arg2) = m ((c.tc : Thread Cert.RmsInRefIdeal.nD Cert.RmsInRefIdeal.τ).loc Cert.RmsInRefIdeal.main_arg2))
      ∧ r.2.sem = fun _ => 0)

def quiescent_GdnPrepFwd [hGdnPrepFwd : Cert.GdnPrepFwd.Facts] : Prop :=
  ∀ (m : (ℓ : Loc Cert.GdnPrepFwd.nD Cert.GdnPrepFwd.τ Cert.GdnPrepFwd.sig) → Buf (Elt Bits) ℓ) (g : Dev Cert.GdnPrepFwd.nD → PrngReg), Pre_GdnPrepFwd m →
    θ_run (Cert.GdnPrepFwd.defs (F := Bits)) (onTc (τ := Cert.GdnPrepFwd.τ) (Cert.GdnPrepFwd.main (F := Bits))) ⟨m, fun _ => 0, g⟩ (fun r => (∀ c : Dev Cert.GdnPrepFwd.nD,
      r.2.mem ((c.tc : Thread Cert.GdnPrepFwd.nD Cert.GdnPrepFwd.τ).loc Cert.GdnPrepFwd.main_arg0) = m ((c.tc : Thread Cert.GdnPrepFwd.nD Cert.GdnPrepFwd.τ).loc Cert.GdnPrepFwd.main_arg0)
      ∧ r.2.mem ((c.tc : Thread Cert.GdnPrepFwd.nD Cert.GdnPrepFwd.τ).loc Cert.GdnPrepFwd.main_arg1) = m ((c.tc : Thread Cert.GdnPrepFwd.nD Cert.GdnPrepFwd.τ).loc Cert.GdnPrepFwd.main_arg1))
      ∧ r.2.sem = fun _ => 0)

def quiescent_GdnPrepFwdIdeal [hGdnPrepFwdIdeal : Cert.GdnPrepFwdIdeal.Facts] : Prop :=
  ∀ (m : (ℓ : Loc Cert.GdnPrepFwdIdeal.nD Cert.GdnPrepFwdIdeal.τ Cert.GdnPrepFwdIdeal.sig) → Buf (Elt Ideal) ℓ) (g : Dev Cert.GdnPrepFwdIdeal.nD → PrngReg), Pre_GdnPrepFwdIdeal m →
    θ_run (Cert.GdnPrepFwdIdeal.defs (F := Ideal)) (onTc (τ := Cert.GdnPrepFwdIdeal.τ) (Cert.GdnPrepFwdIdeal.main (F := Ideal))) ⟨m, fun _ => 0, g⟩ (fun r => (∀ c : Dev Cert.GdnPrepFwdIdeal.nD,
      r.2.mem ((c.tc : Thread Cert.GdnPrepFwdIdeal.nD Cert.GdnPrepFwdIdeal.τ).loc Cert.GdnPrepFwdIdeal.main_arg0) = m ((c.tc : Thread Cert.GdnPrepFwdIdeal.nD Cert.GdnPrepFwdIdeal.τ).loc Cert.GdnPrepFwdIdeal.main_arg0)
      ∧ r.2.mem ((c.tc : Thread Cert.GdnPrepFwdIdeal.nD Cert.GdnPrepFwdIdeal.τ).loc Cert.GdnPrepFwdIdeal.main_arg1) = m ((c.tc : Thread Cert.GdnPrepFwdIdeal.nD Cert.GdnPrepFwdIdeal.τ).loc Cert.GdnPrepFwdIdeal.main_arg1))
      ∧ r.2.sem = fun _ => 0)

def quiescent_GdnPrepFwdRefIdeal [hGdnPrepFwdRefIdeal : Cert.GdnPrepFwdRefIdeal.Facts] : Prop :=
  ∀ (m : (ℓ : Loc Cert.GdnPrepFwdRefIdeal.nD Cert.GdnPrepFwdRefIdeal.τ Cert.GdnPrepFwdRefIdeal.sig) → Buf (Elt Ideal) ℓ) (g : Dev Cert.GdnPrepFwdRefIdeal.nD → PrngReg), Pre_GdnPrepFwdRefIdeal m →
    θ_run (Cert.GdnPrepFwdRefIdeal.defs (F := Ideal)) (onTc (τ := Cert.GdnPrepFwdRefIdeal.τ) (Cert.GdnPrepFwdRefIdeal.main (F := Ideal))) ⟨m, fun _ => 0, g⟩ (fun r => (∀ c : Dev Cert.GdnPrepFwdRefIdeal.nD,
      r.2.mem ((c.tc : Thread Cert.GdnPrepFwdRefIdeal.nD Cert.GdnPrepFwdRefIdeal.τ).loc Cert.GdnPrepFwdRefIdeal.main_arg0) = m ((c.tc : Thread Cert.GdnPrepFwdRefIdeal.nD Cert.GdnPrepFwdRefIdeal.τ).loc Cert.GdnPrepFwdRefIdeal.main_arg0)
      ∧ r.2.mem ((c.tc : Thread Cert.GdnPrepFwdRefIdeal.nD Cert.GdnPrepFwdRefIdeal.τ).loc Cert.GdnPrepFwdRefIdeal.main_arg1) = m ((c.tc : Thread Cert.GdnPrepFwdRefIdeal.nD Cert.GdnPrepFwdRefIdeal.τ).loc Cert.GdnPrepFwdRefIdeal.main_arg1))
      ∧ r.2.sem = fun _ => 0)

def quiescent_RopeTables [hRopeTables : Cert.RopeTables.Facts] : Prop :=
  ∀ (m : (ℓ : Loc Cert.RopeTables.nD Cert.RopeTables.τ Cert.RopeTables.sig) → Buf (Elt Bits) ℓ) (g : Dev Cert.RopeTables.nD → PrngReg), Pre_RopeTables m →
    θ_run (Cert.RopeTables.defs (F := Bits)) (onTc (τ := Cert.RopeTables.τ) (Cert.RopeTables.main (F := Bits))) ⟨m, fun _ => 0, g⟩ (fun r => (∀ c : Dev Cert.RopeTables.nD,
      r.2.mem ((c.tc : Thread Cert.RopeTables.nD Cert.RopeTables.τ).loc Cert.RopeTables.main_arg0) = m ((c.tc : Thread Cert.RopeTables.nD Cert.RopeTables.τ).loc Cert.RopeTables.main_arg0)
      ∧ r.2.mem ((c.tc : Thread Cert.RopeTables.nD Cert.RopeTables.τ).loc Cert.RopeTables.main_arg1) = m ((c.tc : Thread Cert.RopeTables.nD Cert.RopeTables.τ).loc Cert.RopeTables.main_arg1))
      ∧ r.2.sem = fun _ => 0)

def quiescent_RopeTablesIdeal [hRopeTablesIdeal : Cert.RopeTablesIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg), Pre_RopeTablesIdeal m →
    θ_run (Cert.RopeTablesIdeal.defs (F := Ideal)) (onTc (τ := Cert.RopeTablesIdeal.τ) (Cert.RopeTablesIdeal.main (F := Ideal))) ⟨m, fun _ => 0, g⟩ (fun r => (∀ c : Dev Cert.RopeTablesIdeal.nD,
      r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0)
      ∧ r.2.mem ((c.tc : Thread Cert.RopeTablesIdeal.nD Cert.RopeTablesIdeal.τ).loc Cert.RopeTablesIdeal.main_arg1) = m ((c.tc : Thread Cert.RopeTablesIdeal.nD Cert.RopeTablesIdeal.τ).loc Cert.RopeTablesIdeal.main_arg1))
      ∧ r.2.sem = fun _ => 0)

def quiescent_RopeTablesRefIdeal [hRopeTablesRefIdeal : Cert.RopeTablesRefIdeal.Facts] : Prop :=
  ∀ (m : (ℓ : Loc Cert.RopeTablesRefIdeal.nD Cert.RopeTablesRefIdeal.τ Cert.RopeTablesRefIdeal.sig) → Buf (Elt Ideal) ℓ) (g : Dev Cert.RopeTablesRefIdeal.nD → PrngReg), Pre_RopeTablesRefIdeal m →
    θ_run (Cert.RopeTablesRefIdeal.defs (F := Ideal)) (onTc (τ := Cert.RopeTablesRefIdeal.τ) (Cert.RopeTablesRefIdeal.main (F := Ideal))) ⟨m, fun _ => 0, g⟩ (fun r => (∀ c : Dev Cert.RopeTablesRefIdeal.nD,
      r.2.mem ((c.tc : Thread Cert.RopeTablesRefIdeal.nD Cert.RopeTablesRefIdeal.τ).loc Cert.RopeTablesRefIdeal.main_arg0) = m ((c.tc : Thread Cert.RopeTablesRefIdeal.nD Cert.RopeTablesRefIdeal.τ).loc Cert.RopeTablesRefIdeal.main_arg0)
      ∧ r.2.mem ((c.tc : Thread Cert.RopeTablesRefIdeal.nD Cert.RopeTablesRefIdeal.τ).loc Cert.RopeTablesRefIdeal.main_arg1) = m ((c.tc : Thread Cert.RopeTablesRefIdeal.nD Cert.RopeTablesRefIdeal.τ).loc Cert.RopeTablesRefIdeal.main_arg1))
      ∧ r.2.sem = fun _ => 0)

def quiescent_AdamwGdnConv [hAdamwGdnConv : Cert.AdamwGdnConv.Facts] : Prop :=
  ∀ (m : (ℓ : Loc Cert.AdamwGdnConv.nD Cert.AdamwGdnConv.τ Cert.AdamwGdnConv.sig) → Buf (Elt Bits) ℓ) (g : Dev Cert.AdamwGdnConv.nD → PrngReg), Pre_AdamwGdnConv m →
    θ_run (Cert.AdamwGdnConv.defs (F := Bits)) (onTc (τ := Cert.AdamwGdnConv.τ) (Cert.AdamwGdnConv.main (F := Bits))) ⟨m, fun _ => 0, g⟩ (fun r => (∀ c : Dev Cert.AdamwGdnConv.nD,
      r.2.mem ((c.tc : Thread Cert.AdamwGdnConv.nD Cert.AdamwGdnConv.τ).loc Cert.AdamwGdnConv.main_arg0) = m ((c.tc : Thread Cert.AdamwGdnConv.nD Cert.AdamwGdnConv.τ).loc Cert.AdamwGdnConv.main_arg0)
      ∧ r.2.mem ((c.tc : Thread Cert.AdamwGdnConv.nD Cert.AdamwGdnConv.τ).loc Cert.AdamwGdnConv.main_arg1) = m ((c.tc : Thread Cert.AdamwGdnConv.nD Cert.AdamwGdnConv.τ).loc Cert.AdamwGdnConv.main_arg1)
      ∧ r.2.mem ((c.tc : Thread Cert.AdamwGdnConv.nD Cert.AdamwGdnConv.τ).loc Cert.AdamwGdnConv.main_arg2) = m ((c.tc : Thread Cert.AdamwGdnConv.nD Cert.AdamwGdnConv.τ).loc Cert.AdamwGdnConv.main_arg2)
      ∧ r.2.mem ((c.tc : Thread Cert.AdamwGdnConv.nD Cert.AdamwGdnConv.τ).loc Cert.AdamwGdnConv.main_arg3) = m ((c.tc : Thread Cert.AdamwGdnConv.nD Cert.AdamwGdnConv.τ).loc Cert.AdamwGdnConv.main_arg3))
      ∧ r.2.sem = fun _ => 0)

def quiescent_AdamwGdnConvIdeal [hAdamwGdnConvIdeal : Cert.AdamwGdnConvIdeal.Facts] : Prop :=
  ∀ (m : (ℓ : Loc Cert.AdamwGdnConvIdeal.nD Cert.AdamwGdnConvIdeal.τ Cert.AdamwGdnConvIdeal.sig) → Buf (Elt Ideal) ℓ) (g : Dev Cert.AdamwGdnConvIdeal.nD → PrngReg), Pre_AdamwGdnConvIdeal m →
    θ_run (Cert.AdamwGdnConvIdeal.defs (F := Ideal)) (onTc (τ := Cert.AdamwGdnConvIdeal.τ) (Cert.AdamwGdnConvIdeal.main (F := Ideal))) ⟨m, fun _ => 0, g⟩ (fun r => (∀ c : Dev Cert.AdamwGdnConvIdeal.nD,
      r.2.mem ((c.tc : Thread Cert.AdamwGdnConvIdeal.nD Cert.AdamwGdnConvIdeal.τ).loc Cert.AdamwGdnConvIdeal.main_arg0) = m ((c.tc : Thread Cert.AdamwGdnConvIdeal.nD Cert.AdamwGdnConvIdeal.τ).loc Cert.AdamwGdnConvIdeal.main_arg0)
      ∧ r.2.mem ((c.tc : Thread Cert.AdamwGdnConvIdeal.nD Cert.AdamwGdnConvIdeal.τ).loc Cert.AdamwGdnConvIdeal.main_arg1) = m ((c.tc : Thread Cert.AdamwGdnConvIdeal.nD Cert.AdamwGdnConvIdeal.τ).loc Cert.AdamwGdnConvIdeal.main_arg1)
      ∧ r.2.mem ((c.tc : Thread Cert.AdamwGdnConvIdeal.nD Cert.AdamwGdnConvIdeal.τ).loc Cert.AdamwGdnConvIdeal.main_arg2) = m ((c.tc : Thread Cert.AdamwGdnConvIdeal.nD Cert.AdamwGdnConvIdeal.τ).loc Cert.AdamwGdnConvIdeal.main_arg2)
      ∧ r.2.mem ((c.tc : Thread Cert.AdamwGdnConvIdeal.nD Cert.AdamwGdnConvIdeal.τ).loc Cert.AdamwGdnConvIdeal.main_arg3) = m ((c.tc : Thread Cert.AdamwGdnConvIdeal.nD Cert.AdamwGdnConvIdeal.τ).loc Cert.AdamwGdnConvIdeal.main_arg3))
      ∧ r.2.sem = fun _ => 0)

def quiescent_AdamwGdnConvRefIdeal [hAdamwGdnConvRefIdeal : Cert.AdamwGdnConvRefIdeal.Facts] : Prop :=
  ∀ (m : (ℓ : Loc Cert.AdamwGdnConvRefIdeal.nD Cert.AdamwGdnConvRefIdeal.τ Cert.AdamwGdnConvRefIdeal.sig) → Buf (Elt Ideal) ℓ) (g : Dev Cert.AdamwGdnConvRefIdeal.nD → PrngReg), Pre_AdamwGdnConvRefIdeal m →
    θ_run (Cert.AdamwGdnConvRefIdeal.defs (F := Ideal)) (onTc (τ := Cert.AdamwGdnConvRefIdeal.τ) (Cert.AdamwGdnConvRefIdeal.main (F := Ideal))) ⟨m, fun _ => 0, g⟩ (fun r => (∀ c : Dev Cert.AdamwGdnConvRefIdeal.nD,
      r.2.mem ((c.tc : Thread Cert.AdamwGdnConvRefIdeal.nD Cert.AdamwGdnConvRefIdeal.τ).loc Cert.AdamwGdnConvRefIdeal.main_arg0) = m ((c.tc : Thread Cert.AdamwGdnConvRefIdeal.nD Cert.AdamwGdnConvRefIdeal.τ).loc Cert.AdamwGdnConvRefIdeal.main_arg0)
      ∧ r.2.mem ((c.tc : Thread Cert.AdamwGdnConvRefIdeal.nD Cert.AdamwGdnConvRefIdeal.τ).loc Cert.AdamwGdnConvRefIdeal.main_arg1) = m ((c.tc : Thread Cert.AdamwGdnConvRefIdeal.nD Cert.AdamwGdnConvRefIdeal.τ).loc Cert.AdamwGdnConvRefIdeal.main_arg1)
      ∧ r.2.mem ((c.tc : Thread Cert.AdamwGdnConvRefIdeal.nD Cert.AdamwGdnConvRefIdeal.τ).loc Cert.AdamwGdnConvRefIdeal.main_arg2) = m ((c.tc : Thread Cert.AdamwGdnConvRefIdeal.nD Cert.AdamwGdnConvRefIdeal.τ).loc Cert.AdamwGdnConvRefIdeal.main_arg2)
      ∧ r.2.mem ((c.tc : Thread Cert.AdamwGdnConvRefIdeal.nD Cert.AdamwGdnConvRefIdeal.τ).loc Cert.AdamwGdnConvRefIdeal.main_arg3) = m ((c.tc : Thread Cert.AdamwGdnConvRefIdeal.nD Cert.AdamwGdnConvRefIdeal.τ).loc Cert.AdamwGdnConvRefIdeal.main_arg3))
      ∧ r.2.sem = fun _ => 0)

def quiescent_AdamwWMemKv [hAdamwWMemKv : Cert.AdamwWMemKv.Facts] : Prop :=
  ∀ (m : (ℓ : Loc Cert.AdamwWMemKv.nD Cert.AdamwWMemKv.τ Cert.AdamwWMemKv.sig) → Buf (Elt Bits) ℓ) (g : Dev Cert.AdamwWMemKv.nD → PrngReg), Pre_AdamwWMemKv m →
    θ_run (Cert.AdamwWMemKv.defs (F := Bits)) (onTc (τ := Cert.AdamwWMemKv.τ) (Cert.AdamwWMemKv.main (F := Bits))) ⟨m, fun _ => 0, g⟩ (fun r => (∀ c : Dev Cert.AdamwWMemKv.nD,
      r.2.mem ((c.tc : Thread Cert.AdamwWMemKv.nD Cert.AdamwWMemKv.τ).loc Cert.AdamwWMemKv.main_arg0) = m ((c.tc : Thread Cert.AdamwWMemKv.nD Cert.AdamwWMemKv.τ).loc Cert.AdamwWMemKv.main_arg0)
      ∧ r.2.mem ((c.tc : Thread Cert.AdamwWMemKv.nD Cert.AdamwWMemKv.τ).loc Cert.AdamwWMemKv.main_arg1) = m ((c.tc : Thread Cert.AdamwWMemKv.nD Cert.AdamwWMemKv.τ).loc Cert.AdamwWMemKv.main_arg1)
      ∧ r.2.mem ((c.tc : Thread Cert.AdamwWMemKv.nD Cert.AdamwWMemKv.τ).loc Cert.AdamwWMemKv.main_arg2) = m ((c.tc : Thread Cert.AdamwWMemKv.nD Cert.AdamwWMemKv.τ).loc Cert.AdamwWMemKv.main_arg2)
      ∧ r.2.mem ((c.tc : Thread Cert.AdamwWMemKv.nD Cert.AdamwWMemKv.τ).loc Cert.AdamwWMemKv.main_arg3) = m ((c.tc : Thread Cert.AdamwWMemKv.nD Cert.AdamwWMemKv.τ).loc Cert.AdamwWMemKv.main_arg3)
      ∧ r.2.mem ((c.tc : Thread Cert.AdamwWMemKv.nD Cert.AdamwWMemKv.τ).loc Cert.AdamwWMemKv.main_arg4) = m ((c.tc : Thread Cert.AdamwWMemKv.nD Cert.AdamwWMemKv.τ).loc Cert.AdamwWMemKv.main_arg4))
      ∧ r.2.sem = fun _ => 0)

def quiescent_AdamwWMemKvIdeal [hAdamwWMemKvIdeal : Cert.AdamwWMemKvIdeal.Facts] : Prop :=
  ∀ (m : (ℓ : Loc Cert.AdamwWMemKvIdeal.nD Cert.AdamwWMemKvIdeal.τ Cert.AdamwWMemKvIdeal.sig) → Buf (Elt Ideal) ℓ) (g : Dev Cert.AdamwWMemKvIdeal.nD → PrngReg), Pre_AdamwWMemKvIdeal m →
    θ_run (Cert.AdamwWMemKvIdeal.defs (F := Ideal)) (onTc (τ := Cert.AdamwWMemKvIdeal.τ) (Cert.AdamwWMemKvIdeal.main (F := Ideal))) ⟨m, fun _ => 0, g⟩ (fun r => (∀ c : Dev Cert.AdamwWMemKvIdeal.nD,
      r.2.mem ((c.tc : Thread Cert.AdamwWMemKvIdeal.nD Cert.AdamwWMemKvIdeal.τ).loc Cert.AdamwWMemKvIdeal.main_arg0) = m ((c.tc : Thread Cert.AdamwWMemKvIdeal.nD Cert.AdamwWMemKvIdeal.τ).loc Cert.AdamwWMemKvIdeal.main_arg0)
      ∧ r.2.mem ((c.tc : Thread Cert.AdamwWMemKvIdeal.nD Cert.AdamwWMemKvIdeal.τ).loc Cert.AdamwWMemKvIdeal.main_arg1) = m ((c.tc : Thread Cert.AdamwWMemKvIdeal.nD Cert.AdamwWMemKvIdeal.τ).loc Cert.AdamwWMemKvIdeal.main_arg1)
      ∧ r.2.mem ((c.tc : Thread Cert.AdamwWMemKvIdeal.nD Cert.AdamwWMemKvIdeal.τ).loc Cert.AdamwWMemKvIdeal.main_arg2) = m ((c.tc : Thread Cert.AdamwWMemKvIdeal.nD Cert.AdamwWMemKvIdeal.τ).loc Cert.AdamwWMemKvIdeal.main_arg2)
      ∧ r.2.mem ((c.tc : Thread Cert.AdamwWMemKvIdeal.nD Cert.AdamwWMemKvIdeal.τ).loc Cert.AdamwWMemKvIdeal.main_arg3) = m ((c.tc : Thread Cert.AdamwWMemKvIdeal.nD Cert.AdamwWMemKvIdeal.τ).loc Cert.AdamwWMemKvIdeal.main_arg3)
      ∧ r.2.mem ((c.tc : Thread Cert.AdamwWMemKvIdeal.nD Cert.AdamwWMemKvIdeal.τ).loc Cert.AdamwWMemKvIdeal.main_arg4) = m ((c.tc : Thread Cert.AdamwWMemKvIdeal.nD Cert.AdamwWMemKvIdeal.τ).loc Cert.AdamwWMemKvIdeal.main_arg4))
      ∧ r.2.sem = fun _ => 0)

def quiescent_AdamwWMemKvRefIdeal [hAdamwWMemKvRefIdeal : Cert.AdamwWMemKvRefIdeal.Facts] : Prop :=
  ∀ (m : (ℓ : Loc Cert.AdamwWMemKvRefIdeal.nD Cert.AdamwWMemKvRefIdeal.τ Cert.AdamwWMemKvRefIdeal.sig) → Buf (Elt Ideal) ℓ) (g : Dev Cert.AdamwWMemKvRefIdeal.nD → PrngReg), Pre_AdamwWMemKvRefIdeal m →
    θ_run (Cert.AdamwWMemKvRefIdeal.defs (F := Ideal)) (onTc (τ := Cert.AdamwWMemKvRefIdeal.τ) (Cert.AdamwWMemKvRefIdeal.main (F := Ideal))) ⟨m, fun _ => 0, g⟩ (fun r => (∀ c : Dev Cert.AdamwWMemKvRefIdeal.nD,
      r.2.mem ((c.tc : Thread Cert.AdamwWMemKvRefIdeal.nD Cert.AdamwWMemKvRefIdeal.τ).loc Cert.AdamwWMemKvRefIdeal.main_arg0) = m ((c.tc : Thread Cert.AdamwWMemKvRefIdeal.nD Cert.AdamwWMemKvRefIdeal.τ).loc Cert.AdamwWMemKvRefIdeal.main_arg0)
      ∧ r.2.mem ((c.tc : Thread Cert.AdamwWMemKvRefIdeal.nD Cert.AdamwWMemKvRefIdeal.τ).loc Cert.AdamwWMemKvRefIdeal.main_arg1) = m ((c.tc : Thread Cert.AdamwWMemKvRefIdeal.nD Cert.AdamwWMemKvRefIdeal.τ).loc Cert.AdamwWMemKvRefIdeal.main_arg1)
      ∧ r.2.mem ((c.tc : Thread Cert.AdamwWMemKvRefIdeal.nD Cert.AdamwWMemKvRefIdeal.τ).loc Cert.AdamwWMemKvRefIdeal.main_arg2) = m ((c.tc : Thread Cert.AdamwWMemKvRefIdeal.nD Cert.AdamwWMemKvRefIdeal.τ).loc Cert.AdamwWMemKvRefIdeal.main_arg2)
      ∧ r.2.mem ((c.tc : Thread Cert.AdamwWMemKvRefIdeal.nD Cert.AdamwWMemKvRefIdeal.τ).loc Cert.AdamwWMemKvRefIdeal.main_arg3) = m ((c.tc : Thread Cert.AdamwWMemKvRefIdeal.nD Cert.AdamwWMemKvRefIdeal.τ).loc Cert.AdamwWMemKvRefIdeal.main_arg3)
      ∧ r.2.mem ((c.tc : Thread Cert.AdamwWMemKvRefIdeal.nD Cert.AdamwWMemKvRefIdeal.τ).loc Cert.AdamwWMemKvRefIdeal.main_arg4) = m ((c.tc : Thread Cert.AdamwWMemKvRefIdeal.nD Cert.AdamwWMemKvRefIdeal.τ).loc Cert.AdamwWMemKvRefIdeal.main_arg4))
      ∧ r.2.sem = fun _ => 0)

def quiescent_AdamwWOut [hAdamwWOut : Cert.AdamwWOut.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3)
      ∧ r.2.mem ((c.tc : Thread Cert.AdamwWOut.nD Cert.AdamwWOut.τ).loc Cert.AdamwWOut.main_arg4) = m ((c.tc : Thread Cert.AdamwWOut.nD Cert.AdamwWOut.τ).loc Cert.AdamwWOut.main_arg4))
      ∧ r.2.sem = fun _ => 0)

def quiescent_AdamwWOutIdeal [hAdamwWOutIdeal : Cert.AdamwWOutIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
      ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4))
      ∧ r.2.sem = fun _ => 0)

def quiescent_AdamwWOutRefIdeal [hAdamwWOutRefIdeal : Cert.AdamwWOutRefIdeal.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3)
      ∧ r.2.mem ((c.tc : Thread Cert.AdamwWOutRefIdeal.nD Cert.AdamwWOutRefIdeal.τ).loc Cert.AdamwWOutRefIdeal.main_arg4) = m ((c.tc : Thread Cert.AdamwWOutRefIdeal.nD Cert.AdamwWOutRefIdeal.τ).loc Cert.AdamwWOutRefIdeal.main_arg4))
      ∧ r.2.sem = fun _ => 0)

def quiescent_GdnGateFwd [hGdnGateFwd : Cert.GdnGateFwd.Facts] : Prop :=
  ∀ (m : (ℓ : Loc Cert.GdnGateFwd.nD Cert.GdnGateFwd.τ Cert.GdnGateFwd.sig) → Buf (Elt Bits) ℓ) (g : Dev Cert.GdnGateFwd.nD → PrngReg), Pre_GdnGateFwd m →
    θ_run (Cert.GdnGateFwd.defs (F := Bits)) (onTc (τ := Cert.GdnGateFwd.τ) (Cert.GdnGateFwd.main (F := Bits))) ⟨m, fun _ => 0, g⟩ (fun r => (∀ c : Dev Cert.GdnGateFwd.nD,
      r.2.mem ((c.tc : Thread Cert.GdnGateFwd.nD Cert.GdnGateFwd.τ).loc Cert.GdnGateFwd.main_arg0) = m ((c.tc : Thread Cert.GdnGateFwd.nD Cert.GdnGateFwd.τ).loc Cert.GdnGateFwd.main_arg0)
      ∧ r.2.mem ((c.tc : Thread Cert.GdnGateFwd.nD Cert.GdnGateFwd.τ).loc Cert.GdnGateFwd.main_arg1) = m ((c.tc : Thread Cert.GdnGateFwd.nD Cert.GdnGateFwd.τ).loc Cert.GdnGateFwd.main_arg1)
      ∧ r.2.mem ((c.tc : Thread Cert.GdnGateFwd.nD Cert.GdnGateFwd.τ).loc Cert.GdnGateFwd.main_arg2) = m ((c.tc : Thread Cert.GdnGateFwd.nD Cert.GdnGateFwd.τ).loc Cert.GdnGateFwd.main_arg2))
      ∧ r.2.sem = fun _ => 0)

def quiescent_GdnGateFwdIdeal [hGdnGateFwdIdeal : Cert.GdnGateFwdIdeal.Facts] : Prop :=
  ∀ (m : (ℓ : Loc Cert.GdnGateFwdIdeal.nD Cert.GdnGateFwdIdeal.τ Cert.GdnGateFwdIdeal.sig) → Buf (Elt Ideal) ℓ) (g : Dev Cert.GdnGateFwdIdeal.nD → PrngReg), Pre_GdnGateFwdIdeal m →
    θ_run (Cert.GdnGateFwdIdeal.defs (F := Ideal)) (onTc (τ := Cert.GdnGateFwdIdeal.τ) (Cert.GdnGateFwdIdeal.main (F := Ideal))) ⟨m, fun _ => 0, g⟩ (fun r => (∀ c : Dev Cert.GdnGateFwdIdeal.nD,
      r.2.mem ((c.tc : Thread Cert.GdnGateFwdIdeal.nD Cert.GdnGateFwdIdeal.τ).loc Cert.GdnGateFwdIdeal.main_arg0) = m ((c.tc : Thread Cert.GdnGateFwdIdeal.nD Cert.GdnGateFwdIdeal.τ).loc Cert.GdnGateFwdIdeal.main_arg0)
      ∧ r.2.mem ((c.tc : Thread Cert.GdnGateFwdIdeal.nD Cert.GdnGateFwdIdeal.τ).loc Cert.GdnGateFwdIdeal.main_arg1) = m ((c.tc : Thread Cert.GdnGateFwdIdeal.nD Cert.GdnGateFwdIdeal.τ).loc Cert.GdnGateFwdIdeal.main_arg1)
      ∧ r.2.mem ((c.tc : Thread Cert.GdnGateFwdIdeal.nD Cert.GdnGateFwdIdeal.τ).loc Cert.GdnGateFwdIdeal.main_arg2) = m ((c.tc : Thread Cert.GdnGateFwdIdeal.nD Cert.GdnGateFwdIdeal.τ).loc Cert.GdnGateFwdIdeal.main_arg2))
      ∧ r.2.sem = fun _ => 0)

def quiescent_GdnGateFwdRefIdeal [hGdnGateFwdRefIdeal : Cert.GdnGateFwdRefIdeal.Facts] : Prop :=
  ∀ (m : (ℓ : Loc Cert.GdnGateFwdRefIdeal.nD Cert.GdnGateFwdRefIdeal.τ Cert.GdnGateFwdRefIdeal.sig) → Buf (Elt Ideal) ℓ) (g : Dev Cert.GdnGateFwdRefIdeal.nD → PrngReg), Pre_GdnGateFwdRefIdeal m →
    θ_run (Cert.GdnGateFwdRefIdeal.defs (F := Ideal)) (onTc (τ := Cert.GdnGateFwdRefIdeal.τ) (Cert.GdnGateFwdRefIdeal.main (F := Ideal))) ⟨m, fun _ => 0, g⟩ (fun r => (∀ c : Dev Cert.GdnGateFwdRefIdeal.nD,
      r.2.mem ((c.tc : Thread Cert.GdnGateFwdRefIdeal.nD Cert.GdnGateFwdRefIdeal.τ).loc Cert.GdnGateFwdRefIdeal.main_arg0) = m ((c.tc : Thread Cert.GdnGateFwdRefIdeal.nD Cert.GdnGateFwdRefIdeal.τ).loc Cert.GdnGateFwdRefIdeal.main_arg0)
      ∧ r.2.mem ((c.tc : Thread Cert.GdnGateFwdRefIdeal.nD Cert.GdnGateFwdRefIdeal.τ).loc Cert.GdnGateFwdRefIdeal.main_arg1) = m ((c.tc : Thread Cert.GdnGateFwdRefIdeal.nD Cert.GdnGateFwdRefIdeal.τ).loc Cert.GdnGateFwdRefIdeal.main_arg1)
      ∧ r.2.mem ((c.tc : Thread Cert.GdnGateFwdRefIdeal.nD Cert.GdnGateFwdRefIdeal.τ).loc Cert.GdnGateFwdRefIdeal.main_arg2) = m ((c.tc : Thread Cert.GdnGateFwdRefIdeal.nD Cert.GdnGateFwdRefIdeal.τ).loc Cert.GdnGateFwdRefIdeal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProjBwd_InProjBwdIdeal : Prop :=
  True

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)
      ∧ m' ((c.tc : Thread Cert.InProjBwdRefIdeal.nD Cert.InProjBwdRefIdeal.τ).loc Cert.InProjBwdRefIdeal.main_arg8) = m ((c.tc : Thread Cert.InProjBwdIdeal.nD Cert.InProjBwdIdeal.τ).loc Cert.InProjBwdIdeal.main_arg8)) →
    ∃ (v0 : (c : Dev Cert.InProjBwdIdeal.nD) → Buf (Elt Ideal) ((c.tc : Thread Cert.InProjBwdIdeal.nD Cert.InProjBwdIdeal.τ).loc Cert.InProjBwdIdeal.main_v0_0)) (v1 : (c : Dev Cert.InProjBwdIdeal.nD) → Buf (Elt Ideal) ((c.tc : Thread Cert.InProjBwdIdeal.nD Cert.InProjBwdIdeal.τ).loc Cert.InProjBwdIdeal.main_v0_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v0_0) = v0 c
          ∧ r.2.mem ((c.tc : Thread Cert.InProjBwdIdeal.nD Cert.InProjBwdIdeal.τ).loc Cert.InProjBwdIdeal.main_v0_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v40) = v0 c
          ∧ r.2.mem ((c.tc : Thread Cert.InProjBwdRefIdeal.nD Cert.InProjBwdRefIdeal.τ).loc Cert.InProjBwdRefIdeal.main_v23) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7)
          ∧ r.2.mem ((c.tc : Thread Cert.InProjBwdRefIdeal.nD Cert.InProjBwdRefIdeal.τ).loc Cert.InProjBwdRefIdeal.main_arg8) = m' ((c.tc : Thread Cert.InProjBwdRefIdeal.nD Cert.InProjBwdRefIdeal.τ).loc Cert.InProjBwdRefIdeal.main_arg8))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)
      ∧ m' ((c.tc : Thread Cert.GradWInRefIdeal.nD Cert.GradWInRefIdeal.τ).loc Cert.GradWInRefIdeal.main_arg2) = m ((c.tc : Thread Cert.GradWInIdeal.nD Cert.GradWInIdeal.τ).loc Cert.GradWInIdeal.main_arg2)
      ∧ m' ((c.tc : Thread Cert.GradWInRefIdeal.nD Cert.GradWInRefIdeal.τ).loc Cert.GradWInRefIdeal.main_arg3) = m ((c.tc : Thread Cert.GradWInIdeal.nD Cert.GradWInIdeal.τ).loc Cert.GradWInIdeal.main_arg3)
      ∧ m' ((c.tc : Thread Cert.GradWInRefIdeal.nD Cert.GradWInRefIdeal.τ).loc Cert.GradWInRefIdeal.main_arg4) = m ((c.tc : Thread Cert.GradWInIdeal.nD Cert.GradWInIdeal.τ).loc Cert.GradWInIdeal.main_arg4)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
          ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3)
          ∧ r.2.mem ((c.tc : Thread Cert.GradWInIdeal.nD Cert.GradWInIdeal.τ).loc Cert.GradWInIdeal.main_arg4) = m ((c.tc : Thread Cert.GradWInIdeal.nD Cert.GradWInIdeal.τ).loc Cert.GradWInIdeal.main_arg4))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v9) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1)
          ∧ r.2.mem ((c.tc : Thread Cert.GradWInRefIdeal.nD Cert.GradWInRefIdeal.τ).loc Cert.GradWInRefIdeal.main_arg2) = m' ((c.tc : Thread Cert.GradWInRefIdeal.nD Cert.GradWInRefIdeal.τ).loc Cert.GradWInRefIdeal.main_arg2)
          ∧ r.2.mem ((c.tc : Thread Cert.GradWInRefIdeal.nD Cert.GradWInRefIdeal.τ).loc Cert.GradWInRefIdeal.main_arg3) = m' ((c.tc : Thread Cert.GradWInRefIdeal.nD Cert.GradWInRefIdeal.τ).loc Cert.GradWInRefIdeal.main_arg3)
          ∧ r.2.mem ((c.tc : Thread Cert.GradWInRefIdeal.nD Cert.GradWInRefIdeal.τ).loc Cert.GradWInRefIdeal.main_arg4) = m' ((c.tc : Thread Cert.GradWInRefIdeal.nD Cert.GradWInRefIdeal.τ).loc Cert.GradWInRefIdeal.main_arg4))

def preserves_MergeBwd_MergeBwdIdeal : Prop :=
  True

def algebraic_MergeBwdIdeal_MergeBwdRefIdeal_pre_merge_finite [hMergeBwdIdeal : Cert.MergeBwdIdeal.Facts] [hMergeBwdRefIdeal : Cert.MergeBwdRefIdeal.Facts] [hPre_merge_finite : Cert.Pre_merge_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal_merge_finite m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v59) = v0 c
          ∧ r.2.mem ((c.tc : Thread Cert.MergeBwdRefIdeal.nD Cert.MergeBwdRefIdeal.τ).loc Cert.MergeBwdRefIdeal.main_v60) = v1 c
          ∧ r.2.mem ((c.tc : Thread Cert.MergeBwdRefIdeal.nD Cert.MergeBwdRefIdeal.τ).loc Cert.MergeBwdRefIdeal.main_v61) = v2 c
          ∧ r.2.mem ((c.tc : Thread Cert.MergeBwdRefIdeal.nD Cert.MergeBwdRefIdeal.τ).loc Cert.MergeBwdRefIdeal.main_v62) = v3 c
          ∧ r.2.mem ((c.tc : Thread Cert.MergeBwdRefIdeal.nD Cert.MergeBwdRefIdeal.τ).loc Cert.MergeBwdRefIdeal.main_v57) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v6) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v6) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)) (v4 : (c : Dev Cert.MergeFwdIdeal.nD) → Buf (Elt Ideal) ((c.tc : Thread Cert.MergeFwdIdeal.nD Cert.MergeFwdIdeal.τ).loc Cert.MergeFwdIdeal.main_v0_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_v0_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v77) = v0 c
          ∧ r.2.mem ((c.tc : Thread Cert.MergeFwdRefIdeal.nD Cert.MergeFwdRefIdeal.τ).loc Cert.MergeFwdRefIdeal.main_v76) = v1 c
          ∧ r.2.mem ((c.tc : Thread Cert.MergeFwdRefIdeal.nD Cert.MergeFwdRefIdeal.τ).loc Cert.MergeFwdRefIdeal.main_v78) = v2 c
          ∧ r.2.mem ((c.tc : Thread Cert.MergeFwdRefIdeal.nD Cert.MergeFwdRefIdeal.τ).loc Cert.MergeFwdRefIdeal.main_v51) = v3 c
          ∧ r.2.mem ((c.tc : Thread Cert.MergeFwdRefIdeal.nD Cert.MergeFwdRefIdeal.τ).loc Cert.MergeFwdRefIdeal.main_v60) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_MlaProjBwd_MlaProjBwdIdeal : Prop :=
  True

def algebraic_MlaProjBwdIdeal_MlaProjBwdRefIdeal [hMlaProjBwdIdeal : Cert.MlaProjBwdIdeal.Facts] [hMlaProjBwdRefIdeal : Cert.MlaProjBwdRefIdeal.Facts] : Prop :=
  ∀ (m : (ℓ : Loc Cert.MlaProjBwdIdeal.nD Cert.MlaProjBwdIdeal.τ Cert.MlaProjBwdIdeal.sig) → Buf (Elt Ideal) ℓ) (g : Dev Cert.MlaProjBwdIdeal.nD → PrngReg)
    (m' : (ℓ : Loc Cert.MlaProjBwdRefIdeal.nD Cert.MlaProjBwdRefIdeal.τ Cert.MlaProjBwdRefIdeal.sig) → Buf (Elt Ideal) ℓ) (g' : Dev Cert.MlaProjBwdRefIdeal.nD → PrngReg), Pre_MlaProjBwdIdeal m →
    (∀ c : Dev Cert.MlaProjBwdIdeal.nD,
      m' ((c.tc : Thread Cert.MlaProjBwdRefIdeal.nD Cert.MlaProjBwdRefIdeal.τ).loc Cert.MlaProjBwdRefIdeal.main_arg0) = m ((c.tc : Thread Cert.MlaProjBwdIdeal.nD Cert.MlaProjBwdIdeal.τ).loc Cert.MlaProjBwdIdeal.main_arg0)
      ∧ m' ((c.tc : Thread Cert.MlaProjBwdRefIdeal.nD Cert.MlaProjBwdRefIdeal.τ).loc Cert.MlaProjBwdRefIdeal.main_arg1) = m ((c.tc : Thread Cert.MlaProjBwdIdeal.nD Cert.MlaProjBwdIdeal.τ).loc Cert.MlaProjBwdIdeal.main_arg1)
      ∧ m' ((c.tc : Thread Cert.MlaProjBwdRefIdeal.nD Cert.MlaProjBwdRefIdeal.τ).loc Cert.MlaProjBwdRefIdeal.main_arg2) = m ((c.tc : Thread Cert.MlaProjBwdIdeal.nD Cert.MlaProjBwdIdeal.τ).loc Cert.MlaProjBwdIdeal.main_arg2)
      ∧ m' ((c.tc : Thread Cert.MlaProjBwdRefIdeal.nD Cert.MlaProjBwdRefIdeal.τ).loc Cert.MlaProjBwdRefIdeal.main_arg3) = m ((c.tc : Thread Cert.MlaProjBwdIdeal.nD Cert.MlaProjBwdIdeal.τ).loc Cert.MlaProjBwdIdeal.main_arg3)
      ∧ m' ((c.tc : Thread Cert.MlaProjBwdRefIdeal.nD Cert.MlaProjBwdRefIdeal.τ).loc Cert.MlaProjBwdRefIdeal.main_arg4) = m ((c.tc : Thread Cert.MlaProjBwdIdeal.nD Cert.MlaProjBwdIdeal.τ).loc Cert.MlaProjBwdIdeal.main_arg4)
      ∧ m' ((c.tc : Thread Cert.MlaProjBwdRefIdeal.nD Cert.MlaProjBwdRefIdeal.τ).loc Cert.MlaProjBwdRefIdeal.main_arg5) = m ((c.tc : Thread Cert.MlaProjBwdIdeal.nD Cert.MlaProjBwdIdeal.τ).loc Cert.MlaProjBwdIdeal.main_arg5)
      ∧ m' ((c.tc : Thread Cert.MlaProjBwdRefIdeal.nD Cert.MlaProjBwdRefIdeal.τ).loc Cert.MlaProjBwdRefIdeal.main_arg6) = m ((c.tc : Thread Cert.MlaProjBwdIdeal.nD Cert.MlaProjBwdIdeal.τ).loc Cert.MlaProjBwdIdeal.main_arg6)
      ∧ m' ((c.tc : Thread Cert.MlaProjBwdRefIdeal.nD Cert.MlaProjBwdRefIdeal.τ).loc Cert.MlaProjBwdRefIdeal.main_arg7) = m ((c.tc : Thread Cert.MlaProjBwdIdeal.nD Cert.MlaProjBwdIdeal.τ).loc Cert.MlaProjBwdIdeal.main_arg7)
      ∧ m' ((c.tc : Thread Cert.MlaProjBwdRefIdeal.nD Cert.MlaProjBwdRefIdeal.τ).loc Cert.MlaProjBwdRefIdeal.main_arg8) = m ((c.tc : Thread Cert.MlaProjBwdIdeal.nD Cert.MlaProjBwdIdeal.τ).loc Cert.MlaProjBwdIdeal.main_arg8)
      ∧ m' ((c.tc : Thread Cert.MlaProjBwdRefIdeal.nD Cert.MlaProjBwdRefIdeal.τ).loc Cert.MlaProjBwdRefIdeal.main_arg9) = m ((c.tc : Thread Cert.MlaProjBwdIdeal.nD Cert.MlaProjBwdIdeal.τ).loc Cert.MlaProjBwdIdeal.main_arg9)
      ∧ m' ((c.tc : Thread Cert.MlaProjBwdRefIdeal.nD Cert.MlaProjBwdRefIdeal.τ).loc Cert.MlaProjBwdRefIdeal.main_arg10) = m ((c.tc : Thread Cert.MlaProjBwdIdeal.nD Cert.MlaProjBwdIdeal.τ).loc Cert.MlaProjBwdIdeal.main_arg10)) →
    ∃ (v0 : (c : Dev Cert.MlaProjBwdIdeal.nD) → Buf (Elt Ideal) ((c.tc : Thread Cert.MlaProjBwdIdeal.nD Cert.MlaProjBwdIdeal.τ).loc Cert.MlaProjBwdIdeal.main_v0_0)) (v1 : (c : Dev Cert.MlaProjBwdIdeal.nD) → Buf (Elt Ideal) ((c.tc : Thread Cert.MlaProjBwdIdeal.nD Cert.MlaProjBwdIdeal.τ).loc Cert.MlaProjBwdIdeal.main_v0_1)) (v2 : (c : Dev Cert.MlaProjBwdIdeal.nD) → Buf (Elt Ideal) ((c.tc : Thread Cert.MlaProjBwdIdeal.nD Cert.MlaProjBwdIdeal.τ).loc Cert.MlaProjBwdIdeal.main_v0_2)) (v3 : (c : Dev Cert.MlaProjBwdIdeal.nD) → Buf (Elt Ideal) ((c.tc : Thread Cert.MlaProjBwdIdeal.nD Cert.MlaProjBwdIdeal.τ).loc Cert.MlaProjBwdIdeal.main_v0_3)) (v4 : (c : Dev Cert.MlaProjBwdIdeal.nD) → Buf (Elt Ideal) ((c.tc : Thread Cert.MlaProjBwdIdeal.nD Cert.MlaProjBwdIdeal.τ).loc Cert.MlaProjBwdIdeal.main_v0_4)),
      θ_run (Cert.MlaProjBwdIdeal.defs (F := Ideal)) (onTc (τ := Cert.MlaProjBwdIdeal.τ) (Cert.MlaProjBwdIdeal.main (F := Ideal))) ⟨m, fun _ => 0, g⟩ (fun r => ∀ c : Dev Cert.MlaProjBwdIdeal.nD,
          r.2.mem ((c.tc : Thread Cert.MlaProjBwdIdeal.nD Cert.MlaProjBwdIdeal.τ).loc Cert.MlaProjBwdIdeal.main_v0_0) = v0 c
          ∧ r.2.mem ((c.tc : Thread Cert.MlaProjBwdIdeal.nD Cert.MlaProjBwdIdeal.τ).loc Cert.MlaProjBwdIdeal.main_v0_1) = v1 c
          ∧ r.2.mem ((c.tc : Thread Cert.MlaProjBwdIdeal.nD Cert.MlaProjBwdIdeal.τ).loc Cert.MlaProjBwdIdeal.main_v0_2) = v2 c
          ∧ r.2.mem ((c.tc : Thread Cert.MlaProjBwdIdeal.nD Cert.MlaProjBwdIdeal.τ).loc Cert.MlaProjBwdIdeal.main_v0_3) = v3 c
          ∧ r.2.mem ((c.tc : Thread Cert.MlaProjBwdIdeal.nD Cert.MlaProjBwdIdeal.τ).loc Cert.MlaProjBwdIdeal.main_v0_4) = v4 c
          ∧ r.2.mem ((c.tc : Thread Cert.MlaProjBwdIdeal.nD Cert.MlaProjBwdIdeal.τ).loc Cert.MlaProjBwdIdeal.main_arg0) = m ((c.tc : Thread Cert.MlaProjBwdIdeal.nD Cert.MlaProjBwdIdeal.τ).loc Cert.MlaProjBwdIdeal.main_arg0)
          ∧ r.2.mem ((c.tc : Thread Cert.MlaProjBwdIdeal.nD Cert.MlaProjBwdIdeal.τ).loc Cert.MlaProjBwdIdeal.main_arg1) = m ((c.tc : Thread Cert.MlaProjBwdIdeal.nD Cert.MlaProjBwdIdeal.τ).loc Cert.MlaProjBwdIdeal.main_arg1)
          ∧ r.2.mem ((c.tc : Thread Cert.MlaProjBwdIdeal.nD Cert.MlaProjBwdIdeal.τ).loc Cert.MlaProjBwdIdeal.main_arg2) = m ((c.tc : Thread Cert.MlaProjBwdIdeal.nD Cert.MlaProjBwdIdeal.τ).loc Cert.MlaProjBwdIdeal.main_arg2)
          ∧ r.2.mem ((c.tc : Thread Cert.MlaProjBwdIdeal.nD Cert.MlaProjBwdIdeal.τ).loc Cert.MlaProjBwdIdeal.main_arg3) = m ((c.tc : Thread Cert.MlaProjBwdIdeal.nD Cert.MlaProjBwdIdeal.τ).loc Cert.MlaProjBwdIdeal.main_arg3)
          ∧ r.2.mem ((c.tc : Thread Cert.MlaProjBwdIdeal.nD Cert.MlaProjBwdIdeal.τ).loc Cert.MlaProjBwdIdeal.main_arg4) = m ((c.tc : Thread Cert.MlaProjBwdIdeal.nD Cert.MlaProjBwdIdeal.τ).loc Cert.MlaProjBwdIdeal.main_arg4)
          ∧ r.2.mem ((c.tc : Thread Cert.MlaProjBwdIdeal.nD Cert.MlaProjBwdIdeal.τ).loc Cert.MlaProjBwdIdeal.main_arg5) = m ((c.tc : Thread Cert.MlaProjBwdIdeal.nD Cert.MlaProjBwdIdeal.τ).loc Cert.MlaProjBwdIdeal.main_arg5)
          ∧ r.2.mem ((c.tc : Thread Cert.MlaProjBwdIdeal.nD Cert.MlaProjBwdIdeal.τ).loc Cert.MlaProjBwdIdeal.main_arg6) = m ((c.tc : Thread Cert.MlaProjBwdIdeal.nD Cert.MlaProjBwdIdeal.τ).loc Cert.MlaProjBwdIdeal.main_arg6)
          ∧ r.2.mem ((c.tc : Thread Cert.MlaProjBwdIdeal.nD Cert.MlaProjBwdIdeal.τ).loc Cert.MlaProjBwdIdeal.main_arg7) = m ((c.tc : Thread Cert.MlaProjBwdIdeal.nD Cert.MlaProjBwdIdeal.τ).loc Cert.MlaProjBwdIdeal.main_arg7)
          ∧ r.2.mem ((c.tc : Thread Cert.MlaProjBwdIdeal.nD Cert.MlaProjBwdIdeal.τ).loc Cert.MlaProjBwdIdeal.main_arg8) = m ((c.tc : Thread Cert.MlaProjBwdIdeal.nD Cert.MlaProjBwdIdeal.τ).loc Cert.MlaProjBwdIdeal.main_arg8)
          ∧ r.2.mem ((c.tc : Thread Cert.MlaProjBwdIdeal.nD Cert.MlaProjBwdIdeal.τ).loc Cert.MlaProjBwdIdeal.main_arg9) = m ((c.tc : Thread Cert.MlaProjBwdIdeal.nD Cert.MlaProjBwdIdeal.τ).loc Cert.MlaProjBwdIdeal.main_arg9)
          ∧ r.2.mem ((c.tc : Thread Cert.MlaProjBwdIdeal.nD Cert.MlaProjBwdIdeal.τ).loc Cert.MlaProjBwdIdeal.main_arg10) = m ((c.tc : Thread Cert.MlaProjBwdIdeal.nD Cert.MlaProjBwdIdeal.τ).loc Cert.MlaProjBwdIdeal.main_arg10))
      ∧ θ_run (Cert.MlaProjBwdRefIdeal.defs (F := Ideal)) (onTc (τ := Cert.MlaProjBwdRefIdeal.τ) (Cert.MlaProjBwdRefIdeal.main (F := Ideal))) ⟨m', fun _ => 0, g'⟩ (fun r => ∀ c : Dev Cert.MlaProjBwdRefIdeal.nD,
          r.2.mem ((c.tc : Thread Cert.MlaProjBwdRefIdeal.nD Cert.MlaProjBwdRefIdeal.τ).loc Cert.MlaProjBwdRefIdeal.main_v169) = v0 c
          ∧ r.2.mem ((c.tc : Thread Cert.MlaProjBwdRefIdeal.nD Cert.MlaProjBwdRefIdeal.τ).loc Cert.MlaProjBwdRefIdeal.main_v170) = v1 c
          ∧ r.2.mem ((c.tc : Thread Cert.MlaProjBwdRefIdeal.nD Cert.MlaProjBwdRefIdeal.τ).loc Cert.MlaProjBwdRefIdeal.main_v171) = v2 c
          ∧ r.2.mem ((c.tc : Thread Cert.MlaProjBwdRefIdeal.nD Cert.MlaProjBwdRefIdeal.τ).loc Cert.MlaProjBwdRefIdeal.main_v149) = v3 c
          ∧ r.2.mem ((c.tc : Thread Cert.MlaProjBwdRefIdeal.nD Cert.MlaProjBwdRefIdeal.τ).loc Cert.MlaProjBwdRefIdeal.main_v129) = v4 c
          ∧ r.2.mem ((c.tc : Thread Cert.MlaProjBwdRefIdeal.nD Cert.MlaProjBwdRefIdeal.τ).loc Cert.MlaProjBwdRefIdeal.main_arg0) = m' ((c.tc : Thread Cert.MlaProjBwdRefIdeal.nD Cert.MlaProjBwdRefIdeal.τ).loc Cert.MlaProjBwdRefIdeal.main_arg0)
          ∧ r.2.mem ((c.tc : Thread Cert.MlaProjBwdRefIdeal.nD Cert.MlaProjBwdRefIdeal.τ).loc Cert.MlaProjBwdRefIdeal.main_arg1) = m' ((c.tc : Thread Cert.MlaProjBwdRefIdeal.nD Cert.MlaProjBwdRefIdeal.τ).loc Cert.MlaProjBwdRefIdeal.main_arg1)
          ∧ r.2.mem ((c.tc : Thread Cert.MlaProjBwdRefIdeal.nD Cert.MlaProjBwdRefIdeal.τ).loc Cert.MlaProjBwdRefIdeal.main_arg2) = m' ((c.tc : Thread Cert.MlaProjBwdRefIdeal.nD Cert.MlaProjBwdRefIdeal.τ).loc Cert.MlaProjBwdRefIdeal.main_arg2)
          ∧ r.2.mem ((c.tc : Thread Cert.MlaProjBwdRefIdeal.nD Cert.MlaProjBwdRefIdeal.τ).loc Cert.MlaProjBwdRefIdeal.main_arg3) = m' ((c.tc : Thread Cert.MlaProjBwdRefIdeal.nD Cert.MlaProjBwdRefIdeal.τ).loc Cert.MlaProjBwdRefIdeal.main_arg3)
          ∧ r.2.mem ((c.tc : Thread Cert.MlaProjBwdRefIdeal.nD Cert.MlaProjBwdRefIdeal.τ).loc Cert.MlaProjBwdRefIdeal.main_arg4) = m' ((c.tc : Thread Cert.MlaProjBwdRefIdeal.nD Cert.MlaProjBwdRefIdeal.τ).loc Cert.MlaProjBwdRefIdeal.main_arg4)
          ∧ r.2.mem ((c.tc : Thread Cert.MlaProjBwdRefIdeal.nD Cert.MlaProjBwdRefIdeal.τ).loc Cert.MlaProjBwdRefIdeal.main_arg5) = m' ((c.tc : Thread Cert.MlaProjBwdRefIdeal.nD Cert.MlaProjBwdRefIdeal.τ).loc Cert.MlaProjBwdRefIdeal.main_arg5)
          ∧ r.2.mem ((c.tc : Thread Cert.MlaProjBwdRefIdeal.nD Cert.MlaProjBwdRefIdeal.τ).loc Cert.MlaProjBwdRefIdeal.main_arg6) = m' ((c.tc : Thread Cert.MlaProjBwdRefIdeal.nD Cert.MlaProjBwdRefIdeal.τ).loc Cert.MlaProjBwdRefIdeal.main_arg6)
          ∧ r.2.mem ((c.tc : Thread Cert.MlaProjBwdRefIdeal.nD Cert.MlaProjBwdRefIdeal.τ).loc Cert.MlaProjBwdRefIdeal.main_arg7) = m' ((c.tc : Thread Cert.MlaProjBwdRefIdeal.nD Cert.MlaProjBwdRefIdeal.τ).loc Cert.MlaProjBwdRefIdeal.main_arg7)
          ∧ r.2.mem ((c.tc : Thread Cert.MlaProjBwdRefIdeal.nD Cert.MlaProjBwdRefIdeal.τ).loc Cert.MlaProjBwdRefIdeal.main_arg8) = m' ((c.tc : Thread Cert.MlaProjBwdRefIdeal.nD Cert.MlaProjBwdRefIdeal.τ).loc Cert.MlaProjBwdRefIdeal.main_arg8)
          ∧ r.2.mem ((c.tc : Thread Cert.MlaProjBwdRefIdeal.nD Cert.MlaProjBwdRefIdeal.τ).loc Cert.MlaProjBwdRefIdeal.main_arg9) = m' ((c.tc : Thread Cert.MlaProjBwdRefIdeal.nD Cert.MlaProjBwdRefIdeal.τ).loc Cert.MlaProjBwdRefIdeal.main_arg9)
          ∧ r.2.mem ((c.tc : Thread Cert.MlaProjBwdRefIdeal.nD Cert.MlaProjBwdRefIdeal.τ).loc Cert.MlaProjBwdRefIdeal.main_arg10) = m' ((c.tc : Thread Cert.MlaProjBwdRefIdeal.nD Cert.MlaProjBwdRefIdeal.τ).loc Cert.MlaProjBwdRefIdeal.main_arg10))

def preserves_GradWQB_GradWQBIdeal : Prop :=
  True

def algebraic_GradWQBIdeal_GradWQBRefIdeal [hGradWQBIdeal : Cert.GradWQBIdeal.Facts] [hGradWQBRefIdeal : Cert.GradWQBRefIdeal.Facts] : Prop :=
  ∀ (m : (ℓ : Loc Cert.GradWQBIdeal.nD Cert.GradWQBIdeal.τ Cert.GradWQBIdeal.sig) → Buf (Elt Ideal) ℓ) (g : Dev Cert.GradWQBIdeal.nD → PrngReg)
    (m' : (ℓ : Loc Cert.GradWQBRefIdeal.nD Cert.GradWQBRefIdeal.τ Cert.GradWQBRefIdeal.sig) → Buf (Elt Ideal) ℓ) (g' : Dev Cert.GradWQBRefIdeal.nD → PrngReg), Pre_GradWQBIdeal m →
    (∀ c : Dev Cert.GradWQBIdeal.nD,
      m' ((c.tc : Thread Cert.GradWQBRefIdeal.nD Cert.GradWQBRefIdeal.τ).loc Cert.GradWQBRefIdeal.main_arg0) = m ((c.tc : Thread Cert.GradWQBIdeal.nD Cert.GradWQBIdeal.τ).loc Cert.GradWQBIdeal.main_arg0)
      ∧ m' ((c.tc : Thread Cert.GradWQBRefIdeal.nD Cert.GradWQBRefIdeal.τ).loc Cert.GradWQBRefIdeal.main_arg1) = m ((c.tc : Thread Cert.GradWQBIdeal.nD Cert.GradWQBIdeal.τ).loc Cert.GradWQBIdeal.main_arg1)) →
    ∃ (v0 : (c : Dev Cert.GradWQBIdeal.nD) → Buf (Elt Ideal) ((c.tc : Thread Cert.GradWQBIdeal.nD Cert.GradWQBIdeal.τ).loc Cert.GradWQBIdeal.main_v0)),
      θ_run (Cert.GradWQBIdeal.defs (F := Ideal)) (onTc (τ := Cert.GradWQBIdeal.τ) (Cert.GradWQBIdeal.main (F := Ideal))) ⟨m, fun _ => 0, g⟩ (fun r => ∀ c : Dev Cert.GradWQBIdeal.nD,
          r.2.mem ((c.tc : Thread Cert.GradWQBIdeal.nD Cert.GradWQBIdeal.τ).loc Cert.GradWQBIdeal.main_v0) = v0 c
          ∧ r.2.mem ((c.tc : Thread Cert.GradWQBIdeal.nD Cert.GradWQBIdeal.τ).loc Cert.GradWQBIdeal.main_arg0) = m ((c.tc : Thread Cert.GradWQBIdeal.nD Cert.GradWQBIdeal.τ).loc Cert.GradWQBIdeal.main_arg0)
          ∧ r.2.mem ((c.tc : Thread Cert.GradWQBIdeal.nD Cert.GradWQBIdeal.τ).loc Cert.GradWQBIdeal.main_arg1) = m ((c.tc : Thread Cert.GradWQBIdeal.nD Cert.GradWQBIdeal.τ).loc Cert.GradWQBIdeal.main_arg1))
      ∧ θ_run (Cert.GradWQBRefIdeal.defs (F := Ideal)) (onTc (τ := Cert.GradWQBRefIdeal.τ) (Cert.GradWQBRefIdeal.main (F := Ideal))) ⟨m', fun _ => 0, g'⟩ (fun r => ∀ c : Dev Cert.GradWQBRefIdeal.nD,
          r.2.mem ((c.tc : Thread Cert.GradWQBRefIdeal.nD Cert.GradWQBRefIdeal.τ).loc Cert.GradWQBRefIdeal.main_v8) = v0 c
          ∧ r.2.mem ((c.tc : Thread Cert.GradWQBRefIdeal.nD Cert.GradWQBRefIdeal.τ).loc Cert.GradWQBRefIdeal.main_arg0) = m' ((c.tc : Thread Cert.GradWQBRefIdeal.nD Cert.GradWQBRefIdeal.τ).loc Cert.GradWQBRefIdeal.main_arg0)
          ∧ r.2.mem ((c.tc : Thread Cert.GradWQBRefIdeal.nD Cert.GradWQBRefIdeal.τ).loc Cert.GradWQBRefIdeal.main_arg1) = m' ((c.tc : Thread Cert.GradWQBRefIdeal.nD Cert.GradWQBRefIdeal.τ).loc Cert.GradWQBRefIdeal.main_arg1))

def preserves_GradWKvB_GradWKvBIdeal : Prop :=
  True

def algebraic_GradWKvBIdeal_GradWKvBRefIdeal [hGradWKvBIdeal : Cert.GradWKvBIdeal.Facts] [hGradWKvBRefIdeal : Cert.GradWKvBRefIdeal.Facts] : Prop :=
  ∀ (m : (ℓ : Loc Cert.GradWKvBIdeal.nD Cert.GradWKvBIdeal.τ Cert.GradWKvBIdeal.sig) → Buf (Elt Ideal) ℓ) (g : Dev Cert.GradWKvBIdeal.nD → PrngReg)
    (m' : (ℓ : Loc Cert.GradWKvBRefIdeal.nD Cert.GradWKvBRefIdeal.τ Cert.GradWKvBRefIdeal.sig) → Buf (Elt Ideal) ℓ) (g' : Dev Cert.GradWKvBRefIdeal.nD → PrngReg), Pre_GradWKvBIdeal m →
    (∀ c : Dev Cert.GradWKvBIdeal.nD,
      m' ((c.tc : Thread Cert.GradWKvBRefIdeal.nD Cert.GradWKvBRefIdeal.τ).loc Cert.GradWKvBRefIdeal.main_arg0) = m ((c.tc : Thread Cert.GradWKvBIdeal.nD Cert.GradWKvBIdeal.τ).loc Cert.GradWKvBIdeal.main_arg0)
      ∧ m' ((c.tc : Thread Cert.GradWKvBRefIdeal.nD Cert.GradWKvBRefIdeal.τ).loc Cert.GradWKvBRefIdeal.main_arg1) = m ((c.tc : Thread Cert.GradWKvBIdeal.nD Cert.GradWKvBIdeal.τ).loc Cert.GradWKvBIdeal.main_arg1)) →
    ∃ (v0 : (c : Dev Cert.GradWKvBIdeal.nD) → Buf (Elt Ideal) ((c.tc : Thread Cert.GradWKvBIdeal.nD Cert.GradWKvBIdeal.τ).loc Cert.GradWKvBIdeal.main_v0)),
      θ_run (Cert.GradWKvBIdeal.defs (F := Ideal)) (onTc (τ := Cert.GradWKvBIdeal.τ) (Cert.GradWKvBIdeal.main (F := Ideal))) ⟨m, fun _ => 0, g⟩ (fun r => ∀ c : Dev Cert.GradWKvBIdeal.nD,
          r.2.mem ((c.tc : Thread Cert.GradWKvBIdeal.nD Cert.GradWKvBIdeal.τ).loc Cert.GradWKvBIdeal.main_v0) = v0 c
          ∧ r.2.mem ((c.tc : Thread Cert.GradWKvBIdeal.nD Cert.GradWKvBIdeal.τ).loc Cert.GradWKvBIdeal.main_arg0) = m ((c.tc : Thread Cert.GradWKvBIdeal.nD Cert.GradWKvBIdeal.τ).loc Cert.GradWKvBIdeal.main_arg0)
          ∧ r.2.mem ((c.tc : Thread Cert.GradWKvBIdeal.nD Cert.GradWKvBIdeal.τ).loc Cert.GradWKvBIdeal.main_arg1) = m ((c.tc : Thread Cert.GradWKvBIdeal.nD Cert.GradWKvBIdeal.τ).loc Cert.GradWKvBIdeal.main_arg1))
      ∧ θ_run (Cert.GradWKvBRefIdeal.defs (F := Ideal)) (onTc (τ := Cert.GradWKvBRefIdeal.τ) (Cert.GradWKvBRefIdeal.main (F := Ideal))) ⟨m', fun _ => 0, g'⟩ (fun r => ∀ c : Dev Cert.GradWKvBRefIdeal.nD,
          r.2.mem ((c.tc : Thread Cert.GradWKvBRefIdeal.nD Cert.GradWKvBRefIdeal.τ).loc Cert.GradWKvBRefIdeal.main_v6) = v0 c
          ∧ r.2.mem ((c.tc : Thread Cert.GradWKvBRefIdeal.nD Cert.GradWKvBRefIdeal.τ).loc Cert.GradWKvBRefIdeal.main_arg0) = m' ((c.tc : Thread Cert.GradWKvBRefIdeal.nD Cert.GradWKvBRefIdeal.τ).loc Cert.GradWKvBRefIdeal.main_arg0)
          ∧ r.2.mem ((c.tc : Thread Cert.GradWKvBRefIdeal.nD Cert.GradWKvBRefIdeal.τ).loc Cert.GradWKvBRefIdeal.main_arg1) = m' ((c.tc : Thread Cert.GradWKvBRefIdeal.nD Cert.GradWKvBRefIdeal.τ).loc Cert.GradWKvBRefIdeal.main_arg1))

def preserves_MemKvProj_MemKvProjIdeal : Prop :=
  True

def algebraic_MemKvProjIdeal_MemKvProjRefIdeal [hMemKvProjIdeal : Cert.MemKvProjIdeal.Facts] [hMemKvProjRefIdeal : Cert.MemKvProjRefIdeal.Facts] : Prop :=
  ∀ (m : (ℓ : Loc Cert.MemKvProjIdeal.nD Cert.MemKvProjIdeal.τ Cert.MemKvProjIdeal.sig) → Buf (Elt Ideal) ℓ) (g : Dev Cert.MemKvProjIdeal.nD → PrngReg)
    (m' : (ℓ : Loc Cert.MemKvProjRefIdeal.nD Cert.MemKvProjRefIdeal.τ Cert.MemKvProjRefIdeal.sig) → Buf (Elt Ideal) ℓ) (g' : Dev Cert.MemKvProjRefIdeal.nD → PrngReg), Pre_MemKvProjIdeal m →
    (∀ c : Dev Cert.MemKvProjIdeal.nD,
      m' ((c.tc : Thread Cert.MemKvProjRefIdeal.nD Cert.MemKvProjRefIdeal.τ).loc Cert.MemKvProjRefIdeal.main_arg0) = m ((c.tc : Thread Cert.MemKvProjIdeal.nD Cert.MemKvProjIdeal.τ).loc Cert.MemKvProjIdeal.main_arg0)
      ∧ m' ((c.tc : Thread Cert.MemKvProjRefIdeal.nD Cert.MemKvProjRefIdeal.τ).loc Cert.MemKvProjRefIdeal.main_arg1) = m ((c.tc : Thread Cert.MemKvProjIdeal.nD Cert.MemKvProjIdeal.τ).loc Cert.MemKvProjIdeal.main_arg1)) →
    ∃ (v0 : (c : Dev Cert.MemKvProjIdeal.nD) → Buf (Elt Ideal) ((c.tc : Thread Cert.MemKvProjIdeal.nD Cert.MemKvProjIdeal.τ).loc Cert.MemKvProjIdeal.main_v0)),
      θ_run (Cert.MemKvProjIdeal.defs (F := Ideal)) (onTc (τ := Cert.MemKvProjIdeal.τ) (Cert.MemKvProjIdeal.main (F := Ideal))) ⟨m, fun _ => 0, g⟩ (fun r => ∀ c : Dev Cert.MemKvProjIdeal.nD,
          r.2.mem ((c.tc : Thread Cert.MemKvProjIdeal.nD Cert.MemKvProjIdeal.τ).loc Cert.MemKvProjIdeal.main_v0) = v0 c
          ∧ r.2.mem ((c.tc : Thread Cert.MemKvProjIdeal.nD Cert.MemKvProjIdeal.τ).loc Cert.MemKvProjIdeal.main_arg0) = m ((c.tc : Thread Cert.MemKvProjIdeal.nD Cert.MemKvProjIdeal.τ).loc Cert.MemKvProjIdeal.main_arg0)
          ∧ r.2.mem ((c.tc : Thread Cert.MemKvProjIdeal.nD Cert.MemKvProjIdeal.τ).loc Cert.MemKvProjIdeal.main_arg1) = m ((c.tc : Thread Cert.MemKvProjIdeal.nD Cert.MemKvProjIdeal.τ).loc Cert.MemKvProjIdeal.main_arg1))
      ∧ θ_run (Cert.MemKvProjRefIdeal.defs (F := Ideal)) (onTc (τ := Cert.MemKvProjRefIdeal.τ) (Cert.MemKvProjRefIdeal.main (F := Ideal))) ⟨m', fun _ => 0, g'⟩ (fun r => ∀ c : Dev Cert.MemKvProjRefIdeal.nD,
          r.2.mem ((c.tc : Thread Cert.MemKvProjRefIdeal.nD Cert.MemKvProjRefIdeal.τ).loc Cert.MemKvProjRefIdeal.main_v3) = v0 c
          ∧ r.2.mem ((c.tc : Thread Cert.MemKvProjRefIdeal.nD Cert.MemKvProjRefIdeal.τ).loc Cert.MemKvProjRefIdeal.main_arg0) = m' ((c.tc : Thread Cert.MemKvProjRefIdeal.nD Cert.MemKvProjRefIdeal.τ).loc Cert.MemKvProjRefIdeal.main_arg0)
          ∧ r.2.mem ((c.tc : Thread Cert.MemKvProjRefIdeal.nD Cert.MemKvProjRefIdeal.τ).loc Cert.MemKvProjRefIdeal.main_arg1) = m' ((c.tc : Thread Cert.MemKvProjRefIdeal.nD Cert.MemKvProjRefIdeal.τ).loc Cert.MemKvProjRefIdeal.main_arg1))

def preserves_GradWMemKv_GradWMemKvIdeal : Prop :=
  True

def algebraic_GradWMemKvIdeal_GradWMemKvRefIdeal [hGradWMemKvIdeal : Cert.GradWMemKvIdeal.Facts] [hGradWMemKvRefIdeal : Cert.GradWMemKvRefIdeal.Facts] : Prop :=
  ∀ (m : (ℓ : Loc Cert.GradWMemKvIdeal.nD Cert.GradWMemKvIdeal.τ Cert.GradWMemKvIdeal.sig) → Buf (Elt Ideal) ℓ) (g : Dev Cert.GradWMemKvIdeal.nD → PrngReg)
    (m' : (ℓ : Loc Cert.GradWMemKvRefIdeal.nD Cert.GradWMemKvRefIdeal.τ Cert.GradWMemKvRefIdeal.sig) → Buf (Elt Ideal) ℓ) (g' : Dev Cert.GradWMemKvRefIdeal.nD → PrngReg), Pre_GradWMemKvIdeal m →
    (∀ c : Dev Cert.GradWMemKvIdeal.nD,
      m' ((c.tc : Thread Cert.GradWMemKvRefIdeal.nD Cert.GradWMemKvRefIdeal.τ).loc Cert.GradWMemKvRefIdeal.main_arg0) = m ((c.tc : Thread Cert.GradWMemKvIdeal.nD Cert.GradWMemKvIdeal.τ).loc Cert.GradWMemKvIdeal.main_arg0)
      ∧ m' ((c.tc : Thread Cert.GradWMemKvRefIdeal.nD Cert.GradWMemKvRefIdeal.τ).loc Cert.GradWMemKvRefIdeal.main_arg1) = m ((c.tc : Thread Cert.GradWMemKvIdeal.nD Cert.GradWMemKvIdeal.τ).loc Cert.GradWMemKvIdeal.main_arg1)) →
    ∃ (v0 : (c : Dev Cert.GradWMemKvIdeal.nD) → Buf (Elt Ideal) ((c.tc : Thread Cert.GradWMemKvIdeal.nD Cert.GradWMemKvIdeal.τ).loc Cert.GradWMemKvIdeal.main_v0)),
      θ_run (Cert.GradWMemKvIdeal.defs (F := Ideal)) (onTc (τ := Cert.GradWMemKvIdeal.τ) (Cert.GradWMemKvIdeal.main (F := Ideal))) ⟨m, fun _ => 0, g⟩ (fun r => ∀ c : Dev Cert.GradWMemKvIdeal.nD,
          r.2.mem ((c.tc : Thread Cert.GradWMemKvIdeal.nD Cert.GradWMemKvIdeal.τ).loc Cert.GradWMemKvIdeal.main_v0) = v0 c
          ∧ r.2.mem ((c.tc : Thread Cert.GradWMemKvIdeal.nD Cert.GradWMemKvIdeal.τ).loc Cert.GradWMemKvIdeal.main_arg0) = m ((c.tc : Thread Cert.GradWMemKvIdeal.nD Cert.GradWMemKvIdeal.τ).loc Cert.GradWMemKvIdeal.main_arg0)
          ∧ r.2.mem ((c.tc : Thread Cert.GradWMemKvIdeal.nD Cert.GradWMemKvIdeal.τ).loc Cert.GradWMemKvIdeal.main_arg1) = m ((c.tc : Thread Cert.GradWMemKvIdeal.nD Cert.GradWMemKvIdeal.τ).loc Cert.GradWMemKvIdeal.main_arg1))
      ∧ θ_run (Cert.GradWMemKvRefIdeal.defs (F := Ideal)) (onTc (τ := Cert.GradWMemKvRefIdeal.τ) (Cert.GradWMemKvRefIdeal.main (F := Ideal))) ⟨m', fun _ => 0, g'⟩ (fun r => ∀ c : Dev Cert.GradWMemKvRefIdeal.nD,
          r.2.mem ((c.tc : Thread Cert.GradWMemKvRefIdeal.nD Cert.GradWMemKvRefIdeal.τ).loc Cert.GradWMemKvRefIdeal.main_v5) = v0 c
          ∧ r.2.mem ((c.tc : Thread Cert.GradWMemKvRefIdeal.nD Cert.GradWMemKvRefIdeal.τ).loc Cert.GradWMemKvRefIdeal.main_arg0) = m' ((c.tc : Thread Cert.GradWMemKvRefIdeal.nD Cert.GradWMemKvRefIdeal.τ).loc Cert.GradWMemKvRefIdeal.main_arg0)
          ∧ r.2.mem ((c.tc : Thread Cert.GradWMemKvRefIdeal.nD Cert.GradWMemKvRefIdeal.τ).loc Cert.GradWMemKvRefIdeal.main_arg1) = m' ((c.tc : Thread Cert.GradWMemKvRefIdeal.nD Cert.GradWMemKvRefIdeal.τ).loc Cert.GradWMemKvRefIdeal.main_arg1))

def preserves_DMemn_DMemnIdeal : Prop :=
  True

def algebraic_DMemnIdeal_DMemnRefIdeal [hDMemnIdeal : Cert.DMemnIdeal.Facts] [hDMemnRefIdeal : Cert.DMemnRefIdeal.Facts] : Prop :=
  ∀ (m : (ℓ : Loc Cert.DMemnIdeal.nD Cert.DMemnIdeal.τ Cert.DMemnIdeal.sig) → Buf (Elt Ideal) ℓ) (g : Dev Cert.DMemnIdeal.nD → PrngReg)
    (m' : (ℓ : Loc Cert.DMemnRefIdeal.nD Cert.DMemnRefIdeal.τ Cert.DMemnRefIdeal.sig) → Buf (Elt Ideal) ℓ) (g' : Dev Cert.DMemnRefIdeal.nD → PrngReg), Pre_DMemnIdeal m →
    (∀ c : Dev Cert.DMemnIdeal.nD,
      m' ((c.tc : Thread Cert.DMemnRefIdeal.nD Cert.DMemnRefIdeal.τ).loc Cert.DMemnRefIdeal.main_arg0) = m ((c.tc : Thread Cert.DMemnIdeal.nD Cert.DMemnIdeal.τ).loc Cert.DMemnIdeal.main_arg0)
      ∧ m' ((c.tc : Thread Cert.DMemnRefIdeal.nD Cert.DMemnRefIdeal.τ).loc Cert.DMemnRefIdeal.main_arg1) = m ((c.tc : Thread Cert.DMemnIdeal.nD Cert.DMemnIdeal.τ).loc Cert.DMemnIdeal.main_arg1)
      ∧ m' ((c.tc : Thread Cert.DMemnRefIdeal.nD Cert.DMemnRefIdeal.τ).loc Cert.DMemnRefIdeal.main_arg2) = m ((c.tc : Thread Cert.DMemnIdeal.nD Cert.DMemnIdeal.τ).loc Cert.DMemnIdeal.main_arg2)) →
    ∃ (v0 : (c : Dev Cert.DMemnIdeal.nD) → Buf (Elt Ideal) ((c.tc : Thread Cert.DMemnIdeal.nD Cert.DMemnIdeal.τ).loc Cert.DMemnIdeal.main_v0)),
      θ_run (Cert.DMemnIdeal.defs (F := Ideal)) (onTc (τ := Cert.DMemnIdeal.τ) (Cert.DMemnIdeal.main (F := Ideal))) ⟨m, fun _ => 0, g⟩ (fun r => ∀ c : Dev Cert.DMemnIdeal.nD,
          r.2.mem ((c.tc : Thread Cert.DMemnIdeal.nD Cert.DMemnIdeal.τ).loc Cert.DMemnIdeal.main_v0) = v0 c
          ∧ r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
          ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1)
          ∧ r.2.mem ((c.tc : Thread Cert.DMemnIdeal.nD Cert.DMemnIdeal.τ).loc Cert.DMemnIdeal.main_arg2) = m ((c.tc : Thread Cert.DMemnIdeal.nD Cert.DMemnIdeal.τ).loc Cert.DMemnIdeal.main_arg2))
      ∧ θ_run (Cert.DMemnRefIdeal.defs (F := Ideal)) (onTc (τ := Cert.DMemnRefIdeal.τ) (Cert.DMemnRefIdeal.main (F := Ideal))) ⟨m', fun _ => 0, g'⟩ (fun r => ∀ c : Dev Cert.DMemnRefIdeal.nD,
          r.2.mem ((c.tc : Thread Cert.DMemnRefIdeal.nD Cert.DMemnRefIdeal.τ).loc Cert.DMemnRefIdeal.main_v3) = v0 c
          ∧ r.2.mem ((c.tc : Thread Cert.DMemnRefIdeal.nD Cert.DMemnRefIdeal.τ).loc Cert.DMemnRefIdeal.main_arg0) = m' ((c.tc : Thread Cert.DMemnRefIdeal.nD Cert.DMemnRefIdeal.τ).loc Cert.DMemnRefIdeal.main_arg0)
          ∧ r.2.mem ((c.tc : Thread Cert.DMemnRefIdeal.nD Cert.DMemnRefIdeal.τ).loc Cert.DMemnRefIdeal.main_arg1) = m' ((c.tc : Thread Cert.DMemnRefIdeal.nD Cert.DMemnRefIdeal.τ).loc Cert.DMemnRefIdeal.main_arg1)
          ∧ r.2.mem ((c.tc : Thread Cert.DMemnRefIdeal.nD Cert.DMemnRefIdeal.τ).loc Cert.DMemnRefIdeal.main_arg2) = m' ((c.tc : Thread Cert.DMemnRefIdeal.nD Cert.DMemnRefIdeal.τ).loc Cert.DMemnRefIdeal.main_arg2))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)) →
    ∃ (v0 : (c : Dev Cert.MlaPrepIdeal.nD) → Buf (Elt Ideal) ((c.tc : Thread Cert.MlaPrepIdeal.nD Cert.MlaPrepIdeal.τ).loc Cert.MlaPrepIdeal.main_v0_0)) (v1 : (c : Dev Cert.MlaPrepIdeal.nD) → Buf (Elt Ideal) ((c.tc : Thread Cert.MlaPrepIdeal.nD Cert.MlaPrepIdeal.τ).loc Cert.MlaPrepIdeal.main_v0_1)) (v2 : (c : Dev Cert.MlaPrepIdeal.nD) → Buf (Elt Ideal) ((c.tc : Thread Cert.MlaPrepIdeal.nD Cert.MlaPrepIdeal.τ).loc Cert.MlaPrepIdeal.main_v0_2)) (v3 : (c : Dev Cert.MlaPrepIdeal.nD) → Buf (Elt Ideal) ((c.tc : Thread Cert.MlaPrepIdeal.nD Cert.MlaPrepIdeal.τ).loc Cert.MlaPrepIdeal.main_v0_3)) (v4 : (c : Dev Cert.MlaPrepIdeal.nD) → Buf (Elt Ideal) ((c.tc : Thread Cert.MlaPrepIdeal.nD Cert.MlaPrepIdeal.τ).loc Cert.MlaPrepIdeal.main_v0_4)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v0_0) = v0 c
          ∧ r.2.mem ((c.tc : Thread Cert.MlaPrepIdeal.nD Cert.MlaPrepIdeal.τ).loc Cert.MlaPrepIdeal.main_v0_1) = v1 c
          ∧ r.2.mem ((c.tc : Thread Cert.MlaPrepIdeal.nD Cert.MlaPrepIdeal.τ).loc Cert.MlaPrepIdeal.main_v0_2) = v2 c
          ∧ r.2.mem ((c.tc : Thread Cert.MlaPrepIdeal.nD Cert.MlaPrepIdeal.τ).loc Cert.MlaPrepIdeal.main_v0_3) = v3 c
          ∧ r.2.mem ((c.tc : Thread Cert.MlaPrepIdeal.nD Cert.MlaPrepIdeal.τ).loc Cert.MlaPrepIdeal.main_v0_4) = v4 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v80) = v0 c
          ∧ r.2.mem ((c.tc : Thread Cert.MlaPrepRefIdeal.nD Cert.MlaPrepRefIdeal.τ).loc Cert.MlaPrepRefIdeal.main_v82) = v1 c
          ∧ r.2.mem ((c.tc : Thread Cert.MlaPrepRefIdeal.nD Cert.MlaPrepRefIdeal.τ).loc Cert.MlaPrepRefIdeal.main_v84) = v2 c
          ∧ r.2.mem ((c.tc : Thread Cert.MlaPrepRefIdeal.nD Cert.MlaPrepRefIdeal.τ).loc Cert.MlaPrepRefIdeal.main_v85) = v3 c
          ∧ r.2.mem ((c.tc : Thread Cert.MlaPrepRefIdeal.nD Cert.MlaPrepRefIdeal.τ).loc Cert.MlaPrepRefIdeal.main_v86) = v4 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6))

def preserves_MemAttnFwd_MemAttnFwdIdeal : Prop :=
  True

def algebraic_MemAttnFwdIdeal_MemAttnFwdRefIdeal [hMemAttnFwdIdeal : Cert.MemAttnFwdIdeal.Facts] [hMemAttnFwdRefIdeal : Cert.MemAttnFwdRefIdeal.Facts] : Prop :=
  ∀ (m : (ℓ : Loc Cert.MemAttnFwdIdeal.nD Cert.MemAttnFwdIdeal.τ Cert.MemAttnFwdIdeal.sig) → Buf (Elt Ideal) ℓ) (g : Dev Cert.MemAttnFwdIdeal.nD → PrngReg)
    (m' : (ℓ : Loc Cert.MemAttnFwdRefIdeal.nD Cert.MemAttnFwdRefIdeal.τ Cert.MemAttnFwdRefIdeal.sig) → Buf (Elt Ideal) ℓ) (g' : Dev Cert.MemAttnFwdRefIdeal.nD → PrngReg), Pre_MemAttnFwdIdeal m →
    (∀ c : Dev Cert.MemAttnFwdIdeal.nD,
      m' ((c.tc : Thread Cert.MemAttnFwdRefIdeal.nD Cert.MemAttnFwdRefIdeal.τ).loc Cert.MemAttnFwdRefIdeal.main_arg0) = m ((c.tc : Thread Cert.MemAttnFwdIdeal.nD Cert.MemAttnFwdIdeal.τ).loc Cert.MemAttnFwdIdeal.main_arg0)
      ∧ m' ((c.tc : Thread Cert.MemAttnFwdRefIdeal.nD Cert.MemAttnFwdRefIdeal.τ).loc Cert.MemAttnFwdRefIdeal.main_arg1) = m ((c.tc : Thread Cert.MemAttnFwdIdeal.nD Cert.MemAttnFwdIdeal.τ).loc Cert.MemAttnFwdIdeal.main_arg1)) →
    ∃ (v0 : (c : Dev Cert.MemAttnFwdIdeal.nD) → Buf (Elt Ideal) ((c.tc : Thread Cert.MemAttnFwdIdeal.nD Cert.MemAttnFwdIdeal.τ).loc Cert.MemAttnFwdIdeal.main_v0)),
      θ_run (Cert.MemAttnFwdIdeal.defs (F := Ideal)) (onTc (τ := Cert.MemAttnFwdIdeal.τ) (Cert.MemAttnFwdIdeal.main (F := Ideal))) ⟨m, fun _ => 0, g⟩ (fun r => ∀ c : Dev Cert.MemAttnFwdIdeal.nD,
          r.2.mem ((c.tc : Thread Cert.MemAttnFwdIdeal.nD Cert.MemAttnFwdIdeal.τ).loc Cert.MemAttnFwdIdeal.main_v0) = v0 c
          ∧ r.2.mem ((c.tc : Thread Cert.MemAttnFwdIdeal.nD Cert.MemAttnFwdIdeal.τ).loc Cert.MemAttnFwdIdeal.main_arg0) = m ((c.tc : Thread Cert.MemAttnFwdIdeal.nD Cert.MemAttnFwdIdeal.τ).loc Cert.MemAttnFwdIdeal.main_arg0)
          ∧ r.2.mem ((c.tc : Thread Cert.MemAttnFwdIdeal.nD Cert.MemAttnFwdIdeal.τ).loc Cert.MemAttnFwdIdeal.main_arg1) = m ((c.tc : Thread Cert.MemAttnFwdIdeal.nD Cert.MemAttnFwdIdeal.τ).loc Cert.MemAttnFwdIdeal.main_arg1))
      ∧ θ_run (Cert.MemAttnFwdRefIdeal.defs (F := Ideal)) (onTc (τ := Cert.MemAttnFwdRefIdeal.τ) (Cert.MemAttnFwdRefIdeal.main (F := Ideal))) ⟨m', fun _ => 0, g'⟩ (fun r => ∀ c : Dev Cert.MemAttnFwdRefIdeal.nD,
          r.2.mem ((c.tc : Thread Cert.MemAttnFwdRefIdeal.nD Cert.MemAttnFwdRefIdeal.τ).loc Cert.MemAttnFwdRefIdeal.main_v25) = v0 c
          ∧ r.2.mem ((c.tc : Thread Cert.MemAttnFwdRefIdeal.nD Cert.MemAttnFwdRefIdeal.τ).loc Cert.MemAttnFwdRefIdeal.main_arg0) = m' ((c.tc : Thread Cert.MemAttnFwdRefIdeal.nD Cert.MemAttnFwdRefIdeal.τ).loc Cert.MemAttnFwdRefIdeal.main_arg0)
          ∧ r.2.mem ((c.tc : Thread Cert.MemAttnFwdRefIdeal.nD Cert.MemAttnFwdRefIdeal.τ).loc Cert.MemAttnFwdRefIdeal.main_arg1) = m' ((c.tc : Thread Cert.MemAttnFwdRefIdeal.nD Cert.MemAttnFwdRefIdeal.τ).loc Cert.MemAttnFwdRefIdeal.main_arg1))

def preserves_InProjEarly_InProjEarlyIdeal : Prop :=
  True

def algebraic_InProjEarlyIdeal_InProjEarlyRefIdeal [hInProjEarlyIdeal : Cert.InProjEarlyIdeal.Facts] [hInProjEarlyRefIdeal : Cert.InProjEarlyRefIdeal.Facts] : Prop :=
  ∀ (m : (ℓ : Loc Cert.InProjEarlyIdeal.nD Cert.InProjEarlyIdeal.τ Cert.InProjEarlyIdeal.sig) → Buf (Elt Ideal) ℓ) (g : Dev Cert.InProjEarlyIdeal.nD → PrngReg)
    (m' : (ℓ : Loc Cert.InProjEarlyRefIdeal.nD Cert.InProjEarlyRefIdeal.τ Cert.InProjEarlyRefIdeal.sig) → Buf (Elt Ideal) ℓ) (g' : Dev Cert.InProjEarlyRefIdeal.nD → PrngReg), Pre_InProjEarlyIdeal m →
    (∀ c : Dev Cert.InProjEarlyIdeal.nD,
      m' ((c.tc : Thread Cert.InProjEarlyRefIdeal.nD Cert.InProjEarlyRefIdeal.τ).loc Cert.InProjEarlyRefIdeal.main_arg0) = m ((c.tc : Thread Cert.InProjEarlyIdeal.nD Cert.InProjEarlyIdeal.τ).loc Cert.InProjEarlyIdeal.main_arg0)
      ∧ m' ((c.tc : Thread Cert.InProjEarlyRefIdeal.nD Cert.InProjEarlyRefIdeal.τ).loc Cert.InProjEarlyRefIdeal.main_arg1) = m ((c.tc : Thread Cert.InProjEarlyIdeal.nD Cert.InProjEarlyIdeal.τ).loc Cert.InProjEarlyIdeal.main_arg1)) →
    ∃ (v0 : (c : Dev Cert.InProjEarlyIdeal.nD) → Buf (Elt Ideal) ((c.tc : Thread Cert.InProjEarlyIdeal.nD Cert.InProjEarlyIdeal.τ).loc Cert.InProjEarlyIdeal.main_v1)),
      θ_run (Cert.InProjEarlyIdeal.defs (F := Ideal)) (onTc (τ := Cert.InProjEarlyIdeal.τ) (Cert.InProjEarlyIdeal.main (F := Ideal))) ⟨m, fun _ => 0, g⟩ (fun r => ∀ c : Dev Cert.InProjEarlyIdeal.nD,
          r.2.mem ((c.tc : Thread Cert.InProjEarlyIdeal.nD Cert.InProjEarlyIdeal.τ).loc Cert.InProjEarlyIdeal.main_v1) = v0 c
          ∧ r.2.mem ((c.tc : Thread Cert.InProjEarlyIdeal.nD Cert.InProjEarlyIdeal.τ).loc Cert.InProjEarlyIdeal.main_arg0) = m ((c.tc : Thread Cert.InProjEarlyIdeal.nD Cert.InProjEarlyIdeal.τ).loc Cert.InProjEarlyIdeal.main_arg0)
          ∧ r.2.mem ((c.tc : Thread Cert.InProjEarlyIdeal.nD Cert.InProjEarlyIdeal.τ).loc Cert.InProjEarlyIdeal.main_arg1) = m ((c.tc : Thread Cert.InProjEarlyIdeal.nD Cert.InProjEarlyIdeal.τ).loc Cert.InProjEarlyIdeal.main_arg1))
      ∧ θ_run (Cert.InProjEarlyRefIdeal.defs (F := Ideal)) (onTc (τ := Cert.InProjEarlyRefIdeal.τ) (Cert.InProjEarlyRefIdeal.main (F := Ideal))) ⟨m', fun _ => 0, g'⟩ (fun r => ∀ c : Dev Cert.InProjEarlyRefIdeal.nD,
          r.2.mem ((c.tc : Thread Cert.InProjEarlyRefIdeal.nD Cert.InProjEarlyRefIdeal.τ).loc Cert.InProjEarlyRefIdeal.main_v4) = v0 c
          ∧ r.2.mem ((c.tc : Thread Cert.InProjEarlyRefIdeal.nD Cert.InProjEarlyRefIdeal.τ).loc Cert.InProjEarlyRefIdeal.main_arg0) = m' ((c.tc : Thread Cert.InProjEarlyRefIdeal.nD Cert.InProjEarlyRefIdeal.τ).loc Cert.InProjEarlyRefIdeal.main_arg0)
          ∧ r.2.mem ((c.tc : Thread Cert.InProjEarlyRefIdeal.nD Cert.InProjEarlyRefIdeal.τ).loc Cert.InProjEarlyRefIdeal.main_arg1) = m' ((c.tc : Thread Cert.InProjEarlyRefIdeal.nD Cert.InProjEarlyRefIdeal.τ).loc Cert.InProjEarlyRefIdeal.main_arg1))

def preserves_GradMemNorm_GradMemNormIdeal : Prop :=
  True

def algebraic_GradMemNormIdeal_GradMemNormRefIdeal [hGradMemNormIdeal : Cert.GradMemNormIdeal.Facts] [hGradMemNormRefIdeal : Cert.GradMemNormRefIdeal.Facts] : Prop :=
  ∀ (m : (ℓ : Loc Cert.GradMemNormIdeal.nD Cert.GradMemNormIdeal.τ Cert.GradMemNormIdeal.sig) → Buf (Elt Ideal) ℓ) (g : Dev Cert.GradMemNormIdeal.nD → PrngReg)
    (m' : (ℓ : Loc Cert.GradMemNormRefIdeal.nD Cert.GradMemNormRefIdeal.τ Cert.GradMemNormRefIdeal.sig) → Buf (Elt Ideal) ℓ) (g' : Dev Cert.GradMemNormRefIdeal.nD → PrngReg), Pre_GradMemNormIdeal m →
    (∀ c : Dev Cert.GradMemNormIdeal.nD,
      m' ((c.tc : Thread Cert.GradMemNormRefIdeal.nD Cert.GradMemNormRefIdeal.τ).loc Cert.GradMemNormRefIdeal.main_arg0) = m ((c.tc : Thread Cert.GradMemNormIdeal.nD Cert.GradMemNormIdeal.τ).loc Cert.GradMemNormIdeal.main_arg0)
      ∧ m' ((c.tc : Thread Cert.GradMemNormRefIdeal.nD Cert.GradMemNormRefIdeal.τ).loc Cert.GradMemNormRefIdeal.main_arg1) = m ((c.tc : Thread Cert.GradMemNormIdeal.nD Cert.GradMemNormIdeal.τ).loc Cert.GradMemNormIdeal.main_arg1)) →
    ∃ (v0 : (c : Dev Cert.GradMemNormIdeal.nD) → Buf (Elt Ideal) ((c.tc : Thread Cert.GradMemNormIdeal.nD Cert.GradMemNormIdeal.τ).loc Cert.GradMemNormIdeal.main_v0)),
      θ_run (Cert.GradMemNormIdeal.defs (F := Ideal)) (onTc (τ := Cert.GradMemNormIdeal.τ) (Cert.GradMemNormIdeal.main (F := Ideal))) ⟨m, fun _ => 0, g⟩ (fun r => ∀ c : Dev Cert.GradMemNormIdeal.nD,
          r.2.mem ((c.tc : Thread Cert.GradMemNormIdeal.nD Cert.GradMemNormIdeal.τ).loc Cert.GradMemNormIdeal.main_v0) = v0 c
          ∧ r.2.mem ((c.tc : Thread Cert.GradMemNormIdeal.nD Cert.GradMemNormIdeal.τ).loc Cert.GradMemNormIdeal.main_arg0) = m ((c.tc : Thread Cert.GradMemNormIdeal.nD Cert.GradMemNormIdeal.τ).loc Cert.GradMemNormIdeal.main_arg0)
          ∧ r.2.mem ((c.tc : Thread Cert.GradMemNormIdeal.nD Cert.GradMemNormIdeal.τ).loc Cert.GradMemNormIdeal.main_arg1) = m ((c.tc : Thread Cert.GradMemNormIdeal.nD Cert.GradMemNormIdeal.τ).loc Cert.GradMemNormIdeal.main_arg1))
      ∧ θ_run (Cert.GradMemNormRefIdeal.defs (F := Ideal)) (onTc (τ := Cert.GradMemNormRefIdeal.τ) (Cert.GradMemNormRefIdeal.main (F := Ideal))) ⟨m', fun _ => 0, g'⟩ (fun r => ∀ c : Dev Cert.GradMemNormRefIdeal.nD,
          r.2.mem ((c.tc : Thread Cert.GradMemNormRefIdeal.nD Cert.GradMemNormRefIdeal.τ).loc Cert.GradMemNormRefIdeal.main_v15) = v0 c
          ∧ r.2.mem ((c.tc : Thread Cert.GradMemNormRefIdeal.nD Cert.GradMemNormRefIdeal.τ).loc Cert.GradMemNormRefIdeal.main_arg0) = m' ((c.tc : Thread Cert.GradMemNormRefIdeal.nD Cert.GradMemNormRefIdeal.τ).loc Cert.GradMemNormRefIdeal.main_arg0)
          ∧ r.2.mem ((c.tc : Thread Cert.GradMemNormRefIdeal.nD Cert.GradMemNormRefIdeal.τ).loc Cert.GradMemNormRefIdeal.main_arg1) = m' ((c.tc : Thread Cert.GradMemNormRefIdeal.nD Cert.GradMemNormRefIdeal.τ).loc Cert.GradMemNormRefIdeal.main_arg1))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v0)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v12) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)
      ∧ m' ((c.tc : Thread Cert.RmsInRefIdeal.nD Cert.RmsInRefIdeal.τ).loc Cert.RmsInRefIdeal.main_arg2) = m ((c.tc : Thread Cert.RmsInIdeal.nD Cert.RmsInIdeal.τ).loc Cert.RmsInIdeal.main_arg2)) →
    ∃ (v0 : (c : Dev Cert.RmsInIdeal.nD) → Buf (Elt Ideal) ((c.tc : Thread Cert.RmsInIdeal.nD Cert.RmsInIdeal.τ).loc Cert.RmsInIdeal.main_v0)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v0) = v0 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
          ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v12) = v0 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1)
          ∧ r.2.mem ((c.tc : Thread Cert.RmsInRefIdeal.nD Cert.RmsInRefIdeal.τ).loc Cert.RmsInRefIdeal.main_arg2) = m' ((c.tc : Thread Cert.RmsInRefIdeal.nD Cert.RmsInRefIdeal.τ).loc Cert.RmsInRefIdeal.main_arg2))

def preserves_GdnPrepFwd_GdnPrepFwdIdeal : Prop :=
  True

def algebraic_GdnPrepFwdIdeal_GdnPrepFwdRefIdeal [hGdnPrepFwdIdeal : Cert.GdnPrepFwdIdeal.Facts] [hGdnPrepFwdRefIdeal : Cert.GdnPrepFwdRefIdeal.Facts] : Prop :=
  ∀ (m : (ℓ : Loc Cert.GdnPrepFwdIdeal.nD Cert.GdnPrepFwdIdeal.τ Cert.GdnPrepFwdIdeal.sig) → Buf (Elt Ideal) ℓ) (g : Dev Cert.GdnPrepFwdIdeal.nD → PrngReg)
    (m' : (ℓ : Loc Cert.GdnPrepFwdRefIdeal.nD Cert.GdnPrepFwdRefIdeal.τ Cert.GdnPrepFwdRefIdeal.sig) → Buf (Elt Ideal) ℓ) (g' : Dev Cert.GdnPrepFwdRefIdeal.nD → PrngReg), Pre_GdnPrepFwdIdeal m →
    (∀ c : Dev Cert.GdnPrepFwdIdeal.nD,
      m' ((c.tc : Thread Cert.GdnPrepFwdRefIdeal.nD Cert.GdnPrepFwdRefIdeal.τ).loc Cert.GdnPrepFwdRefIdeal.main_arg0) = m ((c.tc : Thread Cert.GdnPrepFwdIdeal.nD Cert.GdnPrepFwdIdeal.τ).loc Cert.GdnPrepFwdIdeal.main_arg0)
      ∧ m' ((c.tc : Thread Cert.GdnPrepFwdRefIdeal.nD Cert.GdnPrepFwdRefIdeal.τ).loc Cert.GdnPrepFwdRefIdeal.main_arg1) = m ((c.tc : Thread Cert.GdnPrepFwdIdeal.nD Cert.GdnPrepFwdIdeal.τ).loc Cert.GdnPrepFwdIdeal.main_arg1)) →
    ∃ (v0 : (c : Dev Cert.GdnPrepFwdIdeal.nD) → Buf (Elt Ideal) ((c.tc : Thread Cert.GdnPrepFwdIdeal.nD Cert.GdnPrepFwdIdeal.τ).loc Cert.GdnPrepFwdIdeal.main_v0)),
      θ_run (Cert.GdnPrepFwdIdeal.defs (F := Ideal)) (onTc (τ := Cert.GdnPrepFwdIdeal.τ) (Cert.GdnPrepFwdIdeal.main (F := Ideal))) ⟨m, fun _ => 0, g⟩ (fun r => ∀ c : Dev Cert.GdnPrepFwdIdeal.nD,
          r.2.mem ((c.tc : Thread Cert.GdnPrepFwdIdeal.nD Cert.GdnPrepFwdIdeal.τ).loc Cert.GdnPrepFwdIdeal.main_v0) = v0 c
          ∧ r.2.mem ((c.tc : Thread Cert.GdnPrepFwdIdeal.nD Cert.GdnPrepFwdIdeal.τ).loc Cert.GdnPrepFwdIdeal.main_arg0) = m ((c.tc : Thread Cert.GdnPrepFwdIdeal.nD Cert.GdnPrepFwdIdeal.τ).loc Cert.GdnPrepFwdIdeal.main_arg0)
          ∧ r.2.mem ((c.tc : Thread Cert.GdnPrepFwdIdeal.nD Cert.GdnPrepFwdIdeal.τ).loc Cert.GdnPrepFwdIdeal.main_arg1) = m ((c.tc : Thread Cert.GdnPrepFwdIdeal.nD Cert.GdnPrepFwdIdeal.τ).loc Cert.GdnPrepFwdIdeal.main_arg1))
      ∧ θ_run (Cert.GdnPrepFwdRefIdeal.defs (F := Ideal)) (onTc (τ := Cert.GdnPrepFwdRefIdeal.τ) (Cert.GdnPrepFwdRefIdeal.main (F := Ideal))) ⟨m', fun _ => 0, g'⟩ (fun r => ∀ c : Dev Cert.GdnPrepFwdRefIdeal.nD,
          r.2.mem ((c.tc : Thread Cert.GdnPrepFwdRefIdeal.nD Cert.GdnPrepFwdRefIdeal.τ).loc Cert.GdnPrepFwdRefIdeal.main_v59) = v0 c
          ∧ r.2.mem ((c.tc : Thread Cert.GdnPrepFwdRefIdeal.nD Cert.GdnPrepFwdRefIdeal.τ).loc Cert.GdnPrepFwdRefIdeal.main_arg0) = m' ((c.tc : Thread Cert.GdnPrepFwdRefIdeal.nD Cert.GdnPrepFwdRefIdeal.τ).loc Cert.GdnPrepFwdRefIdeal.main_arg0)
          ∧ r.2.mem ((c.tc : Thread Cert.GdnPrepFwdRefIdeal.nD Cert.GdnPrepFwdRefIdeal.τ).loc Cert.GdnPrepFwdRefIdeal.main_arg1) = m' ((c.tc : Thread Cert.GdnPrepFwdRefIdeal.nD Cert.GdnPrepFwdRefIdeal.τ).loc Cert.GdnPrepFwdRefIdeal.main_arg1))

def preserves_RopeTables_RopeTablesIdeal : Prop :=
  True

def algebraic_RopeTablesIdeal_RopeTablesRefIdeal [hRopeTablesIdeal : Cert.RopeTablesIdeal.Facts] [hRopeTablesRefIdeal : Cert.RopeTablesRefIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg)
    (m' : (ℓ : Loc Cert.RopeTablesRefIdeal.nD Cert.RopeTablesRefIdeal.τ Cert.RopeTablesRefIdeal.sig) → Buf (Elt Ideal) ℓ) (g' : Dev Cert.RopeTablesRefIdeal.nD → PrngReg), Pre_RopeTablesIdeal m →
    (∀ c : Dev Cert.RopeTablesIdeal.nD,
      m' ((c.tc : Thread Cert.RopeTablesRefIdeal.nD Cert.RopeTablesRefIdeal.τ).loc Cert.RopeTablesRefIdeal.main_arg0) = m ((c.tc : Thread Cert.RopeTablesIdeal.nD Cert.RopeTablesIdeal.τ).loc Cert.RopeTablesIdeal.main_arg0)
      ∧ m' ((c.tc : Thread Cert.RopeTablesRefIdeal.nD Cert.RopeTablesRefIdeal.τ).loc Cert.RopeTablesRefIdeal.main_arg1) = m ((c.tc : Thread Cert.RopeTablesIdeal.nD Cert.RopeTablesIdeal.τ).loc Cert.RopeTablesIdeal.main_arg1)) →
    ∃ (v0 : (c : Dev Cert.RopeTablesIdeal.nD) → Buf (Elt Ideal) ((c.tc : Thread Cert.RopeTablesIdeal.nD Cert.RopeTablesIdeal.τ).loc Cert.RopeTablesIdeal.main_v16_0)) (v1 : (c : Dev Cert.RopeTablesIdeal.nD) → Buf (Elt Ideal) ((c.tc : Thread Cert.RopeTablesIdeal.nD Cert.RopeTablesIdeal.τ).loc Cert.RopeTablesIdeal.main_v16_1)),
      θ_run (Cert.RopeTablesIdeal.defs (F := Ideal)) (onTc (τ := Cert.RopeTablesIdeal.τ) (Cert.RopeTablesIdeal.main (F := Ideal))) ⟨m, fun _ => 0, g⟩ (fun r => ∀ c : Dev Cert.RopeTablesIdeal.nD,
          r.2.mem ((c.tc : Thread Cert.RopeTablesIdeal.nD Cert.RopeTablesIdeal.τ).loc Cert.RopeTablesIdeal.main_v16_0) = v0 c
          ∧ r.2.mem ((c.tc : Thread Cert.RopeTablesIdeal.nD Cert.RopeTablesIdeal.τ).loc Cert.RopeTablesIdeal.main_v16_1) = v1 c
          ∧ r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0)
          ∧ r.2.mem ((c.tc : Thread Cert.RopeTablesIdeal.nD Cert.RopeTablesIdeal.τ).loc Cert.RopeTablesIdeal.main_arg1) = m ((c.tc : Thread Cert.RopeTablesIdeal.nD Cert.RopeTablesIdeal.τ).loc Cert.RopeTablesIdeal.main_arg1))
      ∧ θ_run (Cert.RopeTablesRefIdeal.defs (F := Ideal)) (onTc (τ := Cert.RopeTablesRefIdeal.τ) (Cert.RopeTablesRefIdeal.main (F := Ideal))) ⟨m', fun _ => 0, g'⟩ (fun r => ∀ c : Dev Cert.RopeTablesRefIdeal.nD,
          r.2.mem ((c.tc : Thread Cert.RopeTablesRefIdeal.nD Cert.RopeTablesRefIdeal.τ).loc Cert.RopeTablesRefIdeal.main_v15) = v0 c
          ∧ r.2.mem ((c.tc : Thread Cert.RopeTablesRefIdeal.nD Cert.RopeTablesRefIdeal.τ).loc Cert.RopeTablesRefIdeal.main_v17) = v1 c
          ∧ r.2.mem ((c.tc : Thread Cert.RopeTablesRefIdeal.nD Cert.RopeTablesRefIdeal.τ).loc Cert.RopeTablesRefIdeal.main_arg0) = m' ((c.tc : Thread Cert.RopeTablesRefIdeal.nD Cert.RopeTablesRefIdeal.τ).loc Cert.RopeTablesRefIdeal.main_arg0)
          ∧ r.2.mem ((c.tc : Thread Cert.RopeTablesRefIdeal.nD Cert.RopeTablesRefIdeal.τ).loc Cert.RopeTablesRefIdeal.main_arg1) = m' ((c.tc : Thread Cert.RopeTablesRefIdeal.nD Cert.RopeTablesRefIdeal.τ).loc Cert.RopeTablesRefIdeal.main_arg1))

def preserves_AdamwGdnConv_AdamwGdnConvIdeal : Prop :=
  True

def algebraic_AdamwGdnConvIdeal_AdamwGdnConvRefIdeal [hAdamwGdnConvIdeal : Cert.AdamwGdnConvIdeal.Facts] [hAdamwGdnConvRefIdeal : Cert.AdamwGdnConvRefIdeal.Facts] : Prop :=
  ∀ (m : (ℓ : Loc Cert.AdamwGdnConvIdeal.nD Cert.AdamwGdnConvIdeal.τ Cert.AdamwGdnConvIdeal.sig) → Buf (Elt Ideal) ℓ) (g : Dev Cert.AdamwGdnConvIdeal.nD → PrngReg)
    (m' : (ℓ : Loc Cert.AdamwGdnConvRefIdeal.nD Cert.AdamwGdnConvRefIdeal.τ Cert.AdamwGdnConvRefIdeal.sig) → Buf (Elt Ideal) ℓ) (g' : Dev Cert.AdamwGdnConvRefIdeal.nD → PrngReg), Pre_AdamwGdnConvIdeal m →
    (∀ c : Dev Cert.AdamwGdnConvIdeal.nD,
      m' ((c.tc : Thread Cert.AdamwGdnConvRefIdeal.nD Cert.AdamwGdnConvRefIdeal.τ).loc Cert.AdamwGdnConvRefIdeal.main_arg0) = m ((c.tc : Thread Cert.AdamwGdnConvIdeal.nD Cert.AdamwGdnConvIdeal.τ).loc Cert.AdamwGdnConvIdeal.main_arg0)
      ∧ m' ((c.tc : Thread Cert.AdamwGdnConvRefIdeal.nD Cert.AdamwGdnConvRefIdeal.τ).loc Cert.AdamwGdnConvRefIdeal.main_arg1) = m ((c.tc : Thread Cert.AdamwGdnConvIdeal.nD Cert.AdamwGdnConvIdeal.τ).loc Cert.AdamwGdnConvIdeal.main_arg1)
      ∧ m' ((c.tc : Thread Cert.AdamwGdnConvRefIdeal.nD Cert.AdamwGdnConvRefIdeal.τ).loc Cert.AdamwGdnConvRefIdeal.main_arg2) = m ((c.tc : Thread Cert.AdamwGdnConvIdeal.nD Cert.AdamwGdnConvIdeal.τ).loc Cert.AdamwGdnConvIdeal.main_arg2)
      ∧ m' ((c.tc : Thread Cert.AdamwGdnConvRefIdeal.nD Cert.AdamwGdnConvRefIdeal.τ).loc Cert.AdamwGdnConvRefIdeal.main_arg3) = m ((c.tc : Thread Cert.AdamwGdnConvIdeal.nD Cert.AdamwGdnConvIdeal.τ).loc Cert.AdamwGdnConvIdeal.main_arg3)) →
    ∃ (v0 : (c : Dev Cert.AdamwGdnConvIdeal.nD) → Buf (Elt Ideal) ((c.tc : Thread Cert.AdamwGdnConvIdeal.nD Cert.AdamwGdnConvIdeal.τ).loc Cert.AdamwGdnConvIdeal.main_v0_0)) (v1 : (c : Dev Cert.AdamwGdnConvIdeal.nD) → Buf (Elt Ideal) ((c.tc : Thread Cert.AdamwGdnConvIdeal.nD Cert.AdamwGdnConvIdeal.τ).loc Cert.AdamwGdnConvIdeal.main_v0_1)) (v2 : (c : Dev Cert.AdamwGdnConvIdeal.nD) → Buf (Elt Ideal) ((c.tc : Thread Cert.AdamwGdnConvIdeal.nD Cert.AdamwGdnConvIdeal.τ).loc Cert.AdamwGdnConvIdeal.main_v0_2)),
      θ_run (Cert.AdamwGdnConvIdeal.defs (F := Ideal)) (onTc (τ := Cert.AdamwGdnConvIdeal.τ) (Cert.AdamwGdnConvIdeal.main (F := Ideal))) ⟨m, fun _ => 0, g⟩ (fun r => ∀ c : Dev Cert.AdamwGdnConvIdeal.nD,
          r.2.mem ((c.tc : Thread Cert.AdamwGdnConvIdeal.nD Cert.AdamwGdnConvIdeal.τ).loc Cert.AdamwGdnConvIdeal.main_v0_0) = v0 c
          ∧ r.2.mem ((c.tc : Thread Cert.AdamwGdnConvIdeal.nD Cert.AdamwGdnConvIdeal.τ).loc Cert.AdamwGdnConvIdeal.main_v0_1) = v1 c
          ∧ r.2.mem ((c.tc : Thread Cert.AdamwGdnConvIdeal.nD Cert.AdamwGdnConvIdeal.τ).loc Cert.AdamwGdnConvIdeal.main_v0_2) = v2 c
          ∧ r.2.mem ((c.tc : Thread Cert.AdamwGdnConvIdeal.nD Cert.AdamwGdnConvIdeal.τ).loc Cert.AdamwGdnConvIdeal.main_arg0) = m ((c.tc : Thread Cert.AdamwGdnConvIdeal.nD Cert.AdamwGdnConvIdeal.τ).loc Cert.AdamwGdnConvIdeal.main_arg0)
          ∧ r.2.mem ((c.tc : Thread Cert.AdamwGdnConvIdeal.nD Cert.AdamwGdnConvIdeal.τ).loc Cert.AdamwGdnConvIdeal.main_arg1) = m ((c.tc : Thread Cert.AdamwGdnConvIdeal.nD Cert.AdamwGdnConvIdeal.τ).loc Cert.AdamwGdnConvIdeal.main_arg1)
          ∧ r.2.mem ((c.tc : Thread Cert.AdamwGdnConvIdeal.nD Cert.AdamwGdnConvIdeal.τ).loc Cert.AdamwGdnConvIdeal.main_arg2) = m ((c.tc : Thread Cert.AdamwGdnConvIdeal.nD Cert.AdamwGdnConvIdeal.τ).loc Cert.AdamwGdnConvIdeal.main_arg2)
          ∧ r.2.mem ((c.tc : Thread Cert.AdamwGdnConvIdeal.nD Cert.AdamwGdnConvIdeal.τ).loc Cert.AdamwGdnConvIdeal.main_arg3) = m ((c.tc : Thread Cert.AdamwGdnConvIdeal.nD Cert.AdamwGdnConvIdeal.τ).loc Cert.AdamwGdnConvIdeal.main_arg3))
      ∧ θ_run (Cert.AdamwGdnConvRefIdeal.defs (F := Ideal)) (onTc (τ := Cert.AdamwGdnConvRefIdeal.τ) (Cert.AdamwGdnConvRefIdeal.main (F := Ideal))) ⟨m', fun _ => 0, g'⟩ (fun r => ∀ c : Dev Cert.AdamwGdnConvRefIdeal.nD,
          r.2.mem ((c.tc : Thread Cert.AdamwGdnConvRefIdeal.nD Cert.AdamwGdnConvRefIdeal.τ).loc Cert.AdamwGdnConvRefIdeal.main_v24) = v0 c
          ∧ r.2.mem ((c.tc : Thread Cert.AdamwGdnConvRefIdeal.nD Cert.AdamwGdnConvRefIdeal.τ).loc Cert.AdamwGdnConvRefIdeal.main_v5) = v1 c
          ∧ r.2.mem ((c.tc : Thread Cert.AdamwGdnConvRefIdeal.nD Cert.AdamwGdnConvRefIdeal.τ).loc Cert.AdamwGdnConvRefIdeal.main_v11) = v2 c
          ∧ r.2.mem ((c.tc : Thread Cert.AdamwGdnConvRefIdeal.nD Cert.AdamwGdnConvRefIdeal.τ).loc Cert.AdamwGdnConvRefIdeal.main_arg0) = m' ((c.tc : Thread Cert.AdamwGdnConvRefIdeal.nD Cert.AdamwGdnConvRefIdeal.τ).loc Cert.AdamwGdnConvRefIdeal.main_arg0)
          ∧ r.2.mem ((c.tc : Thread Cert.AdamwGdnConvRefIdeal.nD Cert.AdamwGdnConvRefIdeal.τ).loc Cert.AdamwGdnConvRefIdeal.main_arg1) = m' ((c.tc : Thread Cert.AdamwGdnConvRefIdeal.nD Cert.AdamwGdnConvRefIdeal.τ).loc Cert.AdamwGdnConvRefIdeal.main_arg1)
          ∧ r.2.mem ((c.tc : Thread Cert.AdamwGdnConvRefIdeal.nD Cert.AdamwGdnConvRefIdeal.τ).loc Cert.AdamwGdnConvRefIdeal.main_arg2) = m' ((c.tc : Thread Cert.AdamwGdnConvRefIdeal.nD Cert.AdamwGdnConvRefIdeal.τ).loc Cert.AdamwGdnConvRefIdeal.main_arg2)
          ∧ r.2.mem ((c.tc : Thread Cert.AdamwGdnConvRefIdeal.nD Cert.AdamwGdnConvRefIdeal.τ).loc Cert.AdamwGdnConvRefIdeal.main_arg3) = m' ((c.tc : Thread Cert.AdamwGdnConvRefIdeal.nD Cert.AdamwGdnConvRefIdeal.τ).loc Cert.AdamwGdnConvRefIdeal.main_arg3))

def preserves_AdamwWMemKv_AdamwWMemKvIdeal : Prop :=
  True

def algebraic_AdamwWMemKvIdeal_AdamwWMemKvRefIdeal [hAdamwWMemKvIdeal : Cert.AdamwWMemKvIdeal.Facts] [hAdamwWMemKvRefIdeal : Cert.AdamwWMemKvRefIdeal.Facts] : Prop :=
  ∀ (m : (ℓ : Loc Cert.AdamwWMemKvIdeal.nD Cert.AdamwWMemKvIdeal.τ Cert.AdamwWMemKvIdeal.sig) → Buf (Elt Ideal) ℓ) (g : Dev Cert.AdamwWMemKvIdeal.nD → PrngReg)
    (m' : (ℓ : Loc Cert.AdamwWMemKvRefIdeal.nD Cert.AdamwWMemKvRefIdeal.τ Cert.AdamwWMemKvRefIdeal.sig) → Buf (Elt Ideal) ℓ) (g' : Dev Cert.AdamwWMemKvRefIdeal.nD → PrngReg), Pre_AdamwWMemKvIdeal m →
    (∀ c : Dev Cert.AdamwWMemKvIdeal.nD,
      m' ((c.tc : Thread Cert.AdamwWMemKvRefIdeal.nD Cert.AdamwWMemKvRefIdeal.τ).loc Cert.AdamwWMemKvRefIdeal.main_arg0) = m ((c.tc : Thread Cert.AdamwWMemKvIdeal.nD Cert.AdamwWMemKvIdeal.τ).loc Cert.AdamwWMemKvIdeal.main_arg0)
      ∧ m' ((c.tc : Thread Cert.AdamwWMemKvRefIdeal.nD Cert.AdamwWMemKvRefIdeal.τ).loc Cert.AdamwWMemKvRefIdeal.main_arg1) = m ((c.tc : Thread Cert.AdamwWMemKvIdeal.nD Cert.AdamwWMemKvIdeal.τ).loc Cert.AdamwWMemKvIdeal.main_arg1)
      ∧ m' ((c.tc : Thread Cert.AdamwWMemKvRefIdeal.nD Cert.AdamwWMemKvRefIdeal.τ).loc Cert.AdamwWMemKvRefIdeal.main_arg2) = m ((c.tc : Thread Cert.AdamwWMemKvIdeal.nD Cert.AdamwWMemKvIdeal.τ).loc Cert.AdamwWMemKvIdeal.main_arg2)
      ∧ m' ((c.tc : Thread Cert.AdamwWMemKvRefIdeal.nD Cert.AdamwWMemKvRefIdeal.τ).loc Cert.AdamwWMemKvRefIdeal.main_arg3) = m ((c.tc : Thread Cert.AdamwWMemKvIdeal.nD Cert.AdamwWMemKvIdeal.τ).loc Cert.AdamwWMemKvIdeal.main_arg3)
      ∧ m' ((c.tc : Thread Cert.AdamwWMemKvRefIdeal.nD Cert.AdamwWMemKvRefIdeal.τ).loc Cert.AdamwWMemKvRefIdeal.main_arg4) = m ((c.tc : Thread Cert.AdamwWMemKvIdeal.nD Cert.AdamwWMemKvIdeal.τ).loc Cert.AdamwWMemKvIdeal.main_arg4)) →
    ∃ (v0 : (c : Dev Cert.AdamwWMemKvIdeal.nD) → Buf (Elt Ideal) ((c.tc : Thread Cert.AdamwWMemKvIdeal.nD Cert.AdamwWMemKvIdeal.τ).loc Cert.AdamwWMemKvIdeal.main_v0_0)) (v1 : (c : Dev Cert.AdamwWMemKvIdeal.nD) → Buf (Elt Ideal) ((c.tc : Thread Cert.AdamwWMemKvIdeal.nD Cert.AdamwWMemKvIdeal.τ).loc Cert.AdamwWMemKvIdeal.main_v0_1)) (v2 : (c : Dev Cert.AdamwWMemKvIdeal.nD) → Buf (Elt Ideal) ((c.tc : Thread Cert.AdamwWMemKvIdeal.nD Cert.AdamwWMemKvIdeal.τ).loc Cert.AdamwWMemKvIdeal.main_v0_2)) (v3 : (c : Dev Cert.AdamwWMemKvIdeal.nD) → Buf (Elt Ideal) ((c.tc : Thread Cert.AdamwWMemKvIdeal.nD Cert.AdamwWMemKvIdeal.τ).loc Cert.AdamwWMemKvIdeal.main_v0_3)),
      θ_run (Cert.AdamwWMemKvIdeal.defs (F := Ideal)) (onTc (τ := Cert.AdamwWMemKvIdeal.τ) (Cert.AdamwWMemKvIdeal.main (F := Ideal))) ⟨m, fun _ => 0, g⟩ (fun r => ∀ c : Dev Cert.AdamwWMemKvIdeal.nD,
          r.2.mem ((c.tc : Thread Cert.AdamwWMemKvIdeal.nD Cert.AdamwWMemKvIdeal.τ).loc Cert.AdamwWMemKvIdeal.main_v0_0) = v0 c
          ∧ r.2.mem ((c.tc : Thread Cert.AdamwWMemKvIdeal.nD Cert.AdamwWMemKvIdeal.τ).loc Cert.AdamwWMemKvIdeal.main_v0_1) = v1 c
          ∧ r.2.mem ((c.tc : Thread Cert.AdamwWMemKvIdeal.nD Cert.AdamwWMemKvIdeal.τ).loc Cert.AdamwWMemKvIdeal.main_v0_2) = v2 c
          ∧ r.2.mem ((c.tc : Thread Cert.AdamwWMemKvIdeal.nD Cert.AdamwWMemKvIdeal.τ).loc Cert.AdamwWMemKvIdeal.main_v0_3) = v3 c
          ∧ r.2.mem ((c.tc : Thread Cert.AdamwWMemKvIdeal.nD Cert.AdamwWMemKvIdeal.τ).loc Cert.AdamwWMemKvIdeal.main_arg0) = m ((c.tc : Thread Cert.AdamwWMemKvIdeal.nD Cert.AdamwWMemKvIdeal.τ).loc Cert.AdamwWMemKvIdeal.main_arg0)
          ∧ r.2.mem ((c.tc : Thread Cert.AdamwWMemKvIdeal.nD Cert.AdamwWMemKvIdeal.τ).loc Cert.AdamwWMemKvIdeal.main_arg1) = m ((c.tc : Thread Cert.AdamwWMemKvIdeal.nD Cert.AdamwWMemKvIdeal.τ).loc Cert.AdamwWMemKvIdeal.main_arg1)
          ∧ r.2.mem ((c.tc : Thread Cert.AdamwWMemKvIdeal.nD Cert.AdamwWMemKvIdeal.τ).loc Cert.AdamwWMemKvIdeal.main_arg2) = m ((c.tc : Thread Cert.AdamwWMemKvIdeal.nD Cert.AdamwWMemKvIdeal.τ).loc Cert.AdamwWMemKvIdeal.main_arg2)
          ∧ r.2.mem ((c.tc : Thread Cert.AdamwWMemKvIdeal.nD Cert.AdamwWMemKvIdeal.τ).loc Cert.AdamwWMemKvIdeal.main_arg3) = m ((c.tc : Thread Cert.AdamwWMemKvIdeal.nD Cert.AdamwWMemKvIdeal.τ).loc Cert.AdamwWMemKvIdeal.main_arg3)
          ∧ r.2.mem ((c.tc : Thread Cert.AdamwWMemKvIdeal.nD Cert.AdamwWMemKvIdeal.τ).loc Cert.AdamwWMemKvIdeal.main_arg4) = m ((c.tc : Thread Cert.AdamwWMemKvIdeal.nD Cert.AdamwWMemKvIdeal.τ).loc Cert.AdamwWMemKvIdeal.main_arg4))
      ∧ θ_run (Cert.AdamwWMemKvRefIdeal.defs (F := Ideal)) (onTc (τ := Cert.AdamwWMemKvRefIdeal.τ) (Cert.AdamwWMemKvRefIdeal.main (F := Ideal))) ⟨m', fun _ => 0, g'⟩ (fun r => ∀ c : Dev Cert.AdamwWMemKvRefIdeal.nD,
          r.2.mem ((c.tc : Thread Cert.AdamwWMemKvRefIdeal.nD Cert.AdamwWMemKvRefIdeal.τ).loc Cert.AdamwWMemKvRefIdeal.main_v1) = v0 c
          ∧ r.2.mem ((c.tc : Thread Cert.AdamwWMemKvRefIdeal.nD Cert.AdamwWMemKvRefIdeal.τ).loc Cert.AdamwWMemKvRefIdeal.main_v25) = v1 c
          ∧ r.2.mem ((c.tc : Thread Cert.AdamwWMemKvRefIdeal.nD Cert.AdamwWMemKvRefIdeal.τ).loc Cert.AdamwWMemKvRefIdeal.main_v6) = v2 c
          ∧ r.2.mem ((c.tc : Thread Cert.AdamwWMemKvRefIdeal.nD Cert.AdamwWMemKvRefIdeal.τ).loc Cert.AdamwWMemKvRefIdeal.main_v12) = v3 c
          ∧ r.2.mem ((c.tc : Thread Cert.AdamwWMemKvRefIdeal.nD Cert.AdamwWMemKvRefIdeal.τ).loc Cert.AdamwWMemKvRefIdeal.main_arg0) = m' ((c.tc : Thread Cert.AdamwWMemKvRefIdeal.nD Cert.AdamwWMemKvRefIdeal.τ).loc Cert.AdamwWMemKvRefIdeal.main_arg0)
          ∧ r.2.mem ((c.tc : Thread Cert.AdamwWMemKvRefIdeal.nD Cert.AdamwWMemKvRefIdeal.τ).loc Cert.AdamwWMemKvRefIdeal.main_arg1) = m' ((c.tc : Thread Cert.AdamwWMemKvRefIdeal.nD Cert.AdamwWMemKvRefIdeal.τ).loc Cert.AdamwWMemKvRefIdeal.main_arg1)
          ∧ r.2.mem ((c.tc : Thread Cert.AdamwWMemKvRefIdeal.nD Cert.AdamwWMemKvRefIdeal.τ).loc Cert.AdamwWMemKvRefIdeal.main_arg2) = m' ((c.tc : Thread Cert.AdamwWMemKvRefIdeal.nD Cert.AdamwWMemKvRefIdeal.τ).loc Cert.AdamwWMemKvRefIdeal.main_arg2)
          ∧ r.2.mem ((c.tc : Thread Cert.AdamwWMemKvRefIdeal.nD Cert.AdamwWMemKvRefIdeal.τ).loc Cert.AdamwWMemKvRefIdeal.main_arg3) = m' ((c.tc : Thread Cert.AdamwWMemKvRefIdeal.nD Cert.AdamwWMemKvRefIdeal.τ).loc Cert.AdamwWMemKvRefIdeal.main_arg3)
          ∧ r.2.mem ((c.tc : Thread Cert.AdamwWMemKvRefIdeal.nD Cert.AdamwWMemKvRefIdeal.τ).loc Cert.AdamwWMemKvRefIdeal.main_arg4) = m' ((c.tc : Thread Cert.AdamwWMemKvRefIdeal.nD Cert.AdamwWMemKvRefIdeal.τ).loc Cert.AdamwWMemKvRefIdeal.main_arg4))

def preserves_AdamwWOut_AdamwWOutIdeal : Prop :=
  True

def algebraic_AdamwWOutIdeal_AdamwWOutRefIdeal [hAdamwWOutIdeal : Cert.AdamwWOutIdeal.Facts] [hAdamwWOutRefIdeal : Cert.AdamwWOutRefIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutRefIdeal.nD Cert.AdamwWOutRefIdeal.τ Cert.AdamwWOutRefIdeal.sig) → Buf (Elt Ideal) ℓ) (g' : Dev Cert.AdamwWOutRefIdeal.nD → PrngReg), Pre_AdamwWOutIdeal m →
    (∀ c : Dev Cert.AdamwWOutIdeal.nD,
      m' ((c.tc : Thread Cert.AdamwWOutRefIdeal.nD Cert.AdamwWOutRefIdeal.τ).loc Cert.AdamwWOutRefIdeal.main_arg0) = m ((c.tc : Thread Cert.AdamwWOutIdeal.nD Cert.AdamwWOutIdeal.τ).loc Cert.AdamwWOutIdeal.main_arg0)
      ∧ m' ((c.tc : Thread Cert.AdamwWOutRefIdeal.nD Cert.AdamwWOutRefIdeal.τ).loc Cert.AdamwWOutRefIdeal.main_arg1) = m ((c.tc : Thread Cert.AdamwWOutIdeal.nD Cert.AdamwWOutIdeal.τ).loc Cert.AdamwWOutIdeal.main_arg1)
      ∧ m' ((c.tc : Thread Cert.AdamwWOutRefIdeal.nD Cert.AdamwWOutRefIdeal.τ).loc Cert.AdamwWOutRefIdeal.main_arg2) = m ((c.tc : Thread Cert.AdamwWOutIdeal.nD Cert.AdamwWOutIdeal.τ).loc Cert.AdamwWOutIdeal.main_arg2)
      ∧ m' ((c.tc : Thread Cert.AdamwWOutRefIdeal.nD Cert.AdamwWOutRefIdeal.τ).loc Cert.AdamwWOutRefIdeal.main_arg3) = m ((c.tc : Thread Cert.AdamwWOutIdeal.nD Cert.AdamwWOutIdeal.τ).loc Cert.AdamwWOutIdeal.main_arg3)
      ∧ m' ((c.tc : Thread Cert.AdamwWOutRefIdeal.nD Cert.AdamwWOutRefIdeal.τ).loc Cert.AdamwWOutRefIdeal.main_arg4) = m ((c.tc : Thread Cert.AdamwWOutIdeal.nD Cert.AdamwWOutIdeal.τ).loc Cert.AdamwWOutIdeal.main_arg4)) →
    ∃ (v0 : (c : Dev Cert.AdamwWOutIdeal.nD) → Buf (Elt Ideal) ((c.tc : Thread Cert.AdamwWOutIdeal.nD Cert.AdamwWOutIdeal.τ).loc Cert.AdamwWOutIdeal.main_v0_0)) (v1 : (c : Dev Cert.AdamwWOutIdeal.nD) → Buf (Elt Ideal) ((c.tc : Thread Cert.AdamwWOutIdeal.nD Cert.AdamwWOutIdeal.τ).loc Cert.AdamwWOutIdeal.main_v0_1)) (v2 : (c : Dev Cert.AdamwWOutIdeal.nD) → Buf (Elt Ideal) ((c.tc : Thread Cert.AdamwWOutIdeal.nD Cert.AdamwWOutIdeal.τ).loc Cert.AdamwWOutIdeal.main_v0_2)) (v3 : (c : Dev Cert.AdamwWOutIdeal.nD) → Buf (Elt Ideal) ((c.tc : Thread Cert.AdamwWOutIdeal.nD Cert.AdamwWOutIdeal.τ).loc Cert.AdamwWOutIdeal.main_v0_3)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v0_0) = v0 c
          ∧ r.2.mem ((c.tc : Thread Cert.AdamwWOutIdeal.nD Cert.AdamwWOutIdeal.τ).loc Cert.AdamwWOutIdeal.main_v0_1) = v1 c
          ∧ r.2.mem ((c.tc : Thread Cert.AdamwWOutIdeal.nD Cert.AdamwWOutIdeal.τ).loc Cert.AdamwWOutIdeal.main_v0_2) = v2 c
          ∧ r.2.mem ((c.tc : Thread Cert.AdamwWOutIdeal.nD Cert.AdamwWOutIdeal.τ).loc Cert.AdamwWOutIdeal.main_v0_3) = v3 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3)
          ∧ r.2.mem ((c.tc : Thread Cert.AdamwWOutIdeal.nD Cert.AdamwWOutIdeal.τ).loc Cert.AdamwWOutIdeal.main_arg4) = m ((c.tc : Thread Cert.AdamwWOutIdeal.nD Cert.AdamwWOutIdeal.τ).loc Cert.AdamwWOutIdeal.main_arg4))
      ∧ θ_run (Cert.AdamwWOutRefIdeal.defs (F := Ideal)) (onTc (τ := Cert.AdamwWOutRefIdeal.τ) (Cert.AdamwWOutRefIdeal.main (F := Ideal))) ⟨m', fun _ => 0, g'⟩ (fun r => ∀ c : Dev Cert.AdamwWOutRefIdeal.nD,
          r.2.mem ((c.tc : Thread Cert.AdamwWOutRefIdeal.nD Cert.AdamwWOutRefIdeal.τ).loc Cert.AdamwWOutRefIdeal.main_v1) = v0 c
          ∧ r.2.mem ((c.tc : Thread Cert.AdamwWOutRefIdeal.nD Cert.AdamwWOutRefIdeal.τ).loc Cert.AdamwWOutRefIdeal.main_v25) = v1 c
          ∧ r.2.mem ((c.tc : Thread Cert.AdamwWOutRefIdeal.nD Cert.AdamwWOutRefIdeal.τ).loc Cert.AdamwWOutRefIdeal.main_v6) = v2 c
          ∧ r.2.mem ((c.tc : Thread Cert.AdamwWOutRefIdeal.nD Cert.AdamwWOutRefIdeal.τ).loc Cert.AdamwWOutRefIdeal.main_v12) = v3 c
          ∧ r.2.mem ((c.tc : Thread Cert.AdamwWOutRefIdeal.nD Cert.AdamwWOutRefIdeal.τ).loc Cert.AdamwWOutRefIdeal.main_arg0) = m' ((c.tc : Thread Cert.AdamwWOutRefIdeal.nD Cert.AdamwWOutRefIdeal.τ).loc Cert.AdamwWOutRefIdeal.main_arg0)
          ∧ r.2.mem ((c.tc : Thread Cert.AdamwWOutRefIdeal.nD Cert.AdamwWOutRefIdeal.τ).loc Cert.AdamwWOutRefIdeal.main_arg1) = m' ((c.tc : Thread Cert.AdamwWOutRefIdeal.nD Cert.AdamwWOutRefIdeal.τ).loc Cert.AdamwWOutRefIdeal.main_arg1)
          ∧ r.2.mem ((c.tc : Thread Cert.AdamwWOutRefIdeal.nD Cert.AdamwWOutRefIdeal.τ).loc Cert.AdamwWOutRefIdeal.main_arg2) = m' ((c.tc : Thread Cert.AdamwWOutRefIdeal.nD Cert.AdamwWOutRefIdeal.τ).loc Cert.AdamwWOutRefIdeal.main_arg2)
          ∧ r.2.mem ((c.tc : Thread Cert.AdamwWOutRefIdeal.nD Cert.AdamwWOutRefIdeal.τ).loc Cert.AdamwWOutRefIdeal.main_arg3) = m' ((c.tc : Thread Cert.AdamwWOutRefIdeal.nD Cert.AdamwWOutRefIdeal.τ).loc Cert.AdamwWOutRefIdeal.main_arg3)
          ∧ r.2.mem ((c.tc : Thread Cert.AdamwWOutRefIdeal.nD Cert.AdamwWOutRefIdeal.τ).loc Cert.AdamwWOutRefIdeal.main_arg4) = m' ((c.tc : Thread Cert.AdamwWOutRefIdeal.nD Cert.AdamwWOutRefIdeal.τ).loc Cert.AdamwWOutRefIdeal.main_arg4))

def preserves_GdnGateFwd_GdnGateFwdIdeal : Prop :=
  True

def algebraic_GdnGateFwdIdeal_GdnGateFwdRefIdeal [hGdnGateFwdIdeal : Cert.GdnGateFwdIdeal.Facts] [hGdnGateFwdRefIdeal : Cert.GdnGateFwdRefIdeal.Facts] : Prop :=
  ∀ (m : (ℓ : Loc Cert.GdnGateFwdIdeal.nD Cert.GdnGateFwdIdeal.τ Cert.GdnGateFwdIdeal.sig) → Buf (Elt Ideal) ℓ) (g : Dev Cert.GdnGateFwdIdeal.nD → PrngReg)
    (m' : (ℓ : Loc Cert.GdnGateFwdRefIdeal.nD Cert.GdnGateFwdRefIdeal.τ Cert.GdnGateFwdRefIdeal.sig) → Buf (Elt Ideal) ℓ) (g' : Dev Cert.GdnGateFwdRefIdeal.nD → PrngReg), Pre_GdnGateFwdIdeal m →
    (∀ c : Dev Cert.GdnGateFwdIdeal.nD,
      m' ((c.tc : Thread Cert.GdnGateFwdRefIdeal.nD Cert.GdnGateFwdRefIdeal.τ).loc Cert.GdnGateFwdRefIdeal.main_arg0) = m ((c.tc : Thread Cert.GdnGateFwdIdeal.nD Cert.GdnGateFwdIdeal.τ).loc Cert.GdnGateFwdIdeal.main_arg0)
      ∧ m' ((c.tc : Thread Cert.GdnGateFwdRefIdeal.nD Cert.GdnGateFwdRefIdeal.τ).loc Cert.GdnGateFwdRefIdeal.main_arg1) = m ((c.tc : Thread Cert.GdnGateFwdIdeal.nD Cert.GdnGateFwdIdeal.τ).loc Cert.GdnGateFwdIdeal.main_arg1)
      ∧ m' ((c.tc : Thread Cert.GdnGateFwdRefIdeal.nD Cert.GdnGateFwdRefIdeal.τ).loc Cert.GdnGateFwdRefIdeal.main_arg2) = m ((c.tc : Thread Cert.GdnGateFwdIdeal.nD Cert.GdnGateFwdIdeal.τ).loc Cert.GdnGateFwdIdeal.main_arg2)) →
    ∃ (v0 : (c : Dev Cert.GdnGateFwdIdeal.nD) → Buf (Elt Ideal) ((c.tc : Thread Cert.GdnGateFwdIdeal.nD Cert.GdnGateFwdIdeal.τ).loc Cert.GdnGateFwdIdeal.main_v0)),
      θ_run (Cert.GdnGateFwdIdeal.defs (F := Ideal)) (onTc (τ := Cert.GdnGateFwdIdeal.τ) (Cert.GdnGateFwdIdeal.main (F := Ideal))) ⟨m, fun _ => 0, g⟩ (fun r => ∀ c : Dev Cert.GdnGateFwdIdeal.nD,
          r.2.mem ((c.tc : Thread Cert.GdnGateFwdIdeal.nD Cert.GdnGateFwdIdeal.τ).loc Cert.GdnGateFwdIdeal.main_v0) = v0 c
          ∧ r.2.mem ((c.tc : Thread Cert.GdnGateFwdIdeal.nD Cert.GdnGateFwdIdeal.τ).loc Cert.GdnGateFwdIdeal.main_arg0) = m ((c.tc : Thread Cert.GdnGateFwdIdeal.nD Cert.GdnGateFwdIdeal.τ).loc Cert.GdnGateFwdIdeal.main_arg0)
          ∧ r.2.mem ((c.tc : Thread Cert.GdnGateFwdIdeal.nD Cert.GdnGateFwdIdeal.τ).loc Cert.GdnGateFwdIdeal.main_arg1) = m ((c.tc : Thread Cert.GdnGateFwdIdeal.nD Cert.GdnGateFwdIdeal.τ).loc Cert.GdnGateFwdIdeal.main_arg1)
          ∧ r.2.mem ((c.tc : Thread Cert.GdnGateFwdIdeal.nD Cert.GdnGateFwdIdeal.τ).loc Cert.GdnGateFwdIdeal.main_arg2) = m ((c.tc : Thread Cert.GdnGateFwdIdeal.nD Cert.GdnGateFwdIdeal.τ).loc Cert.GdnGateFwdIdeal.main_arg2))
      ∧ θ_run (Cert.GdnGateFwdRefIdeal.defs (F := Ideal)) (onTc (τ := Cert.GdnGateFwdRefIdeal.τ) (Cert.GdnGateFwdRefIdeal.main (F := Ideal))) ⟨m', fun _ => 0, g'⟩ (fun r => ∀ c : Dev Cert.GdnGateFwdRefIdeal.nD,
          r.2.mem ((c.tc : Thread Cert.GdnGateFwdRefIdeal.nD Cert.GdnGateFwdRefIdeal.τ).loc Cert.GdnGateFwdRefIdeal.main_v29) = v0 c
          ∧ r.2.mem ((c.tc : Thread Cert.GdnGateFwdRefIdeal.nD Cert.GdnGateFwdRefIdeal.τ).loc Cert.GdnGateFwdRefIdeal.main_arg0) = m' ((c.tc : Thread Cert.GdnGateFwdRefIdeal.nD Cert.GdnGateFwdRefIdeal.τ).loc Cert.GdnGateFwdRefIdeal.main_arg0)
          ∧ r.2.mem ((c.tc : Thread Cert.GdnGateFwdRefIdeal.nD Cert.GdnGateFwdRefIdeal.τ).loc Cert.GdnGateFwdRefIdeal.main_arg1) = m' ((c.tc : Thread Cert.GdnGateFwdRefIdeal.nD Cert.GdnGateFwdRefIdeal.τ).loc Cert.GdnGateFwdRefIdeal.main_arg1)
          ∧ r.2.mem ((c.tc : Thread Cert.GdnGateFwdRefIdeal.nD Cert.GdnGateFwdRefIdeal.τ).loc Cert.GdnGateFwdRefIdeal.main_arg2) = m' ((c.tc : Thread Cert.GdnGateFwdRefIdeal.nD Cert.GdnGateFwdRefIdeal.τ).loc Cert.GdnGateFwdRefIdeal.main_arg2))

def Claim : Prop :=
  ∃ (hKernel : Cert.Kernel.Facts) (hKernelIdeal : Cert.KernelIdeal.Facts) (hReferenceIdeal : Cert.ReferenceIdeal.Facts) (hInProjBwd : Cert.InProjBwd.Facts) (hInProjBwdIdeal : Cert.InProjBwdIdeal.Facts) (hInProjBwdRefIdeal : Cert.InProjBwdRefIdeal.Facts) (hGradWIn : Cert.GradWIn.Facts) (hGradWInIdeal : Cert.GradWInIdeal.Facts) (hGradWInRefIdeal : Cert.GradWInRefIdeal.Facts) (hMergeBwd : Cert.MergeBwd.Facts) (hMergeBwdIdeal : Cert.MergeBwdIdeal.Facts) (hMergeBwdRefIdeal : Cert.MergeBwdRefIdeal.Facts) (hGradWOut : Cert.GradWOut.Facts) (hGradWOutIdeal : Cert.GradWOutIdeal.Facts) (hGradWOutRefIdeal : Cert.GradWOutRefIdeal.Facts) (hInProj : Cert.InProj.Facts) (hInProjIdeal : Cert.InProjIdeal.Facts) (hInProjRefIdeal : Cert.InProjRefIdeal.Facts) (hMergeFwd : Cert.MergeFwd.Facts) (hMergeFwdIdeal : Cert.MergeFwdIdeal.Facts) (hMergeFwdRefIdeal : Cert.MergeFwdRefIdeal.Facts) (hMlaProjBwd : Cert.MlaProjBwd.Facts) (hMlaProjBwdIdeal : Cert.MlaProjBwdIdeal.Facts) (hMlaProjBwdRefIdeal : Cert.MlaProjBwdRefIdeal.Facts) (hGradWQB : Cert.GradWQB.Facts) (hGradWQBIdeal : Cert.GradWQBIdeal.Facts) (hGradWQBRefIdeal : Cert.GradWQBRefIdeal.Facts) (hGradWKvB : Cert.GradWKvB.Facts) (hGradWKvBIdeal : Cert.GradWKvBIdeal.Facts) (hGradWKvBRefIdeal : Cert.GradWKvBRefIdeal.Facts) (hMemKvProj : Cert.MemKvProj.Facts) (hMemKvProjIdeal : Cert.MemKvProjIdeal.Facts) (hMemKvProjRefIdeal : Cert.MemKvProjRefIdeal.Facts) (hGradWMemKv : Cert.GradWMemKv.Facts) (hGradWMemKvIdeal : Cert.GradWMemKvIdeal.Facts) (hGradWMemKvRefIdeal : Cert.GradWMemKvRefIdeal.Facts) (hDMemn : Cert.DMemn.Facts) (hDMemnIdeal : Cert.DMemnIdeal.Facts) (hDMemnRefIdeal : Cert.DMemnRefIdeal.Facts) (hMlaPrep : Cert.MlaPrep.Facts) (hMlaPrepIdeal : Cert.MlaPrepIdeal.Facts) (hMlaPrepRefIdeal : Cert.MlaPrepRefIdeal.Facts) (hMemAttnFwd : Cert.MemAttnFwd.Facts) (hMemAttnFwdIdeal : Cert.MemAttnFwdIdeal.Facts) (hMemAttnFwdRefIdeal : Cert.MemAttnFwdRefIdeal.Facts) (hInProjEarly : Cert.InProjEarly.Facts) (hInProjEarlyIdeal : Cert.InProjEarlyIdeal.Facts) (hInProjEarlyRefIdeal : Cert.InProjEarlyRefIdeal.Facts) (hGradMemNorm : Cert.GradMemNorm.Facts) (hGradMemNormIdeal : Cert.GradMemNormIdeal.Facts) (hGradMemNormRefIdeal : Cert.GradMemNormRefIdeal.Facts) (hRmsMem : Cert.RmsMem.Facts) (hRmsMemIdeal : Cert.RmsMemIdeal.Facts) (hRmsMemRefIdeal : Cert.RmsMemRefIdeal.Facts) (hRmsIn : Cert.RmsIn.Facts) (hRmsInIdeal : Cert.RmsInIdeal.Facts) (hRmsInRefIdeal : Cert.RmsInRefIdeal.Facts) (hGdnPrepFwd : Cert.GdnPrepFwd.Facts) (hGdnPrepFwdIdeal : Cert.GdnPrepFwdIdeal.Facts) (hGdnPrepFwdRefIdeal : Cert.GdnPrepFwdRefIdeal.Facts) (hRopeTables : Cert.RopeTables.Facts) (hRopeTablesIdeal : Cert.RopeTablesIdeal.Facts) (hRopeTablesRefIdeal : Cert.RopeTablesRefIdeal.Facts) (hAdamwGdnConv : Cert.AdamwGdnConv.Facts) (hAdamwGdnConvIdeal : Cert.AdamwGdnConvIdeal.Facts) (hAdamwGdnConvRefIdeal : Cert.AdamwGdnConvRefIdeal.Facts) (hAdamwWMemKv : Cert.AdamwWMemKv.Facts) (hAdamwWMemKvIdeal : Cert.AdamwWMemKvIdeal.Facts) (hAdamwWMemKvRefIdeal : Cert.AdamwWMemKvRefIdeal.Facts) (hAdamwWOut : Cert.AdamwWOut.Facts) (hAdamwWOutIdeal : Cert.AdamwWOutIdeal.Facts) (hAdamwWOutRefIdeal : Cert.AdamwWOutRefIdeal.Facts) (hGdnGateFwd : Cert.GdnGateFwd.Facts) (hGdnGateFwdIdeal : Cert.GdnGateFwdIdeal.Facts) (hGdnGateFwdRefIdeal : Cert.GdnGateFwdRefIdeal.Facts) (hPre_scores_finite : Cert.Pre_scores_finite.Facts) (hPre_merge_finite : Cert.Pre_merge_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_InProjBwd (hInProjBwd := hInProjBwd)
    ∧ quiescent_InProjBwdIdeal (hInProjBwdIdeal := hInProjBwdIdeal)
    ∧ quiescent_InProjBwdRefIdeal (hInProjBwdRefIdeal := hInProjBwdRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_MergeBwd (hMergeBwd := hMergeBwd)
    ∧ quiescent_MergeBwdIdeal (hMergeBwdIdeal := hMergeBwdIdeal)
    ∧ quiescent_MergeBwdIdeal_pre_merge_finite (hMergeBwdIdeal := hMergeBwdIdeal) (hPre_merge_finite := hPre_merge_finite)
    ∧ quiescent_MergeBwdRefIdeal (hMergeBwdRefIdeal := hMergeBwdRefIdeal)
    ∧ quiescent_MergeBwdRefIdeal_pre_merge_finite (hMergeBwdRefIdeal := hMergeBwdRefIdeal) (hPre_merge_finite := hPre_merge_finite)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MlaProjBwd (hMlaProjBwd := hMlaProjBwd)
    ∧ quiescent_MlaProjBwdIdeal (hMlaProjBwdIdeal := hMlaProjBwdIdeal)
    ∧ quiescent_MlaProjBwdRefIdeal (hMlaProjBwdRefIdeal := hMlaProjBwdRefIdeal)
    ∧ quiescent_GradWQB (hGradWQB := hGradWQB)
    ∧ quiescent_GradWQBIdeal (hGradWQBIdeal := hGradWQBIdeal)
    ∧ quiescent_GradWQBRefIdeal (hGradWQBRefIdeal := hGradWQBRefIdeal)
    ∧ quiescent_GradWKvB (hGradWKvB := hGradWKvB)
    ∧ quiescent_GradWKvBIdeal (hGradWKvBIdeal := hGradWKvBIdeal)
    ∧ quiescent_GradWKvBRefIdeal (hGradWKvBRefIdeal := hGradWKvBRefIdeal)
    ∧ quiescent_MemKvProj (hMemKvProj := hMemKvProj)
    ∧ quiescent_MemKvProjIdeal (hMemKvProjIdeal := hMemKvProjIdeal)
    ∧ quiescent_MemKvProjRefIdeal (hMemKvProjRefIdeal := hMemKvProjRefIdeal)
    ∧ quiescent_GradWMemKv (hGradWMemKv := hGradWMemKv)
    ∧ quiescent_GradWMemKvIdeal (hGradWMemKvIdeal := hGradWMemKvIdeal)
    ∧ quiescent_GradWMemKvRefIdeal (hGradWMemKvRefIdeal := hGradWMemKvRefIdeal)
    ∧ quiescent_DMemn (hDMemn := hDMemn)
    ∧ quiescent_DMemnIdeal (hDMemnIdeal := hDMemnIdeal)
    ∧ quiescent_DMemnRefIdeal (hDMemnRefIdeal := hDMemnRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ quiescent_MemAttnFwd (hMemAttnFwd := hMemAttnFwd)
    ∧ quiescent_MemAttnFwdIdeal (hMemAttnFwdIdeal := hMemAttnFwdIdeal)
    ∧ quiescent_MemAttnFwdRefIdeal (hMemAttnFwdRefIdeal := hMemAttnFwdRefIdeal)
    ∧ quiescent_InProjEarly (hInProjEarly := hInProjEarly)
    ∧ quiescent_InProjEarlyIdeal (hInProjEarlyIdeal := hInProjEarlyIdeal)
    ∧ quiescent_InProjEarlyRefIdeal (hInProjEarlyRefIdeal := hInProjEarlyRefIdeal)
    ∧ quiescent_GradMemNorm (hGradMemNorm := hGradMemNorm)
    ∧ quiescent_GradMemNormIdeal (hGradMemNormIdeal := hGradMemNormIdeal)
    ∧ quiescent_GradMemNormRefIdeal (hGradMemNormRefIdeal := hGradMemNormRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_GdnPrepFwd (hGdnPrepFwd := hGdnPrepFwd)
    ∧ quiescent_GdnPrepFwdIdeal (hGdnPrepFwdIdeal := hGdnPrepFwdIdeal)
    ∧ quiescent_GdnPrepFwdRefIdeal (hGdnPrepFwdRefIdeal := hGdnPrepFwdRefIdeal)
    ∧ quiescent_RopeTables (hRopeTables := hRopeTables)
    ∧ quiescent_RopeTablesIdeal (hRopeTablesIdeal := hRopeTablesIdeal)
    ∧ quiescent_RopeTablesRefIdeal (hRopeTablesRefIdeal := hRopeTablesRefIdeal)
    ∧ quiescent_AdamwGdnConv (hAdamwGdnConv := hAdamwGdnConv)
    ∧ quiescent_AdamwGdnConvIdeal (hAdamwGdnConvIdeal := hAdamwGdnConvIdeal)
    ∧ quiescent_AdamwGdnConvRefIdeal (hAdamwGdnConvRefIdeal := hAdamwGdnConvRefIdeal)
    ∧ quiescent_AdamwWMemKv (hAdamwWMemKv := hAdamwWMemKv)
    ∧ quiescent_AdamwWMemKvIdeal (hAdamwWMemKvIdeal := hAdamwWMemKvIdeal)
    ∧ quiescent_AdamwWMemKvRefIdeal (hAdamwWMemKvRefIdeal := hAdamwWMemKvRefIdeal)
    ∧ quiescent_AdamwWOut (hAdamwWOut := hAdamwWOut)
    ∧ quiescent_AdamwWOutIdeal (hAdamwWOutIdeal := hAdamwWOutIdeal)
    ∧ quiescent_AdamwWOutRefIdeal (hAdamwWOutRefIdeal := hAdamwWOutRefIdeal)
    ∧ quiescent_GdnGateFwd (hGdnGateFwd := hGdnGateFwd)
    ∧ quiescent_GdnGateFwdIdeal (hGdnGateFwdIdeal := hGdnGateFwdIdeal)
    ∧ quiescent_GdnGateFwdRefIdeal (hGdnGateFwdRefIdeal := hGdnGateFwdRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_InProjBwd_InProjBwdIdeal
    ∧ algebraic_InProjBwdIdeal_InProjBwdRefIdeal (hInProjBwdIdeal := hInProjBwdIdeal) (hInProjBwdRefIdeal := hInProjBwdRefIdeal)
    ∧ preserves_GradWIn_GradWInIdeal
    ∧ algebraic_GradWInIdeal_GradWInRefIdeal (hGradWInIdeal := hGradWInIdeal) (hGradWInRefIdeal := hGradWInRefIdeal)
    ∧ preserves_MergeBwd_MergeBwdIdeal
    ∧ algebraic_MergeBwdIdeal_MergeBwdRefIdeal_pre_merge_finite (hMergeBwdIdeal := hMergeBwdIdeal) (hMergeBwdRefIdeal := hMergeBwdRefIdeal) (hPre_merge_finite := hPre_merge_finite)
    ∧ preserves_GradWOut_GradWOutIdeal
    ∧ algebraic_GradWOutIdeal_GradWOutRefIdeal (hGradWOutIdeal := hGradWOutIdeal) (hGradWOutRefIdeal := hGradWOutRefIdeal)
    ∧ preserves_InProj_InProjIdeal
    ∧ algebraic_InProjIdeal_InProjRefIdeal (hInProjIdeal := hInProjIdeal) (hInProjRefIdeal := hInProjRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MlaProjBwd_MlaProjBwdIdeal
    ∧ algebraic_MlaProjBwdIdeal_MlaProjBwdRefIdeal (hMlaProjBwdIdeal := hMlaProjBwdIdeal) (hMlaProjBwdRefIdeal := hMlaProjBwdRefIdeal)
    ∧ preserves_GradWQB_GradWQBIdeal
    ∧ algebraic_GradWQBIdeal_GradWQBRefIdeal (hGradWQBIdeal := hGradWQBIdeal) (hGradWQBRefIdeal := hGradWQBRefIdeal)
    ∧ preserves_GradWKvB_GradWKvBIdeal
    ∧ algebraic_GradWKvBIdeal_GradWKvBRefIdeal (hGradWKvBIdeal := hGradWKvBIdeal) (hGradWKvBRefIdeal := hGradWKvBRefIdeal)
    ∧ preserves_MemKvProj_MemKvProjIdeal
    ∧ algebraic_MemKvProjIdeal_MemKvProjRefIdeal (hMemKvProjIdeal := hMemKvProjIdeal) (hMemKvProjRefIdeal := hMemKvProjRefIdeal)
    ∧ preserves_GradWMemKv_GradWMemKvIdeal
    ∧ algebraic_GradWMemKvIdeal_GradWMemKvRefIdeal (hGradWMemKvIdeal := hGradWMemKvIdeal) (hGradWMemKvRefIdeal := hGradWMemKvRefIdeal)
    ∧ preserves_DMemn_DMemnIdeal
    ∧ algebraic_DMemnIdeal_DMemnRefIdeal (hDMemnIdeal := hDMemnIdeal) (hDMemnRefIdeal := hDMemnRefIdeal)
    ∧ preserves_MlaPrep_MlaPrepIdeal
    ∧ algebraic_MlaPrepIdeal_MlaPrepRefIdeal (hMlaPrepIdeal := hMlaPrepIdeal) (hMlaPrepRefIdeal := hMlaPrepRefIdeal)
    ∧ preserves_MemAttnFwd_MemAttnFwdIdeal
    ∧ algebraic_MemAttnFwdIdeal_MemAttnFwdRefIdeal (hMemAttnFwdIdeal := hMemAttnFwdIdeal) (hMemAttnFwdRefIdeal := hMemAttnFwdRefIdeal)
    ∧ preserves_InProjEarly_InProjEarlyIdeal
    ∧ algebraic_InProjEarlyIdeal_InProjEarlyRefIdeal (hInProjEarlyIdeal := hInProjEarlyIdeal) (hInProjEarlyRefIdeal := hInProjEarlyRefIdeal)
    ∧ preserves_GradMemNorm_GradMemNormIdeal
    ∧ algebraic_GradMemNormIdeal_GradMemNormRefIdeal (hGradMemNormIdeal := hGradMemNormIdeal) (hGradMemNormRefIdeal := hGradMemNormRefIdeal)
    ∧ preserves_RmsMem_RmsMemIdeal
    ∧ algebraic_RmsMemIdeal_RmsMemRefIdeal (hRmsMemIdeal := hRmsMemIdeal) (hRmsMemRefIdeal := hRmsMemRefIdeal)
    ∧ preserves_RmsIn_RmsInIdeal
    ∧ algebraic_RmsInIdeal_RmsInRefIdeal (hRmsInIdeal := hRmsInIdeal) (hRmsInRefIdeal := hRmsInRefIdeal)
    ∧ preserves_GdnPrepFwd_GdnPrepFwdIdeal
    ∧ algebraic_GdnPrepFwdIdeal_GdnPrepFwdRefIdeal (hGdnPrepFwdIdeal := hGdnPrepFwdIdeal) (hGdnPrepFwdRefIdeal := hGdnPrepFwdRefIdeal)
    ∧ preserves_RopeTables_RopeTablesIdeal
    ∧ algebraic_RopeTablesIdeal_RopeTablesRefIdeal (hRopeTablesIdeal := hRopeTablesIdeal) (hRopeTablesRefIdeal := hRopeTablesRefIdeal)
    ∧ preserves_AdamwGdnConv_AdamwGdnConvIdeal
    ∧ algebraic_AdamwGdnConvIdeal_AdamwGdnConvRefIdeal (hAdamwGdnConvIdeal := hAdamwGdnConvIdeal) (hAdamwGdnConvRefIdeal := hAdamwGdnConvRefIdeal)
    ∧ preserves_AdamwWMemKv_AdamwWMemKvIdeal
    ∧ algebraic_AdamwWMemKvIdeal_AdamwWMemKvRefIdeal (hAdamwWMemKvIdeal := hAdamwWMemKvIdeal) (hAdamwWMemKvRefIdeal := hAdamwWMemKvRefIdeal)
    ∧ preserves_AdamwWOut_AdamwWOutIdeal
    ∧ algebraic_AdamwWOutIdeal_AdamwWOutRefIdeal (hAdamwWOutIdeal := hAdamwWOutIdeal) (hAdamwWOutRefIdeal := hAdamwWOutRefIdeal)
    ∧ preserves_GdnGateFwd_GdnGateFwdIdeal
    ∧ algebraic_GdnGateFwdIdeal_GdnGateFwdRefIdeal (hGdnGateFwdIdeal := hGdnGateFwdIdeal) (hGdnGateFwdRefIdeal := hGdnGateFwdRefIdeal)
-- ==== Pre_merge_finite.lean ====
abbrev S4096x1024 : Shape := ⟨2, ![4096, 1024]⟩
abbrev S4096x512 : Shape := ⟨2, ![4096, 512]⟩
abbrev S4096x4608 : Shape := ⟨2, ![4096, 4608]⟩
abbrev S1536x1024 : Shape := ⟨2, ![1536, 1024]⟩
abbrev S1x128 : Shape := ⟨2, ![1, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x512 : S_.BroadcastsInDim S4096x512 (![] : Fin 0 → Fin S4096x512.rank)
  bcast_S_S1536x1024 : S_.BroadcastsInDim S1536x1024 (![] : Fin 0 → Fin S1536x1024.rank)
  bcast_S_S1x128 : S_.BroadcastsInDim S1x128 (![] : Fin 0 → Fin S1x128.rank)

variable [Facts]

def fn_part1 {F : FTy → Type} [FloatOps F] (main_arg6 : FVec F S1x128 .f32) (main_v3 : IVec S4096x1024 1) (main_v7 : IVec S4096x512 1) (main_v11 : IVec S4096x512 1) (main_v15 : IVec S4096x512 1) (main_v17 : FVec F S1536x1024 .f32) (main_v18 : FVec F S1536x1024 .f32) : IVec S4096x1024 1 × IVec S4096x512 1 × IVec S4096x512 1 × IVec S4096x512 1 × IVec S1536x1024 1 × IVec S1x128 1 :=
  let main_v19 : IVec S1536x1024 1 := cmpf .olt main_v17 main_v18
  let main_v20 : FVec F S1x128 .f32 := Host.absf main_arg6
  let main_cst_4 : FVec F S_ .f32 := constant S_ .f32 0x7F800000#32
  let main_v21 : FVec F S1x128 .f32 := broadcastInDim S1x128 ![] bcast_S_S1x128 main_cst_4
  let main_v22 : IVec S1x128 1 := cmpf .olt main_v20 main_v21
  (main_v3, main_v7, main_v11, main_v15, main_v19, main_v22)

def fn {F : FTy → Type} [FloatOps F] (main_arg0 : FVec F S4096x1024 .bf16) (main_arg1 : FVec F S4096x512 .bf16) (main_arg2 : FVec F S4096x512 .bf16) (main_arg3 : FVec F S4096x512 .bf16) (main_arg4 : FVec F S4096x4608 .f32) (main_arg5 : FVec F S1536x1024 .bf16) (main_arg6 : FVec F S1x128 .f32) : IVec S4096x1024 1 × IVec S4096x512 1 × IVec S4096x512 1 × IVec S4096x512 1 × IVec S1536x1024 1 × IVec S1x128 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  let main_v16 : FVec F S1536x1024 .f32 := (extf .f32 · bitsLt_bf16_f32) main_arg5
  let main_v17 : FVec F S1536x1024 .f32 := Host.absf main_v16
  let main_cst_3 : FVec F S_ .f32 := constant S_ .f32 0x7F800000#32
  let main_v18 : FVec F S1536x1024 .f32 := broadcastInDim S1536x1024 ![] bcast_S_S1536x1024 main_cst_3
  fn_part1 (F := F) main_arg6 main_v3 main_v7 main_v11 main_v15 main_v17 main_v18
-- ==== Pre_scores_finite.lean ====
abbrev S4096x4608 : Shape := ⟨2, ![4096, 4608]⟩
abbrev S512x1024 : Shape := ⟨2, ![512, 1024]⟩
abbrev S4096x512 : Shape := ⟨2, ![4096, 512]⟩
abbrev S512x512 : Shape := ⟨2, ![512, 512]⟩
abbrev S_ : Shape := ⟨0, ![]⟩

class Facts : Prop where
  slices_S4096x4608_S4096x512_0_1024 : S4096x4608.Slices ![0, 1024] S4096x512
  slices_S512x1024_S512x512_0_0 : S512x1024.Slices ![0, 0] S512x512
  bitsLt_bf16_f32 : FTy.bits .bf16 < FTy.bits .f32
  bcast_S_S4096x512 : S_.BroadcastsInDim S4096x512 (![] : Fin 0 → Fin S4096x512.rank)
  bcast_S_S512x512 : S_.BroadcastsInDim S512x512 (![] : Fin 0 → Fin S512x512.rank)

variable [Facts]

def fn {F : FTy → Type} [FloatOps F] (main_arg0 : FVec F S4096x4608 .f32) (main_arg1 : FVec F S512x1024 .bf16) (main_arg2 : FVec F S4096x512 .bf16) : IVec S4096x512 1 × IVec S512x512 1 :=
  let main_v0 : FVec F S4096x512 .f32 := (extractStridedSlice S4096x512 ![0, 1024] · slices_S4096x4608_S4096x512_0_1024) main_arg0
  let main_v1 : FVec F S512x512 .bf16 := (extractStridedSlice S512x512 ![0, 0] · slices_S512x1024_S512x512_0_0) main_arg1
  let main_v2 : FVec F S512x512 .f32 := (extf .f32 · bitsLt_bf16_f32) main_v1
  let main_v3 : FVec F S4096x512 .f32 := Host.absf main_v0
  let main_cst : FVec F S_ .f32 := constant S_ .f32 0x7F800000#32
  let main_v4 : FVec F S4096x512 .f32 := broadcastInDim S4096x512 ![] bcast_S_S4096x512 main_cst
  let main_v5 : IVec S4096x512 1 := cmpf .olt main_v3 main_v4
  let main_v6 : FVec F S512x512 .f32 := Host.absf main_v2
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  (main_v5, main_v8)
-- ==== Kernel.lean ====
abbrev S4096x4608 : Shape := ⟨2, ![4096, 4608]⟩
abbrev S512x1024 : Shape := ⟨2, ![512, 1024]⟩
abbrev S4096x512 : Shape := ⟨2, ![4096, 512]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x4608, .f32⟩
  | .hbm, ⟨1, _⟩ => ⟨S512x1024, .bf16⟩
  | .hbm, ⟨2, _⟩ => ⟨S4096x512, .bf16⟩
  | .hbm, ⟨3, _⟩ => ⟨S4096x512, .bf16⟩
  | .hbm, ⟨4, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S256x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x1024, .f32⟩
  | .local _ .vmem, ⟨9, _⟩ => ⟨S256x1024, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x4608 : Shape := ⟨2, ![4096, 4608]⟩
abbrev S512x1024 : Shape := ⟨2, ![512, 1024]⟩
abbrev S4096x512 : Shape := ⟨2, ![4096, 512]⟩
abbrev S512x512 : Shape := ⟨2, ![512, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S512x1024, .bf16⟩
  | .hbm, ⟨2, _⟩ => ⟨S4096x512, .bf16⟩
  | .hbm, ⟨3, _⟩ => ⟨S4096x512, .f32⟩
  | .hbm, ⟨4, _⟩ => ⟨S512x1024, .f32⟩
  | .hbm, ⟨5, _⟩ => ⟨S512x512, .f32⟩
  | .hbm, ⟨6, _⟩ => ⟨S512x512, .f32⟩
  | .hbm, ⟨7, _⟩ => ⟨S2x2048x4x128, .f32⟩
  | .hbm, ⟨8, _⟩ => ⟨S2x256x4x128, .f32⟩
  | .hbm, ⟨9, _⟩ => ⟨S2x256x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x128x2048, .f32⟩
  | .hbm, ⟨53, _⟩ => ⟨S2x2048x4x128, .f32⟩
  | .hbm, ⟨54, _⟩ => ⟨S4096x512, .f32⟩
  | .hbm, ⟨55, _⟩ => ⟨S4096x512, .f32⟩
  | .hbm, ⟨56, _⟩ => ⟨S2x2048x4x128, .f32⟩
  | .hbm, ⟨57, _⟩ => ⟨S2x4x128x2048, .f32⟩
  | .hbm, ⟨58, _⟩ => ⟨S2x4x2048x256, .f32⟩
  | .hbm, ⟨59, _⟩ => ⟨S2x4x128x256, .f32⟩
  | .hbm, ⟨60, _⟩ => ⟨S2x256x4x128, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x128, .f32⟩
  | .hbm, ⟨79, _⟩ => ⟨S2x256x4x128, .f32⟩
  | .hbm, ⟨80, _⟩ => ⟨S2x4x2048x128, .f32⟩
  | .hbm, ⟨81, _⟩ => ⟨S2x2048x4x128, .f32⟩
  | .hbm, ⟨82, _⟩ => ⟨S512x512, .f32⟩
  | .hbm, ⟨83, _⟩ => ⟨S512x512, .f32⟩
  | .hbm, ⟨84, _⟩ => ⟨S4096x512, .f32⟩
  | .hbm, ⟨85, _⟩ => ⟨S512x1024, .f32⟩
  | .hbm, ⟨86, _⟩ => ⟨S4096x512, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== InProjBwd.lean ====
abbrev S4096x1024 : Shape := ⟨2, ![4096, 1024]⟩
abbrev S4096x512 : Shape := ⟨2, ![4096, 512]⟩
abbrev S4096x1536 : Shape := ⟨2, ![4096, 1536]⟩
abbrev S4608x1024 : Shape := ⟨2, ![4608, 1024]⟩
abbrev S1x1024 : Shape := ⟨2, ![1, 1024]⟩
abbrev S8x128 : Shape := ⟨2, ![8, 128]⟩
abbrev S512x1024 : Shape := ⟨2, ![512, 1024]⟩
abbrev S512x512 : Shape := ⟨2, ![512, 512]⟩
abbrev S512x1536 : Shape := ⟨2, ![512, 1536]⟩
abbrev S1024x1024 : Shape := ⟨2, ![1024, 1024]⟩
abbrev S1536x1024 : Shape := ⟨2, ![1536, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1536, .bf16⟩
  | .hbm, ⟨3, _⟩ => ⟨S4096x1536, .bf16⟩
  | .hbm, ⟨4, _⟩ => ⟨S4608x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S8x128, .f32⟩
  | .hbm, ⟨9, _⟩ => ⟨S4096x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S4608x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4608x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjBwdRefIdeal.lean ====
abbrev S4096x1024 : Shape := ⟨2, ![4096, 1024]⟩
abbrev S4096x512 : Shape := ⟨2, ![4096, 512]⟩
abbrev S4096x1536 : Shape := ⟨2, ![4096, 1536]⟩
abbrev S4608x1024 : Shape := ⟨2, ![4608, 1024]⟩
abbrev S1x1024 : Shape := ⟨2, ![1, 1024]⟩
abbrev S8x128 : Shape := ⟨2, ![8, 128]⟩
abbrev S4096x4608 : Shape := ⟨2, ![4096, 4608]⟩
abbrev S_ : Shape := ⟨0, ![]⟩
abbrev S4096 : Shape := ⟨1, ![4096]⟩
abbrev S4096x1 : Shape := ⟨2, ![4096, 1]⟩
abbrev S1024x4608 : Shape := ⟨2, ![1024, 4608]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1536, .bf16⟩
  | .hbm, ⟨3, _⟩ => ⟨S4096x1536, .bf16⟩
  | .hbm, ⟨4, _⟩ => ⟨S4608x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S8x128, .f32⟩
  | .hbm, ⟨9, _⟩ => ⟨S4096x4608, .bf16⟩
  | .hbm, ⟨10, _⟩ => ⟨S4096x4608, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4608x1024, .f32⟩
  | .hbm, ⟨31, _⟩ => ⟨S1024x4608, .f32⟩
  | .hbm, ⟨32, _⟩ => ⟨S4096x4608, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== GradWIn.lean ====
abbrev S4096x1024 : Shape := ⟨2, ![4096, 1024]⟩
abbrev S4096x512 : Shape := ⟨2, ![4096, 512]⟩
abbrev S4096x1536 : Shape := ⟨2, ![4096, 1536]⟩
abbrev S4608x1024 : Shape := ⟨2, ![4608, 1024]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1536, .bf16⟩
  | .hbm, ⟨3, _⟩ => ⟨S4096x1536, .bf16⟩
  | .hbm, ⟨4, _⟩ => ⟨S4096x1024, .bf16⟩
  | .hbm, ⟨5, _⟩ => ⟨S4608x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x1024, .bf16⟩
  | .local _ .vmem, ⟨9, _⟩ => ⟨S512x1024, .bf16⟩
  | .local _ .vmem, ⟨10, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c6_i32 : BitVec 32 := 6#32
  let v11 : BitVec 1 := Scalar.cmpi .slt arg0 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c6_i32_5 : BitVec 32 := 6#32
  let v15 : BitVec 1 := Scalar.cmpi .sge arg0 c6_i32_5
  let c9_i32 : BitVec 32 := 9#32
  let v16 : BitVec 1 := Scalar.cmpi .slt arg0 c9_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GradWInRefIdeal.lean ====
abbrev S4096x1024 : Shape := ⟨2, ![4096, 1024]⟩
abbrev S4096x512 : Shape := ⟨2, ![4096, 512]⟩
abbrev S4096x1536 : Shape := ⟨2, ![4096, 1536]⟩
abbrev S4096x4608 : Shape := ⟨2, ![4096, 4608]⟩
abbrev S_ : Shape := ⟨0, ![]⟩
abbrev S4608x1024 : Shape := ⟨2, ![4608, 1024]⟩
abbrev S1024x4608 : Shape := ⟨2, ![1024, 4608]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1536, .bf16⟩
  | .hbm, ⟨3, _⟩ => ⟨S4096x1536, .bf16⟩
  | .hbm, ⟨4, _⟩ => ⟨S4096x1024, .bf16⟩
  | .hbm, ⟨5, _⟩ => ⟨S4096x4608, .bf16⟩
  | .hbm, ⟨6, _⟩ => ⟨S4096x4608, .f32⟩
  | .hbm, ⟨7, _⟩ => ⟨S_, .f32⟩
  | .hbm, ⟨8, _⟩ => ⟨S4608x1024, .f32⟩
  | .hbm, ⟨9, _⟩ => ⟨S4096x1024, .f32⟩
  | .hbm, ⟨10, _⟩ => ⟨S1024x4608, .f32⟩
  | .hbm, ⟨11, _⟩ => ⟨S4096x4608, .f32⟩
  | .hbm, ⟨12, _⟩ => ⟨S4608x1024, .f32⟩
  | .hbm, ⟨13, _⟩ => ⟨S1024x4608, .f32⟩
  | .hbm, ⟨14, _⟩ => ⟨S4608x1024, .f32⟩
  | .hbm, ⟨15, _⟩ => ⟨S4608x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== MergeBwd.lean ====
abbrev S4096x1024 : Shape := ⟨2, ![4096, 1024]⟩
abbrev S4096x512 : Shape := ⟨2, ![4096, 512]⟩
abbrev S4096x4608 : Shape := ⟨2, ![4096, 4608]⟩
abbrev S1536x1024 : Shape := ⟨2, ![1536, 1024]⟩
abbrev S1x128 : Shape := ⟨2, ![1, 128]⟩
abbrev S4096x1536 : Shape := ⟨2, ![4096, 1536]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x4608, .f32⟩
  | .hbm, ⟨5, _⟩ => ⟨S1536x1024, .bf16⟩
  | .hbm, ⟨6, _⟩ => ⟨S1x128, .f32⟩
  | .hbm, ⟨7, _⟩ => ⟨S4096x1536, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1536, .f32⟩
  | .local _ .vmem, ⟨9, _⟩ => ⟨S512x1536, .f32⟩
  | .local _ .vmem, ⟨10, _⟩ => ⟨S1536x1024, .bf16⟩
  | .local _ .vmem, ⟨11, _⟩ => ⟨S1x128, .f32⟩
  | .local _ .vmem, ⟨12, _⟩ => ⟨S512x1536, .bf16⟩
  | .local _ .vmem, ⟨13, _⟩ => ⟨S512x1536, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeBwdRefIdeal.lean ====
abbrev S4096x1024 : Shape := ⟨2, ![4096, 1024]⟩
abbrev S4096x512 : Shape := ⟨2, ![4096, 512]⟩
abbrev S4096x4608 : Shape := ⟨2, ![4096, 4608]⟩
abbrev S1536x1024 : Shape := ⟨2, ![1536, 1024]⟩
abbrev S1x128 : Shape := ⟨2, ![1, 128]⟩
abbrev S4096x1536 : Shape := ⟨2, ![4096, 1536]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x4608, .f32⟩
  | .hbm, ⟨5, _⟩ => ⟨S1536x1024, .bf16⟩
  | .hbm, ⟨6, _⟩ => ⟨S1x128, .f32⟩
  | .hbm, ⟨7, _⟩ => ⟨S4096x1536, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x4x128, .f32⟩
  | .hbm, ⟨12, _⟩ => ⟨S128, .f32⟩
  | .hbm, ⟨13, _⟩ => ⟨S4096x4x128, .f32⟩
  | .hbm, ⟨14, _⟩ => ⟨S_, .f32⟩
  | .hbm, ⟨15, _⟩ => ⟨S4096x4, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S_, .f32⟩
  | .hbm, ⟨26, _⟩ => ⟨S4096x4x1, .f32⟩
  | .hbm, ⟨27, _⟩ => ⟨S4096x4x1, .f32⟩
  | .hbm, ⟨28, _⟩ => ⟨S4096x4x128, .f32⟩
  | .hbm, ⟨29, _⟩ => ⟨S4096x4x128, .f32⟩
  | .hbm, ⟨30, _⟩ => ⟨S1x1x128, .f32⟩
  | .hbm, ⟨31, _⟩ => ⟨S4096x4x128, .f32⟩
  | .hbm, ⟨32, _⟩ => ⟨S4096x4x128, .f32⟩
  | .hbm, ⟨33, _⟩ => ⟨S4096x512, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4096x1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S1536x1024, .f32⟩
  | .hbm, ⟨50, _⟩ => ⟨S4096x1024, .f32⟩
  | .hbm, ⟨51, _⟩ => ⟨S4096x1024, .f32⟩
  | .hbm, ⟨52, _⟩ => ⟨S4096x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S4096x1536, .f32⟩
  | .hbm, ⟨57, _⟩ => ⟨S4096x1536, .f32⟩
  | .hbm, ⟨58, _⟩ => ⟨S4096x1536, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x4x128, .f32⟩
  | .hbm, ⟨63, _⟩ => ⟨S4096x4x128, .f32⟩
  | .hbm, ⟨64, _⟩ => ⟨S_, .f32⟩
  | .hbm, ⟨65, _⟩ => ⟨S128, .f32⟩
  | .hbm, ⟨66, _⟩ => ⟨S1x1x128, .f32⟩
  | .hbm, ⟨67, _⟩ => ⟨S4096x4x128, .f32⟩
  | .hbm, ⟨68, _⟩ => ⟨S4096x4x128, .f32⟩
  | .hbm, ⟨69, _⟩ => ⟨S_, .f32⟩
  | .hbm, ⟨70, _⟩ => ⟨S128, .f32⟩
  | .hbm, ⟨71, _⟩ => ⟨S4096x4x128, .f32⟩
  | .hbm, ⟨72, _⟩ => ⟨S_, .f32⟩
  | .hbm, ⟨73, _⟩ => ⟨S4096x4, .f32⟩
  | .hbm, ⟨74, _⟩ => ⟨S4096x4x1, .f32⟩
  | .hbm, ⟨75, _⟩ => ⟨S4096x4x128, .f32⟩
  | .hbm, ⟨76, _⟩ => ⟨S4096x4x128, .f32⟩
  | .hbm, ⟨77, _⟩ => ⟨S4096x4x1, .f32⟩
  | .hbm, ⟨78, _⟩ => ⟨S_, .f32⟩
  | .hbm, ⟨79, _⟩ => ⟨S4096x4x1, .f32⟩
  | .hbm, ⟨80, _⟩ => ⟨S4096x4x1, .f32⟩
  | .hbm, ⟨81, _⟩ => ⟨S_, .f32⟩
  | .hbm, ⟨82, _⟩ => ⟨S4096x4, .f32⟩
  | .hbm, ⟨83, _⟩ => ⟨S4096x4x128, .f32⟩
  | .hbm, ⟨84, _⟩ => ⟨S4096x4x128, .f32⟩
  | .hbm, ⟨85, _⟩ => ⟨S4096x4x128, .f32⟩
  | .hbm, ⟨86, _⟩ => ⟨S4096x4x128, .f32⟩
  | .hbm, ⟨87, _⟩ => ⟨S4096x4x128, .f32⟩
  | .hbm, ⟨88, _⟩ => ⟨S1x128, .f32⟩
  | .hbm, ⟨89, _⟩ => ⟨S4096x512, .f32⟩
  | .hbm, ⟨90, _⟩ => ⟨S4096x1536, .bf16⟩
  | .hbm, ⟨91, _⟩ => ⟨S4096x512, .bf16⟩
  | .hbm, ⟨92, _⟩ => ⟨S4096x512, .bf16⟩
  | .hbm, ⟨93, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_4 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== GradWOut.lean ====
abbrev S4096x1536 : Shape := ⟨2, ![4096, 1536]⟩
abbrev S4096x1024 : Shape := ⟨2, ![4096, 1024]⟩
abbrev S1536x1024 : Shape := ⟨2, ![1536, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradWOutRefIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1536x1024, .f32⟩
  | .hbm, ⟨4, _⟩ => ⟨S4096x1536, .f32⟩
  | .hbm, ⟨5, _⟩ => ⟨S4096x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S4096x1024 : Shape := ⟨2, ![4096, 1024]⟩
abbrev S4608x1024 : Shape := ⟨2, ![4608, 1024]⟩
abbrev S4096x4608 : Shape := ⟨2, ![4096, 4608]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4096x4608, .f32⟩
  | .hbm, ⟨3, _⟩ => ⟨S4096x4608, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x1024 : Shape := ⟨2, ![4096, 1024]⟩
abbrev S4608x1024 : Shape := ⟨2, ![4608, 1024]⟩
abbrev S4096x4608 : Shape := ⟨2, ![4096, 4608]⟩
abbrev S1024x4608 : Shape := ⟨2, ![1024, 4608]⟩
abbrev S4096x1536 : Shape := ⟨2, ![4096, 1536]⟩
abbrev S4096x3072 : Shape := ⟨2, ![4096, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4096x4608, .f32⟩
  | .hbm, ⟨3, _⟩ => ⟨S4096x1024, .f32⟩
  | .hbm, ⟨4, _⟩ => ⟨S4608x1024, .f32⟩
  | .hbm, ⟨5, _⟩ => ⟨S1024x4608, .f32⟩
  | .hbm, ⟨6, _⟩ => ⟨S4096x4608, .f32⟩
  | .hbm, ⟨7, _⟩ => ⟨S4096x1536, .f32⟩
  | .hbm, ⟨8, _⟩ => ⟨S4096x3072, .f32⟩
  | .hbm, ⟨9, _⟩ => ⟨S4096x4608, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MergeFwd.lean ====
abbrev S4096x512 : Shape := ⟨2, ![4096, 512]⟩
abbrev S4096x4608 : Shape := ⟨2, ![4096, 4608]⟩
abbrev S4096x1024 : Shape := ⟨2, ![4096, 1024]⟩
abbrev S1536x1024 : Shape := ⟨2, ![1536, 1024]⟩
abbrev S1x128 : Shape := ⟨2, ![1, 128]⟩
abbrev S1x1024 : Shape := ⟨2, ![1, 1024]⟩
abbrev S4096x1536 : Shape := ⟨2, ![4096, 1536]⟩
abbrev S512x512 : Shape := ⟨2, ![512, 512]⟩
abbrev S512x1536 : Shape := ⟨2, ![512, 1536]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x4608, .f32⟩
  | .hbm, ⟨4, _⟩ => ⟨S4096x1024, .f32⟩
  | .hbm, ⟨5, _⟩ => ⟨S4096x1024, .f32⟩
  | .hbm, ⟨6, _⟩ => ⟨S1536x1024, .bf16⟩
  | .hbm, ⟨7, _⟩ => ⟨S1x128, .f32⟩
  | .hbm, ⟨8, _⟩ => ⟨S1x1024, .f32⟩
  | .hbm, ⟨9, _⟩ => ⟨S4096x1536, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1536, .f32⟩
  | .local _ .vmem, ⟨7, _⟩ => ⟨S512x1536, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1536x1024, .bf16⟩
  | .local _ .vmem, ⟨13, _⟩ => ⟨S1x128, .f32⟩
  | .local _ .vmem, ⟨14, _⟩ => ⟨S1x1024, .f32⟩
  | .local _ .vmem, ⟨15, _⟩ => ⟨S512x1536, .bf16⟩
  | .local _ .vmem, ⟨16, _⟩ => ⟨S512x1536, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MergeFwdRefIdeal.lean ====
abbrev S4096x512 : Shape := ⟨2, ![4096, 512]⟩
abbrev S4096x4608 : Shape := ⟨2, ![4096, 4608]⟩
abbrev S4096x1024 : Shape := ⟨2, ![4096, 1024]⟩
abbrev S1536x1024 : Shape := ⟨2, ![1536, 1024]⟩
abbrev S1x128 : Shape := ⟨2, ![1, 128]⟩
abbrev S1x1024 : Shape := ⟨2, ![1, 1024]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096x1536 : Shape := ⟨2, ![4096, 1536]⟩
abbrev S4096 : Shape := ⟨1, ![4096]⟩
abbrev S4096x1 : Shape := ⟨2, ![4096, 1]⟩
abbrev S1024 : Shape := ⟨1, ![1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x4608, .f32⟩
  | .hbm, ⟨4, _⟩ => ⟨S4096x1024, .f32⟩
  | .hbm, ⟨5, _⟩ => ⟨S4096x1024, .f32⟩
  | .hbm, ⟨6, _⟩ => ⟨S1536x1024, .bf16⟩
  | .hbm, ⟨7, _⟩ => ⟨S1x128, .f32⟩
  | .hbm, ⟨8, _⟩ => ⟨S1x1024, .f32⟩
  | .hbm, ⟨9, _⟩ => ⟨S4096x512, .f32⟩
  | .hbm, ⟨10, _⟩ => ⟨S4096x4x128, .f32⟩
  | .hbm, ⟨11, _⟩ => ⟨S128, .f32⟩
  | .hbm, ⟨12, _⟩ => ⟨S4096x4x128, .f32⟩
  | .hbm, ⟨13, _⟩ => ⟨S_, .f32⟩
  | .hbm, ⟨14, _⟩ => ⟨S4096x4, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S_, .f32⟩
  | .hbm, ⟨20, _⟩ => ⟨S4096x4x1, .f32⟩
  | .hbm, ⟨21, _⟩ => ⟨S4096x4x1, .f32⟩
  | .hbm, ⟨22, _⟩ => ⟨S4096x4x1, .f32⟩
  | .hbm, ⟨23, _⟩ => ⟨S4096x4x128, .f32⟩
  | .hbm, ⟨24, _⟩ => ⟨S4096x4x128, .f32⟩
  | .hbm, ⟨25, _⟩ => ⟨S1x1x128, .f32⟩
  | .hbm, ⟨26, _⟩ => ⟨S4096x4x128, .f32⟩
  | .hbm, ⟨27, _⟩ => ⟨S4096x4x128, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S_, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S1536x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1536, .bf16⟩
  | .hbm, ⟨115, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_cst_13 : Ref sig .tc := ⟨.hbm, 83, rfl⟩
abbrev main_v52 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== MlaProjBwd.lean ====
abbrev S4096x1024 : Shape := ⟨2, ![4096, 1024]⟩
abbrev S4096x512 : Shape := ⟨2, ![4096, 512]⟩
abbrev S4096x128 : Shape := ⟨2, ![4096, 128]⟩
abbrev S4096x4608 : Shape := ⟨2, ![4096, 4608]⟩
abbrev S1024x384 : Shape := ⟨2, ![1024, 384]⟩
abbrev S256x1024 : Shape := ⟨2, ![256, 1024]⟩
abbrev S1x384 : Shape := ⟨2, ![1, 384]⟩
abbrev S1x256 : Shape := ⟨2, ![1, 256]⟩
abbrev S512x1024 : Shape := ⟨2, ![512, 1024]⟩
abbrev S512x512 : Shape := ⟨2, ![512, 512]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S384 : Shape := ⟨1, ![384]⟩
abbrev S256 : Shape := ⟨1, ![256]⟩

abbrev nBuf : Space → Nat
  | .hbm => 16
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x128, .f32⟩
  | .hbm, ⟨4, _⟩ => ⟨S4096x128, .f32⟩
  | .hbm, ⟨5, _⟩ => ⟨S4096x4608, .f32⟩
  | .hbm, ⟨6, _⟩ => ⟨S4096x128, .bf16⟩
  | .hbm, ⟨7, _⟩ => ⟨S1024x384, .bf16⟩
  | .hbm, ⟨8, _⟩ => ⟨S256x1024, .bf16⟩
  | .hbm, ⟨9, _⟩ => ⟨S1x384, .f32⟩
  | .hbm, ⟨10, _⟩ => ⟨S1x256, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S1x384, .f32⟩
  | .hbm, ⟨15, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S512x128, .bf16⟩
  | .local _ .vmem, ⟨13, _⟩ => ⟨S512x128, .bf16⟩
  | .local _ .vmem, ⟨14, _⟩ => ⟨S1024x384, .bf16⟩
  | .local _ .vmem, ⟨15, _⟩ => ⟨S256x1024, .bf16⟩
  | .local _ .vmem, ⟨16, _⟩ => ⟨S1x384, .f32⟩
  | .local _ .vmem, ⟨17, _⟩ => ⟨S1x256, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x384, .f32⟩
  | .local _ .vmem, ⟨25, _⟩ => ⟨S1x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlaProjBwdRefIdeal.lean ====
abbrev S4096x1024 : Shape := ⟨2, ![4096, 1024]⟩
abbrev S4096x512 : Shape := ⟨2, ![4096, 512]⟩
abbrev S4096x128 : Shape := ⟨2, ![4096, 128]⟩
abbrev S4096x4608 : Shape := ⟨2, ![4096, 4608]⟩
abbrev S1024x384 : Shape := ⟨2, ![1024, 384]⟩
abbrev S256x1024 : Shape := ⟨2, ![256, 1024]⟩
abbrev S1x384 : Shape := ⟨2, ![1, 384]⟩
abbrev S1x256 : Shape := ⟨2, ![1, 256]⟩
abbrev S_ : Shape := ⟨0, ![]⟩
abbrev S4096x4x128 : Shape := ⟨3, ![4096, 4, 128]⟩
abbrev S4096x1x128 : Shape := ⟨3, ![4096, 1, 128]⟩
abbrev S4096x4x64 : Shape := ⟨3, ![4096, 4, 64]⟩
abbrev S4096x1x64 : Shape := ⟨3, ![4096, 1, 64]⟩
abbrev S4096x4x256 : Shape := ⟨3, ![4096, 4, 256]⟩
abbrev S4096x64 : Shape := ⟨2, ![4096, 64]⟩
abbrev S4096x384 : Shape := ⟨2, ![4096, 384]⟩
abbrev S4096x256 : Shape := ⟨2, ![4096, 256]⟩
abbrev S4096 : Shape := ⟨1, ![4096]⟩
abbrev S4096x1 : Shape := ⟨2, ![4096, 1]⟩
abbrev S384x1024 : Shape := ⟨2, ![384, 1024]⟩
abbrev S256 : Shape := ⟨1, ![256]⟩
abbrev S384 : Shape := ⟨1, ![384]⟩

abbrev nBuf : Space → Nat
  | .hbm => 210
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x512, .bf16⟩
  | 3 => ⟨S4096x128, .f32⟩
  | 4 => ⟨S4096x128, .f32⟩
  | 5 => ⟨S4096x4608, .f32⟩
  | 6 => ⟨S4096x128, .bf16⟩
  | 7 => ⟨S1024x384, .bf16⟩
  | 8 => ⟨S256x1024, .bf16⟩
  | 9 => ⟨S1x384, .f32⟩
  | 10 => ⟨S1x256, .f32⟩
  | 11 => ⟨S_, .f32⟩
  | 12 => ⟨S4096x4x128, .f32⟩
  | 13 => ⟨S_, .f32⟩
  | 14 => ⟨S4096x128, .f32⟩
  | 15 => ⟨S4096x1x128, .f32⟩
  | 16 => ⟨S4096x1x128, .f32⟩
  | 17 => ⟨S4096x4x64, .f32⟩
  | 18 => ⟨S4096x4x64, .f32⟩
  | 19 => ⟨S4096x1x64, .f32⟩
  | 20 => ⟨S4096x4x64, .f32⟩
  | 21 => ⟨S4096x4x64, .f32⟩
  | 22 => ⟨S4096x1x64, .f32⟩
  | 23 => ⟨S4096x4x64, .f32⟩
  | 24 => ⟨S4096x4x64, .f32⟩
  | 25 => ⟨S4096x4x64, .f32⟩
  | 26 => ⟨S4096x1x64, .f32⟩
  | 27 => ⟨S4096x4x64, .f32⟩
  | 28 => ⟨S4096x4x64, .f32⟩
  | 29 => ⟨S4096x1x64, .f32⟩
  | 30 => ⟨S4096x4x64, .f32⟩
  | 31 => ⟨S4096x4x64, .f32⟩
  | 32 => ⟨S4096x4x64, .f32⟩
  | 33 => ⟨S4096x4x128, .f32⟩
  | 34 => ⟨S4096x4x256, .f32⟩
  | 35 => ⟨S_, .f32⟩
  | 36 => ⟨S4096x4x256, .f32⟩
  | 37 => ⟨S4096x4x256, .f32⟩
  | 38 => ⟨S4096x64, .f32⟩
  | 39 => ⟨S4096x64, .f32⟩
  | 40 => ⟨S4096x64, .f32⟩
  | 41 => ⟨S4096x64, .f32⟩
  | 42 => ⟨S4096x64, .f32⟩
  | 43 => ⟨S4096x64, .f32⟩
  | 44 => ⟨S4096x64, .f32⟩
  | 45 => ⟨S4096x64, .f32⟩
  | 46 => ⟨S4096x64, .f32⟩
  | 47 => ⟨S4096x64, .f32⟩
  | 48 => ⟨S4096x64, .f32⟩
  | 49 => ⟨S4096x64, .f32⟩
  | 50 => ⟨S4096x128, .f32⟩
  | 51 => ⟨S4096x1x128, .f32⟩
  | 52 => ⟨S4096x4x128, .f32⟩
  | 53 => ⟨S4096x1024, .f32⟩
  | 54 => ⟨S4096x4x256, .f32⟩
  | 55 => ⟨S4096x1024, .f32⟩
  | 56 => ⟨S4096x512, .f32⟩
  | 57 => ⟨S4096x1024, .f32⟩
  | 58 => ⟨S4096x1024, .f32⟩
  | 59 => ⟨S4096x512, .f32⟩
  | 60 => ⟨S4096x4x128, .f32⟩
  | 61 => ⟨S4096x4x256, .f32⟩
  | 62 => ⟨S4096x4x128, .f32⟩
  | 63 => ⟨S4096x4x128, .f32⟩
  | 64 => ⟨S4096x4x256, .f32⟩
  | 65 => ⟨S_, .f32⟩
  | 66 => ⟨S4096x128, .f32⟩
  | 67 => ⟨S4096x1x128, .f32⟩
  | 68 => ⟨S_, .f32⟩
  | 69 => ⟨S4096x128, .f32⟩
  | 70 => ⟨S4096x64, .f32⟩
  | 71 => ⟨S4096x64, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S_, .f32⟩
  | 79 => ⟨S4096x128, .f32⟩
  | 80 => ⟨S_, .f32⟩
  | 81 => ⟨S4096x128, .f32⟩
  | 82 => ⟨S4096x128, .f32⟩
  | 83 => ⟨S_, .f32⟩
  | 84 => ⟨S4096x4x256, .f32⟩
  | 85 => ⟨S4096x4x256, .f32⟩
  | 86 => ⟨S4096x4x128, .f32⟩
  | 87 => ⟨S4096x4x128, .f32⟩
  | 88 => ⟨S4096x4x64, .f32⟩
  | 89 => ⟨S4096x4x64, .f32⟩
  | 90 => ⟨S4096x4x64, .f32⟩
  | 91 => ⟨S4096x4x64, .f32⟩
  | 92 => ⟨S4096x4x64, .f32⟩
  | 93 => ⟨S4096x4x64, .f32⟩
  | 94 => ⟨S4096x4x64, .f32⟩
  | 95 => ⟨S4096x4x64, .f32⟩
  | 96 => ⟨S4096x4x64, .f32⟩
  | 97 => ⟨S4096x4x64, .f32⟩
  | 98 => ⟨S4096x4x64, .f32⟩
  | 99 => ⟨S4096x4x64, .f32⟩
  | 100 => ⟨S_, .f32⟩
  | 101 => ⟨S4096x4x128, .f32⟩
  | 102 => ⟨S_, .f32⟩
  | 103 => ⟨S4096x4x128, .f32⟩
  | 104 => ⟨S4096x4x128, .f32⟩
  | 105 => ⟨S4096x4x256, .f32⟩
  | 106 => ⟨S4096x1024, .f32⟩
  | 107 => ⟨S4096x512, .f32⟩
  | 108 => ⟨S4096x512, .f32⟩
  | 109 => ⟨S4096x1024, .f32⟩
  | 110 => ⟨S4096x384, .f32⟩
  | 111 => ⟨S4096x256, .f32⟩
  | 112 => ⟨S4096x384, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096x1, .f32⟩
  | 121 => ⟨S4096x1, .f32⟩
  | 122 => ⟨S4096x1, .f32⟩
  | 123 => ⟨S4096x1, .f32⟩
  | 124 => ⟨S_, .f32⟩
  | 125 => ⟨S4096x1, .f32⟩
  | 126 => ⟨S4096x1, .f32⟩
  | 127 => ⟨S4096x384, .f32⟩
  | _ => ⟨S4096x1024, .bf16⟩

abbrev hbmTy0_1 (i : Nat) : BufTy := match i % 128 with
  | 0 => ⟨S4096x384, .f32⟩
  | 1 => ⟨S4096x384, .f32⟩
  | 2 => ⟨S4096x384, .f32⟩
  | 3 => ⟨S1024x384, .f32⟩
  | 4 => ⟨S384x1024, .f32⟩
  | 5 => ⟨S4096x1024, .f32⟩
  | 6 => ⟨S4096x256, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x256, .f32⟩
  | 22 => ⟨S4096x256, .f32⟩
  | 23 => ⟨S4096x256, .f32⟩
  | 24 => ⟨S4096x256, .f32⟩
  | 25 => ⟨S256x1024, .f32⟩
  | 26 => ⟨S4096x1024, .f32⟩
  | 27 => ⟨S4096x256, .f32⟩
  | 28 => ⟨S4096x256, .f32⟩
  | 29 => ⟨S_, .f32⟩
  | 30 => ⟨S256, .f32⟩
  | 31 => ⟨S1x256, .f32⟩
  | 32 => ⟨S4096x256, .f32⟩
  | 33 => ⟨S4096x256, .f32⟩
  | 34 => ⟨S4096x256, .f32⟩
  | 35 => ⟨S_, .f32⟩
  | 36 => ⟨S4096, .f32⟩
  | 37 => ⟨S4096x1, .f32⟩
  | 38 => ⟨S4096x256, .f32⟩
  | 39 => ⟨S4096x256, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S4096x384, .f32⟩
  | 52 => ⟨S4096x384, .f32⟩
  | 53 => ⟨S_, .f32⟩
  | 54 => ⟨S384, .f32⟩
  | 55 => ⟨S1x384, .f32⟩
  | 56 => ⟨S4096x384, .f32⟩
  | 57 => ⟨S4096x384, .f32⟩
  | 58 => ⟨S4096x384, .f32⟩
  | 59 => ⟨S_, .f32⟩
  | 60 => ⟨S4096, .f32⟩
  | 61 => ⟨S4096x1, .f32⟩
  | 62 => ⟨S4096x384, .f32⟩
  | 63 => ⟨S4096x384, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096, .f32⟩
  | 70 => ⟨S4096x384, .f32⟩
  | 71 => ⟨S4096x384, .f32⟩
  | 72 => ⟨S4096x384, .f32⟩
  | 73 => ⟨S4096x384, .f32⟩
  | 74 => ⟨S4096x384, .f32⟩
  | 75 => ⟨S4096x128, .f32⟩
  | 76 => ⟨S_, .f32⟩
  | 77 => ⟨S4096x128, .f32⟩
  | 78 => ⟨S4096x1024, .f32⟩
  | 79 => ⟨S4096x1024, .bf16⟩
  | 80 => ⟨S4096x1024, .bf16⟩
  | 81 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_2 : Ref sig .tc := ⟨.hbm, 65, rfl⟩
abbrev main_v51 : Ref sig .tc := ⟨.hbm, 66, rfl⟩
abbrev main_v52 : Ref sig .tc := ⟨.hbm, 67, rfl⟩
abbrev main_cst_3 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_4 : Ref sig .tc := ⟨.hbm, 78, rfl⟩
abbrev main_v62 : Ref sig .tc := ⟨.hbm, 79, rfl⟩
abbrev main_cst_5 : Ref sig .tc := ⟨.hbm, 80, rfl⟩
abbrev main_v63 : Ref sig .tc := ⟨.hbm, 81, rfl⟩
abbrev main_v64 : Ref sig .tc := ⟨.hbm, 82, rfl⟩
abbrev main_cst_6 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_7 : Ref sig .tc := ⟨.hbm, 100, rfl⟩
abbrev main_v81 : Ref sig .tc := ⟨.hbm, 101, rfl⟩
abbrev main_cst_8 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_9 : Ref sig .tc := ⟨.hbm, 113, rfl⟩
abbrev main_v92 : Ref sig .tc := ⟨.hbm, 114, rfl⟩
abbrev main_v93 : Ref sig .tc := ⟨.hbm, 115, rfl⟩
abbrev main_cst_10 : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_13 : Ref sig .tc := ⟨.hbm, 135, rfl⟩
abbrev main_v110 : Ref sig .tc := ⟨.hbm, 136, rfl⟩
abbrev main_v111 : Ref sig .tc := ⟨.hbm, 137, rfl⟩
abbrev main_cst_14 : Ref sig .tc := ⟨.hbm, 138, rfl⟩
abbrev main_v112 : Ref sig .tc := ⟨.hbm, 139, rfl⟩
abbrev main_v113 : Ref sig .tc := ⟨.hbm, 140, rfl⟩
abbrev main_cst_15 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_16 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_18 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_19 : Ref sig .tc := ⟨.hbm, 169, rfl⟩
abbrev main_v138 : Ref sig .tc := ⟨.hbm, 170, rfl⟩
abbrev main_v139 : Ref sig .tc := ⟨.hbm, 171, rfl⟩
abbrev main_cst_20 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_21 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_22 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_23 : Ref sig .tc := ⟨.hbm, 193, rfl⟩
abbrev main_v158 : Ref sig .tc := ⟨.hbm, 194, rfl⟩
abbrev main_v159 : Ref sig .tc := ⟨.hbm, 195, rfl⟩
abbrev main_cst_24 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_25 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩

abbrev nD : Nat := 1
abbrev τ : Topo := Topo.v7x

variable {F : FTy → Type} [FloatOps F]
-- ==== GradWQB.lean ====
abbrev S4096x1024 : Shape := ⟨2, ![4096, 1024]⟩
abbrev S4096x384 : Shape := ⟨2, ![4096, 384]⟩
abbrev S1024x384 : Shape := ⟨2, ![1024, 384]⟩
abbrev S4096x512 : Shape := ⟨2, ![4096, 512]⟩
abbrev S512x384 : Shape := ⟨2, ![512, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S1024x384, .bf16⟩
  | .local _ .vmem, ⟨0, _⟩ => ⟨S4096x512, .bf16⟩
  | .local _ .vmem, ⟨1, _⟩ => ⟨S4096x512, .bf16⟩
  | .local _ .vmem, ⟨2, _⟩ => ⟨S4096x384, .bf16⟩
  | .local _ .vmem, ⟨3, _⟩ => ⟨S512x384, .bf16⟩
  | .local _ .vmem, ⟨4, _⟩ => ⟨S512x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradWQBRefIdeal.lean ====
abbrev S4096x1024 : Shape := ⟨2, ![4096, 1024]⟩
abbrev S4096x384 : Shape := ⟨2, ![4096, 384]⟩
abbrev S_ : Shape := ⟨0, ![]⟩
abbrev S1024x384 : Shape := ⟨2, ![1024, 384]⟩
abbrev S384x1024 : Shape := ⟨2, ![384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S_, .f32⟩
  | .hbm, ⟨3, _⟩ => ⟨S1024x384, .f32⟩
  | .hbm, ⟨4, _⟩ => ⟨S4096x384, .f32⟩
  | .hbm, ⟨5, _⟩ => ⟨S384x1024, .f32⟩
  | .hbm, ⟨6, _⟩ => ⟨S4096x1024, .f32⟩
  | .hbm, ⟨7, _⟩ => ⟨S4096x1024, .f32⟩
  | .hbm, ⟨8, _⟩ => ⟨S1024x384, .f32⟩
  | .hbm, ⟨9, _⟩ => ⟨S384x1024, .f32⟩
  | .hbm, ⟨10, _⟩ => ⟨S1024x384, .f32⟩
  | .hbm, ⟨11, _⟩ => ⟨S1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradWKvB.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S4096x256, .bf16⟩
  | .local _ .vmem, ⟨1, _⟩ => ⟨S4096x1024, .bf16⟩
  | .local _ .vmem, ⟨2, _⟩ => ⟨S256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== GradWKvBRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemKvProj.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .bf16⟩
  | .local _ .vmem, ⟨0, _⟩ => ⟨S512x1024, .bf16⟩
  | .local _ .vmem, ⟨1, _⟩ => ⟨S1024x1024, .bf16⟩
  | .local _ .vmem, ⟨2, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemKvProjRefIdeal.lean ====
abbrev S512x1024 : Shape := ⟨2, ![512, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .hbm, ⟨4, _⟩ => ⟨S512x1024, .f32⟩
  | .hbm, ⟨5, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradWMemKv.lean ====
abbrev S512x1024 : Shape := ⟨2, ![512, 1024]⟩
abbrev S1024x1024 : Shape := ⟨2, ![1024, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradWMemKvRefIdeal.lean ====
abbrev S512x1024 : Shape := ⟨2, ![512, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMemn.lean ====
abbrev S512x1024 : Shape := ⟨2, ![512, 1024]⟩
abbrev S1024x1024 : Shape := ⟨2, ![1024, 1024]⟩
abbrev S8x128 : Shape := ⟨2, ![8, 128]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024x1024, .bf16⟩
  | .hbm, ⟨2, _⟩ => ⟨S8x128, .f32⟩
  | .hbm, ⟨3, _⟩ => ⟨S512x1024, .f32⟩
  | .local _ .vmem, ⟨0, _⟩ => ⟨S512x1024, .f32⟩
  | .local _ .vmem, ⟨1, _⟩ => ⟨S1024x1024, .bf16⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DMemnRefIdeal.lean ====
abbrev S512x1024 : Shape := ⟨2, ![512, 1024]⟩
abbrev S1024x1024 : Shape := ⟨2, ![1024, 1024]⟩
abbrev S8x128 : Shape := ⟨2, ![8, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .bf16⟩
  | .hbm, ⟨2, _⟩ => ⟨S8x128, .f32⟩
  | .hbm, ⟨3, _⟩ => ⟨S_, .f32⟩
  | .hbm, ⟨4, _⟩ => ⟨S512x1024, .f32⟩
  | .hbm, ⟨5, _⟩ => ⟨S1024x1024, .f32⟩
  | .hbm, ⟨6, _⟩ => ⟨S512x1024, .f32⟩
  | .hbm, ⟨7, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlaPrep.lean ====
abbrev S4096x4608 : Shape := ⟨2, ![4096, 4608]⟩
abbrev S1x384 : Shape := ⟨2, ![1, 384]⟩
abbrev S1x256 : Shape := ⟨2, ![1, 256]⟩
abbrev S1024x384 : Shape := ⟨2, ![1024, 384]⟩
abbrev S256x1024 : Shape := ⟨2, ![256, 1024]⟩
abbrev S4096x128 : Shape := ⟨2, ![4096, 128]⟩
abbrev S4096x1024 : Shape := ⟨2, ![4096, 1024]⟩
abbrev S4096x384 : Shape := ⟨2, ![4096, 384]⟩
abbrev S4096x256 : Shape := ⟨2, ![4096, 256]⟩
abbrev S512x1024 : Shape := ⟨2, ![512, 1024]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S4096x4608, .f32⟩
  | .hbm, ⟨1, _⟩ => ⟨S1x384, .f32⟩
  | .hbm, ⟨2, _⟩ => ⟨S1x256, .f32⟩
  | .hbm, ⟨3, _⟩ => ⟨S1024x384, .bf16⟩
  | .hbm, ⟨4, _⟩ => ⟨S256x1024, .bf16⟩
  | .hbm, ⟨5, _⟩ => ⟨S4096x128, .f32⟩
  | .hbm, ⟨6, _⟩ => ⟨S4096x128, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x384, .bf16⟩
  | .hbm, ⟨11, _⟩ => ⟨S4096x256, .bf16⟩
  | .local _ .vmem, ⟨0, _⟩ => ⟨S512x1024, .f32⟩
  | .local _ .vmem, ⟨1, _⟩ => ⟨S512x1024, .f32⟩
  | .local _ .vmem, ⟨2, _⟩ => ⟨S1x384, .f32⟩
  | .local _ .vmem, ⟨3, _⟩ => ⟨S1x256, .f32⟩
  | .local _ .vmem, ⟨4, _⟩ => ⟨S1024x384, .bf16⟩
  | .local _ .vmem, ⟨5, _⟩ => ⟨S256x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x384, .bf16⟩
  | .local _ .vmem, ⟨17, _⟩ => ⟨S512x384, .bf16⟩
  | .local _ .vmem, ⟨18, _⟩ => ⟨S512x256, .bf16⟩
  | .local _ .vmem, ⟨19, _⟩ => ⟨S512x256, .bf16⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlaPrepRefIdeal.lean ====
abbrev S4096x4608 : Shape := ⟨2, ![4096, 4608]⟩
abbrev S1x384 : Shape := ⟨2, ![1, 384]⟩
abbrev S1x256 : Shape := ⟨2, ![1, 256]⟩
abbrev S1024x384 : Shape := ⟨2, ![1024, 384]⟩
abbrev S256x1024 : Shape := ⟨2, ![256, 1024]⟩
abbrev S4096x128 : Shape := ⟨2, ![4096, 128]⟩
abbrev S4096x384 : Shape := ⟨2, ![4096, 384]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S384x1024 : Shape := ⟨2, ![384, 1024]⟩
abbrev S4096x1024 : Shape := ⟨2, ![4096, 1024]⟩
abbrev S4096x4x256 : Shape := ⟨3, ![4096, 4, 256]⟩
abbrev S4096x512 : Shape := ⟨2, ![4096, 512]⟩
abbrev S4096x4x128 : Shape := ⟨3, ![4096, 4, 128]⟩
abbrev S4096x64 : Shape := ⟨2, ![4096, 64]⟩
abbrev S4096x1x128 : Shape := ⟨3, ![4096, 1, 128]⟩
abbrev S4096x4x64 : Shape := ⟨3, ![4096, 4, 64]⟩
abbrev S4096x1x64 : Shape := ⟨3, ![4096, 1, 64]⟩

abbrev nBuf : Space → Nat
  | .hbm => 102
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S1x384, .f32⟩
  | .hbm, ⟨2, _⟩ => ⟨S1x256, .f32⟩
  | .hbm, ⟨3, _⟩ => ⟨S1024x384, .bf16⟩
  | .hbm, ⟨4, _⟩ => ⟨S256x1024, .bf16⟩
  | .hbm, ⟨5, _⟩ => ⟨S4096x128, .f32⟩
  | .hbm, ⟨6, _⟩ => ⟨S4096x128, .f32⟩
  | .hbm, ⟨7, _⟩ => ⟨S4096x384, .f32⟩
  | .hbm, ⟨8, _⟩ => ⟨S4096x384, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x384, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S1024x384, .f32⟩
  | .hbm, ⟨40, _⟩ => ⟨S384x1024, .f32⟩
  | .hbm, ⟨41, _⟩ => ⟨S4096x1024, .f32⟩
  | .hbm, ⟨42, _⟩ => ⟨S4096x4x256, .f32⟩
  | .hbm, ⟨43, _⟩ => ⟨S256x1024, .f32⟩
  | .hbm, ⟨44, _⟩ => ⟨S4096x1024, .f32⟩
  | .hbm, ⟨45, _⟩ => ⟨S4096x512, .f32⟩
  | .hbm, ⟨46, _⟩ => ⟨S4096x4x128, .f32⟩
  | .hbm, ⟨47, _⟩ => ⟨S4096x512, .f32⟩
  | .hbm, ⟨48, _⟩ => ⟨S4096x4x128, .f32⟩
  | .hbm, ⟨49, _⟩ => ⟨S4096x128, .f32⟩
  | .hbm, ⟨50, _⟩ => ⟨S4096x64, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S4096x64, .f32⟩
  | .hbm, ⟨60, _⟩ => ⟨S4096x64, .f32⟩
  | .hbm, ⟨61, _⟩ => ⟨S4096x64, .f32⟩
  | .hbm, ⟨62, _⟩ => ⟨S4096x128, .f32⟩
  | .hbm, ⟨63, _⟩ => ⟨S4096x1x128, .f32⟩
  | .hbm, ⟨64, _⟩ => ⟨S4096x4x128, .f32⟩
  | .hbm, ⟨65, _⟩ => ⟨S4096x4x128, .f32⟩
  | .hbm, ⟨66, _⟩ => ⟨S4096x4x128, .f32⟩
  | .hbm, ⟨67, _⟩ => ⟨S4096x1x128, .f32⟩
  | .hbm, ⟨68, _⟩ => ⟨S4096x1x128, .f32⟩
  | .hbm, ⟨69, _⟩ => ⟨S4096x4x64, .f32⟩
  | .hbm, ⟨70, _⟩ => ⟨S4096x4x64, .f32⟩
  | .hbm, ⟨71, _⟩ => ⟨S4096x1x64, .f32⟩
  | .hbm, ⟨72, _⟩ => ⟨S4096x4x64, .f32⟩
  | .hbm, ⟨73, _⟩ => ⟨S4096x4x64, .f32⟩
  | .hbm, ⟨74, _⟩ => ⟨S4096x1x64, .f32⟩
  | .hbm, ⟨75, _⟩ => ⟨S4096x4x64, .f32⟩
  | .hbm, ⟨76, _⟩ => ⟨S4096x4x64, .f32⟩
  | .hbm, ⟨77, _⟩ => ⟨S4096x4x64, .f32⟩
  | .hbm, ⟨78, _⟩ => ⟨S4096x1x64, .f32⟩
  | .hbm, ⟨79, _⟩ => ⟨S4096x4x64, .f32⟩
  | .hbm, ⟨80, _⟩ => ⟨S4096x4x64, .f32⟩
  | .hbm, ⟨81, _⟩ => ⟨S4096x1x64, .f32⟩
  | .hbm, ⟨82, _⟩ => ⟨S4096x4x64, .f32⟩
  | .hbm, ⟨83, _⟩ => ⟨S4096x4x64, .f32⟩
  | .hbm, ⟨84, _⟩ => ⟨S4096x4x64, .f32⟩
  | .hbm, ⟨85, _⟩ => ⟨S4096x4x128, .f32⟩
  | .hbm, ⟨86, _⟩ => ⟨S4096x4x256, .f32⟩
  | .hbm, ⟨87, _⟩ => ⟨S_, .f32⟩
  | .hbm, ⟨88, _⟩ => ⟨S4096x4x256, .f32⟩
  | .hbm, ⟨89, _⟩ => ⟨S4096x4x256, .f32⟩
  | .hbm, ⟨90, _⟩ => ⟨S4096x4x256, .f32⟩
  | .hbm, ⟨91, _⟩ => ⟨S_, .f32⟩
  | .hbm, ⟨92, _⟩ => ⟨S4096x4x128, .f32⟩
  | .hbm, ⟨93, _⟩ => ⟨S4096x4x256, .f32⟩
  | .hbm, ⟨94, _⟩ => ⟨S4096x1024, .f32⟩
  | .hbm, ⟨95, _⟩ => ⟨S4096x1024, .bf16⟩
  | .hbm, ⟨96, _⟩ => ⟨S4096x1024, .f32⟩
  | .hbm, ⟨97, _⟩ => ⟨S4096x1024, .bf16⟩
  | .hbm, ⟨98, _⟩ => ⟨S4096x1024, .f32⟩
  | .hbm, ⟨99, _⟩ => ⟨S4096x1024, .bf16⟩
  | .hbm, ⟨100, _⟩ => ⟨S4096x384, .bf16⟩
  | .hbm, ⟨101, _⟩ => ⟨S4096x256, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_5 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩

abbrev nD : Nat := 1
abbrev τ : Topo := Topo.v7x

variable {F : FTy → Type} [FloatOps F]
-- ==== MemAttnFwd.lean ====
abbrev S4096x4608 : Shape := ⟨2, ![4096, 4608]⟩
abbrev S512x1024 : Shape := ⟨2, ![512, 1024]⟩
abbrev S4096x512 : Shape := ⟨2, ![4096, 512]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x4608, .f32⟩
  | .hbm, ⟨1, _⟩ => ⟨S512x1024, .bf16⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S256x1024, .bf16⟩
  | .local _ .vmem, ⟨4, _⟩ => ⟨S512x512, .bf16⟩
  | .local _ .vmem, ⟨5, _⟩ => ⟨S512x512, .bf16⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnFwdRefIdeal.lean ====
abbrev S4096x4608 : Shape := ⟨2, ![4096, 4608]⟩
abbrev S512x1024 : Shape := ⟨2, ![512, 1024]⟩
abbrev S2x256x2x4x128 : Shape := ⟨5, ![2, 256, 2, 4, 128]⟩
abbrev S4096x512 : Shape := ⟨2, ![4096, 512]⟩
abbrev S2x2048x4x128 : Shape := ⟨4, ![2, 2048, 4, 128]⟩
abbrev S2x256x1x4x128 : Shape := ⟨5, ![2, 256, 1, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S512x1024, .bf16⟩
  | .hbm, ⟨2, _⟩ => ⟨S512x1024, .f32⟩
  | .hbm, ⟨3, _⟩ => ⟨S2x256x2x4x128, .f32⟩
  | .hbm, ⟨4, _⟩ => ⟨S4096x512, .f32⟩
  | .hbm, ⟨5, _⟩ => ⟨S2x2048x4x128, .f32⟩
  | .hbm, ⟨6, _⟩ => ⟨S2x256x1x4x128, .f32⟩
  | .hbm, ⟨7, _⟩ => ⟨S2x256x4x128, .f32⟩
  | .hbm, ⟨8, _⟩ => ⟨S2x256x1x4x128, .f32⟩
  | .hbm, ⟨9, _⟩ => ⟨S2x256x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x128x2048, .f32⟩
  | .hbm, ⟨29, _⟩ => ⟨S2x2048x4x128, .f32⟩
  | .hbm, ⟨30, _⟩ => ⟨S4096x512, .f32⟩
  | .hbm, ⟨31, _⟩ => ⟨S4096x512, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== InProjEarly.lean ====
abbrev S4096x1024 : Shape := ⟨2, ![4096, 1024]⟩
abbrev S4608x1024 : Shape := ⟨2, ![4608, 1024]⟩
abbrev S4096x4608 : Shape := ⟨2, ![4096, 4608]⟩
abbrev S1024x1024 : Shape := ⟨2, ![1024, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4096x4608, .f32⟩
  | .hbm, ⟨3, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjEarlyRefIdeal.lean ====
abbrev S4096x1024 : Shape := ⟨2, ![4096, 1024]⟩
abbrev S4608x1024 : Shape := ⟨2, ![4608, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4608x1024, .bf16⟩
  | .hbm, ⟨2, _⟩ => ⟨S4096x1024, .f32⟩
  | .hbm, ⟨3, _⟩ => ⟨S4608x1024, .f32⟩
  | .hbm, ⟨4, _⟩ => ⟨S1536x1024, .f32⟩
  | .hbm, ⟨5, _⟩ => ⟨S1024x1536, .f32⟩
  | .hbm, ⟨6, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradMemNorm.lean ====
abbrev S512x1024 : Shape := ⟨2, ![512, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradMemNormRefIdeal.lean ====
abbrev S512x1024 : Shape := ⟨2, ![512, 1024]⟩
abbrev S_ : Shape := ⟨0, ![]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S_, .f32⟩
  | .hbm, ⟨3, _⟩ => ⟨S1x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== RmsMem.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsIn.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x128, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsInRefIdeal.lean ====
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x128, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GdnPrepFwd.lean ====
abbrev S4096x4608 : Shape := ⟨2, ![4096, 4608]⟩
abbrev S4x1536 : Shape := ⟨2, ![4, 1536]⟩
abbrev S4096x1536 : Shape := ⟨2, ![4096, 1536]⟩
abbrev S2048x512 : Shape := ⟨2, ![2048, 512]⟩
abbrev S4x512 : Shape := ⟨2, ![4, 512]⟩
abbrev S2048x1 : Shape := ⟨2, ![2048, 1]⟩
abbrev S1x512 : Shape := ⟨2, ![1, 512]⟩
abbrev S2048x128 : Shape := ⟨2, ![2048, 128]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x4608, .f32⟩
  | .hbm, ⟨1, _⟩ => ⟨S4x1536, .f32⟩
  | .hbm, ⟨2, _⟩ => ⟨S4096x1536, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S2048x512, .f32⟩
  | .local _ .vmem, ⟨5, _⟩ => ⟨S2048x512, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnPrepFwdRefIdeal.lean ====
abbrev S4096x4608 : Shape := ⟨2, ![4096, 4608]⟩
abbrev S4x1536 : Shape := ⟨2, ![4, 1536]⟩
abbrev S4096x1536 : Shape := ⟨2, ![4096, 1536]⟩
abbrev S2x2048x1536 : Shape := ⟨3, ![2, 2048, 1536]⟩
abbrev S_ : Shape := ⟨0, ![]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩
abbrev S2x2048x512 : Shape := ⟨3, ![2, 2048, 512]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S4096x512 : Shape := ⟨2, ![4096, 512]⟩

abbrev nBuf : Space → Nat
  | .hbm => 78
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4x1536, .f32⟩
  | .hbm, ⟨2, _⟩ => ⟨S4096x1536, .f32⟩
  | .hbm, ⟨3, _⟩ => ⟨S2x2048x1536, .f32⟩
  | .hbm, ⟨4, _⟩ => ⟨S_, .i32⟩
  | .hbm, ⟨5, _⟩ => ⟨S_, .f32⟩
  | .hbm, ⟨6, _⟩ => ⟨S2x2051x1536, .f32⟩
  | .hbm, ⟨7, _⟩ => ⟨S2x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S2x2048x1536, .f32⟩
  | .hbm, ⟨12, _⟩ => ⟨S2x2048x1536, .f32⟩
  | .hbm, ⟨13, _⟩ => ⟨S_, .f32⟩
  | .hbm, ⟨14, _⟩ => ⟨S2x2048x1536, .f32⟩
  | .hbm, ⟨15, _⟩ => ⟨S2x2048x1536, .f32⟩
  | .hbm, ⟨16, _⟩ => ⟨S2x2048x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S2x2048x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S2x2048x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S2x2048x1536, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S2x2048x1536, .f32⟩
  | .hbm, ⟨39, _⟩ => ⟨S_, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S2x2048x1536, .f32⟩
  | .hbm, ⟨46, _⟩ => ⟨S2x2048x512, .f32⟩
  | .hbm, ⟨47, _⟩ => ⟨S2x2048x4x128, .f32⟩
  | .hbm, ⟨48, _⟩ => ⟨S2x2048x4x128, .f32⟩
  | .hbm, ⟨49, _⟩ => ⟨S_, .f32⟩
  | .hbm, ⟨50, _⟩ => ⟨S2x2048x4, .f32⟩
  | .hbm, ⟨51, _⟩ => ⟨S2x2048x4x1, .f32⟩
  | .hbm, ⟨52, _⟩ => ⟨S_, .f32⟩
  | .hbm, ⟨53, _⟩ => ⟨S2x2048x4x1, .f32⟩
  | .hbm, ⟨54, _⟩ => ⟨S2x2048x4x1, .f32⟩
  | .hbm, ⟨55, _⟩ => ⟨S2x2048x4x1, .f32⟩
  | .hbm, ⟨56, _⟩ => ⟨S2x2048x4x128, .f32⟩
  | .hbm, ⟨57, _⟩ => ⟨S2x2048x4x128, .f32⟩
  | .hbm, ⟨58, _⟩ => ⟨S_, .f32⟩
  | .hbm, ⟨59, _⟩ => ⟨S2x2048x4x128, .f32⟩
  | .hbm, ⟨60, _⟩ => ⟨S2x2048x4x128, .f32⟩
  | .hbm, ⟨61, _⟩ => ⟨S2x2048x512, .f32⟩
  | .hbm, ⟨62, _⟩ => ⟨S2x2048x4x128, .f32⟩
  | .hbm, ⟨63, _⟩ => ⟨S2x2048x4x128, .f32⟩
  | .hbm, ⟨64, _⟩ => ⟨S_, .f32⟩
  | .hbm, ⟨65, _⟩ => ⟨S2x2048x4, .f32⟩
  | .hbm, ⟨66, _⟩ => ⟨S2x2048x4x1, .f32⟩
  | .hbm, ⟨67, _⟩ => ⟨S_, .f32⟩
  | .hbm, ⟨68, _⟩ => ⟨S2x2048x4x1, .f32⟩
  | .hbm, ⟨69, _⟩ => ⟨S2x2048x4x1, .f32⟩
  | .hbm, ⟨70, _⟩ => ⟨S2x2048x4x1, .f32⟩
  | .hbm, ⟨71, _⟩ => ⟨S2x2048x4x128, .f32⟩
  | .hbm, ⟨72, _⟩ => ⟨S2x2048x4x128, .f32⟩
  | .hbm, ⟨73, _⟩ => ⟨S4096x512, .f32⟩
  | .hbm, ⟨74, _⟩ => ⟨S4096x512, .f32⟩
  | .hbm, ⟨75, _⟩ => ⟨S2x2048x512, .f32⟩
  | .hbm, ⟨76, _⟩ => ⟨S4096x512, .f32⟩
  | .hbm, ⟨77, _⟩ => ⟨S4096x1536, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== RopeTables.lean ====
abbrev S4096x1 : Shape := ⟨2, ![4096, 1]⟩
abbrev S8x128 : Shape := ⟨2, ![8, 128]⟩
abbrev S32 : Shape := ⟨1, ![32]⟩
abbrev S_ : Shape := ⟨0, ![]⟩
abbrev S128 : Shape := ⟨1, ![128]⟩
abbrev S1x128 : Shape := ⟨2, ![1, 128]⟩
abbrev S4096x128 : Shape := ⟨2, ![4096, 128]⟩
abbrev S512x1 : Shape := ⟨2, ![512, 1]⟩
abbrev S512x128 : Shape := ⟨2, ![512, 128]⟩

abbrev nBuf : Space → Nat
  | .hbm => 25
  | .vmem => 9
  | .smem => 0
  | _ => 0

abbrev bufTy : (tb : Table) → Fin (tcTables nBuf tb) → BufTy
  | .hbm, ⟨0, _⟩ => ⟨S4096x1, .i32⟩
  | .hbm, ⟨1, _⟩ => ⟨S8x128, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S128, .f32⟩
  | .hbm, ⟨17, _⟩ => ⟨S1x128, .f32⟩
  | .hbm, ⟨18, _⟩ => ⟨S32, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S4096x128, .f32⟩
  | .hbm, ⟨24, _⟩ => ⟨S4096x128, .f32⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeTablesRefIdeal.lean ====
abbrev S4096x1 : Shape := ⟨2, ![4096, 1]⟩
abbrev S8x128 : Shape := ⟨2, ![8, 128]⟩
abbrev S32 : Shape := ⟨1, ![32]⟩
abbrev S_ : Shape := ⟨0, ![]⟩
abbrev S1x32 : Shape := ⟨2, ![1, 32]⟩
abbrev S4096x32 : Shape := ⟨2, ![4096, 32]⟩
abbrev S4096x128 : Shape := ⟨2, ![4096, 128]⟩

abbrev nBuf : Space → Nat
  | .hbm => 24
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S8x128, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096x1, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S_, .f32⟩
  | .hbm, ⟨20, _⟩ => ⟨S4096x32, .f32⟩
  | .hbm, ⟨21, _⟩ => ⟨S4096x128, .f32⟩
  | .hbm, ⟨22, _⟩ => ⟨S4096x32, .f32⟩
  | .hbm, ⟨23, _⟩ => ⟨S4096x128, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== AdamwGdnConv.lean ====
abbrev S1x4x384 : Shape := ⟨3, ![1, 4, 384]⟩
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamwGdnConvRefIdeal.lean ====
abbrev S1x4x384 : Shape := ⟨3, ![1, 4, 384]⟩
abbrev S4x384 : Shape := ⟨2, ![4, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S_, .f32⟩
  | .hbm, ⟨6, _⟩ => ⟨S1x4x384, .f32⟩
  | .hbm, ⟨7, _⟩ => ⟨S1x4x384, .f32⟩
  | .hbm, ⟨8, _⟩ => ⟨S_, .f32⟩
  | .hbm, ⟨9, _⟩ => ⟨S1x4x384, .f32⟩
  | .hbm, ⟨10, _⟩ => ⟨S1x4x384, .f32⟩
  | .hbm, ⟨11, _⟩ => ⟨S1x4x384, .f32⟩
  | .hbm, ⟨12, _⟩ => ⟨S_, .f32⟩
  | .hbm, ⟨13, _⟩ => ⟨S1x4x384, .f32⟩
  | .hbm, ⟨14, _⟩ => ⟨S1x4x384, .f32⟩
  | .hbm, ⟨15, _⟩ => ⟨S1x4x384, .f32⟩
  | .hbm, ⟨16, _⟩ => ⟨S_, .f32⟩
  | .hbm, ⟨17, _⟩ => ⟨S1x4x384, .f32⟩
  | .hbm, ⟨18, _⟩ => ⟨S1x4x384, .f32⟩
  | .hbm, ⟨19, _⟩ => ⟨S1x4x384, .f32⟩
  | .hbm, ⟨20, _⟩ => ⟨S_, .f32⟩
  | .hbm, ⟨21, _⟩ => ⟨S1x4x384, .f32⟩
  | .hbm, ⟨22, _⟩ => ⟨S1x4x384, .f32⟩
  | .hbm, ⟨23, _⟩ => ⟨S_, .f32⟩
  | .hbm, ⟨24, _⟩ => ⟨S1x4x384, .f32⟩
  | .hbm, ⟨25, _⟩ => ⟨S1x4x384, .f32⟩
  | .hbm, ⟨26, _⟩ => ⟨S1x4x384, .f32⟩
  | .hbm, ⟨27, _⟩ => ⟨S_, .f32⟩
  | .hbm, ⟨28, _⟩ => ⟨S1x4x384, .f32⟩
  | .hbm, ⟨29, _⟩ => ⟨S1x4x384, .f32⟩
  | .hbm, ⟨30, _⟩ => ⟨S1x4x384, .f32⟩
  | .hbm, ⟨31, _⟩ => ⟨S_, .f32⟩
  | .hbm, ⟨32, _⟩ => ⟨S1x4x384, .f32⟩
  | .hbm, ⟨33, _⟩ => ⟨S1x4x384, .f32⟩
  | .hbm, ⟨34, _⟩ => ⟨S1x4x384, .f32⟩
  | .hbm, ⟨35, _⟩ => ⟨S_, .f32⟩
  | .hbm, ⟨36, _⟩ => ⟨S1x4x384, .f32⟩
  | .hbm, ⟨37, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamwWMemKv.lean ====
abbrev S1x256x1024 : Shape := ⟨3, ![1, 256, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamwWMemKvRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwWOut.lean ====
abbrev S1x384x1024 : Shape := ⟨3, ![1, 384, 1024]⟩
abbrev S384x1024 : Shape := ⟨2, ![384, 1024]⟩
abbrev S1x192x1024 : Shape := ⟨3, ![1, 192, 1024]⟩
abbrev S192x1024 : Shape := ⟨2, ![192, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x384x1024, .f32⟩
  | .hbm, ⟨1, _⟩ => ⟨S384x1024, .f32⟩
  | .hbm, ⟨2, _⟩ => ⟨S384x1024, .f32⟩
  | .hbm, ⟨3, _⟩ => ⟨S1x384x1024, .f32⟩
  | .hbm, ⟨4, _⟩ => ⟨S1x384x1024, .f32⟩
  | .hbm, ⟨5, _⟩ => ⟨S1x384x1024, .f32⟩
  | .hbm, ⟨6, _⟩ => ⟨S1x384x1024, .f32⟩
  | .hbm, ⟨7, _⟩ => ⟨S1x384x1024, .f32⟩
  | .hbm, ⟨8, _⟩ => ⟨S1x384x1024, .f32⟩
  | .local _ .vmem, ⟨0, _⟩ => ⟨S1x192x1024, .f32⟩
  | .local _ .vmem, ⟨1, _⟩ => ⟨S1x192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | .local _ .vmem, ⟨16, _⟩ => ⟨S1x192x1024, .f32⟩
  | .local _ .vmem, ⟨17, _⟩ => ⟨S1x192x1024, .f32⟩
  | _, _ => ⟨S1x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwWOutRefIdeal.lean ====
abbrev S1x384x1024 : Shape := ⟨3, ![1, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x384x1024, .f32⟩
  | .hbm, ⟨1, _⟩ => ⟨S384x1024, .f32⟩
  | .hbm, ⟨2, _⟩ => ⟨S384x1024, .f32⟩
  | .hbm, ⟨3, _⟩ => ⟨S1x384x1024, .f32⟩
  | .hbm, ⟨4, _⟩ => ⟨S1x384x1024, .f32⟩
  | .hbm, ⟨5, _⟩ => ⟨S384x1024, .f32⟩
  | .hbm, ⟨6, _⟩ => ⟨S1x384x1024, .f32⟩
  | .hbm, ⟨7, _⟩ => ⟨S_, .f32⟩
  | .hbm, ⟨8, _⟩ => ⟨S1x384x1024, .f32⟩
  | .hbm, ⟨9, _⟩ => ⟨S1x384x1024, .f32⟩
  | .hbm, ⟨10, _⟩ => ⟨S_, .f32⟩
  | .hbm, ⟨11, _⟩ => ⟨S1x384x1024, .f32⟩
  | .hbm, ⟨12, _⟩ => ⟨S1x384x1024, .f32⟩
  | .hbm, ⟨13, _⟩ => ⟨S1x384x1024, .f32⟩
  | .hbm, ⟨14, _⟩ => ⟨S_, .f32⟩
  | .hbm, ⟨15, _⟩ => ⟨S1x384x1024, .f32⟩
  | .hbm, ⟨16, _⟩ => ⟨S1x384x1024, .f32⟩
  | .hbm, ⟨17, _⟩ => ⟨S1x384x1024, .f32⟩
  | .hbm, ⟨18, _⟩ => ⟨S_, .f32⟩
  | .hbm, ⟨19, _⟩ => ⟨S1x384x1024, .f32⟩
  | .hbm, ⟨20, _⟩ => ⟨S1x384x1024, .f32⟩
  | .hbm, ⟨21, _⟩ => ⟨S1x384x1024, .f32⟩
  | .hbm, ⟨22, _⟩ => ⟨S_, .f32⟩
  | .hbm, ⟨23, _⟩ => ⟨S1x384x1024, .f32⟩
  | .hbm, ⟨24, _⟩ => ⟨S1x384x1024, .f32⟩
  | .hbm, ⟨25, _⟩ => ⟨S_, .f32⟩
  | .hbm, ⟨26, _⟩ => ⟨S1x384x1024, .f32⟩
  | .hbm, ⟨27, _⟩ => ⟨S1x384x1024, .f32⟩
  | .hbm, ⟨28, _⟩ => ⟨S1x384x1024, .f32⟩
  | .hbm, ⟨29, _⟩ => ⟨S_, .f32⟩
  | .hbm, ⟨30, _⟩ => ⟨S1x384x1024, .f32⟩
  | .hbm, ⟨31, _⟩ => ⟨S1x384x1024, .f32⟩
  | .hbm, ⟨32, _⟩ => ⟨S1x384x1024, .f32⟩
  | .hbm, ⟨33, _⟩ => ⟨S_, .f32⟩
  | .hbm, ⟨34, _⟩ => ⟨S1x384x1024, .f32⟩
  | .hbm, ⟨35, _⟩ => ⟨S1x384x1024, .f32⟩
  | .hbm, ⟨36, _⟩ => ⟨S1x384x1024, .f32⟩
  | .hbm, ⟨37, _⟩ => ⟨S_, .f32⟩
  | .hbm, ⟨38, _⟩ => ⟨S1x384x1024, .f32⟩
  | .hbm, ⟨39, _⟩ => ⟨S1x384x1024, .f32⟩
  | _, _ => ⟨S1x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== GdnGateFwd.lean ====
abbrev S4096x4608 : Shape := ⟨2, ![4096, 4608]⟩
abbrev S1x128 : Shape := ⟨2, ![1, 128]⟩
abbrev S4096x128 : Shape := ⟨2, ![4096, 128]⟩
abbrev S2048x128 : Shape := ⟨2, ![2048, 128]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x4608, .f32⟩
  | .hbm, ⟨1, _⟩ => ⟨S1x128, .f32⟩
  | .hbm, ⟨2, _⟩ => ⟨S1x128, .f32⟩
  | .hbm, ⟨3, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnGateFwdRefIdeal.lean ====
abbrev S4096x4608 : Shape := ⟨2, ![4096, 4608]⟩
abbrev S1x128 : Shape := ⟨2, ![1, 128]⟩
abbrev S4096x4 : Shape := ⟨2, ![4096, 4]⟩
abbrev S1x4 : Shape := ⟨2, ![1, 4]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x64x1 : Shape := ⟨4, ![1, 64, 64, 1]⟩
abbrev S64x1x64x4 : Shape := ⟨4, ![64, 1, 64, 4]⟩
abbrev S64x64x64x4 : Shape := ⟨4, ![64, 64, 64, 4]⟩
abbrev S64x64x4 : Shape := ⟨3, ![64, 64, 4]⟩
abbrev S4096x120 : Shape := ⟨2, ![4096, 120]⟩
abbrev S4096x128 : Shape := ⟨2, ![4096, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S1x128, .f32⟩
  | .hbm, ⟨2, _⟩ => ⟨S1x128, .f32⟩
  | .hbm, ⟨3, _⟩ => ⟨S4096x4, .f32⟩
  | .hbm, ⟨4, _⟩ => ⟨S4096x4, .f32⟩
  | .hbm, ⟨5, _⟩ => ⟨S1x4, .f32⟩
  | .hbm, ⟨6, _⟩ => ⟨S1x4, .f32⟩
  | .hbm, ⟨7, _⟩ => ⟨S1x4, .f32⟩
  | .hbm, ⟨8, _⟩ => ⟨S1x4, .f32⟩
  | .hbm, ⟨9, _⟩ => ⟨S4096x4, .f32⟩
  | .hbm, ⟨10, _⟩ => ⟨S4096x4, .f32⟩
  | .hbm, ⟨11, _⟩ => ⟨S_, .f32⟩
  | .hbm, ⟨12, _⟩ => ⟨S4096x4, .f32⟩
  | .hbm, ⟨13, _⟩ => ⟨S4096x4, .f32⟩
  | .hbm, ⟨14, _⟩ => ⟨S4096x4, .f32⟩
  | .hbm, ⟨15, _⟩ => ⟨S4096x4, .f32⟩
  | .hbm, ⟨16, _⟩ => ⟨S4096x4, .i1⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4, .f32⟩
  | .hbm, ⟨22, _⟩ => ⟨S4096x4, .f32⟩
  | .hbm, ⟨23, _⟩ => ⟨S4096x4, .f32⟩
  | .hbm, ⟨24, _⟩ => ⟨S4096x4, .f32⟩
  | .hbm, ⟨25, _⟩ => ⟨S4096x4, .f32⟩
  | .hbm, ⟨26, _⟩ => ⟨S4096x4, .f32⟩
  | .hbm, ⟨27, _⟩ => ⟨S64, .i32⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S1x64x64x1, .i1⟩
  | .hbm, ⟨34, _⟩ => ⟨S64x1x64x4, .f32⟩
  | .hbm, ⟨35, _⟩ => ⟨S_, .f32⟩
  | .hbm, ⟨36, _⟩ => ⟨S_, .f32⟩
  | .hbm, ⟨37, _⟩ => ⟨S64x64x64x4, .i1⟩
  | .hbm, ⟨38, _⟩ => ⟨S64x64x64x4, .f32⟩
  | .hbm, ⟨39, _⟩ => ⟨S64x64x64x4, .f32⟩
  | .hbm, ⟨40, _⟩ => ⟨S64x64x64x4, .f32⟩
  | .hbm, ⟨41, _⟩ => ⟨S_, .f32⟩
  | .hbm, ⟨42, _⟩ => ⟨S64x64x4, .f32⟩
  | .hbm, ⟨43, _⟩ => ⟨S4096x4, .f32⟩
  | .hbm, ⟨44, _⟩ => ⟨S4096x4, .f32⟩
  | .hbm, ⟨45, _⟩ => ⟨S4096x4, .f32⟩
  | .hbm, ⟨46, _⟩ => ⟨S_, .f32⟩
  | .hbm, ⟨47, _⟩ => ⟨S4096x4, .f32⟩
  | .hbm, ⟨48, _⟩ => ⟨S4096x4, .f32⟩
  | .hbm, ⟨49, _⟩ => ⟨S_, .f32⟩
  | .hbm, ⟨50, _⟩ => ⟨S4096x4, .f32⟩
  | .hbm, ⟨51, _⟩ => ⟨S4096x4, .f32⟩
  | .hbm, ⟨52, _⟩ => ⟨S_, .f32⟩
  | .hbm, ⟨53, _⟩ => ⟨S4096x120, .f32⟩
  | .hbm, ⟨54, _⟩ => ⟨S4096x128, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Proof.Mem.Rows.lean ====
/- The mathematics of one row of memory attention's gradient: the scores of one query over the 256 memory tokens, their
   softmax, and the gradient that comes back through it, over extended reals. The kernel and the reference are both read as
   these functions of the arrays' entries. -/
module

public import Idealize.ShloMosaic.Lib.Pointwise
public import Idealize.ShloMosaic.Lib.IdealHost

@[expose] public section

noncomputable section

namespace Cert.Mem

open Idealize.ShloMosaic

/-- The factor on the scores, `128 ^ (-1/2)` rounded to the printed constant. -/
def scale : EReal := Ideal.ofBits .f32 0x3DB504F3#32

/-- The scores of query row `q` against the 256 key rows. -/
def score (q : Fin 128 → EReal) (k : Fin 256 → Fin 128 → EReal) (j : Fin 256) : EReal := (∑ d, q d * k j d) * scale

/-- The largest score, from the printed start of the maximum. -/
def peak (s : Fin 256 → EReal) : EReal := Finset.univ.fold max (Ideal.ofBits .f32 0xFF800000#32) s

/-- The softmax's numerator at memory token `j`. -/
def weight (s : Fin 256 → EReal) (j : Fin 256) : EReal := Ideal.exp (s j - peak s)

/-- The softmax. -/
def prob (s : Fin 256 → EReal) (j : Fin 256) : EReal := Ideal.div (weight s j) (∑ i, weight s i)

/-- The gradient of the unscaled scores when `g` is the gradient of the softmax. -/
def pull (s g : Fin 256 → EReal) (j : Fin 256) : EReal := prob s j * (g j - ∑ i, g i * prob s i) * scale

/-- `pull` with its arguments formed from the rows: query `q`, keys `k`, cotangent row `o`, values `v`. -/
def dscore (q : Fin 128 → EReal) (k : Fin 256 → Fin 128 → EReal) (o : Fin 128 → EReal) (v : Fin 256 → Fin 128 → EReal) :
    Fin 256 → EReal := pull (score q k) fun j => ∑ d, o d * v j d

end Cert.Mem
-- ==== Proof.Mem.Tile.lean ====
/- The kernel's body at one tile of 512 rows, read entry by entry: what each store of the body holds, for each of the four
   heads, as the row mathematics of Rows.lean over the tile's blocks. -/
module

public import proofs.«01_k».proof.Proof.Mem.Rows
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Mem

open Idealize.ShloMosaic
open Cert.KernelIdeal Cert.KernelIdeal.Gen

/-- Row `r` of an array of 128 columns. -/
abbrev row {n : ℕ} (x : (⟨2, ![n, 128]⟩ : Shape).Idx → EReal) (r : Fin n) : Fin 128 → EReal := fun d => x (ix2 r d)

variable (q : Vec Ideal S512x128 .f32) (k v : Vec Ideal S256x128 .bf16) (o : Vec Ideal S512x128 .bf16) (acc : Vec Ideal S256x128 .f32)

/-- What one head of the tile adds to the keys' gradient. -/
def dkHead (j : Fin 256) (d : Fin 128) : EReal := ∑ r : Fin 512, dscore (row q r) (row k) (row o r) (row v) j * q (ix2 r d)

/-- What one head of the tile adds to the values' gradient. -/
def dvHead (j : Fin 256) (d : Fin 128) : EReal := ∑ r : Fin 512, prob (score (row q r) (row k)) j * o (ix2 r d)

/-- One head of the queries' gradient. -/
def dqHead (r : Fin 512) (d : Fin 128) : EReal := ∑ j : Fin 256, dscore (row q r) (row k) (row o r) (row v) j * k (ix2 j d)

theorem dv0 (j : Fin 256) (d : Fin 128) : k0_pay4 q k o acc (ix2 j d) = acc (ix2 j d) + dvHead q k o j d := by
  pointwise [k0_pay4, k0_pay3, k0_pay2]; rfl
theorem dv1 (j : Fin 256) (d : Fin 128) : k0_pay12 q k o acc (ix2 j d) = acc (ix2 j d) + dvHead q k o j d := by
  pointwise [k0_pay12, k0_pay11, k0_pay10]; rfl
theorem dv2 (j : Fin 256) (d : Fin 128) : k0_pay18 o (k0_pay17 q k) acc (ix2 j d) = acc (ix2 j d) + dvHead q k o j d := by
  pointwise [k0_pay18, k0_pay17, k0_pay16]; rfl
theorem dv3 (j : Fin 256) (d : Fin 128) : k0_pay25 o (k0_pay23 q k) acc (ix2 j d) = acc (ix2 j d) + dvHead q k o j d := by
  pointwise [k0_pay25, k0_pay24, k0_pay23, k0_pay22]; rfl

theorem dk0 (j : Fin 256) (d : Fin 128) :
    k0_pay9 (k0_pay2 q) (k0_pay5 q k o v) k0_pay6 acc (ix2 j d) = acc (ix2 j d) + dkHead q k v o j d := by
  pointwise [k0_pay9, k0_pay7, k0_pay6, k0_pay5, k0_pay3, k0_pay2]; rfl
theorem dk1 (j : Fin 256) (d : Fin 128) :
    k0_pay15 (k0_pay10 q) o (k0_pay11 q k) v acc (ix2 j d) = acc (ix2 j d) + dkHead q k v o j d := by
  pointwise [k0_pay15, k0_pay13, k0_pay11, k0_pay10]; rfl
theorem dk2 (j : Fin 256) (d : Fin 128) :
    k0_pay21 (k0_pay16 q) o (k0_pay17 q k) v acc (ix2 j d) = acc (ix2 j d) + dkHead q k v o j d := by
  pointwise [k0_pay21, k0_pay19, k0_pay17, k0_pay16]; rfl
theorem dk3 (j : Fin 256) (d : Fin 128) :
    k0_pay28 (k0_pay22 q) o (k0_pay23 q k) v acc (ix2 j d) = acc (ix2 j d) + dkHead q k v o j d := by
  pointwise [k0_pay28, k0_pay26, k0_pay24, k0_pay23, k0_pay22]; rfl

theorem dq0 (r : Fin 512) (d : Fin 128) : k0_pay8 k (k0_pay5 q k o v) k0_pay6 (ix2 r d) = dqHead q k v o r d := by
  pointwise [k0_pay8, k0_pay7, k0_pay6, k0_pay5, k0_pay3, k0_pay2]; rfl
theorem dq1 (r : Fin 512) (d : Fin 128) : k0_pay14 k o (k0_pay11 q k) v (ix2 r d) = dqHead q k v o r d := by
  pointwise [k0_pay14, k0_pay13, k0_pay11, k0_pay10]; rfl
theorem dq2 (r : Fin 512) (d : Fin 128) : k0_pay20 k o (k0_pay17 q k) v (ix2 r d) = dqHead q k v o r d := by
  pointwise [k0_pay20, k0_pay19, k0_pay17, k0_pay16]; rfl
theorem dq3 (r : Fin 512) (d : Fin 128) : k0_pay27 k o (k0_pay23 q k) v (ix2 r d) = dqHead q k v o r d := by
  pointwise [k0_pay27, k0_pay26, k0_pay24, k0_pay23, k0_pay22]; rfl

end Cert.Mem
-- ==== Proof.Mem.Outs.lean ====
/- What the body leaves in the two result blocks at a grid point: the queries' gradient of the tile, and the accumulated
   gradient of keys and values. -/
module

public import proofs.«01_k».proof.Proof.Mem.Tile

@[expose] public section

set_option maxRecDepth 16384

noncomputable section

namespace Cert.Mem

open Idealize.ShloMosaic Idealize.ShloMosaic.TcCoe
open Cert.KernelIdeal Cert.KernelIdeal.Gen

/-- The queries (or the cotangent) of head `h` in a tile of 512 columns. -/
abbrev headOf {n : ℕ} (x : (⟨2, ![n, 512]⟩ : Shape).Idx → EReal) (h : Fin 4) : (⟨2, ![n, 128]⟩ : Shape).Idx → EReal :=
  fun i => x (ix2 (i 0) (⟨128 * h.val + (i 1).val, by have := (i 1).isLt; dsimp at this; omega⟩ : Fin 512))

/-- The keys of head `h`: columns below 512. -/
abbrev keyOf {n : ℕ} (x : (⟨2, ![n, 1024]⟩ : Shape).Idx → EReal) (h : Fin 4) : (⟨2, ![n, 128]⟩ : Shape).Idx → EReal :=
  fun i => x (ix2 (i 0) (⟨128 * h.val + (i 1).val, by have := (i 1).isLt; dsimp at this; omega⟩ : Fin 1024))

/-- The values of head `h`: columns from 512 on. -/
abbrev valOf {n : ℕ} (x : (⟨2, ![n, 1024]⟩ : Shape).Idx → EReal) (h : Fin 4) : (⟨2, ![n, 128]⟩ : Shape).Idx → EReal :=
  fun i => x (ix2 (i 0) (⟨512 + 128 * h.val + (i 1).val, by have := (i 1).isLt; dsimp at this; omega⟩ : Fin 1024))

/-- The head that column `n` of 512 (or of 1024, twice) belongs to. -/
abbrev hd (n : ℕ) : Fin 4 := ⟨n / 128 % 4, by omega⟩
/-- Its place within the head. -/
abbrev pl (n : ℕ) : Fin 128 := ⟨n % 128, by omega⟩

/-- What one tile adds to entry `(j, n)` of the gradient of keys and values. -/
def tileTerm (x0 : Vec Ideal S512x512 .f32) (x1 : Vec Ideal S256x1024 .bf16) (x2 : Vec Ideal S512x512 .bf16)
    (j : Fin 256) (n : ℕ) : EReal :=
  if n < 512 then dkHead (headOf x0 (hd n)) (keyOf x1 (hd n)) (valOf x1 (hd n)) (headOf x2 (hd n)) j (pl n)
  else dvHead (headOf x0 (hd n)) (keyOf x1 (hd n)) (headOf x2 (hd n)) j (pl n)

/-- Entry `(r, n)` of the queries' gradient of one tile. -/
def tileDq (x0 : Vec Ideal S512x512 .f32) (x1 : Vec Ideal S256x1024 .bf16) (x2 : Vec Ideal S512x512 .bf16)
    (r : Fin 512) (n : ℕ) : EReal :=
  dqHead (headOf x0 (hd n)) (keyOf x1 (hd n)) (valOf x1 (hd n)) (headOf x2 (hd n)) r (pl n)

variable (x0 : Vec Ideal S512x512 .f32) (x1 : Vec Ideal S256x1024 .bf16) (x2 : Vec Ideal S512x512 .bf16)

theorem ld_head {n : ℕ} (x : (⟨2, ![n, 512]⟩ : Shape).Idx → EReal) (h : Fin 4) (off : ℕ) (inb : ∀ a, ![0, off] a + ![n, 128] a ≤ (![n, 512] : Fin 2 → ℕ) a) (e : off = 128 * h.val) :
    (fun i => x ((Rect.unit ![0, off] ![n, 128] inb).idx i)) = headOf x h := by
  subst e; funext i
  show x _ = x _
  congr 1; funext a; refine Fin.ext ?_
  fin_cases a <;> simp

theorem ld_key {n : ℕ} (x : (⟨2, ![n, 1024]⟩ : Shape).Idx → EReal) (h : Fin 4) (off : ℕ) (inb : ∀ a, ![0, off] a + ![n, 128] a ≤ (![n, 1024] : Fin 2 → ℕ) a) (e : off = 128 * h.val) :
    (fun i => x ((Rect.unit ![0, off] ![n, 128] inb).idx i)) = keyOf x h := by
  subst e; funext i
  show x _ = x _
  congr 1; funext a; refine Fin.ext ?_
  fin_cases a <;> simp

theorem ld_val {n : ℕ} (x : (⟨2, ![n, 1024]⟩ : Shape).Idx → EReal) (h : Fin 4) (off : ℕ) (inb : ∀ a, ![0, off] a + ![n, 128] a ≤ (![n, 1024] : Fin 2 → ℕ) a) (e : off = 512 + 128 * h.val) :
    (fun i => x ((Rect.unit ![0, off] ![n, 128] inb).idx i)) = valOf x h := by
  subst e; funext i
  show x _ = x _
  congr 1; funext a; refine Fin.ext ?_
  fin_cases a <;> simp

theorem hd_col (h : Fin 4) (d : Fin 128) : hd (128 * h.val + d.val) = h := Fin.ext (by dsimp only [hd]; omega)
theorem pl_col (h : Fin 4) (d : Fin 128) : pl (128 * h.val + d.val) = d := Fin.ext (by dsimp only [pl]; omega)
theorem hd_col' (h : Fin 4) (d : Fin 128) : hd (512 + 128 * h.val + d.val) = h := Fin.ext (by dsimp only [hd]; omega)
theorem pl_col' (h : Fin 4) (d : Fin 128) : pl (512 + 128 * h.val + d.val) = d := Fin.ext (by dsimp only [pl]; omega)

theorem tileTerm_key (j : Fin 256) (h : Fin 4) (d : Fin 128) : tileTerm x0 x1 x2 j (128 * h.val + d.val)
    = dkHead (headOf x0 h) (keyOf x1 h) (valOf x1 h) (headOf x2 h) j d := by
  rw [tileTerm, if_pos (by omega), hd_col, pl_col]

theorem tileTerm_val (j : Fin 256) (h : Fin 4) (d : Fin 128) : tileTerm x0 x1 x2 j (512 + 128 * h.val + d.val)
    = dvHead (headOf x0 h) (keyOf x1 h) (headOf x2 h) j d := by
  rw [tileTerm, if_neg (by omega), hd_col', pl_col']

/-- The accumulated block with a tile's term added, as a buffer. -/
abbrev stepDkv (acc : Vec Ideal S256x1024 .f32) : Vec Ideal S256x1024 .f32 :=
  fun y => acc y + tileTerm x0 x1 x2 (y 0) (y 1).val

/-- The queries' gradient of a tile, as a buffer. -/
abbrev tileDqVec : Vec Ideal S512x512 .bf16 := fun y => tileDq x0 x1 x2 (y 0) (y 1).val

/-- A store of a keys' head is a block of the step. -/
theorem piece_key (acc : Vec Ideal S256x1024 .f32) (h : Fin 4) (off : ℕ) (e : off = 128 * h.val)
    (inb : ∀ a, ![0, off] a + ![256, 128] a ≤ S256x1024.size a) (j : Fin 256) (d : Fin 128) (P : EReal) {A Q K V O}
    (hP : P = A (ix2 j d) + dkHead Q K V O j d) (hA : A = keyOf acc h)
    (hQ : Q = headOf x0 h) (hK : K = keyOf x1 h) (hV : V = valOf x1 h) (hO : O = headOf x2 h) :
    P = stepDkv x0 x1 x2 acc ((Rect.unit (s := S256x1024) ![0, off] ![256, 128] inb).emb (ix2 j d)) := by
  rw [hP, hA, hQ, hK, hV, hO, ← tileTerm_key]
  subst e
  have e : (Rect.unit (s := S256x1024) ![0, 128 * h.val] ![256, 128] inb).emb (ix2 j d)
      = ix2 j (⟨128 * h.val + d.val, by omega⟩ : Fin 1024) := by
    funext a; refine Fin.ext ?_; fin_cases a <;> simp
  rw [e]; rfl

/-- A store of a values' head is a block of the step. -/
theorem piece_val (acc : Vec Ideal S256x1024 .f32) (h : Fin 4) (off : ℕ) (e : off = 512 + 128 * h.val)
    (inb : ∀ a, ![0, off] a + ![256, 128] a ≤ S256x1024.size a) (j : Fin 256) (d : Fin 128) (P : EReal) {A Q K O}
    (hP : P = A (ix2 j d) + dvHead Q K O j d) (hA : A = valOf acc h)
    (hQ : Q = headOf x0 h) (hK : K = keyOf x1 h) (hO : O = headOf x2 h) :
    P = stepDkv x0 x1 x2 acc ((Rect.unit (s := S256x1024) ![0, off] ![256, 128] inb).emb (ix2 j d)) := by
  rw [hP, hA, hQ, hK, hO, ← tileTerm_val]
  subst e
  have e : (Rect.unit (s := S256x1024) ![0, 512 + 128 * h.val] ![256, 128] inb).emb (ix2 j d)
      = ix2 j (⟨512 + 128 * h.val + d.val, by omega⟩ : Fin 1024) := by
    funext a; refine Fin.ext ?_; fin_cases a <;> simp
  rw [e]; rfl

/-- A store of a head of the queries' gradient is a block of the tile's. -/
theorem piece_dq (h : Fin 4) (off : ℕ) (e : off = 128 * h.val)
    (inb : ∀ a, ![0, off] a + ![512, 128] a ≤ S512x512.size a) (r : Fin 512) (d : Fin 128) (P : EReal) {Q K V O}
    (hP : P = dqHead Q K V O r d)
    (hQ : Q = headOf x0 h) (hK : K = keyOf x1 h) (hV : V = valOf x1 h) (hO : O = headOf x2 h) :
    P = tileDqVec x0 x1 x2 ((Rect.unit (s := S512x512) ![0, off] ![512, 128] inb).emb (ix2 r d)) := by
  rw [hP, hQ, hK, hV, hO]
  subst e
  have e : (Rect.unit (s := S512x512) ![0, 128 * h.val] ![512, 128] inb).emb (ix2 r d)
      = ix2 r (⟨128 * h.val + d.val, by omega⟩ : Fin 512) := by
    funext a; refine Fin.ext ?_; fin_cases a <;> simp
  rw [e]
  show _ = tileDq x0 x1 x2 r (128 * h.val + d.val)
  rw [tileDq, hd_col, pl_col]

variable (m : (ℓ : Loc nD τ sig) → Buf (Elt Ideal) ℓ)

set_option maxHeartbeats 2000000 in
/-- A batch's first tile: the block holds that tile's term alone. -/
theorem dkv_A (c : Dev nD) (t : Fin cfg0.N) (h : t.val % 4 = 0) (y : S256x1024.Idx) :
    (outsAt0 m c t.val t.isLt).2 y = stepDkv (iblk m c 0 t) (iblk m c 1 t) (iblk m c 2 t) (k0_pay1 (F := Ideal)) y := by
  rw [Gen.outsAt0_A m c t h]
  frame_open
  simp (disch := decide) only [↓ View.readCov_skip, ↓ View.readCov_cons_toLoadRect, ↓ View.readCov_fill]
  frame_out
  refine View.canon_append_of_piecesOf _ [_] [_, _, _, _, _, _, _, _] ⟨?_, ?_, ?_, ?_, ?_, ?_, ?_, ?_, trivial⟩ y ?_
  · intro x; idx_vars x; exact piece_key _ _ _ _ 3 _ rfl _ _ _ _ (dk3 _ _ _ _ _ _ _) (ld_key _ 3 _ _ rfl) (ld_head _ 3 _ _ rfl) (ld_key _ 3 _ _ rfl) (ld_val _ 3 _ _ rfl) (ld_head _ 3 _ _ rfl)
  · intro x; idx_vars x; exact piece_val _ _ _ _ 3 _ rfl _ _ _ _ (dv3 _ _ _ _ _ _) (ld_val _ 3 _ _ rfl) (ld_head _ 3 _ _ rfl) (ld_key _ 3 _ _ rfl) (ld_head _ 3 _ _ rfl)
  · intro x; idx_vars x; exact piece_key _ _ _ _ 2 _ rfl _ _ _ _ (dk2 _ _ _ _ _ _ _) (ld_key _ 2 _ _ rfl) (ld_head _ 2 _ _ rfl) (ld_key _ 2 _ _ rfl) (ld_val _ 2 _ _ rfl) (ld_head _ 2 _ _ rfl)
  · intro x; idx_vars x; exact piece_val _ _ _ _ 2 _ rfl _ _ _ _ (dv2 _ _ _ _ _ _) (ld_val _ 2 _ _ rfl) (ld_head _ 2 _ _ rfl) (ld_key _ 2 _ _ rfl) (ld_head _ 2 _ _ rfl)
  · intro x; idx_vars x; exact piece_key _ _ _ _ 1 _ rfl _ _ _ _ (dk1 _ _ _ _ _ _ _) (ld_key _ 1 _ _ rfl) (ld_head _ 1 _ _ rfl) (ld_key _ 1 _ _ rfl) (ld_val _ 1 _ _ rfl) (ld_head _ 1 _ _ rfl)
  · intro x; idx_vars x; exact piece_val _ _ _ _ 1 _ rfl _ _ _ _ (dv1 _ _ _ _ _ _) (ld_val _ 1 _ _ rfl) (ld_head _ 1 _ _ rfl) (ld_key _ 1 _ _ rfl) (ld_head _ 1 _ _ rfl)
  · intro x; idx_vars x; exact piece_key _ _ _ _ 0 _ rfl _ _ _ _ (dk0 _ _ _ _ _ _ _) (ld_key _ 0 _ _ rfl) (ld_head _ 0 _ _ rfl) (ld_key _ 0 _ _ rfl) (ld_val _ 0 _ _ rfl) (ld_head _ 0 _ _ rfl)
  · intro x; idx_vars x; exact piece_val _ _ _ _ 0 _ rfl _ _ _ _ (dv0 _ _ _ _ _ _) (ld_val _ 0 _ _ rfl) (ld_head _ 0 _ _ rfl) (ld_key _ 0 _ _ rfl) (ld_head _ 0 _ _ rfl)
  · exact View.cover_of_tiledL _ ![256, 128] (by sl_kernel_rfl) y

set_option maxHeartbeats 2000000 in
/-- A later tile: its term is added to what the tile before left. -/
theorem dkv_B (c : Dev nD) (t : Fin cfg0.N) (h : ¬ t.val % 4 = 0) (y : S256x1024.Idx) :
    (outsAt0 m c t.val t.isLt).2 y = stepDkv (iblk m c 0 t) (iblk m c 1 t) (iblk m c 2 t) (outsAt0 m c (t.val - 1) (Nat.lt_of_le_of_lt (Nat.sub_le _ _) t.isLt)).2 y := by
  rw [Gen.outsAt0_B m c t h]
  frame_open
  simp (disch := decide) only [↓ View.readCov_skip, ↓ View.readCov_cons_toLoadRect, ↓ View.readCov_fill]
  frame_out
  refine View.canon_append_of_piecesOf _ [] [_, _, _, _, _, _, _, _] ⟨?_, ?_, ?_, ?_, ?_, ?_, ?_, ?_, trivial⟩ y ?_
  · intro x; idx_vars x; exact piece_key _ _ _ _ 3 _ rfl _ _ _ _ (dk3 _ _ _ _ _ _ _) (ld_key _ 3 _ _ rfl) (ld_head _ 3 _ _ rfl) (ld_key _ 3 _ _ rfl) (ld_val _ 3 _ _ rfl) (ld_head _ 3 _ _ rfl)
  · intro x; idx_vars x; exact piece_val _ _ _ _ 3 _ rfl _ _ _ _ (dv3 _ _ _ _ _ _) (ld_val _ 3 _ _ rfl) (ld_head _ 3 _ _ rfl) (ld_key _ 3 _ _ rfl) (ld_head _ 3 _ _ rfl)
  · intro x; idx_vars x; exact piece_key _ _ _ _ 2 _ rfl _ _ _ _ (dk2 _ _ _ _ _ _ _) (ld_key _ 2 _ _ rfl) (ld_head _ 2 _ _ rfl) (ld_key _ 2 _ _ rfl) (ld_val _ 2 _ _ rfl) (ld_head _ 2 _ _ rfl)
  · intro x; idx_vars x; exact piece_val _ _ _ _ 2 _ rfl _ _ _ _ (dv2 _ _ _ _ _ _) (ld_val _ 2 _ _ rfl) (ld_head _ 2 _ _ rfl) (ld_key _ 2 _ _ rfl) (ld_head _ 2 _ _ rfl)
  · intro x; idx_vars x; exact piece_key _ _ _ _ 1 _ rfl _ _ _ _ (dk1 _ _ _ _ _ _ _) (ld_key _ 1 _ _ rfl) (ld_head _ 1 _ _ rfl) (ld_key _ 1 _ _ rfl) (ld_val _ 1 _ _ rfl) (ld_head _ 1 _ _ rfl)
  · intro x; idx_vars x; exact piece_val _ _ _ _ 1 _ rfl _ _ _ _ (dv1 _ _ _ _ _ _) (ld_val _ 1 _ _ rfl) (ld_head _ 1 _ _ rfl) (ld_key _ 1 _ _ rfl) (ld_head _ 1 _ _ rfl)
  · intro x; idx_vars x; exact piece_key _ _ _ _ 0 _ rfl _ _ _ _ (dk0 _ _ _ _ _ _ _) (ld_key _ 0 _ _ rfl) (ld_head _ 0 _ _ rfl) (ld_key _ 0 _ _ rfl) (ld_val _ 0 _ _ rfl) (ld_head _ 0 _ _ rfl)
  · intro x; idx_vars x; exact piece_val _ _ _ _ 0 _ rfl _ _ _ _ (dv0 _ _ _ _ _ _) (ld_val _ 0 _ _ rfl) (ld_head _ 0 _ _ rfl) (ld_key _ 0 _ _ rfl) (ld_head _ 0 _ _ rfl)
  · exact View.cover_of_tiledL _ ![256, 128] (by sl_kernel_rfl) y

set_option maxHeartbeats 2000000 in
/-- The queries' gradient of a batch's first tile. -/
theorem dq_A (c : Dev nD) (t : Fin cfg0.N) (h : t.val % 4 = 0) (y : S512x512.Idx) :
    (outsAt0 m c t.val t.isLt).1 y = tileDqVec (iblk m c 0 t) (iblk m c 1 t) (iblk m c 2 t) y := by
  rw [Gen.outsAt0_A m c t h]
  frame_open
  simp (disch := decide) only [↓ View.readCov_skip, ↓ View.readCov_cons_toLoadRect, ↓ View.readCov_fill]
  frame_out
  refine View.canon_append_of_piecesOf _ [] [_, _, _, _] ⟨?_, ?_, ?_, ?_, trivial⟩ y ?_
  · intro x; idx_vars x; exact piece_dq _ _ _ 3 _ rfl _ _ _ _ (dq3 _ _ _ _ _ _) (ld_head _ 3 _ _ rfl) (ld_key _ 3 _ _ rfl) (ld_val _ 3 _ _ rfl) (ld_head _ 3 _ _ rfl)
  · intro x; idx_vars x; exact piece_dq _ _ _ 2 _ rfl _ _ _ _ (dq2 _ _ _ _ _ _) (ld_head _ 2 _ _ rfl) (ld_key _ 2 _ _ rfl) (ld_val _ 2 _ _ rfl) (ld_head _ 2 _ _ rfl)
  · intro x; idx_vars x; exact piece_dq _ _ _ 1 _ rfl _ _ _ _ (dq1 _ _ _ _ _ _) (ld_head _ 1 _ _ rfl) (ld_key _ 1 _ _ rfl) (ld_val _ 1 _ _ rfl) (ld_head _ 1 _ _ rfl)
  · intro x; idx_vars x; exact piece_dq _ _ _ 0 _ rfl _ _ _ _ (dq0 _ _ _ _ _ _) (ld_head _ 0 _ _ rfl) (ld_key _ 0 _ _ rfl) (ld_val _ 0 _ _ rfl) (ld_head _ 0 _ _ rfl)
  · exact View.cover_of_tiledL _ ![512, 128] (by sl_kernel_rfl) y

set_option maxHeartbeats 2000000 in
/-- The queries' gradient of a later tile. -/
theorem dq_B (c : Dev nD) (t : Fin cfg0.N) (h : ¬ t.val % 4 = 0) (y : S512x512.Idx) :
    (outsAt0 m c t.val t.isLt).1 y = tileDqVec (iblk m c 0 t) (iblk m c 1 t) (iblk m c 2 t) y := by
  rw [Gen.outsAt0_B m c t h]
  frame_open
  simp (disch := decide) only [↓ View.readCov_skip, ↓ View.readCov_cons_toLoadRect, ↓ View.readCov_fill]
  frame_out
  refine View.canon_append_of_piecesOf _ [] [_, _, _, _] ⟨?_, ?_, ?_, ?_, trivial⟩ y ?_
  · intro x; idx_vars x; exact piece_dq _ _ _ 3 _ rfl _ _ _ _ (dq3 _ _ _ _ _ _) (ld_head _ 3 _ _ rfl) (ld_key _ 3 _ _ rfl) (ld_val _ 3 _ _ rfl) (ld_head _ 3 _ _ rfl)
  · intro x; idx_vars x; exact piece_dq _ _ _ 2 _ rfl _ _ _ _ (dq2 _ _ _ _ _ _) (ld_head _ 2 _ _ rfl) (ld_key _ 2 _ _ rfl) (ld_val _ 2 _ _ rfl) (ld_head _ 2 _ _ rfl)
  · intro x; idx_vars x; exact piece_dq _ _ _ 1 _ rfl _ _ _ _ (dq1 _ _ _ _ _ _) (ld_head _ 1 _ _ rfl) (ld_key _ 1 _ _ rfl) (ld_val _ 1 _ _ rfl) (ld_head _ 1 _ _ rfl)
  · intro x; idx_vars x; exact piece_dq _ _ _ 0 _ rfl _ _ _ _ (dq0 _ _ _ _ _ _) (ld_head _ 0 _ _ rfl) (ld_key _ 0 _ _ rfl) (ld_val _ 0 _ _ rfl) (ld_head _ 0 _ _ rfl)
  · exact View.cover_of_tiledL _ ![512, 128] (by sl_kernel_rfl) y

end Cert.Mem
-- ==== Proof.Mem.Whole.lean ====
/- The kernel's two result arrays, entry by entry, as the row mathematics over the argument arrays: every tile of the queries'
   gradient, and the gradient of keys and values summed over the four tiles of each batch. -/
module

public import proofs.«01_k».proof.Proof.Mem.Outs

@[expose] public section

set_option maxRecDepth 16384

noncomputable section

namespace Cert.Mem

open Idealize.ShloMosaic Idealize.ShloMosaic.TcCoe
open Cert.KernelIdeal Cert.KernelIdeal.Gen

/-! ## The results as functions of the arrays -/

/-- Memory query of head `h` in row `R`: columns 1024 to 1535 of the projection. -/
def qRow (X : S4096x4608.Idx → EReal) (R : Fin 4096) (h : Fin 4) (d : Fin 128) : EReal :=
  X (ix2 R (⟨1024 + 128 * h.val + d.val, by omega⟩ : Fin 4608))
/-- Cotangent of head `h` in row `R`. -/
def oRow (O : S4096x512.Idx → EReal) (R : Fin 4096) (h : Fin 4) (d : Fin 128) : EReal :=
  O (ix2 R (⟨128 * h.val + d.val, by omega⟩ : Fin 512))
/-- Keys of head `h` in batch `b`. -/
def kRows (K : S512x1024.Idx → EReal) (b : Fin 2) (h : Fin 4) (j : Fin 256) (d : Fin 128) : EReal :=
  K (ix2 (⟨256 * b.val + j.val, by omega⟩ : Fin 512) (⟨128 * h.val + d.val, by omega⟩ : Fin 1024))
/-- Values of head `h` in batch `b`. -/
def vRows (K : S512x1024.Idx → EReal) (b : Fin 2) (h : Fin 4) (j : Fin 256) (d : Fin 128) : EReal :=
  K (ix2 (⟨256 * b.val + j.val, by omega⟩ : Fin 512) (⟨512 + 128 * h.val + d.val, by omega⟩ : Fin 1024))

/-- The batch of row `R`. -/
abbrev bat (R : Fin 4096) : Fin 2 := ⟨R.val / 2048, by omega⟩
/-- Row `r` of batch `b`. -/
abbrev batRow (b : Fin 2) (r : Fin 2048) : Fin 4096 := ⟨2048 * b.val + r.val, by omega⟩

variable (X : S4096x4608.Idx → EReal) (K : S512x1024.Idx → EReal) (O : S4096x512.Idx → EReal)

/-- The scores' gradient of head `h` in row `R` of batch `b`. -/
def ds (b : Fin 2) (h : Fin 4) (R : Fin 4096) : Fin 256 → EReal := dscore (qRow X R h) (kRows K b h) (oRow O R h) (vRows K b h)

/-- The queries' gradient. -/
def gDq (y : S4096x512.Idx) : EReal :=
  ∑ j : Fin 256, ds X K O (bat (y 0)) (hd (y 1).val) (y 0) j * kRows K (bat (y 0)) (hd (y 1).val) j (pl (y 1).val)

/-- The gradient of keys (columns below 512) and values, at memory token `j` of batch `b`, from one row. -/
def rowTerm (b : Fin 2) (j : Fin 256) (n : ℕ) (r : Fin 2048) : EReal :=
  if n < 512 then ds X K O b (hd n) (batRow b r) j * qRow X (batRow b r) (hd n) (pl n)
  else prob (score (qRow X (batRow b r) (hd n)) (kRows K b (hd n))) j * oRow O (batRow b r) (hd n) (pl n)

/-- The gradient of keys and values. -/
def gDkv (y : S512x1024.Idx) : EReal :=
  ∑ r : Fin 2048, rowTerm X K O ⟨(y 0).val / 256, by have := (y 0).isLt; dsimp at this; omega⟩ ⟨(y 0).val % 256, by omega⟩ (y 1).val r

/-! ## The blocks read at their places -/

theorem idx : ∀ t : Fin cfg0.N, win0_0.index t = ![t.val, 2] ∧ win0_1.index t = ![t.val / 4, 0] ∧ win0_2.index t = ![t.val, 0]
    ∧ win0_3.index t = ![t.val, 0] ∧ win0_4.index t = ![t.val / 4, 0] :=
  (by decide +kernel : ∀ t : Fin grid0.N, _)

theorem lt8 (t : Fin cfg0.N) : t.val < 8 := Nat.lt_of_lt_of_eq t.isLt N_0

variable (m : (ℓ : Loc nD τ sig) → Buf (Elt Ideal) ℓ) (c : Dev nD) (t : Fin cfg0.N)

/-- The projection as launched. -/
abbrev AX : S4096x4608.Idx → EReal := m ((c.tc : Thread nD τ).loc main_arg0)
/-- The memory keys and values as launched. -/
abbrev AK : S512x1024.Idx → EReal := m ((c.tc : Thread nD τ).loc main_arg1)
/-- The cotangent as launched. -/
abbrev AO : S4096x512.Idx → EReal := m ((c.tc : Thread nD τ).loc main_arg2)

theorem row_q (h : Fin 4) (r : Fin 512) : row (headOf (iblk m c 0 t) h) r
    = qRow (AX m c) ⟨512 * t.val + r.val, by have := lt8 t; omega⟩ h := by
  funext d
  have := lt8 t
  show iblk m c 0 t (ix2 r (⟨128 * h.val + d.val, _⟩ : Fin 512)) = m ((c.tc : Thread nD τ).loc main_arg0) (ix2 _ _)
  blk_ext [iblk, V, idx t]

theorem row_o (h : Fin 4) (r : Fin 512) : row (headOf (iblk m c 2 t) h) r
    = oRow (AO m c) ⟨512 * t.val + r.val, by have := lt8 t; omega⟩ h := by
  funext d
  have := lt8 t
  show iblk m c 2 t (ix2 r (⟨128 * h.val + d.val, _⟩ : Fin 512)) = m ((c.tc : Thread nD τ).loc main_arg2) (ix2 _ _)
  blk_ext [iblk, V, idx t]

theorem rows_k (h : Fin 4) : row (keyOf (iblk m c 1 t) h) = kRows (AK m c) ⟨t.val / 4, by have := lt8 t; omega⟩ h := by
  funext j d
  have := lt8 t
  show iblk m c 1 t (ix2 j (⟨128 * h.val + d.val, _⟩ : Fin 1024)) = m ((c.tc : Thread nD τ).loc main_arg1) (ix2 _ _)
  blk_ext [iblk, V, idx t]

theorem rows_v (h : Fin 4) : row (valOf (iblk m c 1 t) h) = vRows (AK m c) ⟨t.val / 4, by have := lt8 t; omega⟩ h := by
  funext j d
  have := lt8 t
  show iblk m c 1 t (ix2 j (⟨512 + 128 * h.val + d.val, _⟩ : Fin 1024)) = m ((c.tc : Thread nD τ).loc main_arg1) (ix2 _ _)
  blk_ext [iblk, V, idx t]

/-! ## The result arrays -/

theorem tile_dq (r : Fin 512) (n : ℕ) : tileDq (iblk m c 0 t) (iblk m c 1 t) (iblk m c 2 t) r n
    = ∑ j : Fin 256, ds (AX m c) (AK m c) (AO m c) ⟨t.val / 4, by have := lt8 t; omega⟩ (hd n) ⟨512 * t.val + r.val, by have := lt8 t; omega⟩ j
      * kRows (AK m c) ⟨t.val / 4, by have := lt8 t; omega⟩ (hd n) j (pl n) := by
  simp only [tileDq, dqHead, row_q, row_o, rows_k, rows_v, ds]
  refine Finset.sum_congr rfl fun j _ => ?_
  congr 1
  exact congrFun (congrFun (rows_k m c t (hd n)) j) (pl n)

theorem tile_dkv (j : Fin 256) (n : ℕ) : tileTerm (iblk m c 0 t) (iblk m c 1 t) (iblk m c 2 t) j n
    = ∑ r : Fin 512, rowTerm (AX m c) (AK m c) (AO m c) ⟨t.val / 4, by have := lt8 t; omega⟩ j n ⟨t.val % 4 * 512 + r.val, by omega⟩ := by
  have e : ∀ r : Fin 512, (⟨512 * t.val + r.val, by have := lt8 t; omega⟩ : Fin 4096)
      = batRow ⟨t.val / 4, by have := lt8 t; omega⟩ ⟨t.val % 4 * 512 + r.val, by omega⟩ := fun r => Fin.ext (by dsimp; omega)
  unfold tileTerm rowTerm
  split
  · simp only [dkHead, row_q, row_o, rows_k, rows_v, ds, e]
    refine Finset.sum_congr rfl fun r _ => ?_
    congr 1
    exact (congrFun (row_q m c t (hd n) r) (pl n)).trans (by rw [e])
  · simp only [dvHead, row_q, rows_k, e]
    refine Finset.sum_congr rfl fun r _ => ?_
    congr 1
    exact (congrFun (row_o m c t (hd n) r) (pl n)).trans (by rw [e])

/-- The queries' gradient, as the kernel leaves it. -/
theorem kernel_dq : (dats m 0 c).arrAt 3 cfg0.N = gDq (AX m c) (AK m c) (AO m c) := by
  refine (dats m 0 c).arrAt_eq_of_covers 3 _ (by decide +kernel) fun t hf y => ?_
  blk_simp [idx t]
  rw [after0_3]
  idx_vars y
  have e : ((View.whole main_v0_0).slice (win0_3.rect t)).emb (ix2 y0 y1) = ix2 (⟨512 * t.val + y0.val, by have := lt8 t; omega⟩ : Fin 4096) y1 := by
    blk_ext [idx t]
  have h : (outsAt0 m c t.val t.isLt).1 (ix2 y0 y1) = tileDqVec (iblk m c 0 t) (iblk m c 1 t) (iblk m c 2 t) (ix2 y0 y1) := by
    by_cases h : t.val % 4 = 0
    · exact dq_A m c t h _
    · exact dq_B m c t h _
  rw [e, h]
  refine (tile_dq m c t y0 y1.val).trans ?_
  have hb : (⟨t.val / 4, by have := lt8 t; omega⟩ : Fin 2) = bat ⟨512 * t.val + y0.val, by have := lt8 t; omega⟩ :=
    Fin.ext (by dsimp; omega)
  rw [hb]
  rfl

/-- The gradient of keys and values, as the kernel leaves it. -/
theorem kernel_dkv : (dats m 0 c).arrAt 4 cfg0.N = gDkv (AX m c) (AK m c) (AO m c) := by
  refine (dats m 0 c).arrAt_eq_of_covers 4 _ (by decide +kernel) fun t hf y => ?_
  blk_simp [idx t]
  rw [after0_4]
  idx_vars y
  have h3 := (flush0_4 t).mp hf
  have ht := lt8 t
  have e : ((View.whole main_v0_1).slice (win0_4.rect t)).emb (ix2 y0 y1) = ix2 (⟨256 * (t.val / 4) + y0.val, by omega⟩ : Fin 512) y1 := by
    blk_ext [idx t]
  rw [e]
  refine (Pipeline.eq_sum_fin_of_reset_step_apply_of_flush (fun n h => (outsAt0 m c n h).2) 4 (k0_pay1 (F := Ideal))
    (fun t y => tileTerm (iblk m c 0 t) (iblk m c 1 t) (iblk m c 2 t) (y 0) (y 1).val)
    (fun t h y => dkv_A m c t h y) (fun t h y => dkv_B m c t h y) t h3 (ix2 y0 y1)).trans ?_
  have h0 : k0_pay1 (F := Ideal) (ix2 y0 y1) = 0 := by pointwise [k0_pay1]
  rw [h0, zero_add]
  refine (Fin.sum_fin_congr fun s => tile_dkv m c _ y0 y1.val).trans ?_
  refine Fin.sum_mul_add_congr fun s k hl => ?_
  show rowTerm _ _ _ ⟨(4 * (t.val / 4) + s.val) / 4, _⟩ _ _ ⟨(4 * (t.val / 4) + s.val) % 4 * 512 + k.val, _⟩
    = rowTerm _ _ _ ⟨(256 * (t.val / 4) + y0.val) / 256, _⟩ ⟨(256 * (t.val / 4) + y0.val) % 256, _⟩ _ _
  congr 1
  · exact Fin.ext (by dsimp; omega)
  · exact Fin.ext (by dsimp; omega)
  · exact Fin.ext (by dsimp; omega)

end Cert.Mem
-- ==== Proof.Mem.Ref.lean ====
/- The reference, entry by entry: its stages read at an index as the row mathematics over the argument arrays. -/
module

public import proofs.«01_k».proof.Proof.Mem.Rows
public import proofs.«01_k».proof.Proof.Gen.ReferenceIdeal.Read
public import Idealize.ShloMosaic.Lib.Pipeline.ValueKit

@[expose] public section

set_option maxRecDepth 16384

noncomputable section

namespace Cert.Mem

open Idealize.ShloMosaic
open Cert.ReferenceIdeal Cert.ReferenceIdeal.Read

variable (X : Vec Ideal S4096x4608 .f32) (K : Vec Ideal S512x1024 .bf16) (O : Vec Ideal S4096x512 .bf16)
  (b : Fin 2) (h : Fin 4) (r : Fin 2048) (j : Fin 256) (d : Fin 128)

theorem ref_q : val_main_v4 (F := Ideal) X (ix4 b r h d)
    = X (ix2 (⟨b.val * 2048 + r.val, by omega⟩ : Fin 4096) (⟨1024 + (h.val * 128 + d.val), by omega⟩ : Fin 4608)) := by
  pointwise [val_main_v4, val_main_v0]

theorem ref_k : val_main_v5 (F := Ideal) K (ix4 b j h d)
    = K (ix2 (⟨b.val * 256 + j.val, by omega⟩ : Fin 512) (⟨h.val * 128 + d.val, by omega⟩ : Fin 1024)) := by
  pointwise [val_main_v5, val_main_v2, val_main_v1]

theorem ref_v : val_main_v6 (F := Ideal) K (ix4 b j h d)
    = K (ix2 (⟨b.val * 256 + j.val, by omega⟩ : Fin 512) (⟨512 + (h.val * 128 + d.val), by omega⟩ : Fin 1024)) := by
  pointwise [val_main_v6, val_main_v3, val_main_v1]

theorem ref_o : val_main_v43 (F := Ideal) O (ix4 b h d r)
    = O (ix2 (⟨b.val * 2048 + r.val, by omega⟩ : Fin 4096) (⟨h.val * 128 + d.val, by omega⟩ : Fin 512)) := by
  pointwise [val_main_v43, val_main_v42, val_main_v41]

/-- The scores. -/
theorem ref_score : val_main_v9 (F := Ideal) X K (ix4 b h r j)
    = score (fun d => val_main_v4 (F := Ideal) X (ix4 b r h d)) (fun j d => val_main_v5 (F := Ideal) K (ix4 b j h d)) j := by
  pointwise [val_main_v9, val_main_v8, val_main_v7, val_main_cst]; rfl

/-- The scores of one row. -/
abbrev S_ (j : Fin 256) : EReal := val_main_v9 (F := Ideal) X K (ix4 b h r j)

theorem ref_peak : val_main_v10 (F := Ideal) X K (ix3 b h r) = peak (S_ X K b h r) := by
  pointwise [val_main_v10, val_main_cst_0]; rfl

theorem ref_floor : val_main_v16 (F := Ideal) (ix3 b h r) = Ideal.ofBits .f32 0xFF800000#32 := by
  pointwise [val_main_v16, val_main_cst_2]

theorem ref_top : val_main_v17 (F := Ideal) X K (ix3 b h r) = max (Ideal.ofBits .f32 0xFF800000#32) (peak (S_ X K b h r)) := by
  rw [val_main_v17_apply, ref_floor, ref_peak]; rfl

theorem ref_weight : val_main_v30 (F := Ideal) X K (ix4 b h r j)
    = Ideal.exp (S_ X K b h r j - val_main_v17 (F := Ideal) X K (ix3 b h r)) := by
  have e : val_main_v28 (F := Ideal) X K (ix4 b h r j) = val_main_v17 (F := Ideal) X K (ix3 b h r) := by
    pointwise [val_main_v28, val_main_v27]
  rw [val_main_v30_apply, val_main_v29_apply, e]; rfl

/-- The softmax's numerators of one row. -/
abbrev E_ (j : Fin 256) : EReal := val_main_v30 (F := Ideal) X K (ix4 b h r j)

/-- The softmax's denominator of one row. -/
theorem ref_total : val_main_v32 (F := Ideal) X K (ix4 b h r (0 : Fin 1)) = ∑ j, E_ X K b h r j := by
  pointwise [val_main_v32, val_main_v31, val_main_cst_8]

theorem ref_prob : val_main_v34 (F := Ideal) X K (ix4 b h r j) = Ideal.div (E_ X K b h r j) (∑ i, E_ X K b h r i) := by
  pointwise [val_main_v34, val_main_v33, val_main_v32, val_main_v31, val_main_cst_8]

/-- The gradient of the softmax. -/
theorem ref_dp : val_main_v44 (F := Ideal) K O (ix4 b h r j)
    = ∑ d, val_main_v43 (F := Ideal) O (ix4 b h d r) * val_main_v6 (F := Ideal) K (ix4 b j h d) := by
  pointwise [val_main_v44]

/-- The gradient of the softmax, one row. -/
abbrev G_ (j : Fin 256) : EReal := val_main_v44 (F := Ideal) K O (ix4 b h r j)

/-- The gradient of the scores as the reference forms it: through the quotient, numerator and denominator apart. -/
theorem ref_ds : val_main_v60 (F := Ideal) X K O (ix4 b h r j)
    = (Ideal.div (G_ K O b h r j) (∑ i, E_ X K b h r i)
        + -(∑ i, G_ K O b h r i * Ideal.div 1 ((∑ i, E_ X K b h r i) * (∑ i, E_ X K b h r i)) * E_ X K b h r i))
      * E_ X K b h r j * scale := by
  pointwise [val_main_v60, val_main_v59, val_main_v58, val_main_v57, val_main_v56, val_main_v55, val_main_v54, val_main_v53,
    val_main_v52, val_main_v51, val_main_v50, val_main_v49, val_main_v48, val_main_v47, val_main_v37, val_main_v36, val_main_v35,
    val_main_v32, val_main_v31, val_main_cst_8, val_main_cst_9, val_main_cst_10, val_main_cst_11, val_main_cst_12]
  rw [Fin.sum_univ_one]
  rfl

/-! ## The results -/

theorem ref_dq (n : Fin 512) (R : Fin 4096) : val_main_v69 (F := Ideal) X K O (ix2 R n)
    = ∑ j : Fin 256, val_main_v60 (F := Ideal) X K O
          (ix4 (⟨R.val / 2048, by omega⟩ : Fin 2) (⟨n.val / 128, by omega⟩ : Fin 4) (⟨R.val % 2048, by omega⟩ : Fin 2048) j)
        * val_main_v5 (F := Ideal) K
          (ix4 (⟨R.val / 2048, by omega⟩ : Fin 2) j (⟨n.val / 128, by omega⟩ : Fin 4) (⟨n.val % 128, by omega⟩ : Fin 128)) := by
  pointwise [val_main_v69, val_main_v67, val_main_v64, val_main_v63]

theorem ref_dk (n : Fin 1024) (R : Fin 512) (hn : n.val < 512) : val_main_v68 (F := Ideal) X K O (ix2 R n)
    = ∑ r : Fin 2048, val_main_v60 (F := Ideal) X K O
          (ix4 (⟨R.val / 256, by omega⟩ : Fin 2) (⟨n.val / 128, by omega⟩ : Fin 4) r (⟨R.val % 256, by omega⟩ : Fin 256))
        * val_main_v4 (F := Ideal) X
          (ix4 (⟨R.val / 256, by omega⟩ : Fin 2) r (⟨n.val / 128, by omega⟩ : Fin 4) (⟨n.val % 128, by omega⟩ : Fin 128)) := by
  pointwise [val_main_v68, val_main_v66, val_main_v65, val_main_v62, val_main_v61, val_main_v46, val_main_v45]
  rw [dif_pos hn]

theorem ref_dv (n : Fin 1024) (R : Fin 512) (hn : ¬ n.val < 512) : val_main_v68 (F := Ideal) X K O (ix2 R n)
    = ∑ r : Fin 2048, val_main_v43 (F := Ideal) O
          (ix4 (⟨R.val / 256, by omega⟩ : Fin 2) (⟨(n.val - 512) / 128, by omega⟩ : Fin 4) (⟨(n.val - 512) % 128, by omega⟩ : Fin 128) r)
        * val_main_v34 (F := Ideal) X K
          (ix4 (⟨R.val / 256, by omega⟩ : Fin 2) (⟨(n.val - 512) / 128, by omega⟩ : Fin 4) r (⟨R.val % 256, by omega⟩ : Fin 256)) := by
  pointwise [val_main_v68, val_main_v66, val_main_v65, val_main_v62, val_main_v61, val_main_v46, val_main_v45]
  rw [dif_neg hn]

end Cert.Mem
-- ==== Proof.Mem.RowsEq.lean ====
/- The two forms of the softmax's gradient agree: the kernel's `p * (g - Σ g p)`, and the reference's gradient through numerator
   and denominator of the quotient. The scores have to be real numbers, so that the denominator is a positive real; the
   gradient `g` may be any extended real. -/
module

public import proofs.«01_k».proof.Proof.Mem.Rows

@[expose] public section

noncomputable section

namespace Cert.Mem

open Idealize.ShloMosaic

/-! ## The two constants -/

theorem floor_eq : Ideal.ofBits .f32 0xFF800000#32 = ⊥ := by
  simp [Ideal.ofBits, Ideal.ieee]

theorem ceil_eq : Ideal.ofBits .f32 0x7F800000#32 = ⊤ := by
  simp [Ideal.ofBits, Ideal.ieee]

theorem scale_real : ∃ a : ℝ, scale = (a : EReal) := by
  simp [scale, Ideal.ofBits, Ideal.ieee]
  exact ⟨_, (EReal.coe_mul _ _).symm⟩

/-! ## Sums with a common nonnegative real factor -/

theorem sum_mul_real {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.2 ha) (EReal.coe_ne_top a)]

/-! ## The softmax of real scores -/

theorem max_floor (s : Fin 256 → EReal) : max (Ideal.ofBits .f32 0xFF800000#32) (peak s) = peak s := by
  rw [floor_eq, max_eq_right bot_le]

theorem peak_real (s : Fin 256 → EReal) (hs : ∀ j, ∃ a : ℝ, s j = (a : EReal)) : ∃ a : ℝ, peak s = (a : EReal) := by
  have h1 : peak s ≠ ⊤ := by
    refine ne_of_lt ((Finset.fold_max_lt _).2 ⟨by rw [floor_eq]; exact bot_lt_top, fun j _ => ?_⟩)
    obtain ⟨a, e⟩ := hs j
    rw [e]; exact EReal.coe_lt_top a
  have h2 : peak s ≠ ⊥ := by
    obtain ⟨a, e⟩ := hs 0
    refine ne_of_gt (lt_of_lt_of_le (EReal.bot_lt_coe a) ?_)
    exact (Finset.le_fold_max _).2 (.inr ⟨0, Finset.mem_univ _, e ▸ le_refl _⟩)
  exact ⟨(peak s).toReal, (EReal.coe_toReal h1 h2).symm⟩

theorem weight_real (s : Fin 256 → EReal) (hs : ∀ j, ∃ a : ℝ, s j = (a : EReal)) (j : Fin 256) :
    ∃ a : ℝ, 0 < a ∧ weight s j = (a : EReal) := by
  obtain ⟨M, hM⟩ := peak_real s hs
  obtain ⟨a, ha⟩ := hs j
  refine ⟨Real.exp (a - M), Real.exp_pos _, ?_⟩
  rw [weight, hM, ha, ← EReal.coe_sub]
  rfl

theorem total_real (s : Fin 256 → EReal) (hs : ∀ j, ∃ a : ℝ, s j = (a : EReal)) :
    ∃ a : ℝ, 0 < a ∧ ∑ i, weight s i = (a : EReal) := by
  choose w hw he using weight_real s hs
  refine ⟨∑ i, w i, Finset.sum_pos (fun i _ => hw i) ⟨0, Finset.mem_univ _⟩, ?_⟩
  simp only [he]
  exact (map_sum (⟨⟨Real.toEReal, EReal.coe_zero⟩, EReal.coe_add⟩ : ℝ →+ EReal) w Finset.univ).symm

/-- The gradient through the quotient's numerator and denominator is the softmax's gradient. -/
theorem quotient_pull (s g : Fin 256 → EReal) (hs : ∀ j, ∃ a : ℝ, s j = (a : EReal)) (j : Fin 256) :
    (Ideal.div (g j) (∑ i, weight s i)
        + -(∑ i, g i * Ideal.div 1 ((∑ i, weight s i) * (∑ i, weight s i)) * weight s i)) * weight s j * scale
      = pull s g j := by
  obtain ⟨z, hz, hZ⟩ := total_real s hs
  choose w hw he using weight_real s hs
  have hz' : z ≠ 0 := ne_of_gt hz
  have hp : ∀ i, prob s i = ((w i * (1 / z) : ℝ) : EReal) := fun i => by
    rw [prob, hZ, he, Ideal.div_coe hz', ← EReal.coe_mul]
  have hB : ∑ i, g i * Ideal.div 1 ((∑ i, weight s i) * (∑ i, weight s i)) * weight s i
      = (∑ i, g i * prob s i) * ((1 / z : ℝ) : EReal) := by
    rw [← sum_mul_real _ _ _ (by positivity)]
    refine Finset.sum_congr rfl fun i _ => ?_
    rw [hZ, ← EReal.coe_mul, Ideal.div_coe (mul_ne_zero hz' hz'), one_mul, he, hp, mul_assoc, mul_assoc,
      ← EReal.coe_mul, ← EReal.coe_mul]
    congr 2
    field_simp
  rw [hB, pull, hZ, Ideal.div_coe hz', ← EReal.neg_mul,
    ← EReal.right_distrib_of_nonneg_of_ne_top (by exact EReal.coe_nonneg.2 (by positivity)) (EReal.coe_ne_top _), he, hp,
    ← sub_eq_add_neg]
  congr 1
  rw [mul_assoc, ← EReal.coe_mul, mul_comm, mul_comm (1 / z)]

theorem real_sum {ι : Type} (s : Finset ι) (f : ι → EReal) (hf : ∀ i, ∃ a : ℝ, f i = (a : EReal)) :
    ∃ a : ℝ, ∑ i ∈ s, f i = (a : EReal) := by
  choose w he using hf
  refine ⟨∑ i ∈ s, w i, ?_⟩
  simp only [he]
  exact (map_sum (⟨⟨Real.toEReal, EReal.coe_zero⟩, EReal.coe_add⟩ : ℝ →+ EReal) w s).symm

/-- Real queries and keys have real scores. -/
theorem score_real (q : Fin 128 → EReal) (k : Fin 256 → Fin 128 → EReal) (hq : ∀ d, ∃ a : ℝ, q d = (a : EReal))
    (hk : ∀ j d, ∃ a : ℝ, k j d = (a : EReal)) (j : Fin 256) : ∃ a : ℝ, score q k j = (a : EReal) := by
  obtain ⟨c, hc⟩ := scale_real
  obtain ⟨a, ha⟩ := real_sum Finset.univ (fun d => q d * k j d) fun d => by
    obtain ⟨x, hx⟩ := hq d
    obtain ⟨y, hy⟩ := hk j d
    exact ⟨x * y, by rw [hx, hy, EReal.coe_mul]⟩
  exact ⟨a * c, by rw [score, ha, hc, EReal.coe_mul]⟩

/-- An extended real whose absolute value is below `⊤` is real. -/
theorem real_of_abs {x : EReal} (h : Ideal.cmp .olt (max x (-x)) (Ideal.ofBits .f32 0x7F800000#32) = 1#1) :
    ∃ a : ℝ, x = (a : EReal) := by
  rw [ceil_eq] at h
  have h' : max x (-x) < ⊤ := by
    by_contra hn
    simp [Ideal.cmp, hn] at h
  induction x using EReal.rec with
  | bot => simp at h'
  | coe a => exact ⟨a, rfl⟩
  | top => simp at h'

end Cert.Mem
-- ==== Proof.Mem.Agree.lean ====
/- The reference's two results are the kernel's, for real queries and keys; and the precondition says that these are real. -/
module

public import proofs.«01_k».proof.Proof.Mem.Whole
public import proofs.«01_k».proof.Proof.Mem.Ref
public import proofs.«01_k».proof.Proof.Mem.RowsEq
public import proofs.«01_k».proof.Pre_scores_finite

@[expose] public section

set_option maxRecDepth 16384

noncomputable section

namespace Cert.Mem

open Idealize.ShloMosaic
open Cert.ReferenceIdeal Cert.ReferenceIdeal.Read

variable (X : Vec Ideal S4096x4608 .f32) (K : Vec Ideal S512x1024 .bf16) (O : Vec Ideal S4096x512 .bf16)
  (b : Fin 2) (h : Fin 4) (r : Fin 2048) (j : Fin 256) (d : Fin 128)

theorem v4_eq : val_main_v4 (F := Ideal) X (ix4 b r h d) = qRow X (batRow b r) h d := by
  rw [ref_q]; unfold qRow batRow; congr 2 <;> exact Fin.ext (by dsimp; omega)
theorem v5_eq : val_main_v5 (F := Ideal) K (ix4 b j h d) = kRows K b h j d := by
  rw [ref_k]; unfold kRows; congr 2 <;> exact Fin.ext (by dsimp; omega)
theorem v6_eq : val_main_v6 (F := Ideal) K (ix4 b j h d) = vRows K b h j d := by
  rw [ref_v]; unfold vRows; congr 2 <;> exact Fin.ext (by dsimp; omega)
theorem v43_eq : val_main_v43 (F := Ideal) O (ix4 b h d r) = oRow O (batRow b r) h d := by
  rw [ref_o]; unfold oRow batRow; congr 2 <;> exact Fin.ext (by dsimp; omega)

theorem scores_eq : S_ X K b h r = score (qRow X (batRow b r) h) (kRows K b h) := by
  funext j
  rw [S_, ref_score]
  simp only [v4_eq, v5_eq]

theorem weights_eq : E_ X K b h r = weight (score (qRow X (batRow b r) h) (kRows K b h)) := by
  funext j
  rw [E_, ref_weight, ref_top, max_floor, scores_eq, weight]

theorem probs_eq : val_main_v34 (F := Ideal) X K (ix4 b h r j) = prob (score (qRow X (batRow b r) h) (kRows K b h)) j := by
  rw [ref_prob, weights_eq, prob]

theorem dps_eq : G_ K O b h r = fun j => ∑ d, oRow O (batRow b r) h d * vRows K b h j d := by
  funext j
  rw [G_, ref_dp]
  simp only [v43_eq, v6_eq]

variable (hq : ∀ R h d, ∃ a : ℝ, qRow X R h d = (a : EReal)) (hk : ∀ b h j d, ∃ a : ℝ, kRows K b h j d = (a : EReal))
include hq hk

theorem ds_eq : val_main_v60 (F := Ideal) X K O (ix4 b h r j) = ds X K O b h (batRow b r) j := by
  rw [ref_ds, weights_eq, dps_eq]
  unfold ds dscore
  exact quotient_pull (score (qRow X (batRow b r) h) (kRows K b h)) (fun j => ∑ d, oRow O (batRow b r) h d * vRows K b h j d) (score_real _ _ (hq _ h) (hk b h)) j

theorem dq_eq : val_main_v69 (F := Ideal) X K O = gDq X K O := by
  funext y
  idx_vars y
  rw [ref_dq]
  simp only [ds_eq X K O _ _ _ _ hq hk, v5_eq]
  unfold gDq
  have e1 : batRow (⟨y0.val / 2048, by omega⟩ : Fin 2) (⟨y0.val % 2048, by omega⟩ : Fin 2048) = y0 := Fin.ext (by dsimp; omega)
  have e2 : (⟨y1.val / 128, by omega⟩ : Fin 4) = hd y1.val := Fin.ext (by dsimp; omega)
  rw [e1, e2]
  rfl

theorem dkv_eq : val_main_v68 (F := Ideal) X K O = gDkv X K O := by
  funext y
  idx_vars y
  unfold gDkv rowTerm
  show _ = ∑ r : Fin 2048, if y1.val < 512 then _ else _
  by_cases hn : y1.val < 512
  · rw [ref_dk X K O y1 y0 hn]
    simp only [if_pos hn, ds_eq X K O _ _ _ _ hq hk, v4_eq]
    have e2 : (⟨y1.val / 128, by omega⟩ : Fin 4) = hd y1.val := Fin.ext (by dsimp; omega)
    rw [e2]
    rfl
  · rw [ref_dv X K O y1 y0 hn]
    simp only [if_neg hn, probs_eq, v43_eq]
    have e2 : (⟨(y1.val - 512) / 128, by omega⟩ : Fin 4) = hd y1.val := Fin.ext (by dsimp; omega)
    have e3 : (⟨(y1.val - 512) % 128, by omega⟩ : Fin 128) = pl y1.val := Fin.ext (by dsimp; omega)
    rw [e2, e3]
    exact Finset.sum_congr rfl fun r _ => mul_comm _ _

omit hq hk

/-! ## The precondition -/

instance preFacts : Cert.Pre_scores_finite.Facts where
  slices_S4096x4608_S4096x512_0_1024 := by decide
  slices_S512x1024_S512x512_0_0 := by decide
  bitsLt_bf16_f32 := by decide
  bcast_S_S4096x512 := by decide
  bcast_S_S512x512 := by decide

theorem pre_q (hp : (Cert.Pre_scores_finite.fn (F := Ideal) X K O).1 = fun _ => 1#1) (R : Fin 4096) (h : Fin 4) (d : Fin 128) :
    ∃ a : ℝ, qRow X R h d = (a : EReal) := by
  refine real_of_abs ?_
  have e := congrFun hp (ix2 R (⟨128 * h.val + d.val, by omega⟩ : Fin 512))
  pointwise [Cert.Pre_scores_finite.fn] at e
  have i : (⟨1024 + (128 * h.val + d.val), by omega⟩ : Fin 4608) = ⟨1024 + 128 * h.val + d.val, by omega⟩ :=
    Fin.ext (by dsimp; omega)
  rw [i] at e
  exact e

theorem pre_k (hp : (Cert.Pre_scores_finite.fn (F := Ideal) X K O).2 = fun _ => 1#1) (b : Fin 2) (h : Fin 4) (j : Fin 256)
    (d : Fin 128) : ∃ a : ℝ, kRows K b h j d = (a : EReal) := by
  refine real_of_abs ?_
  have e := congrFun hp (ix2 (⟨256 * b.val + j.val, by omega⟩ : Fin 512) (⟨128 * h.val + d.val, by omega⟩ : Fin 512))
  pointwise [Cert.Pre_scores_finite.fn] at e
  exact e

end Cert.Mem
-- ==== Proof.Mem.Claims.lean ====
/- The claims about the gradient of the attention over the memory tokens. -/
module

public import proofs.«01_k».proof.Defs
public import proofs.«01_k».proof.Proof.Gen.Kernel.Frame
public import proofs.«01_k».proof.Proof.Mem.Agree
public import proofs.«01_k».proof.Proof.Gen.ReferenceIdeal.Run

@[expose] public section

noncomputable section

namespace Cert.Mem

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_scores_finite := fun m ρ _ => Cert.KernelIdeal.Gen.frame m ρ

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem frame_ref_pre : Cert.quiescent_ReferenceIdeal_pre_scores_finite := fun m ρ _ => frame_ref m ρ trivial

theorem preserves : Cert.preserves_Kernel_KernelIdeal := trivial

/-- Where the queries and keys are real both programs end with the two gradients of `Whole`. -/
theorem algebraic : Cert.algebraic_KernelIdeal_ReferenceIdeal_pre_scores_finite := by
  intro m g m' g' hp ha
  refine ⟨fun c => gDq (AX m c) (AK m c) (AO m c), fun c => gDkv (AX m c) (AK m c) (AO m c), ?_, ?_⟩
  · refine (θ_run _ _ _).mono (fun r h c => ?_) (Cert.KernelIdeal.Value.run_blocks m g)
    obtain ⟨h3, h4, hr⟩ := h c
    exact ⟨h3.trans (kernel_dq m c), h4.trans (kernel_dkv m c), hr⟩
  · refine (θ_run _ _ _).mono (fun r h c => ?_) (Cert.ReferenceIdeal.Value.run m' g')
    obtain ⟨h3, h4, hr⟩ := h c
    obtain ⟨p1, p2⟩ := hp c
    obtain ⟨a0, a1, a2⟩ := ha c
    have hq := fun R h d => pre_q (AX m c) (AK m c) (AO m c) p1 R h d
    have hk := fun b h j d => pre_k (AX m c) (AK m c) (AO m c) p2 b h j d
    refine ⟨h3.trans ?_, h4.trans ?_, hr⟩
    · rw [Cert.ReferenceIdeal.Read.val_main_v69_eq, a0, a1, a2]
      exact dq_eq _ _ _ hq hk
    · rw [Cert.ReferenceIdeal.Read.val_main_v68_eq, a0, a1, a2]
      exact dkv_eq _ _ _ hq hk

end Cert.Mem
-- ==== Proof.Pieces.lean ====
/- The gradient of the input projection's result, which the backward pass holds in four pieces of columns. -/
module

public import Mathlib.Data.EReal.Operations
public import Mathlib.Algebra.BigOperators.Fin

@[expose] public section

set_option maxRecDepth 16384

noncomputable section

namespace Cert.Pieces

/-- A row of the four pieces side by side. -/
def cat (a : Fin 1024 → EReal) (b : Fin 512 → EReal) (c d : Fin 1536 → EReal) (n : Fin 4608) : EReal :=
  if h : n.val < 1024 then a ⟨n.val, h⟩ else if h' : n.val - 1024 < 512 then b ⟨n.val - 1024, h'⟩
  else if h'' : n.val - 1024 - 512 < 1536 then c ⟨n.val - 1024 - 512, h''⟩ else d ⟨n.val - 1024 - 512 - 1536, by omega⟩

theorem cat_a (a b c d) (n : Fin 4608) (k : Fin 1024) (h : n.val = k.val) : cat a b c d n = a k := by
  unfold cat
  rw [dif_pos (by omega)]
  exact congrArg a (Fin.ext h)

theorem cat_b (a b c d) (n : Fin 4608) (k : Fin 512) (h : n.val = 1024 + k.val) : cat a b c d n = b k := by
  unfold cat
  rw [dif_neg (by omega), dif_pos (by omega)]
  exact congrArg b (Fin.ext (show n.val - 1024 = k.val by omega))

theorem cat_c (a b c d) (n : Fin 4608) (k : Fin 1536) (h : n.val = 1536 + k.val) : cat a b c d n = c k := by
  unfold cat
  rw [dif_neg (by omega), dif_neg (by omega), dif_pos (by omega)]
  exact congrArg c (Fin.ext (show n.val - 1024 - 512 = k.val by omega))

theorem cat_d (a b c d) (n : Fin 4608) (k : Fin 1536) (h : n.val = 3072 + k.val) : cat a b c d n = d k := by
  unfold cat
  rw [dif_neg (by omega), dif_neg (by omega), dif_neg (by omega)]
  exact congrArg d (Fin.ext (show n.val - 1024 - 512 - 1536 = k.val by omega))

/-- A sum over the whole row is the sum of the four pieces' sums. -/
theorem sum_cat_mul (a b c d) (f : Fin 4608 → EReal) : ∑ n, cat a b c d n * f n
    = ∑ k : Fin 1024, a k * f ⟨k.val, by omega⟩ + ∑ k : Fin 512, b k * f ⟨1024 + k.val, by omega⟩
      + ∑ k : Fin 1536, c k * f ⟨1536 + k.val, by omega⟩ + ∑ k : Fin 1536, d k * f ⟨3072 + k.val, by omega⟩ := by
  have h1 := Fin.sum_univ_add (a := 3072) (b := 1536) fun n : Fin (3072 + 1536) => cat a b c d n * f n
  have h2 := Fin.sum_univ_add (a := 1536) (b := 1536) fun n : Fin (1536 + 1536) => cat a b c d ⟨n.val, by omega⟩ * f ⟨n.val, by omega⟩
  have h3 := Fin.sum_univ_add (a := 1024) (b := 512) fun n : Fin (1024 + 512) => cat a b c d ⟨n.val, by omega⟩ * f ⟨n.val, by omega⟩
  refine h1.trans (congrArg₂ _ (h2.trans (congrArg₂ _ (h3.trans (congrArg₂ _ ?_ ?_)) ?_)) ?_)
  · exact Finset.sum_congr rfl fun k _ => congrArg (· * f _) (cat_a a b c d ⟨k.val, by omega⟩ k rfl)
  · exact Finset.sum_congr rfl fun k _ => congrArg (· * f _) (cat_b a b c d ⟨1024 + k.val, by omega⟩ k rfl)
  · exact Finset.sum_congr rfl fun k _ => congrArg (· * f _) (cat_c a b c d ⟨1536 + k.val, by omega⟩ k rfl)
  · exact Finset.sum_congr rfl fun k _ => congrArg (· * f _) (cat_d a b c d ⟨3072 + k.val, by omega⟩ k rfl)

end Cert.Pieces
-- ==== Proof.NormEq.lean ====
/- The gradient of a root-mean-square normalisation of one row, in its two printed forms. -/
module

public import Idealize.ShloMosaic.PureOps.Ideal
public import proofs.«01_k».proof.Proof.Mem.RowsEq

@[expose] public section

noncomputable section

namespace Cert.Norm

open Idealize.ShloMosaic

variable {ι : Type} [Fintype ι]

/-- The mean square of a row, with the small constant added. -/
def mean (c e : EReal) (x : ι → EReal) : EReal := Ideal.div (∑ k, x k * x k) c + e

/-- The row's reciprocal root mean square. -/
def rms (c e : EReal) (x : ι → EReal) : EReal := Ideal.rsqrt (mean c e x)

theorem sq_nonneg (x : EReal) : 0 ≤ x * x := by
  rcases le_total 0 x with h | h
  · exact mul_nonneg h h
  · have := mul_nonneg (EReal.neg_nonneg.mpr h) (EReal.neg_nonneg.mpr h)
    simpa using this

theorem div_real (x : EReal) (γ : ℝ) (hγ : 0 < γ) : Ideal.div x (γ : EReal) = x * ((γ⁻¹ : ℝ) : EReal) := by
  rw [Ideal.div, if_neg (by exact_mod_cast hγ.ne'), EReal.coe_inv]

/-- The mean square is positive: infinite, or a positive real. -/
theorem mean_cases (c e : EReal) (γ ε : ℝ) (hγ : 0 < γ) (hε : 0 < ε) (hc : c = (γ : EReal)) (he : e = (ε : EReal)) (x : ι → EReal) :
    mean c e x = ⊤ ∨ ∃ ν : ℝ, 0 < ν ∧ mean c e x = (ν : EReal) := by
  have hs : 0 ≤ ∑ k, x k * x k := Finset.sum_nonneg fun k _ => sq_nonneg (x k)
  have hd : 0 ≤ Ideal.div (∑ k, x k * x k) c := by
    rw [hc, div_real _ _ hγ]
    exact mul_nonneg hs (by exact_mod_cast (inv_pos.mpr hγ).le)
  have hp : 0 < mean c e x := by
    unfold mean
    rw [he]
    exact lt_of_lt_of_le (by exact_mod_cast hε) (le_add_of_nonneg_left hd)
  generalize mean c e x = v at hp
  induction v with
  | bot => exact absurd hp (by simp)
  | top => exact Or.inl rfl
  | coe ν => exact Or.inr ⟨ν, by exact_mod_cast hp, rfl⟩

theorem rsqrt_real (ν : ℝ) (h : 0 < ν) : Ideal.rsqrt (ν : EReal) = (((Real.sqrt ν)⁻¹ : ℝ) : EReal) := by
  show (if ν < 0 then ⊥ else if ν = 0 then ⊤ else (((Real.sqrt ν)⁻¹ : ℝ) : EReal)) = _
  rw [if_neg (not_lt.mpr h.le), if_neg h.ne']

/-- A negative real times anything, twice. -/
theorem mul_twice (z : EReal) (l : ℝ) (h : l < 0) : z * (l : EReal) + z * (l : EReal) = z * ((l + l : ℝ) : EReal) := by
  induction z with
  | bot => rw [EReal.bot_mul_coe_of_neg h, EReal.bot_mul_coe_of_neg (by linarith)]; rfl
  | top => rw [EReal.top_mul_coe_of_neg h, EReal.top_mul_coe_of_neg (by linarith)]; rfl
  | coe z => norm_cast; ring

/-- The gradient of one entry of the row: with the scaled entry taken out, or from the derivatives of the square root
    and of the mean one after the other. -/
theorem pull (c e h : EReal) (γ ε : ℝ) (hγ : 0 < γ) (hε : 0 < ε) (hc : c = (γ : EReal)) (he : e = (ε : EReal))
    (hh : h = ((-(1 / 2) : ℝ) : EReal)) (x w : ι → EReal) (a : EReal) (j : ι) :
    a + w j * rms c e x
        + x j * Ideal.div ((∑ k, x k * w k) * (h * Ideal.div (rms c e x) (mean c e x))) c
        + Ideal.div ((∑ k, x k * w k) * (h * Ideal.div (rms c e x) (mean c e x))) c * x j
      = a + rms c e x * (w j - x j * rms c e x * Ideal.div (∑ k, w k * (x k * rms c e x)) c) := by
  unfold rms
  rcases mean_cases c e γ ε hγ hε hc he x with hv | ⟨ν, hν, hv⟩
  · rw [hv]
    have h0 : Ideal.rsqrt ⊤ = 0 := rfl
    have h1 : Ideal.div 0 ⊤ = 0 := by simp [Ideal.div]
    rw [h0, h1, hc, div_real _ _ hγ]
    simp
  · rw [hv, rsqrt_real ν hν]
    have hs := Real.sqrt_pos.mpr hν
    have hsq : Real.sqrt ν * Real.sqrt ν = ν := Real.mul_self_sqrt hν.le
    generalize Real.sqrt ν = σ at hs hsq
    have hρ : 0 < σ⁻¹ := inv_pos.mpr hs
    have e1 : ∑ k, w k * (x k * ((σ⁻¹ : ℝ) : EReal)) = (∑ k, x k * w k) * ((σ⁻¹ : ℝ) : EReal) := by
      rw [← Mem.sum_mul_real _ _ _ hρ.le]
      exact Finset.sum_congr rfl fun k _ => by rw [← mul_assoc, mul_comm (w k)]
    rw [e1, hc, div_real _ _ hγ, div_real _ _ hγ, div_real _ _ hν, hh]
    generalize ∑ k, x k * w k = S
    rw [EReal.mul_sub_of_nonneg_of_ne_top (by exact_mod_cast hρ.le) (EReal.coe_ne_top _), sub_eq_add_neg, ← add_assoc]
    have e2 : S * (((-(1 / 2) : ℝ) : EReal) * (((σ⁻¹ : ℝ) : EReal) * ((ν⁻¹ : ℝ) : EReal))) * ((γ⁻¹ : ℝ) : EReal)
        = S * (((-(1 / 2)) * (σ⁻¹ * ν⁻¹) * γ⁻¹ : ℝ) : EReal) := by
      push_cast; simp only [mul_assoc]
    have e3 : ((σ⁻¹ : ℝ) : EReal) * (x j * ((σ⁻¹ : ℝ) : EReal) * (S * ((σ⁻¹ : ℝ) : EReal) * ((γ⁻¹ : ℝ) : EReal)))
        = (x j * S) * ((σ⁻¹ * σ⁻¹ * σ⁻¹ * γ⁻¹ : ℝ) : EReal) := by
      simp only [EReal.coe_mul]; ac_rfl
    rw [e2, e3, mul_comm _ (x j), ← mul_assoc (x j), add_assoc, add_assoc, add_assoc]
    rw [mul_twice _ _ (by have : 0 < σ⁻¹ * ν⁻¹ * γ⁻¹ := by positivity
                          linarith), mul_comm (w j), ← mul_neg]
    congr 3
    rw [← EReal.coe_neg]
    congr 1
    rw [← hsq]
    field_simp
    ring

end Cert.Norm
-- ==== Proof.InProjBwd.Value.lean ====
/- The gradient of the input projection in the normalised rows and in the norm's gain: what the kernel leaves. -/
module

public import proofs.«01_k».proof.Proof.Pieces
public import proofs.«01_k».proof.Proof.NormEq
public import proofs.«01_k».proof.Proof.Gen.InProjBwdIdeal.Value
public import Idealize.ShloMosaic.Lib.Pipeline.ValueKit
public import Idealize.ShloMosaic.Lib.Pipeline.ReadBack

@[expose] public section

set_option maxRecDepth 16384

noncomputable section

namespace Cert.InProjBwdCall

open Idealize.ShloMosaic Idealize.ShloMosaic.TcCoe Cert.Pieces Cert.Norm
open Cert.InProjBwdIdeal Cert.InProjBwdIdeal.Gen

/-- The printed number of columns, and the printed small constant. -/
def cols : EReal := Ideal.ofBits .f32 0x44800000#32
def eps : EReal := Ideal.ofBits .f32 0x358637BD#32

/-- One row's gradient of the normalised row: the row of the four pieces times the weight. -/
def rowDy (a : Fin 1024 → EReal) (b : Fin 512 → EReal) (c d : Fin 1536 → EReal) (W : S4608x1024.Idx → EReal) (n : Fin 1024) : EReal :=
  ∑ k, cat a b c d k * W (ix2 k n)

/-- One row's gradient of the rows before the norm, from the gradient `y` of the normalised row. -/
def rowX (y x dx g : Fin 1024 → EReal) (n : Fin 1024) : EReal :=
  dx n + rms cols eps x * (y n * g n - x n * rms cols eps x * Ideal.div (∑ k, y k * g k * (x k * rms cols eps x)) cols)

/-- What one row adds to the gain's gradient. -/
def rowG (y x : Fin 1024 → EReal) (n : Fin 1024) : EReal := y n * (x n * rms cols eps x)

theorem pay_dy (v3 : Vec Ideal S512x1024 .bf16) (v4 : Vec Ideal S1024x1024 .bf16) (v6 : Vec Ideal S512x512 .bf16) (v7 : Vec Ideal S512x1024 .bf16)
    (v10 : Vec Ideal S512x1536 .bf16) (v11 : Vec Ideal S1536x1024 .bf16) (v14 : Vec Ideal S512x1536 .bf16) (v15 : Vec Ideal S1536x1024 .bf16)
    (W : S4608x1024.Idx → EReal) (h4 : ∀ k n, v4 (ix2 k n) = W (ix2 ⟨k.val, by omega⟩ n)) (h7 : ∀ k n, v7 (ix2 k n) = W (ix2 ⟨1024 + k.val, by omega⟩ n))
    (h11 : ∀ k n, v11 (ix2 k n) = W (ix2 ⟨1536 + k.val, by omega⟩ n)) (h15 : ∀ k n, v15 (ix2 k n) = W (ix2 ⟨3072 + k.val, by omega⟩ n))
    (r : Fin 512) (n : Fin 1024) :
    k0_pay4 (F := Ideal) v3 v4 v6 v7 v10 v11 v14 v15 (ix2 r n)
      = rowDy (fun k => v3 (ix2 r k)) (fun k => v6 (ix2 r k)) (fun k => v10 (ix2 r k)) (fun k => v14 (ix2 r k)) W n := by
  pointwise [k0_pay4]
  simp only [h4, h7, h11, h15]
  exact (sum_cat_mul _ _ _ _ fun k => W (ix2 k n)).symm

theorem pay_rms (x : Vec Ideal S512x1024 .f32) (r : Fin 512) (u : Fin 1) :
    k0_pay5 (F := Ideal) x (ix2 r u) = rms cols eps (fun k => x (ix2 r k)) := by
  pointwise [k0_pay5]
  rfl

theorem pay_xh (x : Vec Ideal S512x1024 .f32) (r : Fin 512) (n : Fin 1024) :
    k0_pay6 (F := Ideal) x (ix2 r n) = x (ix2 r n) * rms cols eps (fun k => x (ix2 r k)) := by
  pointwise [k0_pay6]
  rw [pay_rms]

theorem pay_x (v17 : Vec Ideal S512x1024 .f32) (x : Vec Ideal S512x1024 .f32) (g : Vec Ideal S1x1024 .f32) (dx : Vec Ideal S512x1024 .f32)
    (y : Fin 512 → Fin 1024 → EReal) (h : ∀ r n, v17 (ix2 r n) = y r n) (r : Fin 512) (n : Fin 1024) :
    k0_pay2 (F := Ideal) v17 (k0_pay5 x) (k0_pay6 x) g dx (ix2 r n)
      = rowX (y r) (fun k => x (ix2 r k)) (fun k => dx (ix2 r k)) (fun k => g (ix2 0 k)) n := by
  pointwise [k0_pay2]
  simp only [pay_rms, pay_xh, h]
  rfl

theorem pay_g (v17 : Vec Ideal S512x1024 .f32) (x : Vec Ideal S512x1024 .f32) (acc : Vec Ideal S1x1024 .f32)
    (y : Fin 512 → Fin 1024 → EReal) (h : ∀ r n, v17 (ix2 r n) = y r n) (u : Fin 1) (n : Fin 1024) :
    k0_pay1 (F := Ideal) v17 (k0_pay6 x) acc (ix2 u n)
      = acc (ix2 u n) + ∑ r, rowG (y r) (fun k => x (ix2 r k)) n := by
  pointwise [k0_pay1]
  simp only [pay_xh, h]
  rfl

/-- A tile of 512 rows: its gradient of the normalised rows. -/
def tileDy (x0 : Vec Ideal S512x1024 .bf16) (x1 : Vec Ideal S512x512 .bf16) (x2 x3 : Vec Ideal S512x1536 .bf16) (x4 : Vec Ideal S4608x1024 .bf16)
    (r : Fin 512) : Fin 1024 → EReal :=
  rowDy (fun k => x0 (ix2 r k)) (fun k => x1 (ix2 r k)) (fun k => x2 (ix2 r k)) (fun k => x3 (ix2 r k)) x4

/-- The payload reads the weight in four bands of rows. -/
theorem pay_tile (x0 : Vec Ideal S512x1024 .bf16) (x1 : Vec Ideal S512x512 .bf16) (x2 x3 : Vec Ideal S512x1536 .bf16) (x4 : Vec Ideal S4608x1024 .bf16)
    (r : Fin 512) (n : Fin 1024) :
    k0_pay4 (F := Ideal) x0 (View.ld x4 (Rect.unit ![0, 0] ![1024, 1024] inb_S4608x1024_S1024x1024_0_0))
        x1 (View.ld x4 (Rect.unit ![1024, 0] ![512, 1024] inb_S4608x1024_S512x1024_1024_0))
        x2 (View.ld x4 (Rect.unit ![1536, 0] ![1536, 1024] inb_S4608x1024_S1536x1024_1536_0))
        x3 (View.ld x4 (Rect.unit ![3072, 0] ![1536, 1024] inb_S4608x1024_S1536x1024_3072_0)) (ix2 r n)
      = tileDy x0 x1 x2 x3 x4 r n := by
  refine pay_dy _ _ _ _ _ _ _ _ x4 ?_ ?_ ?_ ?_ r n <;>
  · intro k n
    show x4 _ = x4 _
    congr 1; funext a; refine Fin.ext ?_
    fin_cases a <;> simp

variable (m : (ℓ : Loc nD τ sig) → Buf (Elt Ideal) ℓ) (c : Dev nD) (t : Fin cfg0.N)

theorem dx_A (h0 : t.val % 8 = 0) (y : S512x1024.Idx) : (outsAt0 m c t.val t.isLt).1 y
    = rowX (tileDy (iblk m c 0 t) (iblk m c 1 t) (iblk m c 2 t) (iblk m c 3 t) (iblk m c 4 t) (y 0)) (fun k => iblk m c 5 t (ix2 (y 0) k))
        (fun k => iblk m c 6 t (ix2 (y 0) k)) (fun k => iblk m c 7 t (ix2 0 k)) (y 1) := by
  rw [Gen.outsAt0_A m c t h0]
  frame_open
  frame_out
  idx_vars y
  exact pay_x _ _ _ _ _ (fun r n => pay_tile _ _ _ _ _ r n) y0 y1

theorem dx_B (h0 : ¬t.val % 8 = 0) (y : S512x1024.Idx) : (outsAt0 m c t.val t.isLt).1 y
    = rowX (tileDy (iblk m c 0 t) (iblk m c 1 t) (iblk m c 2 t) (iblk m c 3 t) (iblk m c 4 t) (y 0)) (fun k => iblk m c 5 t (ix2 (y 0) k))
        (fun k => iblk m c 6 t (ix2 (y 0) k)) (fun k => iblk m c 7 t (ix2 0 k)) (y 1) := by
  rw [Gen.outsAt0_B m c t h0]
  frame_open
  frame_out
  idx_vars y
  exact pay_x _ _ _ _ _ (fun r n => pay_tile _ _ _ _ _ r n) y0 y1

theorem dg_A (h0 : t.val % 8 = 0) (y : S1x1024.Idx) : (outsAt0 m c t.val t.isLt).2 y
    = k0_pay3 (F := Ideal) y + ∑ r, rowG (tileDy (iblk m c 0 t) (iblk m c 1 t) (iblk m c 2 t) (iblk m c 3 t) (iblk m c 4 t) r) (fun k => iblk m c 5 t (ix2 r k)) (y 1) := by
  rw [Gen.outsAt0_A m c t h0]
  frame_open
  frame_out
  idx_vars y
  exact pay_g _ _ _ _ (fun r n => pay_tile _ _ _ _ _ r n) y0 y1

theorem dg_B (h0 : ¬t.val % 8 = 0) (y : S1x1024.Idx) : (outsAt0 m c t.val t.isLt).2 y
    = (outsAt0 m c (t.val - 1) (Nat.lt_of_le_of_lt (Nat.sub_le _ _) t.isLt)).2 y + ∑ r, rowG (tileDy (iblk m c 0 t) (iblk m c 1 t) (iblk m c 2 t) (iblk m c 3 t) (iblk m c 4 t) r) (fun k => iblk m c 5 t (ix2 r k)) (y 1) := by
  rw [Gen.outsAt0_B m c t h0]
  frame_open
  frame_out
  idx_vars y
  exact pay_g _ _ _ _ (fun r n => pay_tile _ _ _ _ _ r n) y0 y1

/-- Row `i` of the gradient of the normalised rows. -/
def dY (P0 : S4096x1024.Idx → EReal) (P1 : S4096x512.Idx → EReal) (P2 P3 : S4096x1536.Idx → EReal) (W : S4608x1024.Idx → EReal)
    (i : Fin 4096) : Fin 1024 → EReal :=
  rowDy (fun k => P0 (ix2 i k)) (fun k => P1 (ix2 i k)) (fun k => P2 (ix2 i k)) (fun k => P3 (ix2 i k)) W

/-- The gradient of the rows before the norm. -/
def gX (P0 : S4096x1024.Idx → EReal) (P1 : S4096x512.Idx → EReal) (P2 P3 : S4096x1536.Idx → EReal) (W : S4608x1024.Idx → EReal)
    (X D : S4096x1024.Idx → EReal) (G : S1x1024.Idx → EReal) (y : S4096x1024.Idx) : EReal :=
  rowX (dY P0 P1 P2 P3 W (y 0)) (fun k => X (ix2 (y 0) k)) (fun k => D (ix2 (y 0) k)) (fun k => G (ix2 0 k)) (y 1)

/-- The gradient of the gain. -/
def gG (P0 : S4096x1024.Idx → EReal) (P1 : S4096x512.Idx → EReal) (P2 P3 : S4096x1536.Idx → EReal) (W : S4608x1024.Idx → EReal)
    (X : S4096x1024.Idx → EReal) (y : S1x1024.Idx) : EReal :=
  ∑ i : Fin 4096, rowG (dY P0 P1 P2 P3 W i) (fun k => X (ix2 i k)) (y 1)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![t.val, 0] ∧ win0_9.index t = ![0, 0] :=
  (by decide +kernel : ∀ t : Fin grid0.N, _)

theorem lt8 (t : Fin cfg0.N) : t.val < 8 := Nat.lt_of_lt_of_eq t.isLt N_0

/-- Row `r` of tile `t`. -/
abbrev row (r : Fin 512) : Fin 4096 := ⟨t.val * 512 + r.val, by have := lt8 t; omega⟩

theorem read0 (r : Fin 512) (k : Fin 1024) : iblk m c 0 t (ix2 r k) = m ((c.tc : Thread nD τ).loc main_arg0) (ix2 (row t r) k) := by
  show iblk m c 0 t (ix2 r k) = m ((c.tc : Thread nD τ).loc main_arg0) (ix2 _ _)
  blk_ext [iblk, V, idx t]

theorem read1 (r : Fin 512) (k : Fin 512) : iblk m c 1 t (ix2 r k) = m ((c.tc : Thread nD τ).loc main_arg1) (ix2 (row t r) k) := by
  show iblk m c 1 t (ix2 r k) = m ((c.tc : Thread nD τ).loc main_arg1) (ix2 _ _)
  blk_ext [iblk, V, idx t]

theorem read2 (r : Fin 512) (k : Fin 1536) : iblk m c 2 t (ix2 r k) = m ((c.tc : Thread nD τ).loc main_arg2) (ix2 (row t r) k) := by
  show iblk m c 2 t (ix2 r k) = m ((c.tc : Thread nD τ).loc main_arg2) (ix2 _ _)
  blk_ext [iblk, V, idx t]

theorem read3 (r : Fin 512) (k : Fin 1536) : iblk m c 3 t (ix2 r k) = m ((c.tc : Thread nD τ).loc main_arg3) (ix2 (row t r) k) := by
  show iblk m c 3 t (ix2 r k) = m ((c.tc : Thread nD τ).loc main_arg3) (ix2 _ _)
  blk_ext [iblk, V, idx t]

theorem read5 (r : Fin 512) (k : Fin 1024) : iblk m c 5 t (ix2 r k) = m ((c.tc : Thread nD τ).loc main_arg5) (ix2 (row t r) k) := by
  show iblk m c 5 t (ix2 r k) = m ((c.tc : Thread nD τ).loc main_arg5) (ix2 _ _)
  blk_ext [iblk, V, idx t]

theorem read6 (r : Fin 512) (k : Fin 1024) : iblk m c 6 t (ix2 r k) = m ((c.tc : Thread nD τ).loc main_arg6) (ix2 (row t r) k) := by
  show iblk m c 6 t (ix2 r k) = m ((c.tc : Thread nD τ).loc main_arg6) (ix2 _ _)
  blk_ext [iblk, V, idx t]

theorem read4 : iblk m c 4 t = m ((c.tc : Thread nD τ).loc main_arg4) := by
  funext y; idx_vars y
  show iblk m c 4 t (ix2 y0 y1) = m ((c.tc : Thread nD τ).loc main_arg4) (ix2 _ _)
  blk_ext [iblk, V, idx t]

theorem read7 (k : Fin 1024) : iblk m c 7 t (ix2 0 k) = m ((c.tc : Thread nD τ).loc main_arg7) (ix2 0 k) := by
  show iblk m c 7 t (ix2 0 k) = m ((c.tc : Thread nD τ).loc main_arg7) (ix2 _ _)
  blk_ext [iblk, V, idx t]

theorem tile_dy (r : Fin 512) : tileDy (iblk m c 0 t) (iblk m c 1 t) (iblk m c 2 t) (iblk m c 3 t) (iblk m c 4 t) r
    = dY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (row t r) := by
  unfold tileDy dY
  simp only [read0, read1, read2, read3, read4]

/-- The kernel's first result. -/
theorem kernel_x : (dats m 0 c).arrAt 8 cfg0.N = gX (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp [idx t]
  rw [after0_8]
  idx_vars y
  have e : ((View.whole main_v0_0).slice (win0_8.rect t)).emb (ix2 y0 y1) = ix2 (row t y0) y1 := by
    blk_ext [idx t]
  rw [e]
  have h : (outsAt0 m c t.val t.isLt).1 (ix2 y0 y1)
      = rowX (tileDy (iblk m c 0 t) (iblk m c 1 t) (iblk m c 2 t) (iblk m c 3 t) (iblk m c 4 t) y0) (fun k => iblk m c 5 t (ix2 y0 k))
        (fun k => iblk m c 6 t (ix2 y0 k)) (fun k => iblk m c 7 t (ix2 0 k)) y1 := by
    by_cases h : t.val % 8 = 0
    · exact dx_A m c t h _
    · exact dx_B m c t h _
  rw [h, tile_dy]
  simp only [read5, read6, read7]
  rfl

/-- The kernel's second result. -/
theorem kernel_g : (dats m 0 c).arrAt 9 cfg0.N = gG (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  refine (dats m 0 c).arrAt_eq_of_covers 9 _ (by decide +kernel) fun t hf y => ?_
  blk_simp [idx t]
  rw [after0_9]
  idx_vars y
  have h3 := (flush0_9 t).mp hf
  have ht := lt8 t
  have e : ((View.whole main_v0_1).slice (win0_9.rect t)).emb (ix2 y0 y1) = ix2 y0 y1 := by
    blk_ext [idx t]
  rw [e]
  refine (Pipeline.eq_sum_fin_of_reset_step_apply_of_flush (fun n h => (outsAt0 m c n h).2) 8 (k0_pay3 (F := Ideal))
    (fun t y => ∑ r, rowG (tileDy (iblk m c 0 t) (iblk m c 1 t) (iblk m c 2 t) (iblk m c 3 t) (iblk m c 4 t) r) (fun k => iblk m c 5 t (ix2 r k)) (y 1))
    (fun t h y => dg_A m c t h y) (fun t h y => dg_B m c t h y) t h3 (ix2 y0 y1)).trans ?_
  have h0 : k0_pay3 (F := Ideal) (ix2 y0 y1) = 0 := by pointwise [k0_pay3]
  rw [h0, zero_add]
  refine (Fin.sum_fin_congr fun s => Finset.sum_congr rfl fun r _ => congrArg₂ (fun a b => rowG a b y1) (tile_dy m c _ r)
    (funext fun k => read5 m c _ r k)).trans ?_
  refine Fin.sum_mul_add_congr fun s k hl => ?_
  have h8 : t.val / 8 = 0 := by omega
  exact congrArg (fun i : Fin 4096 => rowG (dY (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) i)
    (fun k => m ((c.tc : Thread nD τ).loc main_arg5) (ix2 i k)) y1)
    (Fin.ext (by show (8 * (t.val / 8) + s.val) * 512 + k.val = s.val * 512 + k.val; omega))

end Cert.InProjBwdCall
-- ==== Proof.InProjBwd.Ref.lean ====
/- The gradient of the input projection in the normalised rows and in the norm's gain: the reference's two results. -/
module

public import proofs.«01_k».proof.Proof.InProjBwd.Value
public import proofs.«01_k».proof.Proof.Gen.InProjBwdRefIdeal.Read

@[expose] public section

set_option maxRecDepth 16384

noncomputable section

namespace Cert.InProjBwdCall

open Idealize.ShloMosaic Idealize.ShloMosaic.TcCoe Cert.Pieces Cert.Norm
open Cert.InProjBwdRefIdeal Cert.InProjBwdRefIdeal.Read

variable (P0 : Vec Ideal S4096x1024 .bf16) (P1 : Vec Ideal S4096x512 .bf16) (P2 P3 : Vec Ideal S4096x1536 .bf16) (W : Vec Ideal S4608x1024 .bf16)
  (X D : Vec Ideal S4096x1024 .f32) (G : Vec Ideal S1x1024 .f32)

theorem cols_real : cols = ((1024 : ℝ) : EReal) := by
  simp [cols, Ideal.ofBits, Ideal.ieee, -EReal.coe_mul]; norm_num

theorem half_real : Ideal.ofBits .f32 0xBF000000#32 = ((-(1 / 2) : ℝ) : EReal) := by
  simp [Ideal.ofBits, Ideal.ieee, -EReal.coe_mul, -EReal.coe_neg]; norm_num

theorem eps_real : ∃ ε : ℝ, 0 < ε ∧ eps = (ε : EReal) := by
  simp only [eps]
  simp [Ideal.ofBits, Ideal.ieee, -EReal.coe_mul]

theorem ref_mean (i : Fin 4096) (u : Fin 1) : val_main_v8 (F := Ideal) X (ix2 i u) = mean cols eps (fun k => X (ix2 i k)) := by
  pointwise [val_main_v8, val_main_v6, val_main_v4, val_main_v3, val_main_v2, val_main_v5, val_main_cst_0, val_main_v7, val_main_cst_1, val_main_cst]
  rfl

theorem ref_rms (i : Fin 4096) (u : Fin 1) : val_main_v9 (F := Ideal) X (ix2 i u) = rms cols eps (fun k => X (ix2 i k)) := by
  rw [val_main_v9_apply]
  rw [ref_mean]
  rfl

theorem ref_dy (i : Fin 4096) (n : Fin 1024) : val_main_v20 (F := Ideal) P0 P1 P2 P3 W (ix2 i n) = dY P0 P1 P2 P3 W i n := by
  pointwise [val_main_v20, val_main_v18, val_main_v17, val_main_v1, val_main_v0]
  rfl

theorem ref_xh (i : Fin 4096) (n : Fin 1024) : val_main_v14 (F := Ideal) X (ix2 i n) = X (ix2 i n) * rms cols eps (fun k => X (ix2 i k)) := by
  pointwise [val_main_v14, val_main_v13]
  rw [ref_rms]

theorem ref_g (y : S1x1024.Idx) : val_main_v23 (F := Ideal) P0 P1 P2 P3 W X y = gG P0 P1 P2 P3 W X y := by
  idx_vars y
  pointwise [val_main_v23, val_main_v22, val_main_v21, val_main_cst_3]
  simp only [ref_xh, ref_dy]
  exact Finset.sum_congr rfl fun i _ => mul_comm _ _

theorem ref_x (y : S4096x1024.Idx) : val_main_v40 (F := Ideal) P0 P1 P2 P3 W X D G y = gX P0 P1 P2 P3 W X D G y := by
  idx_vars y
  pointwise [val_main_v40, val_main_v38, val_main_v31, val_main_v30, val_main_v25, val_main_v24, val_main_v29, val_main_v37, val_main_v36, val_main_v35, val_main_v34, val_main_v32, val_main_v28, val_main_v27, val_main_v26, val_main_v12, val_main_v11, val_main_v10, val_main_v39, val_main_v33, val_main_cst_2, val_main_cst_4, val_main_cst_5, val_main_cst_6]
  simp only [ref_rms, ref_mean, ref_dy]
  simp only [Finset.univ_unique, Finset.sum_singleton]
  obtain ⟨ε, hε, he⟩ := eps_real
  exact pull cols eps _ 1024 ε (by norm_num) hε cols_real he half_real (fun k => X (ix2 y0 k)) (fun k => dY P0 P1 P2 P3 W y0 k * G (ix2 0 k)) (D (ix2 y0 y1)) y1

end Cert.InProjBwdCall
-- ==== Proof.InProjBwd.Claims.lean ====
/- The claims about the gradient of the input projection in its rows, before the norm, and in the norm's gain. -/
module

public import proofs.«01_k».proof.Defs
public import proofs.«01_k».proof.Proof.Gen.InProjBwd.Frame
public import proofs.«01_k».proof.Proof.InProjBwd.Ref
public import proofs.«01_k».proof.Proof.Gen.InProjBwdRefIdeal.Run

@[expose] public section

noncomputable section

namespace Cert.InProjBwdCall

open Idealize.ShloMosaic Idealize.SL.Sem

theorem frame_kernel : Cert.quiescent_InProjBwd := fun m ρ _ => Cert.InProjBwd.Gen.frame m ρ

theorem frame_ideal : Cert.quiescent_InProjBwdIdeal := fun m ρ _ => Cert.InProjBwdIdeal.Gen.frame m ρ

theorem frame_ref : Cert.quiescent_InProjBwdRefIdeal := fun m ρ _ =>
  (θ_run Cert.InProjBwdRefIdeal.defs _ _).mono (fun r h => ⟨fun c => (h c).2.2, sem_eq_zero_of_no_sems (by decide) r.2⟩)
    (Cert.InProjBwdRefIdeal.Value.run m ρ)

theorem preserves : Cert.preserves_InProjBwd_InProjBwdIdeal := trivial

theorem algebraic : Cert.algebraic_InProjBwdIdeal_InProjBwdRefIdeal := by
  intro m g m' g' hp ha
  refine ⟨fun c => gX (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)),
    fun c => gG (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)), ?_, ?_⟩
  · refine (θ_run _ _ _).mono (fun r h c => ?_) (Cert.InProjBwdIdeal.Value.run_blocks m g)
    obtain ⟨h0, h1, hr⟩ := h c
    exact ⟨h0.trans (kernel_x m c), h1.trans (kernel_g m c), hr⟩
  · refine (θ_run _ _ _).mono (fun r h c => ?_) (Cert.InProjBwdRefIdeal.Value.run m' g')
    obtain ⟨h0, h1, hr⟩ := h c
    obtain ⟨a0, a1, a2, a3, a4, a5, a6, a7, a8⟩ := ha c
    refine ⟨h0.trans ?_, h1.trans ?_, hr⟩
    · rw [Cert.InProjBwdRefIdeal.Read.val_main_v40_eq, a0, a1, a2, a3, a4, a5, a6, a7]
      exact funext fun y => ref_x _ _ _ _ _ _ _ _ y
    · rw [Cert.InProjBwdRefIdeal.Read.val_main_v23_eq, a0, a1, a2, a3, a4, a5]
      exact funext fun y => ref_g _ _ _ _ _ _ y

end Cert.InProjBwdCall
-- ==== Proof.GradWIn.Value.lean ====
/- The gradient of the input projection in its weight: the kernel's nine blocks of rows and the reference are one product. -/
module

public import proofs.«01_k».proof.Proof.Pieces
public import proofs.«01_k».proof.Proof.Gen.GradWInIdeal.Value
public import proofs.«01_k».proof.Proof.Gen.GradWInRefIdeal.Read
public import Idealize.ShloMosaic.Lib.Pipeline.ValueKit
public import Idealize.ShloMosaic.Lib.Pipeline.ReadBack

@[expose] public section

set_option maxRecDepth 16384

noncomputable section

namespace Cert.GradWInCall

open Idealize.ShloMosaic Idealize.ShloMosaic.TcCoe Cert.Pieces
open Cert.GradWInIdeal Cert.GradWInIdeal.Gen

/-- The product of the pieces' columns, transposed, with `H`. -/
def gW (A : S4096x1024.Idx → EReal) (B : S4096x512.Idx → EReal) (C D : S4096x1536.Idx → EReal) (H : S4096x1024.Idx → EReal)
    (y : S4608x1024.Idx) : EReal :=
  ∑ k : Fin 4096, cat (fun n => A (ix2 k n)) (fun n => B (ix2 k n)) (fun n => C (ix2 k n)) (fun n => D (ix2 k n)) (y 0) * H (ix2 k (y 1))

theorem idx : ∀ t : Fin cfg0.N, (t.val < 2 → win0_0.index t = ![0, t.val]) ∧ (t.val = 2 → win0_1.index t = ![0, 0])
    ∧ (3 ≤ t.val → t.val ≤ 5 → win0_2.index t = ![0, t.val - 3]) ∧ (6 ≤ t.val → win0_3.index t = ![0, t.val - 6])
    ∧ win0_4.index t = ![0, 0] ∧ win0_5.index t = ![t.val, 0] :=
  (by decide +kernel : ∀ t : Fin grid0.N, _)

theorem lt9 (t : Fin cfg0.N) : t.val < 9 := Nat.lt_of_lt_of_eq t.isLt N_0

/-- One block's product. -/
def prod (x0 : S4096x512.Idx → EReal) (x1 : S4096x1024.Idx → EReal) (y : S512x1024.Idx) : EReal :=
  ∑ k : Fin 4096, x0 (ix2 k (y 0)) * x1 (ix2 k (y 1))

theorem pay1 (x0 : Vec Ideal S4096x512 .bf16) (x1 : Vec Ideal S4096x1024 .bf16) (y : S512x1024.Idx) :
    k0_pay1 (F := Ideal) x0 x1 y = prod x0 x1 y := by idx_vars y; pointwise [k0_pay1]; rfl

theorem pay2 (x0 : Vec Ideal S4096x512 .bf16) (x1 : Vec Ideal S4096x1024 .bf16) (y : S512x1024.Idx) :
    k0_pay2 (F := Ideal) x0 x1 y = prod x0 x1 y := by idx_vars y; pointwise [k0_pay2]; rfl

theorem pay3 (x0 : Vec Ideal S4096x512 .bf16) (x1 : Vec Ideal S4096x1024 .bf16) (y : S512x1024.Idx) :
    k0_pay3 (F := Ideal) x0 x1 y = prod x0 x1 y := by idx_vars y; pointwise [k0_pay3]; rfl

theorem pay4 (x0 : Vec Ideal S4096x512 .bf16) (x1 : Vec Ideal S4096x1024 .bf16) (y : S512x1024.Idx) :
    k0_pay4 (F := Ideal) x0 x1 y = prod x0 x1 y := by idx_vars y; pointwise [k0_pay4]; rfl

variable (m : (ℓ : Loc nD τ sig) → Buf (Elt Ideal) ℓ) (c : Dev nD) (t : Fin cfg0.N)

theorem out_A (h0 : t.val < 2) (h1 : ¬t.val % 9 = 2) (h2 : ¬(3 ≤ t.val % 9 ∧ t.val % 9 ≤ 5)) (h3 : ¬6 ≤ t.val)
    (y : S512x1024.Idx) : outsAt0 m c t.val t.isLt y = prod (iblk m c 0 t) (iblk m c 4 t) y := by
  rw [Gen.outsAt0_A m c t h0 h1 h2 h3]
  frame_open
  frame_out
  exact pay1 _ _ y

theorem out_B (h0 : ¬t.val < 2) (h1 : t.val % 9 = 2) (h2 : ¬(3 ≤ t.val % 9 ∧ t.val % 9 ≤ 5)) (h3 : ¬6 ≤ t.val)
    (y : S512x1024.Idx) : outsAt0 m c t.val t.isLt y = prod (iblk m c 1 t) (iblk m c 4 t) y := by
  rw [Gen.outsAt0_B m c t h0 h1 h2 h3]
  frame_open
  frame_out
  exact pay2 _ _ y

theorem out_C (h0 : ¬t.val < 2) (h1 : ¬t.val % 9 = 2) (h2 : 3 ≤ t.val % 9 ∧ t.val % 9 ≤ 5) (h3 : ¬6 ≤ t.val)
    (y : S512x1024.Idx) : outsAt0 m c t.val t.isLt y = prod (iblk m c 2 t) (iblk m c 4 t) y := by
  rw [Gen.outsAt0_C m c t h0 h1 h2 h3]
  frame_open
  frame_out
  exact pay3 _ _ y

theorem out_D (h0 : ¬t.val < 2) (h1 : ¬t.val % 9 = 2) (h2 : ¬(3 ≤ t.val % 9 ∧ t.val % 9 ≤ 5)) (h3 : 6 ≤ t.val)
    (y : S512x1024.Idx) : outsAt0 m c t.val t.isLt y = prod (iblk m c 3 t) (iblk m c 4 t) y := by
  rw [Gen.outsAt0_D m c t h0 h1 h2 h3]
  frame_open
  frame_out
  exact pay4 _ _ y

theorem read0 (h : t.val < 2) (k : Fin 4096) (r : Fin 512) (n : Fin 1024) (hn : n.val = t.val * 512 + r.val) :
    iblk m c 0 t (ix2 k r) = m ((c.tc : Thread nD τ).loc main_arg0) (ix2 k n) := by
  show iblk m c 0 t (ix2 k r) = m ((c.tc : Thread nD τ).loc main_arg0) (ix2 _ _)
  blk_ext [iblk, V, (idx t).1 h, hn]

theorem read1 (h : t.val = 2) (k : Fin 4096) (r : Fin 512) (n : Fin 512) (hn : n.val = r.val) :
    iblk m c 1 t (ix2 k r) = m ((c.tc : Thread nD τ).loc main_arg1) (ix2 k n) := by
  show iblk m c 1 t (ix2 k r) = m ((c.tc : Thread nD τ).loc main_arg1) (ix2 _ _)
  blk_ext [iblk, V, (idx t).2.1 h, hn]

theorem read2 (h : 3 ≤ t.val) (h' : t.val ≤ 5) (k : Fin 4096) (r : Fin 512) (n : Fin 1536) (hn : n.val = (t.val - 3) * 512 + r.val) :
    iblk m c 2 t (ix2 k r) = m ((c.tc : Thread nD τ).loc main_arg2) (ix2 k n) := by
  show iblk m c 2 t (ix2 k r) = m ((c.tc : Thread nD τ).loc main_arg2) (ix2 _ _)
  blk_ext [iblk, V, (idx t).2.2.1 h h', hn]

theorem read3 (h : 6 ≤ t.val) (k : Fin 4096) (r : Fin 512) (n : Fin 1536) (hn : n.val = (t.val - 6) * 512 + r.val) :
    iblk m c 3 t (ix2 k r) = m ((c.tc : Thread nD τ).loc main_arg3) (ix2 k n) := by
  show iblk m c 3 t (ix2 k r) = m ((c.tc : Thread nD τ).loc main_arg3) (ix2 _ _)
  blk_ext [iblk, V, (idx t).2.2.2.1 h, hn]

theorem read4 (k : Fin 4096) (r : Fin 1024) :
    iblk m c 4 t (ix2 k r) = m ((c.tc : Thread nD τ).loc main_arg4) (ix2 k r) := by
  show iblk m c 4 t (ix2 k r) = m ((c.tc : Thread nD τ).loc main_arg4) (ix2 _ _)
  blk_ext [iblk, V, idx t]

theorem kernel_eq : (dats m 0 c).arrAt 5 cfg0.N = gW (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp [idx t]
  rw [after0_5]
  idx_vars y
  have e : ((View.whole main_v0).slice (win0_5.rect t)).emb (ix2 y0 y1)
      = ix2 ⟨t.val * 512 + y0.val, by have := lt9 t; omega⟩ y1 := by
    blk_ext [idx t]
  rw [e]
  have hl := lt9 t
  unfold gW
  by_cases h0 : t.val < 2
  · rw [out_A m c t h0 (by omega) (by omega) (by omega)]
    refine Finset.sum_congr (M := EReal) rfl fun k _ => congrArg₂ _ ?_ (read4 m c t k y1)
    refine (read0 m c t h0 k y0 ⟨t.val * 512 + y0.val, by omega⟩ rfl).trans (Eq.symm ?_)
    exact cat_a _ _ _ _ _ _ rfl
  by_cases h1 : t.val = 2
  · rw [out_B m c t h0 (by omega) (by omega) (by omega)]
    refine Finset.sum_congr (M := EReal) rfl fun k _ => congrArg₂ _ ?_ (read4 m c t k y1)
    refine (read1 m c t h1 k y0 y0 rfl).trans (Eq.symm ?_)
    exact cat_b _ _ _ _ _ _ (by show t.val * 512 + y0.val = 1024 + y0.val; omega)
  by_cases h2 : t.val ≤ 5
  · rw [out_C m c t h0 (by omega) (by omega) (by omega)]
    refine Finset.sum_congr (M := EReal) rfl fun k _ => congrArg₂ _ ?_ (read4 m c t k y1)
    refine (read2 m c t (by omega) h2 k y0 ⟨(t.val - 3) * 512 + y0.val, by omega⟩ rfl).trans (Eq.symm ?_)
    exact cat_c _ _ _ _ _ _ (by show t.val * 512 + y0.val = 1536 + ((t.val - 3) * 512 + y0.val); omega)
  · rw [out_D m c t h0 (by omega) (by omega) (by omega)]
    refine Finset.sum_congr (M := EReal) rfl fun k _ => congrArg₂ _ ?_ (read4 m c t k y1)
    refine (read3 m c t (by omega) k y0 ⟨(t.val - 6) * 512 + y0.val, by omega⟩ rfl).trans (Eq.symm ?_)
    exact cat_d _ _ _ _ _ _ (by show t.val * 512 + y0.val = 3072 + ((t.val - 6) * 512 + y0.val); omega)

open Cert.GradWInRefIdeal.Read in
theorem ref_eq (A : S4096x1024.Idx → EReal) (B : S4096x512.Idx → EReal) (C D : S4096x1536.Idx → EReal) (H : S4096x1024.Idx → EReal) :
    val_main_v9 (F := Ideal) A B C D H = gW A B C D H := by
  funext y
  idx_vars y
  pointwise [val_main_v9, val_main_v8, val_main_v7, val_main_v6, val_main_v3, val_main_v1, val_main_v0]
  rfl

end Cert.GradWInCall
-- ==== Proof.GradWIn.Claims.lean ====
/- The claims about the gradient of the input projection in its weight. -/
module

public import proofs.«01_k».proof.Defs
public import proofs.«01_k».proof.Proof.Gen.GradWIn.Frame
public import proofs.«01_k».proof.Proof.GradWIn.Value
public import proofs.«01_k».proof.Proof.Gen.GradWInRefIdeal.Run

@[expose] public section

noncomputable section

namespace Cert.GradWInCall

open Idealize.ShloMosaic Idealize.SL.Sem

theorem frame_kernel : Cert.quiescent_GradWIn := fun m ρ _ => Cert.GradWIn.Gen.frame m ρ

theorem frame_ideal : Cert.quiescent_GradWInIdeal := fun m ρ _ => Cert.GradWInIdeal.Gen.frame m ρ

theorem frame_ref : Cert.quiescent_GradWInRefIdeal := fun m ρ _ =>
  (θ_run Cert.GradWInRefIdeal.defs _ _).mono (fun r h => ⟨fun c => (h c).2, sem_eq_zero_of_no_sems (by decide) r.2⟩)
    (Cert.GradWInRefIdeal.Value.run m ρ)

theorem preserves : Cert.preserves_GradWIn_GradWInIdeal := trivial

theorem algebraic : Cert.algebraic_GradWInIdeal_GradWInRefIdeal := by
  intro m g m' g' hp ha
  refine ⟨fun c => gW (m ((c.tc : Thread Cert.GradWInIdeal.nD Cert.GradWInIdeal.τ).loc Cert.GradWInIdeal.main_arg0)) (m ((c.tc : Thread Cert.GradWInIdeal.nD Cert.GradWInIdeal.τ).loc Cert.GradWInIdeal.main_arg1)) (m ((c.tc : Thread Cert.GradWInIdeal.nD Cert.GradWInIdeal.τ).loc Cert.GradWInIdeal.main_arg2)) (m ((c.tc : Thread Cert.GradWInIdeal.nD Cert.GradWInIdeal.τ).loc Cert.GradWInIdeal.main_arg3)) (m ((c.tc : Thread Cert.GradWInIdeal.nD Cert.GradWInIdeal.τ).loc Cert.GradWInIdeal.main_arg4)), ?_, ?_⟩
  · refine (θ_run _ _ _).mono (fun r h c => ?_) (Cert.GradWInIdeal.Value.run_blocks m g)
    obtain ⟨h0, hr⟩ := h c
    exact ⟨h0.trans (kernel_eq m c), hr⟩
  · refine (θ_run _ _ _).mono (fun r h c => ?_) (Cert.GradWInRefIdeal.Value.run m' g')
    obtain ⟨h0, hr⟩ := h c
    obtain ⟨a0, a1, a2, a3, a4⟩ := ha c
    refine ⟨h0.trans ?_, hr⟩
    rw [Cert.GradWInRefIdeal.Read.val_main_v9_eq, a0, a1, a2, a3, a4]
    exact ref_eq _ _ _ _ _

end Cert.GradWInCall
-- ==== Proof.Merge.lean ====
/- The merge of the three head groups, one row at a time. -/
module

public import proofs.«01_k».proof.Proof.NormEq
public import Idealize.ShloMosaic.Lib.Pipeline.ValueKit

@[expose] public section

set_option maxRecDepth 16384

noncomputable section

namespace Cert.Merge

open Idealize.ShloMosaic Cert.Norm

/-- The printed width of a head, and the printed small constant. -/
def hd : EReal := Ideal.ofBits .f32 0x43000000#32
def eps : EReal := Ideal.ofBits .f32 0x358637BD#32

theorem hd_real : hd = ((128 : ℝ) : EReal) := by
  simp [hd, Ideal.ofBits, Ideal.ieee, -EReal.coe_mul]; norm_num

theorem eps_real : ∃ ε : ℝ, 0 < ε ∧ eps = (ε : EReal) := by
  simp only [eps]
  simp [Ideal.ofBits, Ideal.ieee, -EReal.coe_mul]

theorem half_real : Ideal.ofBits .f32 0xBF000000#32 = ((-(1 / 2) : ℝ) : EReal) := by
  simp [Ideal.ofBits, Ideal.ieee, -EReal.coe_mul, -EReal.coe_neg]; norm_num

/-- Column `k` of head `h` among the four heads' columns. -/
def col (h : Fin 4) (k : Fin 128) : Fin 512 := ⟨h.val * 128 + k.val, by omega⟩
def headOf (j : Fin 512) : Fin 4 := ⟨j.val / 128, by omega⟩
def posOf (j : Fin 512) : Fin 128 := ⟨j.val % 128, by omega⟩

theorem headOf_col (h : Fin 4) (k : Fin 128) : headOf (col h k) = h := Fin.ext (by show (h.val * 128 + k.val) / 128 = h.val; omega)
theorem posOf_col (h : Fin 4) (k : Fin 128) : posOf (col h k) = k := Fin.ext (by show (h.val * 128 + k.val) % 128 = k.val; omega)
theorem col_eq (j : Fin 512) : col (headOf j) (posOf j) = j := Fin.ext (by show j.val / 128 * 128 + j.val % 128 = j.val; omega)

/-- A head's reciprocal root mean square, its scaled entries, and the four heads' scaled entries with the gain. -/
def rh (o : Fin 512 → EReal) (h : Fin 4) : EReal := rms hd eps fun k => o (col h k)
def xh (o : Fin 512 → EReal) (h : Fin 4) (k : Fin 128) : EReal := o (col h k) * rh o h
def normed (o : Fin 512 → EReal) (g : Fin 128 → EReal) (j : Fin 512) : EReal := xh o (headOf j) (posOf j) * g (posOf j)

/-- The three groups side by side. -/
def cat (a m b : Fin 512 → EReal) (n : Fin 1536) : EReal :=
  if h : n.val < 512 then a ⟨n.val, h⟩ else if h' : n.val - 512 < 512 then m ⟨n.val - 512, h'⟩ else b ⟨n.val - 512 - 512, by omega⟩

/-- The logistic function as printed. -/
def sg (x : EReal) : EReal := Ideal.div 1 (1 + Ideal.exp (-x))

/-- The cotangent of the gated row. -/
def dmix (d : Fin 1024 → EReal) (W : Fin 1536 → Fin 1024 → EReal) (n : Fin 1536) : EReal := ∑ k, d k * W n k

/-- The cotangent of the row of the three groups. -/
def dcat (dm gt : Fin 1536 → EReal) (n : Fin 1536) : EReal := dm n * (gt n * sg (gt n))

theorem normed_col (o : Fin 512 → EReal) (g : Fin 128 → EReal) (h : Fin 4) (k : Fin 128) : normed o g (col h k) = xh o h k * g k := by
  unfold normed
  rw [headOf_col, posOf_col]

/-- Column `k` of head `h` among the columns of the three groups. -/
def seg (h : Fin 4) (k : Fin 128) : Fin 1536 := ⟨512 + h.val * 128 + k.val, by omega⟩

/-- The cotangent of one head's entry, from the cotangent `d` of the three groups. -/
def rowHead (o : Fin 512 → EReal) (g : Fin 128 → EReal) (d : Fin 1536 → EReal) (h : Fin 4) (k : Fin 128) : EReal :=
  rh o h * (d (seg h k) * g k - xh o h k * Ideal.div (∑ l, d (seg h l) * g l * xh o h l) hd)

/-- What one row adds to the gradient of the heads' gain. -/
def rowNorm (o : Fin 512 → EReal) (d : Fin 1536 → EReal) (k : Fin 128) : EReal := ∑ h, d (seg h k) * xh o h k

/-- The cotangent of the gate. -/
def rowGate (dm ct gt : Fin 1536 → EReal) (n : Fin 1536) : EReal := dm n * ct n * (sg (gt n) * (1 + gt n * (1 - sg (gt n))))

/-- A sum over the first two of three axes. -/
theorem sum_rows_heads {n0 n1 n2 : ℕ} (h : (⟨3, ![n0, n1, n2]⟩ : Shape).ReducesTo [0, 1] ⟨1, ![n2]⟩) (v : (⟨3, ![n0, n1, n2]⟩ : Shape).Idx → EReal)
    (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e (0 : Fin 1))).symm
  · rintro ⟨k, rfl⟩
    funext b
    apply Fin.ext
    match b with
    | ⟨0, _⟩ => rfl
  · simp only [Fintype.sum_prod_type]

/-- The gate's cotangent in two forms, of a real factor. -/
theorem gate_eq (u : ℝ) (x : EReal) :
    (u : EReal) * sg x + x * (u : EReal) * (sg x * (1 - sg x)) = (u : EReal) * (sg x * (1 + x * (1 - sg x))) := by
  induction x with
  | bot =>
    have h : sg ⊥ = 0 := Ideal.logistic_bot
    rw [h]; simp
  | top =>
    have h : sg ⊤ = 1 := Ideal.logistic_top
    have h1 : (1 : EReal) - 1 = 0 := by rw [← EReal.coe_one, ← EReal.coe_sub, sub_self, EReal.coe_zero]
    rw [h, h1]; simp
  | coe x =>
    have h : ∃ s : ℝ, sg (x : EReal) = (s : EReal) := ⟨_, Ideal.logistic_coe x⟩
    obtain ⟨s, h⟩ := h
    rw [h]
    norm_cast
    ring

/-- Real numbers stay real. -/
theorem real_mul {x y : EReal} (hx : ∃ a : ℝ, x = (a : EReal)) (hy : ∃ b : ℝ, y = (b : EReal)) : ∃ a : ℝ, x * y = (a : EReal) := by
  obtain ⟨a, rfl⟩ := hx
  obtain ⟨b, rfl⟩ := hy
  exact ⟨a * b, (EReal.coe_mul a b).symm⟩

theorem real_sum {ι : Type} [Fintype ι] (f : ι → EReal) (h : ∀ i, ∃ a : ℝ, f i = (a : EReal)) : ∃ a : ℝ, ∑ i, f i = (a : EReal) := by
  choose g hg using h
  refine ⟨∑ i, g i, ?_⟩
  simp only [hg]
  exact (map_sum (⟨⟨Real.toEReal, EReal.coe_zero⟩, EReal.coe_add⟩ : ℝ →+ EReal) g Finset.univ).symm

theorem dmix_real (d : Fin 1024 → EReal) (W : Fin 1536 → Fin 1024 → EReal) (hd : ∀ k, ∃ a : ℝ, d k = (a : EReal))
    (hW : ∀ n k, ∃ a : ℝ, W n k = (a : EReal)) (n : Fin 1536) : ∃ a : ℝ, dmix d W n = (a : EReal) :=
  real_sum _ fun k => real_mul (hd k) (hW n k)

theorem rh_real (o : Fin 512 → EReal) (h : Fin 4) : ∃ a : ℝ, rh o h = (a : EReal) := by
  obtain ⟨ε, hε, he⟩ := eps_real
  unfold rh rms
  rcases mean_cases hd eps 128 ε (by norm_num) hε hd_real he (fun k => o (col h k)) with e | ⟨ν, hν, e⟩
  · exact ⟨0, by rw [e]; rfl⟩
  · exact ⟨_, by rw [e, rsqrt_real ν hν]⟩

theorem cat_real (a o b : Fin 512 → EReal) (g : Fin 128 → EReal) (ha : ∀ j, ∃ r : ℝ, a j = (r : EReal)) (ho : ∀ j, ∃ r : ℝ, o j = (r : EReal))
    (hb : ∀ j, ∃ r : ℝ, b j = (r : EReal)) (hg : ∀ k, ∃ r : ℝ, g k = (r : EReal)) (n : Fin 1536) :
    ∃ r : ℝ, cat a (normed o g) b n = (r : EReal) := by
  unfold cat
  split_ifs
  · exact ha _
  · exact real_mul (real_mul (ho _) (rh_real o _)) (hg _)
  · exact hb _

/-- The three groups from six pieces. -/
theorem cat_six (a b f : Fin 512 → EReal) (p0 p1 p2 p3 : Fin 128 → EReal) (h0 : ∀ k, p0 k = f (col 0 k)) (h1 : ∀ k, p1 k = f (col 1 k))
    (h2 : ∀ k, p2 k = f (col 2 k)) (h3 : ∀ k, p3 k = f (col 3 k)) (n : Fin 1536) :
    (if h : n.val < 512 then a ⟨n.val, h⟩
      else if h' : n.val - 512 < 128 then p0 ⟨n.val - 512, h'⟩
      else if h' : n.val - 512 - 128 < 128 then p1 ⟨n.val - 512 - 128, h'⟩
      else if h' : n.val - 512 - 128 - 128 < 128 then p2 ⟨n.val - 512 - 128 - 128, h'⟩
      else if h' : n.val - 512 - 128 - 128 - 128 < 128 then p3 ⟨n.val - 512 - 128 - 128 - 128, h'⟩
      else b ⟨n.val - 512 - 128 - 128 - 128 - 128, by omega⟩) = cat a f b n := by
  have e0 (h : n.val - 512 < 128) : col 0 ⟨n.val - 512, h⟩ = ⟨n.val - 512, by omega⟩ := Fin.ext (by simp [col])
  have e1 (h : n.val - 512 - 128 < 128) (h' : ¬n.val - 512 < 128) : col 1 ⟨n.val - 512 - 128, h⟩ = ⟨n.val - 512, by omega⟩ :=
    Fin.ext (by simp only [col, Fin.val_one]; omega)
  have e2 (h : n.val - 512 - 128 - 128 < 128) (h' : ¬n.val - 512 - 128 < 128) : col 2 ⟨n.val - 512 - 128 - 128, h⟩ = ⟨n.val - 512, by omega⟩ :=
    Fin.ext (by simp only [col, Fin.val_two]; omega)
  have e3 (h : n.val - 512 - 128 - 128 - 128 < 128) (h' : ¬n.val - 512 - 128 - 128 < 128) :
      col 3 ⟨n.val - 512 - 128 - 128 - 128, h⟩ = ⟨n.val - 512, by omega⟩ := by
    refine Fin.ext ?_
    have h3 : (3 : Fin 4).val = 3 := rfl
    simp only [col, h3]
    omega
  unfold cat
  by_cases c : n.val < 512
  · rw [dif_pos c, dif_pos c]
  rw [dif_neg c, dif_neg c]
  by_cases c0 : n.val - 512 < 128
  · rw [dif_pos c0, dif_pos (by omega), h0, e0]
  rw [dif_neg c0]
  by_cases c1 : n.val - 512 - 128 < 128
  · rw [dif_pos c1, dif_pos (by omega), h1, e1 _ c0]
  rw [dif_neg c1]
  by_cases c2 : n.val - 512 - 128 - 128 < 128
  · rw [dif_pos c2, dif_pos (by omega), h2, e2 _ c1]
  rw [dif_neg c2]
  by_cases c3 : n.val - 512 - 128 - 128 - 128 < 128
  · rw [dif_pos c3, dif_pos (by omega), h3, e3 _ c2]
  rw [dif_neg c3, dif_neg (by omega)]
  exact congrArg b (Fin.ext (by show n.val - 512 - 128 - 128 - 128 - 128 = n.val - 512 - 512; omega))

end Cert.Merge
-- ==== Proof.MergeBwd.Value.lean ====
/- The gradient of the merge: what the kernel leaves. -/
module

public import proofs.«01_k».proof.Proof.Merge
public import proofs.«01_k».proof.Proof.Gen.MergeBwdIdeal.Value
public import Idealize.ShloMosaic.Lib.Pipeline.ValueKit
public import Idealize.ShloMosaic.Lib.Pipeline.ReadBack

@[expose] public section

set_option maxRecDepth 16384

noncomputable section

namespace Cert.MergeBwdCall

open Idealize.ShloMosaic Idealize.ShloMosaic.TcCoe Cert.Merge Cert.Norm
open Cert.MergeBwdIdeal Cert.MergeBwdIdeal.Gen

theorem pay_mix (x0 : Vec Ideal S512x1024 .bf16) (x5 : Vec Ideal S1536x1024 .bf16) (r : Fin 512) (n : Fin 1536) :
    k0_pay3 (F := Ideal) x0 x5 (ix2 r n) = dmix (fun k => x0 (ix2 r k)) (fun n k => x5 (ix2 n k)) n := by
  pointwise [k0_pay3]
  rfl

theorem pay_r0 (x : Vec Ideal S512x512 .bf16) (r : Fin 512) (u : Fin 1) : k0_pay6 (F := Ideal) x (ix2 r u) = rh (fun j => x (ix2 r j)) 0 := by
  pointwise [k0_pay6, k0_pay5, k0_pay4]
  rfl

theorem pay_r1 (x : Vec Ideal S512x512 .bf16) (r : Fin 512) (u : Fin 1) : k0_pay10 (F := Ideal) x (ix2 r u) = rh (fun j => x (ix2 r j)) 1 := by
  pointwise [k0_pay10, k0_pay9, k0_pay4]
  rfl

theorem pay_r2 (x : Vec Ideal S512x512 .bf16) (r : Fin 512) (u : Fin 1) :
    k0_pay15 (F := Ideal) (k0_pay14 x) (Scalar.ofBits .f32 0x43000000#32) (ix2 r u) = rh (fun j => x (ix2 r j)) 2 := by
  pointwise [k0_pay15, k0_pay14, k0_pay13, k0_pay4]
  rfl

theorem pay_r2' (x : Vec Ideal S512x512 .bf16) (r : Fin 512) (u : Fin 1) :
    k0_pay15 (F := Ideal) (k0_pay14 x) (Ideal.ofBits .f32 0x43000000#32) (ix2 r u) = rh (fun j => x (ix2 r j)) 2 := pay_r2 x r u

theorem pay_r3 (x : Vec Ideal S512x512 .bf16) (r : Fin 512) (u : Fin 1) : k0_pay18 (F := Ideal) (k0_pay4 x) (ix2 r u) = rh (fun j => x (ix2 r j)) 3 := by
  pointwise [k0_pay18, k0_pay17, k0_pay4]
  rfl

theorem pay_x0 (x : Vec Ideal S512x512 .bf16) (r : Fin 512) (k : Fin 128) : k0_pay7 (F := Ideal) x (ix2 r k) = xh (fun j => x (ix2 r j)) 0 k := by
  pointwise [k0_pay7, k0_pay5, k0_pay4]
  rw [pay_r0]
  exact congrArg (fun i => x (ix2 r i) * rh (fun j => x (ix2 r j)) 0) (Fin.ext (by simp [col]))

theorem pay_x1 (x : Vec Ideal S512x512 .bf16) (r : Fin 512) (k : Fin 128) : k0_pay11 (F := Ideal) x (ix2 r k) = xh (fun j => x (ix2 r j)) 1 k := by
  pointwise [k0_pay11, k0_pay9, k0_pay4]
  rw [pay_r1]
  rfl

theorem pay_x2 (x : Vec Ideal S512x512 .bf16) (r : Fin 512) (k : Fin 128) :
    k0_pay16 (F := Ideal) (k0_pay13 x) (k0_pay14 x) (Scalar.ofBits .f32 0x43000000#32) (ix2 r k) = xh (fun j => x (ix2 r j)) 2 k := by
  pointwise [k0_pay16, k0_pay13]
  rw [pay_r2']
  rfl

theorem pay_x2' (x : Vec Ideal S512x512 .bf16) (r : Fin 512) (k : Fin 128) :
    k0_pay16 (F := Ideal) (k0_pay13 x) (k0_pay14 x) (Ideal.ofBits .f32 0x43000000#32) (ix2 r k) = xh (fun j => x (ix2 r j)) 2 k := pay_x2 x r k

theorem pay_x3 (x : Vec Ideal S512x512 .bf16) (r : Fin 512) (k : Fin 128) : k0_pay19 (F := Ideal) (k0_pay4 x) (ix2 r k) = xh (fun j => x (ix2 r j)) 3 k := by
  pointwise [k0_pay19, k0_pay17]
  rw [pay_r3]
  rfl

theorem pay_sg (x : Vec Ideal S512x1536 .f32) (r : Fin 512) (n : Fin 1536) : k0_pay20 (F := Ideal) x (ix2 r n) = sg (x (ix2 r n)) := by
  pointwise [k0_pay20]
  rw [zero_sub]
  rfl

/-- The tile's cotangents of the gated rows and of the rows of the three groups, and its rows of the three groups. -/
def tMix (x0 : Vec Ideal S512x1024 .bf16) (x5 : Vec Ideal S1536x1024 .bf16) (r : Fin 512) : Fin 1536 → EReal :=
  dmix (fun k => x0 (ix2 r k)) (fun n k => x5 (ix2 n k))
def tCat (x0 : Vec Ideal S512x1024 .bf16) (x4 : Vec Ideal S512x1536 .f32) (x5 : Vec Ideal S1536x1024 .bf16) (r : Fin 512) : Fin 1536 → EReal :=
  dcat (tMix x0 x5 r) (fun n => x4 (ix2 r n))
def tRow (x1 x2 x3 : Vec Ideal S512x512 .bf16) (x6 : Vec Ideal S1x128 .f32) (r : Fin 512) : Fin 1536 → EReal :=
  cat (fun j => x1 (ix2 r j)) (normed (fun j => x2 (ix2 r j)) (fun k => x6 (ix2 0 k))) (fun j => x3 (ix2 r j))

variable (x0 : Vec Ideal S512x1024 .bf16) (x1 x2 x3 : Vec Ideal S512x512 .bf16) (x4 : Vec Ideal S512x1536 .f32) (x5 : Vec Ideal S1536x1024 .bf16)
  (x6 : Vec Ideal S1x128 .f32)

theorem pay_cat (r : Fin 512) (n : Fin 1536) : k0_pay22 (F := Ideal) (k0_pay3 x0 x5) x4 (k0_pay20 x4) (ix2 r n) = tCat x0 x4 x5 r n := by
  pointwise [k0_pay22]
  rw [pay_mix, pay_sg]
  rfl

theorem pay_gate (r : Fin 512) (n : Fin 1536) :
    k0_pay21 (F := Ideal) x6 (k0_pay3 x0 x5) (k0_pay4 x2) (k0_pay8 x6 x2) (k0_pay12 x6 x2) (k0_pay13 x2) (k0_pay14 x2)
        (Scalar.ofBits .f32 0x43000000#32) x1 x3 x4 (ix2 r n)
      = rowGate (tMix x0 x5 r) (tRow x1 x2 x3 x6 r) (fun n => x4 (ix2 r n)) n := by
  pointwise [k0_pay21, k0_pay8, k0_pay12]
  simp only [pay_mix, pay_sg, pay_x0, pay_x1, pay_x2', pay_x3]
  exact congrArg (fun z : EReal => tMix x0 x5 r n * z * (sg (x4 (ix2 r n)) * (1 + x4 (ix2 r n) * (1 - sg (x4 (ix2 r n))))))
    (cat_six (fun j => x1 (ix2 r j)) (fun j => x3 (ix2 r j)) (normed (fun j => x2 (ix2 r j)) (fun k => x6 (ix2 0 k))) _ _ _ _
    (fun k => (normed_col _ _ 0 k).symm) (fun k => (normed_col _ _ 1 k).symm) (fun k => (normed_col _ _ 2 k).symm)
    (fun k => (normed_col _ _ 3 k).symm) n)

theorem pay_mla (r : Fin 512) (j : Fin 512) : k0_pay23 (F := Ideal) (k0_pay3 x0 x5) x4 (k0_pay20 x4) (ix2 r j) = tCat x0 x4 x5 r ⟨j.val, by omega⟩ := by
  pointwise [k0_pay23]
  exact pay_cat x0 x4 x5 r _

theorem pay_mem (r : Fin 512) (j : Fin 512) : k0_pay24 (F := Ideal) (k0_pay3 x0 x5) x4 (k0_pay20 x4) (ix2 r j) = tCat x0 x4 x5 r ⟨1024 + j.val, by omega⟩ := by
  pointwise [k0_pay24]
  exact pay_cat x0 x4 x5 r _

theorem pay_head0 (r : Fin 512) (k : Fin 128) :
    k0_pay26 (F := Ideal) x6 (k0_pay3 x0 x5) (k0_pay6 x2) (k0_pay7 x2) x4 (k0_pay20 x4) (ix2 r k)
      = rowHead (fun j => x2 (ix2 r j)) (fun k => x6 (ix2 0 k)) (tCat x0 x4 x5 r) 0 k := by
  pointwise [k0_pay26, k0_pay25]
  simp only [pay_r0, pay_x0, pay_cat]
  rfl

theorem pay_head1 (r : Fin 512) (k : Fin 128) :
    k0_pay31 (F := Ideal) (k0_pay10 x2) (k0_pay11 x2) (k0_pay29 x6 (k0_pay3 x0 x5) x4 (k0_pay20 x4))
        (k0_pay30 x6 (k0_pay3 x0 x5) (k0_pay11 x2) x4 (k0_pay20 x4)) (ix2 r k)
      = rowHead (fun j => x2 (ix2 r j)) (fun k => x6 (ix2 0 k)) (tCat x0 x4 x5 r) 1 k := by
  pointwise [k0_pay31, k0_pay30, k0_pay29, k0_pay27]
  simp only [pay_r1, pay_x1, pay_cat]
  rfl

theorem pay_head2 (r : Fin 512) (k : Fin 128) :
    k0_pay33 (F := Ideal) x6 (k0_pay15 (k0_pay14 x2) (Scalar.ofBits .f32 0x43000000#32))
        (k0_pay16 (k0_pay13 x2) (k0_pay14 x2) (Scalar.ofBits .f32 0x43000000#32)) (k0_pay22 (k0_pay3 x0 x5) x4 (k0_pay20 x4)) (ix2 r k)
      = rowHead (fun j => x2 (ix2 r j)) (fun k => x6 (ix2 0 k)) (tCat x0 x4 x5 r) 2 k := by
  pointwise [k0_pay33, k0_pay32]
  simp only [pay_r2', pay_x2', pay_cat]
  rfl

theorem pay_head3 (r : Fin 512) (k : Fin 128) :
    k0_pay36 (F := Ideal) x6 (k0_pay18 (k0_pay4 x2)) (k0_pay19 (k0_pay4 x2)) (k0_pay22 (k0_pay3 x0 x5) x4 (k0_pay20 x4)) (ix2 r k)
      = rowHead (fun j => x2 (ix2 r j)) (fun k => x6 (ix2 0 k)) (tCat x0 x4 x5 r) 3 k := by
  pointwise [k0_pay36, k0_pay34]
  simp only [pay_r3, pay_x3, pay_cat]
  rfl

theorem pay_norm (acc : Vec Ideal S1x128 .f32) (u : Fin 1) (k : Fin 128) :
    k0_pay1 (F := Ideal) (k0_pay35 (k0_pay16 (k0_pay13 x2) (k0_pay14 x2) (Scalar.ofBits .f32 0x43000000#32)) (k0_pay19 (k0_pay4 x2))
        (k0_pay22 (k0_pay3 x0 x5) x4 (k0_pay20 x4)) (k0_pay28 (k0_pay3 x0 x5) (k0_pay7 x2) (k0_pay11 x2) x4 (k0_pay20 x4))) acc (ix2 u k)
      = acc (ix2 u k) + ∑ r, rowNorm (fun j => x2 (ix2 r j)) (tCat x0 x4 x5 r) k := by
  pointwise [k0_pay1, k0_pay35, k0_pay34, k0_pay32, k0_pay28, k0_pay27, k0_pay25]
  simp only [pay_x0, pay_x1, pay_x2', pay_x3, pay_cat]
  refine congrArg (acc (ix2 u k) + ·) ?_
  unfold rowNorm
  simp only [Fin.sum_univ_four, Finset.sum_add_distrib]
  rfl

/-- The tile's cotangents of the heads. -/
def tHeads : Vec Ideal S512x512 .bf16 := fun y =>
  rowHead (fun j => x2 (ix2 (y 0) j)) (fun k => x6 (ix2 0 k)) (tCat x0 x4 x5 (y 0)) (headOf (y 1)) (posOf (y 1))

/-- A store of one head's columns is a block of the tile's. -/
theorem piece_head (h : Fin 4) (off : ℕ) (e : off = 128 * h.val) (inb : ∀ a, ![0, off] a + ![512, 128] a ≤ S512x512.size a)
    (r : Fin 512) (k : Fin 128) (P : EReal) (hP : P = rowHead (fun j => x2 (ix2 r j)) (fun k => x6 (ix2 0 k)) (tCat x0 x4 x5 r) h k) :
    P = tHeads x0 x2 x4 x5 x6 ((Rect.unit (s := S512x512) ![0, off] ![512, 128] inb).emb (ix2 r k)) := by
  subst e
  have e : (Rect.unit (s := S512x512) ![0, 128 * h.val] ![512, 128] inb).emb (ix2 r k) = ix2 r (col h k) := by
    funext a; refine Fin.ext ?_; fin_cases a <;> simp [col, mul_comm]
  rw [e, hP]
  show _ = rowHead (fun j => x2 (ix2 r j)) (fun k => x6 (ix2 0 k)) (tCat x0 x4 x5 r) (headOf (col h k)) (posOf (col h k))
  rw [headOf_col, posOf_col]

variable (m : (ℓ : Loc nD τ sig) → Buf (Elt Ideal) ℓ) (c : Dev nD) (t : Fin cfg0.N)

theorem gate_A (h0 : t.val % 8 = 0) (y : S512x1536.Idx) : (outsAt0 m c t.val t.isLt).1 y
    = rowGate (tMix (iblk m c 0 t) (iblk m c 5 t) (y 0)) (tRow (iblk m c 1 t) (iblk m c 2 t) (iblk m c 3 t) (iblk m c 6 t) (y 0)) (fun n => iblk m c 4 t (ix2 (y 0) n)) (y 1) := by
  rw [Gen.outsAt0_A m c t h0]
  frame_open
  frame_out
  idx_vars y
  exact pay_gate _ _ _ _ _ _ _ y0 y1

theorem gate_B (h0 : ¬t.val % 8 = 0) (y : S512x1536.Idx) : (outsAt0 m c t.val t.isLt).1 y
    = rowGate (tMix (iblk m c 0 t) (iblk m c 5 t) (y 0)) (tRow (iblk m c 1 t) (iblk m c 2 t) (iblk m c 3 t) (iblk m c 6 t) (y 0)) (fun n => iblk m c 4 t (ix2 (y 0) n)) (y 1) := by
  rw [Gen.outsAt0_B m c t h0]
  frame_open
  frame_out
  idx_vars y
  exact pay_gate _ _ _ _ _ _ _ y0 y1

theorem mla_A (h0 : t.val % 8 = 0) (y : S512x512.Idx) : (outsAt0 m c t.val t.isLt).2.1 y
    = tCat (iblk m c 0 t) (iblk m c 4 t) (iblk m c 5 t) (y 0) ⟨(y 1).val, by have := (y 1).isLt; simp at this; omega⟩ := by
  rw [Gen.outsAt0_A m c t h0]
  frame_open
  frame_out
  idx_vars y
  exact pay_mla _ _ _ y0 y1

theorem mla_B (h0 : ¬t.val % 8 = 0) (y : S512x512.Idx) : (outsAt0 m c t.val t.isLt).2.1 y
    = tCat (iblk m c 0 t) (iblk m c 4 t) (iblk m c 5 t) (y 0) ⟨(y 1).val, by have := (y 1).isLt; simp at this; omega⟩ := by
  rw [Gen.outsAt0_B m c t h0]
  frame_open
  frame_out
  idx_vars y
  exact pay_mla _ _ _ y0 y1

theorem mem_A (h0 : t.val % 8 = 0) (y : S512x512.Idx) : (outsAt0 m c t.val t.isLt).2.2.2.1 y
    = tCat (iblk m c 0 t) (iblk m c 4 t) (iblk m c 5 t) (y 0) ⟨1024 + (y 1).val, by have := (y 1).isLt; simp at this; omega⟩ := by
  rw [Gen.outsAt0_A m c t h0]
  frame_open
  frame_out
  idx_vars y
  exact pay_mem _ _ _ y0 y1

theorem mem_B (h0 : ¬t.val % 8 = 0) (y : S512x512.Idx) : (outsAt0 m c t.val t.isLt).2.2.2.1 y
    = tCat (iblk m c 0 t) (iblk m c 4 t) (iblk m c 5 t) (y 0) ⟨1024 + (y 1).val, by have := (y 1).isLt; simp at this; omega⟩ := by
  rw [Gen.outsAt0_B m c t h0]
  frame_open
  frame_out
  idx_vars y
  exact pay_mem _ _ _ y0 y1

theorem gdn_A (h0 : t.val % 8 = 0) (y : S512x512.Idx) : (outsAt0 m c t.val t.isLt).2.2.1 y
    = tHeads (iblk m c 0 t) (iblk m c 2 t) (iblk m c 4 t) (iblk m c 5 t) (iblk m c 6 t) y := by
  rw [Gen.outsAt0_A m c t h0]
  frame_open
  frame_out
  refine View.canon_append_of_piecesOf _ [] [_, _, _, _] ⟨?_, ?_, ?_, ?_, trivial⟩ y ?_
  · intro x; idx_vars x; exact piece_head _ _ _ _ _ 3 _ rfl _ x0 x1 _ (pay_head3 _ _ _ _ _ _ _)
  · intro x; idx_vars x; exact piece_head _ _ _ _ _ 2 _ rfl _ x0 x1 _ (pay_head2 _ _ _ _ _ _ _)
  · intro x; idx_vars x; exact piece_head _ _ _ _ _ 1 _ rfl _ x0 x1 _ (pay_head1 _ _ _ _ _ _ _)
  · intro x; idx_vars x; exact piece_head _ _ _ _ _ 0 _ rfl _ x0 x1 _ (pay_head0 _ _ _ _ _ _ _)
  · exact View.cover_of_tiledL _ ![512, 128] (by sl_kernel_rfl) _

theorem gdn_B (h0 : ¬t.val % 8 = 0) (y : S512x512.Idx) : (outsAt0 m c t.val t.isLt).2.2.1 y
    = tHeads (iblk m c 0 t) (iblk m c 2 t) (iblk m c 4 t) (iblk m c 5 t) (iblk m c 6 t) y := by
  rw [Gen.outsAt0_B m c t h0]
  frame_open
  frame_out
  refine View.canon_append_of_piecesOf _ [] [_, _, _, _] ⟨?_, ?_, ?_, ?_, trivial⟩ y ?_
  · intro x; idx_vars x; exact piece_head _ _ _ _ _ 3 _ rfl _ x0 x1 _ (pay_head3 _ _ _ _ _ _ _)
  · intro x; idx_vars x; exact piece_head _ _ _ _ _ 2 _ rfl _ x0 x1 _ (pay_head2 _ _ _ _ _ _ _)
  · intro x; idx_vars x; exact piece_head _ _ _ _ _ 1 _ rfl _ x0 x1 _ (pay_head1 _ _ _ _ _ _ _)
  · intro x; idx_vars x; exact piece_head _ _ _ _ _ 0 _ rfl _ x0 x1 _ (pay_head0 _ _ _ _ _ _ _)
  · exact View.cover_of_tiledL _ ![512, 128] (by sl_kernel_rfl) _

theorem norm_A (h0 : t.val % 8 = 0) (y : S1x128.Idx) : (outsAt0 m c t.val t.isLt).2.2.2.2 y
    = k0_pay2 (F := Ideal) y + ∑ r, rowNorm (fun j => iblk m c 2 t (ix2 r j)) (tCat (iblk m c 0 t) (iblk m c 4 t) (iblk m c 5 t) r) (y 1) := by
  rw [Gen.outsAt0_A m c t h0]
  frame_open
  frame_out
  idx_vars y
  exact pay_norm _ _ _ _ _ y0 y1

theorem norm_B (h0 : ¬t.val % 8 = 0) (y : S1x128.Idx) : (outsAt0 m c t.val t.isLt).2.2.2.2 y
    = (outsAt0 m c (t.val - 1) (Nat.lt_of_le_of_lt (Nat.sub_le _ _) t.isLt)).2.2.2.2 y + ∑ r, rowNorm (fun j => iblk m c 2 t (ix2 r j)) (tCat (iblk m c 0 t) (iblk m c 4 t) (iblk m c 5 t) r) (y 1) := by
  rw [Gen.outsAt0_B m c t h0]
  frame_open
  frame_out
  idx_vars y
  exact pay_norm _ _ _ _ _ y0 y1

/-- The rows of the whole arrays: the cotangents of the gated row and of the row of the three groups, and that row. -/
def aMix (d : S4096x1024.Idx → EReal) (W : S1536x1024.Idx → EReal) (i : Fin 4096) : Fin 1536 → EReal :=
  dmix (fun k => d (ix2 i k)) (fun n k => W (ix2 n k))
def aGate (P : S4096x4608.Idx → EReal) (i : Fin 4096) (n : Fin 1536) : EReal := P (ix2 i ⟨3072 + n.val, by omega⟩)
def aCat (d : S4096x1024.Idx → EReal) (P : S4096x4608.Idx → EReal) (W : S1536x1024.Idx → EReal) (i : Fin 4096) : Fin 1536 → EReal :=
  dcat (aMix d W i) (aGate P i)
def aRow (a o b : S4096x512.Idx → EReal) (g : S1x128.Idx → EReal) (i : Fin 4096) : Fin 1536 → EReal :=
  cat (fun j => a (ix2 i j)) (normed (fun j => o (ix2 i j)) (fun k => g (ix2 0 k))) (fun j => b (ix2 i j))

/-- The five results. -/
def gGate (d : S4096x1024.Idx → EReal) (a o b : S4096x512.Idx → EReal) (P : S4096x4608.Idx → EReal) (W : S1536x1024.Idx → EReal)
    (g : S1x128.Idx → EReal) (y : S4096x1536.Idx) : EReal := rowGate (aMix d W (y 0)) (aRow a o b g (y 0)) (aGate P (y 0)) (y 1)
def gMla (d : S4096x1024.Idx → EReal) (P : S4096x4608.Idx → EReal) (W : S1536x1024.Idx → EReal) (y : S4096x512.Idx) : EReal :=
  aCat d P W (y 0) ⟨(y 1).val, Nat.lt_of_lt_of_le (y 1).isLt (by decide)⟩
def gGdn (d : S4096x1024.Idx → EReal) (o : S4096x512.Idx → EReal) (P : S4096x4608.Idx → EReal) (W : S1536x1024.Idx → EReal)
    (g : S1x128.Idx → EReal) (y : S4096x512.Idx) : EReal :=
  rowHead (fun j => o (ix2 (y 0) j)) (fun k => g (ix2 0 k)) (aCat d P W (y 0)) (headOf (y 1)) (posOf (y 1))
def gMem (d : S4096x1024.Idx → EReal) (P : S4096x4608.Idx → EReal) (W : S1536x1024.Idx → EReal) (y : S4096x512.Idx) : EReal :=
  aCat d P W (y 0) ⟨1024 + (y 1).val, Nat.lt_of_lt_of_le (Nat.add_lt_add_left (y 1).isLt 1024) (by decide)⟩
def gNorm (d : S4096x1024.Idx → EReal) (o : S4096x512.Idx → EReal) (P : S4096x4608.Idx → EReal) (W : S1536x1024.Idx → EReal)
    (y : S1x128.Idx) : EReal := ∑ i : Fin 4096, rowNorm (fun j => o (ix2 i j)) (aCat d P W i) (y 1)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 2] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

theorem lt8 (t : Fin cfg0.N) : t.val < 8 := Nat.lt_of_lt_of_eq t.isLt N_0

/-- Row `r` of tile `t`. -/
abbrev row (r : Fin 512) : Fin 4096 := ⟨t.val * 512 + r.val, by have := lt8 t; omega⟩

theorem read0 (r : Fin 512) (k : Fin 1024) : iblk m c 0 t (ix2 r k) = m ((c.tc : Thread nD τ).loc main_arg0) (ix2 (row t r) k) := by
  show iblk m c 0 t (ix2 r k) = m ((c.tc : Thread nD τ).loc main_arg0) (ix2 _ _)
  blk_ext [iblk, V, idx t]

theorem read1 (r : Fin 512) (k : Fin 512) : iblk m c 1 t (ix2 r k) = m ((c.tc : Thread nD τ).loc main_arg1) (ix2 (row t r) k) := by
  show iblk m c 1 t (ix2 r k) = m ((c.tc : Thread nD τ).loc main_arg1) (ix2 _ _)
  blk_ext [iblk, V, idx t]

theorem read2 (r : Fin 512) (k : Fin 512) : iblk m c 2 t (ix2 r k) = m ((c.tc : Thread nD τ).loc main_arg2) (ix2 (row t r) k) := by
  show iblk m c 2 t (ix2 r k) = m ((c.tc : Thread nD τ).loc main_arg2) (ix2 _ _)
  blk_ext [iblk, V, idx t]

theorem read3 (r : Fin 512) (k : Fin 512) : iblk m c 3 t (ix2 r k) = m ((c.tc : Thread nD τ).loc main_arg3) (ix2 (row t r) k) := by
  show iblk m c 3 t (ix2 r k) = m ((c.tc : Thread nD τ).loc main_arg3) (ix2 _ _)
  blk_ext [iblk, V, idx t]

theorem read4 (r : Fin 512) (n : Fin 1536) : iblk m c 4 t (ix2 r n) = aGate (m ((c.tc : Thread nD τ).loc main_arg4)) (row t r) n := by
  show iblk m c 4 t (ix2 r n) = m ((c.tc : Thread nD τ).loc main_arg4) (ix2 _ _)
  blk_ext [iblk, V, idx t]

theorem read5 (n : Fin 1536) (k : Fin 1024) : iblk m c 5 t (ix2 n k) = m ((c.tc : Thread nD τ).loc main_arg5) (ix2 n k) := by
  show iblk m c 5 t (ix2 n k) = m ((c.tc : Thread nD τ).loc main_arg5) (ix2 _ _)
  blk_ext [iblk, V, idx t]

theorem read6 (k : Fin 128) : iblk m c 6 t (ix2 0 k) = m ((c.tc : Thread nD τ).loc main_arg6) (ix2 0 k) := by
  show iblk m c 6 t (ix2 0 k) = m ((c.tc : Thread nD τ).loc main_arg6) (ix2 _ _)
  blk_ext [iblk, V, idx t]

theorem tile_mix (r : Fin 512) : tMix (iblk m c 0 t) (iblk m c 5 t) r = aMix (m ((c.tc : Thread nD τ).loc main_arg0)) (m ((c.tc : Thread nD τ).loc main_arg5)) (row t r) := by
  unfold tMix aMix
  simp only [read0, read5]

theorem tile_cat (r : Fin 512) : tCat (iblk m c 0 t) (iblk m c 4 t) (iblk m c 5 t) r = aCat (m ((c.tc : Thread nD τ).loc main_arg0)) (m ((c.tc : Thread nD τ).loc main_arg4)) (m ((c.tc : Thread nD τ).loc main_arg5)) (row t r) := by
  unfold tCat aCat
  rw [tile_mix]
  simp only [read4]

theorem tile_row (r : Fin 512) : tRow (iblk m c 1 t) (iblk m c 2 t) (iblk m c 3 t) (iblk m c 6 t) r
    = aRow (m ((c.tc : Thread nD τ).loc main_arg1)) (m ((c.tc : Thread nD τ).loc main_arg2)) (m ((c.tc : Thread nD τ).loc main_arg3)) (m ((c.tc : Thread nD τ).loc main_arg6)) (row t r) := by
  unfold tRow aRow
  simp only [read1, read2, read3, read6]

theorem kernel_gate : (dats m 0 c).arrAt 7 cfg0.N = gGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp [idx t]
  rw [after0_7]
  idx_vars y
  have e : ((View.whole main_v0_0).slice (win0_7.rect t)).emb (ix2 y0 y1) = ix2 (row t y0) y1 := by
    blk_ext [idx t]
  rw [e]
  refine (if h : t.val % 8 = 0 then gate_A m c t h _ else gate_B m c t h _).trans ?_
  show rowGate (tMix (iblk m c 0 t) (iblk m c 5 t) y0) (tRow (iblk m c 1 t) (iblk m c 2 t) (iblk m c 3 t) (iblk m c 6 t) y0)
    (fun n => iblk m c 4 t (ix2 y0 n)) y1 = _
  rw [tile_mix, tile_row, funext (read4 m c t y0)]
  rfl

theorem kernel_mla : (dats m 0 c).arrAt 8 cfg0.N = gMla (m ((c.tc : Thread nD τ).loc main_arg0)) (m ((c.tc : Thread nD τ).loc main_arg4)) (m ((c.tc : Thread nD τ).loc main_arg5)) := by
  refine (dats m 0 c).arrAt_eq_of_covers 8 _ (by decide +kernel) fun t hf y => ?_
  blk_simp [idx t]
  rw [after0_8]
  idx_vars y
  have e : ((View.whole main_v0_1).slice (win0_8.rect t)).emb (ix2 y0 y1) = ix2 (row t y0) y1 := by
    blk_ext [idx t]
  rw [e]
  refine (if h : t.val % 8 = 0 then mla_A m c t h _ else mla_B m c t h _).trans ?_
  show tCat (iblk m c 0 t) (iblk m c 4 t) (iblk m c 5 t) y0 _ = _
  rw [tile_cat]
  rfl

theorem kernel_gdn : (dats m 0 c).arrAt 9 cfg0.N = gGdn (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp [idx t]
  rw [after0_9]
  idx_vars y
  have e : ((View.whole main_v0_2).slice (win0_9.rect t)).emb (ix2 y0 y1) = ix2 (row t y0) y1 := by
    blk_ext [idx t]
  rw [e]
  refine (if h : t.val % 8 = 0 then gdn_A m c t h _ else gdn_B m c t h _).trans ?_
  show rowHead (fun j => iblk m c 2 t (ix2 y0 j)) (fun k => iblk m c 6 t (ix2 0 k)) (tCat (iblk m c 0 t) (iblk m c 4 t) (iblk m c 5 t) y0)
    (headOf y1) (posOf y1) = _
  rw [tile_cat, funext (read2 m c t y0), funext (read6 m c t)]
  rfl

theorem kernel_mem : (dats m 0 c).arrAt 10 cfg0.N = gMem (m ((c.tc : Thread nD τ).loc main_arg0)) (m ((c.tc : Thread nD τ).loc main_arg4)) (m ((c.tc : Thread nD τ).loc main_arg5)) := by
  refine (dats m 0 c).arrAt_eq_of_covers 10 _ (by decide +kernel) fun t hf y => ?_
  blk_simp [idx t]
  rw [after0_10]
  idx_vars y
  have e : ((View.whole main_v0_3).slice (win0_10.rect t)).emb (ix2 y0 y1) = ix2 (row t y0) y1 := by
    blk_ext [idx t]
  rw [e]
  refine (if h : t.val % 8 = 0 then mem_A m c t h _ else mem_B m c t h _).trans ?_
  show tCat (iblk m c 0 t) (iblk m c 4 t) (iblk m c 5 t) y0 _ = _
  rw [tile_cat]
  rfl

theorem kernel_norm : (dats m 0 c).arrAt 11 cfg0.N = gNorm (m ((c.tc : Thread nD τ).loc main_arg0)) (m ((c.tc : Thread nD τ).loc main_arg2)) (m ((c.tc : Thread nD τ).loc main_arg4)) (m ((c.tc : Thread nD τ).loc main_arg5)) := by
  refine (dats m 0 c).arrAt_eq_of_covers 11 _ (by decide +kernel) fun t hf y => ?_
  blk_simp [idx t]
  rw [after0_11]
  idx_vars y
  have h3 := (flush0_11 t).mp hf
  have ht := lt8 t
  have e : ((View.whole main_v0_4).slice (win0_11.rect t)).emb (ix2 y0 y1) = ix2 y0 y1 := by
    blk_ext [idx t]
  rw [e]
  refine (Pipeline.eq_sum_fin_of_reset_step_apply_of_flush (fun n h => (outsAt0 m c n h).2.2.2.2) 8 (k0_pay2 (F := Ideal))
    (fun t y => ∑ r, rowNorm (fun j => iblk m c 2 t (ix2 r j)) (tCat (iblk m c 0 t) (iblk m c 4 t) (iblk m c 5 t) r) (y 1))
    (fun t h y => norm_A m c t h y) (fun t h y => norm_B m c t h y) t h3 (ix2 y0 y1)).trans ?_
  have h0 : k0_pay2 (F := Ideal) (ix2 y0 y1) = 0 := by pointwise [k0_pay2]
  rw [h0, zero_add]
  refine (Fin.sum_fin_congr fun s => Finset.sum_congr rfl fun r _ => congrArg₂ (fun a b => rowNorm a b y1)
    (funext fun k => read2 m c _ r k) (tile_cat m c _ r)).trans ?_
  refine Fin.sum_mul_add_congr fun s k hl => ?_
  have h8 : t.val / 8 = 0 := by omega
  exact congrArg (fun i : Fin 4096 => rowNorm (fun j => m ((c.tc : Thread nD τ).loc main_arg2) (ix2 i j)) (aCat (m ((c.tc : Thread nD τ).loc main_arg0)) (m ((c.tc : Thread nD τ).loc main_arg4)) (m ((c.tc : Thread nD τ).loc main_arg5)) i) y1)
    (Fin.ext (by show (8 * (t.val / 8) + s.val) * 512 + k.val = s.val * 512 + k.val; omega))

end Cert.MergeBwdCall
-- ==== Proof.MergeBwd.Ref.lean ====
/- The gradient of the merge: the reference's five results. -/
module

public import proofs.«01_k».proof.Proof.MergeBwd.Value
public import proofs.«01_k».proof.Proof.Gen.MergeBwdRefIdeal.Read

@[expose] public section

set_option maxRecDepth 16384

noncomputable section

namespace Cert.MergeBwdCall

open Idealize.ShloMosaic Idealize.ShloMosaic.TcCoe Cert.Merge Cert.Norm
open Cert.MergeBwdRefIdeal Cert.MergeBwdRefIdeal.Read

variable (x0 : Vec Ideal S4096x1024 .bf16) (x1 x2 x3 : Vec Ideal S4096x512 .bf16) (x4 : Vec Ideal S4096x4608 .f32) (x5 : Vec Ideal S1536x1024 .bf16)
  (x6 : Vec Ideal S1x128 .f32)

theorem ref_head (i : Fin 4096) (h : Fin 4) (k : Fin 128) : val_main_v4 (F := Ideal) x2 (ix3 i h k) = x2 (ix2 i (col h k)) := by
  pointwise [val_main_v4, val_main_v2]
  rfl

theorem ref_mean (i : Fin 4096) (h : Fin 4) (u : Fin 1) : val_main_v12 (F := Ideal) x2 (ix3 i h u) = mean hd eps (fun k => x2 (ix2 i (col h k))) := by
  pointwise [val_main_v12, val_main_v10, val_main_v8, val_main_v7, val_main_v6, val_main_v9, val_main_v11, val_main_cst, val_main_cst_0, val_main_cst_1]
  simp only [ref_head]
  rfl

theorem ref_rms (i : Fin 4096) (h : Fin 4) (u : Fin 1) : val_main_v13 (F := Ideal) x2 (ix3 i h u) = rh (fun j => x2 (ix2 i j)) h := by
  rw [val_main_v13_apply]
  rw [ref_mean]
  rfl

theorem ref_xh (i : Fin 4096) (h : Fin 4) (k : Fin 128) : val_main_v18 (F := Ideal) x2 (ix3 i h k) = xh (fun j => x2 (ix2 i j)) h k := by
  pointwise [val_main_v18, val_main_v17]
  rw [ref_head, ref_rms]
  rfl

theorem ref_normed (i : Fin 4096) (j : Fin 512) : val_main_v22 (F := Ideal) x2 x6 (ix2 i j) = normed (fun j => x2 (ix2 i j)) (fun k => x6 (ix2 0 k)) j := by
  pointwise [val_main_v22, val_main_v21, val_main_v20, val_main_v19, val_main_v5]
  rw [ref_xh]
  rfl

theorem ref_cat (i : Fin 4096) (n : Fin 1536) : val_main_v23 (F := Ideal) x1 x2 x3 x6 (ix2 i n) = aRow x1 x2 x3 x6 i n := by
  pointwise [val_main_v23, val_main_v1, val_main_v3]
  simp only [ref_normed]
  rfl

theorem ref_dmix (i : Fin 4096) (n : Fin 1536) : val_main_v29 (F := Ideal) x0 x5 (ix2 i n) = aMix x0 x5 i n := by
  pointwise [val_main_v29, val_main_v28, val_main_v26]
  rfl

theorem ref_gate (i : Fin 4096) (n : Fin 1536) : val_main_v0 (F := Ideal) x4 (ix2 i n) = aGate x4 i n := by
  pointwise [val_main_v0]
  rfl

theorem ref_sg (i : Fin 4096) (n : Fin 1536) : val_main_v24_2 (F := Ideal) x4 (ix2 i n) = sg (aGate x4 i n) := by
  pointwise [val_main_v24_2, val_main_call0_v4, val_main_call0_cst_0, val_main_call0_v3, val_main_call0_v2, val_main_call0_cst, val_main_call0_v1, val_main_call0_v0]
  rw [ref_gate]
  rfl

theorem ref_dcat (i : Fin 4096) (n : Fin 1536) : val_main_v31 (F := Ideal) x0 x4 x5 (ix2 i n) = aCat x0 x4 x5 i n := by
  pointwise [val_main_v31, val_main_v24_0]
  rw [ref_dmix, ref_gate, ref_sg]
  rfl

theorem ref_seg (i : Fin 4096) (h : Fin 4) (k : Fin 128) : val_main_v36 (F := Ideal) x0 x4 x5 (ix3 i h k) = aCat x0 x4 x5 i (seg h k) := by
  pointwise [val_main_v36, val_main_v34]
  rw [ref_dcat]
  exact congrArg (aCat x0 x4 x5 i) (Fin.ext (by show 512 + (h.val * 128 + k.val) = 512 + h.val * 128 + k.val; omega))

theorem ref_mla (y : S4096x512.Idx) : val_main_v60 (F := Ideal) x0 x4 x5 y = gMla x0 x4 x5 y := by
  idx_vars y
  pointwise [val_main_v60, val_main_v33]
  exact ref_dcat x0 x4 x5 y0 _

theorem ref_mem (y : S4096x512.Idx) : val_main_v62 (F := Ideal) x0 x4 x5 y = gMem x0 x4 x5 y := by
  idx_vars y
  pointwise [val_main_v62, val_main_v35]
  exact ref_dcat x0 x4 x5 y0 _

theorem ref_scaled (i : Fin 4096) (h : Fin 4) (k : Fin 128) :
    val_main_v37 (F := Ideal) x0 x2 x4 x5 (ix3 i h k) = aCat x0 x4 x5 i (seg h k) * xh (fun j => x2 (ix2 i j)) h k := by
  pointwise [val_main_v37]
  rw [ref_xh, ref_seg, mul_comm]

theorem ref_heads (k : Fin 128) : val_main_v38 (F := Ideal) x0 x2 x4 x5 (ix1 k) = gNorm x0 x2 x4 x5 (ix2 0 k) := by
  refine (sum_rows_heads _ (val_main_v37 (F := Ideal) x0 x2 x4 x5) _ k).trans ?_
  have e : (val_main_cst_3 (F := Ideal)) (Shape.Idx.first (by decide)) = 0 := by
    rw [val_main_cst_3_apply]
    simp
  simp only [ref_scaled]
  refine (congrArg (· + _) e).trans ?_
  rw [zero_add]
  rfl

theorem ref_norm (y : S1x128.Idx) : val_main_v57 (F := Ideal) x0 x2 x4 x5 y = gNorm x0 x2 x4 x5 y := by
  idx_vars y
  pointwise [val_main_v57]
  refine (sum_rows_heads _ (val_main_v39 (F := Ideal) x0 x2 x4 x5) _ y1).trans ?_
  have e : (val_main_cst_4 (F := Ideal)) (Shape.Idx.first (by decide)) = 0 := by
    rw [val_main_cst_4_apply]
    simp
  refine (congrArg (· + _) e).trans ?_
  rw [zero_add]
  simp only [Finset.univ_unique, Finset.sum_singleton]
  pointwise [val_main_v39]
  rw [ref_heads]
  rfl

theorem ref_gdn (y : S4096x512.Idx) : val_main_v61 (F := Ideal) x0 x2 x4 x5 x6 y = gGdn x0 x2 x4 x5 x6 y := by
  idx_vars y
  pointwise [val_main_v61, val_main_v58, val_main_v56, val_main_v55, val_main_v54, val_main_v53, val_main_v52, val_main_v51, val_main_v50, val_main_v49, val_main_v48, val_main_v47, val_main_v46, val_main_v45, val_main_v44, val_main_v43, val_main_v41, val_main_v40, val_main_v19, val_main_v5, val_main_v16, val_main_v15, val_main_v14, val_main_cst_2, val_main_cst_5, val_main_cst_6, val_main_cst_7]
  simp only [ref_seg, ref_head, ref_rms, ref_mean, Finset.univ_unique, Finset.sum_singleton]
  obtain ⟨ε, hε, he⟩ := eps_real
  have e := pull hd eps _ 128 ε (by norm_num) hε hd_real he half_real (fun k => x2 (ix2 y0 (col (headOf y1) k)))
    (fun k => aCat x0 x4 x5 y0 (seg (headOf y1) k) * x6 (ix2 0 k)) 0 (posOf y1)
  rw [zero_add, zero_add] at e
  exact e

/-- The gate's cotangent where its factors are real. -/
theorem ref_dgate (hd : ∀ i k, ∃ a : ℝ, x0 (ix2 i k) = (a : EReal)) (h1 : ∀ i k, ∃ a : ℝ, x1 (ix2 i k) = (a : EReal))
    (h2 : ∀ i k, ∃ a : ℝ, x2 (ix2 i k) = (a : EReal)) (h3 : ∀ i k, ∃ a : ℝ, x3 (ix2 i k) = (a : EReal))
    (h5 : ∀ i k, ∃ a : ℝ, x5 (ix2 i k) = (a : EReal)) (h6 : ∀ k, ∃ a : ℝ, x6 (ix2 0 k) = (a : EReal)) (y : S4096x1536.Idx) :
    val_main_v59 (F := Ideal) x0 x1 x2 x3 x4 x5 x6 y = gGate x0 x1 x2 x3 x4 x5 x6 y := by
  idx_vars y
  pointwise [val_main_v59, val_main_v32, val_main_call1_v0, val_main_call1_v1, val_main_call1_v2, val_main_v30, val_main_v24_1, val_main_call0_v7, val_main_call0_v6, val_main_call0_cst_1]
  simp only [ref_cat, ref_dmix, ref_gate, ref_sg]
  obtain ⟨u, hu⟩ := real_mul (dmix_real (fun k => x0 (ix2 y0 k)) (fun n k => x5 (ix2 n k)) (fun k => hd y0 k) (fun n k => h5 n k) y1)
    (cat_real (fun j => x1 (ix2 y0 j)) (fun j => x2 (ix2 y0 j)) (fun j => x3 (ix2 y0 j)) (fun k => x6 (ix2 0 k)) (fun j => h1 y0 j) (fun j => h2 y0 j) (fun j => h3 y0 j) h6 y1)
  have hu' : aMix x0 x5 y0 y1 * aRow x1 x2 x3 x6 y0 y1 = (u : EReal) := hu
  show _ = aMix x0 x5 y0 y1 * aRow x1 x2 x3 x6 y0 y1 * _
  rw [mul_comm (aRow x1 x2 x3 x6 y0 y1), hu']
  exact gate_eq u _

end Cert.MergeBwdCall
-- ==== Proof.MergeBwd.Claims.lean ====
/- The claims about the gradient of the merge. -/
module

public import proofs.«01_k».proof.Defs
public import proofs.«01_k».proof.Proof.Gen.MergeBwd.Frame
public import proofs.«01_k».proof.Proof.MergeBwd.Ref
public import proofs.«01_k».proof.Proof.Mem.Agree
public import proofs.«01_k».proof.Proof.Gen.MergeBwdRefIdeal.Run

@[expose] public section

noncomputable section

namespace Cert.MergeBwdCall

open Idealize.ShloMosaic Idealize.SL.Sem

instance preFacts : Cert.Pre_merge_finite.Facts where
  bitsLt_bf16_f32 := by decide
  bcast_S_S4096x1024 := by decide
  bcast_S_S4096x512 := by decide
  bcast_S_S1536x1024 := by decide
  bcast_S_S1x128 := by decide

theorem frame_kernel : Cert.quiescent_MergeBwd := fun m ρ _ => Cert.MergeBwd.Gen.frame m ρ

theorem frame_ideal : Cert.quiescent_MergeBwdIdeal := fun m ρ _ => Cert.MergeBwdIdeal.Gen.frame m ρ

theorem frame_ideal_pre : Cert.quiescent_MergeBwdIdeal_pre_merge_finite := fun m ρ _ => Cert.MergeBwdIdeal.Gen.frame m ρ

theorem frame_ref : Cert.quiescent_MergeBwdRefIdeal := fun m ρ _ =>
  (θ_run Cert.MergeBwdRefIdeal.defs _ _).mono (fun r h => ⟨fun c => (h c).2.2.2.2.2, sem_eq_zero_of_no_sems (by decide) r.2⟩)
    (Cert.MergeBwdRefIdeal.Value.run m ρ)

theorem frame_ref_pre : Cert.quiescent_MergeBwdRefIdeal_pre_merge_finite := fun m ρ _ => frame_ref m ρ trivial

theorem preserves : Cert.preserves_MergeBwd_MergeBwdIdeal := trivial

section
variable (x0 : Vec Ideal Cert.MergeBwdIdeal.S4096x1024 .bf16) (x1 x2 x3 : Vec Ideal Cert.MergeBwdIdeal.S4096x512 .bf16) (x4 : Vec Ideal Cert.MergeBwdIdeal.S4096x4608 .f32)
  (x5 : Vec Ideal Cert.MergeBwdIdeal.S1536x1024 .bf16) (x6 : Vec Ideal Cert.MergeBwdIdeal.S1x128 .f32)

theorem pre_x0 (hp : (Cert.Pre_merge_finite.fn (F := Ideal) x0 x1 x2 x3 x4 x5 x6).1 = fun _ => 1#1) (i : Fin 4096) (k : Fin 1024) : ∃ a : ℝ, x0 (ix2 i k) = (a : EReal) := by
  refine Cert.Mem.real_of_abs ?_
  have e := congrFun hp (ix2 i k)
  pointwise [Cert.Pre_merge_finite.fn, Cert.Pre_merge_finite.fn_part1] at e
  exact e

theorem pre_x1 (hp : (Cert.Pre_merge_finite.fn (F := Ideal) x0 x1 x2 x3 x4 x5 x6).2.1 = fun _ => 1#1) (i : Fin 4096) (k : Fin 512) : ∃ a : ℝ, x1 (ix2 i k) = (a : EReal) := by
  refine Cert.Mem.real_of_abs ?_
  have e := congrFun hp (ix2 i k)
  pointwise [Cert.Pre_merge_finite.fn, Cert.Pre_merge_finite.fn_part1] at e
  exact e

theorem pre_x2 (hp : (Cert.Pre_merge_finite.fn (F := Ideal) x0 x1 x2 x3 x4 x5 x6).2.2.1 = fun _ => 1#1) (i : Fin 4096) (k : Fin 512) : ∃ a : ℝ, x2 (ix2 i k) = (a : EReal) := by
  refine Cert.Mem.real_of_abs ?_
  have e := congrFun hp (ix2 i k)
  pointwise [Cert.Pre_merge_finite.fn, Cert.Pre_merge_finite.fn_part1] at e
  exact e

theorem pre_x3 (hp : (Cert.Pre_merge_finite.fn (F := Ideal) x0 x1 x2 x3 x4 x5 x6).2.2.2.1 = fun _ => 1#1) (i : Fin 4096) (k : Fin 512) : ∃ a : ℝ, x3 (ix2 i k) = (a : EReal) := by
  refine Cert.Mem.real_of_abs ?_
  have e := congrFun hp (ix2 i k)
  pointwise [Cert.Pre_merge_finite.fn, Cert.Pre_merge_finite.fn_part1] at e
  exact e

theorem pre_x5 (hp : (Cert.Pre_merge_finite.fn (F := Ideal) x0 x1 x2 x3 x4 x5 x6).2.2.2.2.1 = fun _ => 1#1) (i : Fin 1536) (k : Fin 1024) : ∃ a : ℝ, x5 (ix2 i k) = (a : EReal) := by
  refine Cert.Mem.real_of_abs ?_
  have e := congrFun hp (ix2 i k)
  pointwise [Cert.Pre_merge_finite.fn, Cert.Pre_merge_finite.fn_part1] at e
  exact e

theorem pre_x6 (hp : (Cert.Pre_merge_finite.fn (F := Ideal) x0 x1 x2 x3 x4 x5 x6).2.2.2.2.2 = fun _ => 1#1) (i : Fin 1) (k : Fin 128) : ∃ a : ℝ, x6 (ix2 i k) = (a : EReal) := by
  refine Cert.Mem.real_of_abs ?_
  have e := congrFun hp (ix2 i k)
  pointwise [Cert.Pre_merge_finite.fn, Cert.Pre_merge_finite.fn_part1] at e
  exact e

end

/-- Where the gate's factors are real both programs end with the five gradients. -/
theorem algebraic : Cert.algebraic_MergeBwdIdeal_MergeBwdRefIdeal_pre_merge_finite := by
  intro m g m' g' hp ha
  refine ⟨fun c => gGate (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)),
    fun c => gMla (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)),
    fun c => gGdn (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)),
    fun c => gMem (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)),
    fun c => gNorm (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)), ?_, ?_⟩
  · refine (θ_run _ _ _).mono (fun r h c => ?_) (Cert.MergeBwdIdeal.Value.run_blocks m g)
    obtain ⟨h0, h1, h2, h3, h4, hr⟩ := h c
    exact ⟨h0.trans (kernel_gate m c), h1.trans (kernel_mla m c), h2.trans (kernel_gdn m c), h3.trans (kernel_mem m c), h4.trans (kernel_norm m c), hr⟩
  · refine (θ_run _ _ _).mono (fun r h c => ?_) (Cert.MergeBwdRefIdeal.Value.run m' g')
    obtain ⟨h0, h1, h2, h3, h4, hr⟩ := h c
    obtain ⟨p0, p1, p2, p3, p5, p6⟩ := hp c
    obtain ⟨a0, a1, a2, a3, a4, a5, a6⟩ := ha c
    refine ⟨h0.trans ?_, h1.trans ?_, h2.trans ?_, h3.trans ?_, h4.trans ?_, hr⟩
    · rw [Cert.MergeBwdRefIdeal.Read.val_main_v59_eq, a0, a1, a2, a3, a4, a5, a6]
      exact funext fun y => ref_dgate _ _ _ _ _ _ _ (pre_x0 _ _ _ _ _ _ _ p0) (pre_x1 _ _ _ _ _ _ _ p1) (pre_x2 _ _ _ _ _ _ _ p2)
        (pre_x3 _ _ _ _ _ _ _ p3) (pre_x5 _ _ _ _ _ _ _ p5) (pre_x6 _ _ _ _ _ _ _ p6 0) y
    · rw [Cert.MergeBwdRefIdeal.Read.val_main_v60_eq, a0, a4, a5]
      exact funext fun y => ref_mla _ _ _ y
    · rw [Cert.MergeBwdRefIdeal.Read.val_main_v61_eq, a0, a2, a4, a5, a6]
      exact funext fun y => ref_gdn _ _ _ _ _ y
    · rw [Cert.MergeBwdRefIdeal.Read.val_main_v62_eq, a0, a4, a5]
      exact funext fun y => ref_mem _ _ _ y
    · rw [Cert.MergeBwdRefIdeal.Read.val_main_v57_eq, a0, a2, a4, a5]
      exact funext fun y => ref_norm _ _ _ _ y

end Cert.MergeBwdCall
-- ==== Proof.GradWOut.Value.lean ====
/- The gradient of the output projection in its weight: the kernel's three blocks of rows and the reference are one product. -/
module

public import proofs.«01_k».proof.Proof.Gen.GradWOutIdeal.Value
public import proofs.«01_k».proof.Proof.Gen.GradWOutRefIdeal.Read
public import Idealize.ShloMosaic.Lib.Pipeline.ValueKit
public import Idealize.ShloMosaic.Lib.Pipeline.ReadBack

@[expose] public section

set_option maxRecDepth 16384

noncomputable section

namespace Cert.GradWOutCall

open Idealize.ShloMosaic Idealize.ShloMosaic.TcCoe
open Cert.GradWOutIdeal Cert.GradWOutIdeal.Gen

/-- The product of `A` transposed with `D`. -/
def gW (A : S4096x1536.Idx → EReal) (D : S4096x1024.Idx → EReal) (y : S1536x1024.Idx) : EReal :=
  ∑ k : Fin 4096, A (ix2 k (y 0)) * D (ix2 k (y 1))

theorem idx : ∀ t : Fin cfg0.N, win0_0.index t = ![0, t.val] ∧ win0_1.index t = ![0, 0] ∧ win0_2.index t = ![t.val, 0] :=
  (by decide +kernel : ∀ t : Fin grid0.N, _)

theorem lt3 (t : Fin cfg0.N) : t.val < 3 := Nat.lt_of_lt_of_eq t.isLt N_0

variable (m : (ℓ : Loc nD τ sig) → Buf (Elt Ideal) ℓ) (c : Dev nD) (t : Fin cfg0.N)

/-- What a point stores: the product of its columns of the first operand with the second. -/
theorem block (x0 : Vec Ideal S4096x512 .bf16) (x1 : Vec Ideal S4096x1024 .bf16) (r : Fin 512) (n : Fin 1024) :
    out0_2 x0 x1 (ix2 r n) = ∑ k : Fin 4096, x0 (ix2 k r) * x1 (ix2 k n) := by
  unfold out0_2
  refine View.canon_append_of_piecesOf (fun y => ∑ k : Fin 4096, x0 (ix2 k (y 0)) * x1 (ix2 k (y 1))) [] [_] ⟨?_, trivial⟩ (ix2 r n) ?_
  · intro x
    idx_vars x
    have e : r0_2.emb (ix2 x0 x1) = ix2 x0 x1 := by
      funext a; refine Fin.ext ?_; fin_cases a <;> simp
    rw [e]
    pointwise [k0_pay1]
  · exact View.cover_of_tiledL _ ![512, 1024] (by sl_kernel_rfl) _

/-- The kernel's result. -/
theorem kernel_eq : (dats m 0 c).arrAt 2 cfg0.N
    = gW (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt3 t
  have e : ((View.whole main_v0).slice (win0_2.rect t)).emb (ix2 y0 y1) = ix2 (⟨512 * t.val + y0.val, by omega⟩ : Fin 1536) y1 := by
    blk_ext [idx t]
  rw [e]
  refine (block _ _ y0 y1).trans ?_
  refine Finset.sum_congr rfl fun k _ => ?_
  congr 1
  · show iblk m c 0 t (ix2 k y0) = m ((c.tc : Thread nD τ).loc main_arg0) (ix2 _ _)
    blk_ext [iblk, V, idx t]
  · show iblk m c 1 t (ix2 k y1) = m ((c.tc : Thread nD τ).loc main_arg1) (ix2 _ _)
    blk_ext [iblk, V, idx t]

open Cert.GradWOutRefIdeal.Read in
/-- The reference's result. -/
theorem ref_eq (A : Vec Ideal S4096x1536 .bf16) (D : Vec Ideal S4096x1024 .bf16) :
    val_main_v6 (F := Ideal) A D = gW A D := by
  funext y
  idx_vars y
  pointwise [val_main_v6, val_main_v5, val_main_v4, val_main_v3, val_main_v1]
  exact Finset.sum_congr rfl fun k _ => mul_comm _ _

end Cert.GradWOutCall
-- ==== Proof.GradWOut.Claims.lean ====
/- The claims about the gradient of the output projection in its weight. -/
module

public import proofs.«01_k».proof.Defs
public import proofs.«01_k».proof.Proof.Gen.GradWOut.Frame
public import proofs.«01_k».proof.Proof.GradWOut.Value
public import proofs.«01_k».proof.Proof.Gen.GradWOutRefIdeal.Run

@[expose] public section

noncomputable section

namespace Cert.GradWOutCall

open Idealize.ShloMosaic Idealize.SL.Sem

theorem frame_kernel : Cert.quiescent_GradWOut := fun m ρ _ => Cert.GradWOut.Gen.frame m ρ

theorem frame_ideal : Cert.quiescent_GradWOutIdeal := fun m ρ _ => Cert.GradWOutIdeal.Gen.frame m ρ

theorem frame_ref : Cert.quiescent_GradWOutRefIdeal := fun m ρ _ =>
  (θ_run Cert.GradWOutRefIdeal.defs _ _).mono (fun r h => ⟨fun c => (h c).2, sem_eq_zero_of_no_sems (by decide) r.2⟩)
    (Cert.GradWOutRefIdeal.Value.run m ρ)

theorem preserves : Cert.preserves_GradWOut_GradWOutIdeal := trivial

theorem algebraic : Cert.algebraic_GradWOutIdeal_GradWOutRefIdeal := by
  intro m g m' g' hp ha
  refine ⟨fun c => gW (m ((c.tc : Thread Cert.GradWOutIdeal.nD Cert.GradWOutIdeal.τ).loc Cert.GradWOutIdeal.main_arg0)) (m ((c.tc : Thread Cert.GradWOutIdeal.nD Cert.GradWOutIdeal.τ).loc Cert.GradWOutIdeal.main_arg1)), ?_, ?_⟩
  · refine (θ_run _ _ _).mono (fun r h c => ?_) (Cert.GradWOutIdeal.Value.run_blocks m g)
    obtain ⟨h0, hr⟩ := h c
    exact ⟨h0.trans (kernel_eq m c), hr⟩
  · refine (θ_run _ _ _).mono (fun r h c => ?_) (Cert.GradWOutRefIdeal.Value.run m' g')
    obtain ⟨h0, hr⟩ := h c
    obtain ⟨a0, a1⟩ := ha c
    refine ⟨h0.trans ?_, hr⟩
    rw [Cert.GradWOutRefIdeal.Read.val_main_v6_eq, a0, a1]
    exact ref_eq _ _

end Cert.GradWOutCall
-- ==== Proof.InProj.Value.lean ====
/- The later column blocks of the input projection: the kernel writes them over a copy of the earlier ones. -/
module

public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ValueKit.Partial
public import Idealize.ShloMosaic.Lib.Pipeline.ReadBack

@[expose] public section

set_option maxRecDepth 16384

noncomputable section

namespace Cert.InProjCall

open Idealize.ShloMosaic Idealize.ShloMosaic.TcCoe
open Cert.InProjIdeal Cert.InProjIdeal.Gen

/-- The first 1536 columns are what was there; the others are the product of the rows. -/
def gP (A : S4096x1024.Idx → EReal) (B : S4608x1024.Idx → EReal) (P : S4096x4608.Idx → EReal) (y : S4096x4608.Idx) : EReal :=
  if (y 1).val < 1536 then P y else ∑ k : Fin 1024, A (ix2 (y 0) k) * B (ix2 (y 1) k)

theorem idx : ∀ t : Fin cfg0.N, win0_0.index t = ![t.val % 4, 0] ∧ win0_1.index t = ![t.val / 4 + 1, 0]
    ∧ win0_2.index t = ![t.val % 4, t.val / 4 + 1] :=
  (by decide +kernel : ∀ t : Fin grid0.N, _)

theorem lt8 (t : Fin cfg0.N) : t.val < 8 := Nat.lt_of_lt_of_eq t.isLt N_0

theorem pay (x0 : Vec Ideal S1024x1024 .bf16) (x1 : Vec Ideal S1536x1024 .bf16) (r : Fin 1024) (n : Fin 1536) :
    k0_pay1 (F := Ideal) x0 x1 (ix2 r n) = ∑ k : Fin 1024, x0 (ix2 r k) * x1 (ix2 n k) := by
  pointwise [k0_pay1]

variable (m : (ℓ : Loc nD τ sig) → Buf (Elt Ideal) ℓ) (c : Dev nD) (t : Fin cfg0.N)

/-- The buffer the kernel writes into starts as a copy of the third argument. -/
theorem entry : V m c main_v0 = m ((c.tc : Thread nD τ).loc main_arg2) := by
  show StableHlo.after hostOps0 (fun b => m (c, b)) main_v0 = _
  simp only [hostOps0]
  after_results
  rfl

theorem out_eq (y : S1024x1536.Idx) :
    outsAt0 m c t y = k0_pay1 (F := Ideal) (iblk m c 0 t) (iblk m c 1 t) y := by
  unfold outsAt0
  frame_open
  frame_out

theorem read0 (r k : Fin 1024) : iblk m c 0 t (ix2 r k)
    = m ((c.tc : Thread nD τ).loc main_arg0) (ix2 ⟨t.val % 4 * 1024 + r.val, by omega⟩ k) := by
  refine Eq.trans ?_ (congrFun (V_main_arg0 m c) _)
  show iblk m c 0 t (ix2 r k) = V m c main_arg0 (ix2 _ _)
  blk_ext [iblk, idx t]

theorem read1 (n : Fin 1536) (k : Fin 1024) : iblk m c 1 t (ix2 n k)
    = m ((c.tc : Thread nD τ).loc main_arg1) (ix2 ⟨(t.val / 4 + 1) * 1536 + n.val, by have := lt8 t; omega⟩ k) := by
  refine Eq.trans ?_ (congrFun (V_main_arg1 m c) _)
  show iblk m c 1 t (ix2 n k) = V m c main_arg1 (ix2 _ _)
  blk_ext [iblk, idx t]

/-- The kernel's result. -/
theorem kernel_eq : (dats m 0 c).arrAt 2 cfg0.N = gP (m ((c.tc : Thread nD τ).loc main_arg0)) (m ((c.tc : Thread nD τ).loc main_arg1))
    (m ((c.tc : Thread nD τ).loc main_arg2)) := by
  refine (dats m 0 c).arrAt_eq_of_coversWhere_of_agree 2 _ (fun β => 1 ≤ β (1 : Fin _)) (by decide +kernel) (fun t hf y => ?_) (fun j hj => ?_)
  · blk_simp [idx t]
    rw [after0_2]
    idx_vars y
    have hl := lt8 t
    have e : ((View.whole main_v0).slice (win0_2.rect t)).emb (ix2 y0 y1)
        = ix2 ⟨t.val % 4 * 1024 + y0.val, by omega⟩ ⟨(t.val / 4 + 1) * 1536 + y1.val, by omega⟩ := by
      blk_ext [idx t]
    rw [e, out_eq]
    refine (pay _ _ y0 y1).trans (Eq.trans ?_ (if_neg (by show ¬(t.val / 4 + 1) * 1536 + y1.val < 1536; omega)).symm)
    exact Finset.sum_congr (M := EReal) rfl fun k _ => congrArg₂ _ (read0 m c t y0 k) (read1 m c t y1 k)
  · have e : (dats m 0 c).A 2 = V m c main_v0 := A_eq m c 2
    rw [e, entry]
    refine (if_pos ?_).symm
    blk_simp [Pipeline.Window.cell_apply] at hj ⊢
    omega

open Cert.InProjRefIdeal.Read in
/-- The reference's result. -/
theorem ref_eq (A : Vec Ideal S4096x1024 .bf16) (B : Vec Ideal S4608x1024 .bf16) (P : Vec Ideal S4096x4608 .f32) :
    val_main_v6 (F := Ideal) A B P = gP A B P := by
  funext y
  idx_vars y
  pointwise [val_main_v6, val_main_v5, val_main_v4, val_main_v3, val_main_v2, val_main_v1, val_main_v0]
  show _ = if y1.val < 1536 then P (ix2 y0 y1) else ∑ k : Fin 1024, A (ix2 y0 k) * B (ix2 y1 k)
  by_cases h : y1.val < 1536
  · rw [dif_pos h, if_pos h]
  · rw [dif_neg h, if_neg h]
    refine Finset.sum_congr rfl fun k _ => congrArg (fun n : Fin 4608 => A (ix2 y0 k) * B (ix2 n k)) ?_
    exact Fin.ext (by show 1536 + (y1.val - 1536) = y1.val; omega)

end Cert.InProjCall
-- ==== Proof.InProj.Claims.lean ====
/- The claims about the later column blocks of the input projection. -/
module

public import proofs.«01_k».proof.Defs
public import proofs.«01_k».proof.Proof.Gen.InProj.Frame
public import proofs.«01_k».proof.Proof.InProj.Value
public import proofs.«01_k».proof.Proof.Gen.InProjRefIdeal.Run

@[expose] public section

noncomputable section

namespace Cert.InProjCall

open Idealize.ShloMosaic Idealize.SL.Sem

theorem frame_kernel : Cert.quiescent_InProj := fun m ρ _ => Cert.InProj.Gen.frame m ρ

theorem frame_ideal : Cert.quiescent_InProjIdeal := fun m ρ _ => Cert.InProjIdeal.Gen.frame m ρ

theorem frame_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)

theorem preserves : Cert.preserves_InProj_InProjIdeal := trivial

theorem algebraic : Cert.algebraic_InProjIdeal_InProjRefIdeal := by
  intro m g m' g' hp ha
  refine ⟨fun c => gP (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · refine (θ_run _ _ _).mono (fun r h c => ?_) (Cert.InProjIdeal.Value.run_blocks m g)
    obtain ⟨h0, hr⟩ := h c
    exact ⟨h0.trans (kernel_eq m c), hr⟩
  · refine (θ_run _ _ _).mono (fun r h c => ?_) (Cert.InProjRefIdeal.Value.run m' g')
    obtain ⟨h0, hr⟩ := h c
    obtain ⟨a0, a1, a2⟩ := ha c
    refine ⟨h0.trans ?_, hr⟩
    rw [Cert.InProjRefIdeal.Read.val_main_v6_eq, a0, a1, a2]
    exact ref_eq _ _ _

end Cert.InProjCall
-- ==== Proof.MergeFwd.Value.lean ====
/- The merge and the gradient of the loss in the step's output: what the kernel leaves. -/
module

public import proofs.«01_k».proof.Proof.Merge
public import proofs.«01_k».proof.Proof.Gen.MergeFwdIdeal.Value
public import Idealize.ShloMosaic.Lib.Pipeline.ValueKit
public import Idealize.ShloMosaic.Lib.Pipeline.ReadBack

@[expose] public section

set_option maxRecDepth 16384

noncomputable section

namespace Cert.MergeFwdCall

open Idealize.ShloMosaic Idealize.ShloMosaic.TcCoe Cert.Merge Cert.Norm
open Cert.MergeFwdIdeal Cert.MergeFwdIdeal.Gen

/-- The printed number of columns and its printed reciprocal. -/
def cols : EReal := Ideal.ofBits .f32 0x44800000#32
def inv : EReal := Ideal.ofBits .f32 0x3A800000#32

/-- One row: the gated row, the output row, its normalised entries, the error, the error's cotangent, the row's cotangent. -/
def gated (ct gt : Fin 1536 → EReal) (n : Fin 1536) : EReal := ct n * (gt n * sg (gt n))
def out (x : Fin 1024 → EReal) (mx : Fin 1536 → EReal) (W : Fin 1536 → Fin 1024 → EReal) (k : Fin 1024) : EReal := x k + ∑ n, mx n * W n k
def unit (y : Fin 1024 → EReal) (k : Fin 1024) : EReal := y k * rms cols eps y
def err (y g tg : Fin 1024 → EReal) (k : Fin 1024) : EReal := unit y k * g k - tg k
def derr (y g tg : Fin 1024 → EReal) (k : Fin 1024) : EReal := err y g tg k * inv
def drow (y g tg : Fin 1024 → EReal) (k : Fin 1024) : EReal :=
  rms cols eps y * (derr y g tg k * g k - unit y k * Ideal.div (∑ l, derr y g tg l * g l * unit y l) cols)

variable (x0 x1 x2 : Vec Ideal S512x512 .bf16) (x3 : Vec Ideal S512x1536 .f32) (x4 x5 : Vec Ideal S512x1024 .f32) (x6 : Vec Ideal S1536x1024 .bf16)
  (x7 : Vec Ideal S1x128 .f32) (x8 : Vec Ideal S1x1024 .f32)

theorem pay_h0 (r : Fin 512) (k : Fin 128) : k0_pay6 (F := Ideal) x1 x7 (ix2 r k) = xh (fun j => x1 (ix2 r j)) 0 k * x7 (ix2 0 k) := by
  pointwise [k0_pay6, k0_pay5]
  exact congrArg (fun i => x1 (ix2 r i) * rh (fun j => x1 (ix2 r j)) 0 * x7 (ix2 0 k)) (Fin.ext (by simp [col]))

theorem pay_h1 (r : Fin 512) (k : Fin 128) : k0_pay7 (F := Ideal) x1 x7 (ix2 r k) = xh (fun j => x1 (ix2 r j)) 1 k * x7 (ix2 0 k) := by
  pointwise [k0_pay7, k0_pay5]
  rfl

theorem pay_h2 (r : Fin 512) (k : Fin 128) : k0_pay8 (F := Ideal) x1 (ix2 r k) = xh (fun j => x1 (ix2 r j)) 2 k := by
  pointwise [k0_pay8, k0_pay5]
  rfl

/-- The tile's rows of the three groups, its gated rows and its output rows. -/
def tRow (r : Fin 512) : Fin 1536 → EReal :=
  cat (fun j => x0 (ix2 r j)) (normed (fun j => x1 (ix2 r j)) (fun k => x7 (ix2 0 k))) (fun j => x2 (ix2 r j))
def tMix (r : Fin 512) : Fin 1536 → EReal := gated (tRow x0 x1 x2 x7 r) (fun n => x3 (ix2 r n))
def tOut (r : Fin 512) : Fin 1024 → EReal := out (fun k => x4 (ix2 r k)) (tMix x0 x1 x2 x3 x7 r) (fun n k => x6 (ix2 n k))

theorem pay_mix (r : Fin 512) (n : Fin 1536) :
    k0_pay9 (F := Ideal) (k0_pay5 x1) x7 (k0_pay6 x1 x7) (k0_pay7 x1 x7) (k0_pay8 x1) x0 x2 x3 (ix2 r n) = tMix x0 x1 x2 x3 x7 r n := by
  pointwise [k0_pay9, k0_pay5]
  simp only [pay_h0, pay_h1, pay_h2]
  rw [zero_sub]
  exact congrArg (fun z : EReal => z * (x3 (ix2 r n) * sg (x3 (ix2 r n))))
    (cat_six (fun j => x0 (ix2 r j)) (fun j => x2 (ix2 r j)) (normed (fun j => x1 (ix2 r j)) (fun k => x7 (ix2 0 k))) _ _ _ _
    (fun k => (normed_col _ _ 0 k).symm) (fun k => (normed_col _ _ 1 k).symm) (fun k => (normed_col _ _ 2 k).symm)
    (fun k => (normed_col _ _ 3 k).symm) n)

theorem pay_out (r : Fin 512) (k : Fin 1024) :
    k0_pay10 (F := Ideal) (k0_pay5 x1) x7 (k0_pay6 x1 x7) (k0_pay7 x1 x7) (k0_pay8 x1) x0 x2 x3 x4 x6 (ix2 r k)
      = tOut x0 x1 x2 x3 x4 x6 x7 r k := by
  pointwise [k0_pay10]
  simp only [pay_mix]
  rfl

theorem pay_sq (r : Fin 512) (u : Fin 1) :
    k0_pay11 (F := Ideal) (k0_pay5 x1) x7 (k0_pay6 x1 x7) (k0_pay7 x1 x7) (k0_pay8 x1) x0 x2 x3 x4 x6 (ix2 r u)
      = ∑ k, tOut x0 x1 x2 x3 x4 x6 x7 r k * tOut x0 x1 x2 x3 x4 x6 x7 r k := by
  pointwise [k0_pay11]
  simp only [pay_out]

section
variable (v : Vec Ideal S512x1024 .f32) (s : Vec Ideal S512x1 .f32) (y : Fin 512 → Fin 1024 → EReal) (hv : ∀ r k, v (ix2 r k) = y r k)
  (hs : ∀ r u, s (ix2 r u) = ∑ k, y r k * y r k)
include hs

theorem pay_rms (r : Fin 512) (u : Fin 1) : k0_pay12 (F := Ideal) s (ix2 r u) = rms cols eps (y r) := by
  pointwise [k0_pay12]
  rw [hs]
  rfl

theorem pay_left (r : Fin 512) (k : Fin 1024) : k0_pay19 (F := Ideal) s (ix2 r k) = rms cols eps (y r) := by
  pointwise [k0_pay19]
  rw [pay_rms s y hs]

include hv

theorem pay_unit (r : Fin 512) (k : Fin 1024) : k0_pay13 (F := Ideal) v s (ix2 r k) = unit (y r) k := by
  pointwise [k0_pay13]
  rw [pay_rms s y hs, hv]
  rfl

theorem pay_err (r : Fin 512) (k : Fin 1024) : k0_pay14 (F := Ideal) v s x8 x5 (ix2 r k) = err (y r) (fun k => x8 (ix2 0 k)) (fun k => x5 (ix2 r k)) k := by
  pointwise [k0_pay14]
  rw [pay_unit v s y hv hs]
  rfl

theorem pay_derr (r : Fin 512) (k : Fin 1024) : k0_pay16 (F := Ideal) v s x8 x5 (ix2 r k) = derr (y r) (fun k => x8 (ix2 0 k)) (fun k => x5 (ix2 r k)) k := by
  pointwise [k0_pay16]
  rw [pay_err x5 x8 v s y hv hs]
  rfl

theorem pay_errs (acc : Vec Ideal S1x1024 .f32) (u : Fin 1) (k : Fin 1024) : k0_pay15 (F := Ideal) v s x8 x5 acc (ix2 u k)
    = acc (ix2 u k) + ∑ r, err (y r) (fun k => x8 (ix2 0 k)) (fun k => x5 (ix2 r k)) k * err (y r) (fun k => x8 (ix2 0 k)) (fun k => x5 (ix2 r k)) k := by
  pointwise [k0_pay15]
  simp only [pay_err x5 x8 v s y hv hs]

theorem pay_norm (acc : Vec Ideal S1x1024 .f32) (u : Fin 1) (k : Fin 1024) : k0_pay17 (F := Ideal) v s x8 x5 acc (ix2 u k)
    = acc (ix2 u k) + ∑ r, derr (y r) (fun k => x8 (ix2 0 k)) (fun k => x5 (ix2 r k)) k * unit (y r) k := by
  pointwise [k0_pay17]
  simp only [pay_derr x5 x8 v s y hv hs, pay_unit v s y hv hs]

theorem pay_drow (r : Fin 512) (k : Fin 1024) : k0_pay1 (F := Ideal) (k0_pay18 v s x8 x5) (k0_pay19 s) (ix2 r k)
    = drow (y r) (fun k => x8 (ix2 0 k)) (fun k => x5 (ix2 r k)) k := by
  pointwise [k0_pay1, k0_pay18]
  simp only [pay_left s y hs, pay_derr x5 x8 v s y hv hs, pay_unit v s y hv hs]
  rfl

theorem pay_drow_b (r : Fin 512) (k : Fin 1024) : k0_pay2 (F := Ideal) (k0_pay18 v s x8 x5) (k0_pay19 s) (ix2 r k)
    = drow (y r) (fun k => x8 (ix2 0 k)) (fun k => x5 (ix2 r k)) k := by
  pointwise [k0_pay2]
  exact pay_drow x5 x8 v s y hv hs r k

end

variable (m : (ℓ : Loc nD τ sig) → Buf (Elt Ideal) ℓ) (c : Dev nD) (t : Fin cfg0.N)

/-- The output rows of tile `t`. -/
abbrev bOut : Fin 512 → Fin 1024 → EReal :=
  tOut (iblk m c 0 t) (iblk m c 1 t) (iblk m c 2 t) (iblk m c 3 t) (iblk m c 4 t) (iblk m c 6 t) (iblk m c 7 t)

theorem mix_A (h0 : t.val % 8 = 0) (y : S512x1536.Idx) : (outsAt0 m c t.val t.isLt).1 y
    = tMix (iblk m c 0 t) (iblk m c 1 t) (iblk m c 2 t) (iblk m c 3 t) (iblk m c 7 t) (y 0) (y 1) := by
  rw [Gen.outsAt0_A m c t h0]
  frame_open
  frame_out
  idx_vars y
  exact pay_mix _ _ _ _ _ y0 y1

theorem mix_B (h0 : ¬t.val % 8 = 0) (y : S512x1536.Idx) : (outsAt0 m c t.val t.isLt).1 y
    = tMix (iblk m c 0 t) (iblk m c 1 t) (iblk m c 2 t) (iblk m c 3 t) (iblk m c 7 t) (y 0) (y 1) := by
  rw [Gen.outsAt0_B m c t h0]
  frame_open
  frame_out
  idx_vars y
  exact pay_mix _ _ _ _ _ y0 y1

theorem row_A (h0 : t.val % 8 = 0) (y : S512x1024.Idx) : (outsAt0 m c t.val t.isLt).2.1 y
    = drow (bOut m c t (y 0)) (fun k => iblk m c 8 t (ix2 0 k)) (fun k => iblk m c 5 t (ix2 (y 0) k)) (y 1) := by
  rw [Gen.outsAt0_A m c t h0]
  frame_open
  frame_out
  idx_vars y
  exact pay_drow _ _ _ _ _ (pay_out _ _ _ _ _ _ _) (pay_sq _ _ _ _ _ _ _) y0 y1

theorem row_B (h0 : ¬t.val % 8 = 0) (y : S512x1024.Idx) : (outsAt0 m c t.val t.isLt).2.1 y
    = drow (bOut m c t (y 0)) (fun k => iblk m c 8 t (ix2 0 k)) (fun k => iblk m c 5 t (ix2 (y 0) k)) (y 1) := by
  rw [Gen.outsAt0_B m c t h0]
  frame_open
  frame_out
  idx_vars y
  exact pay_drow _ _ _ _ _ (pay_out _ _ _ _ _ _ _) (pay_sq _ _ _ _ _ _ _) y0 y1

theorem rowb_A (h0 : t.val % 8 = 0) (y : S512x1024.Idx) : (outsAt0 m c t.val t.isLt).2.2.1 y
    = drow (bOut m c t (y 0)) (fun k => iblk m c 8 t (ix2 0 k)) (fun k => iblk m c 5 t (ix2 (y 0) k)) (y 1) := by
  rw [Gen.outsAt0_A m c t h0]
  frame_open
  frame_out
  idx_vars y
  exact pay_drow_b _ _ _ _ _ (pay_out _ _ _ _ _ _ _) (pay_sq _ _ _ _ _ _ _) y0 y1

theorem rowb_B (h0 : ¬t.val % 8 = 0) (y : S512x1024.Idx) : (outsAt0 m c t.val t.isLt).2.2.1 y
    = drow (bOut m c t (y 0)) (fun k => iblk m c 8 t (ix2 0 k)) (fun k => iblk m c 5 t (ix2 (y 0) k)) (y 1) := by
  rw [Gen.outsAt0_B m c t h0]
  frame_open
  frame_out
  idx_vars y
  exact pay_drow_b _ _ _ _ _ (pay_out _ _ _ _ _ _ _) (pay_sq _ _ _ _ _ _ _) y0 y1

/-- One row's squared errors. -/
def sqr (y g tg : Fin 1024 → EReal) (k : Fin 1024) : EReal := err y g tg k * err y g tg k

theorem sq_A (h0 : t.val % 8 = 0) (y : S1x1024.Idx) : (outsAt0 m c t.val t.isLt).2.2.2.1 y
    = k0_pay3 (F := Ideal) y + ∑ r, sqr (bOut m c t r) (fun k => iblk m c 8 t (ix2 0 k)) (fun k => iblk m c 5 t (ix2 r k)) (y 1) := by
  rw [Gen.outsAt0_A m c t h0]
  frame_open
  frame_out
  idx_vars y
  exact pay_errs _ _ _ _ _ (pay_out _ _ _ _ _ _ _) (pay_sq _ _ _ _ _ _ _) _ y0 y1

theorem sq_B (h0 : ¬t.val % 8 = 0) (y : S1x1024.Idx) : (outsAt0 m c t.val t.isLt).2.2.2.1 y
    = (outsAt0 m c (t.val - 1) (Nat.lt_of_le_of_lt (Nat.sub_le _ _) t.isLt)).2.2.2.1 y
      + ∑ r, sqr (bOut m c t r) (fun k => iblk m c 8 t (ix2 0 k)) (fun k => iblk m c 5 t (ix2 r k)) (y 1) := by
  rw [Gen.outsAt0_B m c t h0]
  frame_open
  frame_out
  idx_vars y
  exact pay_errs _ _ _ _ _ (pay_out _ _ _ _ _ _ _) (pay_sq _ _ _ _ _ _ _) _ y0 y1

/-- What one row adds to the gradient of the output's gain. -/
def gain (y g tg : Fin 1024 → EReal) (k : Fin 1024) : EReal := derr y g tg k * unit y k

theorem gain_A (h0 : t.val % 8 = 0) (y : S1x1024.Idx) : (outsAt0 m c t.val t.isLt).2.2.2.2 y
    = k0_pay4 (F := Ideal) y + ∑ r, gain (bOut m c t r) (fun k => iblk m c 8 t (ix2 0 k)) (fun k => iblk m c 5 t (ix2 r k)) (y 1) := by
  rw [Gen.outsAt0_A m c t h0]
  frame_open
  frame_out
  idx_vars y
  exact pay_norm _ _ _ _ _ (pay_out _ _ _ _ _ _ _) (pay_sq _ _ _ _ _ _ _) _ y0 y1

theorem gain_B (h0 : ¬t.val % 8 = 0) (y : S1x1024.Idx) : (outsAt0 m c t.val t.isLt).2.2.2.2 y
    = (outsAt0 m c (t.val - 1) (Nat.lt_of_le_of_lt (Nat.sub_le _ _) t.isLt)).2.2.2.2 y
      + ∑ r, gain (bOut m c t r) (fun k => iblk m c 8 t (ix2 0 k)) (fun k => iblk m c 5 t (ix2 r k)) (y 1) := by
  rw [Gen.outsAt0_B m c t h0]
  frame_open
  frame_out
  idx_vars y
  exact pay_norm _ _ _ _ _ (pay_out _ _ _ _ _ _ _) (pay_sq _ _ _ _ _ _ _) _ y0 y1

/-- The rows of the whole arrays. -/
def aGate (P : S4096x4608.Idx → EReal) (i : Fin 4096) (n : Fin 1536) : EReal := P (ix2 i ⟨3072 + n.val, by omega⟩)
def aMix (a o b : S4096x512.Idx → EReal) (P : S4096x4608.Idx → EReal) (g : S1x128.Idx → EReal) (i : Fin 4096) : Fin 1536 → EReal :=
  gated (cat (fun j => a (ix2 i j)) (normed (fun j => o (ix2 i j)) (fun k => g (ix2 0 k))) (fun j => b (ix2 i j))) (aGate P i)
def aOut (a o b : S4096x512.Idx → EReal) (P : S4096x4608.Idx → EReal) (x : S4096x1024.Idx → EReal) (W : S1536x1024.Idx → EReal) (g : S1x128.Idx → EReal)
    (i : Fin 4096) : Fin 1024 → EReal := out (fun k => x (ix2 i k)) (aMix a o b P g i) (fun n k => W (ix2 n k))

/-- The results: the gated rows, the output's cotangent, the squared errors' column sums, the gradient of the gain. -/
def gMix (a o b : S4096x512.Idx → EReal) (P : S4096x4608.Idx → EReal) (g : S1x128.Idx → EReal) (y : S4096x1536.Idx) : EReal := aMix a o b P g (y 0) (y 1)
def gRow (a o b : S4096x512.Idx → EReal) (P : S4096x4608.Idx → EReal) (x tg : S4096x1024.Idx → EReal) (W : S1536x1024.Idx → EReal) (g : S1x128.Idx → EReal)
    (f : S1x1024.Idx → EReal) (y : S4096x1024.Idx) : EReal :=
  drow (aOut a o b P x W g (y 0)) (fun k => f (ix2 0 k)) (fun k => tg (ix2 (y 0) k)) (y 1)
def gSq (a o b : S4096x512.Idx → EReal) (P : S4096x4608.Idx → EReal) (x tg : S4096x1024.Idx → EReal) (W : S1536x1024.Idx → EReal) (g : S1x128.Idx → EReal)
    (f : S1x1024.Idx → EReal) (y : S1x1024.Idx) : EReal :=
  ∑ i : Fin 4096, sqr (aOut a o b P x W g i) (fun k => f (ix2 0 k)) (fun k => tg (ix2 i k)) (y 1)
def gGain (a o b : S4096x512.Idx → EReal) (P : S4096x4608.Idx → EReal) (x tg : S4096x1024.Idx → EReal) (W : S1536x1024.Idx → EReal) (g : S1x128.Idx → EReal)
    (f : S1x1024.Idx → EReal) (y : S1x1024.Idx) : EReal :=
  ∑ i : Fin 4096, gain (aOut a o b P x W g i) (fun k => f (ix2 0 k)) (fun k => tg (ix2 i k)) (y 1)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

theorem lt8 (t : Fin cfg0.N) : t.val < 8 := Nat.lt_of_lt_of_eq t.isLt N_0

/-- Row `r` of tile `t`. -/
abbrev row (r : Fin 512) : Fin 4096 := ⟨t.val * 512 + r.val, by have := lt8 t; omega⟩

theorem read0 (r : Fin 512) (k : Fin 512) : iblk m c 0 t (ix2 r k) = m ((c.tc : Thread nD τ).loc main_arg0) (ix2 (row t r) k) := by
  show iblk m c 0 t (ix2 r k) = m ((c.tc : Thread nD τ).loc main_arg0) (ix2 _ _)
  blk_ext [iblk, V, idx t]

theorem read1 (r : Fin 512) (k : Fin 512) : iblk m c 1 t (ix2 r k) = m ((c.tc : Thread nD τ).loc main_arg1) (ix2 (row t r) k) := by
  show iblk m c 1 t (ix2 r k) = m ((c.tc : Thread nD τ).loc main_arg1) (ix2 _ _)
  blk_ext [iblk, V, idx t]

theorem read2 (r : Fin 512) (k : Fin 512) : iblk m c 2 t (ix2 r k) = m ((c.tc : Thread nD τ).loc main_arg2) (ix2 (row t r) k) := by
  show iblk m c 2 t (ix2 r k) = m ((c.tc : Thread nD τ).loc main_arg2) (ix2 _ _)
  blk_ext [iblk, V, idx t]

theorem read3 (r : Fin 512) (n : Fin 1536) : iblk m c 3 t (ix2 r n) = aGate (m ((c.tc : Thread nD τ).loc main_arg3)) (row t r) n := by
  show iblk m c 3 t (ix2 r n) = m ((c.tc : Thread nD τ).loc main_arg3) (ix2 _ _)
  blk_ext [iblk, V, idx t]

theorem read4 (r : Fin 512) (k : Fin 1024) : iblk m c 4 t (ix2 r k) = m ((c.tc : Thread nD τ).loc main_arg4) (ix2 (row t r) k) := by
  show iblk m c 4 t (ix2 r k) = m ((c.tc : Thread nD τ).loc main_arg4) (ix2 _ _)
  blk_ext [iblk, V, idx t]

theorem read5 (r : Fin 512) (k : Fin 1024) : iblk m c 5 t (ix2 r k) = m ((c.tc : Thread nD τ).loc main_arg5) (ix2 (row t r) k) := by
  show iblk m c 5 t (ix2 r k) = m ((c.tc : Thread nD τ).loc main_arg5) (ix2 _ _)
  blk_ext [iblk, V, idx t]

theorem read6 (n : Fin 1536) (k : Fin 1024) : iblk m c 6 t (ix2 n k) = m ((c.tc : Thread nD τ).loc main_arg6) (ix2 n k) := by
  show iblk m c 6 t (ix2 n k) = m ((c.tc : Thread nD τ).loc main_arg6) (ix2 _ _)
  blk_ext [iblk, V, idx t]

theorem read7 (k : Fin 128) : iblk m c 7 t (ix2 0 k) = m ((c.tc : Thread nD τ).loc main_arg7) (ix2 0 k) := by
  show iblk m c 7 t (ix2 0 k) = m ((c.tc : Thread nD τ).loc main_arg7) (ix2 _ _)
  blk_ext [iblk, V, idx t]

theorem read8 (k : Fin 1024) : iblk m c 8 t (ix2 0 k) = m ((c.tc : Thread nD τ).loc main_arg8) (ix2 0 k) := by
  show iblk m c 8 t (ix2 0 k) = m ((c.tc : Thread nD τ).loc main_arg8) (ix2 _ _)
  blk_ext [iblk, V, idx t]

theorem tile_mix (r : Fin 512) : tMix (iblk m c 0 t) (iblk m c 1 t) (iblk m c 2 t) (iblk m c 3 t) (iblk m c 7 t) r
    = aMix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (row t r) := by
  unfold tMix aMix tRow
  simp only [read0, read1, read2, read3, read7]

/-- The output rows of the whole arrays the call finds. -/
abbrev mOut : Fin 4096 → Fin 1024 → EReal :=
  aOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))

theorem tile_out (r : Fin 512) : bOut m c t r = mOut m c (row t r) := by
  unfold bOut mOut tOut aOut
  rw [tile_mix]
  simp only [read4, read6]

theorem kernel_mix : (dats m 0 c).arrAt 9 cfg0.N = gMix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) := by
  refine (dats m 0 c).arrAt_eq_of_covers 9 _ (by decide +kernel) fun t hf y => ?_
  blk_simp [idx t]
  rw [after0_9]
  idx_vars y
  have e : ((View.whole main_v0_0).slice (win0_9.rect t)).emb (ix2 y0 y1) = ix2 (row t y0) y1 := by
    blk_ext [idx t]
  rw [e]
  refine (if h : t.val % 8 = 0 then mix_A m c t h _ else mix_B m c t h _).trans ?_
  show tMix (iblk m c 0 t) (iblk m c 1 t) (iblk m c 2 t) (iblk m c 3 t) (iblk m c 7 t) y0 y1 = _
  rw [tile_mix]
  rfl

/-- The whole output's cotangent. -/
abbrev mRow : S4096x1024.Idx → EReal :=
  gRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

theorem tile_row (r : Fin 512) (k : Fin 1024) : drow (bOut m c t r) (fun k => iblk m c 8 t (ix2 0 k)) (fun k => iblk m c 5 t (ix2 r k)) k
    = mRow m c (ix2 (row t r) k) := by
  rw [tile_out, funext (read8 m c t), funext (read5 m c t r)]
  rfl

theorem kernel_row : (dats m 0 c).arrAt 10 cfg0.N = mRow m c := by
  refine (dats m 0 c).arrAt_eq_of_covers 10 _ (by decide +kernel) fun t hf y => ?_
  blk_simp [idx t]
  rw [after0_10]
  idx_vars y
  have e : ((View.whole main_v0_1).slice (win0_10.rect t)).emb (ix2 y0 y1) = ix2 (row t y0) y1 := by
    blk_ext [idx t]
  rw [e]
  exact (if h : t.val % 8 = 0 then row_A m c t h _ else row_B m c t h _).trans (tile_row m c t y0 y1)

theorem kernel_rowb : (dats m 0 c).arrAt 11 cfg0.N = mRow m c := by
  refine (dats m 0 c).arrAt_eq_of_covers 11 _ (by decide +kernel) fun t hf y => ?_
  blk_simp [idx t]
  rw [after0_11]
  idx_vars y
  have e : ((View.whole main_v0_2).slice (win0_11.rect t)).emb (ix2 y0 y1) = ix2 (row t y0) y1 := by
    blk_ext [idx t]
  rw [e]
  exact (if h : t.val % 8 = 0 then rowb_A m c t h _ else rowb_B m c t h _).trans (tile_row m c t y0 y1)

theorem kernel_sq : (dats m 0 c).arrAt 12 cfg0.N = gSq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 12 _ (by decide +kernel) fun t hf y => ?_
  blk_simp [idx t]
  rw [after0_12]
  idx_vars y
  have h3 := (flush0_12 t).mp hf
  have ht := lt8 t
  have e : ((View.whole main_v0_3).slice (win0_12.rect t)).emb (ix2 y0 y1) = ix2 y0 y1 := by
    blk_ext [idx t]
  rw [e]
  refine (Pipeline.eq_sum_fin_of_reset_step_apply_of_flush (fun n h => (outsAt0 m c n h).2.2.2.1) 8 (k0_pay3 (F := Ideal))
    (fun t y => ∑ r, sqr (bOut m c t r) (fun k => iblk m c 8 t (ix2 0 k)) (fun k => iblk m c 5 t (ix2 r k)) (y 1))
    (fun t h y => sq_A m c t h y) (fun t h y => sq_B m c t h y) t h3 (ix2 y0 y1)).trans ?_
  have h0 : k0_pay3 (F := Ideal) (ix2 y0 y1) = 0 := by pointwise [k0_pay3]
  rw [h0, zero_add]
  refine (Fin.sum_fin_congr fun s => Finset.sum_congr rfl fun r _ => (congrArg (fun a => sqr a _ _ y1) (tile_out m c _ r)).trans
    (congrArg₂ (fun a b => sqr _ a b y1) (funext (read8 m c _)) (funext fun k => read5 m c _ r k))).trans ?_
  refine Fin.sum_mul_add_congr fun s k hl => ?_
  have h8 : t.val / 8 = 0 := by omega
  exact congrArg (fun i : Fin 4096 => sqr (mOut m c i) (fun k => m ((c.tc : Thread nD τ).loc main_arg8) (ix2 0 k)) (fun k => m ((c.tc : Thread nD τ).loc main_arg5) (ix2 i k)) y1)
    (Fin.ext (by show (8 * (t.val / 8) + s.val) * 512 + k.val = s.val * 512 + k.val; omega))

theorem kernel_gain : (dats m 0 c).arrAt 13 cfg0.N = gGain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 13 _ (by decide +kernel) fun t hf y => ?_
  blk_simp [idx t]
  rw [after0_13]
  idx_vars y
  have h3 := (flush0_13 t).mp hf
  have ht := lt8 t
  have e : ((View.whole main_v0_4).slice (win0_13.rect t)).emb (ix2 y0 y1) = ix2 y0 y1 := by
    blk_ext [idx t]
  rw [e]
  refine (Pipeline.eq_sum_fin_of_reset_step_apply_of_flush (fun n h => (outsAt0 m c n h).2.2.2.2) 8 (k0_pay4 (F := Ideal))
    (fun t y => ∑ r, gain (bOut m c t r) (fun k => iblk m c 8 t (ix2 0 k)) (fun k => iblk m c 5 t (ix2 r k)) (y 1))
    (fun t h y => gain_A m c t h y) (fun t h y => gain_B m c t h y) t h3 (ix2 y0 y1)).trans ?_
  have h0 : k0_pay4 (F := Ideal) (ix2 y0 y1) = 0 := by pointwise [k0_pay4]
  rw [h0, zero_add]
  refine (Fin.sum_fin_congr fun s => Finset.sum_congr rfl fun r _ => (congrArg (fun a => gain a _ _ y1) (tile_out m c _ r)).trans
    (congrArg₂ (fun a b => gain _ a b y1) (funext (read8 m c _)) (funext fun k => read5 m c _ r k))).trans ?_
  refine Fin.sum_mul_add_congr fun s k hl => ?_
  have h8 : t.val / 8 = 0 := by omega
  exact congrArg (fun i : Fin 4096 => gain (mOut m c i) (fun k => m ((c.tc : Thread nD τ).loc main_arg8) (ix2 0 k)) (fun k => m ((c.tc : Thread nD τ).loc main_arg5) (ix2 i k)) y1)
    (Fin.ext (by show (8 * (t.val / 8) + s.val) * 512 + k.val = s.val * 512 + k.val; omega))

end Cert.MergeFwdCall
-- ==== Proof.MergeFwd.Ref.lean ====
/- The merge and the gradient of the loss in the step's output: the reference's results. -/
module

public import proofs.«01_k».proof.Proof.MergeFwd.Value
public import proofs.«01_k».proof.Proof.Gen.MergeFwdRefIdeal.Read

@[expose] public section

set_option maxRecDepth 16384

noncomputable section

namespace Cert.MergeFwdCall

open Idealize.ShloMosaic Idealize.ShloMosaic.TcCoe Cert.Merge Cert.Norm
open Cert.MergeFwdRefIdeal Cert.MergeFwdRefIdeal.Read

variable (x0 x1 x2 : Vec Ideal S4096x512 .bf16) (x3 : Vec Ideal S4096x4608 .f32) (x4 x5 : Vec Ideal S4096x1024 .f32) (x6 : Vec Ideal S1536x1024 .bf16)
  (x7 : Vec Ideal S1x128 .f32) (x8 : Vec Ideal S1x1024 .f32)

theorem cols_real : cols = ((1024 : ℝ) : EReal) := by
  simp [cols, Ideal.ofBits, Ideal.ieee, -EReal.coe_mul]; norm_num

theorem inv_real : inv = ((1 / 1024 : ℝ) : EReal) := by
  simp [inv, Ideal.ofBits, Ideal.ieee, -EReal.coe_mul]; norm_num

theorem two_real : Ideal.ofBits .f32 0x40000000#32 = ((2 : ℝ) : EReal) := by
  simp [Ideal.ofBits, Ideal.ieee, -EReal.coe_mul]; norm_num

theorem a_half_real : Ideal.ofBits .f32 0x3F000000#32 = ((1 / 2 : ℝ) : EReal) := by
  simp [Ideal.ofBits, Ideal.ieee, -EReal.coe_mul]; norm_num

/-- The weight of a squared error times two is the reciprocal of the number of columns. -/
theorem weight (z : EReal) : Ideal.div (Ideal.ofBits .f32 0x3F000000#32) cols * (Ideal.ofBits .f32 0x40000000#32 * z) = z * inv := by
  rw [a_half_real, two_real, cols_real, div_real _ _ (by norm_num), inv_real, ← mul_assoc, ← EReal.coe_mul, ← EReal.coe_mul, mul_comm]
  norm_num

theorem ref_head (i : Fin 4096) (h : Fin 4) (k : Fin 128) : val_main_v1 (F := Ideal) x1 (ix3 i h k) = x1 (ix2 i (col h k)) := by
  pointwise [val_main_v1, val_main_v0]
  rfl

theorem ref_hmean (i : Fin 4096) (h : Fin 4) (u : Fin 1) : val_main_v9 (F := Ideal) x1 (ix3 i h u) = mean hd eps (fun k => x1 (ix2 i (col h k))) := by
  pointwise [val_main_v9, val_main_v7, val_main_v5, val_main_v4, val_main_v3, val_main_v6, val_main_v8, val_main_cst, val_main_cst_0, val_main_cst_1]
  simp only [ref_head]
  rfl

theorem ref_hrms (i : Fin 4096) (h : Fin 4) (u : Fin 1) : val_main_v10 (F := Ideal) x1 (ix3 i h u) = rh (fun j => x1 (ix2 i j)) h := by
  rw [val_main_v10_apply]
  rw [ref_hmean]
  rfl

theorem ref_normed (i : Fin 4096) (j : Fin 512) : val_main_v16 (F := Ideal) x1 x7 (ix2 i j) = normed (fun j => x1 (ix2 i j)) (fun k => x7 (ix2 0 k)) j := by
  pointwise [val_main_v16, val_main_v15, val_main_v14, val_main_v13, val_main_v12, val_main_v11, val_main_v2]
  rw [ref_head, ref_hrms]
  rfl

theorem ref_gate (i : Fin 4096) (n : Fin 1536) : val_main_v20 (F := Ideal) x3 (ix2 i n) = aGate x3 i n := by
  pointwise [val_main_v20]
  rfl

theorem ref_mixed (i : Fin 4096) (n : Fin 1536) : val_main_v22 (F := Ideal) x0 x1 x2 x3 x7 (ix2 i n) = aMix x0 x1 x2 x3 x7 i n := by
  pointwise [val_main_v22, val_main_v19, val_main_v17, val_main_v18, val_main_v21, val_main_call0_v5, val_main_call0_v4, val_main_call0_cst_0, val_main_call0_v3, val_main_call0_v2, val_main_call0_cst, val_main_call0_v1, val_main_call0_v0]
  simp only [ref_normed, ref_gate]
  rfl

theorem ref_mix (y : S4096x1536.Idx) : val_main_v77 (F := Ideal) x0 x1 x2 x3 x7 y = gMix x0 x1 x2 x3 x7 y := by
  idx_vars y
  pointwise [val_main_v77]
  exact ref_mixed x0 x1 x2 x3 x7 y0 y1

theorem ref_out (i : Fin 4096) (k : Fin 1024) : val_main_v25 (F := Ideal) x0 x1 x2 x3 x4 x6 x7 (ix2 i k) = aOut x0 x1 x2 x3 x4 x6 x7 i k := by
  pointwise [val_main_v25, val_main_v24, val_main_v23]
  simp only [ref_mixed]
  rfl

theorem ref_mean (i : Fin 4096) (u : Fin 1) : val_main_v32 (F := Ideal) x0 x1 x2 x3 x4 x6 x7 (ix2 i u) = mean cols eps (aOut x0 x1 x2 x3 x4 x6 x7 i) := by
  pointwise [val_main_v32, val_main_v30, val_main_v28, val_main_v27, val_main_v26, val_main_v29, val_main_v31, val_main_cst_2, val_main_cst_3, val_main_cst_4]
  simp only [ref_out]
  rfl

theorem ref_rms (i : Fin 4096) (u : Fin 1) : val_main_v33 (F := Ideal) x0 x1 x2 x3 x4 x6 x7 (ix2 i u) = rms cols eps (aOut x0 x1 x2 x3 x4 x6 x7 i) := by
  rw [val_main_v33_apply]
  rw [ref_mean]
  rfl

theorem ref_unit (i : Fin 4096) (k : Fin 1024) : val_main_v38 (F := Ideal) x0 x1 x2 x3 x4 x6 x7 (ix2 i k) = unit (aOut x0 x1 x2 x3 x4 x6 x7 i) k := by
  pointwise [val_main_v38, val_main_v37]
  rw [ref_out, ref_rms]
  rfl

theorem ref_err (i : Fin 4096) (k : Fin 1024) : val_main_v41 (F := Ideal) x0 x1 x2 x3 x4 x5 x6 x7 x8 (ix2 i k)
    = err (aOut x0 x1 x2 x3 x4 x6 x7 i) (fun k => x8 (ix2 0 k)) (fun k => x5 (ix2 i k)) k := by
  pointwise [val_main_v41, val_main_v40, val_main_v39]
  rw [ref_unit]
  rfl

theorem ref_derr (i : Fin 4096) (k : Fin 1024) : val_main_v57 (F := Ideal) x0 x1 x2 x3 x4 x5 x6 x7 x8 (ix2 i k)
    = derr (aOut x0 x1 x2 x3 x4 x6 x7 i) (fun k => x8 (ix2 0 k)) (fun k => x5 (ix2 i k)) k := by
  pointwise [val_main_v57, val_main_v56, val_main_v55, val_main_v54, val_main_v53, val_main_v52, val_main_cst_12, val_main_cst_13, val_main_cst_14, val_main_v44, val_main_v43, val_main_cst_6]
  rw [ref_err]
  exact weight _

theorem ref_sq (y : S1x1024.Idx) : val_main_v51 (F := Ideal) x0 x1 x2 x3 x4 x5 x6 x7 x8 y = gSq x0 x1 x2 x3 x4 x5 x6 x7 x8 y := by
  idx_vars y
  pointwise [val_main_v51, val_main_v50, val_main_v42, val_main_cst_11]
  simp only [ref_err]
  rfl

theorem ref_gain (y : S1x1024.Idx) : val_main_v60 (F := Ideal) x0 x1 x2 x3 x4 x5 x6 x7 x8 y = gGain x0 x1 x2 x3 x4 x5 x6 x7 x8 y := by
  idx_vars y
  pointwise [val_main_v60, val_main_v59, val_main_v58, val_main_cst_15]
  simp only [ref_unit, ref_derr]
  exact Finset.sum_congr rfl fun i _ => mul_comm _ _

theorem ref_row (y : S4096x1024.Idx) : val_main_v76 (F := Ideal) x0 x1 x2 x3 x4 x5 x6 x7 x8 y = gRow x0 x1 x2 x3 x4 x5 x6 x7 x8 y := by
  idx_vars y
  pointwise [val_main_v76, val_main_v75, val_main_v74, val_main_v73, val_main_v72, val_main_v71, val_main_v70, val_main_v69, val_main_v68, val_main_v67, val_main_v66, val_main_v65, val_main_v64, val_main_v63, val_main_v62, val_main_v61, val_main_v36, val_main_v35, val_main_v34, val_main_cst_5, val_main_cst_16, val_main_cst_17, val_main_cst_18]
  simp only [ref_rms, ref_mean, ref_derr, ref_out, Finset.univ_unique, Finset.sum_singleton]
  obtain ⟨ε, hε, he⟩ := eps_real
  have e := pull cols eps _ 1024 ε (by norm_num) hε cols_real he half_real (aOut x0 x1 x2 x3 x4 x6 x7 y0)
    (fun k => derr (aOut x0 x1 x2 x3 x4 x6 x7 y0) (fun k => x8 (ix2 0 k)) (fun k => x5 (ix2 y0 k)) k * x8 (ix2 0 k)) 0 y1
  rw [zero_add, zero_add] at e
  exact e

theorem ref_rowb (y : S4096x1024.Idx) : val_main_v78 (F := Ideal) x0 x1 x2 x3 x4 x5 x6 x7 x8 y = gRow x0 x1 x2 x3 x4 x5 x6 x7 x8 y := by
  rw [val_main_v78_apply]
  exact ref_row x0 x1 x2 x3 x4 x5 x6 x7 x8 y

end Cert.MergeFwdCall
-- ==== Proof.MergeFwd.Claims.lean ====
/- The claims about the merge and the gradient of the loss in the step's output. -/
module

public import proofs.«01_k».proof.Defs
public import proofs.«01_k».proof.Proof.Gen.MergeFwd.Frame
public import proofs.«01_k».proof.Proof.MergeFwd.Ref
public import proofs.«01_k».proof.Proof.Gen.MergeFwdRefIdeal.Run

@[expose] public section

noncomputable section

namespace Cert.MergeFwdCall

open Idealize.ShloMosaic Idealize.SL.Sem

theorem frame_kernel : Cert.quiescent_MergeFwd := fun m ρ _ => Cert.MergeFwd.Gen.frame m ρ

theorem frame_ideal : Cert.quiescent_MergeFwdIdeal := fun m ρ _ => Cert.MergeFwdIdeal.Gen.frame m ρ

theorem frame_ref : Cert.quiescent_MergeFwdRefIdeal := fun m ρ _ =>
  (θ_run Cert.MergeFwdRefIdeal.defs _ _).mono (fun r h => ⟨fun c => (h c).2.2.2.2.2, sem_eq_zero_of_no_sems (by decide) r.2⟩)
    (Cert.MergeFwdRefIdeal.Value.run m ρ)

theorem preserves : Cert.preserves_MergeFwd_MergeFwdIdeal := trivial

/-- Both programs end with the gated rows, the output's cotangent twice, the squared errors' column sums and the gradient of the gain. -/
theorem algebraic : Cert.algebraic_MergeFwdIdeal_MergeFwdRefIdeal := by
  intro m g m' g' hp ha
  refine ⟨fun c => gMix (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg7)),
    fun c => mRow m c, fun c => mRow m c, fun c => gSq (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5)) (m ((c.tc : Thread Cert.MergeFwdIdeal.nD Cert.MergeFwdIdeal.τ).loc Cert.MergeFwdIdeal.main_arg6)) (m ((c.tc : Thread Cert.MergeFwdIdeal.nD Cert.MergeFwdIdeal.τ).loc Cert.MergeFwdIdeal.main_arg7)) (m ((c.tc : Thread Cert.MergeFwdIdeal.nD Cert.MergeFwdIdeal.τ).loc Cert.MergeFwdIdeal.main_arg8)),
    fun c => gGain (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5)) (m ((c.tc : Thread Cert.MergeFwdIdeal.nD Cert.MergeFwdIdeal.τ).loc Cert.MergeFwdIdeal.main_arg6)) (m ((c.tc : Thread Cert.MergeFwdIdeal.nD Cert.MergeFwdIdeal.τ).loc Cert.MergeFwdIdeal.main_arg7)) (m ((c.tc : Thread Cert.MergeFwdIdeal.nD Cert.MergeFwdIdeal.τ).loc Cert.MergeFwdIdeal.main_arg8)), ?_, ?_⟩
  · refine (θ_run _ _ _).mono (fun r h c => ?_) (Cert.MergeFwdIdeal.Value.run_blocks m g)
    obtain ⟨h0, h1, h2, h3, h4, hr⟩ := h c
    exact ⟨h0.trans (kernel_mix m c), h1.trans (kernel_row m c), h2.trans (kernel_rowb m c), h3.trans (kernel_sq m c), h4.trans (kernel_gain m c), hr⟩
  · refine (θ_run _ _ _).mono (fun r h c => ?_) (Cert.MergeFwdRefIdeal.Value.run m' g')
    obtain ⟨h0, h1, h2, h3, h4, hr⟩ := h c
    obtain ⟨a0, a1, a2, a3, a4, a5, a6, a7, a8⟩ := ha c
    refine ⟨h0.trans ?_, h1.trans ?_, h2.trans ?_, h3.trans ?_, h4.trans ?_, hr⟩
    · rw [Cert.MergeFwdRefIdeal.Read.val_main_v77_eq, a0, a1, a2, a3, a7]
      exact funext fun y => ref_mix _ _ _ _ _ y
    · rw [Cert.MergeFwdRefIdeal.Read.val_main_v76_eq]
      refine (funext fun y => ref_row _ _ _ _ _ _ _ _ _ y).trans ?_
      rw [a0, a1, a2, a3, a4, a5, a6, a7, a8]
    · rw [Cert.MergeFwdRefIdeal.Read.val_main_v78_eq]
      refine (funext fun y => ref_rowb _ _ _ _ _ _ _ _ _ y).trans ?_
      rw [a0, a1, a2, a3, a4, a5, a6, a7, a8]
    · rw [Cert.MergeFwdRefIdeal.Read.val_main_v51_eq]
      refine (funext fun y => ref_sq _ _ _ _ _ _ _ _ _ y).trans ?_
      rw [a0, a1, a2, a3, a4, a5, a6, a7, a8]
    · rw [Cert.MergeFwdRefIdeal.Read.val_main_v60_eq]
      refine (funext fun y => ref_gain _ _ _ _ _ _ _ _ _ y).trans ?_
      rw [a0, a1, a2, a3, a4, a5, a6, a7, a8]

end Cert.MergeFwdCall
-- ==== Proof.Mla.lean ====
/- The heads of the latent attention: a row turned by the position's angles, and heads of 256 columns made of two halves. -/
module

public import proofs.«01_k».proof.Proof.NormEq
public import Idealize.ShloMosaic.Lib.Pipeline.ValueKit

@[expose] public section

set_option maxRecDepth 16384

noncomputable section

namespace Cert.Mla

open Idealize.ShloMosaic Cert.Norm

/-- The printed widths of the two latent rows, the printed small constant, and the printed scale of the scores. -/
def wq : EReal := Ideal.ofBits .f32 0x43C00000#32
def wk : EReal := Ideal.ofBits .f32 0x43800000#32
def eps : EReal := Ideal.ofBits .f32 0x358637BD#32
def scale : EReal := Ideal.ofBits .f32 0x3D93CD3A#32

/-- A row over its root mean square, times the gain. -/
def normed {n : ℕ} (c : EReal) (p g : Fin n → EReal) (k : Fin n) : EReal := p k * rms c eps p * g k

/-- The place of the other half that is paired with place `e`. -/
def mate (e : Fin 128) : Fin 128 := ⟨(e.val + 64) % 128, by omega⟩

/-- A row turned by its angles; the sines carry the sign. -/
def turn (t c s : Fin 128 → EReal) (e : Fin 128) : EReal := t e * c e + t (mate e) * s e

/-- The cotangent of a turned row. -/
def back (d c s : Fin 128 → EReal) (e : Fin 128) : EReal := d e * c e + d (mate e) * s (mate e)

/-- A turned row from its two halves. -/
theorem turn_eq (t c s : Fin 128 → EReal) (e : Fin 128) : turn t c s e
    = if h : e.val < 64 then t ⟨e.val, by omega⟩ * c ⟨e.val, by omega⟩ + t ⟨64 + e.val, by omega⟩ * s ⟨e.val, by omega⟩
      else t ⟨64 + (e.val - 64), by omega⟩ * c ⟨64 + (e.val - 64), by omega⟩ + t ⟨e.val - 64, by omega⟩ * s ⟨64 + (e.val - 64), by omega⟩ := by
  unfold turn
  by_cases h : e.val < 64
  · rw [dif_pos h]
    have h1 : mate e = ⟨64 + e.val, by omega⟩ := Fin.ext (by show (e.val + 64) % 128 = 64 + e.val; omega)
    rw [h1]
  · rw [dif_neg h]
    have h1 : mate e = ⟨e.val - 64, by omega⟩ := Fin.ext (by show (e.val + 64) % 128 = e.val - 64; omega)
    have h2 : (⟨64 + (e.val - 64), by omega⟩ : Fin 128) = e := Fin.ext (by show 64 + (e.val - 64) = e.val; omega)
    rw [h1, h2]

/-- The same for the cotangent. -/
theorem back_eq (t c s : Fin 128 → EReal) (e : Fin 128) : back t c s e
    = if h : e.val < 64 then t ⟨e.val, by omega⟩ * c ⟨e.val, by omega⟩ + t ⟨64 + e.val, by omega⟩ * s ⟨64 + e.val, by omega⟩
      else t ⟨64 + (e.val - 64), by omega⟩ * c ⟨64 + (e.val - 64), by omega⟩ + t ⟨e.val - 64, by omega⟩ * s ⟨e.val - 64, by omega⟩ := by
  unfold back
  by_cases h : e.val < 64
  · rw [dif_pos h]
    have h1 : mate e = ⟨64 + e.val, by omega⟩ := Fin.ext (by show (e.val + 64) % 128 = 64 + e.val; omega)
    rw [h1]
  · rw [dif_neg h]
    have h1 : mate e = ⟨e.val - 64, by omega⟩ := Fin.ext (by show (e.val + 64) % 128 = e.val - 64; omega)
    have h2 : (⟨64 + (e.val - 64), by omega⟩ : Fin 128) = e := Fin.ext (by show 64 + (e.val - 64) = e.val; omega)
    rw [h1, h2]

/-- Heads of 256 columns, of two halves each. -/
def pair (a b : Fin 4 → Fin 128 → EReal) (n : Fin 1024) : EReal :=
  if n.val % 256 < 128 then a ⟨n.val / 256, by omega⟩ ⟨n.val % 128, by omega⟩ else b ⟨n.val / 256, by omega⟩ ⟨n.val % 128, by omega⟩

theorem pair_lo (a b : Fin 4 → Fin 128 → EReal) (h : Fin 4) (d : Fin 128) : pair a b ⟨256 * h.val + d.val, by omega⟩ = a h d := by
  unfold pair
  rw [if_pos (by show (256 * h.val + d.val) % 256 < 128; omega)]
  exact congrArg₂ a (Fin.ext (by show (256 * h.val + d.val) / 256 = _; omega)) (Fin.ext (by show (256 * h.val + d.val) % 128 = _; omega))

theorem pair_hi (a b : Fin 4 → Fin 128 → EReal) (h : Fin 4) (d : Fin 128) : pair a b ⟨256 * h.val + 128 + d.val, by omega⟩ = b h d := by
  unfold pair
  rw [if_neg (by show ¬(256 * h.val + 128 + d.val) % 256 < 128; omega)]
  exact congrArg₂ b (Fin.ext (by show (256 * h.val + 128 + d.val) / 256 = _; omega)) (Fin.ext (by show (256 * h.val + 128 + d.val) % 128 = _; omega))

/-- The heads from two halves told apart by the place in the head. -/
theorem pair_of (a b : Fin 4 → Fin 128 → EReal) (F : Fin 4 → Fin 256 → EReal) (hl : ∀ h (d : Fin 128), F h ⟨d.val, by omega⟩ = a h d)
    (hh : ∀ h (d : Fin 128), F h ⟨128 + d.val, by omega⟩ = b h d) (n : Fin 1024) :
    F ⟨n.val / 256, by omega⟩ ⟨n.val % 256, by omega⟩ = pair a b n := by
  unfold pair
  by_cases h : n.val % 256 < 128
  · rw [if_pos h, ← hl]
    exact congrArg (F _) (Fin.ext (by show n.val % 256 = n.val % 128; omega))
  · rw [if_neg h, ← hh]
    exact congrArg (F _) (Fin.ext (by show n.val % 256 = 128 + n.val % 128; omega))

/-- A block of rows of such heads. -/
abbrev heads (a b : Fin 512 → Fin 4 → Fin 128 → EReal) : Vec Ideal ⟨2, ![512, 1024]⟩ .bf16 := fun y => pair (a (y 0)) (b (y 0)) (y 1)

/-- A store of a head's first half is a block of the heads. -/
theorem piece_lo (a b : Fin 512 → Fin 4 → Fin 128 → EReal) (h : Fin 4) (off : ℕ) (e : off = 256 * h.val)
    (inb : ∀ i, ![0, off] i + ![512, 128] i ≤ (![512, 1024] : Fin 2 → ℕ) i) (r : Fin 512) (d : Fin 128) (P : EReal) (hP : P = a r h d) :
    P = heads a b ((Rect.unit (s := ⟨2, ![512, 1024]⟩) ![0, off] ![512, 128] inb).emb (ix2 r d)) := by
  subst e
  have e : (Rect.unit (s := ⟨2, ![512, 1024]⟩) ![0, 256 * h.val] ![512, 128] inb).emb (ix2 r d)
      = ix2 r (⟨256 * h.val + d.val, by omega⟩ : Fin 1024) := by
    funext i; refine Fin.ext ?_; fin_cases i <;> simp
  rw [e, hP]
  exact (pair_lo (a r) (b r) h d).symm

/-- A store of a head's second half is a block of the heads. -/
theorem piece_hi (a b : Fin 512 → Fin 4 → Fin 128 → EReal) (h : Fin 4) (off : ℕ) (e : off = 256 * h.val + 128)
    (inb : ∀ i, ![0, off] i + ![512, 128] i ≤ (![512, 1024] : Fin 2 → ℕ) i) (r : Fin 512) (d : Fin 128) (P : EReal) (hP : P = b r h d) :
    P = heads a b ((Rect.unit (s := ⟨2, ![512, 1024]⟩) ![0, off] ![512, 128] inb).emb (ix2 r d)) := by
  subst e
  have e : (Rect.unit (s := ⟨2, ![512, 1024]⟩) ![0, 256 * h.val + 128] ![512, 128] inb).emb (ix2 r d)
      = ix2 r (⟨256 * h.val + 128 + d.val, by omega⟩ : Fin 1024) := by
    funext i; refine Fin.ext ?_; fin_cases i <;> simp
  rw [e, hP]
  exact (pair_hi (a r) (b r) h d).symm

end Cert.Mla
-- ==== Proof.MlaProjBwd.Value.lean ====
/- The gradients of the latent attention's projections: what the kernel leaves. -/
module

public import proofs.«01_k».proof.Proof.Mla
public import proofs.«01_k».proof.Proof.Gen.MlaProjBwdIdeal.Value
public import Idealize.ShloMosaic.Lib.Pipeline.ReadBack

@[expose] public section

set_option maxRecDepth 16384

noncomputable section

namespace Cert.MlaProjBwdCall

open Idealize.ShloMosaic Idealize.ShloMosaic.TcCoe Cert.Mla Cert.Norm
open Cert.MlaProjBwdIdeal Cert.MlaProjBwdIdeal.Gen

/-- A row's cotangent of the queries before their scale and angles: the plain half and the turned half of each head. -/
def qLo (D : Fin 1024 → EReal) (h : Fin 4) (d : Fin 128) : EReal := D ⟨256 * h.val + d.val, by omega⟩ * scale
def qHi (D : Fin 1024 → EReal) (c s : Fin 128 → EReal) (h : Fin 4) (d : Fin 128) : EReal :=
  back (fun e => D ⟨256 * h.val + 128 + e.val, by omega⟩) c s d * scale
def qRow (D : Fin 1024 → EReal) (c s : Fin 128 → EReal) : Fin 1024 → EReal := pair (qLo D) (qHi D c s)

/-- A row's cotangent of keys and values. -/
def kvRow (K : Fin 1024 → EReal) (V : Fin 512 → EReal) (n : Fin 1024) : EReal :=
  if h : n.val < 512 then K ⟨256 * (n.val / 128) + n.val % 128, by omega⟩ else V ⟨n.val - 512, by omega⟩

/-- A row's cotangent of the shared key part, before its angles. -/
def kSum (K : Fin 1024 → EReal) (d : Fin 128) : EReal :=
  K ⟨128 + d.val, by omega⟩ + K ⟨384 + d.val, by omega⟩ + K ⟨640 + d.val, by omega⟩ + K ⟨896 + d.val, by omega⟩

/-- The cotangent of a row before its normalisation, and what the row adds to the gradient of the gain. -/
def nback {n : ℕ} (w : EReal) (p g dy : Fin n → EReal) (k : Fin n) : EReal :=
  rms w eps p * (dy k * g k - p k * rms w eps p * Ideal.div (∑ j, dy j * g j * (p j * rms w eps p)) w)
def gadd {n : ℕ} (w : EReal) (p dy : Fin n → EReal) (k : Fin n) : EReal := dy k * (p k * rms w eps p)

/-- The five parts of a row of the projections' cotangent. -/
def cat5 (a : Fin 384 → EReal) (b : Fin 256 → EReal) (c d : Fin 128 → EReal) (n : Fin 1024) : EReal :=
  if h : n.val < 384 then a ⟨n.val, h⟩
  else if h1 : n.val - 384 < 256 then b ⟨n.val - 384, h1⟩
  else if h2 : n.val - 384 - 256 < 128 then c ⟨n.val - 384 - 256, h2⟩
  else if h3 : n.val - 384 - 256 - 128 < 128 then d ⟨n.val - 384 - 256 - 128, h3⟩ else 0

/-- The latent parts of a row. -/
def latQ (p : Fin 1024 → EReal) (k : Fin 384) : EReal := p ⟨k.val, by omega⟩
def latK (p : Fin 1024 → EReal) (k : Fin 256) : EReal := p ⟨384 + k.val, by omega⟩

/-- A load of a block of columns. -/
theorem ld_at {n w : ℕ} {e : EltTy} (x : Vec Ideal ⟨2, ![512, n]⟩ e) (off : ℕ) (inb : ∀ a, ![0, off] a + ![512, w] a ≤ (![512, n] : Fin 2 → ℕ) a)
    (r : Fin 512) (d : Fin w) (j : Fin n) (hj : j.val = off + d.val) :
    View.ld x (Rect.unit (s := ⟨2, ![512, n]⟩) ![0, off] ![512, w] inb) (ix2 r d) = x (ix2 r j) := by
  show x _ = x _
  refine congrArg x ?_
  funext a; refine Fin.ext ?_
  fin_cases a
  · simp
  · simp [hj]

section
variable (c s : Vec Ideal S512x128 .f32) (v : Vec Ideal S512x128 .bf16) (r : Fin 512) (d : Fin 128)
abbrev rot : EReal := back (fun e => v (ix2 r e)) (fun k => c (ix2 r k)) (fun k => s (ix2 r k)) d * scale

theorem lo0 : k0_pay6 (F := Ideal) v (ix2 r d) = v (ix2 r d) * scale := by pointwise [k0_pay6]; rfl
theorem lo1 : k0_pay10 (F := Ideal) (k0_pay9 v) (ix2 r d) = v (ix2 r d) * scale := by pointwise [k0_pay10, k0_pay9]; rfl
theorem lo2 : k0_pay13 (F := Ideal) v (ix2 r d) = v (ix2 r d) * scale := by pointwise [k0_pay13]; rfl
theorem lo3 : k0_pay17 (F := Ideal) v (ix2 r d) = v (ix2 r d) * scale := by pointwise [k0_pay17]; rfl
theorem hi0 : k0_pay7 (F := Ideal) c s v (ix2 r d) = rot c s v r d := by pointwise [k0_pay7]; rfl
theorem hi1 : k0_pay11 (F := Ideal) c s v (ix2 r d) = rot c s v r d := by pointwise [k0_pay11]; rfl
theorem hi2 : k0_pay16 (F := Ideal) (k0_pay14 c s v) (k0_pay15 (F := Ideal)) (ix2 r d) = rot c s v r d := by pointwise [k0_pay16, k0_pay15, k0_pay14]; rfl
theorem hi3 : k0_pay18 (F := Ideal) c s v (ix2 r d) = rot c s v r d := by pointwise [k0_pay18]; rfl
end

variable (x0 x1 : Vec Ideal S512x1024 .bf16) (x2 : Vec Ideal S512x512 .bf16) (x3 x4 : Vec Ideal S512x128 .f32) (x5 : Vec Ideal S512x1024 .f32)
  (x6 : Vec Ideal S512x128 .bf16) (x7 : Vec Ideal S1024x384 .bf16) (x8 : Vec Ideal S256x1024 .bf16) (x9 : Vec Ideal S1x384 .f32) (x10 : Vec Ideal S1x256 .f32)

/-- The stores of the queries' cotangent. -/
abbrev qPieces : List (View.Piece (Elt Ideal) S512x1024 .bf16) :=
  [⟨Rect.unit ![0, 896] ![512, 128] inb_S512x1024_S512x128_0_896, k0_pay18 x3 x4 (View.ld x0 (Rect.unit ![0, 896] ![512, 128] inb_S512x1024_S512x128_0_896))⟩,
    ⟨Rect.unit ![0, 768] ![512, 128] inb_S512x1024_S512x128_0_768, k0_pay17 (View.ld x0 (Rect.unit ![0, 768] ![512, 128] inb_S512x1024_S512x128_0_768))⟩,
    ⟨Rect.unit ![0, 640] ![512, 128] inb_S512x1024_S512x128_0_640, k0_pay16 (k0_pay14 x3 x4 (View.ld x0 (Rect.unit ![0, 640] ![512, 128] inb_S512x1024_S512x128_0_640))) k0_pay15⟩,
    ⟨Rect.unit ![0, 512] ![512, 128] inb_S512x1024_S512x128_0_512, k0_pay13 (View.ld x0 (Rect.unit ![0, 512] ![512, 128] inb_S512x1024_S512x128_0_512))⟩,
    ⟨Rect.unit ![0, 384] ![512, 128] inb_S512x1024_S512x128_0_384, k0_pay11 x3 x4 (View.ld x0 (Rect.unit ![0, 384] ![512, 128] inb_S512x1024_S512x128_0_384))⟩,
    ⟨Rect.unit ![0, 256] ![512, 128] inb_S512x1024_S512x128_0_256, k0_pay10 (k0_pay9 (View.ld x0 (Rect.unit ![0, 256] ![512, 128] inb_S512x1024_S512x128_0_256)))⟩,
    ⟨Rect.unit ![0, 128] ![512, 128] inb_S512x1024_S512x128_0_128, k0_pay7 x3 x4 (View.ld x0 (Rect.unit ![0, 128] ![512, 128] inb_S512x1024_S512x128_0_128))⟩,
    ⟨Rect.unit ![0, 0] ![512, 128] inb_S512x1024_S512x128_0_0, k0_pay6 (View.ld x0 (Rect.unit ![0, 0] ![512, 128] inb_S512x1024_S512x128_0_0))⟩]

/-- The tile's rows of them. -/
abbrev tQ (r : Fin 512) : Fin 1024 → EReal := qRow (fun n => x0 (ix2 r n)) (fun k => x3 (ix2 r k)) (fun k => x4 (ix2 r k))

theorem rot_at (h : Fin 4) (off : ℕ) (e : off = 256 * h.val + 128) (inb : ∀ a, ![0, off] a + ![512, 128] a ≤ (![512, 1024] : Fin 2 → ℕ) a) (r : Fin 512) (d : Fin 128) :
    rot x3 x4 (View.ld x0 (Rect.unit (s := ⟨2, ![512, 1024]⟩) ![0, off] ![512, 128] inb)) r d
      = qHi (fun n => x0 (ix2 r n)) (fun k => x3 (ix2 r k)) (fun k => x4 (ix2 r k)) h d :=
  congrArg (fun f => back f (fun k => x3 (ix2 r k)) (fun k => x4 (ix2 r k)) d * scale)
    (funext fun k => ld_at x0 off inb r k ⟨256 * h.val + 128 + k.val, by omega⟩ (by dsimp only; omega))

theorem lo_at (h : Fin 4) (off : ℕ) (e : off = 256 * h.val) (inb : ∀ a, ![0, off] a + ![512, 128] a ≤ (![512, 1024] : Fin 2 → ℕ) a) (r : Fin 512) (d : Fin 128) :
    View.ld x0 (Rect.unit (s := ⟨2, ![512, 1024]⟩) ![0, off] ![512, 128] inb) (ix2 r d) * scale = qLo (fun n => x0 (ix2 r n)) h d :=
  congrArg (fun a : EReal => a * scale) (ld_at x0 off inb r d ⟨256 * h.val + d.val, by omega⟩ (by dsimp only; omega))

theorem canon_q (y : S512x1024.Idx) : View.canon (qPieces x0 x3 x4) y = tQ x0 x3 x4 (y 0) (y 1) := by
  refine View.canon_append_of_piecesOf (heads (fun r => qLo fun n => x0 (ix2 r n))
    (fun r => qHi (fun n => x0 (ix2 r n)) (fun k => x3 (ix2 r k)) (fun k => x4 (ix2 r k)))) [] (qPieces x0 x3 x4) ⟨?_, ?_, ?_, ?_, ?_, ?_, ?_, ?_, trivial⟩ y ?_
  · intro z; idx_vars z; exact piece_hi _ _ 3 _ rfl _ _ _ _ ((hi3 _ _ _ _ _).trans (rot_at _ _ _ 3 _ rfl _ _ _))
  · intro z; idx_vars z; exact piece_lo _ _ 3 _ rfl _ _ _ _ ((lo3 _ _ _).trans (lo_at _ 3 _ rfl _ _ _))
  · intro z; idx_vars z; exact piece_hi _ _ 2 _ rfl _ _ _ _ ((hi2 _ _ _ _ _).trans (rot_at _ _ _ 2 _ rfl _ _ _))
  · intro z; idx_vars z; exact piece_lo _ _ 2 _ rfl _ _ _ _ ((lo2 _ _ _).trans (lo_at _ 2 _ rfl _ _ _))
  · intro z; idx_vars z; exact piece_hi _ _ 1 _ rfl _ _ _ _ ((hi1 _ _ _ _ _).trans (rot_at _ _ _ 1 _ rfl _ _ _))
  · intro z; idx_vars z; exact piece_lo _ _ 1 _ rfl _ _ _ _ ((lo1 _ _ _).trans (lo_at _ 1 _ rfl _ _ _))
  · intro z; idx_vars z; exact piece_hi _ _ 0 _ rfl _ _ _ _ ((hi0 _ _ _ _ _).trans (rot_at _ _ _ 0 _ rfl _ _ _))
  · intro z; idx_vars z; exact piece_lo _ _ 0 _ rfl _ _ _ _ ((lo0 _ _ _).trans (lo_at _ 0 _ rfl _ _ _))
  · exact View.cover_of_tiledL _ ![512, 128] (by sl_kernel_rfl) y

/-- The stores of the cotangent of keys and values. -/
abbrev kvPieces : List (View.Piece (Elt Ideal) S512x1024 .bf16) :=
  [⟨Rect.unit ![0, 512] ![512, 512] inb_S512x1024_S512x512_0_512, x2⟩,
    ⟨Rect.unit ![0, 384] ![512, 128] inb_S512x1024_S512x128_0_384, View.ld x1 (Rect.unit ![0, 768] ![512, 128] inb_S512x1024_S512x128_0_768)⟩,
    ⟨Rect.unit ![0, 256] ![512, 128] inb_S512x1024_S512x128_0_256, View.ld x1 (Rect.unit ![0, 512] ![512, 128] inb_S512x1024_S512x128_0_512)⟩,
    ⟨Rect.unit ![0, 128] ![512, 128] inb_S512x1024_S512x128_0_128, View.ld x1 (Rect.unit ![0, 256] ![512, 128] inb_S512x1024_S512x128_0_256)⟩,
    ⟨Rect.unit ![0, 0] ![512, 128] inb_S512x1024_S512x128_0_0, View.ld x1 (Rect.unit ![0, 0] ![512, 128] inb_S512x1024_S512x128_0_0)⟩]

/-- The tile's rows of them. -/
abbrev tKV (r : Fin 512) : Fin 1024 → EReal := kvRow (fun n => x1 (ix2 r n)) (fun n => x2 (ix2 r n))
abbrev tKVv : Vec Ideal S512x1024 .bf16 := fun y => tKV x1 x2 (y 0) (y 1)

theorem kv_piece (h : Fin 4) (off : ℕ) (e : off = 128 * h.val) (inb : ∀ a, ![0, off] a + ![512, 128] a ≤ (![512, 1024] : Fin 2 → ℕ) a)
    (inb' : ∀ a, ![0, 2 * off] a + ![512, 128] a ≤ (![512, 1024] : Fin 2 → ℕ) a) (r : Fin 512) (d : Fin 128) :
    View.ld x1 (Rect.unit (s := ⟨2, ![512, 1024]⟩) ![0, 2 * off] ![512, 128] inb') (ix2 r d)
      = tKVv x1 x2 ((Rect.unit (s := ⟨2, ![512, 1024]⟩) ![0, off] ![512, 128] inb).emb (ix2 r d)) := by
  have e1 : (Rect.unit (s := ⟨2, ![512, 1024]⟩) ![0, off] ![512, 128] inb).emb (ix2 r d) = ix2 r (⟨128 * h.val + d.val, by omega⟩ : Fin 1024) := by
    subst e; funext i; refine Fin.ext ?_; fin_cases i <;> simp
  rw [e1]
  show _ = kvRow (fun n => x1 (ix2 r n)) (fun n => x2 (ix2 r n)) ⟨128 * h.val + d.val, by omega⟩
  unfold kvRow
  rw [dif_pos (by dsimp only; omega)]
  exact ld_at x1 (2 * off) inb' r d _ (by dsimp only; omega)

theorem canon_kv (y : S512x1024.Idx) : View.canon (kvPieces x1 x2) y = tKV x1 x2 (y 0) (y 1) := by
  refine View.canon_append_of_piecesOf (tKVv x1 x2) [] (kvPieces x1 x2) ⟨?_, ?_, ?_, ?_, ?_, trivial⟩ y ?_
  · intro z; idx_vars z
    have e1 : (Rect.unit (s := S512x1024) ![0, 512] ![512, 512] inb_S512x1024_S512x512_0_512).emb (ix2 z0 z1) = ix2 z0 (⟨512 + z1.val, by omega⟩ : Fin 1024) := by
      funext i; refine Fin.ext ?_; fin_cases i <;> simp
    show x2 (ix2 z0 z1) = tKVv x1 x2 ((Rect.unit (s := S512x1024) ![0, 512] ![512, 512] inb_S512x1024_S512x512_0_512).emb (ix2 z0 z1))
    rw [e1]
    show _ = kvRow (fun n => x1 (ix2 z0 n)) (fun n => x2 (ix2 z0 n)) ⟨512 + z1.val, by omega⟩
    unfold kvRow
    rw [dif_neg (by dsimp only; omega)]
    exact congrArg (fun j => x2 (ix2 z0 j)) (Fin.ext (by dsimp only; omega))
  · intro z; idx_vars z; exact kv_piece x1 x2 3 _ rfl _ _ _ _
  · intro z; idx_vars z; exact kv_piece x1 x2 2 _ rfl _ _ _ _
  · intro z; idx_vars z; exact kv_piece x1 x2 1 _ rfl _ _ _ _
  · intro z; idx_vars z; exact kv_piece x1 x2 0 _ rfl _ _ _ _
  · exact View.cover_of_tiledBy _ ![512, 128] (by sl_kernel_rfl) y

/-- The whole of a block read back after its stores. -/
theorem cov {sig : RefSig} {κ : Kind} {sp : Space} (v : View sig κ sp S512x1024 .bf16) (L : List (View.Piece (Elt Ideal) S512x1024 .bf16))
    (inb : ∀ a, ![0, 0] a + ![512, 1024] a ≤ S512x1024.size a) (r : Fin 512) (n : Fin 1024) :
    v.readCov L (Rect.unit (s := S512x1024) ![0, 0] ![512, 1024] inb).toLoadRect (ix2 r n) = View.canon L (ix2 r n) := by
  rw [View.readCov_eq_canon']
  refine congrArg (View.canon L) ?_
  funext i; refine Fin.ext ?_; fin_cases i <;> simp

section
variable (v : Vec Ideal S512x1024 .bf16) (l : Fin 512 → Fin 1024 → EReal) (hv : ∀ r n, v (ix2 r n) = l r n)
  (p : Vec Ideal S512x384 .f32) (p' : Vec Ideal S512x256 .f32) (P : Fin 512 → Fin 384 → EReal) (hp : ∀ r k, p (ix2 r k) = P r k)
  (P' : Fin 512 → Fin 256 → EReal) (hp' : ∀ r k, p' (ix2 r k) = P' r k) (r : Fin 512)

/-- The cotangents of the two normalised rows. -/
abbrev dyq (r : Fin 512) (k : Fin 384) : EReal := ∑ n, l r n * x7 (ix2 n k)
abbrev dyk (r : Fin 512) (k : Fin 256) : EReal := ∑ n, l r n * x8 (ix2 k n)

include hv in
theorem pay_dyq (k : Fin 384) : k0_pay20 (F := Ideal) v x7 (ix2 r k) = dyq x7 l r k := by
  pointwise [k0_pay20]
  simp only [hv]

include hv in
theorem pay_dyk (k : Fin 256) : k0_pay21 (F := Ideal) v x8 (ix2 r k) = dyk x8 l r k := by
  pointwise [k0_pay21]
  simp only [hv]

include hp in
theorem pay_rq (u : Fin 1) : k0_pay22 (F := Ideal) p (ix2 r u) = rms wq eps (P r) := by
  pointwise [k0_pay22]
  simp only [hp]
  rfl

include hp' in
theorem pay_rk (u : Fin 1) : k0_pay26 (F := Ideal) p' (ix2 r u) = rms wk eps (P' r) := by
  pointwise [k0_pay26]
  simp only [hp']
  rfl

include hp in
theorem pay_xq (k : Fin 384) : k0_pay23 (F := Ideal) p (ix2 r k) = P r k * rms wq eps (P r) := by
  pointwise [k0_pay23]
  rw [pay_rq p P hp, hp]

include hp' in
theorem pay_xk (k : Fin 256) : k0_pay27 (F := Ideal) p' (ix2 r k) = P' r k * rms wk eps (P' r) := by
  pointwise [k0_pay27]
  rw [pay_rk p' P' hp', hp']

include hv hp in
theorem pay_dcq (k : Fin 384) : k0_pay31 (F := Ideal) (k0_pay24 v x7 p x9) (ix2 r k) = nback wq (P r) (fun k => x9 (ix2 0 k)) (dyq x7 l r) k := by
  pointwise [k0_pay31, k0_pay24]
  simp only [pay_dyq x7 v l hv, pay_xq p P hp, pay_rq p P hp]
  rfl

include hv hp' in
theorem pay_dck (k : Fin 256) : k0_pay1 (F := Ideal) (k0_pay28 (k0_pay21 v x8) p' x10) (ix2 r k) = nback wk (P' r) (fun k => x10 (ix2 0 k)) (dyk x8 l r) k := by
  pointwise [k0_pay1, k0_pay28]
  simp only [pay_dyk x8 v l hv, pay_xk p' P' hp', pay_rk p' P' hp']
  rfl

include hv hp in
theorem pay_gq (acc : Vec Ideal S1x384 .f32) (u : Fin 1) (k : Fin 384) : k0_pay29 (F := Ideal) (k0_pay25 v x7 p) acc (ix2 u k)
    = acc (ix2 u k) + ∑ r, gadd wq (P r) (dyq x7 l r) k := by
  pointwise [k0_pay29, k0_pay25]
  simp only [pay_dyq x7 v l hv, pay_xq p P hp]
  rfl

include hv hp' in
theorem pay_gk (acc : Vec Ideal S1x256 .f32) (u : Fin 1) (k : Fin 256) : k0_pay30 (F := Ideal) (k0_pay21 v x8) p' acc (ix2 u k)
    = acc (ix2 u k) + ∑ r, gadd wk (P' r) (dyk x8 l r) k := by
  pointwise [k0_pay30]
  simp only [pay_dyk x8 v l hv, pay_xk p' P' hp']
  rfl
end

theorem pay_kr (a b c d : Vec Ideal S512x128 .bf16) (K : Fin 512 → Fin 1024 → EReal) (ha : ∀ r k, a (ix2 r k) = K r ⟨128 + k.val, by omega⟩)
    (hb : ∀ r k, b (ix2 r k) = K r ⟨384 + k.val, by omega⟩) (hc : ∀ r k, c (ix2 r k) = K r ⟨640 + k.val, by omega⟩)
    (hd : ∀ r k, d (ix2 r k) = K r ⟨896 + k.val, by omega⟩) (r : Fin 512) (k : Fin 128) :
    k0_pay2 (F := Ideal) x3 x4 (k0_pay19 (k0_pay12 (k0_pay8 a) b) c d) (ix2 r k)
      = back (kSum (K r)) (fun k => x3 (ix2 r k)) (fun k => x4 (ix2 r k)) k := by
  pointwise [k0_pay2, k0_pay19, k0_pay12, k0_pay8]
  simp only [ha, hb, hc, hd]
  rfl

/-- The stores of the cotangent of the projections, the two cotangents read back being given. -/
abbrev oPieces (vq vk : Vec Ideal S512x1024 .bf16) : List (View.Piece (Elt Ideal) S512x1024 .bf16) :=
  [⟨Rect.unit ![0, 896] ![512, 128] inb_S512x1024_S512x128_0_896, (k0_pay3 (F := Ideal))⟩,
    ⟨Rect.unit ![0, 768] ![512, 128] inb_S512x1024_S512x128_0_768, x6⟩,
    ⟨Rect.unit ![0, 640] ![512, 128] inb_S512x1024_S512x128_0_640, k0_pay2 x3 x4 (k0_pay19 (k0_pay12 (k0_pay8 (View.ld x1 (Rect.unit ![0, 128] ![512, 128] inb_S512x1024_S512x128_0_128))) (View.ld x1 (Rect.unit ![0, 384] ![512, 128] inb_S512x1024_S512x128_0_384))) (View.ld x1 (Rect.unit ![0, 640] ![512, 128] inb_S512x1024_S512x128_0_640)) (View.ld x1 (Rect.unit ![0, 896] ![512, 128] inb_S512x1024_S512x128_0_896)))⟩,
    ⟨Rect.unit ![0, 384] ![512, 256] inb_S512x1024_S512x256_0_384, k0_pay1 (k0_pay28 (k0_pay21 vk x8) (View.ld x5 (Rect.unit ![0, 384] ![512, 256] inb_S512x1024_S512x256_0_384)) x10)⟩,
    ⟨Rect.unit ![0, 0] ![512, 384] inb_S512x1024_S512x384_0_0, k0_pay31 (k0_pay24 vq x7 (View.ld x5 (Rect.unit ![0, 0] ![512, 384] inb_S512x1024_S512x384_0_0)) x9)⟩]

/-- The tile's parts of it. -/
abbrev tDq (r : Fin 512) : Fin 384 → EReal :=
  nback wq (latQ fun n => x5 (ix2 r n)) (fun k => x9 (ix2 0 k)) (dyq x7 (tQ x0 x3 x4) r)
abbrev tDk (r : Fin 512) : Fin 256 → EReal :=
  nback wk (latK fun n => x5 (ix2 r n)) (fun k => x10 (ix2 0 k)) (dyk x8 (tKV x1 x2) r)
abbrev tDr (r : Fin 512) : Fin 128 → EReal :=
  back (kSum fun n => x1 (ix2 r n)) (fun k => x3 (ix2 r k)) (fun k => x4 (ix2 r k))
abbrev tO : Vec Ideal S512x1024 .bf16 := fun y =>
  cat5 (tDq x0 x3 x4 x5 x7 x9 (y 0)) (tDk x1 x2 x5 x8 x10 (y 0)) (tDr x1 x3 x4 (y 0)) (fun k => x6 (ix2 (y 0) k)) (y 1)

theorem o_emb (off w : ℕ) (inb : ∀ a, ![0, off] a + ![512, w] a ≤ (![512, 1024] : Fin 2 → ℕ) a) (r : Fin 512) (d : Fin w) (j : Fin 1024) (hj : j.val = off + d.val) :
    (Rect.unit (s := ⟨2, ![512, 1024]⟩) ![0, off] ![512, w] inb).emb (ix2 r d) = ix2 r j := by
  funext a; refine Fin.ext ?_
  fin_cases a
  · simp
  · simp [hj]

theorem lq (r : Fin 512) (k : Fin 384) : (View.ld x5 (Rect.unit ![0, 0] ![512, 384] inb_S512x1024_S512x384_0_0)) (ix2 r k) = latQ (fun n => x5 (ix2 r n)) k :=
  ld_at x5 0 _ r k ⟨k.val, by omega⟩ (by dsimp only; omega)

theorem lk (r : Fin 512) (k : Fin 256) : (View.ld x5 (Rect.unit ![0, 384] ![512, 256] inb_S512x1024_S512x256_0_384)) (ix2 r k) = latK (fun n => x5 (ix2 r n)) k :=
  ld_at x5 384 _ r k ⟨384 + k.val, by omega⟩ rfl

theorem canon_o (vq vk : Vec Ideal S512x1024 .bf16) (hq : ∀ r n, vq (ix2 r n) = tQ x0 x3 x4 r n) (hk : ∀ r n, vk (ix2 r n) = tKV x1 x2 r n)
    (y : S512x1024.Idx) : View.canon (oPieces x1 x3 x4 x5 x6 x7 x8 x9 x10 vq vk) y = tO x0 x1 x2 x3 x4 x5 x6 x7 x8 x9 x10 y := by
  refine View.canon_append_of_piecesOf (tO x0 x1 x2 x3 x4 x5 x6 x7 x8 x9 x10) [] (oPieces x1 x3 x4 x5 x6 x7 x8 x9 x10 vq vk) ⟨?_, ?_, ?_, ?_, ?_, trivial⟩ y ?_
  · intro z; idx_vars z
    show k0_pay3 (F := Ideal) (ix2 z0 z1) = tO x0 x1 x2 x3 x4 x5 x6 x7 x8 x9 x10 ((Rect.unit ![0, 896] ![512, 128] inb_S512x1024_S512x128_0_896 : Rect S512x1024).emb (ix2 z0 z1))
    rw [o_emb 896 128 _ z0 z1 ⟨896 + z1.val, by omega⟩ rfl]
    have e : k0_pay3 (F := Ideal) (ix2 z0 z1) = (fun _ => 0) z1 := by pointwise [k0_pay3]
    rw [e]
    show _ = cat5 _ _ _ _ ⟨896 + z1.val, _⟩
    unfold cat5
    rw [dif_neg (by dsimp only; omega)]
    rw [dif_neg (by dsimp only; omega)]
    rw [dif_neg (by dsimp only; omega)]
    rw [dif_neg (by dsimp only; omega)]
  · intro z; idx_vars z
    show x6 (ix2 z0 z1) = tO x0 x1 x2 x3 x4 x5 x6 x7 x8 x9 x10 ((Rect.unit ![0, 768] ![512, 128] inb_S512x1024_S512x128_0_768 : Rect S512x1024).emb (ix2 z0 z1))
    rw [o_emb 768 128 _ z0 z1 ⟨768 + z1.val, by omega⟩ rfl]
    have e : x6 (ix2 z0 z1) = (fun k => x6 (ix2 z0 k)) z1 := rfl
    rw [e]
    show _ = cat5 _ _ _ _ ⟨768 + z1.val, _⟩
    unfold cat5
    rw [dif_neg (by dsimp only; omega)]
    rw [dif_neg (by dsimp only; omega)]
    rw [dif_neg (by dsimp only; omega)]
    rw [dif_pos (by dsimp only; omega)]
    exact congrArg (fun j => x6 (ix2 z0 j)) (Fin.ext (by dsimp only; omega))
  · intro z; idx_vars z
    show k0_pay2 x3 x4 (k0_pay19 (k0_pay12 (k0_pay8 (View.ld x1 (Rect.unit ![0, 128] ![512, 128] inb_S512x1024_S512x128_0_128))) (View.ld x1 (Rect.unit ![0, 384] ![512, 128] inb_S512x1024_S512x128_0_384))) (View.ld x1 (Rect.unit ![0, 640] ![512, 128] inb_S512x1024_S512x128_0_640)) (View.ld x1 (Rect.unit ![0, 896] ![512, 128] inb_S512x1024_S512x128_0_896))) (ix2 z0 z1) = tO x0 x1 x2 x3 x4 x5 x6 x7 x8 x9 x10 ((Rect.unit ![0, 640] ![512, 128] inb_S512x1024_S512x128_0_640 : Rect S512x1024).emb (ix2 z0 z1))
    rw [o_emb 640 128 _ z0 z1 ⟨640 + z1.val, by omega⟩ rfl]
    have e : k0_pay2 x3 x4 (k0_pay19 (k0_pay12 (k0_pay8 (View.ld x1 (Rect.unit ![0, 128] ![512, 128] inb_S512x1024_S512x128_0_128))) (View.ld x1 (Rect.unit ![0, 384] ![512, 128] inb_S512x1024_S512x128_0_384))) (View.ld x1 (Rect.unit ![0, 640] ![512, 128] inb_S512x1024_S512x128_0_640)) (View.ld x1 (Rect.unit ![0, 896] ![512, 128] inb_S512x1024_S512x128_0_896))) (ix2 z0 z1) = (tDr x1 x3 x4 z0) z1 := pay_kr x3 x4 _ _ _ _ (fun r n => x1 (ix2 r n)) (fun r k => ld_at x1 128 _ r k _ rfl) (fun r k => ld_at x1 384 _ r k _ rfl) (fun r k => ld_at x1 640 _ r k _ rfl) (fun r k => ld_at x1 896 _ r k _ rfl) z0 z1
    rw [e]
    show _ = cat5 _ _ _ _ ⟨640 + z1.val, _⟩
    unfold cat5
    rw [dif_neg (by dsimp only; omega)]
    rw [dif_neg (by dsimp only; omega)]
    rw [dif_pos (by dsimp only; omega)]
    exact congrArg _ (Fin.ext (by dsimp only; omega))
  · intro z; idx_vars z
    show k0_pay1 (k0_pay28 (k0_pay21 vk x8) (View.ld x5 (Rect.unit ![0, 384] ![512, 256] inb_S512x1024_S512x256_0_384)) x10) (ix2 z0 z1) = tO x0 x1 x2 x3 x4 x5 x6 x7 x8 x9 x10 ((Rect.unit ![0, 384] ![512, 256] inb_S512x1024_S512x256_0_384 : Rect S512x1024).emb (ix2 z0 z1))
    rw [o_emb 384 256 _ z0 z1 ⟨384 + z1.val, by omega⟩ rfl]
    have e : k0_pay1 (k0_pay28 (k0_pay21 vk x8) (View.ld x5 (Rect.unit ![0, 384] ![512, 256] inb_S512x1024_S512x256_0_384)) x10) (ix2 z0 z1) = (tDk x1 x2 x5 x8 x10 z0) z1 := pay_dck x8 x10 vk (tKV x1 x2) hk _ _ (lk x5) z0 z1
    rw [e]
    show _ = cat5 _ _ _ _ ⟨384 + z1.val, _⟩
    unfold cat5
    rw [dif_neg (by dsimp only; omega)]
    rw [dif_pos (by dsimp only; omega)]
    exact congrArg _ (Fin.ext (by dsimp only; omega))
  · intro z; idx_vars z
    show k0_pay31 (k0_pay24 vq x7 (View.ld x5 (Rect.unit ![0, 0] ![512, 384] inb_S512x1024_S512x384_0_0)) x9) (ix2 z0 z1) = tO x0 x1 x2 x3 x4 x5 x6 x7 x8 x9 x10 ((Rect.unit ![0, 0] ![512, 384] inb_S512x1024_S512x384_0_0 : Rect S512x1024).emb (ix2 z0 z1))
    rw [o_emb 0 384 _ z0 z1 ⟨0 + z1.val, by omega⟩ rfl]
    have e : k0_pay31 (k0_pay24 vq x7 (View.ld x5 (Rect.unit ![0, 0] ![512, 384] inb_S512x1024_S512x384_0_0)) x9) (ix2 z0 z1) = (tDq x0 x3 x4 x5 x7 x9 z0) z1 := pay_dcq x7 x9 vq (tQ x0 x3 x4) hq _ _ (lq x5) z0 z1
    rw [e]
    show _ = cat5 _ _ _ _ ⟨0 + z1.val, _⟩
    unfold cat5
    rw [dif_pos (by dsimp only; omega)]
    exact congrArg _ (Fin.ext (by dsimp only; omega))
  · exact View.cover_of_tiledBy _ ![512, 128] (by sl_kernel_rfl) y

variable (m : (ℓ : Loc nD τ sig) → Buf (Elt Ideal) ℓ) (c : Dev nD) (t : Fin cfg0.N)

theorem out_q (y : S512x1024.Idx) : (outsAt0 m c t.val t.isLt).1 y = tQ (iblk m c 0 t) (iblk m c 3 t) (iblk m c 4 t) (y 0) (y 1) := by
  by_cases h0 : t.val % 8 = 0
  · rw [Gen.outsAt0_A m c t h0]
    frame_open
    frame_out
    exact canon_q _ _ _ y
  · rw [Gen.outsAt0_B m c t h0]
    frame_open
    frame_out
    exact canon_q _ _ _ y

theorem out_kv (y : S512x1024.Idx) : (outsAt0 m c t.val t.isLt).2.1 y = tKV (iblk m c 1 t) (iblk m c 2 t) (y 0) (y 1) := by
  by_cases h0 : t.val % 8 = 0
  · rw [Gen.outsAt0_A m c t h0]
    frame_open
    frame_out
    exact canon_kv _ _ y
  · rw [Gen.outsAt0_B m c t h0]
    frame_open
    frame_out
    exact canon_kv _ _ y

theorem out_o (y : S512x1024.Idx) : (outsAt0 m c t.val t.isLt).2.2.1 y = tO (iblk m c 0 t) (iblk m c 1 t) (iblk m c 2 t) (iblk m c 3 t) (iblk m c 4 t) (X0_5 m c t) (iblk m c 6 t) (iblk m c 7 t) (iblk m c 8 t) (iblk m c 9 t) (iblk m c 10 t) y := by
  by_cases h0 : t.val % 8 = 0
  · rw [Gen.outsAt0_A m c t h0]
    frame_open
    frame_out
    exact canon_o _ _ _ _ _ _ _ _ _ _ _ _ _ (fun r n => (cov _ _ _ r n).trans (canon_q _ _ _ _)) (fun r n => (cov _ _ _ r n).trans (canon_kv _ _ _)) y
  · rw [Gen.outsAt0_B m c t h0]
    frame_open
    frame_out
    exact canon_o _ _ _ _ _ _ _ _ _ _ _ _ _ (fun r n => (cov _ _ _ r n).trans (canon_q _ _ _ _)) (fun r n => (cov _ _ _ r n).trans (canon_kv _ _ _)) y

/-- What the tile's row adds to the gradients of the gains. -/
abbrev tGq (r : Fin 512) : Fin 384 → EReal := gadd wq (latQ fun n => X0_5 m c t (ix2 r n)) (dyq (iblk m c 7 t) (tQ (iblk m c 0 t) (iblk m c 3 t) (iblk m c 4 t)) r)
abbrev tGk (r : Fin 512) : Fin 256 → EReal := gadd wk (latK fun n => X0_5 m c t (ix2 r n)) (dyk (iblk m c 8 t) (tKV (iblk m c 1 t) (iblk m c 2 t)) r)

theorem gq_A (h0 : t.val % 8 = 0) (y : S1x384.Idx) : (outsAt0 m c t.val t.isLt).2.2.2.1 y = k0_pay4 (F := Ideal) y + ∑ r, tGq m c t r (y 1) := by
  rw [Gen.outsAt0_A m c t h0]
  frame_open
  frame_out
  idx_vars y
  exact pay_gq _ _ _ (fun r n => (cov _ _ _ r n).trans (canon_q _ _ _ _)) _ _ (lq _) _ y0 y1

theorem gq_B (h0 : ¬t.val % 8 = 0) (y : S1x384.Idx) : (outsAt0 m c t.val t.isLt).2.2.2.1 y
    = (outsAt0 m c (t.val - 1) (Nat.lt_of_le_of_lt (Nat.sub_le _ _) t.isLt)).2.2.2.1 y + ∑ r, tGq m c t r (y 1) := by
  rw [Gen.outsAt0_B m c t h0]
  frame_open
  frame_out
  idx_vars y
  exact pay_gq _ _ _ (fun r n => (cov _ _ _ r n).trans (canon_q _ _ _ _)) _ _ (lq _) _ y0 y1

theorem gk_A (h0 : t.val % 8 = 0) (y : S1x256.Idx) : (outsAt0 m c t.val t.isLt).2.2.2.2 y = k0_pay5 (F := Ideal) y + ∑ r, tGk m c t r (y 1) := by
  rw [Gen.outsAt0_A m c t h0]
  frame_open
  frame_out
  idx_vars y
  exact pay_gk _ _ _ (fun r n => (cov _ _ _ r n).trans (canon_kv _ _ _)) _ _ (lk _) _ y0 y1

theorem gk_B (h0 : ¬t.val % 8 = 0) (y : S1x256.Idx) : (outsAt0 m c t.val t.isLt).2.2.2.2 y
    = (outsAt0 m c (t.val - 1) (Nat.lt_of_le_of_lt (Nat.sub_le _ _) t.isLt)).2.2.2.2 y + ∑ r, tGk m c t r (y 1) := by
  rw [Gen.outsAt0_B m c t h0]
  frame_open
  frame_out
  idx_vars y
  exact pay_gk _ _ _ (fun r n => (cov _ _ _ r n).trans (canon_kv _ _ _)) _ _ (lk _) _ y0 y1

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![0, 0] ∧ win0_15.index t = ![0, 0] :=
  (by decide +kernel : ∀ t : Fin grid0.N, _)

theorem lt8 (t : Fin cfg0.N) : t.val < 8 := Nat.lt_of_lt_of_eq t.isLt N_0

/-- Row `r` of tile `t`. -/
abbrev row (r : Fin 512) : Fin 4096 := ⟨t.val * 512 + r.val, by have := lt8 t; omega⟩

/-- The rows of the whole array that the call reads. -/
def aP (P : S4096x4608.Idx → EReal) (i : Fin 4096) (n : Fin 1024) : EReal := P (ix2 i ⟨n.val, by omega⟩)

theorem read5 (r : Fin 512) (n : Fin 1024) : X0_5 m c t (ix2 r n) = aP (m ((c.tc : Thread nD τ).loc main_arg5)) (row t r) n := by
  show X0_5 m c t (ix2 r n) = m ((c.tc : Thread nD τ).loc main_arg5) (ix2 _ _)
  unfold X0_5 Pipeline.Window.fill
  rw [dif_pos (moved0_5 t _)]
  blk_ext [iblk, V, idx t]

theorem read0 (r : Fin 512) (n : Fin 1024) : iblk m c 0 t (ix2 r n) = m ((c.tc : Thread nD τ).loc main_arg0) (ix2 (row t r) n) := by
  show iblk m c 0 t (ix2 r n) = m ((c.tc : Thread nD τ).loc main_arg0) (ix2 _ _)
  blk_ext [iblk, V, idx t]

theorem read1 (r : Fin 512) (n : Fin 1024) : iblk m c 1 t (ix2 r n) = m ((c.tc : Thread nD τ).loc main_arg1) (ix2 (row t r) n) := by
  show iblk m c 1 t (ix2 r n) = m ((c.tc : Thread nD τ).loc main_arg1) (ix2 _ _)
  blk_ext [iblk, V, idx t]

theorem read2 (r : Fin 512) (n : Fin 512) : iblk m c 2 t (ix2 r n) = m ((c.tc : Thread nD τ).loc main_arg2) (ix2 (row t r) n) := by
  show iblk m c 2 t (ix2 r n) = m ((c.tc : Thread nD τ).loc main_arg2) (ix2 _ _)
  blk_ext [iblk, V, idx t]

theorem read3 (r : Fin 512) (n : Fin 128) : iblk m c 3 t (ix2 r n) = m ((c.tc : Thread nD τ).loc main_arg3) (ix2 (row t r) n) := by
  show iblk m c 3 t (ix2 r n) = m ((c.tc : Thread nD τ).loc main_arg3) (ix2 _ _)
  blk_ext [iblk, V, idx t]

theorem read4 (r : Fin 512) (n : Fin 128) : iblk m c 4 t (ix2 r n) = m ((c.tc : Thread nD τ).loc main_arg4) (ix2 (row t r) n) := by
  show iblk m c 4 t (ix2 r n) = m ((c.tc : Thread nD τ).loc main_arg4) (ix2 _ _)
  blk_ext [iblk, V, idx t]

theorem read6 (r : Fin 512) (n : Fin 128) : iblk m c 6 t (ix2 r n) = m ((c.tc : Thread nD τ).loc main_arg6) (ix2 (row t r) n) := by
  show iblk m c 6 t (ix2 r n) = m ((c.tc : Thread nD τ).loc main_arg6) (ix2 _ _)
  blk_ext [iblk, V, idx t]

theorem read7 (r : Fin 1024) (n : Fin 384) : iblk m c 7 t (ix2 r n) = m ((c.tc : Thread nD τ).loc main_arg7) (ix2 r n) := by
  show iblk m c 7 t (ix2 r n) = m ((c.tc : Thread nD τ).loc main_arg7) (ix2 _ _)
  blk_ext [iblk, V, idx t]

theorem read8 (r : Fin 256) (n : Fin 1024) : iblk m c 8 t (ix2 r n) = m ((c.tc : Thread nD τ).loc main_arg8) (ix2 r n) := by
  show iblk m c 8 t (ix2 r n) = m ((c.tc : Thread nD τ).loc main_arg8) (ix2 _ _)
  blk_ext [iblk, V, idx t]

theorem read9 (r : Fin 1) (n : Fin 384) : iblk m c 9 t (ix2 r n) = m ((c.tc : Thread nD τ).loc main_arg9) (ix2 r n) := by
  show iblk m c 9 t (ix2 r n) = m ((c.tc : Thread nD τ).loc main_arg9) (ix2 _ _)
  blk_ext [iblk, V, idx t]

theorem read10 (r : Fin 1) (n : Fin 256) : iblk m c 10 t (ix2 r n) = m ((c.tc : Thread nD τ).loc main_arg10) (ix2 r n) := by
  show iblk m c 10 t (ix2 r n) = m ((c.tc : Thread nD τ).loc main_arg10) (ix2 _ _)
  blk_ext [iblk, V, idx t]

/-- The rows of the whole arrays: the two cotangents, and their products. -/
def zQ (D : S4096x1024.Idx → EReal) (C S : S4096x128.Idx → EReal) (i : Fin 4096) : Fin 1024 → EReal :=
  qRow (fun n => D (ix2 i n)) (fun k => C (ix2 i k)) (fun k => S (ix2 i k))
def zKV (K : S4096x1024.Idx → EReal) (V : S4096x512.Idx → EReal) (i : Fin 4096) : Fin 1024 → EReal :=
  kvRow (fun n => K (ix2 i n)) (fun n => V (ix2 i n))
def zDyq (D : S4096x1024.Idx → EReal) (C S : S4096x128.Idx → EReal) (W : S1024x384.Idx → EReal) (i : Fin 4096) (k : Fin 384) : EReal :=
  ∑ n, zQ D C S i n * W (ix2 n k)
def zDyk (K : S4096x1024.Idx → EReal) (V : S4096x512.Idx → EReal) (W : S256x1024.Idx → EReal) (i : Fin 4096) (k : Fin 256) : EReal :=
  ∑ n, zKV K V i n * W (ix2 k n)

/-- The results: the two cotangents, the cotangent of the projections, and the gradients of the two gains. -/
def gQ (D : S4096x1024.Idx → EReal) (C S : S4096x128.Idx → EReal) (y : S4096x1024.Idx) : EReal := zQ D C S (y 0) (y 1)
def gKV (K : S4096x1024.Idx → EReal) (V : S4096x512.Idx → EReal) (y : S4096x1024.Idx) : EReal := zKV K V (y 0) (y 1)
def gDq (D : S4096x1024.Idx → EReal) (C S : S4096x128.Idx → EReal) (P : S4096x4608.Idx → EReal) (W : S1024x384.Idx → EReal) (g : S1x384.Idx → EReal)
    (i : Fin 4096) : Fin 384 → EReal := nback wq (latQ (aP P i)) (fun k => g (ix2 0 k)) (zDyq D C S W i)
def gDk (K : S4096x1024.Idx → EReal) (V : S4096x512.Idx → EReal) (P : S4096x4608.Idx → EReal) (W : S256x1024.Idx → EReal) (g : S1x256.Idx → EReal)
    (i : Fin 4096) : Fin 256 → EReal := nback wk (latK (aP P i)) (fun k => g (ix2 0 k)) (zDyk K V W i)
def gDr (K : S4096x1024.Idx → EReal) (C S : S4096x128.Idx → EReal) (i : Fin 4096) : Fin 128 → EReal :=
  back (kSum fun n => K (ix2 i n)) (fun k => C (ix2 i k)) (fun k => S (ix2 i k))
def gO (D K : S4096x1024.Idx → EReal) (V : S4096x512.Idx → EReal) (C S : S4096x128.Idx → EReal) (P : S4096x4608.Idx → EReal) (A : S4096x128.Idx → EReal)
    (W : S1024x384.Idx → EReal) (U : S256x1024.Idx → EReal) (g : S1x384.Idx → EReal) (h : S1x256.Idx → EReal) (y : S4096x1024.Idx) : EReal :=
  cat5 (gDq D C S P W g (y 0)) (gDk K V P U h (y 0)) (gDr K C S (y 0)) (fun k => A (ix2 (y 0) k)) (y 1)
def gGq (D : S4096x1024.Idx → EReal) (C S : S4096x128.Idx → EReal) (P : S4096x4608.Idx → EReal) (W : S1024x384.Idx → EReal) (y : S1x384.Idx) : EReal :=
  ∑ i : Fin 4096, gadd wq (latQ (aP P i)) (zDyq D C S W i) (y 1)
def gGk (K : S4096x1024.Idx → EReal) (V : S4096x512.Idx → EReal) (P : S4096x4608.Idx → EReal) (U : S256x1024.Idx → EReal) (y : S1x256.Idx) : EReal :=
  ∑ i : Fin 4096, gadd wk (latK (aP P i)) (zDyk K V U i) (y 1)

theorem tile_q (r : Fin 512) : tQ (iblk m c 0 t) (iblk m c 3 t) (iblk m c 4 t) r = zQ (m ((c.tc : Thread nD τ).loc main_arg0)) (m ((c.tc : Thread nD τ).loc main_arg3)) (m ((c.tc : Thread nD τ).loc main_arg4)) (row t r) := by
  unfold tQ zQ
  rw [funext (read0 m c t r), funext (read3 m c t r), funext (read4 m c t r)]

theorem tile_kv (r : Fin 512) : tKV (iblk m c 1 t) (iblk m c 2 t) r = zKV (m ((c.tc : Thread nD τ).loc main_arg1)) (m ((c.tc : Thread nD τ).loc main_arg2)) (row t r) := by
  unfold tKV zKV
  rw [funext (read1 m c t r), funext (read2 m c t r)]

theorem tile_dyq (r : Fin 512) : dyq (iblk m c 7 t) (tQ (iblk m c 0 t) (iblk m c 3 t) (iblk m c 4 t)) r = zDyq (m ((c.tc : Thread nD τ).loc main_arg0)) (m ((c.tc : Thread nD τ).loc main_arg3)) (m ((c.tc : Thread nD τ).loc main_arg4)) (m ((c.tc : Thread nD τ).loc main_arg7)) (row t r) :=
  funext fun k => Finset.sum_congr rfl fun n _ => congrArg₂ (fun a b : EReal => a * b) (congrFun (tile_q m c t r) n) (read7 m c t n k)

theorem tile_dyk (r : Fin 512) : dyk (iblk m c 8 t) (tKV (iblk m c 1 t) (iblk m c 2 t)) r = zDyk (m ((c.tc : Thread nD τ).loc main_arg1)) (m ((c.tc : Thread nD τ).loc main_arg2)) (m ((c.tc : Thread nD τ).loc main_arg8)) (row t r) :=
  funext fun k => Finset.sum_congr rfl fun n _ => congrArg₂ (fun a b : EReal => a * b) (congrFun (tile_kv m c t r) n) (read8 m c t k n)

theorem kernel_q : (dats m 0 c).arrAt 11 cfg0.N = gQ (m ((c.tc : Thread nD τ).loc main_arg0)) (m ((c.tc : Thread nD τ).loc main_arg3)) (m ((c.tc : Thread nD τ).loc main_arg4)) := by
  refine (dats m 0 c).arrAt_eq_of_covers 11 _ (by decide +kernel) fun t hf y => ?_
  blk_simp [idx t]
  rw [after0_11]
  idx_vars y
  have e : ((View.whole main_v0_0).slice (win0_11.rect t)).emb (ix2 y0 y1) = ix2 (row t y0) y1 := by
    blk_ext [idx t]
  rw [e]
  exact (out_q m c t _).trans (congrFun (tile_q m c t y0) y1)

theorem kernel_kv : (dats m 0 c).arrAt 12 cfg0.N = gKV (m ((c.tc : Thread nD τ).loc main_arg1)) (m ((c.tc : Thread nD τ).loc main_arg2)) := by
  refine (dats m 0 c).arrAt_eq_of_covers 12 _ (by decide +kernel) fun t hf y => ?_
  blk_simp [idx t]
  rw [after0_12]
  idx_vars y
  have e : ((View.whole main_v0_1).slice (win0_12.rect t)).emb (ix2 y0 y1) = ix2 (row t y0) y1 := by
    blk_ext [idx t]
  rw [e]
  exact (out_kv m c t _).trans (congrFun (tile_kv m c t y0) y1)

theorem kernel_o : (dats m 0 c).arrAt 13 cfg0.N = gO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 13 _ (by decide +kernel) fun t hf y => ?_
  blk_simp [idx t]
  rw [after0_13]
  idx_vars y
  have e : ((View.whole main_v0_2).slice (win0_13.rect t)).emb (ix2 y0 y1) = ix2 (row t y0) y1 := by
    blk_ext [idx t]
  rw [e]
  refine (out_o m c t _).trans ?_
  show cat5 (nback wq (latQ fun n => X0_5 m c t (ix2 y0 n)) (fun k => iblk m c 9 t (ix2 0 k)) (dyq (iblk m c 7 t) (tQ (iblk m c 0 t) (iblk m c 3 t) (iblk m c 4 t)) y0))
      (nback wk (latK fun n => X0_5 m c t (ix2 y0 n)) (fun k => iblk m c 10 t (ix2 0 k)) (dyk (iblk m c 8 t) (tKV (iblk m c 1 t) (iblk m c 2 t)) y0))
      (back (kSum fun n => iblk m c 1 t (ix2 y0 n)) (fun k => iblk m c 3 t (ix2 y0 k)) fun k => iblk m c 4 t (ix2 y0 k)) (fun k => iblk m c 6 t (ix2 y0 k)) y1
    = cat5 (gDq (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg9)) (row t y0)) (gDk (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg10)) (row t y0))
      (gDr (m ((c.tc : Thread nD τ).loc main_arg1)) (m ((c.tc : Thread nD τ).loc main_arg3)) (m ((c.tc : Thread nD τ).loc main_arg4)) (row t y0)) (fun k => (m ((c.tc : Thread nD τ).loc main_arg6)) (ix2 (row t y0) k)) y1
  unfold gDq gDk gDr
  rw [tile_dyq, tile_dyk, funext (read5 m c t y0), funext (read1 m c t y0), funext (read3 m c t y0), funext (read4 m c t y0),
    funext (read6 m c t y0), funext (read9 m c t 0), funext (read10 m c t 0)]

theorem kernel_gq : (dats m 0 c).arrAt 14 cfg0.N = gGq (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)) := by
  refine (dats m 0 c).arrAt_eq_of_covers 14 _ (by decide +kernel) fun t hf y => ?_
  blk_simp [idx t]
  rw [after0_14]
  idx_vars y
  have h3 := (flush0_14 t).mp hf
  have ht := lt8 t
  have e : ((View.whole main_v0_3).slice (win0_14.rect t)).emb (ix2 y0 y1) = ix2 y0 y1 := by
    blk_ext [idx t]
  rw [e]
  refine (Pipeline.eq_sum_fin_of_reset_step_apply_of_flush (fun n h => (outsAt0 m c n h).2.2.2.1) 8 (k0_pay4 (F := Ideal))
    (fun t y => ∑ r, tGq m c t r (y 1))
    (fun t h y => gq_A m c t h y) (fun t h y => gq_B m c t h y) t h3 (ix2 y0 y1)).trans ?_
  have h0 : k0_pay4 (F := Ideal) (ix2 y0 y1) = 0 := by pointwise [k0_pay4]
  rw [h0, zero_add]
  refine (Fin.sum_fin_congr fun s => Finset.sum_congr rfl fun r _ => congrArg₂ (fun a b => gadd wq (latQ a) b y1)
    (funext (read5 m c _ r)) (tile_dyq m c _ r)).trans ?_
  refine Fin.sum_mul_add_congr fun s k hl => ?_
  have h8 : t.val / 8 = 0 := by omega
  exact congrArg (fun i : Fin 4096 => gadd wq (latQ (aP (m ((c.tc : Thread nD τ).loc main_arg5)) i)) (zDyq (m ((c.tc : Thread nD τ).loc main_arg0)) (m ((c.tc : Thread nD τ).loc main_arg3)) (m ((c.tc : Thread nD τ).loc main_arg4)) (m ((c.tc : Thread nD τ).loc main_arg7)) i) y1)
    (Fin.ext (by show (8 * (t.val / 8) + s.val) * 512 + k.val = s.val * 512 + k.val; omega))

theorem kernel_gk : (dats m 0 c).arrAt 15 cfg0.N = gGk (m ((c.tc : Thread nD τ).loc main_arg1)) (m ((c.tc : Thread nD τ).loc main_arg2)) (m ((c.tc : Thread nD τ).loc main_arg5)) (m ((c.tc : Thread nD τ).loc main_arg8)) := by
  refine (dats m 0 c).arrAt_eq_of_covers 15 _ (by decide +kernel) fun t hf y => ?_
  blk_simp [idx t]
  rw [after0_15]
  idx_vars y
  have h3 := (flush0_15 t).mp hf
  have ht := lt8 t
  have e : ((View.whole main_v0_4).slice (win0_15.rect t)).emb (ix2 y0 y1) = ix2 y0 y1 := by
    blk_ext [idx t]
  rw [e]
  refine (Pipeline.eq_sum_fin_of_reset_step_apply_of_flush (fun n h => (outsAt0 m c n h).2.2.2.2) 8 (k0_pay5 (F := Ideal))
    (fun t y => ∑ r, tGk m c t r (y 1))
    (fun t h y => gk_A m c t h y) (fun t h y => gk_B m c t h y) t h3 (ix2 y0 y1)).trans ?_
  have h0 : k0_pay5 (F := Ideal) (ix2 y0 y1) = 0 := by pointwise [k0_pay5]
  rw [h0, zero_add]
  refine (Fin.sum_fin_congr fun s => Finset.sum_congr rfl fun r _ => congrArg₂ (fun a b => gadd wk (latK a) b y1)
    (funext (read5 m c _ r)) (tile_dyk m c _ r)).trans ?_
  refine Fin.sum_mul_add_congr fun s k hl => ?_
  have h8 : t.val / 8 = 0 := by omega
  exact congrArg (fun i : Fin 4096 => gadd wk (latK (aP (m ((c.tc : Thread nD τ).loc main_arg5)) i)) (zDyk (m ((c.tc : Thread nD τ).loc main_arg1)) (m ((c.tc : Thread nD τ).loc main_arg2)) (m ((c.tc : Thread nD τ).loc main_arg8)) i) y1)
    (Fin.ext (by show (8 * (t.val / 8) + s.val) * 512 + k.val = s.val * 512 + k.val; omega))

end Cert.MlaProjBwdCall
-- ==== Proof.MlaProjBwd.Ref.lean ====
/- The gradients of the latent attention's projections: the reference's results. -/
module

public import proofs.«01_k».proof.Proof.MlaProjBwd.Value
public import proofs.«01_k».proof.Proof.Gen.MlaProjBwdRefIdeal.Read

@[expose] public section

set_option maxRecDepth 16384

noncomputable section

namespace Cert.MlaProjBwdCall

open Idealize.ShloMosaic Idealize.ShloMosaic.TcCoe Cert.Mla Cert.Norm
open Cert.MlaProjBwdRefIdeal Cert.MlaProjBwdRefIdeal.Read

variable (x0 x1 : Vec Ideal S4096x1024 .bf16) (x2 : Vec Ideal S4096x512 .bf16) (x3 x4 : Vec Ideal S4096x128 .f32) (x5 : Vec Ideal S4096x4608 .f32)
  (x6 : Vec Ideal S4096x128 .bf16) (x7 : Vec Ideal S1024x384 .bf16) (x8 : Vec Ideal S256x1024 .bf16) (x9 : Vec Ideal S1x384 .f32) (x10 : Vec Ideal S1x256 .f32)

theorem wq_real : wq = ((384 : ℝ) : EReal) := by
  simp [wq, Ideal.ofBits, Ideal.ieee, -EReal.coe_mul]; norm_num

theorem wk_real : wk = ((256 : ℝ) : EReal) := by
  simp [wk, Ideal.ofBits, Ideal.ieee, -EReal.coe_mul]; norm_num

theorem half_real : Ideal.ofBits .f32 0xBF000000#32 = ((-(1 / 2) : ℝ) : EReal) := by
  simp [Ideal.ofBits, Ideal.ieee, -EReal.coe_mul, -EReal.coe_neg]; norm_num

theorem eps_real : ∃ ε : ℝ, 0 < ε ∧ eps = (ε : EReal) := by
  simp only [eps]
  simp [Ideal.ofBits, Ideal.ieee, -EReal.coe_mul]

theorem scale_real : ∃ κ : ℝ, 0 < κ ∧ scale = (κ : EReal) := by
  simp only [scale]
  simp [Ideal.ofBits, Ideal.ieee, -EReal.coe_mul]

/-- The scale may be put on before the turn. -/
theorem back_scale (t c s : Fin 128 → EReal) (d : Fin 128) : back (fun e => t e * scale) c s d = back t c s d * scale := by
  obtain ⟨κ, hκ, e⟩ := scale_real
  unfold back
  rw [EReal.right_distrib_of_nonneg_of_ne_top (by rw [e]; exact_mod_cast hκ.le) (by rw [e]; exact EReal.coe_ne_top κ), mul_right_comm, mul_right_comm (t (mate d))]

theorem kr_sum (i : Fin 4096) (e : Fin 128) : (∑ _u : Fin 1, ∑ h : Fin 4, x1 (ix2 i ⟨h.val * 256 + (128 + e.val), by omega⟩) : EReal)
    = kSum (fun n => x1 (ix2 i n)) e := by
  simp only [Finset.univ_unique, Finset.sum_singleton, Fin.sum_univ_four]
  unfold kSum
  have f (h : Fin 4) (k : ℕ) (hk : k = h.val * 256 + 128) (b : k + e.val < 1024) (b' : h.val * 256 + (128 + e.val) < 1024) :
      x1 (ix2 i (⟨h.val * 256 + (128 + e.val), b'⟩ : Fin 1024)) = x1 (ix2 i (⟨k + e.val, b⟩ : Fin 1024)) :=
    congrArg (fun j => x1 (ix2 i j)) (Fin.ext (by dsimp only; omega))
  have f0 := f 0 128 (by decide) (by omega) (by have := e.isLt; simp; omega)
  have f1 := f 1 384 (by decide) (by omega) (by have := e.isLt; simp; omega)
  have f2 := f 2 640 (by decide) (by omega) (by have := e.isLt; simp; omega)
  have f3 := f 3 896 (by decide) (by omega) (by have := e.isLt; simp; omega)
  rw [f0, f1, f2, f3]

theorem ref_kr (i : Fin 4096) (d : Fin 128) : val_main_v53 (F := Ideal) x1 (ix2 i d) = kSum (fun n => x1 (ix2 i n)) d := by
  pointwise [val_main_v53, val_main_cst_3, val_main_v52, val_main_v51, val_main_cst_2, val_main_v49, val_main_v47, val_main_v44]
  exact kr_sum x1 i d

theorem ref_krope (i : Fin 4096) (d : Fin 128) : val_main_v64 (F := Ideal) x1 x3 x4 (ix2 i d) = gDr x1 x3 x4 i d := by
  unfold gDr
  rw [back_eq]
  pointwise [val_main_v64, val_main_v63, val_main_v62, val_main_cst_5, val_main_cst_4, val_main_v61, val_main_v60, val_main_v59, val_main_v58, val_main_v57, val_main_v56, val_main_v55, val_main_v54, val_main_v33, val_main_v31, val_main_v28, val_main_v26]
  simp only [ref_kr]
  generalize kSum (fun n => x1 (ix2 i n)) = K
  by_cases hd : d.val < 64
  · rw [dif_neg (show ¬(64 ≤ d.val ∧ d.val - 64 < 64) by omega), dif_pos hd, dif_pos hd, zero_add, add_comm]
  · rw [dif_pos (show 64 ≤ d.val ∧ d.val - 64 < 64 by omega), dif_neg hd, dif_neg hd, add_zero]

theorem ref_qrope (i : Fin 4096) (h : Fin 4) (d : Fin 128) : val_main_v83 (F := Ideal) x0 x3 x4 (ix3 i h d)
    = qHi (fun n => x0 (ix2 i n)) (fun k => x3 (ix2 i k)) (fun k => x4 (ix2 i k)) h d := by
  unfold qHi
  rw [← back_scale, back_eq]
  pointwise [val_main_v83, val_main_v82, val_main_v81, val_main_cst_8, val_main_cst_7, val_main_v80, val_main_v79, val_main_v78, val_main_v77, val_main_v76, val_main_v75, val_main_v74, val_main_v73, val_main_v72, val_main_v71, val_main_v70, val_main_v69, val_main_v68, val_main_v66, val_main_v65, val_main_cst_6, val_main_v50, val_main_v43, val_main_v2, val_main_v3, val_main_v6, val_main_v9, val_main_v13, val_main_v16]
  by_cases hd : d.val < 64
  · rw [dif_neg (show ¬(64 ≤ d.val ∧ d.val - 64 < 64) by omega), dif_pos hd, dif_pos hd, zero_add, add_comm]
    exact congrArg₂ (fun a b => x0 (ix2 i a) * scale * x3 (ix2 i d) + x0 (ix2 i b) * scale * x4 (ix2 i ⟨64 + d.val, by omega⟩))
      (Fin.ext (by dsimp only; omega)) (Fin.ext (by dsimp only; omega))
  · rw [dif_pos (show 64 ≤ d.val ∧ d.val - 64 < 64 by omega), dif_neg hd, dif_neg hd, add_zero]
    exact congrArg₂ (fun a b => x0 (ix2 i a) * scale * x3 (ix2 i ⟨64 + (d.val - 64), by omega⟩) + x0 (ix2 i b) * scale * x4 (ix2 i ⟨d.val - 64, by omega⟩))
      (Fin.ext (by dsimp only; omega)) (Fin.ext (by dsimp only; omega))

theorem ref_kv (i : Fin 4096) (n : Fin 1024) : val_main_v88 (F := Ideal) x1 x2 (ix2 i n) = zKV x1 x2 i n := by
  unfold zKV kvRow
  pointwise [val_main_v88, val_main_v87, val_main_v86, val_main_v48, val_main_v47, val_main_v46, val_main_v45, val_main_v44]
  by_cases hn : n.val < 512
  · rw [dif_pos hn, dif_pos hn]
    exact congrArg (fun j => x1 (ix2 i j)) (Fin.ext (by dsimp only; omega))
  · rw [dif_neg hn, dif_neg hn]

theorem ref_q (i : Fin 4096) (n : Fin 1024) : val_main_v85 (F := Ideal) x0 x3 x4 (ix2 i n) = zQ x0 x3 x4 i n := by
  have e : val_main_v85 (F := Ideal) x0 x3 x4 (ix2 i n)
      = val_main_v84 (F := Ideal) x0 x3 x4 (ix3 i (⟨n.val / 256, by omega⟩ : Fin 4) (⟨n.val % 256, by omega⟩ : Fin 256)) := by
    pointwise [val_main_v85]
  rw [e]
  refine pair_of _ _ (fun h d => val_main_v84 (F := Ideal) x0 x3 x4 (ix3 i h d)) (fun h d => ?_) (fun h d => ?_) n
  · pointwise [val_main_v84, val_main_v67, val_main_v66, val_main_v65, val_main_cst_6, val_main_v50, val_main_v43]
    exact congrArg (fun j => x0 (ix2 i j) * scale) (Fin.ext (by dsimp only; omega))
  · pointwise [val_main_v84]
    exact ref_qrope x0 x3 x4 i h d

theorem ref_qmean (i : Fin 4096) (u : Fin 1) : val_main_v97 (F := Ideal) x5 (ix2 i u) = mean wq eps (latQ (aP x5 i)) := by
  pointwise [val_main_v97, val_main_v96, val_main_v95, val_main_v94, val_main_v93, val_main_v92, val_main_v91, val_main_v89, val_main_cst_9, val_main_cst_10, val_main_cst_11]
  rfl

theorem ref_qrms (i : Fin 4096) (u : Fin 1) : val_main_v98 (F := Ideal) x5 (ix2 i u) = rms wq eps (latQ (aP x5 i)) := by
  rw [val_main_v98_apply]; rw [ref_qmean]; rfl

theorem ref_kmean (i : Fin 4096) (u : Fin 1) : val_main_v115 (F := Ideal) x5 (ix2 i u) = mean wk eps (latK (aP x5 i)) := by
  pointwise [val_main_v115, val_main_v114, val_main_v113, val_main_v112, val_main_v111, val_main_v110, val_main_v109, val_main_v90, val_main_cst_13, val_main_cst_14, val_main_cst_15]
  rfl

theorem ref_krms (i : Fin 4096) (u : Fin 1) : val_main_v116 (F := Ideal) x5 (ix2 i u) = rms wk eps (latK (aP x5 i)) := by
  rw [val_main_v116_apply]; rw [ref_kmean]; rfl

theorem ref_dyq (i : Fin 4096) (k : Fin 384) : val_main_v146 (F := Ideal) x0 x3 x4 x7 (ix2 i k) = zDyq x0 x3 x4 x7 i k := by
  pointwise [val_main_v146, val_main_v107, val_main_v106]
  simp only [ref_q]
  rfl

theorem ref_dyk (i : Fin 4096) (k : Fin 256) : val_main_v126 (F := Ideal) x1 x2 x8 (ix2 i k) = zDyk x1 x2 x8 i k := by
  pointwise [val_main_v126, val_main_v124]
  simp only [ref_kv]
  rfl

theorem ref_Gq (y : S1x384.Idx) : val_main_v149 (F := Ideal) x0 x3 x4 x5 x7 y = gGq x0 x3 x4 x5 x7 y := by
  idx_vars y
  pointwise [val_main_v149, val_main_v148, val_main_cst_21, val_main_v147, val_main_v103, val_main_v102, val_main_v89]
  simp only [ref_qrms, ref_dyq]
  exact Finset.sum_congr rfl fun i _ => mul_comm _ _

theorem ref_Gk (y : S1x256.Idx) : val_main_v129 (F := Ideal) x1 x2 x5 x8 y = gGk x1 x2 x5 x8 y := by
  idx_vars y
  pointwise [val_main_v129, val_main_v128, val_main_cst_17, val_main_v127, val_main_v121, val_main_v120, val_main_v90]
  simp only [ref_krms, ref_dyk]
  exact Finset.sum_congr rfl fun i _ => mul_comm _ _

theorem ref_Dq (i : Fin 4096) (k : Fin 384) : val_main_v165 (F := Ideal) x0 x3 x4 x5 x7 x9 (ix2 i k) = gDq x0 x3 x4 x5 x7 x9 i k := by
  pointwise [val_main_v165, val_main_v164, val_main_v163, val_main_v162, val_main_v161, val_main_v160, val_main_cst_24, val_main_v159, val_main_v158, val_main_cst_23, val_main_v157, val_main_v156, val_main_v155, val_main_v154, val_main_v153, val_main_cst_22, val_main_v152, val_main_v151, val_main_v150, val_main_v101, val_main_v100, val_main_cst_12, val_main_v99, val_main_v89]
  simp only [ref_qrms, ref_qmean, ref_dyq]
  simp only [Finset.univ_unique, Finset.sum_singleton]
  obtain ⟨ε, hε, he⟩ := eps_real
  have h := pull wq eps _ 384 ε (by norm_num) hε wq_real he half_real (latQ (aP x5 i)) (fun k => zDyq x0 x3 x4 x7 i k * x9 (ix2 0 k)) 0 k
  rw [zero_add, zero_add] at h
  exact h

theorem ref_Dk (i : Fin 4096) (k : Fin 256) : val_main_v145 (F := Ideal) x1 x2 x5 x8 x10 (ix2 i k) = gDk x1 x2 x5 x8 x10 i k := by
  pointwise [val_main_v145, val_main_v144, val_main_v143, val_main_v142, val_main_v141, val_main_v140, val_main_cst_20, val_main_v139, val_main_v138, val_main_cst_19, val_main_v137, val_main_v136, val_main_v135, val_main_v134, val_main_v133, val_main_cst_18, val_main_v132, val_main_v131, val_main_v130, val_main_v119, val_main_v118, val_main_cst_16, val_main_v117, val_main_v90]
  simp only [ref_krms, ref_kmean, ref_dyk]
  simp only [Finset.univ_unique, Finset.sum_singleton]
  obtain ⟨ε, hε, he⟩ := eps_real
  have h := pull wk eps _ 256 ε (by norm_num) hε wk_real he half_real (latK (aP x5 i)) (fun k => zDyk x1 x2 x8 i k * x10 (ix2 0 k)) 0 k
  rw [zero_add, zero_add] at h
  exact h

theorem ref_Q (y : S4096x1024.Idx) : val_main_v169 (F := Ideal) x0 x3 x4 y = gQ x0 x3 x4 y := by
  idx_vars y
  pointwise [val_main_v169]
  exact ref_q x0 x3 x4 y0 y1

theorem ref_KV (y : S4096x1024.Idx) : val_main_v170 (F := Ideal) x1 x2 y = gKV x1 x2 y := by
  idx_vars y
  pointwise [val_main_v170]
  exact ref_kv x1 x2 y0 y1

theorem ref_O (y : S4096x1024.Idx) : val_main_v171 (F := Ideal) x0 x1 x2 x3 x4 x5 x6 x7 x8 x9 x10 y = gO x0 x1 x2 x3 x4 x5 x6 x7 x8 x9 x10 y := by
  idx_vars y
  pointwise [val_main_v171, val_main_v168, val_main_v167, val_main_cst_25, val_main_v166]
  simp only [ref_Dq, ref_Dk, ref_krope]
  rfl

end Cert.MlaProjBwdCall
-- ==== Proof.MlaProjBwd.Claims.lean ====
/- The claims about the gradients of the latent attention's projections. -/
module

public import proofs.«01_k».proof.Defs
public import proofs.«01_k».proof.Proof.Gen.MlaProjBwd.Frame
public import proofs.«01_k».proof.Proof.MlaProjBwd.Ref
public import proofs.«01_k».proof.Proof.Gen.MlaProjBwdRefIdeal.Run

@[expose] public section

noncomputable section

namespace Cert.MlaProjBwdCall

open Idealize.ShloMosaic Idealize.SL.Sem

theorem frame_kernel : Cert.quiescent_MlaProjBwd := fun m ρ _ => Cert.MlaProjBwd.Gen.frame m ρ

theorem frame_ideal : Cert.quiescent_MlaProjBwdIdeal := fun m ρ _ => Cert.MlaProjBwdIdeal.Gen.frame m ρ

theorem frame_ref : Cert.quiescent_MlaProjBwdRefIdeal := fun m ρ _ =>
  (θ_run Cert.MlaProjBwdRefIdeal.defs _ _).mono (fun r h => ⟨fun c => (h c).2.2.2.2.2, sem_eq_zero_of_no_sems (by decide) r.2⟩)
    (Cert.MlaProjBwdRefIdeal.Value.run m ρ)

theorem preserves : Cert.preserves_MlaProjBwd_MlaProjBwdIdeal := trivial

/-- Both programs end with the two cotangents, the cotangent of the projections, and the gradients of the two gains. -/
theorem algebraic : Cert.algebraic_MlaProjBwdIdeal_MlaProjBwdRefIdeal := by
  intro m g m' g' hp ha
  refine ⟨fun c => gQ (m ((c.tc : Thread Cert.MlaProjBwdIdeal.nD Cert.MlaProjBwdIdeal.τ).loc Cert.MlaProjBwdIdeal.main_arg0)) (m ((c.tc : Thread Cert.MlaProjBwdIdeal.nD Cert.MlaProjBwdIdeal.τ).loc Cert.MlaProjBwdIdeal.main_arg3)) (m ((c.tc : Thread Cert.MlaProjBwdIdeal.nD Cert.MlaProjBwdIdeal.τ).loc Cert.MlaProjBwdIdeal.main_arg4)),
    fun c => gKV (m ((c.tc : Thread Cert.MlaProjBwdIdeal.nD Cert.MlaProjBwdIdeal.τ).loc Cert.MlaProjBwdIdeal.main_arg1)) (m ((c.tc : Thread Cert.MlaProjBwdIdeal.nD Cert.MlaProjBwdIdeal.τ).loc Cert.MlaProjBwdIdeal.main_arg2)),
    fun c => gO (m ((c.tc : Thread Cert.MlaProjBwdIdeal.nD Cert.MlaProjBwdIdeal.τ).loc Cert.MlaProjBwdIdeal.main_arg0)) (m ((c.tc : Thread Cert.MlaProjBwdIdeal.nD Cert.MlaProjBwdIdeal.τ).loc Cert.MlaProjBwdIdeal.main_arg1)) (m ((c.tc : Thread Cert.MlaProjBwdIdeal.nD Cert.MlaProjBwdIdeal.τ).loc Cert.MlaProjBwdIdeal.main_arg2)) (m ((c.tc : Thread Cert.MlaProjBwdIdeal.nD Cert.MlaProjBwdIdeal.τ).loc Cert.MlaProjBwdIdeal.main_arg3)) (m ((c.tc : Thread Cert.MlaProjBwdIdeal.nD Cert.MlaProjBwdIdeal.τ).loc Cert.MlaProjBwdIdeal.main_arg4)) (m ((c.tc : Thread Cert.MlaProjBwdIdeal.nD Cert.MlaProjBwdIdeal.τ).loc Cert.MlaProjBwdIdeal.main_arg5)) (m ((c.tc : Thread Cert.MlaProjBwdIdeal.nD Cert.MlaProjBwdIdeal.τ).loc Cert.MlaProjBwdIdeal.main_arg6)) (m ((c.tc : Thread Cert.MlaProjBwdIdeal.nD Cert.MlaProjBwdIdeal.τ).loc Cert.MlaProjBwdIdeal.main_arg7)) (m ((c.tc : Thread Cert.MlaProjBwdIdeal.nD Cert.MlaProjBwdIdeal.τ).loc Cert.MlaProjBwdIdeal.main_arg8)) (m ((c.tc : Thread Cert.MlaProjBwdIdeal.nD Cert.MlaProjBwdIdeal.τ).loc Cert.MlaProjBwdIdeal.main_arg9)) (m ((c.tc : Thread Cert.MlaProjBwdIdeal.nD Cert.MlaProjBwdIdeal.τ).loc Cert.MlaProjBwdIdeal.main_arg10)),
    fun c => gGq (m ((c.tc : Thread Cert.MlaProjBwdIdeal.nD Cert.MlaProjBwdIdeal.τ).loc Cert.MlaProjBwdIdeal.main_arg0)) (m ((c.tc : Thread Cert.MlaProjBwdIdeal.nD Cert.MlaProjBwdIdeal.τ).loc Cert.MlaProjBwdIdeal.main_arg3)) (m ((c.tc : Thread Cert.MlaProjBwdIdeal.nD Cert.MlaProjBwdIdeal.τ).loc Cert.MlaProjBwdIdeal.main_arg4)) (m ((c.tc : Thread Cert.MlaProjBwdIdeal.nD Cert.MlaProjBwdIdeal.τ).loc Cert.MlaProjBwdIdeal.main_arg5)) (m ((c.tc : Thread Cert.MlaProjBwdIdeal.nD Cert.MlaProjBwdIdeal.τ).loc Cert.MlaProjBwdIdeal.main_arg7)),
    fun c => gGk (m ((c.tc : Thread Cert.MlaProjBwdIdeal.nD Cert.MlaProjBwdIdeal.τ).loc Cert.MlaProjBwdIdeal.main_arg1)) (m ((c.tc : Thread Cert.MlaProjBwdIdeal.nD Cert.MlaProjBwdIdeal.τ).loc Cert.MlaProjBwdIdeal.main_arg2)) (m ((c.tc : Thread Cert.MlaProjBwdIdeal.nD Cert.MlaProjBwdIdeal.τ).loc Cert.MlaProjBwdIdeal.main_arg5)) (m ((c.tc : Thread Cert.MlaProjBwdIdeal.nD Cert.MlaProjBwdIdeal.τ).loc Cert.MlaProjBwdIdeal.main_arg8)), ?_, ?_⟩
  · refine (θ_run _ _ _).mono (fun r h c => ?_) (Cert.MlaProjBwdIdeal.Value.run_blocks m g)
    obtain ⟨h0, h1, h2, h3, h4, hr⟩ := h c
    exact ⟨h0.trans (kernel_q m c), h1.trans (kernel_kv m c), h2.trans (kernel_o m c), h3.trans (kernel_gq m c), h4.trans (kernel_gk m c), hr⟩
  · refine (θ_run _ _ _).mono (fun r h c => ?_) (Cert.MlaProjBwdRefIdeal.Value.run m' g')
    obtain ⟨h0, h1, h2, h3, h4, hr⟩ := h c
    obtain ⟨a0, a1, a2, a3, a4, a5, a6, a7, a8, a9, a10⟩ := ha c
    refine ⟨h0.trans ?_, h1.trans ?_, h2.trans ?_, h3.trans ?_, h4.trans ?_, hr⟩
    · rw [Cert.MlaProjBwdRefIdeal.Read.val_main_v169_eq]
      refine (funext fun y => ref_Q _ _ _ y).trans ?_
      show gQ (m' ((c.tc : Thread Cert.MlaProjBwdRefIdeal.nD Cert.MlaProjBwdRefIdeal.τ).loc Cert.MlaProjBwdRefIdeal.main_arg0)) (m' ((c.tc : Thread Cert.MlaProjBwdRefIdeal.nD Cert.MlaProjBwdRefIdeal.τ).loc Cert.MlaProjBwdRefIdeal.main_arg3)) (m' ((c.tc : Thread Cert.MlaProjBwdRefIdeal.nD Cert.MlaProjBwdRefIdeal.τ).loc Cert.MlaProjBwdRefIdeal.main_arg4)) = _
      rw [a0, a3, a4]
    · rw [Cert.MlaProjBwdRefIdeal.Read.val_main_v170_eq]
      refine (funext fun y => ref_KV _ _ y).trans ?_
      show gKV (m' ((c.tc : Thread Cert.MlaProjBwdRefIdeal.nD Cert.MlaProjBwdRefIdeal.τ).loc Cert.MlaProjBwdRefIdeal.main_arg1)) (m' ((c.tc : Thread Cert.MlaProjBwdRefIdeal.nD Cert.MlaProjBwdRefIdeal.τ).loc Cert.MlaProjBwdRefIdeal.main_arg2)) = _
      rw [a1, a2]
    · rw [Cert.MlaProjBwdRefIdeal.Read.val_main_v171_eq]
      refine (funext fun y => ref_O _ _ _ _ _ _ _ _ _ _ _ y).trans ?_
      show gO (m' ((c.tc : Thread Cert.MlaProjBwdRefIdeal.nD Cert.MlaProjBwdRefIdeal.τ).loc Cert.MlaProjBwdRefIdeal.main_arg0)) (m' ((c.tc : Thread Cert.MlaProjBwdRefIdeal.nD Cert.MlaProjBwdRefIdeal.τ).loc Cert.MlaProjBwdRefIdeal.main_arg1)) (m' ((c.tc : Thread Cert.MlaProjBwdRefIdeal.nD Cert.MlaProjBwdRefIdeal.τ).loc Cert.MlaProjBwdRefIdeal.main_arg2)) (m' ((c.tc : Thread Cert.MlaProjBwdRefIdeal.nD Cert.MlaProjBwdRefIdeal.τ).loc Cert.MlaProjBwdRefIdeal.main_arg3)) (m' ((c.tc : Thread Cert.MlaProjBwdRefIdeal.nD Cert.MlaProjBwdRefIdeal.τ).loc Cert.MlaProjBwdRefIdeal.main_arg4)) (m' ((c.tc : Thread Cert.MlaProjBwdRefIdeal.nD Cert.MlaProjBwdRefIdeal.τ).loc Cert.MlaProjBwdRefIdeal.main_arg5)) (m' ((c.tc : Thread Cert.MlaProjBwdRefIdeal.nD Cert.MlaProjBwdRefIdeal.τ).loc Cert.MlaProjBwdRefIdeal.main_arg6)) (m' ((c.tc : Thread Cert.MlaProjBwdRefIdeal.nD Cert.MlaProjBwdRefIdeal.τ).loc Cert.MlaProjBwdRefIdeal.main_arg7)) (m' ((c.tc : Thread Cert.MlaProjBwdRefIdeal.nD Cert.MlaProjBwdRefIdeal.τ).loc Cert.MlaProjBwdRefIdeal.main_arg8)) (m' ((c.tc : Thread Cert.MlaProjBwdRefIdeal.nD Cert.MlaProjBwdRefIdeal.τ).loc Cert.MlaProjBwdRefIdeal.main_arg9)) (m' ((c.tc : Thread Cert.MlaProjBwdRefIdeal.nD Cert.MlaProjBwdRefIdeal.τ).loc Cert.MlaProjBwdRefIdeal.main_arg10)) = _
      rw [a0, a1, a2, a3, a4, a5, a6, a7, a8, a9, a10]
    · rw [Cert.MlaProjBwdRefIdeal.Read.val_main_v149_eq]
      refine (funext fun y => ref_Gq _ _ _ _ _ y).trans ?_
      show gGq (m' ((c.tc : Thread Cert.MlaProjBwdRefIdeal.nD Cert.MlaProjBwdRefIdeal.τ).loc Cert.MlaProjBwdRefIdeal.main_arg0)) (m' ((c.tc : Thread Cert.MlaProjBwdRefIdeal.nD Cert.MlaProjBwdRefIdeal.τ).loc Cert.MlaProjBwdRefIdeal.main_arg3)) (m' ((c.tc : Thread Cert.MlaProjBwdRefIdeal.nD Cert.MlaProjBwdRefIdeal.τ).loc Cert.MlaProjBwdRefIdeal.main_arg4)) (m' ((c.tc : Thread Cert.MlaProjBwdRefIdeal.nD Cert.MlaProjBwdRefIdeal.τ).loc Cert.MlaProjBwdRefIdeal.main_arg5)) (m' ((c.tc : Thread Cert.MlaProjBwdRefIdeal.nD Cert.MlaProjBwdRefIdeal.τ).loc Cert.MlaProjBwdRefIdeal.main_arg7)) = _
      rw [a0, a3, a4, a5, a7]
    · rw [Cert.MlaProjBwdRefIdeal.Read.val_main_v129_eq]
      refine (funext fun y => ref_Gk _ _ _ _ y).trans ?_
      show gGk (m' ((c.tc : Thread Cert.MlaProjBwdRefIdeal.nD Cert.MlaProjBwdRefIdeal.τ).loc Cert.MlaProjBwdRefIdeal.main_arg1)) (m' ((c.tc : Thread Cert.MlaProjBwdRefIdeal.nD Cert.MlaProjBwdRefIdeal.τ).loc Cert.MlaProjBwdRefIdeal.main_arg2)) (m' ((c.tc : Thread Cert.MlaProjBwdRefIdeal.nD Cert.MlaProjBwdRefIdeal.τ).loc Cert.MlaProjBwdRefIdeal.main_arg5)) (m' ((c.tc : Thread Cert.MlaProjBwdRefIdeal.nD Cert.MlaProjBwdRefIdeal.τ).loc Cert.MlaProjBwdRefIdeal.main_arg8)) = _
      rw [a1, a2, a5, a8]

end Cert.MlaProjBwdCall
-- ==== Proof.GradWQB.Value.lean ====
/- The gradient of the query projection in its weight: the blocks of rows and the reference are one product. -/
module

public import proofs.«01_k».proof.Proof.Gen.GradWQBIdeal.Value
public import proofs.«01_k».proof.Proof.Gen.GradWQBRefIdeal.Read
public import Idealize.ShloMosaic.Lib.Pipeline.ValueKit
public import Idealize.ShloMosaic.Lib.Pipeline.ReadBack

@[expose] public section

set_option maxRecDepth 16384

noncomputable section

namespace Cert.GradWQBCall

open Idealize.ShloMosaic Idealize.ShloMosaic.TcCoe
open Cert.GradWQBIdeal Cert.GradWQBIdeal.Gen

/-- The product of `A` transposed with `D`. -/
def gQ (A : S4096x1024.Idx → EReal) (D : S4096x384.Idx → EReal) (y : S1024x384.Idx) : EReal :=
  ∑ k : Fin 4096, A (ix2 k (y 0)) * D (ix2 k (y 1))

theorem idx : ∀ t : Fin cfg0.N, win0_0.index t = ![0, t.val] ∧ win0_1.index t = ![0, 0] ∧ win0_2.index t = ![t.val, 0] :=
  (by decide +kernel : ∀ t : Fin grid0.N, _)

theorem lt (t : Fin cfg0.N) : t.val < 2 := Nat.lt_of_lt_of_eq t.isLt N_0

variable (m : (ℓ : Loc nD τ sig) → Buf (Elt Ideal) ℓ) (c : Dev nD) (t : Fin cfg0.N)

/-- What a point stores: its rows of the product. -/
theorem block (x0 : Vec Ideal S4096x512 .bf16) (x1 : Vec Ideal S4096x384 .bf16) (r : Fin 512) (n : Fin 384) :
    out0_2 x0 x1 (ix2 r n) = ∑ k : Fin 4096, x0 (ix2 k r) * x1 (ix2 k n) := by
  unfold out0_2
  refine View.canon_append_of_piecesOf (fun y => ∑ k : Fin 4096, x0 (ix2 k (y 0)) * x1 (ix2 k (y 1))) [] [_] ⟨?_, trivial⟩ (ix2 r n) ?_
  · intro x
    idx_vars x
    have e : r0_2.emb (ix2 x0 x1) = ix2 x0 x1 := by
      funext a; refine Fin.ext ?_; fin_cases a <;> simp
    rw [e]
    pointwise [k0_pay1]
  · exact View.cover_of_tiledL _ ![512, 384] (by sl_kernel_rfl) _

/-- The kernel's result. -/
theorem kernel_eq : (dats m 0 c).arrAt 2 cfg0.N = gQ (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 (⟨512 * t.val + y0.val, by omega⟩ : Fin 1024) y1 := by
    blk_ext [idx t]
  rw [e]
  refine (block _ _ y0 y1).trans ?_
  refine Finset.sum_congr rfl fun k _ => ?_
  congr 1
  · show iblk m c 0 t (ix2 k y0) = m ((c.tc : Thread nD τ).loc main_arg0) (ix2 _ _)
    blk_ext [iblk, V, idx t]
  · show iblk m c 1 t (ix2 k y1) = m ((c.tc : Thread nD τ).loc main_arg1) (ix2 _ _)
    blk_ext [iblk, V, idx t]

open Cert.GradWQBRefIdeal.Read in
/-- The reference's result. -/
theorem ref_eq (A : Vec Ideal S4096x1024 .bf16) (D : Vec Ideal S4096x384 .bf16) :
    val_main_v8 (F := Ideal) A D = gQ A D := by
  funext y
  idx_vars y
  pointwise [val_main_v8, val_main_v7, val_main_v6, val_main_v5, val_main_v4, val_main_v3, val_main_v1]
  rfl

end Cert.GradWQBCall
-- ==== Proof.GradWQB.Claims.lean ====
/- The claims: the gradient of the query projection in its weight. -/
module

public import proofs.«01_k».proof.Defs
public import proofs.«01_k».proof.Proof.Gen.GradWQB.Frame
public import proofs.«01_k».proof.Proof.GradWQB.Value
public import proofs.«01_k».proof.Proof.Gen.GradWQBRefIdeal.Run

@[expose] public section

noncomputable section

namespace Cert.GradWQBCall

open Idealize.ShloMosaic Idealize.SL.Sem

theorem frame_kernel : Cert.quiescent_GradWQB := fun m ρ _ => Cert.GradWQB.Gen.frame m ρ

theorem frame_ideal : Cert.quiescent_GradWQBIdeal := fun m ρ _ => Cert.GradWQBIdeal.Gen.frame m ρ

theorem frame_ref : Cert.quiescent_GradWQBRefIdeal := fun m ρ _ =>
  (θ_run Cert.GradWQBRefIdeal.defs _ _).mono (fun r h => ⟨fun c => (h c).2, sem_eq_zero_of_no_sems (by decide) r.2⟩)
    (Cert.GradWQBRefIdeal.Value.run m ρ)

theorem preserves : Cert.preserves_GradWQB_GradWQBIdeal := trivial

theorem algebraic : Cert.algebraic_GradWQBIdeal_GradWQBRefIdeal := by
  intro m g m' g' hp ha
  refine ⟨fun c => gQ (m ((c.tc : Thread Cert.GradWQBIdeal.nD Cert.GradWQBIdeal.τ).loc Cert.GradWQBIdeal.main_arg0))
    (m ((c.tc : Thread Cert.GradWQBIdeal.nD Cert.GradWQBIdeal.τ).loc Cert.GradWQBIdeal.main_arg1)), ?_, ?_⟩
  · refine (θ_run _ _ _).mono (fun r h c => ?_) (Cert.GradWQBIdeal.Value.run_blocks m g)
    obtain ⟨h0, hr⟩ := h c
    exact ⟨h0.trans (kernel_eq m c), hr⟩
  · refine (θ_run _ _ _).mono (fun r h c => ?_) (Cert.GradWQBRefIdeal.Value.run m' g')
    obtain ⟨h0, hr⟩ := h c
    obtain ⟨a0, a1⟩ := ha c
    refine ⟨h0.trans ?_, hr⟩
    rw [Cert.GradWQBRefIdeal.Read.val_main_v8_eq, a0, a1]
    exact ref_eq _ _

end Cert.GradWQBCall
-- ==== Proof.GradWKvB.Value.lean ====
/- The gradient of the key and value projection in its weight: the block and the reference are one product. -/
module

public import proofs.«01_k».proof.Proof.Gen.GradWKvBIdeal.Value
public import proofs.«01_k».proof.Proof.Gen.GradWKvBRefIdeal.Read
public import Idealize.ShloMosaic.Lib.Pipeline.ValueKit
public import Idealize.ShloMosaic.Lib.Pipeline.ReadBack

@[expose] public section

set_option maxRecDepth 16384

noncomputable section

namespace Cert.GradWKvBCall

open Idealize.ShloMosaic Idealize.ShloMosaic.TcCoe
open Cert.GradWKvBIdeal Cert.GradWKvBIdeal.Gen

/-- The product of `A` transposed with `D`. -/
def gKv (A : S4096x256.Idx → EReal) (D : S4096x1024.Idx → EReal) (y : S256x1024.Idx) : EReal :=
  ∑ k : Fin 4096, A (ix2 k (y 0)) * D (ix2 k (y 1))

theorem idx : ∀ t : Fin cfg0.N, win0_0.index t = ![0, 0] ∧ win0_1.index t = ![0, 0] ∧ win0_2.index t = ![0, 0] :=
  (by decide +kernel : ∀ t : Fin grid0.N, _)

theorem lt (t : Fin cfg0.N) : t.val < 1 := Nat.lt_of_lt_of_eq t.isLt N_0

variable (m : (ℓ : Loc nD τ sig) → Buf (Elt Ideal) ℓ) (c : Dev nD) (t : Fin cfg0.N)

/-- What a point stores: its rows of the product. -/
theorem block (x0 : Vec Ideal S4096x256 .bf16) (x1 : Vec Ideal S4096x1024 .bf16) (r : Fin 256) (n : Fin 1024) :
    out0_2 x0 x1 (ix2 r n) = ∑ k : Fin 4096, x0 (ix2 k r) * x1 (ix2 k n) := by
  unfold out0_2
  refine View.canon_append_of_piecesOf (fun y => ∑ k : Fin 4096, x0 (ix2 k (y 0)) * x1 (ix2 k (y 1))) [] [_] ⟨?_, trivial⟩ (ix2 r n) ?_
  · intro x
    idx_vars x
    have e : r0_2.emb (ix2 x0 x1) = ix2 x0 x1 := by
      funext a; refine Fin.ext ?_; fin_cases a <;> simp
    rw [e]
    pointwise [k0_pay1]
  · exact View.cover_of_tiledL _ ![256, 1024] (by sl_kernel_rfl) _

/-- The kernel's result. -/
theorem kernel_eq : (dats m 0 c).arrAt 2 cfg0.N = gKv (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 y0 y1 := by
    blk_ext [idx t]
  rw [e]
  refine (block _ _ y0 y1).trans ?_
  refine Finset.sum_congr rfl fun k _ => ?_
  congr 1
  · show iblk m c 0 t (ix2 k y0) = m ((c.tc : Thread nD τ).loc main_arg0) (ix2 _ _)
    blk_ext [iblk, V, idx t]
  · show iblk m c 1 t (ix2 k y1) = m ((c.tc : Thread nD τ).loc main_arg1) (ix2 _ _)
    blk_ext [iblk, V, idx t]

open Cert.GradWKvBRefIdeal.Read in
/-- The reference's result. -/
theorem ref_eq (A : Vec Ideal S4096x256 .bf16) (D : Vec Ideal S4096x1024 .bf16) :
    val_main_v6 (F := Ideal) A D = gKv A D := by
  funext y
  idx_vars y
  pointwise [val_main_v6, val_main_v5, val_main_v4, val_main_v3, val_main_v1]
  exact Finset.sum_congr rfl fun k _ => mul_comm _ _

end Cert.GradWKvBCall
-- ==== Proof.GradWKvB.Claims.lean ====
/- The claims: the gradient of the key and value projection in its weight. -/
module

public import proofs.«01_k».proof.Defs
public import proofs.«01_k».proof.Proof.Gen.GradWKvB.Frame
public import proofs.«01_k».proof.Proof.GradWKvB.Value
public import proofs.«01_k».proof.Proof.Gen.GradWKvBRefIdeal.Run

@[expose] public section

noncomputable section

namespace Cert.GradWKvBCall

open Idealize.ShloMosaic Idealize.SL.Sem

theorem frame_kernel : Cert.quiescent_GradWKvB := fun m ρ _ => Cert.GradWKvB.Gen.frame m ρ

theorem frame_ideal : Cert.quiescent_GradWKvBIdeal := fun m ρ _ => Cert.GradWKvBIdeal.Gen.frame m ρ

theorem frame_ref : Cert.quiescent_GradWKvBRefIdeal := fun m ρ _ =>
  (θ_run Cert.GradWKvBRefIdeal.defs _ _).mono (fun r h => ⟨fun c => (h c).2, sem_eq_zero_of_no_sems (by decide) r.2⟩)
    (Cert.GradWKvBRefIdeal.Value.run m ρ)

theorem preserves : Cert.preserves_GradWKvB_GradWKvBIdeal := trivial

theorem algebraic : Cert.algebraic_GradWKvBIdeal_GradWKvBRefIdeal := by
  intro m g m' g' hp ha
  refine ⟨fun c => gKv (m ((c.tc : Thread Cert.GradWKvBIdeal.nD Cert.GradWKvBIdeal.τ).loc Cert.GradWKvBIdeal.main_arg0))
    (m ((c.tc : Thread Cert.GradWKvBIdeal.nD Cert.GradWKvBIdeal.τ).loc Cert.GradWKvBIdeal.main_arg1)), ?_, ?_⟩
  · refine (θ_run _ _ _).mono (fun r h c => ?_) (Cert.GradWKvBIdeal.Value.run_blocks m g)
    obtain ⟨h0, hr⟩ := h c
    exact ⟨h0.trans (kernel_eq m c), hr⟩
  · refine (θ_run _ _ _).mono (fun r h c => ?_) (Cert.GradWKvBRefIdeal.Value.run m' g')
    obtain ⟨h0, hr⟩ := h c
    obtain ⟨a0, a1⟩ := ha c
    refine ⟨h0.trans ?_, hr⟩
    rw [Cert.GradWKvBRefIdeal.Read.val_main_v6_eq, a0, a1]
    exact ref_eq _ _

end Cert.GradWKvBCall
-- ==== Proof.MemKvProj.Value.lean ====
/- The projection of the memory tokens: the block and the reference are one product. -/
module

public import proofs.«01_k».proof.Proof.Gen.MemKvProjIdeal.Value
public import proofs.«01_k».proof.Proof.Gen.MemKvProjRefIdeal.Read
public import Idealize.ShloMosaic.Lib.Pipeline.ValueKit
public import Idealize.ShloMosaic.Lib.Pipeline.ReadBack

@[expose] public section

set_option maxRecDepth 16384

noncomputable section

namespace Cert.MemKvProjCall

open Idealize.ShloMosaic Idealize.ShloMosaic.TcCoe
open Cert.MemKvProjIdeal Cert.MemKvProjIdeal.Gen

/-- The product of `A` with `D`. -/
def gM (A : S512x1024.Idx → EReal) (D : S1024x1024.Idx → EReal) (y : S512x1024.Idx) : EReal :=
  ∑ k : Fin 1024, A (ix2 (y 0) k) * D (ix2 k (y 1))

theorem idx : ∀ t : Fin cfg0.N, win0_0.index t = ![0, 0] ∧ win0_1.index t = ![0, 0] ∧ win0_2.index t = ![0, 0] :=
  (by decide +kernel : ∀ t : Fin grid0.N, _)

theorem lt (t : Fin cfg0.N) : t.val < 1 := Nat.lt_of_lt_of_eq t.isLt N_0

variable (m : (ℓ : Loc nD τ sig) → Buf (Elt Ideal) ℓ) (c : Dev nD) (t : Fin cfg0.N)

/-- What a point stores: its rows of the product. -/
theorem block (x0 : Vec Ideal S512x1024 .bf16) (x1 : Vec Ideal S1024x1024 .bf16) (r : Fin 512) (n : Fin 1024) :
    out0_2 x0 x1 (ix2 r n) = ∑ k : Fin 1024, x0 (ix2 r k) * x1 (ix2 k n) := by
  unfold out0_2
  refine View.canon_append_of_piecesOf (fun y => ∑ k : Fin 1024, x0 (ix2 (y 0) k) * x1 (ix2 k (y 1))) [] [_] ⟨?_, trivial⟩ (ix2 r n) ?_
  · intro x
    idx_vars x
    have e : r0_0.emb (ix2 x0 x1) = ix2 x0 x1 := by
      funext a; refine Fin.ext ?_; fin_cases a <;> simp
    rw [e]
    pointwise [k0_pay1]
  · exact View.cover_of_tiledL _ ![512, 1024] (by sl_kernel_rfl) _

/-- The kernel's result. -/
theorem kernel_eq : (dats m 0 c).arrAt 2 cfg0.N = gM (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 y0 y1 := by
    blk_ext [idx t]
  rw [e]
  refine (block _ _ y0 y1).trans ?_
  refine Finset.sum_congr rfl fun k _ => ?_
  congr 1
  · show iblk m c 0 t (ix2 y0 k) = m ((c.tc : Thread nD τ).loc main_arg0) (ix2 _ _)
    blk_ext [iblk, V, idx t]
  · show iblk m c 1 t (ix2 k y1) = m ((c.tc : Thread nD τ).loc main_arg1) (ix2 _ _)
    blk_ext [iblk, V, idx t]

open Cert.MemKvProjRefIdeal.Read in
/-- The reference's result. -/
theorem ref_eq (A : Vec Ideal S512x1024 .bf16) (D : Vec Ideal S1024x1024 .bf16) :
    val_main_v3 (F := Ideal) A D = gM A D := by
  funext y
  idx_vars y
  pointwise [val_main_v3, val_main_v2, val_main_v1, val_main_v0]
  rfl

end Cert.MemKvProjCall
-- ==== Proof.MemKvProj.Claims.lean ====
/- The claims: the projection of the memory tokens. -/
module

public import proofs.«01_k».proof.Defs
public import proofs.«01_k».proof.Proof.Gen.MemKvProj.Frame
public import proofs.«01_k».proof.Proof.MemKvProj.Value
public import proofs.«01_k».proof.Proof.Gen.MemKvProjRefIdeal.Run

@[expose] public section

noncomputable section

namespace Cert.MemKvProjCall

open Idealize.ShloMosaic Idealize.SL.Sem

theorem frame_kernel : Cert.quiescent_MemKvProj := fun m ρ _ => Cert.MemKvProj.Gen.frame m ρ

theorem frame_ideal : Cert.quiescent_MemKvProjIdeal := fun m ρ _ => Cert.MemKvProjIdeal.Gen.frame m ρ

theorem frame_ref : Cert.quiescent_MemKvProjRefIdeal := fun m ρ _ =>
  (θ_run Cert.MemKvProjRefIdeal.defs _ _).mono (fun r h => ⟨fun c => (h c).2, sem_eq_zero_of_no_sems (by decide) r.2⟩)
    (Cert.MemKvProjRefIdeal.Value.run m ρ)

theorem preserves : Cert.preserves_MemKvProj_MemKvProjIdeal := trivial

theorem algebraic : Cert.algebraic_MemKvProjIdeal_MemKvProjRefIdeal := by
  intro m g m' g' hp ha
  refine ⟨fun c => gM (m ((c.tc : Thread Cert.MemKvProjIdeal.nD Cert.MemKvProjIdeal.τ).loc Cert.MemKvProjIdeal.main_arg0))
    (m ((c.tc : Thread Cert.MemKvProjIdeal.nD Cert.MemKvProjIdeal.τ).loc Cert.MemKvProjIdeal.main_arg1)), ?_, ?_⟩
  · refine (θ_run _ _ _).mono (fun r h c => ?_) (Cert.MemKvProjIdeal.Value.run_blocks m g)
    obtain ⟨h0, hr⟩ := h c
    exact ⟨h0.trans (kernel_eq m c), hr⟩
  · refine (θ_run _ _ _).mono (fun r h c => ?_) (Cert.MemKvProjRefIdeal.Value.run m' g')
    obtain ⟨h0, hr⟩ := h c
    obtain ⟨a0, a1⟩ := ha c
    refine ⟨h0.trans ?_, hr⟩
    rw [Cert.MemKvProjRefIdeal.Read.val_main_v3_eq, a0, a1]
    exact ref_eq _ _

end Cert.MemKvProjCall
-- ==== Proof.GradWMemKv.Value.lean ====
/- The gradient of the memory tokens' projection in its weight: the blocks of rows and the reference are one product. -/
module

public import proofs.«01_k».proof.Proof.Gen.GradWMemKvIdeal.Value
public import proofs.«01_k».proof.Proof.Gen.GradWMemKvRefIdeal.Read
public import Idealize.ShloMosaic.Lib.Pipeline.ValueKit
public import Idealize.ShloMosaic.Lib.Pipeline.ReadBack

@[expose] public section

set_option maxRecDepth 16384

noncomputable section

namespace Cert.GradWMemKvCall

open Idealize.ShloMosaic Idealize.ShloMosaic.TcCoe
open Cert.GradWMemKvIdeal Cert.GradWMemKvIdeal.Gen

/-- The product of `A` transposed with `D`. -/
def gW (A : S512x1024.Idx → EReal) (D : S512x1024.Idx → EReal) (y : S1024x1024.Idx) : EReal :=
  ∑ k : Fin 512, A (ix2 k (y 0)) * D (ix2 k (y 1))

theorem idx : ∀ t : Fin cfg0.N, win0_0.index t = ![0, t.val] ∧ win0_1.index t = ![0, 0] ∧ win0_2.index t = ![t.val, 0] :=
  (by decide +kernel : ∀ t : Fin grid0.N, _)

theorem lt (t : Fin cfg0.N) : t.val < 2 := Nat.lt_of_lt_of_eq t.isLt N_0

variable (m : (ℓ : Loc nD τ sig) → Buf (Elt Ideal) ℓ) (c : Dev nD) (t : Fin cfg0.N)

/-- What a point stores: its rows of the product. -/
theorem block (x0 : Vec Ideal S512x512 .bf16) (x1 : Vec Ideal S512x1024 .f32) (r : Fin 512) (n : Fin 1024) :
    out0_2 x0 x1 (ix2 r n) = ∑ k : Fin 512, x0 (ix2 k r) * x1 (ix2 k n) := by
  unfold out0_2
  refine View.canon_append_of_piecesOf (fun y => ∑ k : Fin 512, x0 (ix2 k (y 0)) * x1 (ix2 k (y 1))) [] [_] ⟨?_, trivial⟩ (ix2 r n) ?_
  · intro x
    idx_vars x
    have e : r0_1.emb (ix2 x0 x1) = ix2 x0 x1 := by
      funext a; refine Fin.ext ?_; fin_cases a <;> simp
    rw [e]
    pointwise [k0_pay1]
  · exact View.cover_of_tiledL _ ![512, 1024] (by sl_kernel_rfl) _

/-- The kernel's result. -/
theorem kernel_eq : (dats m 0 c).arrAt 2 cfg0.N = gW (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 (⟨512 * t.val + y0.val, by omega⟩ : Fin 1024) y1 := by
    blk_ext [idx t]
  rw [e]
  refine (block _ _ y0 y1).trans ?_
  refine Finset.sum_congr rfl fun k _ => ?_
  congr 1
  · show iblk m c 0 t (ix2 k y0) = m ((c.tc : Thread nD τ).loc main_arg0) (ix2 _ _)
    blk_ext [iblk, V, idx t]
  · show iblk m c 1 t (ix2 k y1) = m ((c.tc : Thread nD τ).loc main_arg1) (ix2 _ _)
    blk_ext [iblk, V, idx t]

open Cert.GradWMemKvRefIdeal.Read in
/-- The reference's result. -/
theorem ref_eq (A : Vec Ideal S512x1024 .bf16) (D : Vec Ideal S512x1024 .f32) :
    val_main_v5 (F := Ideal) A D = gW A D := by
  funext y
  idx_vars y
  pointwise [val_main_v5, val_main_v4, val_main_v3, val_main_v1]
  exact Finset.sum_congr rfl fun k _ => mul_comm _ _

end Cert.GradWMemKvCall
-- ==== Proof.GradWMemKv.Claims.lean ====
/- The claims: the gradient of the memory tokens' projection in its weight. -/
module

public import proofs.«01_k».proof.Defs
public import proofs.«01_k».proof.Proof.Gen.GradWMemKv.Frame
public import proofs.«01_k».proof.Proof.GradWMemKv.Value
public import proofs.«01_k».proof.Proof.Gen.GradWMemKvRefIdeal.Run

@[expose] public section

noncomputable section

namespace Cert.GradWMemKvCall

open Idealize.ShloMosaic Idealize.SL.Sem

theorem frame_kernel : Cert.quiescent_GradWMemKv := fun m ρ _ => Cert.GradWMemKv.Gen.frame m ρ

theorem frame_ideal : Cert.quiescent_GradWMemKvIdeal := fun m ρ _ => Cert.GradWMemKvIdeal.Gen.frame m ρ

theorem frame_ref : Cert.quiescent_GradWMemKvRefIdeal := fun m ρ _ =>
  (θ_run Cert.GradWMemKvRefIdeal.defs _ _).mono (fun r h => ⟨fun c => (h c).2, sem_eq_zero_of_no_sems (by decide) r.2⟩)
    (Cert.GradWMemKvRefIdeal.Value.run m ρ)

theorem preserves : Cert.preserves_GradWMemKv_GradWMemKvIdeal := trivial

theorem algebraic : Cert.algebraic_GradWMemKvIdeal_GradWMemKvRefIdeal := by
  intro m g m' g' hp ha
  refine ⟨fun c => gW (m ((c.tc : Thread Cert.GradWMemKvIdeal.nD Cert.GradWMemKvIdeal.τ).loc Cert.GradWMemKvIdeal.main_arg0))
    (m ((c.tc : Thread Cert.GradWMemKvIdeal.nD Cert.GradWMemKvIdeal.τ).loc Cert.GradWMemKvIdeal.main_arg1)), ?_, ?_⟩
  · refine (θ_run _ _ _).mono (fun r h c => ?_) (Cert.GradWMemKvIdeal.Value.run_blocks m g)
    obtain ⟨h0, hr⟩ := h c
    exact ⟨h0.trans (kernel_eq m c), hr⟩
  · refine (θ_run _ _ _).mono (fun r h c => ?_) (Cert.GradWMemKvRefIdeal.Value.run m' g')
    obtain ⟨h0, hr⟩ := h c
    obtain ⟨a0, a1⟩ := ha c
    refine ⟨h0.trans ?_, hr⟩
    rw [Cert.GradWMemKvRefIdeal.Read.val_main_v5_eq, a0, a1]
    exact ref_eq _ _

end Cert.GradWMemKvCall
-- ==== Proof.DMemn.Value.lean ====
/- The gradient of the memory tokens' projection in the tokens: the block and the reference are one product. -/
module

public import proofs.«01_k».proof.Proof.Gen.DMemnIdeal.Value
public import proofs.«01_k».proof.Proof.Gen.DMemnRefIdeal.Read
public import Idealize.ShloMosaic.Lib.Pipeline.ValueKit
public import Idealize.ShloMosaic.Lib.Pipeline.ReadBack

@[expose] public section

set_option maxRecDepth 16384

noncomputable section

namespace Cert.DMemnCall

open Idealize.ShloMosaic Idealize.ShloMosaic.TcCoe
open Cert.DMemnIdeal Cert.DMemnIdeal.Gen

/-- The product of `A` with `D` transposed. -/
def gA (A : S512x1024.Idx → EReal) (D : S1024x1024.Idx → EReal) (y : S512x1024.Idx) : EReal :=
  ∑ k : Fin 1024, A (ix2 (y 0) k) * D (ix2 (y 1) k)

theorem idx : ∀ t : Fin cfg0.N, win0_0.index t = ![0, 0] ∧ win0_1.index t = ![0, 0] ∧ win0_2.index t = ![0, 0] :=
  (by decide +kernel : ∀ t : Fin grid0.N, _)

theorem lt (t : Fin cfg0.N) : t.val < 1 := Nat.lt_of_lt_of_eq t.isLt N_0

variable (m : (ℓ : Loc nD τ sig) → Buf (Elt Ideal) ℓ) (c : Dev nD) (t : Fin cfg0.N)

theorem pay (x0 : Vec Ideal S512x1024 .f32) (x1 : Vec Ideal S1024x1024 .bf16) (r : Fin 512) (n : Fin 1024) :
    k0_pay1 (F := Ideal) x0 x1 (ix2 r n) = ∑ k : Fin 1024, x0 (ix2 r k) * x1 (ix2 n k) := by
  pointwise [k0_pay1]

/-- What a point stores: its rows of the product. -/
theorem block (y : S512x1024.Idx) :
    outsAt0 m c t y = k0_pay1 (F := Ideal) (iblk m c 0 t) (iblk m c 1 t) y := by
  unfold outsAt0
  frame_open
  frame_out

/-- The kernel's result. -/
theorem kernel_eq : (dats m 0 c).arrAt 2 cfg0.N = gA (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 y0 y1 := by
    blk_ext [idx t]
  rw [e]
  refine ((block m c t _).trans (pay _ _ y0 y1)).trans ?_
  refine Finset.sum_congr rfl fun k _ => ?_
  congr 1
  · show iblk m c 0 t (ix2 y0 k) = m ((c.tc : Thread nD τ).loc main_arg0) (ix2 _ _)
    blk_ext [iblk, V, idx t]
  · show iblk m c 1 t (ix2 y1 k) = m ((c.tc : Thread nD τ).loc main_arg1) (ix2 _ _)
    blk_ext [iblk, V, idx t]

open Cert.DMemnRefIdeal.Read in
/-- The reference's result. -/
theorem ref_eq (A : Vec Ideal S512x1024 .f32) (D : Vec Ideal S1024x1024 .bf16) :
    val_main_v3 (F := Ideal) A D = gA A D := by
  funext y
  idx_vars y
  pointwise [val_main_v3, val_main_v2, val_main_v1]
  rfl

end Cert.DMemnCall
-- ==== Proof.DMemn.Claims.lean ====
/- The claims: the gradient of the memory tokens' projection in the tokens. -/
module

public import proofs.«01_k».proof.Defs
public import proofs.«01_k».proof.Proof.Gen.DMemn.Frame
public import proofs.«01_k».proof.Proof.DMemn.Value
public import proofs.«01_k».proof.Proof.Gen.DMemnRefIdeal.Run

@[expose] public section

noncomputable section

namespace Cert.DMemnCall

open Idealize.ShloMosaic Idealize.SL.Sem

theorem frame_kernel : Cert.quiescent_DMemn := fun m ρ _ => Cert.DMemn.Gen.frame m ρ

theorem frame_ideal : Cert.quiescent_DMemnIdeal := fun m ρ _ => Cert.DMemnIdeal.Gen.frame m ρ

theorem frame_ref : Cert.quiescent_DMemnRefIdeal := fun m ρ _ =>
  (θ_run Cert.DMemnRefIdeal.defs _ _).mono (fun r h => ⟨fun c => (h c).2, sem_eq_zero_of_no_sems (by decide) r.2⟩)
    (Cert.DMemnRefIdeal.Value.run m ρ)

theorem preserves : Cert.preserves_DMemn_DMemnIdeal := trivial

theorem algebraic : Cert.algebraic_DMemnIdeal_DMemnRefIdeal := by
  intro m g m' g' hp ha
  refine ⟨fun c => gA (m ((c.tc : Thread Cert.DMemnIdeal.nD Cert.DMemnIdeal.τ).loc Cert.DMemnIdeal.main_arg0))
    (m ((c.tc : Thread Cert.DMemnIdeal.nD Cert.DMemnIdeal.τ).loc Cert.DMemnIdeal.main_arg1)), ?_, ?_⟩
  · refine (θ_run _ _ _).mono (fun r h c => ?_) (Cert.DMemnIdeal.Value.run_blocks m g)
    obtain ⟨h0, hr⟩ := h c
    exact ⟨h0.trans (kernel_eq m c), hr⟩
  · refine (θ_run _ _ _).mono (fun r h c => ?_) (Cert.DMemnRefIdeal.Value.run m' g')
    obtain ⟨h0, hr⟩ := h c
    obtain ⟨a0, a1, a2⟩ := ha c
    refine ⟨h0.trans ?_, hr⟩
    rw [Cert.DMemnRefIdeal.Read.val_main_v3_eq, a0, a1]
    exact ref_eq _ _

end Cert.DMemnCall
-- ==== Proof.MlaPrep.Value.lean ====
/- The projections of the latent attention: what the kernel leaves. -/
module

public import proofs.«01_k».proof.Proof.Mla
public import proofs.«01_k».proof.Proof.Gen.MlaPrepIdeal.Value
public import Idealize.ShloMosaic.Lib.Pipeline.ReadBack

@[expose] public section

set_option maxRecDepth 16384

noncomputable section

namespace Cert.MlaPrepCall

open Idealize.ShloMosaic Idealize.ShloMosaic.TcCoe Cert.Mla Cert.Norm
open Cert.MlaPrepIdeal Cert.MlaPrepIdeal.Gen

variable (x0 : Vec Ideal S512x1024 .f32) (x1 : Vec Ideal S1x384 .f32) (x2 : Vec Ideal S1x256 .f32) (x3 : Vec Ideal S1024x384 .bf16)
  (x4 : Vec Ideal S256x1024 .bf16) (x5 x6 : Vec Ideal S512x128 .f32)

/-- The latent rows and their shared key part. -/
def latQ (p : Fin 1024 → EReal) (k : Fin 384) : EReal := p ⟨k.val, by omega⟩
def latK (p : Fin 1024 → EReal) (k : Fin 256) : EReal := p ⟨384 + k.val, by omega⟩
def latR (p : Fin 1024 → EReal) (k : Fin 128) : EReal := p ⟨640 + k.val, by omega⟩

theorem pay_qn (r : Fin 512) (k : Fin 384) : k0_pay4 (F := Ideal) x0 x1 (ix2 r k)
    = normed wq (latQ fun n => x0 (ix2 r n)) (fun k => x1 (ix2 0 k)) k := by
  pointwise [k0_pay4]
  rfl

theorem pay_kn (r : Fin 512) (k : Fin 256) : k0_pay5 (F := Ideal) x0 x2 (ix2 r k)
    = normed wk (latK fun n => x0 (ix2 r n)) (fun k => x2 (ix2 0 k)) k := by
  pointwise [k0_pay5]
  rfl

/-- The two products' rows. -/
def linQ (p : Fin 384 → EReal) (W : Fin 1024 → Fin 384 → EReal) (n : Fin 1024) : EReal := ∑ k, p k * W n k
def linK (p : Fin 256 → EReal) (W : Fin 256 → Fin 1024 → EReal) (n : Fin 1024) : EReal := ∑ k, p k * W k n

theorem pay_q (r : Fin 512) (n : Fin 1024) : k0_pay6 (F := Ideal) x0 x1 x3 (ix2 r n)
    = linQ (normed wq (latQ fun n => x0 (ix2 r n)) (fun k => x1 (ix2 0 k))) (fun n k => x3 (ix2 n k)) n := by
  pointwise [k0_pay6]
  simp only [pay_qn]
  rfl

theorem pay_k (r : Fin 512) (n : Fin 1024) : k0_pay7 (F := Ideal) (k0_pay5 x0 x2) x4 (ix2 r n)
    = linK (normed wk (latK fun n => x0 (ix2 r n)) (fun k => x2 (ix2 0 k))) (fun k n => x4 (ix2 k n)) n := by
  pointwise [k0_pay7]
  simp only [pay_kn]
  rfl

/-- A row's queries, scaled: the plain half and the turned half of each head. -/
def qLo (l : Fin 1024 → EReal) (h : Fin 4) (d : Fin 128) : EReal := l ⟨256 * h.val + d.val, by omega⟩ * scale
def qHi (l : Fin 1024 → EReal) (c s : Fin 128 → EReal) (h : Fin 4) (d : Fin 128) : EReal :=
  turn (fun e => l ⟨256 * h.val + 128 + e.val, by omega⟩) c s d * scale
/-- A row's keys and values, a head's part. -/
def kLo (l : Fin 1024 → EReal) (h : Fin 4) (d : Fin 128) : EReal := l ⟨128 * h.val + d.val, by omega⟩
def vLo (l : Fin 1024 → EReal) (h : Fin 4) (d : Fin 128) : EReal := l ⟨512 + 128 * h.val + d.val, by omega⟩

section
variable (v : Vec Ideal S512x1024 .f32) (l : Fin 512 → Fin 1024 → EReal) (hv : ∀ r n, v (ix2 r n) = l r n) (r : Fin 512) (d : Fin 128)
include hv

theorem q0 : k0_pay9 (F := Ideal) v (ix2 r d) = qLo (l r) 0 d := by
  pointwise [k0_pay9]
  rw [hv]; exact congrArg (fun i => l r i * scale) (Fin.ext (by simp))
theorem q1 : k0_pay14 (F := Ideal) v (ix2 r d) = qLo (l r) 1 d := by
  pointwise [k0_pay14]
  rw [hv]; rfl
theorem q2 : k0_pay19 (F := Ideal) v (ix2 r d) = qLo (l r) 2 d := by
  pointwise [k0_pay19]
  rw [hv]; rfl
theorem q3 : k0_pay25 (F := Ideal) v (ix2 r d) = qLo (l r) 3 d := by
  pointwise [k0_pay25]
  rw [hv]; rfl
theorem r0 : k0_pay10 (F := Ideal) v x5 x6 (ix2 r d) = qHi (l r) (fun k => x5 (ix2 r k)) (fun k => x6 (ix2 r k)) 0 d := by
  pointwise [k0_pay10]
  simp only [hv]; rfl
theorem r1 : k0_pay15 (F := Ideal) v x5 x6 (ix2 r d) = qHi (l r) (fun k => x5 (ix2 r k)) (fun k => x6 (ix2 r k)) 1 d := by
  pointwise [k0_pay15]
  simp only [hv]; rfl
theorem r2 : k0_pay21 (F := Ideal) (k0_pay20 v x5 x6) (ix2 r d) = qHi (l r) (fun k => x5 (ix2 r k)) (fun k => x6 (ix2 r k)) 2 d := by
  pointwise [k0_pay21, k0_pay20]
  simp only [hv]; rfl
theorem r3 : k0_pay26 (F := Ideal) v x5 x6 (ix2 r d) = qHi (l r) (fun k => x5 (ix2 r k)) (fun k => x6 (ix2 r k)) 3 d := by
  pointwise [k0_pay26]
  simp only [hv]; rfl
theorem k1 : k0_pay16 (F := Ideal) v (ix2 r d) = kLo (l r) 1 d := by
  pointwise [k0_pay16]
  rw [hv]; rfl
theorem k2 : k0_pay22 (F := Ideal) v (ix2 r d) = kLo (l r) 2 d := by
  pointwise [k0_pay22]
  rw [hv]; rfl
theorem k3 : k0_pay27 (F := Ideal) v (ix2 r d) = kLo (l r) 3 d := by
  pointwise [k0_pay27]
  rw [hv]; rfl
theorem v1 : k0_pay17 (F := Ideal) v (ix2 r d) = vLo (l r) 1 d := by
  pointwise [k0_pay17]
  rw [hv]; rfl
theorem v2 : k0_pay23 (F := Ideal) v (ix2 r d) = vLo (l r) 2 d := by
  pointwise [k0_pay23]
  rw [hv]; rfl
theorem v3 : k0_pay1 (F := Ideal) v (ix2 r d) = vLo (l r) 3 d := by
  pointwise [k0_pay1]
  rw [hv]; rfl
end

theorem k0 (r : Fin 512) (d : Fin 128) : k0_pay11 (F := Ideal) (k0_pay5 x0 x2) x4 (ix2 r d)
    = kLo (linK (normed wk (latK fun n => x0 (ix2 r n)) (fun k => x2 (ix2 0 k))) (fun k n => x4 (ix2 k n))) 0 d := by
  pointwise [k0_pay11]
  rw [pay_k]; exact congrArg (linK _ _) (Fin.ext (by simp))

theorem v0 (r : Fin 512) (d : Fin 128) : k0_pay12 (F := Ideal) (k0_pay5 x0 x2) x4 (ix2 r d)
    = vLo (linK (normed wk (latK fun n => x0 (ix2 r n)) (fun k => x2 (ix2 0 k))) (fun k n => x4 (ix2 k n))) 0 d := by
  pointwise [k0_pay12]
  rw [pay_k]; rfl

theorem kr (r : Fin 512) (d : Fin 128) : k0_pay8 (F := Ideal) (k0_pay3 x0) x5 x6 (ix2 r d)
    = turn (latR fun n => x0 (ix2 r n)) (fun k => x5 (ix2 r k)) (fun k => x6 (ix2 r k)) d := by
  pointwise [k0_pay8, k0_pay3]
  rfl

theorem one (r : Fin 512) (d : Fin 128) : k0_pay13 (F := Ideal) (ix2 r d) = 1 ∧ k0_pay18 (F := Ideal) (ix2 r d) = 1 ∧ k0_pay24 (F := Ideal) (ix2 r d) = 1
    ∧ k0_pay2 (F := Ideal) (ix2 r d) = 1 := by
  refine ⟨?_, ?_, ?_, ?_⟩
  · pointwise [k0_pay13]
  · pointwise [k0_pay18]
  · pointwise [k0_pay24]
  · pointwise [k0_pay2]

/-- One row: its two products, and its queries, keys and values. -/
def rowQ (p : Fin 1024 → EReal) (g : Fin 384 → EReal) (W : Fin 1024 → Fin 384 → EReal) : Fin 1024 → EReal := linQ (normed wq (latQ p) g) W
def rowK (p : Fin 1024 → EReal) (g : Fin 256 → EReal) (W : Fin 256 → Fin 1024 → EReal) : Fin 1024 → EReal := linK (normed wk (latK p) g) W

variable (m : (ℓ : Loc nD τ sig) → Buf (Elt Ideal) ℓ) (c : Dev nD) (t : Fin cfg0.N)

/-- The tile's rows, its products, and its angles. -/
abbrev tP (r : Fin 512) (n : Fin 1024) : EReal := X0_0 m c t (ix2 r n)
abbrev tQ (r : Fin 512) : Fin 1024 → EReal := rowQ (tP m c t r) (fun k => iblk m c 1 t (ix2 0 k)) (fun n k => iblk m c 3 t (ix2 n k))
abbrev tK (r : Fin 512) : Fin 1024 → EReal := rowK (tP m c t r) (fun k => iblk m c 2 t (ix2 0 k)) (fun k n => iblk m c 4 t (ix2 k n))
abbrev tC (r : Fin 512) (k : Fin 128) : EReal := iblk m c 5 t (ix2 r k)
abbrev tS (r : Fin 512) (k : Fin 128) : EReal := iblk m c 6 t (ix2 r k)

theorem out_q (y : S512x1024.Idx) : (outsAt0 m c t).1 y
    = heads (fun r => qLo (tQ m c t r)) (fun r => qHi (tQ m c t r) (tC m c t r) (tS m c t r)) y := by
  unfold outsAt0
  frame_open
  frame_out
  refine View.canon_append_of_piecesOf (heads _ _) [] [_, _, _, _, _, _, _, _] ⟨?_, ?_, ?_, ?_, ?_, ?_, ?_, ?_, trivial⟩ y ?_
  · intro z; idx_vars z; exact piece_hi _ _ 3 _ rfl _ _ _ _ (r3 _ _ _ _ (pay_q _ _ _) _ _)
  · intro z; idx_vars z; exact piece_lo _ _ 3 _ rfl _ _ _ _ (q3 _ _ (pay_q _ _ _) _ _)
  · intro z; idx_vars z; exact piece_hi _ _ 2 _ rfl _ _ _ _ (r2 _ _ _ _ (pay_q _ _ _) _ _)
  · intro z; idx_vars z; exact piece_lo _ _ 2 _ rfl _ _ _ _ (q2 _ _ (pay_q _ _ _) _ _)
  · intro z; idx_vars z; exact piece_hi _ _ 1 _ rfl _ _ _ _ (r1 _ _ _ _ (pay_q _ _ _) _ _)
  · intro z; idx_vars z; exact piece_lo _ _ 1 _ rfl _ _ _ _ (q1 _ _ (pay_q _ _ _) _ _)
  · intro z; idx_vars z; exact piece_hi _ _ 0 _ rfl _ _ _ _ (r0 _ _ _ _ (pay_q _ _ _) _ _)
  · intro z; idx_vars z; exact piece_lo _ _ 0 _ rfl _ _ _ _ (q0 _ _ (pay_q _ _ _) _ _)
  · exact View.cover_of_tiledL _ ![512, 128] (by sl_kernel_rfl) y

theorem out_k (y : S512x1024.Idx) : (outsAt0 m c t).2.1 y
    = heads (fun r => kLo (tK m c t r)) (fun r _ => turn (latR (tP m c t r)) (tC m c t r) (tS m c t r)) y := by
  unfold outsAt0
  frame_open
  frame_out
  refine View.canon_append_of_piecesOf (heads _ _) [] [_, _, _, _, _, _, _, _] ⟨?_, ?_, ?_, ?_, ?_, ?_, ?_, ?_, trivial⟩ y ?_
  · intro z; idx_vars z; exact piece_hi _ _ 3 _ rfl _ _ _ _ (kr _ _ _ _ _)
  · intro z; idx_vars z; exact piece_lo _ _ 3 _ rfl _ _ _ _ (k3 _ _ (pay_k _ _ _) _ _)
  · intro z; idx_vars z; exact piece_hi _ _ 2 _ rfl _ _ _ _ (kr _ _ _ _ _)
  · intro z; idx_vars z; exact piece_lo _ _ 2 _ rfl _ _ _ _ (k2 _ _ (pay_k _ _ _) _ _)
  · intro z; idx_vars z; exact piece_hi _ _ 1 _ rfl _ _ _ _ (kr _ _ _ _ _)
  · intro z; idx_vars z; exact piece_lo _ _ 1 _ rfl _ _ _ _ (k1 _ _ (pay_k _ _ _) _ _)
  · intro z; idx_vars z; exact piece_hi _ _ 0 _ rfl _ _ _ _ (kr _ _ _ _ _)
  · intro z; idx_vars z; exact piece_lo _ _ 0 _ rfl _ _ _ _ (k0 _ _ _ _ _)
  · exact View.cover_of_tiledL _ ![512, 128] (by sl_kernel_rfl) y

theorem out_v (y : S512x1024.Idx) : (outsAt0 m c t).2.2.1 y = heads (fun r => vLo (tK m c t r)) (fun _ _ _ => 1) y := by
  unfold outsAt0
  frame_open
  frame_out
  refine View.canon_append_of_piecesOf (heads _ _) [] [_, _, _, _, _, _, _, _] ⟨?_, ?_, ?_, ?_, ?_, ?_, ?_, ?_, trivial⟩ y ?_
  · intro z; idx_vars z; exact piece_hi _ _ 3 _ rfl _ _ _ _ (one _ _).2.2.2
  · intro z; idx_vars z; exact piece_lo _ _ 3 _ rfl _ _ _ _ (v3 _ _ (pay_k _ _ _) _ _)
  · intro z; idx_vars z; exact piece_hi _ _ 2 _ rfl _ _ _ _ (one _ _).2.2.1
  · intro z; idx_vars z; exact piece_lo _ _ 2 _ rfl _ _ _ _ (v2 _ _ (pay_k _ _ _) _ _)
  · intro z; idx_vars z; exact piece_hi _ _ 1 _ rfl _ _ _ _ (one _ _).2.1
  · intro z; idx_vars z; exact piece_lo _ _ 1 _ rfl _ _ _ _ (v1 _ _ (pay_k _ _ _) _ _)
  · intro z; idx_vars z; exact piece_hi _ _ 0 _ rfl _ _ _ _ (one _ _).1
  · intro z; idx_vars z; exact piece_lo _ _ 0 _ rfl _ _ _ _ (v0 _ _ _ _ _)
  · exact View.cover_of_tiledL _ ![512, 128] (by sl_kernel_rfl) y

theorem out_qn (y : S512x384.Idx) : (outsAt0 m c t).2.2.2.1 y = normed wq (latQ (tP m c t (y 0))) (fun k => iblk m c 1 t (ix2 0 k)) (y 1) := by
  unfold outsAt0
  frame_open
  frame_out
  idx_vars y
  exact pay_qn _ _ y0 y1

theorem out_kn (y : S512x256.Idx) : (outsAt0 m c t).2.2.2.2 y = normed wk (latK (tP m c t (y 0))) (fun k => iblk m c 2 t (ix2 0 k)) (y 1) := by
  unfold outsAt0
  frame_open
  frame_out
  idx_vars y
  exact pay_kn _ _ y0 y1

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

theorem lt8 (t : Fin cfg0.N) : t.val < 8 := Nat.lt_of_lt_of_eq t.isLt N_0

/-- Row `r` of tile `t`. -/
abbrev row (r : Fin 512) : Fin 4096 := ⟨t.val * 512 + r.val, by have := lt8 t; omega⟩

/-- The rows of the whole array that the call reads. -/
def aP (P : S4096x4608.Idx → EReal) (i : Fin 4096) (n : Fin 1024) : EReal := P (ix2 i ⟨n.val, by omega⟩)

theorem read0 (r : Fin 512) (n : Fin 1024) : X0_0 m c t (ix2 r n) = aP (m ((c.tc : Thread nD τ).loc main_arg0)) (row t r) n := by
  show X0_0 m c t (ix2 r n) = m ((c.tc : Thread nD τ).loc main_arg0) (ix2 _ _)
  unfold X0_0 Pipeline.Window.fill
  rw [dif_pos (moved0_0 t _)]
  blk_ext [iblk, V, idx t]

theorem read1 (k : Fin 384) : iblk m c 1 t (ix2 0 k) = m ((c.tc : Thread nD τ).loc main_arg1) (ix2 0 k) := by
  show iblk m c 1 t (ix2 0 k) = m ((c.tc : Thread nD τ).loc main_arg1) (ix2 _ _)
  blk_ext [iblk, V, idx t]

theorem read2 (k : Fin 256) : iblk m c 2 t (ix2 0 k) = m ((c.tc : Thread nD τ).loc main_arg2) (ix2 0 k) := by
  show iblk m c 2 t (ix2 0 k) = m ((c.tc : Thread nD τ).loc main_arg2) (ix2 _ _)
  blk_ext [iblk, V, idx t]

theorem read3 (n : Fin 1024) (k : Fin 384) : iblk m c 3 t (ix2 n k) = m ((c.tc : Thread nD τ).loc main_arg3) (ix2 n k) := by
  show iblk m c 3 t (ix2 n k) = m ((c.tc : Thread nD τ).loc main_arg3) (ix2 _ _)
  blk_ext [iblk, V, idx t]

theorem read4 (k : Fin 256) (n : Fin 1024) : iblk m c 4 t (ix2 k n) = m ((c.tc : Thread nD τ).loc main_arg4) (ix2 k n) := by
  show iblk m c 4 t (ix2 k n) = m ((c.tc : Thread nD τ).loc main_arg4) (ix2 _ _)
  blk_ext [iblk, V, idx t]

theorem read5 (r : Fin 512) (k : Fin 128) : iblk m c 5 t (ix2 r k) = m ((c.tc : Thread nD τ).loc main_arg5) (ix2 (row t r) k) := by
  show iblk m c 5 t (ix2 r k) = m ((c.tc : Thread nD τ).loc main_arg5) (ix2 _ _)
  blk_ext [iblk, V, idx t]

theorem read6 (r : Fin 512) (k : Fin 128) : iblk m c 6 t (ix2 r k) = m ((c.tc : Thread nD τ).loc main_arg6) (ix2 (row t r) k) := by
  show iblk m c 6 t (ix2 r k) = m ((c.tc : Thread nD τ).loc main_arg6) (ix2 _ _)
  blk_ext [iblk, V, idx t]

/-- The rows of the products of the whole arrays. -/
def aQ (P : S4096x4608.Idx → EReal) (g : S1x384.Idx → EReal) (W : S1024x384.Idx → EReal) (i : Fin 4096) : Fin 1024 → EReal :=
  rowQ (aP P i) (fun k => g (ix2 0 k)) (fun n k => W (ix2 n k))
def aK (P : S4096x4608.Idx → EReal) (g : S1x256.Idx → EReal) (W : S256x1024.Idx → EReal) (i : Fin 4096) : Fin 1024 → EReal :=
  rowK (aP P i) (fun k => g (ix2 0 k)) (fun k n => W (ix2 k n))

/-- The results: queries, keys, values, and the two normalised latent rows. -/
def gQ (P : S4096x4608.Idx → EReal) (g : S1x384.Idx → EReal) (W : S1024x384.Idx → EReal) (C S : S4096x128.Idx → EReal) (y : S4096x1024.Idx) : EReal :=
  pair (qLo (aQ P g W (y 0))) (qHi (aQ P g W (y 0)) (fun k => C (ix2 (y 0) k)) (fun k => S (ix2 (y 0) k))) (y 1)
def gK (P : S4096x4608.Idx → EReal) (g : S1x256.Idx → EReal) (W : S256x1024.Idx → EReal) (C S : S4096x128.Idx → EReal) (y : S4096x1024.Idx) : EReal :=
  pair (kLo (aK P g W (y 0))) (fun _ => turn (latR (aP P (y 0))) (fun k => C (ix2 (y 0) k)) (fun k => S (ix2 (y 0) k))) (y 1)
def gV (P : S4096x4608.Idx → EReal) (g : S1x256.Idx → EReal) (W : S256x1024.Idx → EReal) (y : S4096x1024.Idx) : EReal :=
  pair (vLo (aK P g W (y 0))) (fun _ _ => 1) (y 1)
def gQn (P : S4096x4608.Idx → EReal) (g : S1x384.Idx → EReal) (y : S4096x384.Idx) : EReal :=
  normed wq (latQ (aP P (y 0))) (fun k => g (ix2 0 k)) (y 1)
def gKn (P : S4096x4608.Idx → EReal) (g : S1x256.Idx → EReal) (y : S4096x256.Idx) : EReal :=
  normed wk (latK (aP P (y 0))) (fun k => g (ix2 0 k)) (y 1)

theorem tile_q (r : Fin 512) : tQ m c t r = aQ (m ((c.tc : Thread nD τ).loc main_arg0)) (m ((c.tc : Thread nD τ).loc main_arg1)) (m ((c.tc : Thread nD τ).loc main_arg3)) (row t r) := by
  unfold tQ aQ tP
  rw [funext (read0 m c t r), funext (read1 m c t), funext fun n => funext (read3 m c t n)]

theorem tile_k (r : Fin 512) : tK m c t r = aK (m ((c.tc : Thread nD τ).loc main_arg0)) (m ((c.tc : Thread nD τ).loc main_arg2)) (m ((c.tc : Thread nD τ).loc main_arg4)) (row t r) := by
  unfold tK aK tP
  rw [funext (read0 m c t r), funext (read2 m c t), funext fun n => funext (read4 m c t n)]

theorem kernel_q : (dats m 0 c).arrAt 7 cfg0.N = gQ (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) := by
  refine (dats m 0 c).arrAt_eq_of_covers 7 _ (by decide +kernel) fun t hf y => ?_
  blk_simp [idx t]
  rw [after0_7]
  idx_vars y
  have e : ((View.whole main_v0_0).slice (win0_7.rect t)).emb (ix2 y0 y1) = ix2 (row t y0) y1 := by
    blk_ext [idx t]
  rw [e]
  refine (out_q m c t _).trans ?_
  show pair (qLo (tQ m c t y0)) (qHi (tQ m c t y0) (tC m c t y0) (tS m c t y0)) y1 = _
  unfold tC tS
  rw [tile_q, funext (read5 m c t y0), funext (read6 m c t y0)]
  rfl

theorem kernel_k : (dats m 0 c).arrAt 8 cfg0.N = gK (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp [idx t]
  rw [after0_8]
  idx_vars y
  have e : ((View.whole main_v0_1).slice (win0_8.rect t)).emb (ix2 y0 y1) = ix2 (row t y0) y1 := by
    blk_ext [idx t]
  rw [e]
  refine (out_k m c t _).trans ?_
  show pair (kLo (tK m c t y0)) (fun _ => turn (latR (tP m c t y0)) (tC m c t y0) (tS m c t y0)) y1 = _
  unfold tC tS tP
  rw [tile_k, funext (read0 m c t y0), funext (read5 m c t y0), funext (read6 m c t y0)]
  rfl

theorem kernel_v : (dats m 0 c).arrAt 9 cfg0.N = gV (m ((c.tc : Thread nD τ).loc main_arg0)) (m ((c.tc : Thread nD τ).loc main_arg2)) (m ((c.tc : Thread nD τ).loc main_arg4)) := by
  refine (dats m 0 c).arrAt_eq_of_covers 9 _ (by decide +kernel) fun t hf y => ?_
  blk_simp [idx t]
  rw [after0_9]
  idx_vars y
  have e : ((View.whole main_v0_2).slice (win0_9.rect t)).emb (ix2 y0 y1) = ix2 (row t y0) y1 := by
    blk_ext [idx t]
  rw [e]
  refine (out_v m c t _).trans ?_
  show pair (vLo (tK m c t y0)) (fun _ _ => 1) y1 = _
  rw [tile_k]
  rfl

theorem kernel_qn : (dats m 0 c).arrAt 10 cfg0.N = gQn (m ((c.tc : Thread nD τ).loc main_arg0)) (m ((c.tc : Thread nD τ).loc main_arg1)) := by
  refine (dats m 0 c).arrAt_eq_of_covers 10 _ (by decide +kernel) fun t hf y => ?_
  blk_simp [idx t]
  rw [after0_10]
  idx_vars y
  have e : ((View.whole main_v0_3).slice (win0_10.rect t)).emb (ix2 y0 y1) = ix2 (row t y0) y1 := by
    blk_ext [idx t]
  rw [e]
  refine (out_qn m c t _).trans ?_
  show normed wq (latQ (tP m c t y0)) (fun k => iblk m c 1 t (ix2 0 k)) y1 = _
  unfold tP
  rw [funext (read0 m c t y0), funext (read1 m c t)]
  rfl

theorem kernel_kn : (dats m 0 c).arrAt 11 cfg0.N = gKn (m ((c.tc : Thread nD τ).loc main_arg0)) (m ((c.tc : Thread nD τ).loc main_arg2)) := by
  refine (dats m 0 c).arrAt_eq_of_covers 11 _ (by decide +kernel) fun t hf y => ?_
  blk_simp [idx t]
  rw [after0_11]
  idx_vars y
  have e : ((View.whole main_v0_4).slice (win0_11.rect t)).emb (ix2 y0 y1) = ix2 (row t y0) y1 := by
    blk_ext [idx t]
  rw [e]
  refine (out_kn m c t _).trans ?_
  show normed wk (latK (tP m c t y0)) (fun k => iblk m c 2 t (ix2 0 k)) y1 = _
  unfold tP
  rw [funext (read0 m c t y0), funext (read2 m c t)]
  rfl

end Cert.MlaPrepCall
-- ==== Proof.MlaPrep.Ref.lean ====
/- The projections of the latent attention: the reference's results. -/
module

public import proofs.«01_k».proof.Proof.MlaPrep.Value
public import proofs.«01_k».proof.Proof.Gen.MlaPrepRefIdeal.Read

@[expose] public section

set_option maxRecDepth 16384

noncomputable section

namespace Cert.MlaPrepCall

open Idealize.ShloMosaic Idealize.ShloMosaic.TcCoe Cert.Mla Cert.Norm
open Cert.MlaPrepRefIdeal Cert.MlaPrepRefIdeal.Read

variable (x0 : Vec Ideal S4096x4608 .f32) (x1 : Vec Ideal S1x384 .f32) (x2 : Vec Ideal S1x256 .f32) (x3 : Vec Ideal S1024x384 .bf16)
  (x4 : Vec Ideal S256x1024 .bf16) (x5 x6 : Vec Ideal S4096x128 .f32)

theorem ref_qmean (i : Fin 4096) (u : Fin 1) : val_main_v7 (F := Ideal) x0 (ix2 i u) = mean wq eps (latQ (aP x0 i)) := by
  pointwise [val_main_v7, val_main_v6, val_main_v5, val_main_v4, val_main_v3, val_main_v2, val_main_v1, val_main_v0, val_main_cst, val_main_cst_0, val_main_cst_1]
  rfl

theorem ref_qn (i : Fin 4096) (k : Fin 384) : val_main_v12 (F := Ideal) x0 x1 (ix2 i k) = normed wq (latQ (aP x0 i)) (fun k => x1 (ix2 0 k)) k := by
  have e (u : Fin 1) : val_main_v8 (F := Ideal) x0 (ix2 i u) = rms wq eps (latQ (aP x0 i)) := by
    rw [val_main_v8_apply]; rw [ref_qmean]; rfl
  pointwise [val_main_v12, val_main_v11, val_main_v10, val_main_v9, val_main_v0]
  rw [e]
  rfl

theorem ref_kmean (i : Fin 4096) (u : Fin 1) : val_main_v20 (F := Ideal) x0 (ix2 i u) = mean wk eps (latK (aP x0 i)) := by
  pointwise [val_main_v20, val_main_v19, val_main_v18, val_main_v17, val_main_v16, val_main_v15, val_main_v14, val_main_v13, val_main_cst_2, val_main_cst_3, val_main_cst_4]
  rfl

theorem ref_kn (i : Fin 4096) (k : Fin 256) : val_main_v25 (F := Ideal) x0 x2 (ix2 i k) = normed wk (latK (aP x0 i)) (fun k => x2 (ix2 0 k)) k := by
  have e (u : Fin 1) : val_main_v21 (F := Ideal) x0 (ix2 i u) = rms wk eps (latK (aP x0 i)) := by
    rw [val_main_v21_apply]; rw [ref_kmean]; rfl
  pointwise [val_main_v25, val_main_v24, val_main_v23, val_main_v22, val_main_v13]
  rw [e]
  rfl

theorem ref_q (i : Fin 4096) (n : Fin 1024) : val_main_v28 (F := Ideal) x0 x1 x3 (ix2 i n) = aQ x0 x1 x3 i n := by
  pointwise [val_main_v28, val_main_v27, val_main_v26]
  simp only [ref_qn]
  rfl

theorem ref_k (i : Fin 4096) (n : Fin 1024) : val_main_v31 (F := Ideal) x0 x2 x4 (ix2 i n) = aK x0 x2 x4 i n := by
  pointwise [val_main_v31, val_main_v30]
  simp only [ref_kn]
  rfl

theorem ref_krope (i : Fin 4096) (h : Fin 4) (d : Fin 128) : val_main_v51 (F := Ideal) x0 x5 x6 (ix3 i h d)
    = turn (latR (aP x0 i)) (fun k => x5 (ix2 i k)) (fun k => x6 (ix2 i k)) d := by
  rw [turn_eq]
  pointwise [val_main_v51, val_main_v50, val_main_v49, val_main_v48, val_main_v47, val_main_v46, val_main_v45, val_main_v44, val_main_v43, val_main_v42, val_main_v41, val_main_v40, val_main_v39, val_main_v38, val_main_v37, val_main_v36]
  by_cases hd : d.val < 64
  · rw [dif_pos hd, dif_pos hd]
    rfl
  · rw [dif_neg hd, dif_neg hd]
    rfl

theorem ref_qrope (i : Fin 4096) (h : Fin 4) (d : Fin 128) : val_main_v72 (F := Ideal) x0 x1 x3 x5 x6 (ix3 i h d)
    = turn (fun e => aQ x0 x1 x3 i ⟨h.val * 256 + (128 + e.val), by omega⟩) (fun k => x5 (ix2 i k)) (fun k => x6 (ix2 i k)) d := by
  rw [turn_eq]
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v29]
  simp only [ref_q]

theorem ref_qhead (i : Fin 4096) (h : Fin 4) (d : Fin 256) : val_main_v29 (F := Ideal) x0 x1 x3 (ix3 i h d)
    = aQ x0 x1 x3 i ⟨h.val * 256 + d.val, by omega⟩ := by
  pointwise [val_main_v29]
  rw [ref_q]

theorem ref_Q (y : S4096x1024.Idx) : val_main_v80 (F := Ideal) x0 x1 x3 x5 x6 y = gQ x0 x1 x3 x5 x6 y := by
  idx_vars y
  have e : val_main_v80 (F := Ideal) x0 x1 x3 x5 x6 (ix2 y0 y1)
      = val_main_v75 (F := Ideal) x0 x1 x3 x5 x6 (ix3 y0 (⟨y1.val / 256, by omega⟩ : Fin 4) (⟨y1.val % 256, by omega⟩ : Fin 256)) := by
    pointwise [val_main_v80, val_main_v79]
  rw [e]
  refine pair_of _ _ (fun h d => val_main_v75 (F := Ideal) x0 x1 x3 x5 x6 (ix3 y0 h d)) (fun h d => ?_) (fun h d => ?_) y1
  · pointwise [val_main_v75, val_main_v74, val_main_cst_5, val_main_v73, val_main_v52]
    refine (congrArg (fun a : EReal => a * scale) (ref_qhead x0 x1 x3 y0 h ⟨d.val, by omega⟩)).trans ?_
    exact congrArg (fun j => aQ x0 x1 x3 y0 j * scale) (Fin.ext (by dsimp only; omega))
  · pointwise [val_main_v75, val_main_v74, val_main_cst_5, val_main_v73]
    rw [ref_qrope]
    exact congrArg (fun f => turn f (fun k => x5 (ix2 y0 k)) (fun k => x6 (ix2 y0 k)) d * scale)
      (funext fun e => congrArg (aQ x0 x1 x3 y0) (Fin.ext (by dsimp only; omega)))

theorem ref_K (y : S4096x1024.Idx) : val_main_v82 (F := Ideal) x0 x2 x4 x5 x6 y = gK x0 x2 x4 x5 x6 y := by
  idx_vars y
  have e : val_main_v82 (F := Ideal) x0 x2 x4 x5 x6 (ix2 y0 y1)
      = val_main_v76 (F := Ideal) x0 x2 x4 x5 x6 (ix3 y0 (⟨y1.val / 256, by omega⟩ : Fin 4) (⟨y1.val % 256, by omega⟩ : Fin 256)) := by
    pointwise [val_main_v82, val_main_v81]
  rw [e]
  refine pair_of _ _ (fun h d => val_main_v76 (F := Ideal) x0 x2 x4 x5 x6 (ix3 y0 h d)) (fun h d => ?_) (fun h d => ?_) y1
  · pointwise [val_main_v76, val_main_v33, val_main_v32]
    refine (ref_k x0 x2 x4 y0 _).trans ?_
    exact congrArg (aK x0 x2 x4 y0) (Fin.ext (by dsimp only; omega))
  · pointwise [val_main_v76]
    rw [ref_krope]

theorem ref_V (y : S4096x1024.Idx) : val_main_v84 (F := Ideal) x0 x2 x4 y = gV x0 x2 x4 y := by
  idx_vars y
  have e : val_main_v84 (F := Ideal) x0 x2 x4 (ix2 y0 y1)
      = val_main_v78 (F := Ideal) x0 x2 x4 (ix3 y0 (⟨y1.val / 256, by omega⟩ : Fin 4) (⟨y1.val % 256, by omega⟩ : Fin 256)) := by
    pointwise [val_main_v84, val_main_v83]
  rw [e]
  refine pair_of _ _ (fun h d => val_main_v78 (F := Ideal) x0 x2 x4 (ix3 y0 h d)) (fun h d => ?_) (fun h d => ?_) y1
  · pointwise [val_main_v78, val_main_v35, val_main_v34, val_main_v77, val_main_cst_6]
    refine (ref_k x0 x2 x4 y0 _).trans ?_
    exact congrArg (aK x0 x2 x4 y0) (Fin.ext (by dsimp only; omega))
  · pointwise [val_main_v78, val_main_v35, val_main_v34, val_main_v77, val_main_cst_6]

theorem ref_Qn (y : S4096x384.Idx) : val_main_v85 (F := Ideal) x0 x1 y = gQn x0 x1 y := by
  idx_vars y
  pointwise [val_main_v85]
  exact ref_qn x0 x1 y0 y1

theorem ref_Kn (y : S4096x256.Idx) : val_main_v86 (F := Ideal) x0 x2 y = gKn x0 x2 y := by
  idx_vars y
  pointwise [val_main_v86]
  exact ref_kn x0 x2 y0 y1

end Cert.MlaPrepCall
-- ==== Proof.MlaPrep.Claims.lean ====
/- The claims about the projections of the latent attention. -/
module

public import proofs.«01_k».proof.Defs
public import proofs.«01_k».proof.Proof.Gen.MlaPrep.Frame
public import proofs.«01_k».proof.Proof.MlaPrep.Ref
public import proofs.«01_k».proof.Proof.Gen.MlaPrepRefIdeal.Run

@[expose] public section

noncomputable section

namespace Cert.MlaPrepCall

open Idealize.ShloMosaic Idealize.SL.Sem

theorem frame_kernel : Cert.quiescent_MlaPrep := fun m ρ _ => Cert.MlaPrep.Gen.frame m ρ

theorem frame_ideal : Cert.quiescent_MlaPrepIdeal := fun m ρ _ => Cert.MlaPrepIdeal.Gen.frame m ρ

theorem frame_ref : Cert.quiescent_MlaPrepRefIdeal := fun m ρ _ =>
  (θ_run Cert.MlaPrepRefIdeal.defs _ _).mono (fun r h => ⟨fun c => (h c).2.2.2.2.2, sem_eq_zero_of_no_sems (by decide) r.2⟩)
    (Cert.MlaPrepRefIdeal.Value.run m ρ)

theorem preserves : Cert.preserves_MlaPrep_MlaPrepIdeal := trivial

/-- Both programs end with the queries, the keys, the values and the two normalised latent rows. -/
theorem algebraic : Cert.algebraic_MlaPrepIdeal_MlaPrepRefIdeal := by
  intro m g m' g' hp ha
  refine ⟨fun c => gQ (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)),
    fun c => gK (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)),
    fun c => gV (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg4)),
    fun c => gQn (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)),
    fun c => gKn (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg2)), ?_, ?_⟩
  · refine (θ_run _ _ _).mono (fun r h c => ?_) (Cert.MlaPrepIdeal.Value.run_blocks m g)
    obtain ⟨h0, h1, h2, h3, h4, hr⟩ := h c
    exact ⟨h0.trans (kernel_q m c), h1.trans (kernel_k m c), h2.trans (kernel_v m c), h3.trans (kernel_qn m c), h4.trans (kernel_kn m c), hr⟩
  · refine (θ_run _ _ _).mono (fun r h c => ?_) (Cert.MlaPrepRefIdeal.Value.run m' g')
    obtain ⟨h0, h1, h2, h3, h4, hr⟩ := h c
    obtain ⟨a0, a1, a2, a3, a4, a5, a6⟩ := ha c
    refine ⟨h0.trans ?_, h1.trans ?_, h2.trans ?_, h3.trans ?_, h4.trans ?_, hr⟩
    · rw [Cert.MlaPrepRefIdeal.Read.val_main_v80_eq]
      refine (funext fun y => ref_Q _ _ _ _ _ y).trans ?_
      rw [a0, a1, a3, a5, a6]
    · rw [Cert.MlaPrepRefIdeal.Read.val_main_v82_eq]
      refine (funext fun y => ref_K _ _ _ _ _ y).trans ?_
      rw [a0, a2, a4, a5, a6]
    · rw [Cert.MlaPrepRefIdeal.Read.val_main_v84_eq]
      refine (funext fun y => ref_V _ _ _ y).trans ?_
      rw [a0, a2, a4]
    · rw [Cert.MlaPrepRefIdeal.Read.val_main_v85_eq]
      refine (funext fun y => ref_Qn _ _ y).trans ?_
      rw [a0, a1]
    · rw [Cert.MlaPrepRefIdeal.Read.val_main_v86_eq]
      refine (funext fun y => ref_Kn _ _ y).trans ?_
      rw [a0, a2]

end Cert.MlaPrepCall
-- ==== Proof.MemAttnFwd.Value.lean ====
/- The attention over the memory tokens: each tile of 512 rows holds the four heads' softmax-weighted sums of the values, and
   the reference is the same sums. -/
module

public import proofs.«01_k».proof.Proof.Mem.Rows
public import proofs.«01_k».proof.Proof.Gen.MemAttnFwdIdeal.Value
public import proofs.«01_k».proof.Proof.Gen.MemAttnFwdRefIdeal.Read
public import Idealize.ShloMosaic.Lib.Pipeline.ValueKit
public import Idealize.ShloMosaic.Lib.Pipeline.ReadBack

@[expose] public section

set_option maxRecDepth 16384

noncomputable section

namespace Cert.MemAttnFwdCall

open Idealize.ShloMosaic Idealize.ShloMosaic.TcCoe
open Cert.MemAttnFwdIdeal Cert.MemAttnFwdIdeal.Gen Cert.Mem

/-- One head: the values weighted by the softmax of the scores. -/
def head (q : Fin 128 → EReal) (k v : Fin 256 → Fin 128 → EReal) (d : Fin 128) : EReal :=
  ∑ j : Fin 256, prob (score q k) j * v j d

section
variable (q : Vec Ideal S512x128 .f32) (k v : Vec Ideal S256x128 .bf16) (r : Fin 512) (d : Fin 128)

theorem o0 : k0_pay2 q k v (ix2 r d) = head (fun d => q (ix2 r d)) (fun j d => k (ix2 j d)) (fun j d => v (ix2 j d)) d := by
  pointwise [k0_pay2]; rfl
theorem o1 : k0_pay4 (k0_pay3 q k) v (ix2 r d)
    = head (fun d => q (ix2 r d)) (fun j d => k (ix2 j d)) (fun j d => v (ix2 j d)) d := by
  pointwise [k0_pay4, k0_pay3]; rfl
theorem o2 : k0_pay5 q k v (ix2 r d) = head (fun d => q (ix2 r d)) (fun j d => k (ix2 j d)) (fun j d => v (ix2 j d)) d := by
  pointwise [k0_pay5]; rfl
theorem o3 : k0_pay1 (k0_pay6 q k) (k0_pay7 q k) v (ix2 r d)
    = head (fun d => q (ix2 r d)) (fun j d => k (ix2 j d)) (fun j d => v (ix2 j d)) d := by
  pointwise [k0_pay1, k0_pay7, k0_pay6]; rfl
end

/-- The tile's result at row `r`, head `h`, place `d`. -/
def tile (x0 : S512x512.Idx → EReal) (x1 : S256x1024.Idx → EReal) (r : Fin 512) (h : Fin 4) (d : Fin 128) : EReal :=
  head (fun d => x0 (ix2 r ⟨128 * h.val + d.val, by omega⟩)) (fun j d => x1 (ix2 j ⟨128 * h.val + d.val, by omega⟩))
    (fun j d => x1 (ix2 j ⟨512 + 128 * h.val + d.val, by omega⟩)) d

/-- The head that column `n` belongs to. -/
abbrev hd (n : Fin 512) : Fin 4 := ⟨n.val / 128, by omega⟩
/-- Its place within the head. -/
abbrev pl (n : Fin 512) : Fin 128 := ⟨n.val % 128, by omega⟩

/-- The tile's result as a block. -/
abbrev tileV (x0 : Vec Ideal S512x512 .f32) (x1 : Vec Ideal S256x1024 .bf16) : Vec Ideal S512x512 .bf16 :=
  fun y => tile x0 x1 (y 0) (hd (y 1)) (pl (y 1))

theorem piece (x0 : Vec Ideal S512x512 .f32) (x1 : Vec Ideal S256x1024 .bf16) (h : Fin 4) (off offv : ℕ) (e : off = 128 * h.val)
    (ev : offv = 512 + 128 * h.val)
    (inb : ∀ a, ![0, off] a + ![512, 128] a ≤ S512x512.size a) (inbk : ∀ a, ![0, off] a + ![256, 128] a ≤ S256x1024.size a)
    (inbv : ∀ a, ![0, offv] a + ![256, 128] a ≤ S256x1024.size a)
    (r : Fin 512) (d : Fin 128) (P : EReal)
    (hP : P = head (fun d => x0 ((Rect.unit (s := S512x512) ![0, off] ![512, 128] inb).idx (ix2 r d)))
      (fun j d => x1 ((Rect.unit (s := S256x1024) ![0, off] ![256, 128] inbk).idx (ix2 j d)))
      (fun j d => x1 ((Rect.unit (s := S256x1024) ![0, offv] ![256, 128] inbv).idx (ix2 j d))) d) :
    P = tileV x0 x1 ((Rect.unit (s := S512x512) ![0, off] ![512, 128] inb).emb (ix2 r d)) := by
  subst e ev
  have e : (Rect.unit (s := S512x512) ![0, 128 * h.val] ![512, 128] inb).emb (ix2 r d)
      = ix2 r (⟨128 * h.val + d.val, by omega⟩ : Fin 512) := by
    funext a; refine Fin.ext ?_; fin_cases a <;> simp
  have h0 : hd ⟨128 * h.val + d.val, by omega⟩ = h := Fin.ext (by dsimp only [hd]; omega)
  have h1 : pl ⟨128 * h.val + d.val, by omega⟩ = d := Fin.ext (by dsimp only [pl]; omega)
  rw [e, hP]
  show _ = tile x0 x1 r (hd ⟨128 * h.val + d.val, by omega⟩) (pl ⟨128 * h.val + d.val, by omega⟩)
  rw [h0, h1]
  unfold tile
  congr 1
  · funext d'; refine congrArg x0 ?_
    funext a; refine Fin.ext ?_; fin_cases a <;> simp
  · funext j d'; refine congrArg x1 ?_
    funext a; refine Fin.ext ?_; fin_cases a <;> simp
  · funext j d'; refine congrArg x1 ?_
    funext a; refine Fin.ext ?_; fin_cases a <;> simp

/-- What a point stores. -/
theorem block (x0 : Vec Ideal S512x512 .f32) (x1 : Vec Ideal S256x1024 .bf16) (y : S512x512.Idx) :
    out0_2 x0 x1 y = tile x0 x1 (y 0) (hd (y 1)) (pl (y 1)) := by
  unfold out0_2
  refine View.canon_append_of_piecesOf (tileV x0 x1) [] [_, _, _, _]
    ⟨?_, ?_, ?_, ?_, trivial⟩ y ?_
  · intro z; idx_vars z; exact piece x0 x1 3 _ _ rfl rfl _ _ _ _ _ _ (o3 _ _ _ _ _)
  · intro z; idx_vars z; exact piece x0 x1 2 _ _ rfl rfl _ _ _ _ _ _ (o2 _ _ _ _ _)
  · intro z; idx_vars z; exact piece x0 x1 1 _ _ rfl rfl _ _ _ _ _ _ (o1 _ _ _ _ _)
  · intro z; idx_vars z; exact piece x0 x1 0 _ _ rfl rfl _ _ _ _ _ _ (o0 _ _ _ _ _)
  · exact View.cover_of_tiledL _ ![512, 128] (by sl_kernel_rfl) y

/-- The result of batch `b` at row `r`, head `h`, place `d`. -/
def at4 (X : S4096x4608.Idx → EReal) (K : S512x1024.Idx → EReal) (b : Fin 2) (r : Fin 4096) (h : Fin 4) (d : Fin 128) : EReal :=
  head (fun d => X (ix2 r ⟨1024 + (128 * h.val + d.val), by omega⟩))
    (fun j d => K (ix2 ⟨256 * b.val + j.val, by omega⟩ ⟨128 * h.val + d.val, by omega⟩))
    (fun j d => K (ix2 ⟨256 * b.val + j.val, by omega⟩ ⟨512 + 128 * h.val + d.val, by omega⟩)) d

/-- The heads' results side by side. -/
def gO (X : S4096x4608.Idx → EReal) (K : S512x1024.Idx → EReal) (y : S4096x512.Idx) : EReal :=
  at4 X K ⟨(y 0).val / 2048, by have := (y 0).isLt; dsimp at this; omega⟩ (y 0) (hd (y 1)) (pl (y 1))

theorem idx : ∀ t : Fin cfg0.N, win0_0.index t = ![t.val, 2] ∧ win0_1.index t = ![t.val / 4, 0] ∧ win0_2.index t = ![t.val, 0] :=
  (by decide +kernel : ∀ t : Fin grid0.N, _)

theorem lt8 (t : Fin cfg0.N) : t.val < 8 := Nat.lt_of_lt_of_eq t.isLt N_0

variable (m : (ℓ : Loc nD τ sig) → Buf (Elt Ideal) ℓ) (c : Dev nD) (t : Fin cfg0.N)

/-- The kernel's result. -/
theorem kernel_eq : (dats m 0 c).arrAt 2 cfg0.N
    = gO (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt8 t
  have e : ((View.whole main_v0).slice (win0_2.rect t)).emb (ix2 y0 y1) = ix2 (⟨512 * t.val + y0.val, by omega⟩ : Fin 4096) y1 := by
    blk_ext [idx t]
  rw [e]
  refine (block _ _ (ix2 y0 y1)).trans ?_
  show tile _ _ y0 (hd y1) (pl y1) = at4 _ _ ⟨(512 * t.val + y0.val) / 2048, by omega⟩ _ (hd y1) (pl y1)
  have eb : (⟨(512 * t.val + y0.val) / 2048, by omega⟩ : Fin 2) = ⟨t.val / 4, by omega⟩ := Fin.ext (by dsimp only; omega)
  rw [eb]
  unfold tile at4
  congr 1
  · funext d
    show iblk m c 0 t (ix2 y0 _) = m ((c.tc : Thread nD τ).loc main_arg0) (ix2 _ _)
    blk_ext [iblk, V, idx t]
  · funext j d
    show iblk m c 1 t (ix2 j _) = m ((c.tc : Thread nD τ).loc main_arg1) (ix2 _ _)
    blk_ext [iblk, V, idx t]
  · funext j d
    show iblk m c 1 t (ix2 j _) = m ((c.tc : Thread nD τ).loc main_arg1) (ix2 _ _)
    blk_ext [iblk, V, idx t]

/-! ## The reference -/

section
open Cert.MemAttnFwdRefIdeal.Read

variable (X : Vec Ideal S4096x4608 .f32) (K : Vec Ideal S512x1024 .bf16)
  (b : Fin 2) (h : Fin 4) (r : Fin 2048) (j : Fin 256) (d : Fin 128)

theorem ref_score : val_main_v10 (F := Ideal) X K (ix4 b h r j)
    = score (fun d => X (ix2 (⟨b.val * 2048 + r.val, by omega⟩ : Fin 4096) (⟨1024 + (h.val * 128 + d.val), by omega⟩ : Fin 4608)))
      (fun j d => K (ix2 (⟨b.val * 256 + j.val, by omega⟩ : Fin 512) (⟨h.val * 128 + d.val, by omega⟩ : Fin 1024))) j := by
  pointwise [val_main_v10, val_main_v9, val_main_v8, val_main_v5, val_main_v4, val_main_v3, val_main_v2, val_main_v1, val_main_v0,
    val_main_cst]
  rfl

theorem ref_v : val_main_v7 (F := Ideal) K (ix4 b j h d)
    = K (ix2 (⟨b.val * 256 + j.val, by omega⟩ : Fin 512) (⟨512 + h.val * 128 + d.val, by omega⟩ : Fin 1024)) := by
  pointwise [val_main_v7, val_main_v6, val_main_v1, val_main_v0]

/-- The scores of one row. -/
abbrev S_ (j : Fin 256) : EReal := val_main_v10 (F := Ideal) X K (ix4 b h r j)

theorem ref_peak : val_main_v13 (F := Ideal) X K (ix3 b h r) = peak (S_ X K b h r) := by
  have e : val_main_v11 (F := Ideal) X K (ix3 b h r) = peak (S_ X K b h r) := by
    pointwise [val_main_v11, val_main_cst_0]; rfl
  have f : val_main_v12 (F := Ideal) (ix3 b h r) = Ideal.ofBits .f32 0xFF800000#32 := by
    pointwise [val_main_v12, val_main_cst_1]
  rw [val_main_v13_apply, f, e]
  refine max_eq_right ?_
  unfold peak
  exact Finset.le_fold_max _ |>.2 (Or.inl le_rfl)

theorem ref_weight : val_main_v17 (F := Ideal) X K (ix4 b h r j) = weight (S_ X K b h r) j := by
  have e : val_main_v15 (F := Ideal) X K (ix4 b h r j) = val_main_v13 (F := Ideal) X K (ix3 b h r) := by
    pointwise [val_main_v15, val_main_v14]
  rw [val_main_v17_apply, val_main_v16_apply, e, ref_peak]; rfl

theorem ref_prob : val_main_v21 (F := Ideal) X K (ix4 b h r j) = prob (S_ X K b h r) j := by
  pointwise [val_main_v21, val_main_v20, val_main_v19, val_main_v18, val_main_cst_2]
  unfold prob
  simp only [← ref_weight]
end

open Cert.MemAttnFwdRefIdeal.Read in
/-- The reference's result. -/
theorem ref_eq (X : Vec Ideal S4096x4608 .f32) (K : Vec Ideal S512x1024 .bf16) : val_main_v25 (F := Ideal) X K = gO X K := by
  funext y
  idx_vars y
  have e : val_main_v25 (F := Ideal) X K (ix2 y0 y1)
      = ∑ j : Fin 256, val_main_v7 (F := Ideal) K (ix4 (⟨y0.val / 2048, by omega⟩ : Fin 2) j (hd y1) (pl y1))
        * val_main_v21 (F := Ideal) X K (ix4 (⟨y0.val / 2048, by omega⟩ : Fin 2) (hd y1) (⟨y0.val % 2048, by omega⟩ : Fin 2048) j) := by
    pointwise [val_main_v25, val_main_v24, val_main_v23, val_main_v22]
  rw [e]
  show _ = at4 X K ⟨y0.val / 2048, by omega⟩ y0 (hd y1) (pl y1)
  unfold at4 head
  refine Finset.sum_congr (M := EReal) rfl fun j _ => ?_
  rw [mul_comm, ref_prob, ref_v]
  refine congrArg₂ (· * ·) ?_ ?_
  · refine congrArg (fun s => prob s j) (funext fun i => (ref_score X K _ _ _ i).trans ?_)
    refine congrArg₂ (fun q k => score q k i) (funext fun d => ?_) (funext fun j => funext fun d => ?_)
    · refine congrArg₂ (fun a b => X (ix2 a b)) (Fin.ext ?_) (Fin.ext ?_) <;> dsimp only <;> omega
    · refine congrArg₂ (fun a b => K (ix2 a b)) (Fin.ext ?_) (Fin.ext ?_) <;> dsimp only <;> omega
  · refine congrArg₂ (fun a b => K (ix2 a b)) (Fin.ext ?_) (Fin.ext ?_) <;> dsimp only <;> omega

end Cert.MemAttnFwdCall
-- ==== Proof.MemAttnFwd.Claims.lean ====
/- The claims: the attention over the memory tokens. -/
module

public import proofs.«01_k».proof.Defs
public import proofs.«01_k».proof.Proof.Gen.MemAttnFwd.Frame
public import proofs.«01_k».proof.Proof.MemAttnFwd.Value
public import proofs.«01_k».proof.Proof.Gen.MemAttnFwdRefIdeal.Run

@[expose] public section

noncomputable section

namespace Cert.MemAttnFwdCall

open Idealize.ShloMosaic Idealize.SL.Sem

theorem frame_kernel : Cert.quiescent_MemAttnFwd := fun m ρ _ => Cert.MemAttnFwd.Gen.frame m ρ

theorem frame_ideal : Cert.quiescent_MemAttnFwdIdeal := fun m ρ _ => Cert.MemAttnFwdIdeal.Gen.frame m ρ

theorem frame_ref : Cert.quiescent_MemAttnFwdRefIdeal := fun m ρ _ =>
  (θ_run Cert.MemAttnFwdRefIdeal.defs _ _).mono (fun r h => ⟨fun c => (h c).2, sem_eq_zero_of_no_sems (by decide) r.2⟩)
    (Cert.MemAttnFwdRefIdeal.Value.run m ρ)

theorem preserves : Cert.preserves_MemAttnFwd_MemAttnFwdIdeal := trivial

theorem algebraic : Cert.algebraic_MemAttnFwdIdeal_MemAttnFwdRefIdeal := by
  intro m g m' g' hp ha
  refine ⟨fun c => gO (m ((c.tc : Thread Cert.MemAttnFwdIdeal.nD Cert.MemAttnFwdIdeal.τ).loc Cert.MemAttnFwdIdeal.main_arg0))
    (m ((c.tc : Thread Cert.MemAttnFwdIdeal.nD Cert.MemAttnFwdIdeal.τ).loc Cert.MemAttnFwdIdeal.main_arg1)), ?_, ?_⟩
  · refine (θ_run _ _ _).mono (fun r h c => ?_) (Cert.MemAttnFwdIdeal.Value.run_blocks m g)
    obtain ⟨h0, hr⟩ := h c
    exact ⟨h0.trans (kernel_eq m c), hr⟩
  · refine (θ_run _ _ _).mono (fun r h c => ?_) (Cert.MemAttnFwdRefIdeal.Value.run m' g')
    obtain ⟨h0, hr⟩ := h c
    obtain ⟨a0, a1⟩ := ha c
    refine ⟨h0.trans ?_, hr⟩
    rw [Cert.MemAttnFwdRefIdeal.Read.val_main_v25_eq, a0, a1]
    exact ref_eq _ _

end Cert.MemAttnFwdCall
-- ==== Proof.InProjEarly.Value.lean ====
/- The first column block of the input projection: the kernel writes those columns of its array, and the host cuts
   the array to them. -/
module

public import proofs.«01_k».proof.Proof.Gen.InProjEarlyIdeal.Frame
public import proofs.«01_k».proof.Proof.Gen.InProjEarlyRefIdeal.Read
public import Idealize.ShloMosaic.Lib.Pipeline.ValueKit
public import Idealize.ShloMosaic.Lib.Pipeline.ValueKit.Partial
public import Idealize.ShloMosaic.Lib.Pipeline.ReadBack

@[expose] public section

set_option maxRecDepth 16384

noncomputable section

namespace Cert.InProjEarlyCall

open Idealize.ShloMosaic Idealize.ShloMosaic.TcCoe Idealize.SL.Sem
open Cert.InProjEarlyIdeal Cert.InProjEarlyIdeal.Gen

/-- The product of the rows, for the first 1536 rows of the weight. -/
def gE (A : S4096x1024.Idx → EReal) (B : S4608x1024.Idx → EReal) (y : S4096x1536.Idx) : EReal :=
  ∑ k : Fin 1024, A (ix2 (y 0) k) * B (ix2 (y 1 |>.castLE (by decide)) k)

/-- The array the kernel writes: those columns, and elsewhere what was there. -/
def gA (A : S4096x1024.Idx → EReal) (B : S4608x1024.Idx → EReal) (P : S4096x4608.Idx → EReal) (y : S4096x4608.Idx) : EReal :=
  if (y 1).val < 1536 then ∑ k : Fin 1024, A (ix2 (y 0) k) * B (ix2 (y 1) k) else P y

theorem idx : ∀ t : Fin cfg0.N, win0_0.index t = ![t.val, 0] ∧ win0_1.index t = ![0, 0] ∧ win0_2.index t = ![t.val, 0] :=
  (by decide +kernel : ∀ t : Fin grid0.N, _)

theorem lt4 (t : Fin cfg0.N) : t.val < 4 := Nat.lt_of_lt_of_eq t.isLt N_0

theorem pay (x0 : Vec Ideal S1024x1024 .bf16) (x1 : Vec Ideal S1536x1024 .bf16) (r : Fin 1024) (n : Fin 1536) :
    k0_pay1 (F := Ideal) x0 x1 (ix2 r n) = ∑ k : Fin 1024, x0 (ix2 r k) * x1 (ix2 n k) := by
  pointwise [k0_pay1]

variable (m : (ℓ : Loc nD τ sig) → Buf (Elt Ideal) ℓ) (c : Dev nD) (t : Fin cfg0.N)

theorem out_eq (y : S1024x1536.Idx) :
    out0_2 (F := Ideal) (iblk m c 0 t) (iblk m c 1 t) y = k0_pay1 (F := Ideal) (iblk m c 0 t) (iblk m c 1 t) y := by
  frame_open
  frame_out

theorem read0 (r k : Fin 1024) : iblk m c 0 t (ix2 r k)
    = m ((c.tc : Thread nD τ).loc main_arg0) (ix2 ⟨t.val * 1024 + r.val, by have := lt4 t; omega⟩ k) := by
  show iblk m c 0 t (ix2 r k) = V m c main_arg0 (ix2 _ _)
  blk_ext [iblk, V, idx t]

theorem read1 (n : Fin 1536) (k : Fin 1024) : iblk m c 1 t (ix2 n k)
    = m ((c.tc : Thread nD τ).loc main_arg1) (ix2 ⟨n.val, by omega⟩ k) := by
  show iblk m c 1 t (ix2 n k) = V m c main_arg1 (ix2 _ _)
  blk_ext [iblk, V, idx t]

/-- The array after the grid's last point. -/
theorem array_eq : (dats m 0 c).arrAt 2 cfg0.N = gA (m ((c.tc : Thread nD τ).loc main_arg0)) (m ((c.tc : Thread nD τ).loc main_arg1))
    (V m c main_v0) := by
  refine (dats m 0 c).arrAt_eq_of_coversWhere_of_agree 2 _ (fun β => β (1 : Fin _) < 1) (by decide +kernel) (fun t hf y => ?_) (fun j hj => ?_)
  · blk_simp [idx t]
    rw [after0_2]
    idx_vars y
    have hl := lt4 t
    have e : ((View.whole main_v0).slice (win0_2.rect t)).emb (ix2 y0 y1)
        = ix2 ⟨t.val * 1024 + y0.val, by omega⟩ ⟨y1.val, by omega⟩ := by
      blk_ext [idx t]
    rw [e, out_eq]
    refine (pay _ _ y0 y1).trans (Eq.trans ?_ (if_pos (by show y1.val < 1536; omega)).symm)
    exact Finset.sum_congr (M := EReal) rfl fun k _ => congrArg₂ _ (read0 m c t y0 k) (read1 m c t y1 k)
  · have e : (dats m 0 c).A 2 = V m c main_v0 := A_eq m c 2
    rw [e]
    refine (if_neg ?_).symm
    blk_simp [Pipeline.Window.cell_apply] at hj ⊢
    omega

/-- The array cut to its first 1536 columns. -/
theorem cut_eq (A : S4096x1024.Idx → EReal) (B : S4608x1024.Idx → EReal) (P : S4096x4608.Idx → EReal) :
    extractStridedSlice S4096x1536 ![0, 0] (gA A B P) slices_S4096x4608_S4096x1536_0_0 = gE A B := by
  funext y
  idx_vars y
  have e : extractStridedSlice S4096x1536 ![0, 0] (gA A B P) slices_S4096x4608_S4096x1536_0_0 (ix2 y0 y1)
      = gA A B P (ix2 y0 ⟨y1.val, by omega⟩) := by
    pointwise
  rw [e]
  exact if_pos y1.isLt

/-- What the host's cut leaves in the result. -/
theorem tail_eq : Pipeline.afterTail₀ cfgs (dats m) 0 (V0 m) [hostOps1] c main_v1
    = extractStridedSlice S4096x1536 ![0, 0] ((dats m 0 c).arrAt 2 cfg0.N) slices_S4096x4608_S4096x1536_0_0 := by
  unfold Pipeline.afterTail₀
  simp only [List.flatten_cons, List.flatten_nil, List.append_nil, hostOps1]
  after_results
  exact congrArg (fun Y => extractStridedSlice S4096x1536 ![0, 0] Y slices_S4096x4608_S4096x1536_0_0)
    (Pipeline.withArrays_arr spec0 launch0.win.arr_inj c (V0 m c) (fun w => (dats m 0 c).arrAt w cfg0.N) 2)

/-- The kernel's result, the arguments unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v1) = gE (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run _ _ _).mono (fun r h c => ⟨?_, h.2 c⟩) (θ_run_and (run_main m ρ) (unchanged m ρ))
  refine ((h.1 c).2 main_v1 (Pipeline.mem_restRefs_of main_v1 (by decide) (by decide))).trans ?_
  rw [tail_eq, array_eq]
  exact cut_eq _ _ _

open Cert.InProjEarlyRefIdeal.Read in
/-- The reference's result. -/
theorem ref_eq (A : Vec Ideal S4096x1024 .bf16) (B : Vec Ideal S4608x1024 .bf16) :
    val_main_v4 (F := Ideal) A B = gE A B := by
  funext y
  idx_vars y
  pointwise [val_main_v4, val_main_v3, val_main_v2, val_main_v1, val_main_v0]
  rfl

end Cert.InProjEarlyCall
-- ==== Proof.InProjEarly.Claims.lean ====
/- The claims about the first column block of the input projection. -/
module

public import proofs.«01_k».proof.Defs
public import proofs.«01_k».proof.Proof.Gen.InProjEarly.Frame
public import proofs.«01_k».proof.Proof.InProjEarly.Value
public import proofs.«01_k».proof.Proof.Gen.InProjEarlyRefIdeal.Run

@[expose] public section

noncomputable section

namespace Cert.InProjEarlyCall

open Idealize.ShloMosaic Idealize.SL.Sem

theorem frame_kernel : Cert.quiescent_InProjEarly := fun m ρ _ => Cert.InProjEarly.Gen.frame m ρ

theorem frame_ideal : Cert.quiescent_InProjEarlyIdeal := fun m ρ _ => Cert.InProjEarlyIdeal.Gen.frame m ρ

theorem frame_ref : Cert.quiescent_InProjEarlyRefIdeal := fun m ρ _ =>
  (θ_run Cert.InProjEarlyRefIdeal.defs _ _).mono (fun r h => ⟨fun c => (h c).2, sem_eq_zero_of_no_sems (by decide) r.2⟩)
    (Cert.InProjEarlyRefIdeal.Value.run m ρ)

theorem preserves : Cert.preserves_InProjEarly_InProjEarlyIdeal := trivial

theorem algebraic : Cert.algebraic_InProjEarlyIdeal_InProjEarlyRefIdeal := by
  intro m g m' g' hp ha
  refine ⟨fun c => gE (m ((c.tc : Thread Cert.InProjEarlyIdeal.nD Cert.InProjEarlyIdeal.τ).loc Cert.InProjEarlyIdeal.main_arg0)) (m ((c.tc : Thread Cert.InProjEarlyIdeal.nD Cert.InProjEarlyIdeal.τ).loc Cert.InProjEarlyIdeal.main_arg1)), run m g, ?_⟩
  refine (θ_run _ _ _).mono (fun r h c => ?_) (Cert.InProjEarlyRefIdeal.Value.run m' g')
  obtain ⟨h0, hr⟩ := h c
  obtain ⟨a0, a1⟩ := ha c
  refine ⟨h0.trans ?_, hr⟩
  rw [Cert.InProjEarlyRefIdeal.Read.val_main_v4_eq, a0, a1]
  exact ref_eq _ _

end Cert.InProjEarlyCall
-- ==== Proof.GradMemNorm.Value.lean ====
/- The gradient of the memory tokens' norm in its gain: the sum over the tiles and the reference are one function. -/
module

public import proofs.«01_k».proof.Proof.NormEq
public import proofs.«01_k».proof.Proof.Gen.GradMemNormIdeal.Value
public import proofs.«01_k».proof.Proof.Gen.GradMemNormRefIdeal.Read
public import Idealize.ShloMosaic.Lib.Pipeline.ValueKit
public import Idealize.ShloMosaic.Lib.Pipeline.ReadBack

@[expose] public section

set_option maxRecDepth 16384

noncomputable section

namespace Cert.GradMemNormCall

open Idealize.ShloMosaic Idealize.ShloMosaic.TcCoe Cert.Norm
open Cert.GradMemNormIdeal Cert.GradMemNormIdeal.Gen

/-- The printed number of columns, and the printed small constant. -/
def cols : EReal := Ideal.ofBits .f32 0x44800000#32
def eps : EReal := Ideal.ofBits .f32 0x358637BD#32

/-- What one row adds to the gain's gradient. -/
def rowG (y x : Fin 1024 → EReal) (n : Fin 1024) : EReal := y n * (x n * rms cols eps x)

/-- The gradient of the gain. -/
def gG (X D : S512x1024.Idx → EReal) (y : S1x1024.Idx) : EReal :=
  ∑ i : Fin 512, rowG (fun k => D (ix2 i k)) (fun k => X (ix2 i k)) (y 1)

theorem pay (x : Vec Ideal S256x1024 .f32) (acc : Vec Ideal S1x1024 .f32) (d : Vec Ideal S256x1024 .f32) (u : Fin 1) (n : Fin 1024) :
    k0_pay2 (F := Ideal) x acc d (ix2 u n) = acc (ix2 u n) + ∑ r : Fin 256, rowG (fun k => d (ix2 r k)) (fun k => x (ix2 r k)) n := by
  pointwise [k0_pay2]
  rfl

variable (m : (ℓ : Loc nD τ sig) → Buf (Elt Ideal) ℓ) (c : Dev nD) (t : Fin cfg0.N)

theorem step_A (h0 : t.val % 2 = 0) (y : S1x1024.Idx) : outsAt0 m c t.val t.isLt y
    = k0_pay1 (F := Ideal) y + ∑ r : Fin 256, rowG (fun k => iblk m c 1 t (ix2 r k)) (fun k => iblk m c 0 t (ix2 r k)) (y 1) := by
  rw [Gen.outsAt0_A m c t h0, Value.out_A_2_eq]
  idx_vars y
  exact pay _ _ _ y0 y1

theorem step_B (h0 : ¬t.val % 2 = 0) (y : S1x1024.Idx) : outsAt0 m c t.val t.isLt y
    = outsAt0 m c (t.val - 1) (Nat.lt_of_le_of_lt (Nat.sub_le _ _) t.isLt) y + ∑ r : Fin 256, rowG (fun k => iblk m c 1 t (ix2 r k)) (fun k => iblk m c 0 t (ix2 r k)) (y 1) := by
  rw [Gen.outsAt0_B m c t h0, Value.out_B_2_eq]
  idx_vars y
  exact pay _ _ _ y0 y1

theorem idx : ∀ t : Fin cfg0.N, win0_0.index t = ![t.val, 0] ∧ win0_1.index t = ![t.val, 0] ∧ win0_2.index t = ![0, 0] :=
  (by decide +kernel : ∀ t : Fin grid0.N, _)

theorem lt (t : Fin cfg0.N) : t.val < 2 := Nat.lt_of_lt_of_eq t.isLt N_0

/-- Row `r` of tile `t`. -/
abbrev row (r : Fin 256) : Fin 512 := ⟨t.val * 256 + r.val, by have := lt t; omega⟩

theorem read0 (r : Fin 256) (k : Fin 1024) : iblk m c 0 t (ix2 r k) = m ((c.tc : Thread nD τ).loc main_arg0) (ix2 (row t r) k) := by
  show iblk m c 0 t (ix2 r k) = m ((c.tc : Thread nD τ).loc main_arg0) (ix2 _ _)
  blk_ext [iblk, V, idx t]

theorem read1 (r : Fin 256) (k : Fin 1024) : iblk m c 1 t (ix2 r k) = m ((c.tc : Thread nD τ).loc main_arg1) (ix2 (row t r) k) := by
  show iblk m c 1 t (ix2 r k) = m ((c.tc : Thread nD τ).loc main_arg1) (ix2 _ _)
  blk_ext [iblk, V, idx t]

/-- The kernel's result. -/
theorem kernel_eq : (dats m 0 c).arrAt 2 cfg0.N = gG (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have h3 := (flush0_2 t).mp hf
  have ht := lt t
  have e : ((View.whole main_v0).slice (win0_2.rect t)).emb (ix2 y0 y1) = ix2 y0 y1 := by
    blk_ext [idx t]
  rw [e]
  refine (Pipeline.eq_sum_fin_of_reset_step_apply_of_flush (fun n h => outsAt0 m c n h) 2 (k0_pay1 (F := Ideal))
    (fun t y => ∑ r : Fin 256, rowG (fun k => iblk m c 1 t (ix2 r k)) (fun k => iblk m c 0 t (ix2 r k)) (y 1))
    (fun t h y => step_A m c t h y) (fun t h y => step_B m c t h y) t h3 (ix2 y0 y1)).trans ?_
  have h0 : k0_pay1 (F := Ideal) (ix2 y0 y1) = 0 := by pointwise [k0_pay1]
  rw [h0, zero_add]
  refine (Fin.sum_fin_congr fun s => Finset.sum_congr rfl fun r _ => congrArg₂ (fun a b => rowG a b y1) (funext fun k => read1 m c _ r k)
    (funext fun k => read0 m c _ r k)).trans ?_
  refine Fin.sum_mul_add_congr fun s k hl => ?_
  have h8 : t.val / 2 = 0 := by omega
  exact congrArg (fun i : Fin 512 => rowG (fun k => m ((c.tc : Thread nD τ).loc main_arg1) (ix2 i k))
    (fun k => m ((c.tc : Thread nD τ).loc main_arg0) (ix2 i k)) y1)
    (Fin.ext (by show (2 * (t.val / 2) + s.val) * 256 + k.val = s.val * 256 + k.val; omega))

open Cert.GradMemNormRefIdeal.Read in
/-- The reference's result. -/
theorem ref_eq (X D : Vec Ideal S512x1024 .f32) : val_main_v15 (F := Ideal) X D = gG X D := by
  funext y
  idx_vars y
  have hr (i : Fin 512) (u : Fin 1) : val_main_v8 (F := Ideal) X (ix2 i u) = rms cols eps (fun k => X (ix2 i k)) := by
    pointwise [val_main_v8, val_main_v7, val_main_v5, val_main_v6, val_main_cst_2, val_main_v4, val_main_cst_1, val_main_v3, val_main_v2, val_main_v1, val_main_cst_0]
    rfl
  pointwise [val_main_v15, val_main_v14, val_main_v13, val_main_v10, val_main_v9, val_main_cst_3]
  simp only [hr]
  exact Finset.sum_congr rfl fun i _ => mul_comm _ _

end Cert.GradMemNormCall
-- ==== Proof.GradMemNorm.Claims.lean ====
/- The claims: the gradient of the memory tokens' norm in its gain. -/
module

public import proofs.«01_k».proof.Defs
public import proofs.«01_k».proof.Proof.Gen.GradMemNorm.Frame
public import proofs.«01_k».proof.Proof.GradMemNorm.Value
public import proofs.«01_k».proof.Proof.Gen.GradMemNormRefIdeal.Run

@[expose] public section

noncomputable section

namespace Cert.GradMemNormCall

open Idealize.ShloMosaic Idealize.SL.Sem

theorem frame_kernel : Cert.quiescent_GradMemNorm := fun m ρ _ => Cert.GradMemNorm.Gen.frame m ρ

theorem frame_ideal : Cert.quiescent_GradMemNormIdeal := fun m ρ _ => Cert.GradMemNormIdeal.Gen.frame m ρ

theorem frame_ref : Cert.quiescent_GradMemNormRefIdeal := fun m ρ _ =>
  (θ_run Cert.GradMemNormRefIdeal.defs _ _).mono (fun r h => ⟨fun c => (h c).2, sem_eq_zero_of_no_sems (by decide) r.2⟩)
    (Cert.GradMemNormRefIdeal.Value.run m ρ)

theorem preserves : Cert.preserves_GradMemNorm_GradMemNormIdeal := trivial

theorem algebraic : Cert.algebraic_GradMemNormIdeal_GradMemNormRefIdeal := by
  intro m g m' g' hp ha
  refine ⟨fun c => gG (m ((c.tc : Thread Cert.GradMemNormIdeal.nD Cert.GradMemNormIdeal.τ).loc Cert.GradMemNormIdeal.main_arg0)) (m ((c.tc : Thread Cert.GradMemNormIdeal.nD Cert.GradMemNormIdeal.τ).loc Cert.GradMemNormIdeal.main_arg1)), ?_, ?_⟩
  · refine (θ_run _ _ _).mono (fun r h c => ?_) (Cert.GradMemNormIdeal.Value.run_blocks m g)
    obtain ⟨h0, hr⟩ := h c
    exact ⟨h0.trans (kernel_eq m c), hr⟩
  · refine (θ_run _ _ _).mono (fun r h c => ?_) (Cert.GradMemNormRefIdeal.Value.run m' g')
    obtain ⟨h0, hr⟩ := h c
    obtain ⟨a0, a1⟩ := ha c
    refine ⟨h0.trans ?_, hr⟩
    rw [Cert.GradMemNormRefIdeal.Read.val_main_v15_eq, a0, a1]
    exact ref_eq _ _

end Cert.GradMemNormCall
-- ==== Proof.RmsMem.Value.lean ====
/- The norm of the memory tokens: the blocks and the reference are one function. -/
module

public import proofs.«01_k».proof.Proof.NormEq
public import proofs.«01_k».proof.Proof.Gen.RmsMemIdeal.Value
public import proofs.«01_k».proof.Proof.Gen.RmsMemRefIdeal.Read
public import Idealize.ShloMosaic.Lib.Pipeline.ValueKit
public import Idealize.ShloMosaic.Lib.Pipeline.ReadBack

@[expose] public section

set_option maxRecDepth 16384

noncomputable section

namespace Cert.RmsMemCall

open Idealize.ShloMosaic Idealize.ShloMosaic.TcCoe Cert.Norm
open Cert.RmsMemIdeal Cert.RmsMemIdeal.Gen

/-- The printed number of columns, and the printed small constant. -/
def cols : EReal := Ideal.ofBits .f32 0x44800000#32
def eps : EReal := Ideal.ofBits .f32 0x358637BD#32

/-- One row over its root mean square, times the gain. -/
def rowN (x g : Fin 1024 → EReal) (n : Fin 1024) : EReal := x n * rms cols eps x * g n

/-- The normed rows of `X`, times the gain `G`. -/
def gN (X : S512x1024.Idx → EReal) (G : S1x1024.Idx → EReal) (y : S512x1024.Idx) : EReal :=
  rowN (fun k => X (ix2 (y 0) k)) (fun k => G (ix2 0 k)) (y 1)

theorem pay (x : Vec Ideal S512x1024 .f32) (g : Vec Ideal S1x1024 .f32) (r : Fin 512) (n : Fin 1024) :
    k0_pay1 (F := Ideal) x g (ix2 r n) = rowN (fun k => x (ix2 r k)) (fun k => g (ix2 0 k)) n := by
  pointwise [k0_pay1]
  rfl

theorem idx : ∀ t : Fin cfg0.N, win0_0.index t = ![0, 0] ∧ win0_1.index t = ![0, 0] ∧ win0_2.index t = ![0, 0] :=
  (by decide +kernel : ∀ t : Fin grid0.N, _)

theorem lt (t : Fin cfg0.N) : t.val < 1 := Nat.lt_of_lt_of_eq t.isLt N_0

variable (m : (ℓ : Loc nD τ sig) → Buf (Elt Ideal) ℓ) (c : Dev nD) (t : Fin cfg0.N)

/-- Row `r` of tile `t`. -/
abbrev row (r : Fin 512) : Fin 512 := ⟨t.val * 512 + r.val, by have := lt t; omega⟩

theorem read0 (r : Fin 512) (k : Fin 1024) : iblk m c 0 t (ix2 r k) = m ((c.tc : Thread nD τ).loc main_arg0) (ix2 (row t r) k) := by
  show iblk m c 0 t (ix2 r k) = m ((c.tc : Thread nD τ).loc main_arg0) (ix2 _ _)
  have := lt t
  blk_ext [iblk, V, idx t]

theorem read1 (k : Fin 1024) : iblk m c 1 t (ix2 0 k) = m ((c.tc : Thread nD τ).loc main_arg1) (ix2 0 k) := by
  show iblk m c 1 t (ix2 0 k) = m ((c.tc : Thread nD τ).loc main_arg1) (ix2 _ _)
  blk_ext [iblk, V, idx t]

/-- The kernel's result. -/
theorem kernel_eq : (dats m 0 c).arrAt 2 cfg0.N = gN (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 (row t y0) y1 := by
    blk_ext [idx t]
  rw [e]
  refine (congrFun (Value.out2_eq _ _) _).trans ((pay _ _ y0 y1).trans ?_)
  simp only [read0, read1]
  rfl

open Cert.RmsMemRefIdeal.Read in
/-- The reference's result. -/
theorem ref_eq (X : Vec Ideal S512x1024 .f32) (G : Vec Ideal S1x1024 .f32) : val_main_v12 (F := Ideal) X G = gN X G := by
  funext y
  idx_vars y
  have hr (u : Fin 1) : val_main_v7 (F := Ideal) X (ix2 y0 u) = rms cols eps (fun k => X (ix2 y0 k)) := by
    pointwise [val_main_v7, val_main_v6, val_main_v4, val_main_v5, val_main_cst_1, val_main_v3, val_main_cst_0, val_main_v2, val_main_v1, val_main_v0, val_main_cst]
    rfl
  pointwise [val_main_v12, val_main_v11, val_main_v10, val_main_v9, val_main_v8]
  simp only [hr]
  rfl

end Cert.RmsMemCall
-- ==== Proof.RmsMem.Claims.lean ====
/- The claims: the norm of the memory tokens. -/
module

public import proofs.«01_k».proof.Defs
public import proofs.«01_k».proof.Proof.Gen.RmsMem.Frame
public import proofs.«01_k».proof.Proof.RmsMem.Value
public import proofs.«01_k».proof.Proof.Gen.RmsMemRefIdeal.Run

@[expose] public section

noncomputable section

namespace Cert.RmsMemCall

open Idealize.ShloMosaic Idealize.SL.Sem

theorem frame_kernel : Cert.quiescent_RmsMem := fun m ρ _ => Cert.RmsMem.Gen.frame m ρ

theorem frame_ideal : Cert.quiescent_RmsMemIdeal := fun m ρ _ => Cert.RmsMemIdeal.Gen.frame m ρ

theorem frame_ref : Cert.quiescent_RmsMemRefIdeal := fun m ρ _ =>
  (θ_run Cert.RmsMemRefIdeal.defs _ _).mono (fun r h => ⟨fun c => (h c).2, sem_eq_zero_of_no_sems (by decide) r.2⟩)
    (Cert.RmsMemRefIdeal.Value.run m ρ)

theorem preserves : Cert.preserves_RmsMem_RmsMemIdeal := trivial

theorem algebraic : Cert.algebraic_RmsMemIdeal_RmsMemRefIdeal := by
  intro m g m' g' hp ha
  refine ⟨fun c => gN (m ((c.tc : Thread Cert.RmsMemIdeal.nD Cert.RmsMemIdeal.τ).loc Cert.RmsMemIdeal.main_arg0)) (m ((c.tc : Thread Cert.RmsMemIdeal.nD Cert.RmsMemIdeal.τ).loc Cert.RmsMemIdeal.main_arg1)), ?_, ?_⟩
  · refine (θ_run _ _ _).mono (fun r h c => ?_) (Cert.RmsMemIdeal.Value.run_blocks m g)
    obtain ⟨h0, hr⟩ := h c
    exact ⟨h0.trans (kernel_eq m c), hr⟩
  · refine (θ_run _ _ _).mono (fun r h c => ?_) (Cert.RmsMemRefIdeal.Value.run m' g')
    obtain ⟨h0, hr⟩ := h c
    obtain ⟨a0, a1⟩ := ha c
    refine ⟨h0.trans ?_, hr⟩
    rw [Cert.RmsMemRefIdeal.Read.val_main_v12_eq, a0, a1]
    exact ref_eq _ _

end Cert.RmsMemCall
-- ==== Proof.RmsIn.Value.lean ====
/- The norm of the residual stream: the blocks and the reference are one function. -/
module

public import proofs.«01_k».proof.Proof.NormEq
public import proofs.«01_k».proof.Proof.Gen.RmsInIdeal.Value
public import proofs.«01_k».proof.Proof.Gen.RmsInRefIdeal.Read
public import Idealize.ShloMosaic.Lib.Pipeline.ValueKit
public import Idealize.ShloMosaic.Lib.Pipeline.ReadBack

@[expose] public section

set_option maxRecDepth 16384

noncomputable section

namespace Cert.RmsInCall

open Idealize.ShloMosaic Idealize.ShloMosaic.TcCoe Cert.Norm
open Cert.RmsInIdeal Cert.RmsInIdeal.Gen

/-- The printed number of columns, and the printed small constant. -/
def cols : EReal := Ideal.ofBits .f32 0x44800000#32
def eps : EReal := Ideal.ofBits .f32 0x358637BD#32

/-- One row over its root mean square, times the gain. -/
def rowN (x g : Fin 1024 → EReal) (n : Fin 1024) : EReal := x n * rms cols eps x * g n

/-- The normed rows of `X`, times the gain `G`. -/
def gN (X : S4096x1024.Idx → EReal) (G : S1x1024.Idx → EReal) (y : S4096x1024.Idx) : EReal :=
  rowN (fun k => X (ix2 (y 0) k)) (fun k => G (ix2 0 k)) (y 1)

theorem pay (x : Vec Ideal S512x1024 .f32) (g : Vec Ideal S1x1024 .f32) (r : Fin 512) (n : Fin 1024) :
    k0_pay1 (F := Ideal) x g (ix2 r n) = rowN (fun k => x (ix2 r k)) (fun k => g (ix2 0 k)) n := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

theorem lt (t : Fin cfg0.N) : t.val < 8 := Nat.lt_of_lt_of_eq t.isLt N_0

variable (m : (ℓ : Loc nD τ sig) → Buf (Elt Ideal) ℓ) (c : Dev nD) (t : Fin cfg0.N)

/-- Row `r` of tile `t`. -/
abbrev row (r : Fin 512) : Fin 4096 := ⟨t.val * 512 + r.val, by have := lt t; omega⟩

theorem read0 (r : Fin 512) (k : Fin 1024) : iblk m c 0 t (ix2 r k) = m ((c.tc : Thread nD τ).loc main_arg0) (ix2 (row t r) k) := by
  show iblk m c 0 t (ix2 r k) = m ((c.tc : Thread nD τ).loc main_arg0) (ix2 _ _)
  have := lt t
  blk_ext [iblk, V, idx t]

theorem read1 (k : Fin 1024) : iblk m c 1 t (ix2 0 k) = m ((c.tc : Thread nD τ).loc main_arg1) (ix2 0 k) := by
  show iblk m c 1 t (ix2 0 k) = m ((c.tc : Thread nD τ).loc main_arg1) (ix2 _ _)
  blk_ext [iblk, V, idx t]

theorem out (y : S512x1024.Idx) : outsAt0 m c t y = rowN (fun k => iblk m c 0 t (ix2 (y 0) k)) (fun k => iblk m c 1 t (ix2 0 k)) (y 1) := by
  unfold outsAt0
  frame_open
  frame_out
  idx_vars y
  exact pay _ _ y0 y1

/-- The kernel's result. -/
theorem kernel_eq : (dats m 0 c).arrAt 2 cfg0.N = gN (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1) = ix2 (row t y0) y1 := by
    blk_ext [idx t]
  rw [e]
  refine (out m c t _).trans ?_
  show rowN (fun k => iblk m c 0 t (ix2 y0 k)) (fun k => iblk m c 1 t (ix2 0 k)) y1 = _
  simp only [read0, read1]
  rfl

open Cert.RmsInRefIdeal.Read in
/-- The reference's result. -/
theorem ref_eq (X : Vec Ideal S4096x1024 .f32) (G : Vec Ideal S1x1024 .f32) : val_main_v12 (F := Ideal) X G = gN X G := by
  funext y
  idx_vars y
  have hr (u : Fin 1) : val_main_v7 (F := Ideal) X (ix2 y0 u) = rms cols eps (fun k => X (ix2 y0 k)) := by
    pointwise [val_main_v7, val_main_v6, val_main_v4, val_main_v5, val_main_cst_1, val_main_v3, val_main_cst_0, val_main_v2, val_main_v1, val_main_v0, val_main_cst]
    rfl
  pointwise [val_main_v12, val_main_v11, val_main_v10, val_main_v9, val_main_v8]
  simp only [hr]
  rfl

end Cert.RmsInCall
-- ==== Proof.RmsIn.Claims.lean ====
/- The claims: the norm of the residual stream. -/
module

public import proofs.«01_k».proof.Defs
public import proofs.«01_k».proof.Proof.Gen.RmsIn.Frame
public import proofs.«01_k».proof.Proof.RmsIn.Value
public import proofs.«01_k».proof.Proof.Gen.RmsInRefIdeal.Run

@[expose] public section

noncomputable section

namespace Cert.RmsInCall

open Idealize.ShloMosaic Idealize.SL.Sem

theorem frame_kernel : Cert.quiescent_RmsIn := fun m ρ _ => Cert.RmsIn.Gen.frame m ρ

theorem frame_ideal : Cert.quiescent_RmsInIdeal := fun m ρ _ => Cert.RmsInIdeal.Gen.frame m ρ

theorem frame_ref : Cert.quiescent_RmsInRefIdeal := fun m ρ _ =>
  (θ_run Cert.RmsInRefIdeal.defs _ _).mono (fun r h => ⟨fun c => (h c).2, sem_eq_zero_of_no_sems (by decide) r.2⟩)
    (Cert.RmsInRefIdeal.Value.run m ρ)

theorem preserves : Cert.preserves_RmsIn_RmsInIdeal := trivial

theorem algebraic : Cert.algebraic_RmsInIdeal_RmsInRefIdeal := by
  intro m g m' g' hp ha
  refine ⟨fun c => gN (m ((c.tc : Thread Cert.RmsInIdeal.nD Cert.RmsInIdeal.τ).loc Cert.RmsInIdeal.main_arg0)) (m ((c.tc : Thread Cert.RmsInIdeal.nD Cert.RmsInIdeal.τ).loc Cert.RmsInIdeal.main_arg1)), ?_, ?_⟩
  · refine (θ_run _ _ _).mono (fun r h c => ?_) (Cert.RmsInIdeal.Value.run_blocks m g)
    obtain ⟨h0, hr⟩ := h c
    exact ⟨h0.trans (kernel_eq m c), hr⟩
  · refine (θ_run _ _ _).mono (fun r h c => ?_) (Cert.RmsInRefIdeal.Value.run m' g')
    obtain ⟨h0, hr⟩ := h c
    obtain ⟨a0, a1, a2⟩ := ha c
    refine ⟨h0.trans ?_, hr⟩
    rw [Cert.RmsInRefIdeal.Read.val_main_v12_eq, a0, a1]
    exact ref_eq _ _

end Cert.RmsInCall
-- ==== Proof.GdnPrepFwd.Conv.lean ====
/- A causal convolution of four taps down a column, its sigmoid gate, and the unit rows of a head. -/
module

public import Idealize.ShloMosaic.PureOps.Ideal
public import proofs.«01_k».proof.Proof.Mem.RowsEq

@[expose] public section

noncomputable section

namespace Cert.Conv

open Idealize.ShloMosaic

/-- The printed small constant and the printed scale of the queries. -/
def eps : EReal := Ideal.ofBits .f32 0x358637BD#32
def scale : EReal := Ideal.ofBits .f32 0x3DB504F3#32

/-- The column's entry `s` rows earlier; nothing before the first row. -/
def ago (x : Fin 2048 → EReal) (s : ℕ) (r : Fin 2048) : EReal := if h : s ≤ r.val then x ⟨r.val - s, by omega⟩ else 0

/-- The convolution of a column with its four weights. -/
def conv (x : Fin 2048 → EReal) (w : Fin 4 → EReal) (r : Fin 2048) : EReal :=
  x r * w 3 + ago x 1 r * w 2 + ago x 2 r * w 1 + ago x 3 r * w 0

/-- A number times its logistic function. -/
def silu (y : EReal) : EReal := y * Ideal.div 1 (1 + Ideal.exp (0 - y))

/-- A head's row over its length, times a scale. -/
def unit (c : EReal) (a : Fin 128 → EReal) (d : Fin 128) : EReal := a d * (Ideal.rsqrt ((∑ k, a k * a k) + eps) * c)

/-- A head's row: a scaled unit row of the queries, a unit row of the keys, the row itself of the values. -/
def headRow (kind : Fin 3) (a : Fin 128 → EReal) (d : Fin 128) : EReal :=
  if kind.val = 0 then unit scale a d else if kind.val = 1 then unit 1 a d else a d

theorem headRow_q (a : Fin 128 → EReal) (d : Fin 128) : headRow 0 a d = unit scale a d := if_pos rfl

theorem headRow_k (a : Fin 128 → EReal) (d : Fin 128) : headRow 1 a d = unit 1 a d := by
  unfold headRow
  rw [if_neg (by decide), if_pos (by decide)]

theorem headRow_v (a : Fin 128 → EReal) (d : Fin 128) : headRow 2 a d = a d := by
  unfold headRow
  rw [if_neg (by decide), if_neg (by decide)]

/-- The row of four heads. -/
def heads (kind : Fin 3) (a : Fin 512 → EReal) (n : Fin 512) : EReal :=
  headRow kind (fun d => a ⟨128 * (n.val / 128) + d.val, by omega⟩) ⟨n.val % 128, by omega⟩

theorem heads_at (kind : Fin 3) (a : Fin 512 → EReal) (h : Fin 4) (d : Fin 128) :
    heads kind a ⟨128 * h.val + d.val, by omega⟩ = headRow kind (fun d => a ⟨128 * h.val + d.val, by omega⟩) d := by
  unfold heads
  have e : (⟨(128 * h.val + d.val) % 128, by omega⟩ : Fin 128) = d := Fin.ext (by show (128 * h.val + d.val) % 128 = d.val; omega)
  have e2 (k : Fin 128) : (⟨128 * ((128 * h.val + d.val) / 128) + k.val, by omega⟩ : Fin 512) = ⟨128 * h.val + k.val, by omega⟩ :=
    Fin.ext (by show 128 * ((128 * h.val + d.val) / 128) + k.val = 128 * h.val + k.val; omega)
  simp only [e, e2]

/-- The four products in the other order, from nothing. -/
theorem conv_eq (x : Fin 2048 → EReal) (w : Fin 4 → EReal) (r : Fin 2048) :
    0 + ago x 3 r * w 0 + ago x 2 r * w 1 + ago x 1 r * w 2 + x r * w 3 = conv x w r := by
  unfold conv
  rw [zero_add]
  ac_rfl

end Cert.Conv
-- ==== Proof.GdnPrepFwd.Kernel.lean ====
/- The delta rule's queries, keys and values: what one grid point stores. -/
module

public import proofs.«01_k».proof.Proof.GdnPrepFwd.Conv
public import proofs.«01_k».proof.Proof.Gen.GdnPrepFwdIdeal.Value
public import Idealize.ShloMosaic.Lib.Pipeline.ValueKit
public import Idealize.ShloMosaic.Lib.Pipeline.ReadBack

@[expose] public section

set_option maxRecDepth 16384

noncomputable section

namespace Cert.GdnPrepFwdCall

open Idealize.ShloMosaic Idealize.ShloMosaic.TcCoe Cert.Conv
open Cert.GdnPrepFwdIdeal Cert.GdnPrepFwdIdeal.Gen

theorem word (r s : ℕ) (hr : r < 2048) (hs : s < 4) : (BitVec.ofNat 32 s).sle (BitVec.ofNat 32 r) = decide (s ≤ r) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- A rotated and masked column is the column some rows earlier. -/
theorem ago_of (x : Fin 2048 → EReal) (s : ℕ) (hs : s < 4) (r : Fin 2048) (k : EReal) (v : Fin 2048) (hv : v.val = (r.val + 2048 - s) % 2048) :
    Scalar.select (IntOp.cmpi .sge (BitVec.ofNat 32 r.val) (BitVec.ofNat 32 s)) (x v * k) 0 = ago x s r * k := by
  have e : IntOp.cmpi .sge (BitVec.ofNat 32 r.val) (BitVec.ofNat 32 s) = BitVec.ofBool (decide (s ≤ r.val)) :=
    congrArg BitVec.ofBool (word r.val s r.isLt hs)
  rw [e]
  unfold ago
  by_cases h : s ≤ r.val
  · have hv' : v = ⟨r.val - s, by omega⟩ := Fin.ext (by show v.val = r.val - s; rw [hv]; omega)
    rw [dif_pos h, decide_eq_true h, hv']
    rfl
  · rw [dif_neg h, decide_eq_false h, zero_mul]
    rfl

theorem pay_conv (x : Vec Ideal S2048x512 .f32) (w : Vec Ideal S4x512 .f32) (r : Fin 2048) (n : Fin 512) :
    k0_pay3 (F := Ideal) x w (ix2 r n) = conv (fun r => x (ix2 r n)) (fun j => w (ix2 j n)) r := by
  pointwise [k0_pay3]
  unfold conv
  rw [← ago_of (fun r => x (ix2 r n)) 1 (by omega) r _ ⟨(r.val + 2048 - 1) % 2048, by omega⟩ rfl,
    ← ago_of (fun r => x (ix2 r n)) 2 (by omega) r _ ⟨(r.val + 2048 - 2) % 2048, by omega⟩ rfl,
    ← ago_of (fun r => x (ix2 r n)) 3 (by omega) r _ ⟨(r.val + 2048 - 3) % 2048, by omega⟩ rfl]

theorem pay_act (x : Vec Ideal S2048x512 .f32) (w : Vec Ideal S4x512 .f32) (r : Fin 2048) (n : Fin 512) :
    k0_pay6 (F := Ideal) (k0_pay3 x w) (k0_pay4 x w) k0_pay5 (ix2 r n) = silu (conv (fun r => x (ix2 r n)) (fun j => w (ix2 j n)) r) := by
  pointwise [k0_pay6, k0_pay5, k0_pay4]
  simp only [pay_conv]
  rfl

/-- The kind of a block picks its scale, and whether it has one. -/
theorem pick (kind : Fin 3) (s : Fin 128 → EReal) (d : Fin 128) :
    Scalar.select (Scalar.cmpi .slt (BitVec.ofNat 32 kind.val) 2#32)
      (s d * (Ideal.rsqrt (∑ k, s k * s k + Ideal.ofBits .f32 0x358637BD#32)
        * Scalar.select (Scalar.cmpi .eq (BitVec.ofNat 32 kind.val) 0#32) (Ideal.ofBits .f32 0x3DB504F3#32) 1)) (s d) = headRow kind s d := by
  match kind with
  | 0 => rfl
  | 1 => rfl
  | 2 => rfl

section
variable (v38 v41 v42 : Vec Ideal S2048x512 .f32) (a : Fin 2048 → Fin 512 → EReal)
    (hv : ∀ r n, k0_pay6 (F := Ideal) v38 v41 v42 (ix2 r n) = a r n) (kind : Fin 3) (r : Fin 2048) (d : Fin 128)
include hv

theorem h0 : k0_pay8 (F := Ideal) (BitVec.ofNat 32 kind.val) v38 v41 v42 (ix2 r d) = headRow kind (fun d => a r ⟨128 * (0 : Fin 4).val + d.val, by omega⟩) d := by
  pointwise [k0_pay8, k0_pay7]
  simp only [hv]
  exact pick kind (fun d => a r ⟨d.val, by omega⟩) d
theorem h1 : k0_pay9 (F := Ideal) (BitVec.ofNat 32 kind.val) v38 v41 v42 (ix2 r d) = headRow kind (fun d => a r ⟨128 * (1 : Fin 4).val + d.val, by omega⟩) d := by
  pointwise [k0_pay9, k0_pay7]
  simp only [hv]
  exact pick kind (fun d => a r ⟨128 * (1 : Fin 4).val + d.val, by omega⟩) d
theorem h2 : k0_pay1 (F := Ideal) (BitVec.ofNat 32 kind.val) (k0_pay7 (F := Ideal) (BitVec.ofNat 32 kind.val)) (k0_pay10 v38 v41 v42) (k0_pay11 v38 v41 v42) 2#32 (ix2 r d) = headRow kind (fun d => a r ⟨128 * (2 : Fin 4).val + d.val, by omega⟩) d := by
  pointwise [k0_pay1, k0_pay10, k0_pay11, k0_pay7]
  simp only [hv]
  exact pick kind (fun d => a r ⟨128 * (2 : Fin 4).val + d.val, by omega⟩) d
theorem h3 : k0_pay2 (F := Ideal) (BitVec.ofNat 32 kind.val) (k0_pay6 v38 v41 v42) (k0_pay7 (F := Ideal) (BitVec.ofNat 32 kind.val)) (ix2 r d) = headRow kind (fun d => a r ⟨128 * (3 : Fin 4).val + d.val, by omega⟩) d := by
  pointwise [k0_pay2, k0_pay7]
  simp only [hv]
  exact pick kind (fun d => a r ⟨128 * (3 : Fin 4).val + d.val, by omega⟩) d
end

/-- A block of rows of four heads. -/
abbrev headsOf (kind : Fin 3) (a : Fin 2048 → Fin 512 → EReal) : Vec Ideal S2048x512 .f32 := fun y => heads kind (a (y 0)) (y 1)

/-- A store of one head is a block of the heads. -/
theorem piece (kind : Fin 3) (a : Fin 2048 → Fin 512 → EReal) (h : Fin 4) (off : ℕ) (e : off = 128 * h.val)
    (inb : ∀ i, ![0, off] i + ![2048, 128] i ≤ (![2048, 512] : Fin 2 → ℕ) i) (r : Fin 2048) (d : Fin 128) (P : EReal)
    (hP : P = headRow kind (fun d => a r ⟨128 * h.val + d.val, by omega⟩) d) :
    P = headsOf kind a ((Rect.unit (s := ⟨2, ![2048, 512]⟩) ![0, off] ![2048, 128] inb).emb (ix2 r d)) := by
  subst e
  have e : (Rect.unit (s := ⟨2, ![2048, 512]⟩) ![0, 128 * h.val] ![2048, 128] inb).emb (ix2 r d)
      = ix2 r (⟨128 * h.val + d.val, by omega⟩ : Fin 512) := by
    funext i; refine Fin.ext ?_; fin_cases i <;> simp
  rw [e, hP]
  exact (heads_at kind (a r) h d).symm

/-- A block's column, convolved and gated. -/
abbrev act (x : Vec Ideal S2048x512 .f32) (w : Vec Ideal S4x512 .f32) (r : Fin 2048) (n : Fin 512) : EReal :=
  silu (conv (fun r => x (ix2 r n)) (fun j => w (ix2 j n)) r)

theorem act_of (x : Vec Ideal S2048x512 .f32) (w : Vec Ideal S4x512 .f32) (r : Fin 2048) (n : Fin 512) :
    k0_pay6 (F := Ideal) (k0_pay3 (View.ld x r0_0) (View.ld w r0_1)) (k0_pay4 (View.ld x r0_0) (View.ld w r0_1)) k0_pay5 (ix2 r n) = act x w r n := by
  rw [View.ld_unit_zero (by funext i; fin_cases i <;> rfl), View.ld_unit_zero (by funext i; fin_cases i <;> rfl)]
  exact pay_act x w r n

/-- What a grid point stores. -/
theorem out (i : grid0.Coords) (kind : Fin 3) (hk : (i 1).val = kind.val) (x : Vec Ideal S2048x512 .f32) (w : Vec Ideal S4x512 .f32) (y : S2048x512.Idx) :
    out0_2 (F := Ideal) i x w y = heads kind (act x w (y 0)) (y 1) := by
  unfold out0_2
  rw [hk]
  refine View.canon_append_of_piecesOf (headsOf kind (act x w)) [] [_, _, _, _] ⟨?_, ?_, ?_, ?_, trivial⟩ y ?_
  · intro z; idx_vars z; exact piece kind _ 3 _ rfl _ _ _ _ (h3 _ _ _ _ (act_of x w) kind _ _)
  · intro z; idx_vars z; exact piece kind _ 2 _ rfl _ _ _ _ (h2 _ _ _ _ (act_of x w) kind _ _)
  · intro z; idx_vars z; exact piece kind _ 1 _ rfl _ _ _ _ (h1 _ _ _ _ (act_of x w) kind _ _)
  · intro z; idx_vars z; exact piece kind _ 0 _ rfl _ _ _ _ (h0 _ _ _ _ (act_of x w) kind _ _)
  · exact View.cover_of_tiledL _ ![2048, 128] (by sl_kernel_rfl) y

end Cert.GdnPrepFwdCall
-- ==== Proof.GdnPrepFwd.Value.lean ====
/- The delta rule's queries, keys and values: the stored blocks and the reference are one function. -/
module

public import proofs.«01_k».proof.Proof.GdnPrepFwd.Kernel
public import proofs.«01_k».proof.Proof.Gen.GdnPrepFwdRefIdeal.Read
public import Idealize.ShloMosaic.Lib.KernelVsHost

@[expose] public section

set_option maxRecDepth 16384

noncomputable section

namespace Cert.GdnPrepFwdCall

open Idealize.ShloMosaic Idealize.ShloMosaic.TcCoe Cert.Conv
open Cert.GdnPrepFwdIdeal Cert.GdnPrepFwdIdeal.Gen

/-- Column `n` of batch entry `b`, convolved and gated. -/
def colB (P : S4096x4608.Idx → EReal) (w : S4x1536.Idx → EReal) (b : Fin 2) (n : Fin 1536) (r : Fin 2048) : EReal :=
  silu (conv (fun r : Fin 2048 => P (ix2 ⟨b.val * 2048 + r.val, by omega⟩ ⟨1536 + n.val, by omega⟩)) (fun j => w (ix2 j n)) r)

/-- One row of the queries, keys or values. -/
def rowB (P : S4096x4608.Idx → EReal) (w : S4x1536.Idx → EReal) (b : Fin 2) (r : Fin 2048) (kind : Fin 3) (n : Fin 512) : EReal :=
  heads kind (fun k => colB P w b ⟨512 * kind.val + k.val, by omega⟩ r) n

/-- The result. -/
def gA (P : S4096x4608.Idx → EReal) (w : S4x1536.Idx → EReal) (y : S4096x1536.Idx) : EReal :=
  rowB P w ⟨(y 0).val / 2048, by have := (y 0).isLt; dsimp at this; omega⟩ ⟨(y 0).val % 2048, by omega⟩ ⟨(y 1).val / 512, by have := (y 1).isLt; dsimp at this; omega⟩ ⟨(y 1).val % 512, by omega⟩

theorem gA_at (P : S4096x4608.Idx → EReal) (w : S4x1536.Idx → EReal) (b : Fin 2) (r : Fin 2048) (kind : Fin 3) (n : Fin 512)
    (i : Fin 4096) (hi : i.val = b.val * 2048 + r.val) (j : Fin 1536) (hj : j.val = kind.val * 512 + n.val) : gA P w (ix2 i j) = rowB P w b r kind n := by
  have h0 : (⟨i.val / 2048, by omega⟩ : Fin 2) = b := Fin.ext (by show i.val / 2048 = b.val; omega)
  have h1 : (⟨i.val % 2048, by omega⟩ : Fin 2048) = r := Fin.ext (by show i.val % 2048 = r.val; omega)
  have h2 : (⟨j.val / 512, by omega⟩ : Fin 3) = kind := Fin.ext (by show j.val / 512 = kind.val; omega)
  have h3 : (⟨j.val % 512, by omega⟩ : Fin 512) = n := Fin.ext (by show j.val % 512 = n.val; omega)
  show rowB P w ⟨i.val / 2048, _⟩ ⟨i.val % 2048, _⟩ ⟨j.val / 512, _⟩ ⟨j.val % 512, _⟩ = _
  rw [h0, h1, h2, h3]

theorem idx : ∀ t : Fin cfg0.N, win0_0.index t = ![t.val / 3, 3 + t.val % 3] ∧ win0_1.index t = ![0, t.val % 3] ∧ win0_2.index t = ![t.val / 3, t.val % 3]
    ∧ (grid0.coords t 1).val = t.val % 3 :=
  (by decide +kernel : ∀ t : Fin grid0.N, _)

theorem lt (t : Fin cfg0.N) : t.val < 6 := Nat.lt_of_lt_of_eq t.isLt N_0

variable (m : (ℓ : Loc nD τ sig) → Buf (Elt Ideal) ℓ) (c : Dev nD) (t : Fin cfg0.N)

/-- The batch entry and the kind of block `t`. -/
abbrev bOf : Fin 2 := ⟨t.val / 3, by have := lt t; omega⟩
abbrev kOf : Fin 3 := ⟨t.val % 3, by omega⟩

theorem read0 (r : Fin 2048) (n : Fin 512) : iblk m c 0 t (ix2 r n)
    = m ((c.tc : Thread nD τ).loc main_arg0) (ix2 ⟨(bOf t).val * 2048 + r.val, by omega⟩ ⟨1536 + (512 * (kOf t).val + n.val), by omega⟩) := by
  show iblk m c 0 t (ix2 r n) = m ((c.tc : Thread nD τ).loc main_arg0) (ix2 _ _)
  have := lt t
  blk_ext [iblk, V, idx t]

theorem read1 (j : Fin 4) (n : Fin 512) : iblk m c 1 t (ix2 j n)
    = m ((c.tc : Thread nD τ).loc main_arg1) (ix2 j ⟨512 * (kOf t).val + n.val, by omega⟩) := by
  show iblk m c 1 t (ix2 j n) = m ((c.tc : Thread nD τ).loc main_arg1) (ix2 _ _)
  have := lt t
  blk_ext [iblk, V, idx t]

theorem act_eq (r : Fin 2048) : act (iblk m c 0 t) (iblk m c 1 t) r
    = fun n => colB (m ((c.tc : Thread nD τ).loc main_arg0)) (m ((c.tc : Thread nD τ).loc main_arg1)) (bOf t) ⟨512 * (kOf t).val + n.val, by omega⟩ r := by
  funext n
  unfold act colB
  simp only [read0, read1]

/-- The kernel's result. -/
theorem kernel_eq : (dats m 0 c).arrAt 2 cfg0.N = gA (m ((c.tc : Thread nD τ).loc main_arg0)) (m ((c.tc : Thread nD τ).loc main_arg1)) := by
  refine (dats m 0 c).arrAt_eq_of_covers 2 _ (by decide +kernel) fun t hf y => ?_
  blk_simp [idx t]
  rw [after0_2]
  idx_vars y
  have ht := lt t
  have e : ((View.whole main_v0).slice (win0_2.rect t)).emb (ix2 y0 y1)
      = ix2 (⟨(bOf t).val * 2048 + y0.val, by omega⟩ : Fin 4096) (⟨(kOf t).val * 512 + y1.val, by omega⟩ : Fin 1536) := by
    blk_ext [idx t]
  rw [e, gA_at _ _ (bOf t) y0 (kOf t) y1 _ rfl _ rfl]
  refine (out (grid0.coords t) (kOf t) (idx t).2.2.2 _ _ _).trans ?_
  show heads (kOf t) (act (iblk m c 0 t) (iblk m c 1 t) y0) y1 = _
  rw [act_eq]
  rfl

open Cert.GdnPrepFwdRefIdeal.Read

variable (P : Vec Ideal S4096x4608 .f32) (w : Vec Ideal S4x1536 .f32) (b : Fin 2) (r : Fin 2048)

/-- The padded rows. -/
theorem ref_pad (i : Fin 2051) (n : Fin 1536) : val_main_v2 (F := Ideal) P (ix3 b i n)
    = if h : 3 ≤ i.val then P (ix2 ⟨b.val * 2048 + (i.val - 3), by omega⟩ ⟨1536 + n.val, by omega⟩) else 0 := by
  by_cases h : 3 ≤ i.val
  · rw [dif_pos h]
    unfold val_main_v2
    rw [pad_apply_of_inside _ _ _ _ _ _ _ _ (ix3 b (⟨i.val - 3, by omega⟩ : Fin 2048) n) (by
      intro a; fin_cases a <;> simp <;> omega)]
    pointwise [val_main_v1, val_main_v0]
  · rw [dif_neg h]
    unfold val_main_v2
    rw [pad_apply_of_not_inside _ _ _ _ _ _ _ _ 1 (fun q => h q.1)]
    show val_main_call0_v0 (F := Ideal) _ = 0
    show ((((0#32 : BitVec 32).toInt : ℤ) : ℝ) : EReal) = 0
    simp

/-- A slice of the padded rows is the column some rows earlier. -/
theorem ref_ago (s : ℕ) (hs : s < 4) (i : Fin 2051) (hi : i.val = 3 - s + r.val) (n : Fin 1536) : val_main_v2 (F := Ideal) P (ix3 b i n)
    = ago (fun r : Fin 2048 => P (ix2 ⟨b.val * 2048 + r.val, by omega⟩ ⟨1536 + n.val, by omega⟩)) s r := by
  rw [ref_pad]
  unfold ago
  by_cases h : s ≤ r.val
  · rw [dif_pos h, dif_pos (by omega)]
    have e : (⟨b.val * 2048 + (i.val - 3), by omega⟩ : Fin 4096) = ⟨b.val * 2048 + (r.val - s), by omega⟩ := Fin.ext (by dsimp only; omega)
    rw [e]
  · rw [dif_neg h, dif_neg (by omega)]

theorem ago_zero (x : Fin 2048 → EReal) (r : Fin 2048) : ago x 0 r = x r := rfl

theorem ref_act (n : Fin 1536) : val_main_v32 (F := Ideal) P w (ix3 b r n) = colB P w b n r := by
  have hc : val_main_v31 (F := Ideal) P w (ix3 b r n)
      = conv (fun r : Fin 2048 => P (ix2 ⟨b.val * 2048 + r.val, by omega⟩ ⟨1536 + n.val, by omega⟩)) (fun j => w (ix2 j n)) r := by
    refine Eq.trans ?_ (conv_eq _ _ r)
    rw [zero_add]
    pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst]
    show val_main_v2 (F := Ideal) P (ix3 b (⟨r.val, by omega⟩ : Fin 2051) n) * w (ix2 0 n) + val_main_v2 (F := Ideal) P (ix3 b (⟨1 + r.val, by omega⟩ : Fin 2051) n) * w (ix2 1 n)
      + val_main_v2 (F := Ideal) P (ix3 b (⟨2 + r.val, by omega⟩ : Fin 2051) n) * w (ix2 2 n) + val_main_v2 (F := Ideal) P (ix3 b (⟨3 + r.val, by omega⟩ : Fin 2051) n) * w (ix2 3 n) = _
    rw [ref_ago P b r 3 (by omega) ⟨r.val, by omega⟩ (by simp) n, ref_ago P b r 2 (by omega) ⟨1 + r.val, by omega⟩ rfl n,
      ref_ago P b r 1 (by omega) ⟨2 + r.val, by omega⟩ rfl n, ref_ago P b r 0 (by omega) ⟨3 + r.val, by omega⟩ rfl n]
    rfl
  pointwise [val_main_v32, val_main_call1_v5, val_main_call1_v4, val_main_call1_v3, val_main_call1_v2, val_main_call1_v1, val_main_call1_v0, val_main_call1_cst, val_main_call1_cst_0]
  simp only [hc]
  unfold colB silu
  rw [zero_sub]

theorem ref_segq (h : Fin 4) (d : Fin 128) : val_main_v34 (F := Ideal) P w (ix4 b r h d) = colB P w b ⟨128 * h.val + d.val, by omega⟩ r := by
  pointwise [val_main_v34, val_main_v33]
  rw [ref_act]
  have e : (⟨h.val * 128 + d.val, by omega⟩ : Fin 1536) = ⟨128 * h.val + d.val, by omega⟩ := Fin.ext (by dsimp only; omega)
  rw [e]

theorem ref_segk (h : Fin 4) (d : Fin 128) : val_main_v46 (F := Ideal) P w (ix4 b r h d) = colB P w b ⟨512 + (128 * h.val + d.val), by omega⟩ r := by
  pointwise [val_main_v46, val_main_v45]
  rw [ref_act]
  have e : (⟨512 + (h.val * 128 + d.val), by omega⟩ : Fin 1536) = ⟨512 + (128 * h.val + d.val), by omega⟩ := Fin.ext (by dsimp only; omega)
  rw [e]

theorem ref_sumq (h : Fin 4) : val_main_v36 (F := Ideal) P w (ix3 b r h) = ∑ k : Fin 128, val_main_v34 (F := Ideal) P w (ix4 b r h k) * val_main_v34 (F := Ideal) P w (ix4 b r h k) := by
  rw [val_main_v36_apply, val_main_cst_0_apply]
  refine (congrArg (· + _) (Ideal.ofBits_zero .f32)).trans ((zero_add _).trans (Finset.sum_congr rfl fun k _ => ?_))
  have e : idx_main_v36 (ix3 b r h) k = ix4 b r h k := by
    funext a
    match a with
    | ⟨0, _⟩ => rfl
    | ⟨1, _⟩ => rfl
    | ⟨2, _⟩ => rfl
    | ⟨3, _⟩ => rfl
  rw [e, val_main_v35_apply]
  rfl

theorem ref_sumk (h : Fin 4) : val_main_v48 (F := Ideal) P w (ix3 b r h) = ∑ k : Fin 128, val_main_v46 (F := Ideal) P w (ix4 b r h k) * val_main_v46 (F := Ideal) P w (ix4 b r h k) := by
  rw [val_main_v48_apply, val_main_cst_3_apply]
  refine (congrArg (· + _) (Ideal.ofBits_zero .f32)).trans ((zero_add _).trans (Finset.sum_congr rfl fun k _ => ?_))
  have e : idx_main_v48 (ix3 b r h) k = ix4 b r h k := by
    funext a
    match a with
    | ⟨0, _⟩ => rfl
    | ⟨1, _⟩ => rfl
    | ⟨2, _⟩ => rfl
    | ⟨3, _⟩ => rfl
  rw [e, val_main_v47_apply]
  rfl

theorem ref_lenq (h : Fin 4) (u : Fin 1) : val_main_v40 (F := Ideal) P w (ix4 b r h u)
    = Ideal.rsqrt ((∑ k : Fin 128, colB P w b ⟨128 * h.val + k.val, by omega⟩ r * colB P w b ⟨128 * h.val + k.val, by omega⟩ r) + eps) := by
  pointwise [val_main_v40, val_main_v39, val_main_v38, val_main_v37, val_main_cst_1]
  rw [ref_sumq]
  simp only [ref_segq]
  rfl

theorem ref_lenk (h : Fin 4) (u : Fin 1) : val_main_v52 (F := Ideal) P w (ix4 b r h u)
    = Ideal.rsqrt ((∑ k : Fin 128, colB P w b ⟨512 + (128 * h.val + k.val), by omega⟩ r * colB P w b ⟨512 + (128 * h.val + k.val), by omega⟩ r) + eps) := by
  pointwise [val_main_v52, val_main_v51, val_main_v50, val_main_v49, val_main_cst_4]
  rw [ref_sumk]
  simp only [ref_segk]
  rfl

theorem ref_wideq (h : Fin 4) (d : Fin 128) : val_main_v41 (F := Ideal) P w (ix4 b r h d) = val_main_v40 (F := Ideal) P w (ix4 b r h (0 : Fin 1)) := by
  rw [val_main_v41_apply]
  refine congrArg _ (funext fun a => ?_)
  match a with
  | ⟨0, _⟩ => rfl
  | ⟨1, _⟩ => rfl
  | ⟨2, _⟩ => rfl
  | ⟨3, _⟩ => rfl

theorem ref_widek (h : Fin 4) (d : Fin 128) : val_main_v53 (F := Ideal) P w (ix4 b r h d) = val_main_v52 (F := Ideal) P w (ix4 b r h (0 : Fin 1)) := by
  rw [val_main_v53_apply]
  refine congrArg _ (funext fun a => ?_)
  match a with
  | ⟨0, _⟩ => rfl
  | ⟨1, _⟩ => rfl
  | ⟨2, _⟩ => rfl
  | ⟨3, _⟩ => rfl

theorem ref_q (h : Fin 4) (d : Fin 128) : val_main_v44 (F := Ideal) P w (ix4 b r h d)
    = unit scale (fun d => colB P w b ⟨128 * h.val + d.val, by omega⟩ r) d := by
  rw [val_main_v44_apply, val_main_v42_apply, val_main_v43_apply, val_main_cst_2_apply, ref_wideq, ref_segq, ref_lenq]
  unfold unit scale
  rw [← mul_assoc]
  rfl

theorem ref_k (h : Fin 4) (d : Fin 128) : val_main_v54 (F := Ideal) P w (ix4 b r h d)
    = unit 1 (fun d => colB P w b ⟨512 + (128 * h.val + d.val), by omega⟩ r) d := by
  rw [val_main_v54_apply, ref_widek, ref_segk, ref_lenk]
  unfold unit
  rw [mul_one]
  rfl

/-- A row of four heads, head by head. -/
theorem rowB_at (kind : Fin 3) (n : Fin 512) : rowB P w b r kind n
    = headRow kind (fun d => colB P w b ⟨512 * kind.val + (128 * (n.val / 128) + d.val), by omega⟩ r) ⟨n.val % 128, by omega⟩ := rfl

theorem row_q (n : Fin 512) : val_main_v44 (F := Ideal) P w (ix4 b r (⟨n.val / 128, by omega⟩ : Fin 4) (⟨n.val % 128, by omega⟩ : Fin 128)) = rowB P w b r 0 n := by
  rw [ref_q, rowB_at, headRow_q]
  refine congrFun (congrArg (unit scale) (funext fun d => ?_)) _
  exact congrArg (fun n => colB P w b n r) (Fin.ext (by show 128 * (n.val / 128) + d.val = 512 * 0 + (128 * (n.val / 128) + d.val); omega))

theorem row_k (n : Fin 512) : val_main_v54 (F := Ideal) P w (ix4 b r (⟨n.val / 128, by omega⟩ : Fin 4) (⟨n.val % 128, by omega⟩ : Fin 128)) = rowB P w b r 1 n := by
  rw [ref_k, rowB_at, headRow_k]
  refine congrFun (congrArg (unit 1) (funext fun d => ?_)) _
  exact congrArg (fun n => colB P w b n r) (Fin.ext (by show 512 + (128 * (n.val / 128) + d.val) = 512 * 1 + (128 * (n.val / 128) + d.val); omega))

theorem row_v (n : Fin 512) : val_main_v32 (F := Ideal) P w (ix3 b r (⟨1024 + n.val, by omega⟩ : Fin 1536)) = rowB P w b r 2 n := by
  rw [ref_act, rowB_at, headRow_v]
  exact congrArg (fun n => colB P w b n r) (Fin.ext (by show 1024 + n.val = 512 * 2 + (128 * (n.val / 128) + n.val % 128); omega))

theorem fin_q (y0 : Fin 4096) (hb : b.val = y0.val / 2048) (hr : r.val = y0.val % 2048) (n : Fin 512) : val_main_v55 (F := Ideal) P w (ix2 y0 n) = rowB P w b r 0 n := by
  pointwise [val_main_v55]
  have e0 : (⟨y0.val / 2048, by omega⟩ : Fin 2) = b := Fin.ext hb.symm
  have e1 : (⟨y0.val % 2048, by omega⟩ : Fin 2048) = r := Fin.ext hr.symm
  rw [e0, e1]
  exact row_q P w b r n

theorem fin_k (y0 : Fin 4096) (hb : b.val = y0.val / 2048) (hr : r.val = y0.val % 2048) (n : Fin 512) : val_main_v56 (F := Ideal) P w (ix2 y0 n) = rowB P w b r 1 n := by
  pointwise [val_main_v56]
  have e0 : (⟨y0.val / 2048, by omega⟩ : Fin 2) = b := Fin.ext hb.symm
  have e1 : (⟨y0.val % 2048, by omega⟩ : Fin 2048) = r := Fin.ext hr.symm
  rw [e0, e1]
  exact row_k P w b r n

theorem fin_v (y0 : Fin 4096) (hb : b.val = y0.val / 2048) (hr : r.val = y0.val % 2048) (n : Fin 512) : val_main_v58 (F := Ideal) P w (ix2 y0 n) = rowB P w b r 2 n := by
  pointwise [val_main_v58, val_main_v57]
  have e0 : (⟨y0.val / 2048, by omega⟩ : Fin 2) = b := Fin.ext hb.symm
  have e1 : (⟨y0.val % 2048, by omega⟩ : Fin 2048) = r := Fin.ext hr.symm
  rw [e0, e1]
  exact row_v P w b r n

/-- The reference's result. -/
theorem ref_eq : val_main_v59 (F := Ideal) P w = gA P w := by
  funext y
  idx_vars y
  pointwise [val_main_v59]
  obtain ⟨b, hb⟩ : ∃ b : Fin 2, b.val = y0.val / 2048 := ⟨⟨y0.val / 2048, by omega⟩, rfl⟩
  obtain ⟨r, hr⟩ : ∃ r : Fin 2048, r.val = y0.val % 2048 := ⟨⟨y0.val % 2048, by omega⟩, rfl⟩
  have hy : y0.val = b.val * 2048 + r.val := by omega
  by_cases h : y1.val < 512
  · rw [dif_pos h, fin_q P w b r y0 hb hr]
    exact (gA_at P w b r 0 ⟨y1.val, h⟩ y0 hy y1 (by show y1.val = 0 * 512 + y1.val; omega)).symm
  · rw [dif_neg h]
    by_cases h2 : y1.val - 512 < 512
    · rw [dif_pos h2, fin_k P w b r y0 hb hr]
      exact (gA_at P w b r 1 ⟨y1.val - 512, h2⟩ y0 hy y1 (by show y1.val = 1 * 512 + (y1.val - 512); omega)).symm
    · rw [dif_neg h2, fin_v P w b r y0 hb hr]
      exact (gA_at P w b r 2 ⟨y1.val - 512 - 512, by omega⟩ y0 hy y1 (by show y1.val = 2 * 512 + (y1.val - 512 - 512); omega)).symm

end Cert.GdnPrepFwdCall
-- ==== Proof.GdnPrepFwd.Claims.lean ====
/- The claims: the delta rule's queries, keys and values. -/
module

public import proofs.«01_k».proof.Defs
public import proofs.«01_k».proof.Proof.Gen.GdnPrepFwd.Frame
public import proofs.«01_k».proof.Proof.GdnPrepFwd.Value
public import proofs.«01_k».proof.Proof.Gen.GdnPrepFwdRefIdeal.Run

@[expose] public section

noncomputable section

namespace Cert.GdnPrepFwdCall

open Idealize.ShloMosaic Idealize.SL.Sem

theorem frame_kernel : Cert.quiescent_GdnPrepFwd := fun m ρ _ => Cert.GdnPrepFwd.Gen.frame m ρ

theorem frame_ideal : Cert.quiescent_GdnPrepFwdIdeal := fun m ρ _ => Cert.GdnPrepFwdIdeal.Gen.frame m ρ

theorem frame_ref : Cert.quiescent_GdnPrepFwdRefIdeal := fun m ρ _ =>
  (θ_run Cert.GdnPrepFwdRefIdeal.defs _ _).mono (fun r h => ⟨fun c => (h c).2, sem_eq_zero_of_no_sems (by decide) r.2⟩)
    (Cert.GdnPrepFwdRefIdeal.Value.run m ρ)

theorem preserves : Cert.preserves_GdnPrepFwd_GdnPrepFwdIdeal := trivial

theorem algebraic : Cert.algebraic_GdnPrepFwdIdeal_GdnPrepFwdRefIdeal := by
  intro m g m' g' hp ha
  refine ⟨fun c => gA (m ((c.tc : Thread Cert.GdnPrepFwdIdeal.nD Cert.GdnPrepFwdIdeal.τ).loc Cert.GdnPrepFwdIdeal.main_arg0)) (m ((c.tc : Thread Cert.GdnPrepFwdIdeal.nD Cert.GdnPrepFwdIdeal.τ).loc Cert.GdnPrepFwdIdeal.main_arg1)), ?_, ?_⟩
  · refine (θ_run _ _ _).mono (fun r h c => ?_) (Cert.GdnPrepFwdIdeal.Value.run_blocks m g)
    obtain ⟨h0, hr⟩ := h c
    exact ⟨h0.trans (kernel_eq m c), hr⟩
  · refine (θ_run _ _ _).mono (fun r h c => ?_) (Cert.GdnPrepFwdRefIdeal.Value.run m' g')
    obtain ⟨h0, hr⟩ := h c
    obtain ⟨a0, a1⟩ := ha c
    refine ⟨h0.trans ?_, hr⟩
    rw [Cert.GdnPrepFwdRefIdeal.Read.val_main_v59_eq, a0, a1]
    exact ref_eq _ _

end Cert.GdnPrepFwdCall
-- ==== Proof.RopeTables.Value.lean ====
/- The tables of the rotation's cosines and sines: the blocks and the reference are one function. -/
module

public import proofs.«01_k».proof.Proof.Gen.RopeTablesIdeal.Value
public import proofs.«01_k».proof.Proof.Gen.RopeTablesRefIdeal.Read
public import Idealize.ShloMosaic.Lib.Pipeline.ValueKit
public import Idealize.ShloMosaic.Lib.Pipeline.ReadBack

@[expose] public section

set_option maxRecDepth 16384

noncomputable section

namespace Cert.RopeTablesCall

open Idealize.ShloMosaic Idealize.ShloMosaic.TcCoe
open Cert.RopeTablesIdeal Cert.RopeTablesIdeal.Gen

/-- Four pieces of thirty-two columns side by side. -/
def four {α : Type} (f : Fin 4 → Fin 32 → α) (n : Fin 128) : α := f ⟨n.val / 32, by omega⟩ ⟨n.val % 32, by omega⟩

/-- The four pieces joined as a row. -/
theorem cat1 (a b c d : S32.Idx → EReal) (h) (n : Fin 128) :
    concatenate S128 0 [⟨S32, a⟩, ⟨S32, b⟩, ⟨S32, c⟩, ⟨S32, d⟩] h (ix1 n) = four (fun q k => ![a, b, c, d] q (ix1 k)) n :=
  concatenate_ofFn_apply (t := S128) (s₁ := S32) 0 ![a, b, c, d] h rfl 32 rfl (ix1 n) ⟨n.val / 32, by omega⟩ rfl (ix1 ⟨n.val % 32, by omega⟩) rfl
    (fun b hb => absurd (Subsingleton.elim (α := Fin 1) _ _) hb)

/-- The four pieces joined as columns of a table. -/
theorem cat2 (a b c d : Cert.RopeTablesRefIdeal.S4096x32.Idx → EReal) (h) (r : Fin 4096) (n : Fin 128) :
    concatenate S4096x128 1 [⟨Cert.RopeTablesRefIdeal.S4096x32, a⟩, ⟨Cert.RopeTablesRefIdeal.S4096x32, b⟩, ⟨Cert.RopeTablesRefIdeal.S4096x32, c⟩, ⟨Cert.RopeTablesRefIdeal.S4096x32, d⟩] h (ix2 r n) = four (fun q k => ![a, b, c, d] q (ix2 r k)) n :=
  concatenate_ofFn_apply (t := S4096x128) (s₁ := Cert.RopeTablesRefIdeal.S4096x32) 1 ![a, b, c, d] h rfl 32 rfl (ix2 r n) ⟨n.val / 32, by omega⟩ rfl (ix2 r ⟨n.val % 32, by omega⟩) rfl
    (fun b hb => by
      match b, hb with
      | ⟨0, _⟩, _ => rfl
      | ⟨1, _⟩, hb => exact absurd rfl hb)

/-- The angles' frequencies, the zeros and the ones. -/
def inv32 : S32.Idx → EReal := Cert.RopeTablesRefIdeal.Read.val_main_v6 (F := Ideal)
def zero32 : S32.Idx → EReal := broadcastInDim S32 ![] bcast_S_S32 (constant (F := Ideal) S_ .f32 0x00000000#32)
def one32 : S32.Idx → EReal := broadcastInDim S32 ![] bcast_S_S32 (constant (F := Ideal) S_ .f32 0x3F800000#32)
def neg32 : S32.Idx → EReal := Host.negf (F := Ideal) (φ := .f32) one32

theorem zero32_apply (i : S32.Idx) : zero32 i = 0 := Ideal.ofBits_zero_f32
theorem one32_apply (i : S32.Idx) : one32 i = 1 := Ideal.ofBits_one_f32
theorem neg32_apply (i : S32.Idx) : neg32 i = -1 := congrArg (fun x : EReal => -x) (one32_apply i)

/-- The angle of a position at a frequency. -/
def ang (p : BitVec 32) (k : Fin 32) : EReal := FloatOps.sitofp (F := Ideal) .f32 p * inv32 (ix1 k)

/-- The cosines' row of a position: the cosines twice, each followed by zeros. -/
def rowC (p : BitVec 32) : Fin 128 → EReal := four fun q k => ![Ideal.cos (ang p k), 0, Ideal.cos (ang p k), 0] q
/-- The sines' row of a position: the sines negated and the sines, each followed by zeros. -/
def rowS (p : BitVec 32) : Fin 128 → EReal := four fun q k => ![-Ideal.sin (ang p k), 0, Ideal.sin (ang p k), 0] q

/-- The table of the cosines. -/
def gC (P : S4096x1.Idx → BitVec 32) (y : S4096x128.Idx) : EReal := rowC (P (ix2 (y 0) 0)) (y 1)
/-- The table of the sines. -/
def gS (P : S4096x1.Idx → BitVec 32) (y : S4096x128.Idx) : EReal := rowS (P (ix2 (y 0) 0)) (y 1)

section
variable (p : BitVec 32) (n : Fin 128)

/-- A cosine times the mask is the row's entry. -/
theorem mask_cos : Ideal.cos (FloatOps.sitofp (F := Ideal) .f32 p * four (fun q k => ![inv32, zero32, inv32, zero32] q (ix1 k)) n)
    * four (fun q k => ![one32, zero32, one32, zero32] q (ix1 k)) n = rowC p n := by
  unfold rowC four ang
  generalize (⟨n.val / 32, _⟩ : Fin 4) = q
  generalize (⟨n.val % 32, _⟩ : Fin 32) = k
  match q with
  | ⟨0, _⟩ => exact (congrArg (_ * ·) (one32_apply (ix1 k))).trans (mul_one _)
  | ⟨1, _⟩ => exact (congrArg (_ * ·) (zero32_apply (ix1 k))).trans (mul_zero _)
  | ⟨2, _⟩ => exact (congrArg (_ * ·) (one32_apply (ix1 k))).trans (mul_one _)
  | ⟨3, _⟩ => exact (congrArg (_ * ·) (zero32_apply (ix1 k))).trans (mul_zero _)

/-- A sine times the sign is the row's entry. -/
theorem sign_sin : Ideal.sin (FloatOps.sitofp (F := Ideal) .f32 p * four (fun q k => ![inv32, zero32, inv32, zero32] q (ix1 k)) n)
    * four (fun q k => ![neg32, zero32, one32, zero32] q (ix1 k)) n = rowS p n := by
  unfold rowS four ang
  generalize (⟨n.val / 32, _⟩ : Fin 4) = q
  generalize (⟨n.val % 32, _⟩ : Fin 32) = k
  match q with
  | ⟨0, _⟩ => exact (congrArg (_ * ·) (neg32_apply (ix1 k))).trans ((mul_neg _ _).trans (congrArg (fun x : EReal => -x) (mul_one _)))
  | ⟨1, _⟩ => exact (congrArg (_ * ·) (zero32_apply (ix1 k))).trans (mul_zero _)
  | ⟨2, _⟩ => exact (congrArg (_ * ·) (one32_apply (ix1 k))).trans (mul_one _)
  | ⟨3, _⟩ => exact (congrArg (_ * ·) (zero32_apply (ix1 k))).trans (mul_zero _)
end

section
variable (v0 : Vec Ideal S512x1 .i32) (v2 v8 : Vec Ideal S1x128 .f32) (r : Fin 512) (n : Fin 128)

theorem payC : k0_pay2 (F := Ideal) v0 v2 v8 (ix2 r n) = (Ideal.cos (FloatOps.sitofp (F := Ideal) .f32 (v0 (ix2 r 0)) * v2 (ix2 0 n)) * v8 (ix2 0 n) : EReal) := by
  pointwise [k0_pay2, k0_pay1]

theorem payS : k0_pay3 (F := Ideal) v0 v2 v8 (ix2 r n) = (Ideal.sin (FloatOps.sitofp (F := Ideal) .f32 (v0 (ix2 r 0)) * v2 (ix2 0 n)) * v8 (ix2 0 n) : EReal) := by
  pointwise [k0_pay3, k0_pay1]
end

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

theorem lt (t : Fin cfg0.N) : t.val < 8 := Nat.lt_of_lt_of_eq t.isLt N_0

variable (m : (ℓ : Loc nD τ sig) → Buf (Elt Ideal) ℓ) (c : Dev nD) (t : Fin cfg0.N)

/-- The frequencies' row as the blocks find it. -/
theorem V_inv : V m c main_v10 = shapeCast S1x128 (concatenate S128 0 [⟨S32, inv32⟩, ⟨S32, zero32⟩, ⟨S32, inv32⟩, ⟨S32, zero32⟩]
    concatenates_S32_S32_S32_S32_S128_d0) shapeCasts_S128_S1x128 := by
  show StableHlo.after hostOps0 _ _ = _
  after_results_simp
  rfl

/-- The signs' row. -/
theorem V_sgn : V m c main_v13 = shapeCast S1x128 (concatenate S128 0 [⟨S32, neg32⟩, ⟨S32, zero32⟩, ⟨S32, one32⟩, ⟨S32, zero32⟩]
    concatenates_S32_S32_S32_S32_S128_d0) shapeCasts_S128_S1x128 := by
  show StableHlo.after hostOps0 _ _ = _
  after_results_simp
  rfl

/-- The mask's row. -/
theorem V_msk : V m c main_v15 = shapeCast S1x128 (concatenate S128 0 [⟨S32, one32⟩, ⟨S32, zero32⟩, ⟨S32, one32⟩, ⟨S32, zero32⟩]
    concatenates_S32_S32_S32_S32_S128_d0) shapeCasts_S128_S1x128 := by
  show StableHlo.after hostOps0 _ _ = _
  after_results_simp
  rfl

/-- Row `r` of tile `t`. -/
abbrev row (r : Fin 512) : Fin 4096 := ⟨t.val * 512 + r.val, by have := lt t; omega⟩

theorem read0 (r : Fin 512) (k : Fin 1) : iblk m c 0 t (ix2 r k) = m ((c.tc : Thread nD τ).loc main_arg0) (ix2 (row t r) 0) := by
  obtain rfl : k = 0 := Subsingleton.elim _ _
  rw [← V_main_arg0 m c]
  show iblk m c 0 t (ix2 r 0) = V m c main_arg0 (ix2 _ _)
  have := lt t
  blk_ext [iblk, idx t]

/-- A row of four pieces, read as a table of one row. -/
theorem cast_cat (a b d e : S32.Idx → EReal) (h) (n : Fin 128) :
    shapeCast S1x128 (concatenate S128 0 [⟨S32, a⟩, ⟨S32, b⟩, ⟨S32, d⟩, ⟨S32, e⟩] h) shapeCasts_S128_S1x128 (ix2 0 n) = four (fun q k => ![a, b, d, e] q (ix1 k)) n := by
  rw [← cat1 a b d e h n]
  generalize concatenate S128 0 [⟨S32, a⟩, ⟨S32, b⟩, ⟨S32, d⟩, ⟨S32, e⟩] h = x
  pointwise []

theorem read1 (n : Fin 128) : iblk m c 1 t (ix2 0 n) = four (fun q k => ![inv32, zero32, inv32, zero32] q (ix1 k)) n := by
  refine Eq.trans ?_ ((congrFun (V_inv m c) (ix2 0 n)).trans (cast_cat _ _ _ _ _ n))
  show iblk m c 1 t (ix2 0 n) = V m c main_v10 (ix2 _ _)
  blk_ext [iblk, idx t]

theorem read2 (n : Fin 128) : iblk m c 2 t (ix2 0 n) = four (fun q k => ![neg32, zero32, one32, zero32] q (ix1 k)) n := by
  refine Eq.trans ?_ ((congrFun (V_sgn m c) (ix2 0 n)).trans (cast_cat _ _ _ _ _ n))
  show iblk m c 2 t (ix2 0 n) = V m c main_v13 (ix2 _ _)
  blk_ext [iblk, idx t]

theorem read3 (n : Fin 128) : iblk m c 3 t (ix2 0 n) = four (fun q k => ![one32, zero32, one32, zero32] q (ix1 k)) n := by
  refine Eq.trans ?_ ((congrFun (V_msk m c) (ix2 0 n)).trans (cast_cat _ _ _ _ _ n))
  show iblk m c 3 t (ix2 0 n) = V m c main_v15 (ix2 _ _)
  blk_ext [iblk, idx t]

theorem out4 (r : Fin 512) (n : Fin 128) : (outsAt0 m c t).1 (ix2 r n) = rowC (m ((c.tc : Thread nD τ).loc main_arg0) (ix2 (row t r) 0)) n := by
  have h : (outsAt0 m c t).1 (ix2 r n) = k0_pay2 (F := Ideal) (iblk m c 0 t) (iblk m c 1 t) (iblk m c 3 t) (ix2 r n) := by
    unfold outsAt0
    frame_open
    frame_out
  rw [h, payC, read0, read1, read3]
  exact mask_cos _ n

theorem out5 (r : Fin 512) (n : Fin 128) : (outsAt0 m c t).2 (ix2 r n) = rowS (m ((c.tc : Thread nD τ).loc main_arg0) (ix2 (row t r) 0)) n := by
  have h : (outsAt0 m c t).2 (ix2 r n) = k0_pay3 (F := Ideal) (iblk m c 0 t) (iblk m c 1 t) (iblk m c 2 t) (ix2 r n) := by
    unfold outsAt0
    frame_open
    frame_out
  rw [h, payS, read0, read1, read2]
  exact sign_sin _ n

/-- The kernel's table of the cosines. -/
theorem kernel_eq4 : (dats m 0 c).arrAt 4 cfg0.N = gC (m ((c.tc : Thread nD τ).loc main_arg0)) := by
  refine (dats m 0 c).arrAt_eq_of_covers 4 _ (by decide +kernel) fun t hf y => ?_
  blk_simp [idx t]
  rw [after0_4]
  idx_vars y
  have ht := lt t
  have e : ((View.whole main_v16_0).slice (win0_4.rect t)).emb (ix2 y0 y1) = ix2 (row t y0) y1 := by
    blk_ext [idx t]
  rw [e]
  exact out4 m c t y0 y1

/-- The kernel's table of the sines. -/
theorem kernel_eq5 : (dats m 0 c).arrAt 5 cfg0.N = gS (m ((c.tc : Thread nD τ).loc main_arg0)) := by
  refine (dats m 0 c).arrAt_eq_of_covers 5 _ (by decide +kernel) fun t hf y => ?_
  blk_simp [idx t]
  rw [after0_5]
  idx_vars y
  have ht := lt t
  have e : ((View.whole main_v16_1).slice (win0_5.rect t)).emb (ix2 y0 y1) = ix2 (row t y0) y1 := by
    blk_ext [idx t]
  rw [e]
  exact out5 m c t y0 y1

section
open Cert.RopeTablesRefIdeal.Read
variable (X : Vec Ideal S4096x1 .i32)

theorem refAng (r : Fin 4096) (k : Fin 32) : val_main_v11 (F := Ideal) X (ix2 r k) = ang (X (ix2 r 0)) k := by
  pointwise [val_main_v11, val_main_v10, val_main_v9, val_main_v8, val_main_v7]
  rfl

theorem refZero (r : Fin 4096) (k : Fin 32) : val_main_v14 (F := Ideal) (ix2 r k) = 0 := Ideal.ofBits_zero_f32

/-- The reference's table of the cosines. -/
theorem refC : val_main_v15 (F := Ideal) X = gC X := by
  funext y
  idx_vars y
  refine (cat2 _ _ _ _ _ y0 y1).trans (?_ : _ = rowC (X (ix2 y0 0)) y1)
  refine congrArg (fun f => four f y1) ?_
  funext q k
  have hc : val_main_v12 (F := Ideal) X (ix2 y0 k) = Ideal.cos (ang (X (ix2 y0 0)) k) := congrArg Ideal.cos (refAng X y0 k)
  match q with
  | ⟨0, _⟩ => exact hc
  | ⟨1, _⟩ => exact refZero y0 k
  | ⟨2, _⟩ => exact hc
  | ⟨3, _⟩ => exact refZero y0 k

/-- The reference's table of the sines. -/
theorem refS : val_main_v17 (F := Ideal) X = gS X := by
  funext y
  idx_vars y
  refine (cat2 _ _ _ _ _ y0 y1).trans (?_ : _ = rowS (X (ix2 y0 0)) y1)
  refine congrArg (fun f => four f y1) ?_
  funext q k
  have hs : val_main_v13 (F := Ideal) X (ix2 y0 k) = Ideal.sin (ang (X (ix2 y0 0)) k) := congrArg Ideal.sin (refAng X y0 k)
  match q with
  | ⟨0, _⟩ => exact congrArg (fun x : EReal => -x) hs
  | ⟨1, _⟩ => exact refZero y0 k
  | ⟨2, _⟩ => exact hs
  | ⟨3, _⟩ => exact refZero y0 k
end

end Cert.RopeTablesCall
-- ==== Proof.RopeTables.Claims.lean ====
/- The claims: the tables of the rotation's cosines and sines. -/
module

public import proofs.«01_k».proof.Defs
public import proofs.«01_k».proof.Proof.Gen.RopeTables.Frame
public import proofs.«01_k».proof.Proof.RopeTables.Value
public import proofs.«01_k».proof.Proof.Gen.RopeTablesRefIdeal.Run

@[expose] public section

noncomputable section

namespace Cert.RopeTablesCall

open Idealize.ShloMosaic Idealize.SL.Sem

theorem frame_kernel : Cert.quiescent_RopeTables := fun m ρ _ => Cert.RopeTables.Gen.frame m ρ

theorem frame_ideal : Cert.quiescent_RopeTablesIdeal := fun m ρ _ => Cert.RopeTablesIdeal.Gen.frame m ρ

theorem frame_ref : Cert.quiescent_RopeTablesRefIdeal := fun m ρ _ =>
  (θ_run Cert.RopeTablesRefIdeal.defs _ _).mono (fun r h => ⟨fun c => (h c).2.2, sem_eq_zero_of_no_sems (by decide) r.2⟩)
    (Cert.RopeTablesRefIdeal.Value.run m ρ)

theorem preserves : Cert.preserves_RopeTables_RopeTablesIdeal := trivial

theorem algebraic : Cert.algebraic_RopeTablesIdeal_RopeTablesRefIdeal := by
  intro m g m' g' hp ha
  refine ⟨fun c => gC (m ((c.tc : Thread Cert.RopeTablesIdeal.nD Cert.RopeTablesIdeal.τ).loc Cert.RopeTablesIdeal.main_arg0)),
    fun c => gS (m ((c.tc : Thread Cert.RopeTablesIdeal.nD Cert.RopeTablesIdeal.τ).loc Cert.RopeTablesIdeal.main_arg0)), ?_, ?_⟩
  · refine (θ_run _ _ _).mono (fun r h c => ?_) (Cert.RopeTablesIdeal.Value.run_blocks m g)
    obtain ⟨h0, h1, hr⟩ := h c
    exact ⟨h0.trans (kernel_eq4 m c), h1.trans (kernel_eq5 m c), hr⟩
  · refine (θ_run _ _ _).mono (fun r h c => ?_) (Cert.RopeTablesRefIdeal.Value.run m' g')
    obtain ⟨h0, h1, hr⟩ := h c
    obtain ⟨a0, a1⟩ := ha c
    refine ⟨h0.trans ?_, h1.trans ?_, hr⟩
    · rw [Cert.RopeTablesRefIdeal.Read.val_main_v15_eq, a0]
      exact refC _
    · rw [Cert.RopeTablesRefIdeal.Read.val_main_v17_eq, a0]
      exact refS _

end Cert.RopeTablesCall
-- ==== Proof.AdamwEq.lean ====
/- The optimiser's step of one entry. -/
module

public import Idealize.ShloMosaic.PureOps.Ideal

@[expose] public section

noncomputable section

namespace Cert.Adamw

open Idealize.ShloMosaic

/-- The new mean of the gradients `g`, from the old mean `m`. -/
def newM (g m : EReal) : EReal := Ideal.ofBits .f32 0x3F666666#32 * m + Ideal.ofBits .f32 0x3DCCCCCD#32 * g

/-- The new mean of their squares, from the old one `v`. -/
def newV (g v : EReal) : EReal := Ideal.ofBits .f32 0x3F7FBE77#32 * v + Ideal.ofBits .f32 0x3A83126F#32 * (g * g)

/-- The change of the weight `w`. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adamw
-- ==== Proof.AdamwGdnConv.Value.lean ====
/- The optimiser's step of the convolution's taps: the block and the reference are one function. -/
module

public import proofs.«01_k».proof.Proof.AdamwEq
public import proofs.«01_k».proof.Proof.Gen.AdamwGdnConvIdeal.Value
public import proofs.«01_k».proof.Proof.Gen.AdamwGdnConvRefIdeal.Read
public import Idealize.ShloMosaic.Lib.Pipeline.ValueKit
public import Idealize.ShloMosaic.Lib.Pipeline.ReadBack

@[expose] public section

set_option maxRecDepth 16384

noncomputable section

namespace Cert.AdamwGdnConvCall

open Idealize.ShloMosaic Idealize.ShloMosaic.TcCoe Cert.Adamw
open Cert.AdamwGdnConvIdeal Cert.AdamwGdnConvIdeal.Gen

/-- The change of the weight. -/
def gD (W : S1x4x384.Idx → EReal) (A : S4x384.Idx → EReal) (M V : S1x4x384.Idx → EReal) (y : S1x4x384.Idx) : EReal :=
  delta (W y) (A (ix2 (y 1) (y 2))) (M y) (V y)
/-- The new mean of the gradients. -/
def gM (A : S4x384.Idx → EReal) (M : S1x4x384.Idx → EReal) (y : S1x4x384.Idx) : EReal := newM (A (ix2 (y 1) (y 2))) (M y)
/-- The new mean of their squares. -/
def gV (A : S4x384.Idx → EReal) (V : S1x4x384.Idx → EReal) (y : S1x4x384.Idx) : EReal := newV (A (ix2 (y 1) (y 2))) (V y)

section
variable (a : Vec Ideal S4x384 .f32) (w p q : Vec Ideal S1x4x384 .f32) (u : Fin 1) (r : Fin 4) (n : Fin 384)

theorem payM : k0_pay1 (F := Ideal) (k0_pay3 a p) (ix3 u r n) = newM (a (ix2 r n)) (p (ix3 u r n)) := by
  obtain rfl : u = 0 := Subsingleton.elim _ _
  pointwise [k0_pay1, k0_pay3]
  rfl

theorem payV : k0_pay2 (F := Ideal) (k0_pay4 a q) (ix3 u r n) = newV (a (ix2 r n)) (q (ix3 u r n)) := by
  obtain rfl : u = 0 := Subsingleton.elim _ _
  pointwise [k0_pay2, k0_pay4]
  rfl

theorem payD : k0_pay5 (F := Ideal) w a p q (ix3 u r n) = delta (w (ix3 u r n)) (a (ix2 r n)) (p (ix3 u r n)) (q (ix3 u r n)) := by
  obtain rfl : u = 0 := Subsingleton.elim _ _
  pointwise [k0_pay5, k0_pay4, k0_pay3]
  rfl
end

theorem idx : ∀ t : Fin cfg0.N, win0_0.index t = ![0, 0, 0] ∧ win0_1.index t = ![0, 0] ∧ win0_2.index t = ![0, 0, 0]
    ∧ win0_3.index t = ![0, 0, 0] ∧ win0_4.index t = ![0, 0, 0] ∧ win0_5.index t = ![0, 0, 0] ∧ win0_6.index t = ![0, 0, 0] :=
  (by decide +kernel : ∀ t : Fin grid0.N, _)

variable (m : (ℓ : Loc nD τ sig) → Buf (Elt Ideal) ℓ) (c : Dev nD) (t : Fin cfg0.N)

section
variable (u : Fin 1) (r : Fin 4) (n : Fin 384)

theorem read0 : iblk m c 0 t (ix3 u r n) = m ((c.tc : Thread nD τ).loc main_arg0) (ix3 u r n) := by
  show iblk m c 0 t (ix3 u r n) = m ((c.tc : Thread nD τ).loc main_arg0) (ix3 _ _ _)
  blk_ext [iblk, V, idx t]

theorem read1 : iblk m c 1 t (ix2 r n) = m ((c.tc : Thread nD τ).loc main_arg1) (ix2 r n) := by
  show iblk m c 1 t (ix2 r n) = m ((c.tc : Thread nD τ).loc main_arg1) (ix2 _ _)
  blk_ext [iblk, V, idx t]

theorem read2 : iblk m c 2 t (ix3 u r n) = m ((c.tc : Thread nD τ).loc main_arg2) (ix3 u r n) := by
  show iblk m c 2 t (ix3 u r n) = m ((c.tc : Thread nD τ).loc main_arg2) (ix3 _ _ _)
  blk_ext [iblk, V, idx t]

theorem read3 : iblk m c 3 t (ix3 u r n) = m ((c.tc : Thread nD τ).loc main_arg3) (ix3 u r n) := by
  show iblk m c 3 t (ix3 u r n) = m ((c.tc : Thread nD τ).loc main_arg3) (ix3 _ _ _)
  blk_ext [iblk, V, idx t]
end

theorem out4 (y : S1x4x384.Idx) : out0_4 (F := Ideal) (iblk m c 0 t) (iblk m c 1 t) (iblk m c 2 t) (iblk m c 3 t) y = k0_pay5 (F := Ideal) (iblk m c 0 t) (iblk m c 1 t) (iblk m c 2 t) (iblk m c 3 t) y := by
  frame_open
  frame_out

theorem out5 (y : S1x4x384.Idx) : out0_5 (F := Ideal) (iblk m c 0 t) (iblk m c 1 t) (iblk m c 2 t) (iblk m c 3 t) y = k0_pay1 (F := Ideal) (k0_pay3 (iblk m c 1 t) (iblk m c 2 t)) y := by
  frame_open
  frame_out

theorem out6 (y : S1x4x384.Idx) : out0_6 (F := Ideal) (iblk m c 0 t) (iblk m c 1 t) (iblk m c 2 t) (iblk m c 3 t) y = k0_pay2 (F := Ideal) (k0_pay4 (iblk m c 1 t) (iblk m c 3 t)) y := by
  frame_open
  frame_out

/-- The kernel's change of the weight. -/
theorem kernel_eq4 : (dats m 0 c).arrAt 4 cfg0.N = gD (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp [idx t]
  rw [after0_4]
  idx_vars y
  have e : ((View.whole main_v0_0).slice (win0_4.rect t)).emb (ix3 y0 y1 y2) = ix3 y0 y1 y2 := by
    blk_ext [idx t]
  rw [e]
  refine (out4 m c t _).trans ((payD _ _ _ _ y0 y1 y2).trans ?_)
  simp only [read0, read1, read2, read3]
  rfl

/-- The kernel's new mean of the gradients. -/
theorem kernel_eq5 : (dats m 0 c).arrAt 5 cfg0.N = gM (m ((c.tc : Thread nD τ).loc main_arg1)) (m ((c.tc : Thread nD τ).loc main_arg2)) := by
  refine (dats m 0 c).arrAt_eq_of_covers 5 _ (by decide +kernel) fun t hf y => ?_
  blk_simp [idx t]
  rw [after0_5]
  idx_vars y
  have e : ((View.whole main_v0_1).slice (win0_5.rect t)).emb (ix3 y0 y1 y2) = ix3 y0 y1 y2 := by
    blk_ext [idx t]
  rw [e]
  refine (out5 m c t _).trans ((payM _ _ y0 y1 y2).trans ?_)
  simp only [read1, read2]
  rfl

/-- The kernel's new mean of their squares. -/
theorem kernel_eq6 : (dats m 0 c).arrAt 6 cfg0.N = gV (m ((c.tc : Thread nD τ).loc main_arg1)) (m ((c.tc : Thread nD τ).loc main_arg3)) := by
  refine (dats m 0 c).arrAt_eq_of_covers 6 _ (by decide +kernel) fun t hf y => ?_
  blk_simp [idx t]
  rw [after0_6]
  idx_vars y
  have e : ((View.whole main_v0_2).slice (win0_6.rect t)).emb (ix3 y0 y1 y2) = ix3 y0 y1 y2 := by
    blk_ext [idx t]
  rw [e]
  refine (out6 m c t _).trans ((payV _ _ y0 y1 y2).trans ?_)
  simp only [read1, read3]
  rfl

section
open Cert.AdamwGdnConvRefIdeal.Read
variable (W : Vec Ideal S1x4x384 .f32) (A : Vec Ideal S4x384 .f32) (P Q : Vec Ideal S1x4x384 .f32)

/-- The reference's results. -/
theorem refM : val_main_v5 (F := Ideal) A P = gM A P := by
  funext y
  idx_vars y
  pointwise [val_main_v5, val_main_v4, val_main_v3, val_main_cst_0, val_main_v2, val_main_v1, val_main_cst, val_main_v0]
  rfl
theorem refV : val_main_v11 (F := Ideal) A Q = gV A Q := by
  funext y
  idx_vars y
  pointwise [val_main_v11, val_main_v10, val_main_v9, val_main_cst_2, val_main_v8, val_main_v7, val_main_v6, val_main_cst_1, val_main_v0]
  rfl
theorem refD : val_main_v24 (F := Ideal) W A P Q = gD W A P Q := by
  funext y
  idx_vars y
  pointwise [val_main_v24, val_main_v23, val_main_cst_7, val_main_v22, val_main_v21, val_main_v20, val_main_cst_6, val_main_v19, val_main_v18, val_main_v17, val_main_cst_5, val_main_v16, val_main_v15, val_main_v14, val_main_cst_4, val_main_v13, val_main_v12, val_main_cst_3]
  rw [refM, refV]
  rfl
end

end Cert.AdamwGdnConvCall
-- ==== Proof.AdamwGdnConv.Claims.lean ====
/- The claims: the optimiser's step of the convolution's taps. -/
module

public import proofs.«01_k».proof.Defs
public import proofs.«01_k».proof.Proof.Gen.AdamwGdnConv.Frame
public import proofs.«01_k».proof.Proof.AdamwGdnConv.Value
public import proofs.«01_k».proof.Proof.Gen.AdamwGdnConvRefIdeal.Run

@[expose] public section

noncomputable section

namespace Cert.AdamwGdnConvCall

open Idealize.ShloMosaic Idealize.SL.Sem

theorem frame_kernel : Cert.quiescent_AdamwGdnConv := fun m ρ _ => Cert.AdamwGdnConv.Gen.frame m ρ

theorem frame_ideal : Cert.quiescent_AdamwGdnConvIdeal := fun m ρ _ => Cert.AdamwGdnConvIdeal.Gen.frame m ρ

theorem frame_ref : Cert.quiescent_AdamwGdnConvRefIdeal := fun m ρ _ =>
  (θ_run Cert.AdamwGdnConvRefIdeal.defs _ _).mono (fun r h => ⟨fun c => (h c).2.2.2, sem_eq_zero_of_no_sems (by decide) r.2⟩)
    (Cert.AdamwGdnConvRefIdeal.Value.run m ρ)

theorem preserves : Cert.preserves_AdamwGdnConv_AdamwGdnConvIdeal := trivial

theorem algebraic : Cert.algebraic_AdamwGdnConvIdeal_AdamwGdnConvRefIdeal := by
  intro m g m' g' hp ha
  refine ⟨fun c => gD (m ((c.tc : Thread Cert.AdamwGdnConvIdeal.nD Cert.AdamwGdnConvIdeal.τ).loc Cert.AdamwGdnConvIdeal.main_arg0)) (m ((c.tc : Thread Cert.AdamwGdnConvIdeal.nD Cert.AdamwGdnConvIdeal.τ).loc Cert.AdamwGdnConvIdeal.main_arg1)) (m ((c.tc : Thread Cert.AdamwGdnConvIdeal.nD Cert.AdamwGdnConvIdeal.τ).loc Cert.AdamwGdnConvIdeal.main_arg2)) (m ((c.tc : Thread Cert.AdamwGdnConvIdeal.nD Cert.AdamwGdnConvIdeal.τ).loc Cert.AdamwGdnConvIdeal.main_arg3)),
    fun c => gM (m ((c.tc : Thread Cert.AdamwGdnConvIdeal.nD Cert.AdamwGdnConvIdeal.τ).loc Cert.AdamwGdnConvIdeal.main_arg1)) (m ((c.tc : Thread Cert.AdamwGdnConvIdeal.nD Cert.AdamwGdnConvIdeal.τ).loc Cert.AdamwGdnConvIdeal.main_arg2)),
    fun c => gV (m ((c.tc : Thread Cert.AdamwGdnConvIdeal.nD Cert.AdamwGdnConvIdeal.τ).loc Cert.AdamwGdnConvIdeal.main_arg1)) (m ((c.tc : Thread Cert.AdamwGdnConvIdeal.nD Cert.AdamwGdnConvIdeal.τ).loc Cert.AdamwGdnConvIdeal.main_arg3)), ?_, ?_⟩
  · refine (θ_run _ _ _).mono (fun r h c => ?_) (Cert.AdamwGdnConvIdeal.Value.run_blocks m g)
    obtain ⟨h0, h1, h2, hr⟩ := h c
    exact ⟨h0.trans (kernel_eq4 m c), h1.trans (kernel_eq5 m c), h2.trans (kernel_eq6 m c), hr⟩
  · refine (θ_run _ _ _).mono (fun r h c => ?_) (Cert.AdamwGdnConvRefIdeal.Value.run m' g')
    obtain ⟨h0, h1, h2, hr⟩ := h c
    obtain ⟨a0, a1, a2, a3⟩ := ha c
    refine ⟨h0.trans ?_, h1.trans ?_, h2.trans ?_, hr⟩
    · rw [Cert.AdamwGdnConvRefIdeal.Read.val_main_v24_eq, a0, a1, a2, a3]
      exact refD _ _ _ _
    · rw [Cert.AdamwGdnConvRefIdeal.Read.val_main_v5_eq, a1, a2]
      exact refM _ _
    · rw [Cert.AdamwGdnConvRefIdeal.Read.val_main_v11_eq, a1, a3]
      exact refV _ _

end Cert.AdamwGdnConvCall
-- ==== Proof.AdamwWMemKv.Value.lean ====
/- The optimiser's step of the memory projection's weight: the blocks and the reference are one function. -/
module

public import proofs.«01_k».proof.Proof.AdamwEq
public import proofs.«01_k».proof.Proof.Gen.AdamwWMemKvIdeal.Value
public import proofs.«01_k».proof.Proof.Gen.AdamwWMemKvRefIdeal.Read
public import Idealize.ShloMosaic.Lib.Pipeline.ValueKit
public import Idealize.ShloMosaic.Lib.Pipeline.ReadBack

@[expose] public section

set_option maxRecDepth 16384

noncomputable section

namespace Cert.AdamwWMemKvCall

open Idealize.ShloMosaic Idealize.ShloMosaic.TcCoe Cert.Adamw
open Cert.AdamwWMemKvIdeal Cert.AdamwWMemKvIdeal.Gen

/-- The gradient: the sum of its two parts. -/
def gG (A B : S256x1024.Idx → EReal) (y : S1x256x1024.Idx) : EReal := A (ix2 (y 1) (y 2)) + B (ix2 (y 1) (y 2))
/-- The change of the weight. -/
def gD (W : S1x256x1024.Idx → EReal) (A B : S256x1024.Idx → EReal) (M V : S1x256x1024.Idx → EReal) (y : S1x256x1024.Idx) : EReal :=
  delta (W y) (gG A B y) (M y) (V y)
/-- The new mean of the gradients. -/
def gM (A B : S256x1024.Idx → EReal) (M : S1x256x1024.Idx → EReal) (y : S1x256x1024.Idx) : EReal := newM (gG A B y) (M y)
/-- The new mean of their squares. -/
def gV (A B : S256x1024.Idx → EReal) (V : S1x256x1024.Idx → EReal) (y : S1x256x1024.Idx) : EReal := newV (gG A B y) (V y)

section
variable (a b : Vec Ideal S256x1024 .f32) (w p q : Vec Ideal S1x256x1024 .f32) (u : Fin 1) (r : Fin 256) (n : Fin 1024)

theorem payG : k0_pay5 (F := Ideal) a b (ix3 u r n) = a (ix2 r n) + b (ix2 r n) := by
  pointwise [k0_pay5, k0_pay4]

theorem payM : k0_pay2 (F := Ideal) (k0_pay6 a b p) (ix3 u r n) = newM (a (ix2 r n) + b (ix2 r n)) (p (ix3 u r n)) := by
  obtain rfl : u = 0 := Subsingleton.elim _ _
  pointwise [k0_pay2, k0_pay6, k0_pay4]
  rfl

theorem payV : k0_pay3 (F := Ideal) (k0_pay7 a b q) (ix3 u r n) = newV (a (ix2 r n) + b (ix2 r n)) (q (ix3 u r n)) := by
  obtain rfl : u = 0 := Subsingleton.elim _ _
  pointwise [k0_pay3, k0_pay7, k0_pay4]
  rfl

theorem payD : k0_pay1 (F := Ideal) (k0_pay8 a b w p q) (ix3 u r n)
    = delta (w (ix3 u r n)) (a (ix2 r n) + b (ix2 r n)) (p (ix3 u r n)) (q (ix3 u r n)) := by
  obtain rfl : u = 0 := Subsingleton.elim _ _
  pointwise [k0_pay1, k0_pay8, k0_pay7, k0_pay6, k0_pay4]
  rfl
end

theorem idx : ∀ t : Fin cfg0.N, win0_0.index t = ![0, 0, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0] :=
  (by decide +kernel : ∀ t : Fin grid0.N, _)

theorem lt (t : Fin cfg0.N) : t.val < 1 := Nat.lt_of_lt_of_eq t.isLt N_0

variable (m : (ℓ : Loc nD τ sig) → Buf (Elt Ideal) ℓ) (c : Dev nD) (t : Fin cfg0.N)

/-- Row `r` of tile `t`. -/
abbrev row (r : Fin 256) : Fin 256 := ⟨t.val * 256 + r.val, by have := lt t; omega⟩

section
variable (u : Fin 1) (r : Fin 256) (n : Fin 1024)

theorem read0 : iblk m c 0 t (ix3 u r n) = m ((c.tc : Thread nD τ).loc main_arg0) (ix3 u (row t r) n) := by
  show iblk m c 0 t (ix3 u r n) = m ((c.tc : Thread nD τ).loc main_arg0) (ix3 _ _ _)
  have := lt t
  blk_ext [iblk, V, idx t]

theorem read1 : iblk m c 1 t (ix2 r n) = m ((c.tc : Thread nD τ).loc main_arg1) (ix2 (row t r) n) := by
  show iblk m c 1 t (ix2 r n) = m ((c.tc : Thread nD τ).loc main_arg1) (ix2 _ _)
  have := lt t
  blk_ext [iblk, V, idx t]

theorem read2 : iblk m c 2 t (ix2 r n) = m ((c.tc : Thread nD τ).loc main_arg2) (ix2 (row t r) n) := by
  show iblk m c 2 t (ix2 r n) = m ((c.tc : Thread nD τ).loc main_arg2) (ix2 _ _)
  have := lt t
  blk_ext [iblk, V, idx t]

theorem read3 : iblk m c 3 t (ix3 u r n) = m ((c.tc : Thread nD τ).loc main_arg3) (ix3 u (row t r) n) := by
  show iblk m c 3 t (ix3 u r n) = m ((c.tc : Thread nD τ).loc main_arg3) (ix3 _ _ _)
  have := lt t
  blk_ext [iblk, V, idx t]

theorem read4 : iblk m c 4 t (ix3 u r n) = m ((c.tc : Thread nD τ).loc main_arg4) (ix3 u (row t r) n) := by
  show iblk m c 4 t (ix3 u r n) = m ((c.tc : Thread nD τ).loc main_arg4) (ix3 _ _ _)
  have := lt t
  blk_ext [iblk, V, idx t]
end

theorem out5 (y : S1x256x1024.Idx) : out0_5 (F := Ideal) (iblk m c 0 t) (iblk m c 1 t) (iblk m c 2 t) (iblk m c 3 t) (iblk m c 4 t) y
    = k0_pay5 (F := Ideal) (iblk m c 1 t) (iblk m c 2 t) y := by
  frame_open
  frame_out

theorem out6 (y : S1x256x1024.Idx) : out0_6 (F := Ideal) (iblk m c 0 t) (iblk m c 1 t) (iblk m c 2 t) (iblk m c 3 t) (iblk m c 4 t) y
    = k0_pay1 (F := Ideal) (k0_pay8 (iblk m c 1 t) (iblk m c 2 t) (iblk m c 0 t) (iblk m c 3 t) (iblk m c 4 t)) y := by
  frame_open
  frame_out

theorem out7 (y : S1x256x1024.Idx) : out0_7 (F := Ideal) (iblk m c 0 t) (iblk m c 1 t) (iblk m c 2 t) (iblk m c 3 t) (iblk m c 4 t) y
    = k0_pay2 (F := Ideal) (k0_pay6 (iblk m c 1 t) (iblk m c 2 t) (iblk m c 3 t)) y := by
  frame_open
  frame_out

theorem out8 (y : S1x256x1024.Idx) : out0_8 (F := Ideal) (iblk m c 0 t) (iblk m c 1 t) (iblk m c 2 t) (iblk m c 3 t) (iblk m c 4 t) y
    = k0_pay3 (F := Ideal) (k0_pay7 (iblk m c 1 t) (iblk m c 2 t) (iblk m c 4 t)) y := by
  frame_open
  frame_out

/-- The kernel's gradient. -/
theorem kernel_eq5 : (dats m 0 c).arrAt 5 cfg0.N = gG (m ((c.tc : Thread nD τ).loc main_arg1)) (m ((c.tc : Thread nD τ).loc main_arg2)) := by
  refine (dats m 0 c).arrAt_eq_of_covers 5 _ (by decide +kernel) fun t hf y => ?_
  blk_simp [idx t]
  rw [after0_5]
  idx_vars y
  have ht := lt t
  have e : ((View.whole main_v0_0).slice (win0_5.rect t)).emb (ix3 y0 y1 y2) = ix3 y0 (row t y1) y2 := by
    blk_ext [idx t]
  rw [e]
  refine (out5 m c t _).trans ((payG _ _ y0 y1 y2).trans ?_)
  simp only [read1, read2]
  rfl

/-- The kernel's change of the weight. -/
theorem kernel_eq6 : (dats m 0 c).arrAt 6 cfg0.N = gD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp [idx t]
  rw [after0_6]
  idx_vars y
  have ht := lt t
  have e : ((View.whole main_v0_1).slice (win0_6.rect t)).emb (ix3 y0 y1 y2) = ix3 y0 (row t y1) y2 := by
    blk_ext [idx t]
  rw [e]
  refine (out6 m c t _).trans ((payD _ _ _ _ _ y0 y1 y2).trans ?_)
  simp only [read0, read1, read2, read3, read4]
  rfl

/-- The kernel's new mean of the gradients. -/
theorem kernel_eq7 : (dats m 0 c).arrAt 7 cfg0.N = gM (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp [idx t]
  rw [after0_7]
  idx_vars y
  have ht := lt t
  have e : ((View.whole main_v0_2).slice (win0_7.rect t)).emb (ix3 y0 y1 y2) = ix3 y0 (row t y1) y2 := by
    blk_ext [idx t]
  rw [e]
  refine (out7 m c t _).trans ((payM _ _ _ y0 y1 y2).trans ?_)
  simp only [read1, read2, read3]
  rfl

/-- The kernel's new mean of their squares. -/
theorem kernel_eq8 : (dats m 0 c).arrAt 8 cfg0.N = gV (m ((c.tc : Thread nD τ).loc main_arg1)) (m ((c.tc : Thread nD τ).loc main_arg2)) (m ((c.tc : Thread nD τ).loc main_arg4)) := by
  refine (dats m 0 c).arrAt_eq_of_covers 8 _ (by decide +kernel) fun t hf y => ?_
  blk_simp [idx t]
  rw [after0_8]
  idx_vars y
  have ht := lt t
  have e : ((View.whole main_v0_3).slice (win0_8.rect t)).emb (ix3 y0 y1 y2) = ix3 y0 (row t y1) y2 := by
    blk_ext [idx t]
  rw [e]
  refine (out8 m c t _).trans ((payV _ _ _ y0 y1 y2).trans ?_)
  simp only [read1, read2, read4]
  rfl

section
open Cert.AdamwWMemKvRefIdeal.Read
variable (W : Vec Ideal S1x256x1024 .f32) (A B : Vec Ideal S256x1024 .f32) (P Q : Vec Ideal S1x256x1024 .f32)

/-- The reference's results. -/
theorem refG : val_main_v1 (F := Ideal) A B = gG A B := by
  funext y
  idx_vars y
  pointwise [val_main_v1, val_main_v0]
  rfl
theorem refM : val_main_v6 (F := Ideal) A B P = gM A B P := by
  funext y
  idx_vars y
  pointwise [val_main_v6, val_main_v5, val_main_v4, val_main_cst_0, val_main_v3, val_main_v2, val_main_cst]
  rw [refG]
  rfl
theorem refV : val_main_v12 (F := Ideal) A B Q = gV A B Q := by
  funext y
  idx_vars y
  pointwise [val_main_v12, val_main_v11, val_main_v10, val_main_cst_2, val_main_v9, val_main_v8, val_main_v7, val_main_cst_1]
  rw [refG]
  rfl
theorem refD : val_main_v25 (F := Ideal) W A B P Q = gD W A B P Q := by
  funext y
  idx_vars y
  pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3]
  rw [refM, refV]
  rfl
end

end Cert.AdamwWMemKvCall
-- ==== Proof.AdamwWMemKv.Claims.lean ====
/- The claims: the optimiser's step of the memory projection's weight. -/
module

public import proofs.«01_k».proof.Defs
public import proofs.«01_k».proof.Proof.Gen.AdamwWMemKv.Frame
public import proofs.«01_k».proof.Proof.AdamwWMemKv.Value
public import proofs.«01_k».proof.Proof.Gen.AdamwWMemKvRefIdeal.Run

@[expose] public section

noncomputable section

namespace Cert.AdamwWMemKvCall

open Idealize.ShloMosaic Idealize.SL.Sem

theorem frame_kernel : Cert.quiescent_AdamwWMemKv := fun m ρ _ => Cert.AdamwWMemKv.Gen.frame m ρ

theorem frame_ideal : Cert.quiescent_AdamwWMemKvIdeal := fun m ρ _ => Cert.AdamwWMemKvIdeal.Gen.frame m ρ

theorem frame_ref : Cert.quiescent_AdamwWMemKvRefIdeal := fun m ρ _ =>
  (θ_run Cert.AdamwWMemKvRefIdeal.defs _ _).mono (fun r h => ⟨fun c => (h c).2.2.2.2, sem_eq_zero_of_no_sems (by decide) r.2⟩)
    (Cert.AdamwWMemKvRefIdeal.Value.run m ρ)

theorem preserves : Cert.preserves_AdamwWMemKv_AdamwWMemKvIdeal := trivial

theorem algebraic : Cert.algebraic_AdamwWMemKvIdeal_AdamwWMemKvRefIdeal := by
  intro m g m' g' hp ha
  refine ⟨fun c => gG (m ((c.tc : Thread Cert.AdamwWMemKvIdeal.nD Cert.AdamwWMemKvIdeal.τ).loc Cert.AdamwWMemKvIdeal.main_arg1)) (m ((c.tc : Thread Cert.AdamwWMemKvIdeal.nD Cert.AdamwWMemKvIdeal.τ).loc Cert.AdamwWMemKvIdeal.main_arg2)),
    fun c => gD (m ((c.tc : Thread Cert.AdamwWMemKvIdeal.nD Cert.AdamwWMemKvIdeal.τ).loc Cert.AdamwWMemKvIdeal.main_arg0)) (m ((c.tc : Thread Cert.AdamwWMemKvIdeal.nD Cert.AdamwWMemKvIdeal.τ).loc Cert.AdamwWMemKvIdeal.main_arg1)) (m ((c.tc : Thread Cert.AdamwWMemKvIdeal.nD Cert.AdamwWMemKvIdeal.τ).loc Cert.AdamwWMemKvIdeal.main_arg2)) (m ((c.tc : Thread Cert.AdamwWMemKvIdeal.nD Cert.AdamwWMemKvIdeal.τ).loc Cert.AdamwWMemKvIdeal.main_arg3)) (m ((c.tc : Thread Cert.AdamwWMemKvIdeal.nD Cert.AdamwWMemKvIdeal.τ).loc Cert.AdamwWMemKvIdeal.main_arg4)),
    fun c => gM (m ((c.tc : Thread Cert.AdamwWMemKvIdeal.nD Cert.AdamwWMemKvIdeal.τ).loc Cert.AdamwWMemKvIdeal.main_arg1)) (m ((c.tc : Thread Cert.AdamwWMemKvIdeal.nD Cert.AdamwWMemKvIdeal.τ).loc Cert.AdamwWMemKvIdeal.main_arg2)) (m ((c.tc : Thread Cert.AdamwWMemKvIdeal.nD Cert.AdamwWMemKvIdeal.τ).loc Cert.AdamwWMemKvIdeal.main_arg3)),
    fun c => gV (m ((c.tc : Thread Cert.AdamwWMemKvIdeal.nD Cert.AdamwWMemKvIdeal.τ).loc Cert.AdamwWMemKvIdeal.main_arg1)) (m ((c.tc : Thread Cert.AdamwWMemKvIdeal.nD Cert.AdamwWMemKvIdeal.τ).loc Cert.AdamwWMemKvIdeal.main_arg2)) (m ((c.tc : Thread Cert.AdamwWMemKvIdeal.nD Cert.AdamwWMemKvIdeal.τ).loc Cert.AdamwWMemKvIdeal.main_arg4)), ?_, ?_⟩
  · refine (θ_run _ _ _).mono (fun r h c => ?_) (Cert.AdamwWMemKvIdeal.Value.run_blocks m g)
    obtain ⟨h0, h1, h2, h3, hr⟩ := h c
    exact ⟨h0.trans (kernel_eq5 m c), h1.trans (kernel_eq6 m c), h2.trans (kernel_eq7 m c), h3.trans (kernel_eq8 m c), hr⟩
  · refine (θ_run _ _ _).mono (fun r h c => ?_) (Cert.AdamwWMemKvRefIdeal.Value.run m' g')
    obtain ⟨h0, h1, h2, h3, hr⟩ := h c
    obtain ⟨a0, a1, a2, a3, a4⟩ := ha c
    refine ⟨h0.trans ?_, h1.trans ?_, h2.trans ?_, h3.trans ?_, hr⟩
    · rw [Cert.AdamwWMemKvRefIdeal.Read.val_main_v1_eq, a1, a2]
      exact refG _ _
    · rw [Cert.AdamwWMemKvRefIdeal.Read.val_main_v25_eq, a0, a1, a2, a3, a4]
      exact refD _ _ _ _ _
    · rw [Cert.AdamwWMemKvRefIdeal.Read.val_main_v6_eq, a1, a2, a3]
      exact refM _ _ _
    · rw [Cert.AdamwWMemKvRefIdeal.Read.val_main_v12_eq, a1, a2, a4]
      exact refV _ _ _

end Cert.AdamwWMemKvCall
-- ==== Proof.AdamwWOut.Value.lean ====
/- The optimiser's step of the output projection's weight: the blocks and the reference are one function. -/
module

public import proofs.«01_k».proof.Proof.AdamwEq
public import proofs.«01_k».proof.Proof.Gen.AdamwWOutIdeal.Value
public import proofs.«01_k».proof.Proof.Gen.AdamwWOutRefIdeal.Read
public import Idealize.ShloMosaic.Lib.Pipeline.ValueKit
public import Idealize.ShloMosaic.Lib.Pipeline.ReadBack

@[expose] public section

set_option maxRecDepth 16384

noncomputable section

namespace Cert.AdamwWOutCall

open Idealize.ShloMosaic Idealize.ShloMosaic.TcCoe Cert.Adamw
open Cert.AdamwWOutIdeal Cert.AdamwWOutIdeal.Gen

/-- The gradient: the sum of its two parts. -/
def gG (A B : S384x1024.Idx → EReal) (y : S1x384x1024.Idx) : EReal := A (ix2 (y 1) (y 2)) + B (ix2 (y 1) (y 2))
/-- The change of the weight. -/
def gD (W : S1x384x1024.Idx → EReal) (A B : S384x1024.Idx → EReal) (M V : S1x384x1024.Idx → EReal) (y : S1x384x1024.Idx) : EReal :=
  delta (W y) (gG A B y) (M y) (V y)
/-- The new mean of the gradients. -/
def gM (A B : S384x1024.Idx → EReal) (M : S1x384x1024.Idx → EReal) (y : S1x384x1024.Idx) : EReal := newM (gG A B y) (M y)
/-- The new mean of their squares. -/
def gV (A B : S384x1024.Idx → EReal) (V : S1x384x1024.Idx → EReal) (y : S1x384x1024.Idx) : EReal := newV (gG A B y) (V y)

section
variable (a b : Vec Ideal S192x1024 .f32) (w p q : Vec Ideal S1x192x1024 .f32) (u : Fin 1) (r : Fin 192) (n : Fin 1024)

theorem payG : k0_pay5 (F := Ideal) a b (ix3 u r n) = a (ix2 r n) + b (ix2 r n) := by
  pointwise [k0_pay5, k0_pay4]

theorem payM : k0_pay2 (F := Ideal) (k0_pay6 a b p) (ix3 u r n) = newM (a (ix2 r n) + b (ix2 r n)) (p (ix3 u r n)) := by
  obtain rfl : u = 0 := Subsingleton.elim _ _
  pointwise [k0_pay2, k0_pay6, k0_pay4]
  rfl

theorem payV : k0_pay3 (F := Ideal) (k0_pay7 a b q) (ix3 u r n) = newV (a (ix2 r n) + b (ix2 r n)) (q (ix3 u r n)) := by
  obtain rfl : u = 0 := Subsingleton.elim _ _
  pointwise [k0_pay3, k0_pay7, k0_pay4]
  rfl

theorem payD : k0_pay1 (F := Ideal) (k0_pay8 a b w p q) (ix3 u r n)
    = delta (w (ix3 u r n)) (a (ix2 r n) + b (ix2 r n)) (p (ix3 u r n)) (q (ix3 u r n)) := by
  obtain rfl : u = 0 := Subsingleton.elim _ _
  pointwise [k0_pay1, k0_pay8, k0_pay7, k0_pay6, k0_pay4]
  rfl
end

theorem idx : ∀ t : Fin cfg0.N, win0_0.index t = ![0, t.val, 0] ∧ win0_1.index t = ![t.val, 0] ∧ win0_2.index t = ![t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

theorem lt (t : Fin cfg0.N) : t.val < 2 := Nat.lt_of_lt_of_eq t.isLt N_0

variable (m : (ℓ : Loc nD τ sig) → Buf (Elt Ideal) ℓ) (c : Dev nD) (t : Fin cfg0.N)

/-- Row `r` of tile `t`. -/
abbrev row (r : Fin 192) : Fin 384 := ⟨t.val * 192 + r.val, by have := lt t; omega⟩

section
variable (u : Fin 1) (r : Fin 192) (n : Fin 1024)

theorem read0 : iblk m c 0 t (ix3 u r n) = m ((c.tc : Thread nD τ).loc main_arg0) (ix3 u (row t r) n) := by
  show iblk m c 0 t (ix3 u r n) = m ((c.tc : Thread nD τ).loc main_arg0) (ix3 _ _ _)
  have := lt t
  blk_ext [iblk, V, idx t]

theorem read1 : iblk m c 1 t (ix2 r n) = m ((c.tc : Thread nD τ).loc main_arg1) (ix2 (row t r) n) := by
  show iblk m c 1 t (ix2 r n) = m ((c.tc : Thread nD τ).loc main_arg1) (ix2 _ _)
  have := lt t
  blk_ext [iblk, V, idx t]

theorem read2 : iblk m c 2 t (ix2 r n) = m ((c.tc : Thread nD τ).loc main_arg2) (ix2 (row t r) n) := by
  show iblk m c 2 t (ix2 r n) = m ((c.tc : Thread nD τ).loc main_arg2) (ix2 _ _)
  have := lt t
  blk_ext [iblk, V, idx t]

theorem read3 : iblk m c 3 t (ix3 u r n) = m ((c.tc : Thread nD τ).loc main_arg3) (ix3 u (row t r) n) := by
  show iblk m c 3 t (ix3 u r n) = m ((c.tc : Thread nD τ).loc main_arg3) (ix3 _ _ _)
  have := lt t
  blk_ext [iblk, V, idx t]

theorem read4 : iblk m c 4 t (ix3 u r n) = m ((c.tc : Thread nD τ).loc main_arg4) (ix3 u (row t r) n) := by
  show iblk m c 4 t (ix3 u r n) = m ((c.tc : Thread nD τ).loc main_arg4) (ix3 _ _ _)
  have := lt t
  blk_ext [iblk, V, idx t]
end

theorem out5 (y : S1x192x1024.Idx) : out0_5 (F := Ideal) (iblk m c 0 t) (iblk m c 1 t) (iblk m c 2 t) (iblk m c 3 t) (iblk m c 4 t) y
    = k0_pay5 (F := Ideal) (iblk m c 1 t) (iblk m c 2 t) y := by
  frame_open
  frame_out

theorem out6 (y : S1x192x1024.Idx) : out0_6 (F := Ideal) (iblk m c 0 t) (iblk m c 1 t) (iblk m c 2 t) (iblk m c 3 t) (iblk m c 4 t) y
    = k0_pay1 (F := Ideal) (k0_pay8 (iblk m c 1 t) (iblk m c 2 t) (iblk m c 0 t) (iblk m c 3 t) (iblk m c 4 t)) y := by
  frame_open
  frame_out

theorem out7 (y : S1x192x1024.Idx) : out0_7 (F := Ideal) (iblk m c 0 t) (iblk m c 1 t) (iblk m c 2 t) (iblk m c 3 t) (iblk m c 4 t) y
    = k0_pay2 (F := Ideal) (k0_pay6 (iblk m c 1 t) (iblk m c 2 t) (iblk m c 3 t)) y := by
  frame_open
  frame_out

theorem out8 (y : S1x192x1024.Idx) : out0_8 (F := Ideal) (iblk m c 0 t) (iblk m c 1 t) (iblk m c 2 t) (iblk m c 3 t) (iblk m c 4 t) y
    = k0_pay3 (F := Ideal) (k0_pay7 (iblk m c 1 t) (iblk m c 2 t) (iblk m c 4 t)) y := by
  frame_open
  frame_out

/-- The kernel's gradient. -/
theorem kernel_eq5 : (dats m 0 c).arrAt 5 cfg0.N = gG (m ((c.tc : Thread nD τ).loc main_arg1)) (m ((c.tc : Thread nD τ).loc main_arg2)) := by
  refine (dats m 0 c).arrAt_eq_of_covers 5 _ (by decide +kernel) fun t hf y => ?_
  blk_simp [idx t]
  rw [after0_5]
  idx_vars y
  have ht := lt t
  have e : ((View.whole main_v0_0).slice (win0_5.rect t)).emb (ix3 y0 y1 y2) = ix3 y0 (row t y1) y2 := by
    blk_ext [idx t]
  rw [e]
  refine (out5 m c t _).trans ((payG _ _ y0 y1 y2).trans ?_)
  simp only [read1, read2]
  rfl

/-- The kernel's change of the weight. -/
theorem kernel_eq6 : (dats m 0 c).arrAt 6 cfg0.N = gD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp [idx t]
  rw [after0_6]
  idx_vars y
  have ht := lt t
  have e : ((View.whole main_v0_1).slice (win0_6.rect t)).emb (ix3 y0 y1 y2) = ix3 y0 (row t y1) y2 := by
    blk_ext [idx t]
  rw [e]
  refine (out6 m c t _).trans ((payD _ _ _ _ _ y0 y1 y2).trans ?_)
  simp only [read0, read1, read2, read3, read4]
  rfl

/-- The kernel's new mean of the gradients. -/
theorem kernel_eq7 : (dats m 0 c).arrAt 7 cfg0.N = gM (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp [idx t]
  rw [after0_7]
  idx_vars y
  have ht := lt t
  have e : ((View.whole main_v0_2).slice (win0_7.rect t)).emb (ix3 y0 y1 y2) = ix3 y0 (row t y1) y2 := by
    blk_ext [idx t]
  rw [e]
  refine (out7 m c t _).trans ((payM _ _ _ y0 y1 y2).trans ?_)
  simp only [read1, read2, read3]
  rfl

/-- The kernel's new mean of their squares. -/
theorem kernel_eq8 : (dats m 0 c).arrAt 8 cfg0.N = gV (m ((c.tc : Thread nD τ).loc main_arg1)) (m ((c.tc : Thread nD τ).loc main_arg2)) (m ((c.tc : Thread nD τ).loc main_arg4)) := by
  refine (dats m 0 c).arrAt_eq_of_covers 8 _ (by decide +kernel) fun t hf y => ?_
  blk_simp [idx t]
  rw [after0_8]
  idx_vars y
  have ht := lt t
  have e : ((View.whole main_v0_3).slice (win0_8.rect t)).emb (ix3 y0 y1 y2) = ix3 y0 (row t y1) y2 := by
    blk_ext [idx t]
  rw [e]
  refine (out8 m c t _).trans ((payV _ _ _ y0 y1 y2).trans ?_)
  simp only [read1, read2, read4]
  rfl

section
open Cert.AdamwWOutRefIdeal.Read
variable (W : Vec Ideal S1x384x1024 .f32) (A B : Vec Ideal S384x1024 .f32) (P Q : Vec Ideal S1x384x1024 .f32)

/-- The reference's results. -/
theorem refG : val_main_v1 (F := Ideal) A B = gG A B := by
  funext y
  idx_vars y
  pointwise [val_main_v1, val_main_v0]
  rfl
theorem refM : val_main_v6 (F := Ideal) A B P = gM A B P := by
  funext y
  idx_vars y
  pointwise [val_main_v6, val_main_v5, val_main_v4, val_main_cst_0, val_main_v3, val_main_v2, val_main_cst]
  rw [refG]
  rfl
theorem refV : val_main_v12 (F := Ideal) A B Q = gV A B Q := by
  funext y
  idx_vars y
  pointwise [val_main_v12, val_main_v11, val_main_v10, val_main_cst_2, val_main_v9, val_main_v8, val_main_v7, val_main_cst_1]
  rw [refG]
  rfl
theorem refD : val_main_v25 (F := Ideal) W A B P Q = gD W A B P Q := by
  funext y
  idx_vars y
  pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3]
  rw [refM, refV]
  rfl
end

end Cert.AdamwWOutCall
-- ==== Proof.AdamwWOut.Claims.lean ====
/- The claims: the optimiser's step of the output projection's weight. -/
module

public import proofs.«01_k».proof.Defs
public import proofs.«01_k».proof.Proof.Gen.AdamwWOut.Frame
public import proofs.«01_k».proof.Proof.AdamwWOut.Value
public import proofs.«01_k».proof.Proof.Gen.AdamwWOutRefIdeal.Run

@[expose] public section

noncomputable section

namespace Cert.AdamwWOutCall

open Idealize.ShloMosaic Idealize.SL.Sem

theorem frame_kernel : Cert.quiescent_AdamwWOut := fun m ρ _ => Cert.AdamwWOut.Gen.frame m ρ

theorem frame_ideal : Cert.quiescent_AdamwWOutIdeal := fun m ρ _ => Cert.AdamwWOutIdeal.Gen.frame m ρ

theorem frame_ref : Cert.quiescent_AdamwWOutRefIdeal := fun m ρ _ =>
  (θ_run Cert.AdamwWOutRefIdeal.defs _ _).mono (fun r h => ⟨fun c => (h c).2.2.2.2, sem_eq_zero_of_no_sems (by decide) r.2⟩)
    (Cert.AdamwWOutRefIdeal.Value.run m ρ)

theorem preserves : Cert.preserves_AdamwWOut_AdamwWOutIdeal := trivial

theorem algebraic : Cert.algebraic_AdamwWOutIdeal_AdamwWOutRefIdeal := by
  intro m g m' g' hp ha
  refine ⟨fun c => gG (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)),
    fun c => gD (m ((c.tc : Thread Cert.AdamwWOutIdeal.nD Cert.AdamwWOutIdeal.τ).loc Cert.AdamwWOutIdeal.main_arg0)) (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)) (m ((c.tc : Thread Cert.AdamwWOutIdeal.nD Cert.AdamwWOutIdeal.τ).loc Cert.AdamwWOutIdeal.main_arg3)) (m ((c.tc : Thread Cert.AdamwWOutIdeal.nD Cert.AdamwWOutIdeal.τ).loc Cert.AdamwWOutIdeal.main_arg4)),
    fun c => gM (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)) (m ((c.tc : Thread Cert.AdamwWOutIdeal.nD Cert.AdamwWOutIdeal.τ).loc Cert.AdamwWOutIdeal.main_arg3)),
    fun c => gV (m ((c.tc : Thread Cert.AdamwWOutIdeal.nD Cert.AdamwWOutIdeal.τ).loc Cert.AdamwWOutIdeal.main_arg1)) (m ((c.tc : Thread Cert.AdamwWOutIdeal.nD Cert.AdamwWOutIdeal.τ).loc Cert.AdamwWOutIdeal.main_arg2)) (m ((c.tc : Thread Cert.AdamwWOutIdeal.nD Cert.AdamwWOutIdeal.τ).loc Cert.AdamwWOutIdeal.main_arg4)), ?_, ?_⟩
  · refine (θ_run _ _ _).mono (fun r h c => ?_) (Cert.AdamwWOutIdeal.Value.run_blocks m g)
    obtain ⟨h0, h1, h2, h3, hr⟩ := h c
    exact ⟨h0.trans (kernel_eq5 m c), h1.trans (kernel_eq6 m c), h2.trans (kernel_eq7 m c), h3.trans (kernel_eq8 m c), hr⟩
  · refine (θ_run _ _ _).mono (fun r h c => ?_) (Cert.AdamwWOutRefIdeal.Value.run m' g')
    obtain ⟨h0, h1, h2, h3, hr⟩ := h c
    obtain ⟨a0, a1, a2, a3, a4⟩ := ha c
    refine ⟨h0.trans ?_, h1.trans ?_, h2.trans ?_, h3.trans ?_, hr⟩
    · rw [Cert.AdamwWOutRefIdeal.Read.val_main_v1_eq, a1, a2]
      exact refG _ _
    · rw [Cert.AdamwWOutRefIdeal.Read.val_main_v25_eq, a0, a1, a2, a3, a4]
      exact refD _ _ _ _ _
    · rw [Cert.AdamwWOutRefIdeal.Read.val_main_v6_eq, a1, a2, a3]
      exact refM _ _ _
    · rw [Cert.AdamwWOutRefIdeal.Read.val_main_v12_eq, a1, a2, a4]
      exact refV _ _ _

end Cert.AdamwWOutCall
-- ==== Proof.GdnGateFwd.Scan.lean ====
/- Running sums in chunks of sixty-four rows, by doubling. -/
module

public import Mathlib.Data.EReal.Operations
public import Mathlib.Algebra.BigOperators.Fin
public import Mathlib.Algebra.BigOperators.Intervals

@[expose] public section

noncomputable section

namespace Cert.Scan

/-- The sum of a row and of the rows before it in its chunk, at most `w` of them. -/
def part (a : ℕ → EReal) (w r : ℕ) : EReal := ∑ j ∈ Finset.range (min w (r % 64 + 1)), a (r - j)

/-- One step: a row and the row `s` earlier, if that lies in the chunk. -/
def step (s : ℕ) (a : ℕ → EReal) (r : ℕ) : EReal := a r + if s ≤ r % 64 then a (r - s) else 0

theorem part_one (a : ℕ → EReal) (r : ℕ) : part a 1 r = a r := by
  unfold part
  rw [Nat.min_eq_left (by omega), Finset.sum_range_one, Nat.sub_zero]

/-- A step of the sums of `w` rows gives the sums of twice as many. -/
theorem step_part (a : ℕ → EReal) (w r : ℕ) : step w (part a w) r = part a (w + w) r := by
  unfold step part
  by_cases h : w ≤ r % 64
  · rw [if_pos h, Nat.min_eq_left (by omega), show (r - w) % 64 = r % 64 - w by omega,
      show min (w + w) (r % 64 + 1) = w + min w (r % 64 - w + 1) by omega, Finset.sum_range_add]
    exact congrArg _ (Finset.sum_congr rfl fun j _ => congrArg a (by omega))
  · rw [if_neg h, add_zero, Nat.min_eq_right (by omega), Nat.min_eq_right (by omega)]

/-- A step depends on the rows of its chunk only. -/
theorem step_congr (s : ℕ) (a b : ℕ → EReal) (r : ℕ) (h : ∀ q ≤ r, a q = b q) : step s a r = step s b r := by
  unfold step
  rw [h r le_rfl, h (r - s) (Nat.sub_le _ _)]

/-- The sums of a column that starts at a chunk's first row. -/
theorem part_shift (a : ℕ → EReal) (w o r : ℕ) (ho : o % 64 = 0) : part (fun q => a (o + q)) w r = part a w (o + r) := by
  unfold part
  rw [show (o + r) % 64 = r % 64 by omega]
  refine Finset.sum_congr rfl fun j hj => congrArg a ?_
  have := Finset.mem_range.mp hj
  omega

/-- The whole running sum, as the masked sum over the chunk. -/
theorem masked_sum (a : ℕ → EReal) (r : ℕ) : ∑ j : Fin 64, (if j.val ≤ r % 64 then a (r / 64 * 64 + j.val) else 0) = part a 64 r := by
  rw [Fin.sum_univ_eq_sum_range (fun j => if j ≤ r % 64 then a (r / 64 * 64 + j) else 0) 64, ← Finset.sum_filter,
    show (Finset.range 64).filter (fun j => j ≤ r % 64) = Finset.range (r % 64 + 1) by
      ext j; simp only [Finset.mem_filter, Finset.mem_range]; omega]
  unfold part
  rw [Nat.min_eq_right (by omega), ← Finset.sum_range_reflect]
  refine Finset.sum_congr rfl fun j hj => congrArg a ?_
  have := Finset.mem_range.mp hj
  omega

end Cert.Scan
-- ==== Proof.GdnGateFwd.Value.lean ====
/- The delta rule's gates: the blocks and the reference are one function. -/
module

public import proofs.«01_k».proof.Proof.GdnGateFwd.Scan
public import proofs.«01_k».proof.Proof.Merge
public import proofs.«01_k».proof.Proof.Gen.GdnGateFwdIdeal.Value
public import proofs.«01_k».proof.Proof.Gen.GdnGateFwdRefIdeal.Read
public import Idealize.ShloMosaic.Lib.Pipeline.ValueKit
public import Idealize.ShloMosaic.Lib.Pipeline.ReadBack

@[expose] public section

set_option maxRecDepth 16384

noncomputable section

namespace Cert.GdnGateFwdCall

open Idealize.ShloMosaic Idealize.ShloMosaic.TcCoe Cert.Scan
open Cert.GdnGateFwdIdeal Cert.GdnGateFwdIdeal.Gen

/-- The smooth maximum of a number and zero. -/
def sp (z : EReal) : EReal := max z 0 + Ideal.log (1 + Ideal.exp (-FloatOps.absf (F := Ideal) (φ := .f32) z))

/-- One row's decay. -/
def dec (x al dt : EReal) : EReal := -Ideal.exp al * sp (x + dt)

/-- A head's decays, row by row. -/
def decays (P : S4096x4608.Idx → EReal) (al dt : S1x128.Idx → EReal) (n : Fin 128) (q : ℕ) : EReal :=
  if h : q < 4096 then dec (P (ix2 (⟨q, h⟩ : Fin 4096) (⟨768 + n.val, by omega⟩ : Fin 4608))) (al (ix2 0 n)) (dt (ix2 0 n)) else 0

/-- The result: the running sums of the decays, then the rates, then zeros. -/
def gG (P : S4096x4608.Idx → EReal) (al dt : S1x128.Idx → EReal) (y : S4096x128.Idx) : EReal :=
  if (y 1).val < 4 then part (decays P al dt (y 1)) 64 (y 0).val
  else if (y 1).val < 8 then Cert.Merge.sg (P (ix2 (y 0) (⟨768 + (y 1).val, by have : (y 1).val < 128 := (y 1).isLt; omega⟩ : Fin 4608))) else 0

/-- A block's column, with zeros after it. -/
def ext (f : Fin 2048 → EReal) (q : ℕ) : EReal := if h : q < 2048 then f ⟨q, h⟩ else 0

theorem word (r : Fin 2048) (s : Fin 33) : IntOp.cmpi .sge (BitVec.ofNat 32 (r.val % 64)) (BitVec.ofNat 32 s.val) = BitVec.ofBool (decide (s.val ≤ r.val % 64)) := by
  refine congrArg BitVec.ofBool ?_
  have hs := s.isLt
  show (BitVec.ofNat 32 s.val).sle (BitVec.ofNat 32 (r.val % 64)) = _
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.mpr (by omega)

/-- A rotated and masked column, added to itself, is one step. -/
theorem mask_step (f : Fin 2048 → EReal) (s : Fin 33) (r v : Fin 2048) (hv : v.val = (r.val + 2048 - s.val) % 2048) :
    f r + Scalar.select (IntOp.cmpi .sge (BitVec.ofNat 32 (r.val % 64)) (BitVec.ofNat 32 s.val)) (f v) 0 = step s.val (ext f) r.val := by
  rw [word]
  unfold step ext
  rw [dif_pos r.isLt]
  by_cases h : s.val ≤ r.val % 64
  · have hv' : v = ⟨r.val - s.val, by omega⟩ := Fin.ext (by show v.val = r.val - s.val; rw [hv]; omega)
    rw [if_pos h, decide_eq_true h, dif_pos (by omega), hv']
    rfl
  · rw [if_neg h, decide_eq_false h]
    rfl

/-- One step of the block: the rows rotated down, masked, and added. -/
def stp (q : IVec S2048x1 32) (y : FVec Ideal S2048x128 .f32) (s : BitVec 32) : FVec Ideal S2048x128 .f32 :=
  addf y (select (broadcastTo S2048x128 (shapeCast S2048x1 (cmpi .sge q (broadcast S2048x1 s)) shapeCasts_S2048x1_S2048x1) broadcasts_S2048x1_S2048x128)
    (dynamicRotate 0 s none y rotates_S2048x128_d0) (broadcast S2048x128 (Scalar.ofBits (F := Ideal) .f32 0x00000000#32)))

section
variable (q : IVec S2048x1 32) (hq : ∀ r : Fin 2048, q (ix2 r 0) = BitVec.ofNat 32 (r.val % 64)) (y : FVec Ideal S2048x128 .f32) (n : Fin 128)
  (a : ℕ → EReal)
include hq

theorem stp1 (h : ∀ r : Fin 2048, y (ix2 r n) = part a 1 r.val) (r : Fin 2048) : stp q y 1#32 (ix2 r n) = part a 2 r.val := by
  refine Eq.trans ?_ (step_part a 1 r.val)
  refine Eq.trans ?_ (step_congr 1 (ext fun r => y (ix2 r n)) _ r.val fun p hp => (dif_pos (by omega)).trans (h _))
  pointwise [stp]
  rw [hq]
  exact mask_step (fun r => y (ix2 r n)) 1 r _ rfl

theorem stp2 (h : ∀ r : Fin 2048, y (ix2 r n) = part a 2 r.val) (r : Fin 2048) : stp q y 2#32 (ix2 r n) = part a 4 r.val := by
  refine Eq.trans ?_ (step_part a 2 r.val)
  refine Eq.trans ?_ (step_congr 2 (ext fun r => y (ix2 r n)) _ r.val fun p hp => (dif_pos (by omega)).trans (h _))
  pointwise [stp]
  rw [hq]
  exact mask_step (fun r => y (ix2 r n)) 2 r _ rfl

theorem stp4 (h : ∀ r : Fin 2048, y (ix2 r n) = part a 4 r.val) (r : Fin 2048) : stp q y 4#32 (ix2 r n) = part a 8 r.val := by
  refine Eq.trans ?_ (step_part a 4 r.val)
  refine Eq.trans ?_ (step_congr 4 (ext fun r => y (ix2 r n)) _ r.val fun p hp => (dif_pos (by omega)).trans (h _))
  pointwise [stp]
  rw [hq]
  exact mask_step (fun r => y (ix2 r n)) 4 r _ rfl

theorem stp8 (h : ∀ r : Fin 2048, y (ix2 r n) = part a 8 r.val) (r : Fin 2048) : stp q y 8#32 (ix2 r n) = part a 16 r.val := by
  refine Eq.trans ?_ (step_part a 8 r.val)
  refine Eq.trans ?_ (step_congr 8 (ext fun r => y (ix2 r n)) _ r.val fun p hp => (dif_pos (by omega)).trans (h _))
  pointwise [stp]
  rw [hq]
  exact mask_step (fun r => y (ix2 r n)) 8 r _ rfl

theorem stp16 (h : ∀ r : Fin 2048, y (ix2 r n) = part a 16 r.val) (r : Fin 2048) : stp q y 16#32 (ix2 r n) = part a 32 r.val := by
  refine Eq.trans ?_ (step_part a 16 r.val)
  refine Eq.trans ?_ (step_congr 16 (ext fun r => y (ix2 r n)) _ r.val fun p hp => (dif_pos (by omega)).trans (h _))
  pointwise [stp]
  rw [hq]
  exact mask_step (fun r => y (ix2 r n)) 16 r _ rfl

theorem stp32 (h : ∀ r : Fin 2048, y (ix2 r n) = part a 32 r.val) (r : Fin 2048) : stp q y 32#32 (ix2 r n) = part a 64 r.val := by
  refine Eq.trans ?_ (step_part a 32 r.val)
  refine Eq.trans ?_ (step_congr 32 (ext fun r => y (ix2 r n)) _ r.val fun p hp => (dif_pos (by omega)).trans (h _))
  pointwise [stp]
  rw [hq]
  exact mask_step (fun r => y (ix2 r n)) 32 r _ rfl

/-- The six steps give the running sums. -/
theorem steps (h : ∀ r : Fin 2048, y (ix2 r n) = a r.val) (r : Fin 2048) :
    stp q (stp q (stp q (stp q (stp q (stp q y 1#32) 2#32) 4#32) 8#32) 16#32) 32#32 (ix2 r n) = part a 64 r.val :=
  stp32 q hq _ n a (stp16 q hq _ n a (stp8 q hq _ n a (stp4 q hq _ n a (stp2 q hq _ n a (stp1 q hq y n a
    fun r => (h r).trans (part_one a r.val).symm))))) r
end

theorem pay_steps (y : FVec Ideal S2048x128 .f32) (v29 v31 v40) : k0_pay6 (F := Ideal) y v29 v31 v40
    = stp (k0_pay5 v29 v31 v40) (stp (k0_pay5 v29 v31 v40) (stp (k0_pay5 v29 v31 v40) (stp (k0_pay5 v29 v31 v40) (stp (k0_pay5 v29 v31 v40) y 1#32) 2#32) 4#32) 8#32) 16#32 := rfl

/-- A row's place in its chunk, as the blocks compute it. -/
theorem place (r : Fin 2048) : k0_pay5 (Scalar.select (Scalar.cmpi .eq 64#32 0#32) 1#32 64#32) k0_pay3 k0_pay4 (ix2 r 0) = BitVec.ofNat 32 (r.val % 64) := by
  pointwise [k0_pay5, k0_pay4, k0_pay3]
  revert r
  decide +kernel

theorem lane4 : ∀ n : Fin 128, IntOp.cmpi .slt (BitVec.ofNat 32 n.val) 4#32 = BitVec.ofBool (decide (n.val < 4)) := by decide +kernel
theorem lane8 : ∀ n : Fin 128, IntOp.cmpi .slt (BitVec.ofNat 32 n.val) 8#32 = BitVec.ofBool (decide (n.val < 8)) := by decide +kernel

theorem pay_dec (x : Vec Ideal S2048x128 .f32) (al dt : Vec Ideal S1x128 .f32) (r : Fin 2048) (n : Fin 128) (hn : n.val < 4) :
    k0_pay2 (F := Ideal) x al dt (ix2 r n) = dec (x (ix2 r n)) (al (ix2 0 n)) (dt (ix2 0 n)) := by
  pointwise [k0_pay2]
  rw [lane4, decide_eq_true hn, zero_sub, zero_sub]
  rfl

/-- What a grid point stores, from the decays of its rows. -/
theorem pay (x : Vec Ideal S2048x128 .f32) (al dt : Vec Ideal S1x128 .f32) (a : ℕ → EReal) (r : Fin 2048) (n : Fin 128)
    (h : ∀ r : Fin 2048, dec (x (ix2 r n)) (al (ix2 0 n)) (dt (ix2 0 n)) = a r.val) :
    k0_pay1 (F := Ideal) x (iota .tc S1x128 32 [1] iota_S1x128_d1_w32) (k0_pay5 (Scalar.select (Scalar.cmpi .eq 64#32 0#32) 1#32 64#32) k0_pay3 k0_pay4)
      (k0_pay6 (k0_pay2 x al dt) (Scalar.select (Scalar.cmpi .eq 64#32 0#32) 1#32 64#32) k0_pay3 k0_pay4) k0_pay7 (ix2 r n)
      = if n.val < 4 then part a 64 r.val else if n.val < 8 then Cert.Merge.sg (x (ix2 r n)) else 0 := by
  rw [pay_steps]
  have hs (hn : n.val < 4) := steps _ place (k0_pay2 (F := Ideal) x al dt) n a (fun r => (pay_dec x al dt r n hn).trans (h r)) r
  generalize k0_pay2 (F := Ideal) x al dt = y at hs ⊢
  generalize k0_pay5 (Scalar.select (Scalar.cmpi .eq 64#32 0#32) 1#32 64#32) k0_pay3 k0_pay4 = q at hs ⊢
  generalize stp q (stp q (stp q (stp q (stp q y 1#32) 2#32) 4#32) 8#32) 16#32 = z at hs ⊢
  change select _ (stp q z 32#32) _ _ = _
  generalize stp q z 32#32 = z at hs ⊢
  pointwise []
  rw [lane4, lane8]
  by_cases h4 : n.val < 4
  · rw [if_pos h4, decide_eq_true h4]
    exact hs h4
  · rw [if_neg h4, decide_eq_false h4]
    by_cases h8 : n.val < 8
    · rw [if_pos h8, decide_eq_true h8, zero_sub]
      rfl
    · rw [if_neg h8, decide_eq_false h8]
      rfl

theorem out (x : Vec Ideal S2048x128 .f32) (al dt : Vec Ideal S1x128 .f32) (a : ℕ → EReal) (r : Fin 2048) (n : Fin 128)
    (h : ∀ r : Fin 2048, dec (x (ix2 r n)) (al (ix2 0 n)) (dt (ix2 0 n)) = a r.val) :
    out0_3 (F := Ideal) x al dt (ix2 r n) = if n.val < 4 then part a 64 r.val else if n.val < 8 then Cert.Merge.sg (x (ix2 r n)) else 0 := by
  refine Eq.trans ?_ (pay x al dt a r n h)
  unfold_out out0_3
  frame_out

theorem idx : ∀ t : Fin cfg0.N, win0_0.index t = ![t.val, 6] ∧ win0_1.index t = ![0, 0] ∧ win0_2.index t = ![0, 0] ∧ win0_3.index t = ![t.val, 0] :=
  (by decide +kernel : ∀ t : Fin grid0.N, _)

theorem lt (t : Fin cfg0.N) : t.val < 2 := Nat.lt_of_lt_of_eq t.isLt N_0

variable (m : (ℓ : Loc nD τ sig) → Buf (Elt Ideal) ℓ) (c : Dev nD) (t : Fin cfg0.N)

/-- Row `r` of tile `t`. -/
abbrev row (r : Fin 2048) : Fin 4096 := ⟨t.val * 2048 + r.val, by have := lt t; omega⟩

theorem read0 (r : Fin 2048) (n : Fin 128) : iblk m c 0 t (ix2 r n) = m ((c.tc : Thread nD τ).loc main_arg0) (ix2 (row t r) (⟨768 + n.val, by omega⟩ : Fin 4608)) := by
  rw [← V_main_arg0 m c]
  show iblk m c 0 t (ix2 r n) = V m c main_arg0 (ix2 _ _)
  have := lt t
  blk_ext [iblk, idx t]

theorem read1 (n : Fin 128) : iblk m c 1 t (ix2 0 n) = m ((c.tc : Thread nD τ).loc main_arg1) (ix2 0 n) := by
  rw [← V_main_arg1 m c]
  show iblk m c 1 t (ix2 0 n) = V m c main_arg1 (ix2 0 n)
  blk_ext [iblk, idx t]

theorem read2 (n : Fin 128) : iblk m c 2 t (ix2 0 n) = m ((c.tc : Thread nD τ).loc main_arg2) (ix2 0 n) := by
  rw [← V_main_arg2 m c]
  show iblk m c 2 t (ix2 0 n) = V m c main_arg2 (ix2 0 n)
  blk_ext [iblk, idx t]

/-- The kernel's result. -/
theorem kernel_eq : (dats m 0 c).arrAt 3 cfg0.N = gG (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp [idx t]
  rw [after0_3]
  idx_vars y
  have ht := lt t
  have e : ((View.whole main_v0).slice (win0_3.rect t)).emb (ix2 y0 y1) = ix2 (row t y0) y1 := by
    blk_ext [idx t]
  rw [e]
  refine (out (iblk m c 0 t) (iblk m c 1 t) (iblk m c 2 t)
    (fun q => decays (m ((c.tc : Thread nD τ).loc main_arg0)) (m ((c.tc : Thread nD τ).loc main_arg1)) (m ((c.tc : Thread nD τ).loc main_arg2)) y1 (t.val * 2048 + q))
    y0 y1 fun r => ?_).trans ?_
  · rw [read0, read1, read2]
    unfold decays
    rw [dif_pos (row t r).isLt]
  · rw [part_shift _ _ _ _ (by omega), read0]
    rfl

end Cert.GdnGateFwdCall
-- ==== Proof.GdnGateFwd.Ref.lean ====
/- The delta rule's gates: the reference is the same function. -/
module

public import proofs.«01_k».proof.Proof.GdnGateFwd.Value

@[expose] public section

set_option maxRecDepth 16384

noncomputable section

namespace Cert.GdnGateFwdCall

open Idealize.ShloMosaic Idealize.ShloMosaic.TcCoe Cert.Scan
open Cert.GdnGateFwdRefIdeal Cert.GdnGateFwdRefIdeal.Read

variable (P : Vec Ideal S4096x4608 .f32) (al dt : Vec Ideal S1x128 .f32)

/-- The decays of a head. -/
theorem ref_dec (r : Fin 4096) (k : Fin 4) : val_main_v10 (F := Ideal) P al dt (ix2 r k) = decays P al dt ⟨k.val, by omega⟩ r.val := by
  pointwise [val_main_v10, val_main_v9, val_main_v8, val_main_v7, val_main_v6, val_main_v5, val_main_v4, val_main_v3, val_main_v2, val_main_v0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  rw [if_neg (fun h => h rfl)]
  unfold decays
  rw [dif_pos r.isLt]
  rfl

/-- The rates. -/
theorem ref_rate (r : Fin 4096) (k : Fin 4) : val_main_v27 (F := Ideal) P (ix2 r k) = Cert.Merge.sg (P (ix2 r (⟨772 + k.val, by omega⟩ : Fin 4608))) := by
  pointwise [val_main_v27, val_main_v26, val_main_v25, val_main_v24, val_main_v23, val_main_v22, val_main_v1, val_main_cst_1, val_main_cst_2]
  rfl

theorem earlier : ∀ j i : Fin 64, IntOp.cmpi .sle (BitVec.ofNat 32 j.val) (BitVec.ofNat 32 i.val) = BitVec.ofBool (decide (j.val ≤ i.val)) := by decide +kernel

theorem zeros (i : S64x64x64x4.Idx) : val_main_call1_v3 (F := Ideal) i = (0 : EReal) := by
  rw [val_main_call1_v3_apply]
  show val_main_cst (F := Ideal) (idx_main_call1_v3 i) = _
  generalize idx_main_call1_v3 i = u
  pointwise [val_main_cst]

/-- The masked sum over a chunk is the running sum. -/
theorem ref_sum (r : Fin 4096) (k : Fin 4) : val_main_v21 (F := Ideal) P al dt (ix2 r k) = part (decays P al dt ⟨k.val, by omega⟩) 64 r.val := by
  rw [val_main_v21_apply, val_main_v20_apply, ← masked_sum]
  have z : val_main_cst_0 (F := Ideal) (Shape.Idx.first Gen.h_S_) = (0 : EReal) := by
    pointwise [val_main_cst_0]
  rw [z]
  refine (zero_add _).trans (Finset.sum_congr rfl fun j _ => ?_)
  have e : idx_main_v18 (idx_main_call1_v2 (idx_main_v20 (idx_main_v21 (ix2 r k)) j)) = ix2 (⟨r.val / 64 * 64 + j.val, by omega⟩ : Fin 4096) k := by
    funext a
    refine Fin.ext ?_
    match a with
    | ⟨0, _⟩ => simp; omega
    | ⟨1, _⟩ => simp
  simp only [val_main_v19_apply, val_main_call1_v2_apply, val_main_v18_apply, val_main_call1_v1_apply, val_main_v17_apply, val_main_v16_apply, val_main_v15_apply, val_main_v14_apply, val_main_v13_apply, val_main_v12_apply, val_main_v11_apply]
  rw [e, ref_dec]
  have hm : (r.val * 4 + k.val) / 4 % 64 = r.val % 64 := by omega
  have hs : IntOp.cmpi .sle (BitVec.ofNat 32 j.val) (BitVec.ofNat 32 ((r.val * 4 + k.val) / 4 % 64)) = BitVec.ofBool (decide (j.val ≤ r.val % 64)) := by
    rw [hm]
    exact earlier j ⟨r.val % 64, by omega⟩
  refine (congrArg (fun b => Scalar.select b _ _) hs).trans ?_
  by_cases h : j.val ≤ r.val % 64
  · rw [if_pos h, decide_eq_true h]
    rfl
  · rw [if_neg h, decide_eq_false h]
    exact zeros (idx_main_v20 (idx_main_v21 (ix2 r k)) j)

theorem side {w : ℕ} (r : Fin 4096) (n : Fin 128) (k : Fin w) : ∀ b : Fin 2, b ≠ 1 → ((ix2 r k : (⟨2, ![4096, w]⟩ : Shape).Idx) b).val = ((ix2 r n : S4096x128.Idx) b).val
  | ⟨0, _⟩, _ => rfl
  | ⟨1, _⟩, hb => absurd rfl hb

/-- The three pieces of columns side by side. -/
theorem cat3 (a b : S4096x4.Idx → EReal) (d : S4096x120.Idx → EReal) (h) (r : Fin 4096) (n : Fin 128) :
    concatenate S4096x128 1 [⟨S4096x4, a⟩, ⟨S4096x4, b⟩, ⟨S4096x120, d⟩] h (ix2 r n)
      = if h4 : n.val < 4 then a (ix2 r ⟨n.val - 0, by omega⟩) else if h8 : n.val < 8 then b (ix2 r ⟨n.val - 4, by omega⟩) else d (ix2 r ⟨n.val - 8, by omega⟩) := by
  split_ifs with h4 h8
  · exact concatenate_apply_piece (t := S4096x128) 1 [⟨S4096x4, a⟩, ⟨S4096x4, b⟩, ⟨S4096x120, d⟩] h (ix2 r n) 0 (by exact (show 0 < 3 by decide)) S4096x4 a rfl rfl 0 rfl
      (ix2 r (⟨n.val - 0, by omega⟩ : Fin 4)) (side r n _) (Nat.add_sub_of_le (by omega))
  · exact concatenate_apply_piece (t := S4096x128) 1 [⟨S4096x4, a⟩, ⟨S4096x4, b⟩, ⟨S4096x120, d⟩] h (ix2 r n) 1 (by exact (show 1 < 3 by decide)) S4096x4 b rfl rfl 4 rfl
      (ix2 r (⟨n.val - 4, by omega⟩ : Fin 4)) (side r n _) (Nat.add_sub_of_le (by omega))
  · exact concatenate_apply_piece (t := S4096x128) 1 [⟨S4096x4, a⟩, ⟨S4096x4, b⟩, ⟨S4096x120, d⟩] h (ix2 r n) 2 (by exact (show 2 < 3 by decide)) S4096x120 d rfl rfl 8 rfl
      (ix2 r (⟨n.val - 8, by omega⟩ : Fin 120)) (side r n _) (Nat.add_sub_of_le (by omega))

/-- The reference's result. -/
theorem ref_eq : val_main_v29 (F := Ideal) P al dt = gG P al dt := by
  funext y
  idx_vars y
  unfold val_main_v29 gG
  rw [cat3]
  show _ = if y1.val < 4 then _ else if y1.val < 8 then _ else _
  split_ifs with h4 h8
  · exact ref_sum P al dt y0 ⟨y1.val - 0, by omega⟩
  · refine (ref_rate P y0 ⟨y1.val - 4, by omega⟩).trans ?_
    exact congrArg (fun q : Fin 4608 => Cert.Merge.sg (P (ix2 y0 q))) (Fin.ext (by show 772 + (y1.val - 4) = 768 + y1.val; omega))
  · pointwise [val_main_v28, val_main_cst_3]

end Cert.GdnGateFwdCall
-- ==== Proof.GdnGateFwd.Claims.lean ====
/- The claims: the delta rule's gates. -/
module

public import proofs.«01_k».proof.Defs
public import proofs.«01_k».proof.Proof.Gen.GdnGateFwd.Frame
public import proofs.«01_k».proof.Proof.GdnGateFwd.Ref
public import proofs.«01_k».proof.Proof.Gen.GdnGateFwdRefIdeal.Run

@[expose] public section

noncomputable section

namespace Cert.GdnGateFwdCall

open Idealize.ShloMosaic Idealize.SL.Sem

theorem frame_kernel : Cert.quiescent_GdnGateFwd := fun m ρ _ => Cert.GdnGateFwd.Gen.frame m ρ

theorem frame_ideal : Cert.quiescent_GdnGateFwdIdeal := fun m ρ _ => Cert.GdnGateFwdIdeal.Gen.frame m ρ

theorem frame_ref : Cert.quiescent_GdnGateFwdRefIdeal := fun m ρ _ =>
  (θ_run Cert.GdnGateFwdRefIdeal.defs _ _).mono (fun r h => ⟨fun c => (h c).2, sem_eq_zero_of_no_sems (by decide) r.2⟩)
    (Cert.GdnGateFwdRefIdeal.Value.run m ρ)

theorem preserves : Cert.preserves_GdnGateFwd_GdnGateFwdIdeal := trivial

theorem algebraic : Cert.algebraic_GdnGateFwdIdeal_GdnGateFwdRefIdeal := by
  intro m g m' g' hp ha
  refine ⟨fun c => gG (m ((c.tc : Thread Cert.GdnGateFwdIdeal.nD Cert.GdnGateFwdIdeal.τ).loc Cert.GdnGateFwdIdeal.main_arg0)) (m ((c.tc : Thread Cert.GdnGateFwdIdeal.nD Cert.GdnGateFwdIdeal.τ).loc Cert.GdnGateFwdIdeal.main_arg1)) (m ((c.tc : Thread Cert.GdnGateFwdIdeal.nD Cert.GdnGateFwdIdeal.τ).loc Cert.GdnGateFwdIdeal.main_arg2)), ?_, ?_⟩
  · refine (θ_run _ _ _).mono (fun r h c => ?_) (Cert.GdnGateFwdIdeal.Value.run_blocks m g)
    obtain ⟨h0, hr⟩ := h c
    exact ⟨h0.trans (kernel_eq m c), hr⟩
  · refine (θ_run _ _ _).mono (fun r h c => ?_) (Cert.GdnGateFwdRefIdeal.Value.run m' g')
    obtain ⟨h0, hr⟩ := h c
    obtain ⟨a0, a1, a2⟩ := ha c
    refine ⟨h0.trans ?_, hr⟩
    rw [Cert.GdnGateFwdRefIdeal.Read.val_main_v29_eq, a0, a1, a2]
    exact ref_eq _ _ _

end Cert.GdnGateFwdCall
-- ==== Proof.lean ====
module

public import proofs.«01_k».proof.Defs
public import proofs.«01_k».proof.Proof.Mem.Claims
public import proofs.«01_k».proof.Proof.InProjBwd.Claims
public import proofs.«01_k».proof.Proof.GradWIn.Claims
public import proofs.«01_k».proof.Proof.MergeBwd.Claims
public import proofs.«01_k».proof.Proof.GradWOut.Claims
public import proofs.«01_k».proof.Proof.InProj.Claims
public import proofs.«01_k».proof.Proof.MergeFwd.Claims
public import proofs.«01_k».proof.Proof.MlaProjBwd.Claims
public import proofs.«01_k».proof.Proof.GradWQB.Claims
public import proofs.«01_k».proof.Proof.GradWKvB.Claims
public import proofs.«01_k».proof.Proof.MemKvProj.Claims
public import proofs.«01_k».proof.Proof.GradWMemKv.Claims
public import proofs.«01_k».proof.Proof.DMemn.Claims
public import proofs.«01_k».proof.Proof.MlaPrep.Claims
public import proofs.«01_k».proof.Proof.MemAttnFwd.Claims
public import proofs.«01_k».proof.Proof.InProjEarly.Claims
public import proofs.«01_k».proof.Proof.GradMemNorm.Claims
public import proofs.«01_k».proof.Proof.RmsMem.Claims
public import proofs.«01_k».proof.Proof.RmsIn.Claims
public import proofs.«01_k».proof.Proof.GdnPrepFwd.Claims
public import proofs.«01_k».proof.Proof.RopeTables.Claims
public import proofs.«01_k».proof.Proof.AdamwGdnConv.Claims
public import proofs.«01_k».proof.Proof.AdamwWMemKv.Claims
public import proofs.«01_k».proof.Proof.AdamwWOut.Claims
public import proofs.«01_k».proof.Proof.GdnGateFwd.Claims

@[expose] public section

noncomputable section

namespace Cert.Proof

theorem claim : Cert.Claim :=
  ⟨Cert.Kernel.Gen.facts, Cert.KernelIdeal.Gen.facts, Cert.ReferenceIdeal.Gen.facts, Cert.InProjBwd.Gen.facts,
    Cert.InProjBwdIdeal.Gen.facts, Cert.InProjBwdRefIdeal.Gen.facts, Cert.GradWIn.Gen.facts,
    Cert.GradWInIdeal.Gen.facts, Cert.GradWInRefIdeal.Gen.facts, Cert.MergeBwd.Gen.facts,
    Cert.MergeBwdIdeal.Gen.facts, Cert.MergeBwdRefIdeal.Gen.facts, Cert.GradWOut.Gen.facts,
    Cert.GradWOutIdeal.Gen.facts, Cert.GradWOutRefIdeal.Gen.facts, Cert.InProj.Gen.facts, Cert.InProjIdeal.Gen.facts,
    Cert.InProjRefIdeal.Gen.facts, Cert.MergeFwd.Gen.facts, Cert.MergeFwdIdeal.Gen.facts,
    Cert.MergeFwdRefIdeal.Gen.facts, Cert.MlaProjBwd.Gen.facts, Cert.MlaProjBwdIdeal.Gen.facts,
    Cert.MlaProjBwdRefIdeal.Gen.facts, Cert.GradWQB.Gen.facts, Cert.GradWQBIdeal.Gen.facts,
    Cert.GradWQBRefIdeal.Gen.facts, Cert.GradWKvB.Gen.facts, Cert.GradWKvBIdeal.Gen.facts,
    Cert.GradWKvBRefIdeal.Gen.facts, Cert.MemKvProj.Gen.facts, Cert.MemKvProjIdeal.Gen.facts,
    Cert.MemKvProjRefIdeal.Gen.facts, Cert.GradWMemKv.Gen.facts, Cert.GradWMemKvIdeal.Gen.facts,
    Cert.GradWMemKvRefIdeal.Gen.facts, Cert.DMemn.Gen.facts, Cert.DMemnIdeal.Gen.facts, Cert.DMemnRefIdeal.Gen.facts,
    Cert.MlaPrep.Gen.facts, Cert.MlaPrepIdeal.Gen.facts, Cert.MlaPrepRefIdeal.Gen.facts, Cert.MemAttnFwd.Gen.facts,
    Cert.MemAttnFwdIdeal.Gen.facts, Cert.MemAttnFwdRefIdeal.Gen.facts, Cert.InProjEarly.Gen.facts,
    Cert.InProjEarlyIdeal.Gen.facts, Cert.InProjEarlyRefIdeal.Gen.facts, Cert.GradMemNorm.Gen.facts,
    Cert.GradMemNormIdeal.Gen.facts, Cert.GradMemNormRefIdeal.Gen.facts, Cert.RmsMem.Gen.facts,
    Cert.RmsMemIdeal.Gen.facts, Cert.RmsMemRefIdeal.Gen.facts, Cert.RmsIn.Gen.facts, Cert.RmsInIdeal.Gen.facts,
    Cert.RmsInRefIdeal.Gen.facts, Cert.GdnPrepFwd.Gen.facts, Cert.GdnPrepFwdIdeal.Gen.facts,
    Cert.GdnPrepFwdRefIdeal.Gen.facts, Cert.RopeTables.Gen.facts, Cert.RopeTablesIdeal.Gen.facts,
    Cert.RopeTablesRefIdeal.Gen.facts, Cert.AdamwGdnConv.Gen.facts, Cert.AdamwGdnConvIdeal.Gen.facts,
    Cert.AdamwGdnConvRefIdeal.Gen.facts, Cert.AdamwWMemKv.Gen.facts, Cert.AdamwWMemKvIdeal.Gen.facts,
    Cert.AdamwWMemKvRefIdeal.Gen.facts, Cert.AdamwWOut.Gen.facts, Cert.AdamwWOutIdeal.Gen.facts,
    Cert.AdamwWOutRefIdeal.Gen.facts, Cert.GdnGateFwd.Gen.facts, Cert.GdnGateFwdIdeal.Gen.facts,
    Cert.GdnGateFwdRefIdeal.Gen.facts, Cert.Mem.preFacts, Cert.MergeBwdCall.preFacts,
    Cert.Mem.frame_kernel, Cert.Mem.frame_ideal, Cert.Mem.frame_ideal_pre, Cert.Mem.frame_ref, Cert.Mem.frame_ref_pre,
    Cert.InProjBwdCall.frame_kernel, Cert.InProjBwdCall.frame_ideal, Cert.InProjBwdCall.frame_ref,
    Cert.GradWInCall.frame_kernel, Cert.GradWInCall.frame_ideal, Cert.GradWInCall.frame_ref,
    Cert.MergeBwdCall.frame_kernel, Cert.MergeBwdCall.frame_ideal, Cert.MergeBwdCall.frame_ideal_pre,
    Cert.MergeBwdCall.frame_ref, Cert.MergeBwdCall.frame_ref_pre, Cert.GradWOutCall.frame_kernel,
    Cert.GradWOutCall.frame_ideal, Cert.GradWOutCall.frame_ref, Cert.InProjCall.frame_kernel,
    Cert.InProjCall.frame_ideal, Cert.InProjCall.frame_ref, Cert.MergeFwdCall.frame_kernel,
    Cert.MergeFwdCall.frame_ideal, Cert.MergeFwdCall.frame_ref, Cert.MlaProjBwdCall.frame_kernel,
    Cert.MlaProjBwdCall.frame_ideal, Cert.MlaProjBwdCall.frame_ref, Cert.GradWQBCall.frame_kernel,
    Cert.GradWQBCall.frame_ideal, Cert.GradWQBCall.frame_ref, Cert.GradWKvBCall.frame_kernel,
    Cert.GradWKvBCall.frame_ideal, Cert.GradWKvBCall.frame_ref, Cert.MemKvProjCall.frame_kernel,
    Cert.MemKvProjCall.frame_ideal, Cert.MemKvProjCall.frame_ref, Cert.GradWMemKvCall.frame_kernel,
    Cert.GradWMemKvCall.frame_ideal, Cert.GradWMemKvCall.frame_ref, Cert.DMemnCall.frame_kernel,
    Cert.DMemnCall.frame_ideal, Cert.DMemnCall.frame_ref, Cert.MlaPrepCall.frame_kernel, Cert.MlaPrepCall.frame_ideal,
    Cert.MlaPrepCall.frame_ref, Cert.MemAttnFwdCall.frame_kernel, Cert.MemAttnFwdCall.frame_ideal,
    Cert.MemAttnFwdCall.frame_ref, Cert.InProjEarlyCall.frame_kernel, Cert.InProjEarlyCall.frame_ideal,
    Cert.InProjEarlyCall.frame_ref, Cert.GradMemNormCall.frame_kernel, Cert.GradMemNormCall.frame_ideal,
    Cert.GradMemNormCall.frame_ref, Cert.RmsMemCall.frame_kernel, Cert.RmsMemCall.frame_ideal,
    Cert.RmsMemCall.frame_ref, Cert.RmsInCall.frame_kernel, Cert.RmsInCall.frame_ideal, Cert.RmsInCall.frame_ref,
    Cert.GdnPrepFwdCall.frame_kernel, Cert.GdnPrepFwdCall.frame_ideal, Cert.GdnPrepFwdCall.frame_ref,
    Cert.RopeTablesCall.frame_kernel, Cert.RopeTablesCall.frame_ideal, Cert.RopeTablesCall.frame_ref,
    Cert.AdamwGdnConvCall.frame_kernel, Cert.AdamwGdnConvCall.frame_ideal, Cert.AdamwGdnConvCall.frame_ref,
    Cert.AdamwWMemKvCall.frame_kernel, Cert.AdamwWMemKvCall.frame_ideal, Cert.AdamwWMemKvCall.frame_ref,
    Cert.AdamwWOutCall.frame_kernel, Cert.AdamwWOutCall.frame_ideal, Cert.AdamwWOutCall.frame_ref,
    Cert.GdnGateFwdCall.frame_kernel, Cert.GdnGateFwdCall.frame_ideal, Cert.GdnGateFwdCall.frame_ref,
    Cert.Mem.preserves, Cert.Mem.algebraic, Cert.InProjBwdCall.preserves, Cert.InProjBwdCall.algebraic,
    Cert.GradWInCall.preserves, Cert.GradWInCall.algebraic, Cert.MergeBwdCall.preserves, Cert.MergeBwdCall.algebraic,
    Cert.GradWOutCall.preserves, Cert.GradWOutCall.algebraic, Cert.InProjCall.preserves, Cert.InProjCall.algebraic,
    Cert.MergeFwdCall.preserves, Cert.MergeFwdCall.algebraic, Cert.MlaProjBwdCall.preserves,
    Cert.MlaProjBwdCall.algebraic, Cert.GradWQBCall.preserves, Cert.GradWQBCall.algebraic,
    Cert.GradWKvBCall.preserves, Cert.GradWKvBCall.algebraic, Cert.MemKvProjCall.preserves,
    Cert.MemKvProjCall.algebraic, Cert.GradWMemKvCall.preserves, Cert.GradWMemKvCall.algebraic,
    Cert.DMemnCall.preserves, Cert.DMemnCall.algebraic, Cert.MlaPrepCall.preserves, Cert.MlaPrepCall.algebraic,
    Cert.MemAttnFwdCall.preserves, Cert.MemAttnFwdCall.algebraic, Cert.InProjEarlyCall.preserves,
    Cert.InProjEarlyCall.algebraic, Cert.GradMemNormCall.preserves, Cert.GradMemNormCall.algebraic,
    Cert.RmsMemCall.preserves, Cert.RmsMemCall.algebraic, Cert.RmsInCall.preserves, Cert.RmsInCall.algebraic,
    Cert.GdnPrepFwdCall.preserves, Cert.GdnPrepFwdCall.algebraic, Cert.RopeTablesCall.preserves,
    Cert.RopeTablesCall.algebraic, Cert.AdamwGdnConvCall.preserves, Cert.AdamwGdnConvCall.algebraic,
    Cert.AdamwWMemKvCall.preserves, Cert.AdamwWMemKvCall.algebraic, Cert.AdamwWOutCall.preserves,
    Cert.AdamwWOutCall.algebraic, Cert.GdnGateFwdCall.preserves, Cert.GdnGateFwdCall.algebraic⟩

end Cert.Proof

end
